-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OddDw (m : (ℓ : Loc Cert.OddDw.nD Cert.OddDw.τ Cert.OddDw.sig) → Buf (Elt Bits) ℓ) : Prop :=
  True

def Pre_OddDwIdeal (m : (ℓ : Loc Cert.OddDwIdeal.nD Cert.OddDwIdeal.τ Cert.OddDwIdeal.sig) → Buf (Elt Ideal) ℓ) : Prop :=
  True

def Pre_OddDwRefIdeal (m : (ℓ : Loc Cert.OddDwRefIdeal.nD Cert.OddDwRefIdeal.τ Cert.OddDwRefIdeal.sig) → Buf (Elt Ideal) ℓ) : Prop :=
  True

def Pre_OddDxFirst (m : (ℓ : Loc Cert.OddDxFirst.nD Cert.OddDxFirst.τ Cert.OddDxFirst.sig) → Buf (Elt Bits) ℓ) : Prop :=
  True

def Pre_OddDxFirstIdeal (m : (ℓ : Loc Cert.OddDxFirstIdeal.nD Cert.OddDxFirstIdeal.τ Cert.OddDxFirstIdeal.sig) → Buf (Elt Ideal) ℓ) : Prop :=
  True

def Pre_OddDxFirstRefIdeal (m : (ℓ : Loc Cert.OddDxFirstRefIdeal.nD Cert.OddDxFirstRefIdeal.τ Cert.OddDxFirstRefIdeal.sig) → Buf (Elt Ideal) ℓ) : Prop :=
  True

def Pre_OddDx (m : (ℓ : Loc Cert.OddDx.nD Cert.OddDx.τ Cert.OddDx.sig) → Buf (Elt Bits) ℓ) : Prop :=
  True

def Pre_OddDxIdeal (m : (ℓ : Loc Cert.OddDxIdeal.nD Cert.OddDxIdeal.τ Cert.OddDxIdeal.sig) → Buf (Elt Ideal) ℓ) : Prop :=
  True

def Pre_OddDxRefIdeal (m : (ℓ : Loc Cert.OddDxRefIdeal.nD Cert.OddDxRefIdeal.τ Cert.OddDxRefIdeal.sig) → Buf (Elt Ideal) ℓ) : Prop :=
  True

def Pre_OddOutDx (m : (ℓ : Loc Cert.OddOutDx.nD Cert.OddOutDx.τ Cert.OddOutDx.sig) → Buf (Elt Bits) ℓ) : Prop :=
  True

def Pre_OddOutDxIdeal (m : (ℓ : Loc Cert.OddOutDxIdeal.nD Cert.OddOutDxIdeal.τ Cert.OddOutDxIdeal.sig) → Buf (Elt Ideal) ℓ) : Prop :=
  True

def Pre_OddOutDxRefIdeal (m : (ℓ : Loc Cert.OddOutDxRefIdeal.nD Cert.OddOutDxRefIdeal.τ Cert.OddOutDxRefIdeal.sig) → Buf (Elt Ideal) ℓ) : Prop :=
  True

def Pre_OddOutDw (m : (ℓ : Loc Cert.OddOutDw.nD Cert.OddOutDw.τ Cert.OddOutDw.sig) → Buf (Elt Bits) ℓ) : Prop :=
  True

def Pre_OddOutDwIdeal (m : (ℓ : Loc Cert.OddOutDwIdeal.nD Cert.OddOutDwIdeal.τ Cert.OddOutDwIdeal.sig) → Buf (Elt Ideal) ℓ) : Prop :=
  True

def Pre_OddOutDwRefIdeal (m : (ℓ : Loc Cert.OddOutDwRefIdeal.nD Cert.OddOutDwRefIdeal.τ Cert.OddOutDwRefIdeal.sig) → Buf (Elt Ideal) ℓ) : Prop :=
  True

def Pre_EvenDwA (m : (ℓ : Loc Cert.EvenDwA.nD Cert.EvenDwA.τ Cert.EvenDwA.sig) → Buf (Elt Bits) ℓ) : Prop :=
  True

def Pre_EvenDwAIdeal (m : (ℓ : Loc Cert.EvenDwAIdeal.nD Cert.EvenDwAIdeal.τ Cert.EvenDwAIdeal.sig) → Buf (Elt Ideal) ℓ) : Prop :=
  True

def Pre_EvenDwARefIdeal (m : (ℓ : Loc Cert.EvenDwARefIdeal.nD Cert.EvenDwARefIdeal.τ Cert.EvenDwARefIdeal.sig) → Buf (Elt Ideal) ℓ) : Prop :=
  True

def Pre_EvenDw (m : (ℓ : Loc Cert.EvenDw.nD Cert.EvenDw.τ Cert.EvenDw.sig) → Buf (Elt Bits) ℓ) : Prop :=
  True

def Pre_EvenDwIdeal (m : (ℓ : Loc Cert.EvenDwIdeal.nD Cert.EvenDwIdeal.τ Cert.EvenDwIdeal.sig) → Buf (Elt Ideal) ℓ) : Prop :=
  True

def Pre_EvenDwRefIdeal (m : (ℓ : Loc Cert.EvenDwRefIdeal.nD Cert.EvenDwRefIdeal.τ Cert.EvenDwRefIdeal.sig) → Buf (Elt Ideal) ℓ) : Prop :=
  True

def Pre_EvenDwTail (m : (ℓ : Loc Cert.EvenDwTail.nD Cert.EvenDwTail.τ Cert.EvenDwTail.sig) → Buf (Elt Bits) ℓ) : Prop :=
  True

def Pre_EvenDwTailIdeal (m : (ℓ : Loc Cert.EvenDwTailIdeal.nD Cert.EvenDwTailIdeal.τ Cert.EvenDwTailIdeal.sig) → Buf (Elt Ideal) ℓ) : Prop :=
  True

def Pre_EvenDwTailRefIdeal (m : (ℓ : Loc Cert.EvenDwTailRefIdeal.nD Cert.EvenDwTailRefIdeal.τ Cert.EvenDwTailRefIdeal.sig) → Buf (Elt Ideal) ℓ) : Prop :=
  True

def Pre_EvenDxFirst (m : (ℓ : Loc Cert.EvenDxFirst.nD Cert.EvenDxFirst.τ Cert.EvenDxFirst.sig) → Buf (Elt Bits) ℓ) : Prop :=
  True

def Pre_EvenDxFirstIdeal (m : (ℓ : Loc Cert.EvenDxFirstIdeal.nD Cert.EvenDxFirstIdeal.τ Cert.EvenDxFirstIdeal.sig) → Buf (Elt Ideal) ℓ) : Prop :=
  True

def Pre_EvenDxFirstRefIdeal (m : (ℓ : Loc Cert.EvenDxFirstRefIdeal.nD Cert.EvenDxFirstRefIdeal.τ Cert.EvenDxFirstRefIdeal.sig) → Buf (Elt Ideal) ℓ) : Prop :=
  True

def Pre_EvenDx (m : (ℓ : Loc Cert.EvenDx.nD Cert.EvenDx.τ Cert.EvenDx.sig) → Buf (Elt Bits) ℓ) : Prop :=
  True

def Pre_EvenDxIdeal (m : (ℓ : Loc Cert.EvenDxIdeal.nD Cert.EvenDxIdeal.τ Cert.EvenDxIdeal.sig) → Buf (Elt Ideal) ℓ) : Prop :=
  True

def Pre_EvenDxRefIdeal (m : (ℓ : Loc Cert.EvenDxRefIdeal.nD Cert.EvenDxRefIdeal.τ Cert.EvenDxRefIdeal.sig) → Buf (Elt Ideal) ℓ) : Prop :=
  True

def Pre_EvenDxTail (m : (ℓ : Loc Cert.EvenDxTail.nD Cert.EvenDxTail.τ Cert.EvenDxTail.sig) → Buf (Elt Bits) ℓ) : Prop :=
  True

def Pre_EvenDxTailIdeal (m : (ℓ : Loc Cert.EvenDxTailIdeal.nD Cert.EvenDxTailIdeal.τ Cert.EvenDxTailIdeal.sig) → Buf (Elt Ideal) ℓ) : Prop :=
  True

def Pre_EvenDxTailRefIdeal (m : (ℓ : Loc Cert.EvenDxTailRefIdeal.nD Cert.EvenDxTailRefIdeal.τ Cert.EvenDxTailRefIdeal.sig) → Buf (Elt Ideal) ℓ) : Prop :=
  True

def Pre_EvenOutDx (m : (ℓ : Loc Cert.EvenOutDx.nD Cert.EvenOutDx.τ Cert.EvenOutDx.sig) → Buf (Elt Bits) ℓ) : Prop :=
  True

def Pre_EvenOutDxIdeal (m : (ℓ : Loc Cert.EvenOutDxIdeal.nD Cert.EvenOutDxIdeal.τ Cert.EvenOutDxIdeal.sig) → Buf (Elt Ideal) ℓ) : Prop :=
  True

def Pre_EvenOutDxRefIdeal (m : (ℓ : Loc Cert.EvenOutDxRefIdeal.nD Cert.EvenOutDxRefIdeal.τ Cert.EvenOutDxRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenInA (m : (ℓ : Loc Cert.EvenInA.nD Cert.EvenInA.τ Cert.EvenInA.sig) → Buf (Elt Bits) ℓ) : Prop :=
  True

def Pre_EvenInAIdeal (m : (ℓ : Loc Cert.EvenInAIdeal.nD Cert.EvenInAIdeal.τ Cert.EvenInAIdeal.sig) → Buf (Elt Ideal) ℓ) : Prop :=
  True

def Pre_EvenInARefIdeal (m : (ℓ : Loc Cert.EvenInARefIdeal.nD Cert.EvenInARefIdeal.τ Cert.EvenInARefIdeal.sig) → Buf (Elt Ideal) ℓ) : Prop :=
  True

def Pre_EvenInQkv (m : (ℓ : Loc Cert.EvenInQkv.nD Cert.EvenInQkv.τ Cert.EvenInQkv.sig) → Buf (Elt Bits) ℓ) : Prop :=
  True

def Pre_EvenInQkvIdeal (m : (ℓ : Loc Cert.EvenInQkvIdeal.nD Cert.EvenInQkvIdeal.τ Cert.EvenInQkvIdeal.sig) → Buf (Elt Ideal) ℓ) : Prop :=
  True

def Pre_EvenInQkvRefIdeal (m : (ℓ : Loc Cert.EvenInQkvRefIdeal.nD Cert.EvenInQkvRefIdeal.τ Cert.EvenInQkvRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenInTail (m : (ℓ : Loc Cert.EvenInTail.nD Cert.EvenInTail.τ Cert.EvenInTail.sig) → Buf (Elt Bits) ℓ) : Prop :=
  True

def Pre_EvenInTailIdeal (m : (ℓ : Loc Cert.EvenInTailIdeal.nD Cert.EvenInTailIdeal.τ Cert.EvenInTailIdeal.sig) → Buf (Elt Ideal) ℓ) : Prop :=
  True

def Pre_EvenInTailRefIdeal (m : (ℓ : Loc Cert.EvenInTailRefIdeal.nD Cert.EvenInTailRefIdeal.τ Cert.EvenInTailRefIdeal.sig) → Buf (Elt Ideal) ℓ) : Prop :=
  True

def Pre_EvenOutB (m : (ℓ : Loc Cert.EvenOutB.nD Cert.EvenOutB.τ Cert.EvenOutB.sig) → Buf (Elt Bits) ℓ) : Prop :=
  True

def Pre_EvenOutBIdeal (m : (ℓ : Loc Cert.EvenOutBIdeal.nD Cert.EvenOutBIdeal.τ Cert.EvenOutBIdeal.sig) → Buf (Elt Ideal) ℓ) : Prop :=
  True

def Pre_EvenOutBRefIdeal (m : (ℓ : Loc Cert.EvenOutBRefIdeal.nD Cert.EvenOutBRefIdeal.τ Cert.EvenOutBRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamInOdd (m : (ℓ : Loc Cert.AdamInOdd.nD Cert.AdamInOdd.τ Cert.AdamInOdd.sig) → Buf (Elt Bits) ℓ) : Prop :=
  True

def Pre_AdamInOddIdeal (m : (ℓ : Loc Cert.AdamInOddIdeal.nD Cert.AdamInOddIdeal.τ Cert.AdamInOddIdeal.sig) → Buf (Elt Ideal) ℓ) : Prop :=
  True

def Pre_AdamInOddRefIdeal (m : (ℓ : Loc Cert.AdamInOddRefIdeal.nD Cert.AdamInOddRefIdeal.τ Cert.AdamInOddRefIdeal.sig) → Buf (Elt Ideal) ℓ) : Prop :=
  True

def Pre_AdamPl (m : (ℓ : Loc Cert.AdamPl.nD Cert.AdamPl.τ Cert.AdamPl.sig) → Buf (Elt Bits) ℓ) : Prop :=
  True

def Pre_AdamPlIdeal (m : (ℓ : Loc Cert.AdamPlIdeal.nD Cert.AdamPlIdeal.τ Cert.AdamPlIdeal.sig) → Buf (Elt Ideal) ℓ) : Prop :=
  True

def Pre_AdamPlRefIdeal (m : (ℓ : Loc Cert.AdamPlRefIdeal.nD Cert.AdamPlRefIdeal.τ Cert.AdamPlRefIdeal.sig) → Buf (Elt Ideal) ℓ) : Prop :=
  True

def Pre_AdamPlGate (m : (ℓ : Loc Cert.AdamPlGate.nD Cert.AdamPlGate.τ Cert.AdamPlGate.sig) → Buf (Elt Bits) ℓ) : Prop :=
  True

def Pre_AdamPlGateIdeal (m : (ℓ : Loc Cert.AdamPlGateIdeal.nD Cert.AdamPlGateIdeal.τ Cert.AdamPlGateIdeal.sig) → Buf (Elt Ideal) ℓ) : Prop :=
  True

def Pre_AdamPlGateRefIdeal (m : (ℓ : Loc Cert.AdamPlGateRefIdeal.nD Cert.AdamPlGateRefIdeal.τ Cert.AdamPlGateRefIdeal.sig) → Buf (Elt Ideal) ℓ) : Prop :=
  True

def Pre_AdamInEven (m : (ℓ : Loc Cert.AdamInEven.nD Cert.AdamInEven.τ Cert.AdamInEven.sig) → Buf (Elt Bits) ℓ) : Prop :=
  True

def Pre_AdamInEvenIdeal (m : (ℓ : Loc Cert.AdamInEvenIdeal.nD Cert.AdamInEvenIdeal.τ Cert.AdamInEvenIdeal.sig) → Buf (Elt Ideal) ℓ) : Prop :=
  True

def Pre_AdamInEvenRefIdeal (m : (ℓ : Loc Cert.AdamInEvenRefIdeal.nD Cert.AdamInEvenRefIdeal.τ Cert.AdamInEvenRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_ConvBwdQ (m : (ℓ : Loc Cert.ConvBwdQ.nD Cert.ConvBwdQ.τ Cert.ConvBwdQ.sig) → Buf (Elt Bits) ℓ) : Prop :=
  True

def Pre_ConvBwdQIdeal (m : (ℓ : Loc Cert.ConvBwdQIdeal.nD Cert.ConvBwdQIdeal.τ Cert.ConvBwdQIdeal.sig) → Buf (Elt Ideal) ℓ) : Prop :=
  True

def Pre_ConvBwdQRefIdeal (m : (ℓ : Loc Cert.ConvBwdQRefIdeal.nD Cert.ConvBwdQRefIdeal.τ Cert.ConvBwdQRefIdeal.sig) → Buf (Elt Ideal) ℓ) : Prop :=
  True

def Pre_ConvBwdK (m : (ℓ : Loc Cert.ConvBwdK.nD Cert.ConvBwdK.τ Cert.ConvBwdK.sig) → Buf (Elt Bits) ℓ) : Prop :=
  True

def Pre_ConvBwdKIdeal (m : (ℓ : Loc Cert.ConvBwdKIdeal.nD Cert.ConvBwdKIdeal.τ Cert.ConvBwdKIdeal.sig) → Buf (Elt Ideal) ℓ) : Prop :=
  True

def Pre_ConvBwdKRefIdeal (m : (ℓ : Loc Cert.ConvBwdKRefIdeal.nD Cert.ConvBwdKRefIdeal.τ Cert.ConvBwdKRefIdeal.sig) → Buf (Elt Ideal) ℓ) : Prop :=
  True

def Pre_ConvBwdV (m : (ℓ : Loc Cert.ConvBwdV.nD Cert.ConvBwdV.τ Cert.ConvBwdV.sig) → Buf (Elt Bits) ℓ) : Prop :=
  True

def Pre_ConvBwdVIdeal (m : (ℓ : Loc Cert.ConvBwdVIdeal.nD Cert.ConvBwdVIdeal.τ Cert.ConvBwdVIdeal.sig) → Buf (Elt Ideal) ℓ) : Prop :=
  True

def Pre_ConvBwdVRefIdeal (m : (ℓ : Loc Cert.ConvBwdVRefIdeal.nD Cert.ConvBwdVRefIdeal.τ Cert.ConvBwdVRefIdeal.sig) → Buf (Elt Ideal) ℓ) : Prop :=
  True

def Pre_LnplFwd (m : (ℓ : Loc Cert.LnplFwd.nD Cert.LnplFwd.τ Cert.LnplFwd.sig) → Buf (Elt Bits) ℓ) : Prop :=
  True

def Pre_LnplFwdIdeal (m : (ℓ : Loc Cert.LnplFwdIdeal.nD Cert.LnplFwdIdeal.τ Cert.LnplFwdIdeal.sig) → Buf (Elt Ideal) ℓ) : Prop :=
  True

def Pre_LnplFwdRefIdeal (m : (ℓ : Loc Cert.LnplFwdRefIdeal.nD Cert.LnplFwdRefIdeal.τ Cert.LnplFwdRefIdeal.sig) → Buf (Elt Ideal) ℓ) : Prop :=
  True

def Pre_ConvAFwd (m : (ℓ : Loc Cert.ConvAFwd.nD Cert.ConvAFwd.τ Cert.ConvAFwd.sig) → Buf (Elt Bits) ℓ) : Prop :=
  True

def Pre_ConvAFwdIdeal (m : (ℓ : Loc Cert.ConvAFwdIdeal.nD Cert.ConvAFwdIdeal.τ Cert.ConvAFwdIdeal.sig) → Buf (Elt Ideal) ℓ) : Prop :=
  True

def Pre_ConvAFwdRefIdeal (m : (ℓ : Loc Cert.ConvAFwdRefIdeal.nD Cert.ConvAFwdRefIdeal.τ Cert.ConvAFwdRefIdeal.sig) → Buf (Elt Ideal) ℓ) : Prop :=
  True

def Pre_ConvBFwd (m : (ℓ : Loc Cert.ConvBFwd.nD Cert.ConvBFwd.τ Cert.ConvBFwd.sig) → Buf (Elt Bits) ℓ) : Prop :=
  True

def Pre_ConvBFwdIdeal (m : (ℓ : Loc Cert.ConvBFwdIdeal.nD Cert.ConvBFwdIdeal.τ Cert.ConvBFwdIdeal.sig) → Buf (Elt Ideal) ℓ) : Prop :=
  True

def Pre_ConvBFwdRefIdeal (m : (ℓ : Loc Cert.ConvBFwdRefIdeal.nD Cert.ConvBFwdRefIdeal.τ Cert.ConvBFwdRefIdeal.sig) → Buf (Elt Ideal) ℓ) : Prop :=
  True

def Pre_ConvABwd (m : (ℓ : Loc Cert.ConvABwd.nD Cert.ConvABwd.τ Cert.ConvABwd.sig) → Buf (Elt Bits) ℓ) : Prop :=
  True

def Pre_ConvABwdIdeal (m : (ℓ : Loc Cert.ConvABwdIdeal.nD Cert.ConvABwdIdeal.τ Cert.ConvABwdIdeal.sig) → Buf (Elt Ideal) ℓ) : Prop :=
  True

def Pre_ConvABwdRefIdeal (m : (ℓ : Loc Cert.ConvABwdRefIdeal.nD Cert.ConvABwdRefIdeal.τ Cert.ConvABwdRefIdeal.sig) → Buf (Elt Ideal) ℓ) : Prop :=
  True

def Pre_EvenLnpl (m : (ℓ : Loc Cert.EvenLnpl.nD Cert.EvenLnpl.τ Cert.EvenLnpl.sig) → Buf (Elt Bits) ℓ) : Prop :=
  True

def Pre_EvenLnplIdeal (m : (ℓ : Loc Cert.EvenLnplIdeal.nD Cert.EvenLnplIdeal.τ Cert.EvenLnplIdeal.sig) → Buf (Elt Ideal) ℓ) : Prop :=
  True

def Pre_EvenLnplRefIdeal (m : (ℓ : Loc Cert.EvenLnplRefIdeal.nD Cert.EvenLnplRefIdeal.τ Cert.EvenLnplRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_OddDw [hOddDw : Cert.OddDw.Facts] : Prop :=
  ∀ (m : (ℓ : Loc Cert.OddDw.nD Cert.OddDw.τ Cert.OddDw.sig) → Buf (Elt Bits) ℓ) (g : Dev Cert.OddDw.nD → PrngReg), Pre_OddDw m →
    θ_run (Cert.OddDw.defs (F := Bits)) (onTc (τ := Cert.OddDw.τ) (Cert.OddDw.main (F := Bits))) ⟨m, fun _ => 0, g⟩ (fun r => (∀ c : Dev Cert.OddDw.nD,
      r.2.mem ((c.tc : Thread Cert.OddDw.nD Cert.OddDw.τ).loc Cert.OddDw.main_arg0) = m ((c.tc : Thread Cert.OddDw.nD Cert.OddDw.τ).loc Cert.OddDw.main_arg0)
      ∧ r.2.mem ((c.tc : Thread Cert.OddDw.nD Cert.OddDw.τ).loc Cert.OddDw.main_arg1) = m ((c.tc : Thread Cert.OddDw.nD Cert.OddDw.τ).loc Cert.OddDw.main_arg1))
      ∧ r.2.sem = fun _ => 0)

def quiescent_OddDwIdeal [hOddDwIdeal : Cert.OddDwIdeal.Facts] : Prop :=
  ∀ (m : (ℓ : Loc Cert.OddDwIdeal.nD Cert.OddDwIdeal.τ Cert.OddDwIdeal.sig) → Buf (Elt Ideal) ℓ) (g : Dev Cert.OddDwIdeal.nD → PrngReg), Pre_OddDwIdeal m →
    θ_run (Cert.OddDwIdeal.defs (F := Ideal)) (onTc (τ := Cert.OddDwIdeal.τ) (Cert.OddDwIdeal.main (F := Ideal))) ⟨m, fun _ => 0, g⟩ (fun r => (∀ c : Dev Cert.OddDwIdeal.nD,
      r.2.mem ((c.tc : Thread Cert.OddDwIdeal.nD Cert.OddDwIdeal.τ).loc Cert.OddDwIdeal.main_arg0) = m ((c.tc : Thread Cert.OddDwIdeal.nD Cert.OddDwIdeal.τ).loc Cert.OddDwIdeal.main_arg0)
      ∧ r.2.mem ((c.tc : Thread Cert.OddDwIdeal.nD Cert.OddDwIdeal.τ).loc Cert.OddDwIdeal.main_arg1) = m ((c.tc : Thread Cert.OddDwIdeal.nD Cert.OddDwIdeal.τ).loc Cert.OddDwIdeal.main_arg1))
      ∧ r.2.sem = fun _ => 0)

def quiescent_OddDwRefIdeal [hOddDwRefIdeal : Cert.OddDwRefIdeal.Facts] : Prop :=
  ∀ (m : (ℓ : Loc Cert.OddDwRefIdeal.nD Cert.OddDwRefIdeal.τ Cert.OddDwRefIdeal.sig) → Buf (Elt Ideal) ℓ) (g : Dev Cert.OddDwRefIdeal.nD → PrngReg), Pre_OddDwRefIdeal m →
    θ_run (Cert.OddDwRefIdeal.defs (F := Ideal)) (onTc (τ := Cert.OddDwRefIdeal.τ) (Cert.OddDwRefIdeal.main (F := Ideal))) ⟨m, fun _ => 0, g⟩ (fun r => (∀ c : Dev Cert.OddDwRefIdeal.nD,
      r.2.mem ((c.tc : Thread Cert.OddDwRefIdeal.nD Cert.OddDwRefIdeal.τ).loc Cert.OddDwRefIdeal.main_arg0) = m ((c.tc : Thread Cert.OddDwRefIdeal.nD Cert.OddDwRefIdeal.τ).loc Cert.OddDwRefIdeal.main_arg0)
      ∧ r.2.mem ((c.tc : Thread Cert.OddDwRefIdeal.nD Cert.OddDwRefIdeal.τ).loc Cert.OddDwRefIdeal.main_arg1) = m ((c.tc : Thread Cert.OddDwRefIdeal.nD Cert.OddDwRefIdeal.τ).loc Cert.OddDwRefIdeal.main_arg1))
      ∧ r.2.sem = fun _ => 0)

def quiescent_OddDxFirst [hOddDxFirst : Cert.OddDxFirst.Facts] : Prop :=
  ∀ (m : (ℓ : Loc Cert.OddDxFirst.nD Cert.OddDxFirst.τ Cert.OddDxFirst.sig) → Buf (Elt Bits) ℓ) (g : Dev Cert.OddDxFirst.nD → PrngReg), Pre_OddDxFirst m →
    θ_run (Cert.OddDxFirst.defs (F := Bits)) (onTc (τ := Cert.OddDxFirst.τ) (Cert.OddDxFirst.main (F := Bits))) ⟨m, fun _ => 0, g⟩ (fun r => (∀ c : Dev Cert.OddDxFirst.nD,
      r.2.mem ((c.tc : Thread Cert.OddDxFirst.nD Cert.OddDxFirst.τ).loc Cert.OddDxFirst.main_arg0) = m ((c.tc : Thread Cert.OddDxFirst.nD Cert.OddDxFirst.τ).loc Cert.OddDxFirst.main_arg0)
      ∧ r.2.mem ((c.tc : Thread Cert.OddDxFirst.nD Cert.OddDxFirst.τ).loc Cert.OddDxFirst.main_arg1) = m ((c.tc : Thread Cert.OddDxFirst.nD Cert.OddDxFirst.τ).loc Cert.OddDxFirst.main_arg1)
      ∧ r.2.mem ((c.tc : Thread Cert.OddDxFirst.nD Cert.OddDxFirst.τ).loc Cert.OddDxFirst.main_arg2) = m ((c.tc : Thread Cert.OddDxFirst.nD Cert.OddDxFirst.τ).loc Cert.OddDxFirst.main_arg2))
      ∧ r.2.sem = fun _ => 0)

def quiescent_OddDxFirstIdeal [hOddDxFirstIdeal : Cert.OddDxFirstIdeal.Facts] : Prop :=
  ∀ (m : (ℓ : Loc Cert.OddDxFirstIdeal.nD Cert.OddDxFirstIdeal.τ Cert.OddDxFirstIdeal.sig) → Buf (Elt Ideal) ℓ) (g : Dev Cert.OddDxFirstIdeal.nD → PrngReg), Pre_OddDxFirstIdeal m →
    θ_run (Cert.OddDxFirstIdeal.defs (F := Ideal)) (onTc (τ := Cert.OddDxFirstIdeal.τ) (Cert.OddDxFirstIdeal.main (F := Ideal))) ⟨m, fun _ => 0, g⟩ (fun r => (∀ c : Dev Cert.OddDxFirstIdeal.nD,
      r.2.mem ((c.tc : Thread Cert.OddDxFirstIdeal.nD Cert.OddDxFirstIdeal.τ).loc Cert.OddDxFirstIdeal.main_arg0) = m ((c.tc : Thread Cert.OddDxFirstIdeal.nD Cert.OddDxFirstIdeal.τ).loc Cert.OddDxFirstIdeal.main_arg0)
      ∧ r.2.mem ((c.tc : Thread Cert.OddDxFirstIdeal.nD Cert.OddDxFirstIdeal.τ).loc Cert.OddDxFirstIdeal.main_arg1) = m ((c.tc : Thread Cert.OddDxFirstIdeal.nD Cert.OddDxFirstIdeal.τ).loc Cert.OddDxFirstIdeal.main_arg1)
      ∧ r.2.mem ((c.tc : Thread Cert.OddDxFirstIdeal.nD Cert.OddDxFirstIdeal.τ).loc Cert.OddDxFirstIdeal.main_arg2) = m ((c.tc : Thread Cert.OddDxFirstIdeal.nD Cert.OddDxFirstIdeal.τ).loc Cert.OddDxFirstIdeal.main_arg2))
      ∧ r.2.sem = fun _ => 0)

def quiescent_OddDxFirstRefIdeal [hOddDxFirstRefIdeal : Cert.OddDxFirstRefIdeal.Facts] : Prop :=
  ∀ (m : (ℓ : Loc Cert.OddDxFirstRefIdeal.nD Cert.OddDxFirstRefIdeal.τ Cert.OddDxFirstRefIdeal.sig) → Buf (Elt Ideal) ℓ) (g : Dev Cert.OddDxFirstRefIdeal.nD → PrngReg), Pre_OddDxFirstRefIdeal m →
    θ_run (Cert.OddDxFirstRefIdeal.defs (F := Ideal)) (onTc (τ := Cert.OddDxFirstRefIdeal.τ) (Cert.OddDxFirstRefIdeal.main (F := Ideal))) ⟨m, fun _ => 0, g⟩ (fun r => (∀ c : Dev Cert.OddDxFirstRefIdeal.nD,
      r.2.mem ((c.tc : Thread Cert.OddDxFirstRefIdeal.nD Cert.OddDxFirstRefIdeal.τ).loc Cert.OddDxFirstRefIdeal.main_arg0) = m ((c.tc : Thread Cert.OddDxFirstRefIdeal.nD Cert.OddDxFirstRefIdeal.τ).loc Cert.OddDxFirstRefIdeal.main_arg0)
      ∧ r.2.mem ((c.tc : Thread Cert.OddDxFirstRefIdeal.nD Cert.OddDxFirstRefIdeal.τ).loc Cert.OddDxFirstRefIdeal.main_arg1) = m ((c.tc : Thread Cert.OddDxFirstRefIdeal.nD Cert.OddDxFirstRefIdeal.τ).loc Cert.OddDxFirstRefIdeal.main_arg1)
      ∧ r.2.mem ((c.tc : Thread Cert.OddDxFirstRefIdeal.nD Cert.OddDxFirstRefIdeal.τ).loc Cert.OddDxFirstRefIdeal.main_arg2) = m ((c.tc : Thread Cert.OddDxFirstRefIdeal.nD Cert.OddDxFirstRefIdeal.τ).loc Cert.OddDxFirstRefIdeal.main_arg2))
      ∧ r.2.sem = fun _ => 0)

def quiescent_OddDx [hOddDx : Cert.OddDx.Facts] : Prop :=
  ∀ (m : (ℓ : Loc Cert.OddDx.nD Cert.OddDx.τ Cert.OddDx.sig) → Buf (Elt Bits) ℓ) (g : Dev Cert.OddDx.nD → PrngReg), Pre_OddDx m →
    θ_run (Cert.OddDx.defs (F := Bits)) (onTc (τ := Cert.OddDx.τ) (Cert.OddDx.main (F := Bits))) ⟨m, fun _ => 0, g⟩ (fun r => (∀ c : Dev Cert.OddDx.nD,
      r.2.mem ((c.tc : Thread Cert.OddDx.nD Cert.OddDx.τ).loc Cert.OddDx.main_arg0) = m ((c.tc : Thread Cert.OddDx.nD Cert.OddDx.τ).loc Cert.OddDx.main_arg0)
      ∧ r.2.mem ((c.tc : Thread Cert.OddDx.nD Cert.OddDx.τ).loc Cert.OddDx.main_arg1) = m ((c.tc : Thread Cert.OddDx.nD Cert.OddDx.τ).loc Cert.OddDx.main_arg1)
      ∧ r.2.mem ((c.tc : Thread Cert.OddDx.nD Cert.OddDx.τ).loc Cert.OddDx.main_arg2) = m ((c.tc : Thread Cert.OddDx.nD Cert.OddDx.τ).loc Cert.OddDx.main_arg2))
      ∧ r.2.sem = fun _ => 0)

def quiescent_OddDxIdeal [hOddDxIdeal : Cert.OddDxIdeal.Facts] : Prop :=
  ∀ (m : (ℓ : Loc Cert.OddDxIdeal.nD Cert.OddDxIdeal.τ Cert.OddDxIdeal.sig) → Buf (Elt Ideal) ℓ) (g : Dev Cert.OddDxIdeal.nD → PrngReg), Pre_OddDxIdeal m →
    θ_run (Cert.OddDxIdeal.defs (F := Ideal)) (onTc (τ := Cert.OddDxIdeal.τ) (Cert.OddDxIdeal.main (F := Ideal))) ⟨m, fun _ => 0, g⟩ (fun r => (∀ c : Dev Cert.OddDxIdeal.nD,
      r.2.mem ((c.tc : Thread Cert.OddDxIdeal.nD Cert.OddDxIdeal.τ).loc Cert.OddDxIdeal.main_arg0) = m ((c.tc : Thread Cert.OddDxIdeal.nD Cert.OddDxIdeal.τ).loc Cert.OddDxIdeal.main_arg0)
      ∧ r.2.mem ((c.tc : Thread Cert.OddDxIdeal.nD Cert.OddDxIdeal.τ).loc Cert.OddDxIdeal.main_arg1) = m ((c.tc : Thread Cert.OddDxIdeal.nD Cert.OddDxIdeal.τ).loc Cert.OddDxIdeal.main_arg1)
      ∧ r.2.mem ((c.tc : Thread Cert.OddDxIdeal.nD Cert.OddDxIdeal.τ).loc Cert.OddDxIdeal.main_arg2) = m ((c.tc : Thread Cert.OddDxIdeal.nD Cert.OddDxIdeal.τ).loc Cert.OddDxIdeal.main_arg2))
      ∧ r.2.sem = fun _ => 0)

def quiescent_OddDxRefIdeal [hOddDxRefIdeal : Cert.OddDxRefIdeal.Facts] : Prop :=
  ∀ (m : (ℓ : Loc Cert.OddDxRefIdeal.nD Cert.OddDxRefIdeal.τ Cert.OddDxRefIdeal.sig) → Buf (Elt Ideal) ℓ) (g : Dev Cert.OddDxRefIdeal.nD → PrngReg), Pre_OddDxRefIdeal m →
    θ_run (Cert.OddDxRefIdeal.defs (F := Ideal)) (onTc (τ := Cert.OddDxRefIdeal.τ) (Cert.OddDxRefIdeal.main (F := Ideal))) ⟨m, fun _ => 0, g⟩ (fun r => (∀ c : Dev Cert.OddDxRefIdeal.nD,
      r.2.mem ((c.tc : Thread Cert.OddDxRefIdeal.nD Cert.OddDxRefIdeal.τ).loc Cert.OddDxRefIdeal.main_arg0) = m ((c.tc : Thread Cert.OddDxRefIdeal.nD Cert.OddDxRefIdeal.τ).loc Cert.OddDxRefIdeal.main_arg0)
      ∧ r.2.mem ((c.tc : Thread Cert.OddDxRefIdeal.nD Cert.OddDxRefIdeal.τ).loc Cert.OddDxRefIdeal.main_arg1) = m ((c.tc : Thread Cert.OddDxRefIdeal.nD Cert.OddDxRefIdeal.τ).loc Cert.OddDxRefIdeal.main_arg1)
      ∧ r.2.mem ((c.tc : Thread Cert.OddDxRefIdeal.nD Cert.OddDxRefIdeal.τ).loc Cert.OddDxRefIdeal.main_arg2) = m ((c.tc : Thread Cert.OddDxRefIdeal.nD Cert.OddDxRefIdeal.τ).loc Cert.OddDxRefIdeal.main_arg2))
      ∧ r.2.sem = fun _ => 0)

def quiescent_OddOutDx [hOddOutDx : Cert.OddOutDx.Facts] : Prop :=
  ∀ (m : (ℓ : Loc Cert.OddOutDx.nD Cert.OddOutDx.τ Cert.OddOutDx.sig) → Buf (Elt Bits) ℓ) (g : Dev Cert.OddOutDx.nD → PrngReg), Pre_OddOutDx m →
    θ_run (Cert.OddOutDx.defs (F := Bits)) (onTc (τ := Cert.OddOutDx.τ) (Cert.OddOutDx.main (F := Bits))) ⟨m, fun _ => 0, g⟩ (fun r => (∀ c : Dev Cert.OddOutDx.nD,
      r.2.mem ((c.tc : Thread Cert.OddOutDx.nD Cert.OddOutDx.τ).loc Cert.OddOutDx.main_arg0) = m ((c.tc : Thread Cert.OddOutDx.nD Cert.OddOutDx.τ).loc Cert.OddOutDx.main_arg0)
      ∧ r.2.mem ((c.tc : Thread Cert.OddOutDx.nD Cert.OddOutDx.τ).loc Cert.OddOutDx.main_arg1) = m ((c.tc : Thread Cert.OddOutDx.nD Cert.OddOutDx.τ).loc Cert.OddOutDx.main_arg1))
      ∧ r.2.sem = fun _ => 0)

def quiescent_OddOutDxIdeal [hOddOutDxIdeal : Cert.OddOutDxIdeal.Facts] : Prop :=
  ∀ (m : (ℓ : Loc Cert.OddOutDxIdeal.nD Cert.OddOutDxIdeal.τ Cert.OddOutDxIdeal.sig) → Buf (Elt Ideal) ℓ) (g : Dev Cert.OddOutDxIdeal.nD → PrngReg), Pre_OddOutDxIdeal m →
    θ_run (Cert.OddOutDxIdeal.defs (F := Ideal)) (onTc (τ := Cert.OddOutDxIdeal.τ) (Cert.OddOutDxIdeal.main (F := Ideal))) ⟨m, fun _ => 0, g⟩ (fun r => (∀ c : Dev Cert.OddOutDxIdeal.nD,
      r.2.mem ((c.tc : Thread Cert.OddOutDxIdeal.nD Cert.OddOutDxIdeal.τ).loc Cert.OddOutDxIdeal.main_arg0) = m ((c.tc : Thread Cert.OddOutDxIdeal.nD Cert.OddOutDxIdeal.τ).loc Cert.OddOutDxIdeal.main_arg0)
      ∧ r.2.mem ((c.tc : Thread Cert.OddOutDxIdeal.nD Cert.OddOutDxIdeal.τ).loc Cert.OddOutDxIdeal.main_arg1) = m ((c.tc : Thread Cert.OddOutDxIdeal.nD Cert.OddOutDxIdeal.τ).loc Cert.OddOutDxIdeal.main_arg1))
      ∧ r.2.sem = fun _ => 0)

def quiescent_OddOutDxRefIdeal [hOddOutDxRefIdeal : Cert.OddOutDxRefIdeal.Facts] : Prop :=
  ∀ (m : (ℓ : Loc Cert.OddOutDxRefIdeal.nD Cert.OddOutDxRefIdeal.τ Cert.OddOutDxRefIdeal.sig) → Buf (Elt Ideal) ℓ) (g : Dev Cert.OddOutDxRefIdeal.nD → PrngReg), Pre_OddOutDxRefIdeal m →
    θ_run (Cert.OddOutDxRefIdeal.defs (F := Ideal)) (onTc (τ := Cert.OddOutDxRefIdeal.τ) (Cert.OddOutDxRefIdeal.main (F := Ideal))) ⟨m, fun _ => 0, g⟩ (fun r => (∀ c : Dev Cert.OddOutDxRefIdeal.nD,
      r.2.mem ((c.tc : Thread Cert.OddOutDxRefIdeal.nD Cert.OddOutDxRefIdeal.τ).loc Cert.OddOutDxRefIdeal.main_arg0) = m ((c.tc : Thread Cert.OddOutDxRefIdeal.nD Cert.OddOutDxRefIdeal.τ).loc Cert.OddOutDxRefIdeal.main_arg0)
      ∧ r.2.mem ((c.tc : Thread Cert.OddOutDxRefIdeal.nD Cert.OddOutDxRefIdeal.τ).loc Cert.OddOutDxRefIdeal.main_arg1) = m ((c.tc : Thread Cert.OddOutDxRefIdeal.nD Cert.OddOutDxRefIdeal.τ).loc Cert.OddOutDxRefIdeal.main_arg1))
      ∧ r.2.sem = fun _ => 0)

def quiescent_OddOutDw [hOddOutDw : Cert.OddOutDw.Facts] : Prop :=
  ∀ (m : (ℓ : Loc Cert.OddOutDw.nD Cert.OddOutDw.τ Cert.OddOutDw.sig) → Buf (Elt Bits) ℓ) (g : Dev Cert.OddOutDw.nD → PrngReg), Pre_OddOutDw m →
    θ_run (Cert.OddOutDw.defs (F := Bits)) (onTc (τ := Cert.OddOutDw.τ) (Cert.OddOutDw.main (F := Bits))) ⟨m, fun _ => 0, g⟩ (fun r => (∀ c : Dev Cert.OddOutDw.nD,
      r.2.mem ((c.tc : Thread Cert.OddOutDw.nD Cert.OddOutDw.τ).loc Cert.OddOutDw.main_arg0) = m ((c.tc : Thread Cert.OddOutDw.nD Cert.OddOutDw.τ).loc Cert.OddOutDw.main_arg0)
      ∧ r.2.mem ((c.tc : Thread Cert.OddOutDw.nD Cert.OddOutDw.τ).loc Cert.OddOutDw.main_arg1) = m ((c.tc : Thread Cert.OddOutDw.nD Cert.OddOutDw.τ).loc Cert.OddOutDw.main_arg1))
      ∧ r.2.sem = fun _ => 0)

def quiescent_OddOutDwIdeal [hOddOutDwIdeal : Cert.OddOutDwIdeal.Facts] : Prop :=
  ∀ (m : (ℓ : Loc Cert.OddOutDwIdeal.nD Cert.OddOutDwIdeal.τ Cert.OddOutDwIdeal.sig) → Buf (Elt Ideal) ℓ) (g : Dev Cert.OddOutDwIdeal.nD → PrngReg), Pre_OddOutDwIdeal m →
    θ_run (Cert.OddOutDwIdeal.defs (F := Ideal)) (onTc (τ := Cert.OddOutDwIdeal.τ) (Cert.OddOutDwIdeal.main (F := Ideal))) ⟨m, fun _ => 0, g⟩ (fun r => (∀ c : Dev Cert.OddOutDwIdeal.nD,
      r.2.mem ((c.tc : Thread Cert.OddOutDwIdeal.nD Cert.OddOutDwIdeal.τ).loc Cert.OddOutDwIdeal.main_arg0) = m ((c.tc : Thread Cert.OddOutDwIdeal.nD Cert.OddOutDwIdeal.τ).loc Cert.OddOutDwIdeal.main_arg0)
      ∧ r.2.mem ((c.tc : Thread Cert.OddOutDwIdeal.nD Cert.OddOutDwIdeal.τ).loc Cert.OddOutDwIdeal.main_arg1) = m ((c.tc : Thread Cert.OddOutDwIdeal.nD Cert.OddOutDwIdeal.τ).loc Cert.OddOutDwIdeal.main_arg1))
      ∧ r.2.sem = fun _ => 0)

def quiescent_OddOutDwRefIdeal [hOddOutDwRefIdeal : Cert.OddOutDwRefIdeal.Facts] : Prop :=
  ∀ (m : (ℓ : Loc Cert.OddOutDwRefIdeal.nD Cert.OddOutDwRefIdeal.τ Cert.OddOutDwRefIdeal.sig) → Buf (Elt Ideal) ℓ) (g : Dev Cert.OddOutDwRefIdeal.nD → PrngReg), Pre_OddOutDwRefIdeal m →
    θ_run (Cert.OddOutDwRefIdeal.defs (F := Ideal)) (onTc (τ := Cert.OddOutDwRefIdeal.τ) (Cert.OddOutDwRefIdeal.main (F := Ideal))) ⟨m, fun _ => 0, g⟩ (fun r => (∀ c : Dev Cert.OddOutDwRefIdeal.nD,
      r.2.mem ((c.tc : Thread Cert.OddOutDwRefIdeal.nD Cert.OddOutDwRefIdeal.τ).loc Cert.OddOutDwRefIdeal.main_arg0) = m ((c.tc : Thread Cert.OddOutDwRefIdeal.nD Cert.OddOutDwRefIdeal.τ).loc Cert.OddOutDwRefIdeal.main_arg0)
      ∧ r.2.mem ((c.tc : Thread Cert.OddOutDwRefIdeal.nD Cert.OddOutDwRefIdeal.τ).loc Cert.OddOutDwRefIdeal.main_arg1) = m ((c.tc : Thread Cert.OddOutDwRefIdeal.nD Cert.OddOutDwRefIdeal.τ).loc Cert.OddOutDwRefIdeal.main_arg1))
      ∧ r.2.sem = fun _ => 0)

def quiescent_EvenDwA [hEvenDwA : Cert.EvenDwA.Facts] : Prop :=
  ∀ (m : (ℓ : Loc Cert.EvenDwA.nD Cert.EvenDwA.τ Cert.EvenDwA.sig) → Buf (Elt Bits) ℓ) (g : Dev Cert.EvenDwA.nD → PrngReg), Pre_EvenDwA m →
    θ_run (Cert.EvenDwA.defs (F := Bits)) (onTc (τ := Cert.EvenDwA.τ) (Cert.EvenDwA.main (F := Bits))) ⟨m, fun _ => 0, g⟩ (fun r => (∀ c : Dev Cert.EvenDwA.nD,
      r.2.mem ((c.tc : Thread Cert.EvenDwA.nD Cert.EvenDwA.τ).loc Cert.EvenDwA.main_arg0) = m ((c.tc : Thread Cert.EvenDwA.nD Cert.EvenDwA.τ).loc Cert.EvenDwA.main_arg0)
      ∧ r.2.mem ((c.tc : Thread Cert.EvenDwA.nD Cert.EvenDwA.τ).loc Cert.EvenDwA.main_arg1) = m ((c.tc : Thread Cert.EvenDwA.nD Cert.EvenDwA.τ).loc Cert.EvenDwA.main_arg1))
      ∧ r.2.sem = fun _ => 0)

def quiescent_EvenDwAIdeal [hEvenDwAIdeal : Cert.EvenDwAIdeal.Facts] : Prop :=
  ∀ (m : (ℓ : Loc Cert.EvenDwAIdeal.nD Cert.EvenDwAIdeal.τ Cert.EvenDwAIdeal.sig) → Buf (Elt Ideal) ℓ) (g : Dev Cert.EvenDwAIdeal.nD → PrngReg), Pre_EvenDwAIdeal m →
    θ_run (Cert.EvenDwAIdeal.defs (F := Ideal)) (onTc (τ := Cert.EvenDwAIdeal.τ) (Cert.EvenDwAIdeal.main (F := Ideal))) ⟨m, fun _ => 0, g⟩ (fun r => (∀ c : Dev Cert.EvenDwAIdeal.nD,
      r.2.mem ((c.tc : Thread Cert.EvenDwAIdeal.nD Cert.EvenDwAIdeal.τ).loc Cert.EvenDwAIdeal.main_arg0) = m ((c.tc : Thread Cert.EvenDwAIdeal.nD Cert.EvenDwAIdeal.τ).loc Cert.EvenDwAIdeal.main_arg0)
      ∧ r.2.mem ((c.tc : Thread Cert.EvenDwAIdeal.nD Cert.EvenDwAIdeal.τ).loc Cert.EvenDwAIdeal.main_arg1) = m ((c.tc : Thread Cert.EvenDwAIdeal.nD Cert.EvenDwAIdeal.τ).loc Cert.EvenDwAIdeal.main_arg1))
      ∧ r.2.sem = fun _ => 0)

def quiescent_EvenDwARefIdeal [hEvenDwARefIdeal : Cert.EvenDwARefIdeal.Facts] : Prop :=
  ∀ (m : (ℓ : Loc Cert.EvenDwARefIdeal.nD Cert.EvenDwARefIdeal.τ Cert.EvenDwARefIdeal.sig) → Buf (Elt Ideal) ℓ) (g : Dev Cert.EvenDwARefIdeal.nD → PrngReg), Pre_EvenDwARefIdeal m →
    θ_run (Cert.EvenDwARefIdeal.defs (F := Ideal)) (onTc (τ := Cert.EvenDwARefIdeal.τ) (Cert.EvenDwARefIdeal.main (F := Ideal))) ⟨m, fun _ => 0, g⟩ (fun r => (∀ c : Dev Cert.EvenDwARefIdeal.nD,
      r.2.mem ((c.tc : Thread Cert.EvenDwARefIdeal.nD Cert.EvenDwARefIdeal.τ).loc Cert.EvenDwARefIdeal.main_arg0) = m ((c.tc : Thread Cert.EvenDwARefIdeal.nD Cert.EvenDwARefIdeal.τ).loc Cert.EvenDwARefIdeal.main_arg0)
      ∧ r.2.mem ((c.tc : Thread Cert.EvenDwARefIdeal.nD Cert.EvenDwARefIdeal.τ).loc Cert.EvenDwARefIdeal.main_arg1) = m ((c.tc : Thread Cert.EvenDwARefIdeal.nD Cert.EvenDwARefIdeal.τ).loc Cert.EvenDwARefIdeal.main_arg1))
      ∧ r.2.sem = fun _ => 0)

def quiescent_EvenDw [hEvenDw : Cert.EvenDw.Facts] : Prop :=
  ∀ (m : (ℓ : Loc Cert.EvenDw.nD Cert.EvenDw.τ Cert.EvenDw.sig) → Buf (Elt Bits) ℓ) (g : Dev Cert.EvenDw.nD → PrngReg), Pre_EvenDw m →
    θ_run (Cert.EvenDw.defs (F := Bits)) (onTc (τ := Cert.EvenDw.τ) (Cert.EvenDw.main (F := Bits))) ⟨m, fun _ => 0, g⟩ (fun r => (∀ c : Dev Cert.EvenDw.nD,
      r.2.mem ((c.tc : Thread Cert.EvenDw.nD Cert.EvenDw.τ).loc Cert.EvenDw.main_arg0) = m ((c.tc : Thread Cert.EvenDw.nD Cert.EvenDw.τ).loc Cert.EvenDw.main_arg0)
      ∧ r.2.mem ((c.tc : Thread Cert.EvenDw.nD Cert.EvenDw.τ).loc Cert.EvenDw.main_arg1) = m ((c.tc : Thread Cert.EvenDw.nD Cert.EvenDw.τ).loc Cert.EvenDw.main_arg1))
      ∧ r.2.sem = fun _ => 0)

def quiescent_EvenDwIdeal [hEvenDwIdeal : Cert.EvenDwIdeal.Facts] : Prop :=
  ∀ (m : (ℓ : Loc Cert.EvenDwIdeal.nD Cert.EvenDwIdeal.τ Cert.EvenDwIdeal.sig) → Buf (Elt Ideal) ℓ) (g : Dev Cert.EvenDwIdeal.nD → PrngReg), Pre_EvenDwIdeal m →
    θ_run (Cert.EvenDwIdeal.defs (F := Ideal)) (onTc (τ := Cert.EvenDwIdeal.τ) (Cert.EvenDwIdeal.main (F := Ideal))) ⟨m, fun _ => 0, g⟩ (fun r => (∀ c : Dev Cert.EvenDwIdeal.nD,
      r.2.mem ((c.tc : Thread Cert.EvenDwIdeal.nD Cert.EvenDwIdeal.τ).loc Cert.EvenDwIdeal.main_arg0) = m ((c.tc : Thread Cert.EvenDwIdeal.nD Cert.EvenDwIdeal.τ).loc Cert.EvenDwIdeal.main_arg0)
      ∧ r.2.mem ((c.tc : Thread Cert.EvenDwIdeal.nD Cert.EvenDwIdeal.τ).loc Cert.EvenDwIdeal.main_arg1) = m ((c.tc : Thread Cert.EvenDwIdeal.nD Cert.EvenDwIdeal.τ).loc Cert.EvenDwIdeal.main_arg1))
      ∧ r.2.sem = fun _ => 0)

def quiescent_EvenDwRefIdeal [hEvenDwRefIdeal : Cert.EvenDwRefIdeal.Facts] : Prop :=
  ∀ (m : (ℓ : Loc Cert.EvenDwRefIdeal.nD Cert.EvenDwRefIdeal.τ Cert.EvenDwRefIdeal.sig) → Buf (Elt Ideal) ℓ) (g : Dev Cert.EvenDwRefIdeal.nD → PrngReg), Pre_EvenDwRefIdeal m →
    θ_run (Cert.EvenDwRefIdeal.defs (F := Ideal)) (onTc (τ := Cert.EvenDwRefIdeal.τ) (Cert.EvenDwRefIdeal.main (F := Ideal))) ⟨m, fun _ => 0, g⟩ (fun r => (∀ c : Dev Cert.EvenDwRefIdeal.nD,
      r.2.mem ((c.tc : Thread Cert.EvenDwRefIdeal.nD Cert.EvenDwRefIdeal.τ).loc Cert.EvenDwRefIdeal.main_arg0) = m ((c.tc : Thread Cert.EvenDwRefIdeal.nD Cert.EvenDwRefIdeal.τ).loc Cert.EvenDwRefIdeal.main_arg0)
      ∧ r.2.mem ((c.tc : Thread Cert.EvenDwRefIdeal.nD Cert.EvenDwRefIdeal.τ).loc Cert.EvenDwRefIdeal.main_arg1) = m ((c.tc : Thread Cert.EvenDwRefIdeal.nD Cert.EvenDwRefIdeal.τ).loc Cert.EvenDwRefIdeal.main_arg1))
      ∧ r.2.sem = fun _ => 0)

def quiescent_EvenDwTail [hEvenDwTail : Cert.EvenDwTail.Facts] : Prop :=
  ∀ (m : (ℓ : Loc Cert.EvenDwTail.nD Cert.EvenDwTail.τ Cert.EvenDwTail.sig) → Buf (Elt Bits) ℓ) (g : Dev Cert.EvenDwTail.nD → PrngReg), Pre_EvenDwTail m →
    θ_run (Cert.EvenDwTail.defs (F := Bits)) (onTc (τ := Cert.EvenDwTail.τ) (Cert.EvenDwTail.main (F := Bits))) ⟨m, fun _ => 0, g⟩ (fun r => (∀ c : Dev Cert.EvenDwTail.nD,
      r.2.mem ((c.tc : Thread Cert.EvenDwTail.nD Cert.EvenDwTail.τ).loc Cert.EvenDwTail.main_arg0) = m ((c.tc : Thread Cert.EvenDwTail.nD Cert.EvenDwTail.τ).loc Cert.EvenDwTail.main_arg0)
      ∧ r.2.mem ((c.tc : Thread Cert.EvenDwTail.nD Cert.EvenDwTail.τ).loc Cert.EvenDwTail.main_arg1) = m ((c.tc : Thread Cert.EvenDwTail.nD Cert.EvenDwTail.τ).loc Cert.EvenDwTail.main_arg1))
      ∧ r.2.sem = fun _ => 0)

def quiescent_EvenDwTailIdeal [hEvenDwTailIdeal : Cert.EvenDwTailIdeal.Facts] : Prop :=
  ∀ (m : (ℓ : Loc Cert.EvenDwTailIdeal.nD Cert.EvenDwTailIdeal.τ Cert.EvenDwTailIdeal.sig) → Buf (Elt Ideal) ℓ) (g : Dev Cert.EvenDwTailIdeal.nD → PrngReg), Pre_EvenDwTailIdeal m →
    θ_run (Cert.EvenDwTailIdeal.defs (F := Ideal)) (onTc (τ := Cert.EvenDwTailIdeal.τ) (Cert.EvenDwTailIdeal.main (F := Ideal))) ⟨m, fun _ => 0, g⟩ (fun r => (∀ c : Dev Cert.EvenDwTailIdeal.nD,
      r.2.mem ((c.tc : Thread Cert.EvenDwTailIdeal.nD Cert.EvenDwTailIdeal.τ).loc Cert.EvenDwTailIdeal.main_arg0) = m ((c.tc : Thread Cert.EvenDwTailIdeal.nD Cert.EvenDwTailIdeal.τ).loc Cert.EvenDwTailIdeal.main_arg0)
      ∧ r.2.mem ((c.tc : Thread Cert.EvenDwTailIdeal.nD Cert.EvenDwTailIdeal.τ).loc Cert.EvenDwTailIdeal.main_arg1) = m ((c.tc : Thread Cert.EvenDwTailIdeal.nD Cert.EvenDwTailIdeal.τ).loc Cert.EvenDwTailIdeal.main_arg1))
      ∧ r.2.sem = fun _ => 0)

def quiescent_EvenDwTailRefIdeal [hEvenDwTailRefIdeal : Cert.EvenDwTailRefIdeal.Facts] : Prop :=
  ∀ (m : (ℓ : Loc Cert.EvenDwTailRefIdeal.nD Cert.EvenDwTailRefIdeal.τ Cert.EvenDwTailRefIdeal.sig) → Buf (Elt Ideal) ℓ) (g : Dev Cert.EvenDwTailRefIdeal.nD → PrngReg), Pre_EvenDwTailRefIdeal m →
    θ_run (Cert.EvenDwTailRefIdeal.defs (F := Ideal)) (onTc (τ := Cert.EvenDwTailRefIdeal.τ) (Cert.EvenDwTailRefIdeal.main (F := Ideal))) ⟨m, fun _ => 0, g⟩ (fun r => (∀ c : Dev Cert.EvenDwTailRefIdeal.nD,
      r.2.mem ((c.tc : Thread Cert.EvenDwTailRefIdeal.nD Cert.EvenDwTailRefIdeal.τ).loc Cert.EvenDwTailRefIdeal.main_arg0) = m ((c.tc : Thread Cert.EvenDwTailRefIdeal.nD Cert.EvenDwTailRefIdeal.τ).loc Cert.EvenDwTailRefIdeal.main_arg0)
      ∧ r.2.mem ((c.tc : Thread Cert.EvenDwTailRefIdeal.nD Cert.EvenDwTailRefIdeal.τ).loc Cert.EvenDwTailRefIdeal.main_arg1) = m ((c.tc : Thread Cert.EvenDwTailRefIdeal.nD Cert.EvenDwTailRefIdeal.τ).loc Cert.EvenDwTailRefIdeal.main_arg1))
      ∧ r.2.sem = fun _ => 0)

def quiescent_EvenDxFirst [hEvenDxFirst : Cert.EvenDxFirst.Facts] : Prop :=
  ∀ (m : (ℓ : Loc Cert.EvenDxFirst.nD Cert.EvenDxFirst.τ Cert.EvenDxFirst.sig) → Buf (Elt Bits) ℓ) (g : Dev Cert.EvenDxFirst.nD → PrngReg), Pre_EvenDxFirst m →
    θ_run (Cert.EvenDxFirst.defs (F := Bits)) (onTc (τ := Cert.EvenDxFirst.τ) (Cert.EvenDxFirst.main (F := Bits))) ⟨m, fun _ => 0, g⟩ (fun r => (∀ c : Dev Cert.EvenDxFirst.nD,
      r.2.mem ((c.tc : Thread Cert.EvenDxFirst.nD Cert.EvenDxFirst.τ).loc Cert.EvenDxFirst.main_arg0) = m ((c.tc : Thread Cert.EvenDxFirst.nD Cert.EvenDxFirst.τ).loc Cert.EvenDxFirst.main_arg0)
      ∧ r.2.mem ((c.tc : Thread Cert.EvenDxFirst.nD Cert.EvenDxFirst.τ).loc Cert.EvenDxFirst.main_arg1) = m ((c.tc : Thread Cert.EvenDxFirst.nD Cert.EvenDxFirst.τ).loc Cert.EvenDxFirst.main_arg1)
      ∧ r.2.mem ((c.tc : Thread Cert.EvenDxFirst.nD Cert.EvenDxFirst.τ).loc Cert.EvenDxFirst.main_arg2) = m ((c.tc : Thread Cert.EvenDxFirst.nD Cert.EvenDxFirst.τ).loc Cert.EvenDxFirst.main_arg2))
      ∧ r.2.sem = fun _ => 0)

def quiescent_EvenDxFirstIdeal [hEvenDxFirstIdeal : Cert.EvenDxFirstIdeal.Facts] : Prop :=
  ∀ (m : (ℓ : Loc Cert.EvenDxFirstIdeal.nD Cert.EvenDxFirstIdeal.τ Cert.EvenDxFirstIdeal.sig) → Buf (Elt Ideal) ℓ) (g : Dev Cert.EvenDxFirstIdeal.nD → PrngReg), Pre_EvenDxFirstIdeal m →
    θ_run (Cert.EvenDxFirstIdeal.defs (F := Ideal)) (onTc (τ := Cert.EvenDxFirstIdeal.τ) (Cert.EvenDxFirstIdeal.main (F := Ideal))) ⟨m, fun _ => 0, g⟩ (fun r => (∀ c : Dev Cert.EvenDxFirstIdeal.nD,
      r.2.mem ((c.tc : Thread Cert.EvenDxFirstIdeal.nD Cert.EvenDxFirstIdeal.τ).loc Cert.EvenDxFirstIdeal.main_arg0) = m ((c.tc : Thread Cert.EvenDxFirstIdeal.nD Cert.EvenDxFirstIdeal.τ).loc Cert.EvenDxFirstIdeal.main_arg0)
      ∧ r.2.mem ((c.tc : Thread Cert.EvenDxFirstIdeal.nD Cert.EvenDxFirstIdeal.τ).loc Cert.EvenDxFirstIdeal.main_arg1) = m ((c.tc : Thread Cert.EvenDxFirstIdeal.nD Cert.EvenDxFirstIdeal.τ).loc Cert.EvenDxFirstIdeal.main_arg1)
      ∧ r.2.mem ((c.tc : Thread Cert.EvenDxFirstIdeal.nD Cert.EvenDxFirstIdeal.τ).loc Cert.EvenDxFirstIdeal.main_arg2) = m ((c.tc : Thread Cert.EvenDxFirstIdeal.nD Cert.EvenDxFirstIdeal.τ).loc Cert.EvenDxFirstIdeal.main_arg2))
      ∧ r.2.sem = fun _ => 0)

def quiescent_EvenDxFirstRefIdeal [hEvenDxFirstRefIdeal : Cert.EvenDxFirstRefIdeal.Facts] : Prop :=
  ∀ (m : (ℓ : Loc Cert.EvenDxFirstRefIdeal.nD Cert.EvenDxFirstRefIdeal.τ Cert.EvenDxFirstRefIdeal.sig) → Buf (Elt Ideal) ℓ) (g : Dev Cert.EvenDxFirstRefIdeal.nD → PrngReg), Pre_EvenDxFirstRefIdeal m →
    θ_run (Cert.EvenDxFirstRefIdeal.defs (F := Ideal)) (onTc (τ := Cert.EvenDxFirstRefIdeal.τ) (Cert.EvenDxFirstRefIdeal.main (F := Ideal))) ⟨m, fun _ => 0, g⟩ (fun r => (∀ c : Dev Cert.EvenDxFirstRefIdeal.nD,
      r.2.mem ((c.tc : Thread Cert.EvenDxFirstRefIdeal.nD Cert.EvenDxFirstRefIdeal.τ).loc Cert.EvenDxFirstRefIdeal.main_arg0) = m ((c.tc : Thread Cert.EvenDxFirstRefIdeal.nD Cert.EvenDxFirstRefIdeal.τ).loc Cert.EvenDxFirstRefIdeal.main_arg0)
      ∧ r.2.mem ((c.tc : Thread Cert.EvenDxFirstRefIdeal.nD Cert.EvenDxFirstRefIdeal.τ).loc Cert.EvenDxFirstRefIdeal.main_arg1) = m ((c.tc : Thread Cert.EvenDxFirstRefIdeal.nD Cert.EvenDxFirstRefIdeal.τ).loc Cert.EvenDxFirstRefIdeal.main_arg1)
      ∧ r.2.mem ((c.tc : Thread Cert.EvenDxFirstRefIdeal.nD Cert.EvenDxFirstRefIdeal.τ).loc Cert.EvenDxFirstRefIdeal.main_arg2) = m ((c.tc : Thread Cert.EvenDxFirstRefIdeal.nD Cert.EvenDxFirstRefIdeal.τ).loc Cert.EvenDxFirstRefIdeal.main_arg2))
      ∧ r.2.sem = fun _ => 0)

def quiescent_EvenDx [hEvenDx : Cert.EvenDx.Facts] : Prop :=
  ∀ (m : (ℓ : Loc Cert.EvenDx.nD Cert.EvenDx.τ Cert.EvenDx.sig) → Buf (Elt Bits) ℓ) (g : Dev Cert.EvenDx.nD → PrngReg), Pre_EvenDx m →
    θ_run (Cert.EvenDx.defs (F := Bits)) (onTc (τ := Cert.EvenDx.τ) (Cert.EvenDx.main (F := Bits))) ⟨m, fun _ => 0, g⟩ (fun r => (∀ c : Dev Cert.EvenDx.nD,
      r.2.mem ((c.tc : Thread Cert.EvenDx.nD Cert.EvenDx.τ).loc Cert.EvenDx.main_arg0) = m ((c.tc : Thread Cert.EvenDx.nD Cert.EvenDx.τ).loc Cert.EvenDx.main_arg0)
      ∧ r.2.mem ((c.tc : Thread Cert.EvenDx.nD Cert.EvenDx.τ).loc Cert.EvenDx.main_arg1) = m ((c.tc : Thread Cert.EvenDx.nD Cert.EvenDx.τ).loc Cert.EvenDx.main_arg1)
      ∧ r.2.mem ((c.tc : Thread Cert.EvenDx.nD Cert.EvenDx.τ).loc Cert.EvenDx.main_arg2) = m ((c.tc : Thread Cert.EvenDx.nD Cert.EvenDx.τ).loc Cert.EvenDx.main_arg2))
      ∧ r.2.sem = fun _ => 0)

def quiescent_EvenDxIdeal [hEvenDxIdeal : Cert.EvenDxIdeal.Facts] : Prop :=
  ∀ (m : (ℓ : Loc Cert.EvenDxIdeal.nD Cert.EvenDxIdeal.τ Cert.EvenDxIdeal.sig) → Buf (Elt Ideal) ℓ) (g : Dev Cert.EvenDxIdeal.nD → PrngReg), Pre_EvenDxIdeal m →
    θ_run (Cert.EvenDxIdeal.defs (F := Ideal)) (onTc (τ := Cert.EvenDxIdeal.τ) (Cert.EvenDxIdeal.main (F := Ideal))) ⟨m, fun _ => 0, g⟩ (fun r => (∀ c : Dev Cert.EvenDxIdeal.nD,
      r.2.mem ((c.tc : Thread Cert.EvenDxIdeal.nD Cert.EvenDxIdeal.τ).loc Cert.EvenDxIdeal.main_arg0) = m ((c.tc : Thread Cert.EvenDxIdeal.nD Cert.EvenDxIdeal.τ).loc Cert.EvenDxIdeal.main_arg0)
      ∧ r.2.mem ((c.tc : Thread Cert.EvenDxIdeal.nD Cert.EvenDxIdeal.τ).loc Cert.EvenDxIdeal.main_arg1) = m ((c.tc : Thread Cert.EvenDxIdeal.nD Cert.EvenDxIdeal.τ).loc Cert.EvenDxIdeal.main_arg1)
      ∧ r.2.mem ((c.tc : Thread Cert.EvenDxIdeal.nD Cert.EvenDxIdeal.τ).loc Cert.EvenDxIdeal.main_arg2) = m ((c.tc : Thread Cert.EvenDxIdeal.nD Cert.EvenDxIdeal.τ).loc Cert.EvenDxIdeal.main_arg2))
      ∧ r.2.sem = fun _ => 0)

def quiescent_EvenDxRefIdeal [hEvenDxRefIdeal : Cert.EvenDxRefIdeal.Facts] : Prop :=
  ∀ (m : (ℓ : Loc Cert.EvenDxRefIdeal.nD Cert.EvenDxRefIdeal.τ Cert.EvenDxRefIdeal.sig) → Buf (Elt Ideal) ℓ) (g : Dev Cert.EvenDxRefIdeal.nD → PrngReg), Pre_EvenDxRefIdeal m →
    θ_run (Cert.EvenDxRefIdeal.defs (F := Ideal)) (onTc (τ := Cert.EvenDxRefIdeal.τ) (Cert.EvenDxRefIdeal.main (F := Ideal))) ⟨m, fun _ => 0, g⟩ (fun r => (∀ c : Dev Cert.EvenDxRefIdeal.nD,
      r.2.mem ((c.tc : Thread Cert.EvenDxRefIdeal.nD Cert.EvenDxRefIdeal.τ).loc Cert.EvenDxRefIdeal.main_arg0) = m ((c.tc : Thread Cert.EvenDxRefIdeal.nD Cert.EvenDxRefIdeal.τ).loc Cert.EvenDxRefIdeal.main_arg0)
      ∧ r.2.mem ((c.tc : Thread Cert.EvenDxRefIdeal.nD Cert.EvenDxRefIdeal.τ).loc Cert.EvenDxRefIdeal.main_arg1) = m ((c.tc : Thread Cert.EvenDxRefIdeal.nD Cert.EvenDxRefIdeal.τ).loc Cert.EvenDxRefIdeal.main_arg1)
      ∧ r.2.mem ((c.tc : Thread Cert.EvenDxRefIdeal.nD Cert.EvenDxRefIdeal.τ).loc Cert.EvenDxRefIdeal.main_arg2) = m ((c.tc : Thread Cert.EvenDxRefIdeal.nD Cert.EvenDxRefIdeal.τ).loc Cert.EvenDxRefIdeal.main_arg2))
      ∧ r.2.sem = fun _ => 0)

def quiescent_EvenDxTail [hEvenDxTail : Cert.EvenDxTail.Facts] : Prop :=
  ∀ (m : (ℓ : Loc Cert.EvenDxTail.nD Cert.EvenDxTail.τ Cert.EvenDxTail.sig) → Buf (Elt Bits) ℓ) (g : Dev Cert.EvenDxTail.nD → PrngReg), Pre_EvenDxTail m →
    θ_run (Cert.EvenDxTail.defs (F := Bits)) (onTc (τ := Cert.EvenDxTail.τ) (Cert.EvenDxTail.main (F := Bits))) ⟨m, fun _ => 0, g⟩ (fun r => (∀ c : Dev Cert.EvenDxTail.nD,
      r.2.mem ((c.tc : Thread Cert.EvenDxTail.nD Cert.EvenDxTail.τ).loc Cert.EvenDxTail.main_arg0) = m ((c.tc : Thread Cert.EvenDxTail.nD Cert.EvenDxTail.τ).loc Cert.EvenDxTail.main_arg0)
      ∧ r.2.mem ((c.tc : Thread Cert.EvenDxTail.nD Cert.EvenDxTail.τ).loc Cert.EvenDxTail.main_arg1) = m ((c.tc : Thread Cert.EvenDxTail.nD Cert.EvenDxTail.τ).loc Cert.EvenDxTail.main_arg1)
      ∧ r.2.mem ((c.tc : Thread Cert.EvenDxTail.nD Cert.EvenDxTail.τ).loc Cert.EvenDxTail.main_arg2) = m ((c.tc : Thread Cert.EvenDxTail.nD Cert.EvenDxTail.τ).loc Cert.EvenDxTail.main_arg2))
      ∧ r.2.sem = fun _ => 0)

def quiescent_EvenDxTailIdeal [hEvenDxTailIdeal : Cert.EvenDxTailIdeal.Facts] : Prop :=
  ∀ (m : (ℓ : Loc Cert.EvenDxTailIdeal.nD Cert.EvenDxTailIdeal.τ Cert.EvenDxTailIdeal.sig) → Buf (Elt Ideal) ℓ) (g : Dev Cert.EvenDxTailIdeal.nD → PrngReg), Pre_EvenDxTailIdeal m →
    θ_run (Cert.EvenDxTailIdeal.defs (F := Ideal)) (onTc (τ := Cert.EvenDxTailIdeal.τ) (Cert.EvenDxTailIdeal.main (F := Ideal))) ⟨m, fun _ => 0, g⟩ (fun r => (∀ c : Dev Cert.EvenDxTailIdeal.nD,
      r.2.mem ((c.tc : Thread Cert.EvenDxTailIdeal.nD Cert.EvenDxTailIdeal.τ).loc Cert.EvenDxTailIdeal.main_arg0) = m ((c.tc : Thread Cert.EvenDxTailIdeal.nD Cert.EvenDxTailIdeal.τ).loc Cert.EvenDxTailIdeal.main_arg0)
      ∧ r.2.mem ((c.tc : Thread Cert.EvenDxTailIdeal.nD Cert.EvenDxTailIdeal.τ).loc Cert.EvenDxTailIdeal.main_arg1) = m ((c.tc : Thread Cert.EvenDxTailIdeal.nD Cert.EvenDxTailIdeal.τ).loc Cert.EvenDxTailIdeal.main_arg1)
      ∧ r.2.mem ((c.tc : Thread Cert.EvenDxTailIdeal.nD Cert.EvenDxTailIdeal.τ).loc Cert.EvenDxTailIdeal.main_arg2) = m ((c.tc : Thread Cert.EvenDxTailIdeal.nD Cert.EvenDxTailIdeal.τ).loc Cert.EvenDxTailIdeal.main_arg2))
      ∧ r.2.sem = fun _ => 0)

def quiescent_EvenDxTailRefIdeal [hEvenDxTailRefIdeal : Cert.EvenDxTailRefIdeal.Facts] : Prop :=
  ∀ (m : (ℓ : Loc Cert.EvenDxTailRefIdeal.nD Cert.EvenDxTailRefIdeal.τ Cert.EvenDxTailRefIdeal.sig) → Buf (Elt Ideal) ℓ) (g : Dev Cert.EvenDxTailRefIdeal.nD → PrngReg), Pre_EvenDxTailRefIdeal m →
    θ_run (Cert.EvenDxTailRefIdeal.defs (F := Ideal)) (onTc (τ := Cert.EvenDxTailRefIdeal.τ) (Cert.EvenDxTailRefIdeal.main (F := Ideal))) ⟨m, fun _ => 0, g⟩ (fun r => (∀ c : Dev Cert.EvenDxTailRefIdeal.nD,
      r.2.mem ((c.tc : Thread Cert.EvenDxTailRefIdeal.nD Cert.EvenDxTailRefIdeal.τ).loc Cert.EvenDxTailRefIdeal.main_arg0) = m ((c.tc : Thread Cert.EvenDxTailRefIdeal.nD Cert.EvenDxTailRefIdeal.τ).loc Cert.EvenDxTailRefIdeal.main_arg0)
      ∧ r.2.mem ((c.tc : Thread Cert.EvenDxTailRefIdeal.nD Cert.EvenDxTailRefIdeal.τ).loc Cert.EvenDxTailRefIdeal.main_arg1) = m ((c.tc : Thread Cert.EvenDxTailRefIdeal.nD Cert.EvenDxTailRefIdeal.τ).loc Cert.EvenDxTailRefIdeal.main_arg1)
      ∧ r.2.mem ((c.tc : Thread Cert.EvenDxTailRefIdeal.nD Cert.EvenDxTailRefIdeal.τ).loc Cert.EvenDxTailRefIdeal.main_arg2) = m ((c.tc : Thread Cert.EvenDxTailRefIdeal.nD Cert.EvenDxTailRefIdeal.τ).loc Cert.EvenDxTailRefIdeal.main_arg2))
      ∧ r.2.sem = fun _ => 0)

def quiescent_EvenOutDx [hEvenOutDx : Cert.EvenOutDx.Facts] : Prop :=
  ∀ (m : (ℓ : Loc Cert.EvenOutDx.nD Cert.EvenOutDx.τ Cert.EvenOutDx.sig) → Buf (Elt Bits) ℓ) (g : Dev Cert.EvenOutDx.nD → PrngReg), Pre_EvenOutDx m →
    θ_run (Cert.EvenOutDx.defs (F := Bits)) (onTc (τ := Cert.EvenOutDx.τ) (Cert.EvenOutDx.main (F := Bits))) ⟨m, fun _ => 0, g⟩ (fun r => (∀ c : Dev Cert.EvenOutDx.nD,
      r.2.mem ((c.tc : Thread Cert.EvenOutDx.nD Cert.EvenOutDx.τ).loc Cert.EvenOutDx.main_arg0) = m ((c.tc : Thread Cert.EvenOutDx.nD Cert.EvenOutDx.τ).loc Cert.EvenOutDx.main_arg0)
      ∧ r.2.mem ((c.tc : Thread Cert.EvenOutDx.nD Cert.EvenOutDx.τ).loc Cert.EvenOutDx.main_arg1) = m ((c.tc : Thread Cert.EvenOutDx.nD Cert.EvenOutDx.τ).loc Cert.EvenOutDx.main_arg1))
      ∧ r.2.sem = fun _ => 0)

def quiescent_EvenOutDxIdeal [hEvenOutDxIdeal : Cert.EvenOutDxIdeal.Facts] : Prop :=
  ∀ (m : (ℓ : Loc Cert.EvenOutDxIdeal.nD Cert.EvenOutDxIdeal.τ Cert.EvenOutDxIdeal.sig) → Buf (Elt Ideal) ℓ) (g : Dev Cert.EvenOutDxIdeal.nD → PrngReg), Pre_EvenOutDxIdeal m →
    θ_run (Cert.EvenOutDxIdeal.defs (F := Ideal)) (onTc (τ := Cert.EvenOutDxIdeal.τ) (Cert.EvenOutDxIdeal.main (F := Ideal))) ⟨m, fun _ => 0, g⟩ (fun r => (∀ c : Dev Cert.EvenOutDxIdeal.nD,
      r.2.mem ((c.tc : Thread Cert.EvenOutDxIdeal.nD Cert.EvenOutDxIdeal.τ).loc Cert.EvenOutDxIdeal.main_arg0) = m ((c.tc : Thread Cert.EvenOutDxIdeal.nD Cert.EvenOutDxIdeal.τ).loc Cert.EvenOutDxIdeal.main_arg0)
      ∧ r.2.mem ((c.tc : Thread Cert.EvenOutDxIdeal.nD Cert.EvenOutDxIdeal.τ).loc Cert.EvenOutDxIdeal.main_arg1) = m ((c.tc : Thread Cert.EvenOutDxIdeal.nD Cert.EvenOutDxIdeal.τ).loc Cert.EvenOutDxIdeal.main_arg1))
      ∧ r.2.sem = fun _ => 0)

def quiescent_EvenOutDxRefIdeal [hEvenOutDxRefIdeal : Cert.EvenOutDxRefIdeal.Facts] : Prop :=
  ∀ (m : (ℓ : Loc Cert.EvenOutDxRefIdeal.nD Cert.EvenOutDxRefIdeal.τ Cert.EvenOutDxRefIdeal.sig) → Buf (Elt Ideal) ℓ) (g : Dev Cert.EvenOutDxRefIdeal.nD → PrngReg), Pre_EvenOutDxRefIdeal m →
    θ_run (Cert.EvenOutDxRefIdeal.defs (F := Ideal)) (onTc (τ := Cert.EvenOutDxRefIdeal.τ) (Cert.EvenOutDxRefIdeal.main (F := Ideal))) ⟨m, fun _ => 0, g⟩ (fun r => (∀ c : Dev Cert.EvenOutDxRefIdeal.nD,
      r.2.mem ((c.tc : Thread Cert.EvenOutDxRefIdeal.nD Cert.EvenOutDxRefIdeal.τ).loc Cert.EvenOutDxRefIdeal.main_arg0) = m ((c.tc : Thread Cert.EvenOutDxRefIdeal.nD Cert.EvenOutDxRefIdeal.τ).loc Cert.EvenOutDxRefIdeal.main_arg0)
      ∧ r.2.mem ((c.tc : Thread Cert.EvenOutDxRefIdeal.nD Cert.EvenOutDxRefIdeal.τ).loc Cert.EvenOutDxRefIdeal.main_arg1) = m ((c.tc : Thread Cert.EvenOutDxRefIdeal.nD Cert.EvenOutDxRefIdeal.τ).loc Cert.EvenOutDxRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1))
      ∧ r.2.sem = fun _ => 0)

def quiescent_EvenInA [hEvenInA : Cert.EvenInA.Facts] : Prop :=
  ∀ (m : (ℓ : Loc Cert.EvenInA.nD Cert.EvenInA.τ Cert.EvenInA.sig) → Buf (Elt Bits) ℓ) (g : Dev Cert.EvenInA.nD → PrngReg), Pre_EvenInA m →
    θ_run (Cert.EvenInA.defs (F := Bits)) (onTc (τ := Cert.EvenInA.τ) (Cert.EvenInA.main (F := Bits))) ⟨m, fun _ => 0, g⟩ (fun r => (∀ c : Dev Cert.EvenInA.nD,
      r.2.mem ((c.tc : Thread Cert.EvenInA.nD Cert.EvenInA.τ).loc Cert.EvenInA.main_arg0) = m ((c.tc : Thread Cert.EvenInA.nD Cert.EvenInA.τ).loc Cert.EvenInA.main_arg0)
      ∧ r.2.mem ((c.tc : Thread Cert.EvenInA.nD Cert.EvenInA.τ).loc Cert.EvenInA.main_arg1) = m ((c.tc : Thread Cert.EvenInA.nD Cert.EvenInA.τ).loc Cert.EvenInA.main_arg1))
      ∧ r.2.sem = fun _ => 0)

def quiescent_EvenInAIdeal [hEvenInAIdeal : Cert.EvenInAIdeal.Facts] : Prop :=
  ∀ (m : (ℓ : Loc Cert.EvenInAIdeal.nD Cert.EvenInAIdeal.τ Cert.EvenInAIdeal.sig) → Buf (Elt Ideal) ℓ) (g : Dev Cert.EvenInAIdeal.nD → PrngReg), Pre_EvenInAIdeal m →
    θ_run (Cert.EvenInAIdeal.defs (F := Ideal)) (onTc (τ := Cert.EvenInAIdeal.τ) (Cert.EvenInAIdeal.main (F := Ideal))) ⟨m, fun _ => 0, g⟩ (fun r => (∀ c : Dev Cert.EvenInAIdeal.nD,
      r.2.mem ((c.tc : Thread Cert.EvenInAIdeal.nD Cert.EvenInAIdeal.τ).loc Cert.EvenInAIdeal.main_arg0) = m ((c.tc : Thread Cert.EvenInAIdeal.nD Cert.EvenInAIdeal.τ).loc Cert.EvenInAIdeal.main_arg0)
      ∧ r.2.mem ((c.tc : Thread Cert.EvenInAIdeal.nD Cert.EvenInAIdeal.τ).loc Cert.EvenInAIdeal.main_arg1) = m ((c.tc : Thread Cert.EvenInAIdeal.nD Cert.EvenInAIdeal.τ).loc Cert.EvenInAIdeal.main_arg1))
      ∧ r.2.sem = fun _ => 0)

def quiescent_EvenInARefIdeal [hEvenInARefIdeal : Cert.EvenInARefIdeal.Facts] : Prop :=
  ∀ (m : (ℓ : Loc Cert.EvenInARefIdeal.nD Cert.EvenInARefIdeal.τ Cert.EvenInARefIdeal.sig) → Buf (Elt Ideal) ℓ) (g : Dev Cert.EvenInARefIdeal.nD → PrngReg), Pre_EvenInARefIdeal m →
    θ_run (Cert.EvenInARefIdeal.defs (F := Ideal)) (onTc (τ := Cert.EvenInARefIdeal.τ) (Cert.EvenInARefIdeal.main (F := Ideal))) ⟨m, fun _ => 0, g⟩ (fun r => (∀ c : Dev Cert.EvenInARefIdeal.nD,
      r.2.mem ((c.tc : Thread Cert.EvenInARefIdeal.nD Cert.EvenInARefIdeal.τ).loc Cert.EvenInARefIdeal.main_arg0) = m ((c.tc : Thread Cert.EvenInARefIdeal.nD Cert.EvenInARefIdeal.τ).loc Cert.EvenInARefIdeal.main_arg0)
      ∧ r.2.mem ((c.tc : Thread Cert.EvenInARefIdeal.nD Cert.EvenInARefIdeal.τ).loc Cert.EvenInARefIdeal.main_arg1) = m ((c.tc : Thread Cert.EvenInARefIdeal.nD Cert.EvenInARefIdeal.τ).loc Cert.EvenInARefIdeal.main_arg1))
      ∧ r.2.sem = fun _ => 0)

def quiescent_EvenInQkv [hEvenInQkv : Cert.EvenInQkv.Facts] : Prop :=
  ∀ (m : (ℓ : Loc Cert.EvenInQkv.nD Cert.EvenInQkv.τ Cert.EvenInQkv.sig) → Buf (Elt Bits) ℓ) (g : Dev Cert.EvenInQkv.nD → PrngReg), Pre_EvenInQkv m →
    θ_run (Cert.EvenInQkv.defs (F := Bits)) (onTc (τ := Cert.EvenInQkv.τ) (Cert.EvenInQkv.main (F := Bits))) ⟨m, fun _ => 0, g⟩ (fun r => (∀ c : Dev Cert.EvenInQkv.nD,
      r.2.mem ((c.tc : Thread Cert.EvenInQkv.nD Cert.EvenInQkv.τ).loc Cert.EvenInQkv.main_arg0) = m ((c.tc : Thread Cert.EvenInQkv.nD Cert.EvenInQkv.τ).loc Cert.EvenInQkv.main_arg0)
      ∧ r.2.mem ((c.tc : Thread Cert.EvenInQkv.nD Cert.EvenInQkv.τ).loc Cert.EvenInQkv.main_arg1) = m ((c.tc : Thread Cert.EvenInQkv.nD Cert.EvenInQkv.τ).loc Cert.EvenInQkv.main_arg1))
      ∧ r.2.sem = fun _ => 0)

def quiescent_EvenInQkvIdeal [hEvenInQkvIdeal : Cert.EvenInQkvIdeal.Facts] : Prop :=
  ∀ (m : (ℓ : Loc Cert.EvenInQkvIdeal.nD Cert.EvenInQkvIdeal.τ Cert.EvenInQkvIdeal.sig) → Buf (Elt Ideal) ℓ) (g : Dev Cert.EvenInQkvIdeal.nD → PrngReg), Pre_EvenInQkvIdeal m →
    θ_run (Cert.EvenInQkvIdeal.defs (F := Ideal)) (onTc (τ := Cert.EvenInQkvIdeal.τ) (Cert.EvenInQkvIdeal.main (F := Ideal))) ⟨m, fun _ => 0, g⟩ (fun r => (∀ c : Dev Cert.EvenInQkvIdeal.nD,
      r.2.mem ((c.tc : Thread Cert.EvenInQkvIdeal.nD Cert.EvenInQkvIdeal.τ).loc Cert.EvenInQkvIdeal.main_arg0) = m ((c.tc : Thread Cert.EvenInQkvIdeal.nD Cert.EvenInQkvIdeal.τ).loc Cert.EvenInQkvIdeal.main_arg0)
      ∧ r.2.mem ((c.tc : Thread Cert.EvenInQkvIdeal.nD Cert.EvenInQkvIdeal.τ).loc Cert.EvenInQkvIdeal.main_arg1) = m ((c.tc : Thread Cert.EvenInQkvIdeal.nD Cert.EvenInQkvIdeal.τ).loc Cert.EvenInQkvIdeal.main_arg1))
      ∧ r.2.sem = fun _ => 0)

def quiescent_EvenInQkvRefIdeal [hEvenInQkvRefIdeal : Cert.EvenInQkvRefIdeal.Facts] : Prop :=
  ∀ (m : (ℓ : Loc Cert.EvenInQkvRefIdeal.nD Cert.EvenInQkvRefIdeal.τ Cert.EvenInQkvRefIdeal.sig) → Buf (Elt Ideal) ℓ) (g : Dev Cert.EvenInQkvRefIdeal.nD → PrngReg), Pre_EvenInQkvRefIdeal m →
    θ_run (Cert.EvenInQkvRefIdeal.defs (F := Ideal)) (onTc (τ := Cert.EvenInQkvRefIdeal.τ) (Cert.EvenInQkvRefIdeal.main (F := Ideal))) ⟨m, fun _ => 0, g⟩ (fun r => (∀ c : Dev Cert.EvenInQkvRefIdeal.nD,
      r.2.mem ((c.tc : Thread Cert.EvenInQkvRefIdeal.nD Cert.EvenInQkvRefIdeal.τ).loc Cert.EvenInQkvRefIdeal.main_arg0) = m ((c.tc : Thread Cert.EvenInQkvRefIdeal.nD Cert.EvenInQkvRefIdeal.τ).loc Cert.EvenInQkvRefIdeal.main_arg0)
      ∧ r.2.mem ((c.tc : Thread Cert.EvenInQkvRefIdeal.nD Cert.EvenInQkvRefIdeal.τ).loc Cert.EvenInQkvRefIdeal.main_arg1) = m ((c.tc : Thread Cert.EvenInQkvRefIdeal.nD Cert.EvenInQkvRefIdeal.τ).loc Cert.EvenInQkvRefIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_EvenInTail [hEvenInTail : Cert.EvenInTail.Facts] : Prop :=
  ∀ (m : (ℓ : Loc Cert.EvenInTail.nD Cert.EvenInTail.τ Cert.EvenInTail.sig) → Buf (Elt Bits) ℓ) (g : Dev Cert.EvenInTail.nD → PrngReg), Pre_EvenInTail m →
    θ_run (Cert.EvenInTail.defs (F := Bits)) (onTc (τ := Cert.EvenInTail.τ) (Cert.EvenInTail.main (F := Bits))) ⟨m, fun _ => 0, g⟩ (fun r => (∀ c : Dev Cert.EvenInTail.nD,
      r.2.mem ((c.tc : Thread Cert.EvenInTail.nD Cert.EvenInTail.τ).loc Cert.EvenInTail.main_arg0) = m ((c.tc : Thread Cert.EvenInTail.nD Cert.EvenInTail.τ).loc Cert.EvenInTail.main_arg0)
      ∧ r.2.mem ((c.tc : Thread Cert.EvenInTail.nD Cert.EvenInTail.τ).loc Cert.EvenInTail.main_arg1) = m ((c.tc : Thread Cert.EvenInTail.nD Cert.EvenInTail.τ).loc Cert.EvenInTail.main_arg1))
      ∧ r.2.sem = fun _ => 0)

def quiescent_EvenInTailIdeal [hEvenInTailIdeal : Cert.EvenInTailIdeal.Facts] : Prop :=
  ∀ (m : (ℓ : Loc Cert.EvenInTailIdeal.nD Cert.EvenInTailIdeal.τ Cert.EvenInTailIdeal.sig) → Buf (Elt Ideal) ℓ) (g : Dev Cert.EvenInTailIdeal.nD → PrngReg), Pre_EvenInTailIdeal m →
    θ_run (Cert.EvenInTailIdeal.defs (F := Ideal)) (onTc (τ := Cert.EvenInTailIdeal.τ) (Cert.EvenInTailIdeal.main (F := Ideal))) ⟨m, fun _ => 0, g⟩ (fun r => (∀ c : Dev Cert.EvenInTailIdeal.nD,
      r.2.mem ((c.tc : Thread Cert.EvenInTailIdeal.nD Cert.EvenInTailIdeal.τ).loc Cert.EvenInTailIdeal.main_arg0) = m ((c.tc : Thread Cert.EvenInTailIdeal.nD Cert.EvenInTailIdeal.τ).loc Cert.EvenInTailIdeal.main_arg0)
      ∧ r.2.mem ((c.tc : Thread Cert.EvenInTailIdeal.nD Cert.EvenInTailIdeal.τ).loc Cert.EvenInTailIdeal.main_arg1) = m ((c.tc : Thread Cert.EvenInTailIdeal.nD Cert.EvenInTailIdeal.τ).loc Cert.EvenInTailIdeal.main_arg1))
      ∧ r.2.sem = fun _ => 0)

def quiescent_EvenInTailRefIdeal [hEvenInTailRefIdeal : Cert.EvenInTailRefIdeal.Facts] : Prop :=
  ∀ (m : (ℓ : Loc Cert.EvenInTailRefIdeal.nD Cert.EvenInTailRefIdeal.τ Cert.EvenInTailRefIdeal.sig) → Buf (Elt Ideal) ℓ) (g : Dev Cert.EvenInTailRefIdeal.nD → PrngReg), Pre_EvenInTailRefIdeal m →
    θ_run (Cert.EvenInTailRefIdeal.defs (F := Ideal)) (onTc (τ := Cert.EvenInTailRefIdeal.τ) (Cert.EvenInTailRefIdeal.main (F := Ideal))) ⟨m, fun _ => 0, g⟩ (fun r => (∀ c : Dev Cert.EvenInTailRefIdeal.nD,
      r.2.mem ((c.tc : Thread Cert.EvenInTailRefIdeal.nD Cert.EvenInTailRefIdeal.τ).loc Cert.EvenInTailRefIdeal.main_arg0) = m ((c.tc : Thread Cert.EvenInTailRefIdeal.nD Cert.EvenInTailRefIdeal.τ).loc Cert.EvenInTailRefIdeal.main_arg0)
      ∧ r.2.mem ((c.tc : Thread Cert.EvenInTailRefIdeal.nD Cert.EvenInTailRefIdeal.τ).loc Cert.EvenInTailRefIdeal.main_arg1) = m ((c.tc : Thread Cert.EvenInTailRefIdeal.nD Cert.EvenInTailRefIdeal.τ).loc Cert.EvenInTailRefIdeal.main_arg1))
      ∧ r.2.sem = fun _ => 0)

def quiescent_EvenOutB [hEvenOutB : Cert.EvenOutB.Facts] : Prop :=
  ∀ (m : (ℓ : Loc Cert.EvenOutB.nD Cert.EvenOutB.τ Cert.EvenOutB.sig) → Buf (Elt Bits) ℓ) (g : Dev Cert.EvenOutB.nD → PrngReg), Pre_EvenOutB m →
    θ_run (Cert.EvenOutB.defs (F := Bits)) (onTc (τ := Cert.EvenOutB.τ) (Cert.EvenOutB.main (F := Bits))) ⟨m, fun _ => 0, g⟩ (fun r => (∀ c : Dev Cert.EvenOutB.nD,
      r.2.mem ((c.tc : Thread Cert.EvenOutB.nD Cert.EvenOutB.τ).loc Cert.EvenOutB.main_arg0) = m ((c.tc : Thread Cert.EvenOutB.nD Cert.EvenOutB.τ).loc Cert.EvenOutB.main_arg0)
      ∧ r.2.mem ((c.tc : Thread Cert.EvenOutB.nD Cert.EvenOutB.τ).loc Cert.EvenOutB.main_arg1) = m ((c.tc : Thread Cert.EvenOutB.nD Cert.EvenOutB.τ).loc Cert.EvenOutB.main_arg1)
      ∧ r.2.mem ((c.tc : Thread Cert.EvenOutB.nD Cert.EvenOutB.τ).loc Cert.EvenOutB.main_arg2) = m ((c.tc : Thread Cert.EvenOutB.nD Cert.EvenOutB.τ).loc Cert.EvenOutB.main_arg2))
      ∧ r.2.sem = fun _ => 0)

def quiescent_EvenOutBIdeal [hEvenOutBIdeal : Cert.EvenOutBIdeal.Facts] : Prop :=
  ∀ (m : (ℓ : Loc Cert.EvenOutBIdeal.nD Cert.EvenOutBIdeal.τ Cert.EvenOutBIdeal.sig) → Buf (Elt Ideal) ℓ) (g : Dev Cert.EvenOutBIdeal.nD → PrngReg), Pre_EvenOutBIdeal m →
    θ_run (Cert.EvenOutBIdeal.defs (F := Ideal)) (onTc (τ := Cert.EvenOutBIdeal.τ) (Cert.EvenOutBIdeal.main (F := Ideal))) ⟨m, fun _ => 0, g⟩ (fun r => (∀ c : Dev Cert.EvenOutBIdeal.nD,
      r.2.mem ((c.tc : Thread Cert.EvenOutBIdeal.nD Cert.EvenOutBIdeal.τ).loc Cert.EvenOutBIdeal.main_arg0) = m ((c.tc : Thread Cert.EvenOutBIdeal.nD Cert.EvenOutBIdeal.τ).loc Cert.EvenOutBIdeal.main_arg0)
      ∧ r.2.mem ((c.tc : Thread Cert.EvenOutBIdeal.nD Cert.EvenOutBIdeal.τ).loc Cert.EvenOutBIdeal.main_arg1) = m ((c.tc : Thread Cert.EvenOutBIdeal.nD Cert.EvenOutBIdeal.τ).loc Cert.EvenOutBIdeal.main_arg1)
      ∧ r.2.mem ((c.tc : Thread Cert.EvenOutBIdeal.nD Cert.EvenOutBIdeal.τ).loc Cert.EvenOutBIdeal.main_arg2) = m ((c.tc : Thread Cert.EvenOutBIdeal.nD Cert.EvenOutBIdeal.τ).loc Cert.EvenOutBIdeal.main_arg2))
      ∧ r.2.sem = fun _ => 0)

def quiescent_EvenOutBRefIdeal [hEvenOutBRefIdeal : Cert.EvenOutBRefIdeal.Facts] : Prop :=
  ∀ (m : (ℓ : Loc Cert.EvenOutBRefIdeal.nD Cert.EvenOutBRefIdeal.τ Cert.EvenOutBRefIdeal.sig) → Buf (Elt Ideal) ℓ) (g : Dev Cert.EvenOutBRefIdeal.nD → PrngReg), Pre_EvenOutBRefIdeal m →
    θ_run (Cert.EvenOutBRefIdeal.defs (F := Ideal)) (onTc (τ := Cert.EvenOutBRefIdeal.τ) (Cert.EvenOutBRefIdeal.main (F := Ideal))) ⟨m, fun _ => 0, g⟩ (fun r => (∀ c : Dev Cert.EvenOutBRefIdeal.nD,
      r.2.mem ((c.tc : Thread Cert.EvenOutBRefIdeal.nD Cert.EvenOutBRefIdeal.τ).loc Cert.EvenOutBRefIdeal.main_arg0) = m ((c.tc : Thread Cert.EvenOutBRefIdeal.nD Cert.EvenOutBRefIdeal.τ).loc Cert.EvenOutBRefIdeal.main_arg0)
      ∧ r.2.mem ((c.tc : Thread Cert.EvenOutBRefIdeal.nD Cert.EvenOutBRefIdeal.τ).loc Cert.EvenOutBRefIdeal.main_arg1) = m ((c.tc : Thread Cert.EvenOutBRefIdeal.nD Cert.EvenOutBRefIdeal.τ).loc Cert.EvenOutBRefIdeal.main_arg1)
      ∧ r.2.mem ((c.tc : Thread Cert.EvenOutBRefIdeal.nD Cert.EvenOutBRefIdeal.τ).loc Cert.EvenOutBRefIdeal.main_arg2) = m ((c.tc : Thread Cert.EvenOutBRefIdeal.nD Cert.EvenOutBRefIdeal.τ).loc Cert.EvenOutBRefIdeal.main_arg2))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamInOdd [hAdamInOdd : Cert.AdamInOdd.Facts] : Prop :=
  ∀ (m : (ℓ : Loc Cert.AdamInOdd.nD Cert.AdamInOdd.τ Cert.AdamInOdd.sig) → Buf (Elt Bits) ℓ) (g : Dev Cert.AdamInOdd.nD → PrngReg), Pre_AdamInOdd m →
    θ_run (Cert.AdamInOdd.defs (F := Bits)) (onTc (τ := Cert.AdamInOdd.τ) (Cert.AdamInOdd.main (F := Bits))) ⟨m, fun _ => 0, g⟩ (fun r => (∀ c : Dev Cert.AdamInOdd.nD,
      r.2.mem ((c.tc : Thread Cert.AdamInOdd.nD Cert.AdamInOdd.τ).loc Cert.AdamInOdd.main_arg0) = m ((c.tc : Thread Cert.AdamInOdd.nD Cert.AdamInOdd.τ).loc Cert.AdamInOdd.main_arg0)
      ∧ r.2.mem ((c.tc : Thread Cert.AdamInOdd.nD Cert.AdamInOdd.τ).loc Cert.AdamInOdd.main_arg1) = m ((c.tc : Thread Cert.AdamInOdd.nD Cert.AdamInOdd.τ).loc Cert.AdamInOdd.main_arg1)
      ∧ r.2.mem ((c.tc : Thread Cert.AdamInOdd.nD Cert.AdamInOdd.τ).loc Cert.AdamInOdd.main_arg2) = m ((c.tc : Thread Cert.AdamInOdd.nD Cert.AdamInOdd.τ).loc Cert.AdamInOdd.main_arg2)
      ∧ r.2.mem ((c.tc : Thread Cert.AdamInOdd.nD Cert.AdamInOdd.τ).loc Cert.AdamInOdd.main_arg3) = m ((c.tc : Thread Cert.AdamInOdd.nD Cert.AdamInOdd.τ).loc Cert.AdamInOdd.main_arg3))
      ∧ r.2.sem = fun _ => 0)

def quiescent_AdamInOddIdeal [hAdamInOddIdeal : Cert.AdamInOddIdeal.Facts] : Prop :=
  ∀ (m : (ℓ : Loc Cert.AdamInOddIdeal.nD Cert.AdamInOddIdeal.τ Cert.AdamInOddIdeal.sig) → Buf (Elt Ideal) ℓ) (g : Dev Cert.AdamInOddIdeal.nD → PrngReg), Pre_AdamInOddIdeal m →
    θ_run (Cert.AdamInOddIdeal.defs (F := Ideal)) (onTc (τ := Cert.AdamInOddIdeal.τ) (Cert.AdamInOddIdeal.main (F := Ideal))) ⟨m, fun _ => 0, g⟩ (fun r => (∀ c : Dev Cert.AdamInOddIdeal.nD,
      r.2.mem ((c.tc : Thread Cert.AdamInOddIdeal.nD Cert.AdamInOddIdeal.τ).loc Cert.AdamInOddIdeal.main_arg0) = m ((c.tc : Thread Cert.AdamInOddIdeal.nD Cert.AdamInOddIdeal.τ).loc Cert.AdamInOddIdeal.main_arg0)
      ∧ r.2.mem ((c.tc : Thread Cert.AdamInOddIdeal.nD Cert.AdamInOddIdeal.τ).loc Cert.AdamInOddIdeal.main_arg1) = m ((c.tc : Thread Cert.AdamInOddIdeal.nD Cert.AdamInOddIdeal.τ).loc Cert.AdamInOddIdeal.main_arg1)
      ∧ r.2.mem ((c.tc : Thread Cert.AdamInOddIdeal.nD Cert.AdamInOddIdeal.τ).loc Cert.AdamInOddIdeal.main_arg2) = m ((c.tc : Thread Cert.AdamInOddIdeal.nD Cert.AdamInOddIdeal.τ).loc Cert.AdamInOddIdeal.main_arg2)
      ∧ r.2.mem ((c.tc : Thread Cert.AdamInOddIdeal.nD Cert.AdamInOddIdeal.τ).loc Cert.AdamInOddIdeal.main_arg3) = m ((c.tc : Thread Cert.AdamInOddIdeal.nD Cert.AdamInOddIdeal.τ).loc Cert.AdamInOddIdeal.main_arg3))
      ∧ r.2.sem = fun _ => 0)

def quiescent_AdamInOddRefIdeal [hAdamInOddRefIdeal : Cert.AdamInOddRefIdeal.Facts] : Prop :=
  ∀ (m : (ℓ : Loc Cert.AdamInOddRefIdeal.nD Cert.AdamInOddRefIdeal.τ Cert.AdamInOddRefIdeal.sig) → Buf (Elt Ideal) ℓ) (g : Dev Cert.AdamInOddRefIdeal.nD → PrngReg), Pre_AdamInOddRefIdeal m →
    θ_run (Cert.AdamInOddRefIdeal.defs (F := Ideal)) (onTc (τ := Cert.AdamInOddRefIdeal.τ) (Cert.AdamInOddRefIdeal.main (F := Ideal))) ⟨m, fun _ => 0, g⟩ (fun r => (∀ c : Dev Cert.AdamInOddRefIdeal.nD,
      r.2.mem ((c.tc : Thread Cert.AdamInOddRefIdeal.nD Cert.AdamInOddRefIdeal.τ).loc Cert.AdamInOddRefIdeal.main_arg0) = m ((c.tc : Thread Cert.AdamInOddRefIdeal.nD Cert.AdamInOddRefIdeal.τ).loc Cert.AdamInOddRefIdeal.main_arg0)
      ∧ r.2.mem ((c.tc : Thread Cert.AdamInOddRefIdeal.nD Cert.AdamInOddRefIdeal.τ).loc Cert.AdamInOddRefIdeal.main_arg1) = m ((c.tc : Thread Cert.AdamInOddRefIdeal.nD Cert.AdamInOddRefIdeal.τ).loc Cert.AdamInOddRefIdeal.main_arg1)
      ∧ r.2.mem ((c.tc : Thread Cert.AdamInOddRefIdeal.nD Cert.AdamInOddRefIdeal.τ).loc Cert.AdamInOddRefIdeal.main_arg2) = m ((c.tc : Thread Cert.AdamInOddRefIdeal.nD Cert.AdamInOddRefIdeal.τ).loc Cert.AdamInOddRefIdeal.main_arg2)
      ∧ r.2.mem ((c.tc : Thread Cert.AdamInOddRefIdeal.nD Cert.AdamInOddRefIdeal.τ).loc Cert.AdamInOddRefIdeal.main_arg3) = m ((c.tc : Thread Cert.AdamInOddRefIdeal.nD Cert.AdamInOddRefIdeal.τ).loc Cert.AdamInOddRefIdeal.main_arg3))
      ∧ r.2.sem = fun _ => 0)

def quiescent_AdamPl [hAdamPl : Cert.AdamPl.Facts] : Prop :=
  ∀ (m : (ℓ : Loc Cert.AdamPl.nD Cert.AdamPl.τ Cert.AdamPl.sig) → Buf (Elt Bits) ℓ) (g : Dev Cert.AdamPl.nD → PrngReg), Pre_AdamPl m →
    θ_run (Cert.AdamPl.defs (F := Bits)) (onTc (τ := Cert.AdamPl.τ) (Cert.AdamPl.main (F := Bits))) ⟨m, fun _ => 0, g⟩ (fun r => (∀ c : Dev Cert.AdamPl.nD,
      r.2.mem ((c.tc : Thread Cert.AdamPl.nD Cert.AdamPl.τ).loc Cert.AdamPl.main_arg0) = m ((c.tc : Thread Cert.AdamPl.nD Cert.AdamPl.τ).loc Cert.AdamPl.main_arg0)
      ∧ r.2.mem ((c.tc : Thread Cert.AdamPl.nD Cert.AdamPl.τ).loc Cert.AdamPl.main_arg1) = m ((c.tc : Thread Cert.AdamPl.nD Cert.AdamPl.τ).loc Cert.AdamPl.main_arg1)
      ∧ r.2.mem ((c.tc : Thread Cert.AdamPl.nD Cert.AdamPl.τ).loc Cert.AdamPl.main_arg2) = m ((c.tc : Thread Cert.AdamPl.nD Cert.AdamPl.τ).loc Cert.AdamPl.main_arg2)
      ∧ r.2.mem ((c.tc : Thread Cert.AdamPl.nD Cert.AdamPl.τ).loc Cert.AdamPl.main_arg3) = m ((c.tc : Thread Cert.AdamPl.nD Cert.AdamPl.τ).loc Cert.AdamPl.main_arg3))
      ∧ r.2.sem = fun _ => 0)

def quiescent_AdamPlIdeal [hAdamPlIdeal : Cert.AdamPlIdeal.Facts] : Prop :=
  ∀ (m : (ℓ : Loc Cert.AdamPlIdeal.nD Cert.AdamPlIdeal.τ Cert.AdamPlIdeal.sig) → Buf (Elt Ideal) ℓ) (g : Dev Cert.AdamPlIdeal.nD → PrngReg), Pre_AdamPlIdeal m →
    θ_run (Cert.AdamPlIdeal.defs (F := Ideal)) (onTc (τ := Cert.AdamPlIdeal.τ) (Cert.AdamPlIdeal.main (F := Ideal))) ⟨m, fun _ => 0, g⟩ (fun r => (∀ c : Dev Cert.AdamPlIdeal.nD,
      r.2.mem ((c.tc : Thread Cert.AdamPlIdeal.nD Cert.AdamPlIdeal.τ).loc Cert.AdamPlIdeal.main_arg0) = m ((c.tc : Thread Cert.AdamPlIdeal.nD Cert.AdamPlIdeal.τ).loc Cert.AdamPlIdeal.main_arg0)
      ∧ r.2.mem ((c.tc : Thread Cert.AdamPlIdeal.nD Cert.AdamPlIdeal.τ).loc Cert.AdamPlIdeal.main_arg1) = m ((c.tc : Thread Cert.AdamPlIdeal.nD Cert.AdamPlIdeal.τ).loc Cert.AdamPlIdeal.main_arg1)
      ∧ r.2.mem ((c.tc : Thread Cert.AdamPlIdeal.nD Cert.AdamPlIdeal.τ).loc Cert.AdamPlIdeal.main_arg2) = m ((c.tc : Thread Cert.AdamPlIdeal.nD Cert.AdamPlIdeal.τ).loc Cert.AdamPlIdeal.main_arg2)
      ∧ r.2.mem ((c.tc : Thread Cert.AdamPlIdeal.nD Cert.AdamPlIdeal.τ).loc Cert.AdamPlIdeal.main_arg3) = m ((c.tc : Thread Cert.AdamPlIdeal.nD Cert.AdamPlIdeal.τ).loc Cert.AdamPlIdeal.main_arg3))
      ∧ r.2.sem = fun _ => 0)

def quiescent_AdamPlRefIdeal [hAdamPlRefIdeal : Cert.AdamPlRefIdeal.Facts] : Prop :=
  ∀ (m : (ℓ : Loc Cert.AdamPlRefIdeal.nD Cert.AdamPlRefIdeal.τ Cert.AdamPlRefIdeal.sig) → Buf (Elt Ideal) ℓ) (g : Dev Cert.AdamPlRefIdeal.nD → PrngReg), Pre_AdamPlRefIdeal m →
    θ_run (Cert.AdamPlRefIdeal.defs (F := Ideal)) (onTc (τ := Cert.AdamPlRefIdeal.τ) (Cert.AdamPlRefIdeal.main (F := Ideal))) ⟨m, fun _ => 0, g⟩ (fun r => (∀ c : Dev Cert.AdamPlRefIdeal.nD,
      r.2.mem ((c.tc : Thread Cert.AdamPlRefIdeal.nD Cert.AdamPlRefIdeal.τ).loc Cert.AdamPlRefIdeal.main_arg0) = m ((c.tc : Thread Cert.AdamPlRefIdeal.nD Cert.AdamPlRefIdeal.τ).loc Cert.AdamPlRefIdeal.main_arg0)
      ∧ r.2.mem ((c.tc : Thread Cert.AdamPlRefIdeal.nD Cert.AdamPlRefIdeal.τ).loc Cert.AdamPlRefIdeal.main_arg1) = m ((c.tc : Thread Cert.AdamPlRefIdeal.nD Cert.AdamPlRefIdeal.τ).loc Cert.AdamPlRefIdeal.main_arg1)
      ∧ r.2.mem ((c.tc : Thread Cert.AdamPlRefIdeal.nD Cert.AdamPlRefIdeal.τ).loc Cert.AdamPlRefIdeal.main_arg2) = m ((c.tc : Thread Cert.AdamPlRefIdeal.nD Cert.AdamPlRefIdeal.τ).loc Cert.AdamPlRefIdeal.main_arg2)
      ∧ r.2.mem ((c.tc : Thread Cert.AdamPlRefIdeal.nD Cert.AdamPlRefIdeal.τ).loc Cert.AdamPlRefIdeal.main_arg3) = m ((c.tc : Thread Cert.AdamPlRefIdeal.nD Cert.AdamPlRefIdeal.τ).loc Cert.AdamPlRefIdeal.main_arg3))
      ∧ r.2.sem = fun _ => 0)

def quiescent_AdamPlGate [hAdamPlGate : Cert.AdamPlGate.Facts] : Prop :=
  ∀ (m : (ℓ : Loc Cert.AdamPlGate.nD Cert.AdamPlGate.τ Cert.AdamPlGate.sig) → Buf (Elt Bits) ℓ) (g : Dev Cert.AdamPlGate.nD → PrngReg), Pre_AdamPlGate m →
    θ_run (Cert.AdamPlGate.defs (F := Bits)) (onTc (τ := Cert.AdamPlGate.τ) (Cert.AdamPlGate.main (F := Bits))) ⟨m, fun _ => 0, g⟩ (fun r => (∀ c : Dev Cert.AdamPlGate.nD,
      r.2.mem ((c.tc : Thread Cert.AdamPlGate.nD Cert.AdamPlGate.τ).loc Cert.AdamPlGate.main_arg0) = m ((c.tc : Thread Cert.AdamPlGate.nD Cert.AdamPlGate.τ).loc Cert.AdamPlGate.main_arg0)
      ∧ r.2.mem ((c.tc : Thread Cert.AdamPlGate.nD Cert.AdamPlGate.τ).loc Cert.AdamPlGate.main_arg1) = m ((c.tc : Thread Cert.AdamPlGate.nD Cert.AdamPlGate.τ).loc Cert.AdamPlGate.main_arg1)
      ∧ r.2.mem ((c.tc : Thread Cert.AdamPlGate.nD Cert.AdamPlGate.τ).loc Cert.AdamPlGate.main_arg2) = m ((c.tc : Thread Cert.AdamPlGate.nD Cert.AdamPlGate.τ).loc Cert.AdamPlGate.main_arg2)
      ∧ r.2.mem ((c.tc : Thread Cert.AdamPlGate.nD Cert.AdamPlGate.τ).loc Cert.AdamPlGate.main_arg3) = m ((c.tc : Thread Cert.AdamPlGate.nD Cert.AdamPlGate.τ).loc Cert.AdamPlGate.main_arg3))
      ∧ r.2.sem = fun _ => 0)

def quiescent_AdamPlGateIdeal [hAdamPlGateIdeal : Cert.AdamPlGateIdeal.Facts] : Prop :=
  ∀ (m : (ℓ : Loc Cert.AdamPlGateIdeal.nD Cert.AdamPlGateIdeal.τ Cert.AdamPlGateIdeal.sig) → Buf (Elt Ideal) ℓ) (g : Dev Cert.AdamPlGateIdeal.nD → PrngReg), Pre_AdamPlGateIdeal m →
    θ_run (Cert.AdamPlGateIdeal.defs (F := Ideal)) (onTc (τ := Cert.AdamPlGateIdeal.τ) (Cert.AdamPlGateIdeal.main (F := Ideal))) ⟨m, fun _ => 0, g⟩ (fun r => (∀ c : Dev Cert.AdamPlGateIdeal.nD,
      r.2.mem ((c.tc : Thread Cert.AdamPlGateIdeal.nD Cert.AdamPlGateIdeal.τ).loc Cert.AdamPlGateIdeal.main_arg0) = m ((c.tc : Thread Cert.AdamPlGateIdeal.nD Cert.AdamPlGateIdeal.τ).loc Cert.AdamPlGateIdeal.main_arg0)
      ∧ r.2.mem ((c.tc : Thread Cert.AdamPlGateIdeal.nD Cert.AdamPlGateIdeal.τ).loc Cert.AdamPlGateIdeal.main_arg1) = m ((c.tc : Thread Cert.AdamPlGateIdeal.nD Cert.AdamPlGateIdeal.τ).loc Cert.AdamPlGateIdeal.main_arg1)
      ∧ r.2.mem ((c.tc : Thread Cert.AdamPlGateIdeal.nD Cert.AdamPlGateIdeal.τ).loc Cert.AdamPlGateIdeal.main_arg2) = m ((c.tc : Thread Cert.AdamPlGateIdeal.nD Cert.AdamPlGateIdeal.τ).loc Cert.AdamPlGateIdeal.main_arg2)
      ∧ r.2.mem ((c.tc : Thread Cert.AdamPlGateIdeal.nD Cert.AdamPlGateIdeal.τ).loc Cert.AdamPlGateIdeal.main_arg3) = m ((c.tc : Thread Cert.AdamPlGateIdeal.nD Cert.AdamPlGateIdeal.τ).loc Cert.AdamPlGateIdeal.main_arg3))
      ∧ r.2.sem = fun _ => 0)

def quiescent_AdamPlGateRefIdeal [hAdamPlGateRefIdeal : Cert.AdamPlGateRefIdeal.Facts] : Prop :=
  ∀ (m : (ℓ : Loc Cert.AdamPlGateRefIdeal.nD Cert.AdamPlGateRefIdeal.τ Cert.AdamPlGateRefIdeal.sig) → Buf (Elt Ideal) ℓ) (g : Dev Cert.AdamPlGateRefIdeal.nD → PrngReg), Pre_AdamPlGateRefIdeal m →
    θ_run (Cert.AdamPlGateRefIdeal.defs (F := Ideal)) (onTc (τ := Cert.AdamPlGateRefIdeal.τ) (Cert.AdamPlGateRefIdeal.main (F := Ideal))) ⟨m, fun _ => 0, g⟩ (fun r => (∀ c : Dev Cert.AdamPlGateRefIdeal.nD,
      r.2.mem ((c.tc : Thread Cert.AdamPlGateRefIdeal.nD Cert.AdamPlGateRefIdeal.τ).loc Cert.AdamPlGateRefIdeal.main_arg0) = m ((c.tc : Thread Cert.AdamPlGateRefIdeal.nD Cert.AdamPlGateRefIdeal.τ).loc Cert.AdamPlGateRefIdeal.main_arg0)
      ∧ r.2.mem ((c.tc : Thread Cert.AdamPlGateRefIdeal.nD Cert.AdamPlGateRefIdeal.τ).loc Cert.AdamPlGateRefIdeal.main_arg1) = m ((c.tc : Thread Cert.AdamPlGateRefIdeal.nD Cert.AdamPlGateRefIdeal.τ).loc Cert.AdamPlGateRefIdeal.main_arg1)
      ∧ r.2.mem ((c.tc : Thread Cert.AdamPlGateRefIdeal.nD Cert.AdamPlGateRefIdeal.τ).loc Cert.AdamPlGateRefIdeal.main_arg2) = m ((c.tc : Thread Cert.AdamPlGateRefIdeal.nD Cert.AdamPlGateRefIdeal.τ).loc Cert.AdamPlGateRefIdeal.main_arg2)
      ∧ r.2.mem ((c.tc : Thread Cert.AdamPlGateRefIdeal.nD Cert.AdamPlGateRefIdeal.τ).loc Cert.AdamPlGateRefIdeal.main_arg3) = m ((c.tc : Thread Cert.AdamPlGateRefIdeal.nD Cert.AdamPlGateRefIdeal.τ).loc Cert.AdamPlGateRefIdeal.main_arg3))
      ∧ r.2.sem = fun _ => 0)

def quiescent_AdamInEven [hAdamInEven : Cert.AdamInEven.Facts] : Prop :=
  ∀ (m : (ℓ : Loc Cert.AdamInEven.nD Cert.AdamInEven.τ Cert.AdamInEven.sig) → Buf (Elt Bits) ℓ) (g : Dev Cert.AdamInEven.nD → PrngReg), Pre_AdamInEven m →
    θ_run (Cert.AdamInEven.defs (F := Bits)) (onTc (τ := Cert.AdamInEven.τ) (Cert.AdamInEven.main (F := Bits))) ⟨m, fun _ => 0, g⟩ (fun r => (∀ c : Dev Cert.AdamInEven.nD,
      r.2.mem ((c.tc : Thread Cert.AdamInEven.nD Cert.AdamInEven.τ).loc Cert.AdamInEven.main_arg0) = m ((c.tc : Thread Cert.AdamInEven.nD Cert.AdamInEven.τ).loc Cert.AdamInEven.main_arg0)
      ∧ r.2.mem ((c.tc : Thread Cert.AdamInEven.nD Cert.AdamInEven.τ).loc Cert.AdamInEven.main_arg1) = m ((c.tc : Thread Cert.AdamInEven.nD Cert.AdamInEven.τ).loc Cert.AdamInEven.main_arg1)
      ∧ r.2.mem ((c.tc : Thread Cert.AdamInEven.nD Cert.AdamInEven.τ).loc Cert.AdamInEven.main_arg2) = m ((c.tc : Thread Cert.AdamInEven.nD Cert.AdamInEven.τ).loc Cert.AdamInEven.main_arg2)
      ∧ r.2.mem ((c.tc : Thread Cert.AdamInEven.nD Cert.AdamInEven.τ).loc Cert.AdamInEven.main_arg3) = m ((c.tc : Thread Cert.AdamInEven.nD Cert.AdamInEven.τ).loc Cert.AdamInEven.main_arg3))
      ∧ r.2.sem = fun _ => 0)

def quiescent_AdamInEvenIdeal [hAdamInEvenIdeal : Cert.AdamInEvenIdeal.Facts] : Prop :=
  ∀ (m : (ℓ : Loc Cert.AdamInEvenIdeal.nD Cert.AdamInEvenIdeal.τ Cert.AdamInEvenIdeal.sig) → Buf (Elt Ideal) ℓ) (g : Dev Cert.AdamInEvenIdeal.nD → PrngReg), Pre_AdamInEvenIdeal m →
    θ_run (Cert.AdamInEvenIdeal.defs (F := Ideal)) (onTc (τ := Cert.AdamInEvenIdeal.τ) (Cert.AdamInEvenIdeal.main (F := Ideal))) ⟨m, fun _ => 0, g⟩ (fun r => (∀ c : Dev Cert.AdamInEvenIdeal.nD,
      r.2.mem ((c.tc : Thread Cert.AdamInEvenIdeal.nD Cert.AdamInEvenIdeal.τ).loc Cert.AdamInEvenIdeal.main_arg0) = m ((c.tc : Thread Cert.AdamInEvenIdeal.nD Cert.AdamInEvenIdeal.τ).loc Cert.AdamInEvenIdeal.main_arg0)
      ∧ r.2.mem ((c.tc : Thread Cert.AdamInEvenIdeal.nD Cert.AdamInEvenIdeal.τ).loc Cert.AdamInEvenIdeal.main_arg1) = m ((c.tc : Thread Cert.AdamInEvenIdeal.nD Cert.AdamInEvenIdeal.τ).loc Cert.AdamInEvenIdeal.main_arg1)
      ∧ r.2.mem ((c.tc : Thread Cert.AdamInEvenIdeal.nD Cert.AdamInEvenIdeal.τ).loc Cert.AdamInEvenIdeal.main_arg2) = m ((c.tc : Thread Cert.AdamInEvenIdeal.nD Cert.AdamInEvenIdeal.τ).loc Cert.AdamInEvenIdeal.main_arg2)
      ∧ r.2.mem ((c.tc : Thread Cert.AdamInEvenIdeal.nD Cert.AdamInEvenIdeal.τ).loc Cert.AdamInEvenIdeal.main_arg3) = m ((c.tc : Thread Cert.AdamInEvenIdeal.nD Cert.AdamInEvenIdeal.τ).loc Cert.AdamInEvenIdeal.main_arg3))
      ∧ r.2.sem = fun _ => 0)

def quiescent_AdamInEvenRefIdeal [hAdamInEvenRefIdeal : Cert.AdamInEvenRefIdeal.Facts] : Prop :=
  ∀ (m : (ℓ : Loc Cert.AdamInEvenRefIdeal.nD Cert.AdamInEvenRefIdeal.τ Cert.AdamInEvenRefIdeal.sig) → Buf (Elt Ideal) ℓ) (g : Dev Cert.AdamInEvenRefIdeal.nD → PrngReg), Pre_AdamInEvenRefIdeal m →
    θ_run (Cert.AdamInEvenRefIdeal.defs (F := Ideal)) (onTc (τ := Cert.AdamInEvenRefIdeal.τ) (Cert.AdamInEvenRefIdeal.main (F := Ideal))) ⟨m, fun _ => 0, g⟩ (fun r => (∀ c : Dev Cert.AdamInEvenRefIdeal.nD,
      r.2.mem ((c.tc : Thread Cert.AdamInEvenRefIdeal.nD Cert.AdamInEvenRefIdeal.τ).loc Cert.AdamInEvenRefIdeal.main_arg0) = m ((c.tc : Thread Cert.AdamInEvenRefIdeal.nD Cert.AdamInEvenRefIdeal.τ).loc Cert.AdamInEvenRefIdeal.main_arg0)
      ∧ r.2.mem ((c.tc : Thread Cert.AdamInEvenRefIdeal.nD Cert.AdamInEvenRefIdeal.τ).loc Cert.AdamInEvenRefIdeal.main_arg1) = m ((c.tc : Thread Cert.AdamInEvenRefIdeal.nD Cert.AdamInEvenRefIdeal.τ).loc Cert.AdamInEvenRefIdeal.main_arg1)
      ∧ r.2.mem ((c.tc : Thread Cert.AdamInEvenRefIdeal.nD Cert.AdamInEvenRefIdeal.τ).loc Cert.AdamInEvenRefIdeal.main_arg2) = m ((c.tc : Thread Cert.AdamInEvenRefIdeal.nD Cert.AdamInEvenRefIdeal.τ).loc Cert.AdamInEvenRefIdeal.main_arg2)
      ∧ r.2.mem ((c.tc : Thread Cert.AdamInEvenRefIdeal.nD Cert.AdamInEvenRefIdeal.τ).loc Cert.AdamInEvenRefIdeal.main_arg3) = m ((c.tc : Thread Cert.AdamInEvenRefIdeal.nD Cert.AdamInEvenRefIdeal.τ).loc Cert.AdamInEvenRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_ConvBwdQ [hConvBwdQ : Cert.ConvBwdQ.Facts] : Prop :=
  ∀ (m : (ℓ : Loc Cert.ConvBwdQ.nD Cert.ConvBwdQ.τ Cert.ConvBwdQ.sig) → Buf (Elt Bits) ℓ) (g : Dev Cert.ConvBwdQ.nD → PrngReg), Pre_ConvBwdQ m →
    θ_run (Cert.ConvBwdQ.defs (F := Bits)) (onTc (τ := Cert.ConvBwdQ.τ) (Cert.ConvBwdQ.main (F := Bits))) ⟨m, fun _ => 0, g⟩ (fun r => (∀ c : Dev Cert.ConvBwdQ.nD,
      r.2.mem ((c.tc : Thread Cert.ConvBwdQ.nD Cert.ConvBwdQ.τ).loc Cert.ConvBwdQ.main_arg0) = m ((c.tc : Thread Cert.ConvBwdQ.nD Cert.ConvBwdQ.τ).loc Cert.ConvBwdQ.main_arg0)
      ∧ r.2.mem ((c.tc : Thread Cert.ConvBwdQ.nD Cert.ConvBwdQ.τ).loc Cert.ConvBwdQ.main_arg1) = m ((c.tc : Thread Cert.ConvBwdQ.nD Cert.ConvBwdQ.τ).loc Cert.ConvBwdQ.main_arg1)
      ∧ r.2.mem ((c.tc : Thread Cert.ConvBwdQ.nD Cert.ConvBwdQ.τ).loc Cert.ConvBwdQ.main_arg2) = m ((c.tc : Thread Cert.ConvBwdQ.nD Cert.ConvBwdQ.τ).loc Cert.ConvBwdQ.main_arg2))
      ∧ r.2.sem = fun _ => 0)

def quiescent_ConvBwdQIdeal [hConvBwdQIdeal : Cert.ConvBwdQIdeal.Facts] : Prop :=
  ∀ (m : (ℓ : Loc Cert.ConvBwdQIdeal.nD Cert.ConvBwdQIdeal.τ Cert.ConvBwdQIdeal.sig) → Buf (Elt Ideal) ℓ) (g : Dev Cert.ConvBwdQIdeal.nD → PrngReg), Pre_ConvBwdQIdeal m →
    θ_run (Cert.ConvBwdQIdeal.defs (F := Ideal)) (onTc (τ := Cert.ConvBwdQIdeal.τ) (Cert.ConvBwdQIdeal.main (F := Ideal))) ⟨m, fun _ => 0, g⟩ (fun r => (∀ c : Dev Cert.ConvBwdQIdeal.nD,
      r.2.mem ((c.tc : Thread Cert.ConvBwdQIdeal.nD Cert.ConvBwdQIdeal.τ).loc Cert.ConvBwdQIdeal.main_arg0) = m ((c.tc : Thread Cert.ConvBwdQIdeal.nD Cert.ConvBwdQIdeal.τ).loc Cert.ConvBwdQIdeal.main_arg0)
      ∧ r.2.mem ((c.tc : Thread Cert.ConvBwdQIdeal.nD Cert.ConvBwdQIdeal.τ).loc Cert.ConvBwdQIdeal.main_arg1) = m ((c.tc : Thread Cert.ConvBwdQIdeal.nD Cert.ConvBwdQIdeal.τ).loc Cert.ConvBwdQIdeal.main_arg1)
      ∧ r.2.mem ((c.tc : Thread Cert.ConvBwdQIdeal.nD Cert.ConvBwdQIdeal.τ).loc Cert.ConvBwdQIdeal.main_arg2) = m ((c.tc : Thread Cert.ConvBwdQIdeal.nD Cert.ConvBwdQIdeal.τ).loc Cert.ConvBwdQIdeal.main_arg2))
      ∧ r.2.sem = fun _ => 0)

def quiescent_ConvBwdQRefIdeal [hConvBwdQRefIdeal : Cert.ConvBwdQRefIdeal.Facts] : Prop :=
  ∀ (m : (ℓ : Loc Cert.ConvBwdQRefIdeal.nD Cert.ConvBwdQRefIdeal.τ Cert.ConvBwdQRefIdeal.sig) → Buf (Elt Ideal) ℓ) (g : Dev Cert.ConvBwdQRefIdeal.nD → PrngReg), Pre_ConvBwdQRefIdeal m →
    θ_run (Cert.ConvBwdQRefIdeal.defs (F := Ideal)) (onTc (τ := Cert.ConvBwdQRefIdeal.τ) (Cert.ConvBwdQRefIdeal.main (F := Ideal))) ⟨m, fun _ => 0, g⟩ (fun r => (∀ c : Dev Cert.ConvBwdQRefIdeal.nD,
      r.2.mem ((c.tc : Thread Cert.ConvBwdQRefIdeal.nD Cert.ConvBwdQRefIdeal.τ).loc Cert.ConvBwdQRefIdeal.main_arg0) = m ((c.tc : Thread Cert.ConvBwdQRefIdeal.nD Cert.ConvBwdQRefIdeal.τ).loc Cert.ConvBwdQRefIdeal.main_arg0)
      ∧ r.2.mem ((c.tc : Thread Cert.ConvBwdQRefIdeal.nD Cert.ConvBwdQRefIdeal.τ).loc Cert.ConvBwdQRefIdeal.main_arg1) = m ((c.tc : Thread Cert.ConvBwdQRefIdeal.nD Cert.ConvBwdQRefIdeal.τ).loc Cert.ConvBwdQRefIdeal.main_arg1)
      ∧ r.2.mem ((c.tc : Thread Cert.ConvBwdQRefIdeal.nD Cert.ConvBwdQRefIdeal.τ).loc Cert.ConvBwdQRefIdeal.main_arg2) = m ((c.tc : Thread Cert.ConvBwdQRefIdeal.nD Cert.ConvBwdQRefIdeal.τ).loc Cert.ConvBwdQRefIdeal.main_arg2))
      ∧ r.2.sem = fun _ => 0)

def quiescent_ConvBwdK [hConvBwdK : Cert.ConvBwdK.Facts] : Prop :=
  ∀ (m : (ℓ : Loc Cert.ConvBwdK.nD Cert.ConvBwdK.τ Cert.ConvBwdK.sig) → Buf (Elt Bits) ℓ) (g : Dev Cert.ConvBwdK.nD → PrngReg), Pre_ConvBwdK m →
    θ_run (Cert.ConvBwdK.defs (F := Bits)) (onTc (τ := Cert.ConvBwdK.τ) (Cert.ConvBwdK.main (F := Bits))) ⟨m, fun _ => 0, g⟩ (fun r => (∀ c : Dev Cert.ConvBwdK.nD,
      r.2.mem ((c.tc : Thread Cert.ConvBwdK.nD Cert.ConvBwdK.τ).loc Cert.ConvBwdK.main_arg0) = m ((c.tc : Thread Cert.ConvBwdK.nD Cert.ConvBwdK.τ).loc Cert.ConvBwdK.main_arg0)
      ∧ r.2.mem ((c.tc : Thread Cert.ConvBwdK.nD Cert.ConvBwdK.τ).loc Cert.ConvBwdK.main_arg1) = m ((c.tc : Thread Cert.ConvBwdK.nD Cert.ConvBwdK.τ).loc Cert.ConvBwdK.main_arg1)
      ∧ r.2.mem ((c.tc : Thread Cert.ConvBwdK.nD Cert.ConvBwdK.τ).loc Cert.ConvBwdK.main_arg2) = m ((c.tc : Thread Cert.ConvBwdK.nD Cert.ConvBwdK.τ).loc Cert.ConvBwdK.main_arg2))
      ∧ r.2.sem = fun _ => 0)

def quiescent_ConvBwdKIdeal [hConvBwdKIdeal : Cert.ConvBwdKIdeal.Facts] : Prop :=
  ∀ (m : (ℓ : Loc Cert.ConvBwdKIdeal.nD Cert.ConvBwdKIdeal.τ Cert.ConvBwdKIdeal.sig) → Buf (Elt Ideal) ℓ) (g : Dev Cert.ConvBwdKIdeal.nD → PrngReg), Pre_ConvBwdKIdeal m →
    θ_run (Cert.ConvBwdKIdeal.defs (F := Ideal)) (onTc (τ := Cert.ConvBwdKIdeal.τ) (Cert.ConvBwdKIdeal.main (F := Ideal))) ⟨m, fun _ => 0, g⟩ (fun r => (∀ c : Dev Cert.ConvBwdKIdeal.nD,
      r.2.mem ((c.tc : Thread Cert.ConvBwdKIdeal.nD Cert.ConvBwdKIdeal.τ).loc Cert.ConvBwdKIdeal.main_arg0) = m ((c.tc : Thread Cert.ConvBwdKIdeal.nD Cert.ConvBwdKIdeal.τ).loc Cert.ConvBwdKIdeal.main_arg0)
      ∧ r.2.mem ((c.tc : Thread Cert.ConvBwdKIdeal.nD Cert.ConvBwdKIdeal.τ).loc Cert.ConvBwdKIdeal.main_arg1) = m ((c.tc : Thread Cert.ConvBwdKIdeal.nD Cert.ConvBwdKIdeal.τ).loc Cert.ConvBwdKIdeal.main_arg1)
      ∧ r.2.mem ((c.tc : Thread Cert.ConvBwdKIdeal.nD Cert.ConvBwdKIdeal.τ).loc Cert.ConvBwdKIdeal.main_arg2) = m ((c.tc : Thread Cert.ConvBwdKIdeal.nD Cert.ConvBwdKIdeal.τ).loc Cert.ConvBwdKIdeal.main_arg2))
      ∧ r.2.sem = fun _ => 0)

def quiescent_ConvBwdKRefIdeal [hConvBwdKRefIdeal : Cert.ConvBwdKRefIdeal.Facts] : Prop :=
  ∀ (m : (ℓ : Loc Cert.ConvBwdKRefIdeal.nD Cert.ConvBwdKRefIdeal.τ Cert.ConvBwdKRefIdeal.sig) → Buf (Elt Ideal) ℓ) (g : Dev Cert.ConvBwdKRefIdeal.nD → PrngReg), Pre_ConvBwdKRefIdeal m →
    θ_run (Cert.ConvBwdKRefIdeal.defs (F := Ideal)) (onTc (τ := Cert.ConvBwdKRefIdeal.τ) (Cert.ConvBwdKRefIdeal.main (F := Ideal))) ⟨m, fun _ => 0, g⟩ (fun r => (∀ c : Dev Cert.ConvBwdKRefIdeal.nD,
      r.2.mem ((c.tc : Thread Cert.ConvBwdKRefIdeal.nD Cert.ConvBwdKRefIdeal.τ).loc Cert.ConvBwdKRefIdeal.main_arg0) = m ((c.tc : Thread Cert.ConvBwdKRefIdeal.nD Cert.ConvBwdKRefIdeal.τ).loc Cert.ConvBwdKRefIdeal.main_arg0)
      ∧ r.2.mem ((c.tc : Thread Cert.ConvBwdKRefIdeal.nD Cert.ConvBwdKRefIdeal.τ).loc Cert.ConvBwdKRefIdeal.main_arg1) = m ((c.tc : Thread Cert.ConvBwdKRefIdeal.nD Cert.ConvBwdKRefIdeal.τ).loc Cert.ConvBwdKRefIdeal.main_arg1)
      ∧ r.2.mem ((c.tc : Thread Cert.ConvBwdKRefIdeal.nD Cert.ConvBwdKRefIdeal.τ).loc Cert.ConvBwdKRefIdeal.main_arg2) = m ((c.tc : Thread Cert.ConvBwdKRefIdeal.nD Cert.ConvBwdKRefIdeal.τ).loc Cert.ConvBwdKRefIdeal.main_arg2))
      ∧ r.2.sem = fun _ => 0)

def quiescent_ConvBwdV [hConvBwdV : Cert.ConvBwdV.Facts] : Prop :=
  ∀ (m : (ℓ : Loc Cert.ConvBwdV.nD Cert.ConvBwdV.τ Cert.ConvBwdV.sig) → Buf (Elt Bits) ℓ) (g : Dev Cert.ConvBwdV.nD → PrngReg), Pre_ConvBwdV m →
    θ_run (Cert.ConvBwdV.defs (F := Bits)) (onTc (τ := Cert.ConvBwdV.τ) (Cert.ConvBwdV.main (F := Bits))) ⟨m, fun _ => 0, g⟩ (fun r => (∀ c : Dev Cert.ConvBwdV.nD,
      r.2.mem ((c.tc : Thread Cert.ConvBwdV.nD Cert.ConvBwdV.τ).loc Cert.ConvBwdV.main_arg0) = m ((c.tc : Thread Cert.ConvBwdV.nD Cert.ConvBwdV.τ).loc Cert.ConvBwdV.main_arg0)
      ∧ r.2.mem ((c.tc : Thread Cert.ConvBwdV.nD Cert.ConvBwdV.τ).loc Cert.ConvBwdV.main_arg1) = m ((c.tc : Thread Cert.ConvBwdV.nD Cert.ConvBwdV.τ).loc Cert.ConvBwdV.main_arg1)
      ∧ r.2.mem ((c.tc : Thread Cert.ConvBwdV.nD Cert.ConvBwdV.τ).loc Cert.ConvBwdV.main_arg2) = m ((c.tc : Thread Cert.ConvBwdV.nD Cert.ConvBwdV.τ).loc Cert.ConvBwdV.main_arg2))
      ∧ r.2.sem = fun _ => 0)

def quiescent_ConvBwdVIdeal [hConvBwdVIdeal : Cert.ConvBwdVIdeal.Facts] : Prop :=
  ∀ (m : (ℓ : Loc Cert.ConvBwdVIdeal.nD Cert.ConvBwdVIdeal.τ Cert.ConvBwdVIdeal.sig) → Buf (Elt Ideal) ℓ) (g : Dev Cert.ConvBwdVIdeal.nD → PrngReg), Pre_ConvBwdVIdeal m →
    θ_run (Cert.ConvBwdVIdeal.defs (F := Ideal)) (onTc (τ := Cert.ConvBwdVIdeal.τ) (Cert.ConvBwdVIdeal.main (F := Ideal))) ⟨m, fun _ => 0, g⟩ (fun r => (∀ c : Dev Cert.ConvBwdVIdeal.nD,
      r.2.mem ((c.tc : Thread Cert.ConvBwdVIdeal.nD Cert.ConvBwdVIdeal.τ).loc Cert.ConvBwdVIdeal.main_arg0) = m ((c.tc : Thread Cert.ConvBwdVIdeal.nD Cert.ConvBwdVIdeal.τ).loc Cert.ConvBwdVIdeal.main_arg0)
      ∧ r.2.mem ((c.tc : Thread Cert.ConvBwdVIdeal.nD Cert.ConvBwdVIdeal.τ).loc Cert.ConvBwdVIdeal.main_arg1) = m ((c.tc : Thread Cert.ConvBwdVIdeal.nD Cert.ConvBwdVIdeal.τ).loc Cert.ConvBwdVIdeal.main_arg1)
      ∧ r.2.mem ((c.tc : Thread Cert.ConvBwdVIdeal.nD Cert.ConvBwdVIdeal.τ).loc Cert.ConvBwdVIdeal.main_arg2) = m ((c.tc : Thread Cert.ConvBwdVIdeal.nD Cert.ConvBwdVIdeal.τ).loc Cert.ConvBwdVIdeal.main_arg2))
      ∧ r.2.sem = fun _ => 0)

def quiescent_ConvBwdVRefIdeal [hConvBwdVRefIdeal : Cert.ConvBwdVRefIdeal.Facts] : Prop :=
  ∀ (m : (ℓ : Loc Cert.ConvBwdVRefIdeal.nD Cert.ConvBwdVRefIdeal.τ Cert.ConvBwdVRefIdeal.sig) → Buf (Elt Ideal) ℓ) (g : Dev Cert.ConvBwdVRefIdeal.nD → PrngReg), Pre_ConvBwdVRefIdeal m →
    θ_run (Cert.ConvBwdVRefIdeal.defs (F := Ideal)) (onTc (τ := Cert.ConvBwdVRefIdeal.τ) (Cert.ConvBwdVRefIdeal.main (F := Ideal))) ⟨m, fun _ => 0, g⟩ (fun r => (∀ c : Dev Cert.ConvBwdVRefIdeal.nD,
      r.2.mem ((c.tc : Thread Cert.ConvBwdVRefIdeal.nD Cert.ConvBwdVRefIdeal.τ).loc Cert.ConvBwdVRefIdeal.main_arg0) = m ((c.tc : Thread Cert.ConvBwdVRefIdeal.nD Cert.ConvBwdVRefIdeal.τ).loc Cert.ConvBwdVRefIdeal.main_arg0)
      ∧ r.2.mem ((c.tc : Thread Cert.ConvBwdVRefIdeal.nD Cert.ConvBwdVRefIdeal.τ).loc Cert.ConvBwdVRefIdeal.main_arg1) = m ((c.tc : Thread Cert.ConvBwdVRefIdeal.nD Cert.ConvBwdVRefIdeal.τ).loc Cert.ConvBwdVRefIdeal.main_arg1)
      ∧ r.2.mem ((c.tc : Thread Cert.ConvBwdVRefIdeal.nD Cert.ConvBwdVRefIdeal.τ).loc Cert.ConvBwdVRefIdeal.main_arg2) = m ((c.tc : Thread Cert.ConvBwdVRefIdeal.nD Cert.ConvBwdVRefIdeal.τ).loc Cert.ConvBwdVRefIdeal.main_arg2))
      ∧ r.2.sem = fun _ => 0)

def quiescent_LnplFwd [hLnplFwd : Cert.LnplFwd.Facts] : Prop :=
  ∀ (m : (ℓ : Loc Cert.LnplFwd.nD Cert.LnplFwd.τ Cert.LnplFwd.sig) → Buf (Elt Bits) ℓ) (g : Dev Cert.LnplFwd.nD → PrngReg), Pre_LnplFwd m →
    θ_run (Cert.LnplFwd.defs (F := Bits)) (onTc (τ := Cert.LnplFwd.τ) (Cert.LnplFwd.main (F := Bits))) ⟨m, fun _ => 0, g⟩ (fun r => (∀ c : Dev Cert.LnplFwd.nD,
      r.2.mem ((c.tc : Thread Cert.LnplFwd.nD Cert.LnplFwd.τ).loc Cert.LnplFwd.main_arg0) = m ((c.tc : Thread Cert.LnplFwd.nD Cert.LnplFwd.τ).loc Cert.LnplFwd.main_arg0)
      ∧ r.2.mem ((c.tc : Thread Cert.LnplFwd.nD Cert.LnplFwd.τ).loc Cert.LnplFwd.main_arg1) = m ((c.tc : Thread Cert.LnplFwd.nD Cert.LnplFwd.τ).loc Cert.LnplFwd.main_arg1)
      ∧ r.2.mem ((c.tc : Thread Cert.LnplFwd.nD Cert.LnplFwd.τ).loc Cert.LnplFwd.main_arg2) = m ((c.tc : Thread Cert.LnplFwd.nD Cert.LnplFwd.τ).loc Cert.LnplFwd.main_arg2)
      ∧ r.2.mem ((c.tc : Thread Cert.LnplFwd.nD Cert.LnplFwd.τ).loc Cert.LnplFwd.main_arg3) = m ((c.tc : Thread Cert.LnplFwd.nD Cert.LnplFwd.τ).loc Cert.LnplFwd.main_arg3)
      ∧ r.2.mem ((c.tc : Thread Cert.LnplFwd.nD Cert.LnplFwd.τ).loc Cert.LnplFwd.main_arg4) = m ((c.tc : Thread Cert.LnplFwd.nD Cert.LnplFwd.τ).loc Cert.LnplFwd.main_arg4)
      ∧ r.2.mem ((c.tc : Thread Cert.LnplFwd.nD Cert.LnplFwd.τ).loc Cert.LnplFwd.main_arg5) = m ((c.tc : Thread Cert.LnplFwd.nD Cert.LnplFwd.τ).loc Cert.LnplFwd.main_arg5)
      ∧ r.2.mem ((c.tc : Thread Cert.LnplFwd.nD Cert.LnplFwd.τ).loc Cert.LnplFwd.main_arg6) = m ((c.tc : Thread Cert.LnplFwd.nD Cert.LnplFwd.τ).loc Cert.LnplFwd.main_arg6))
      ∧ r.2.sem = fun _ => 0)

def quiescent_LnplFwdIdeal [hLnplFwdIdeal : Cert.LnplFwdIdeal.Facts] : Prop :=
  ∀ (m : (ℓ : Loc Cert.LnplFwdIdeal.nD Cert.LnplFwdIdeal.τ Cert.LnplFwdIdeal.sig) → Buf (Elt Ideal) ℓ) (g : Dev Cert.LnplFwdIdeal.nD → PrngReg), Pre_LnplFwdIdeal m →
    θ_run (Cert.LnplFwdIdeal.defs (F := Ideal)) (onTc (τ := Cert.LnplFwdIdeal.τ) (Cert.LnplFwdIdeal.main (F := Ideal))) ⟨m, fun _ => 0, g⟩ (fun r => (∀ c : Dev Cert.LnplFwdIdeal.nD,
      r.2.mem ((c.tc : Thread Cert.LnplFwdIdeal.nD Cert.LnplFwdIdeal.τ).loc Cert.LnplFwdIdeal.main_arg0) = m ((c.tc : Thread Cert.LnplFwdIdeal.nD Cert.LnplFwdIdeal.τ).loc Cert.LnplFwdIdeal.main_arg0)
      ∧ r.2.mem ((c.tc : Thread Cert.LnplFwdIdeal.nD Cert.LnplFwdIdeal.τ).loc Cert.LnplFwdIdeal.main_arg1) = m ((c.tc : Thread Cert.LnplFwdIdeal.nD Cert.LnplFwdIdeal.τ).loc Cert.LnplFwdIdeal.main_arg1)
      ∧ r.2.mem ((c.tc : Thread Cert.LnplFwdIdeal.nD Cert.LnplFwdIdeal.τ).loc Cert.LnplFwdIdeal.main_arg2) = m ((c.tc : Thread Cert.LnplFwdIdeal.nD Cert.LnplFwdIdeal.τ).loc Cert.LnplFwdIdeal.main_arg2)
      ∧ r.2.mem ((c.tc : Thread Cert.LnplFwdIdeal.nD Cert.LnplFwdIdeal.τ).loc Cert.LnplFwdIdeal.main_arg3) = m ((c.tc : Thread Cert.LnplFwdIdeal.nD Cert.LnplFwdIdeal.τ).loc Cert.LnplFwdIdeal.main_arg3)
      ∧ r.2.mem ((c.tc : Thread Cert.LnplFwdIdeal.nD Cert.LnplFwdIdeal.τ).loc Cert.LnplFwdIdeal.main_arg4) = m ((c.tc : Thread Cert.LnplFwdIdeal.nD Cert.LnplFwdIdeal.τ).loc Cert.LnplFwdIdeal.main_arg4)
      ∧ r.2.mem ((c.tc : Thread Cert.LnplFwdIdeal.nD Cert.LnplFwdIdeal.τ).loc Cert.LnplFwdIdeal.main_arg5) = m ((c.tc : Thread Cert.LnplFwdIdeal.nD Cert.LnplFwdIdeal.τ).loc Cert.LnplFwdIdeal.main_arg5)
      ∧ r.2.mem ((c.tc : Thread Cert.LnplFwdIdeal.nD Cert.LnplFwdIdeal.τ).loc Cert.LnplFwdIdeal.main_arg6) = m ((c.tc : Thread Cert.LnplFwdIdeal.nD Cert.LnplFwdIdeal.τ).loc Cert.LnplFwdIdeal.main_arg6))
      ∧ r.2.sem = fun _ => 0)

def quiescent_LnplFwdRefIdeal [hLnplFwdRefIdeal : Cert.LnplFwdRefIdeal.Facts] : Prop :=
  ∀ (m : (ℓ : Loc Cert.LnplFwdRefIdeal.nD Cert.LnplFwdRefIdeal.τ Cert.LnplFwdRefIdeal.sig) → Buf (Elt Ideal) ℓ) (g : Dev Cert.LnplFwdRefIdeal.nD → PrngReg), Pre_LnplFwdRefIdeal m →
    θ_run (Cert.LnplFwdRefIdeal.defs (F := Ideal)) (onTc (τ := Cert.LnplFwdRefIdeal.τ) (Cert.LnplFwdRefIdeal.main (F := Ideal))) ⟨m, fun _ => 0, g⟩ (fun r => (∀ c : Dev Cert.LnplFwdRefIdeal.nD,
      r.2.mem ((c.tc : Thread Cert.LnplFwdRefIdeal.nD Cert.LnplFwdRefIdeal.τ).loc Cert.LnplFwdRefIdeal.main_arg0) = m ((c.tc : Thread Cert.LnplFwdRefIdeal.nD Cert.LnplFwdRefIdeal.τ).loc Cert.LnplFwdRefIdeal.main_arg0)
      ∧ r.2.mem ((c.tc : Thread Cert.LnplFwdRefIdeal.nD Cert.LnplFwdRefIdeal.τ).loc Cert.LnplFwdRefIdeal.main_arg1) = m ((c.tc : Thread Cert.LnplFwdRefIdeal.nD Cert.LnplFwdRefIdeal.τ).loc Cert.LnplFwdRefIdeal.main_arg1)
      ∧ r.2.mem ((c.tc : Thread Cert.LnplFwdRefIdeal.nD Cert.LnplFwdRefIdeal.τ).loc Cert.LnplFwdRefIdeal.main_arg2) = m ((c.tc : Thread Cert.LnplFwdRefIdeal.nD Cert.LnplFwdRefIdeal.τ).loc Cert.LnplFwdRefIdeal.main_arg2)
      ∧ r.2.mem ((c.tc : Thread Cert.LnplFwdRefIdeal.nD Cert.LnplFwdRefIdeal.τ).loc Cert.LnplFwdRefIdeal.main_arg3) = m ((c.tc : Thread Cert.LnplFwdRefIdeal.nD Cert.LnplFwdRefIdeal.τ).loc Cert.LnplFwdRefIdeal.main_arg3)
      ∧ r.2.mem ((c.tc : Thread Cert.LnplFwdRefIdeal.nD Cert.LnplFwdRefIdeal.τ).loc Cert.LnplFwdRefIdeal.main_arg4) = m ((c.tc : Thread Cert.LnplFwdRefIdeal.nD Cert.LnplFwdRefIdeal.τ).loc Cert.LnplFwdRefIdeal.main_arg4)
      ∧ r.2.mem ((c.tc : Thread Cert.LnplFwdRefIdeal.nD Cert.LnplFwdRefIdeal.τ).loc Cert.LnplFwdRefIdeal.main_arg5) = m ((c.tc : Thread Cert.LnplFwdRefIdeal.nD Cert.LnplFwdRefIdeal.τ).loc Cert.LnplFwdRefIdeal.main_arg5)
      ∧ r.2.mem ((c.tc : Thread Cert.LnplFwdRefIdeal.nD Cert.LnplFwdRefIdeal.τ).loc Cert.LnplFwdRefIdeal.main_arg6) = m ((c.tc : Thread Cert.LnplFwdRefIdeal.nD Cert.LnplFwdRefIdeal.τ).loc Cert.LnplFwdRefIdeal.main_arg6))
      ∧ r.2.sem = fun _ => 0)

def quiescent_ConvAFwd [hConvAFwd : Cert.ConvAFwd.Facts] : Prop :=
  ∀ (m : (ℓ : Loc Cert.ConvAFwd.nD Cert.ConvAFwd.τ Cert.ConvAFwd.sig) → Buf (Elt Bits) ℓ) (g : Dev Cert.ConvAFwd.nD → PrngReg), Pre_ConvAFwd m →
    θ_run (Cert.ConvAFwd.defs (F := Bits)) (onTc (τ := Cert.ConvAFwd.τ) (Cert.ConvAFwd.main (F := Bits))) ⟨m, fun _ => 0, g⟩ (fun r => (∀ c : Dev Cert.ConvAFwd.nD,
      r.2.mem ((c.tc : Thread Cert.ConvAFwd.nD Cert.ConvAFwd.τ).loc Cert.ConvAFwd.main_arg0) = m ((c.tc : Thread Cert.ConvAFwd.nD Cert.ConvAFwd.τ).loc Cert.ConvAFwd.main_arg0)
      ∧ r.2.mem ((c.tc : Thread Cert.ConvAFwd.nD Cert.ConvAFwd.τ).loc Cert.ConvAFwd.main_arg1) = m ((c.tc : Thread Cert.ConvAFwd.nD Cert.ConvAFwd.τ).loc Cert.ConvAFwd.main_arg1))
      ∧ r.2.sem = fun _ => 0)

def quiescent_ConvAFwdIdeal [hConvAFwdIdeal : Cert.ConvAFwdIdeal.Facts] : Prop :=
  ∀ (m : (ℓ : Loc Cert.ConvAFwdIdeal.nD Cert.ConvAFwdIdeal.τ Cert.ConvAFwdIdeal.sig) → Buf (Elt Ideal) ℓ) (g : Dev Cert.ConvAFwdIdeal.nD → PrngReg), Pre_ConvAFwdIdeal m →
    θ_run (Cert.ConvAFwdIdeal.defs (F := Ideal)) (onTc (τ := Cert.ConvAFwdIdeal.τ) (Cert.ConvAFwdIdeal.main (F := Ideal))) ⟨m, fun _ => 0, g⟩ (fun r => (∀ c : Dev Cert.ConvAFwdIdeal.nD,
      r.2.mem ((c.tc : Thread Cert.ConvAFwdIdeal.nD Cert.ConvAFwdIdeal.τ).loc Cert.ConvAFwdIdeal.main_arg0) = m ((c.tc : Thread Cert.ConvAFwdIdeal.nD Cert.ConvAFwdIdeal.τ).loc Cert.ConvAFwdIdeal.main_arg0)
      ∧ r.2.mem ((c.tc : Thread Cert.ConvAFwdIdeal.nD Cert.ConvAFwdIdeal.τ).loc Cert.ConvAFwdIdeal.main_arg1) = m ((c.tc : Thread Cert.ConvAFwdIdeal.nD Cert.ConvAFwdIdeal.τ).loc Cert.ConvAFwdIdeal.main_arg1))
      ∧ r.2.sem = fun _ => 0)

def quiescent_ConvAFwdRefIdeal [hConvAFwdRefIdeal : Cert.ConvAFwdRefIdeal.Facts] : Prop :=
  ∀ (m : (ℓ : Loc Cert.ConvAFwdRefIdeal.nD Cert.ConvAFwdRefIdeal.τ Cert.ConvAFwdRefIdeal.sig) → Buf (Elt Ideal) ℓ) (g : Dev Cert.ConvAFwdRefIdeal.nD → PrngReg), Pre_ConvAFwdRefIdeal m →
    θ_run (Cert.ConvAFwdRefIdeal.defs (F := Ideal)) (onTc (τ := Cert.ConvAFwdRefIdeal.τ) (Cert.ConvAFwdRefIdeal.main (F := Ideal))) ⟨m, fun _ => 0, g⟩ (fun r => (∀ c : Dev Cert.ConvAFwdRefIdeal.nD,
      r.2.mem ((c.tc : Thread Cert.ConvAFwdRefIdeal.nD Cert.ConvAFwdRefIdeal.τ).loc Cert.ConvAFwdRefIdeal.main_arg0) = m ((c.tc : Thread Cert.ConvAFwdRefIdeal.nD Cert.ConvAFwdRefIdeal.τ).loc Cert.ConvAFwdRefIdeal.main_arg0)
      ∧ r.2.mem ((c.tc : Thread Cert.ConvAFwdRefIdeal.nD Cert.ConvAFwdRefIdeal.τ).loc Cert.ConvAFwdRefIdeal.main_arg1) = m ((c.tc : Thread Cert.ConvAFwdRefIdeal.nD Cert.ConvAFwdRefIdeal.τ).loc Cert.ConvAFwdRefIdeal.main_arg1))
      ∧ r.2.sem = fun _ => 0)

def quiescent_ConvBFwd [hConvBFwd : Cert.ConvBFwd.Facts] : Prop :=
  ∀ (m : (ℓ : Loc Cert.ConvBFwd.nD Cert.ConvBFwd.τ Cert.ConvBFwd.sig) → Buf (Elt Bits) ℓ) (g : Dev Cert.ConvBFwd.nD → PrngReg), Pre_ConvBFwd m →
    θ_run (Cert.ConvBFwd.defs (F := Bits)) (onTc (τ := Cert.ConvBFwd.τ) (Cert.ConvBFwd.main (F := Bits))) ⟨m, fun _ => 0, g⟩ (fun r => (∀ c : Dev Cert.ConvBFwd.nD,
      r.2.mem ((c.tc : Thread Cert.ConvBFwd.nD Cert.ConvBFwd.τ).loc Cert.ConvBFwd.main_arg0) = m ((c.tc : Thread Cert.ConvBFwd.nD Cert.ConvBFwd.τ).loc Cert.ConvBFwd.main_arg0)
      ∧ r.2.mem ((c.tc : Thread Cert.ConvBFwd.nD Cert.ConvBFwd.τ).loc Cert.ConvBFwd.main_arg1) = m ((c.tc : Thread Cert.ConvBFwd.nD Cert.ConvBFwd.τ).loc Cert.ConvBFwd.main_arg1))
      ∧ r.2.sem = fun _ => 0)

def quiescent_ConvBFwdIdeal [hConvBFwdIdeal : Cert.ConvBFwdIdeal.Facts] : Prop :=
  ∀ (m : (ℓ : Loc Cert.ConvBFwdIdeal.nD Cert.ConvBFwdIdeal.τ Cert.ConvBFwdIdeal.sig) → Buf (Elt Ideal) ℓ) (g : Dev Cert.ConvBFwdIdeal.nD → PrngReg), Pre_ConvBFwdIdeal m →
    θ_run (Cert.ConvBFwdIdeal.defs (F := Ideal)) (onTc (τ := Cert.ConvBFwdIdeal.τ) (Cert.ConvBFwdIdeal.main (F := Ideal))) ⟨m, fun _ => 0, g⟩ (fun r => (∀ c : Dev Cert.ConvBFwdIdeal.nD,
      r.2.mem ((c.tc : Thread Cert.ConvBFwdIdeal.nD Cert.ConvBFwdIdeal.τ).loc Cert.ConvBFwdIdeal.main_arg0) = m ((c.tc : Thread Cert.ConvBFwdIdeal.nD Cert.ConvBFwdIdeal.τ).loc Cert.ConvBFwdIdeal.main_arg0)
      ∧ r.2.mem ((c.tc : Thread Cert.ConvBFwdIdeal.nD Cert.ConvBFwdIdeal.τ).loc Cert.ConvBFwdIdeal.main_arg1) = m ((c.tc : Thread Cert.ConvBFwdIdeal.nD Cert.ConvBFwdIdeal.τ).loc Cert.ConvBFwdIdeal.main_arg1))
      ∧ r.2.sem = fun _ => 0)

def quiescent_ConvBFwdRefIdeal [hConvBFwdRefIdeal : Cert.ConvBFwdRefIdeal.Facts] : Prop :=
  ∀ (m : (ℓ : Loc Cert.ConvBFwdRefIdeal.nD Cert.ConvBFwdRefIdeal.τ Cert.ConvBFwdRefIdeal.sig) → Buf (Elt Ideal) ℓ) (g : Dev Cert.ConvBFwdRefIdeal.nD → PrngReg), Pre_ConvBFwdRefIdeal m →
    θ_run (Cert.ConvBFwdRefIdeal.defs (F := Ideal)) (onTc (τ := Cert.ConvBFwdRefIdeal.τ) (Cert.ConvBFwdRefIdeal.main (F := Ideal))) ⟨m, fun _ => 0, g⟩ (fun r => (∀ c : Dev Cert.ConvBFwdRefIdeal.nD,
      r.2.mem ((c.tc : Thread Cert.ConvBFwdRefIdeal.nD Cert.ConvBFwdRefIdeal.τ).loc Cert.ConvBFwdRefIdeal.main_arg0) = m ((c.tc : Thread Cert.ConvBFwdRefIdeal.nD Cert.ConvBFwdRefIdeal.τ).loc Cert.ConvBFwdRefIdeal.main_arg0)
      ∧ r.2.mem ((c.tc : Thread Cert.ConvBFwdRefIdeal.nD Cert.ConvBFwdRefIdeal.τ).loc Cert.ConvBFwdRefIdeal.main_arg1) = m ((c.tc : Thread Cert.ConvBFwdRefIdeal.nD Cert.ConvBFwdRefIdeal.τ).loc Cert.ConvBFwdRefIdeal.main_arg1))
      ∧ r.2.sem = fun _ => 0)

def quiescent_ConvABwd [hConvABwd : Cert.ConvABwd.Facts] : Prop :=
  ∀ (m : (ℓ : Loc Cert.ConvABwd.nD Cert.ConvABwd.τ Cert.ConvABwd.sig) → Buf (Elt Bits) ℓ) (g : Dev Cert.ConvABwd.nD → PrngReg), Pre_ConvABwd m →
    θ_run (Cert.ConvABwd.defs (F := Bits)) (onTc (τ := Cert.ConvABwd.τ) (Cert.ConvABwd.main (F := Bits))) ⟨m, fun _ => 0, g⟩ (fun r => (∀ c : Dev Cert.ConvABwd.nD,
      r.2.mem ((c.tc : Thread Cert.ConvABwd.nD Cert.ConvABwd.τ).loc Cert.ConvABwd.main_arg0) = m ((c.tc : Thread Cert.ConvABwd.nD Cert.ConvABwd.τ).loc Cert.ConvABwd.main_arg0)
      ∧ r.2.mem ((c.tc : Thread Cert.ConvABwd.nD Cert.ConvABwd.τ).loc Cert.ConvABwd.main_arg1) = m ((c.tc : Thread Cert.ConvABwd.nD Cert.ConvABwd.τ).loc Cert.ConvABwd.main_arg1)
      ∧ r.2.mem ((c.tc : Thread Cert.ConvABwd.nD Cert.ConvABwd.τ).loc Cert.ConvABwd.main_arg2) = m ((c.tc : Thread Cert.ConvABwd.nD Cert.ConvABwd.τ).loc Cert.ConvABwd.main_arg2))
      ∧ r.2.sem = fun _ => 0)

def quiescent_ConvABwdIdeal [hConvABwdIdeal : Cert.ConvABwdIdeal.Facts] : Prop :=
  ∀ (m : (ℓ : Loc Cert.ConvABwdIdeal.nD Cert.ConvABwdIdeal.τ Cert.ConvABwdIdeal.sig) → Buf (Elt Ideal) ℓ) (g : Dev Cert.ConvABwdIdeal.nD → PrngReg), Pre_ConvABwdIdeal m →
    θ_run (Cert.ConvABwdIdeal.defs (F := Ideal)) (onTc (τ := Cert.ConvABwdIdeal.τ) (Cert.ConvABwdIdeal.main (F := Ideal))) ⟨m, fun _ => 0, g⟩ (fun r => (∀ c : Dev Cert.ConvABwdIdeal.nD,
      r.2.mem ((c.tc : Thread Cert.ConvABwdIdeal.nD Cert.ConvABwdIdeal.τ).loc Cert.ConvABwdIdeal.main_arg0) = m ((c.tc : Thread Cert.ConvABwdIdeal.nD Cert.ConvABwdIdeal.τ).loc Cert.ConvABwdIdeal.main_arg0)
      ∧ r.2.mem ((c.tc : Thread Cert.ConvABwdIdeal.nD Cert.ConvABwdIdeal.τ).loc Cert.ConvABwdIdeal.main_arg1) = m ((c.tc : Thread Cert.ConvABwdIdeal.nD Cert.ConvABwdIdeal.τ).loc Cert.ConvABwdIdeal.main_arg1)
      ∧ r.2.mem ((c.tc : Thread Cert.ConvABwdIdeal.nD Cert.ConvABwdIdeal.τ).loc Cert.ConvABwdIdeal.main_arg2) = m ((c.tc : Thread Cert.ConvABwdIdeal.nD Cert.ConvABwdIdeal.τ).loc Cert.ConvABwdIdeal.main_arg2))
      ∧ r.2.sem = fun _ => 0)

def quiescent_ConvABwdRefIdeal [hConvABwdRefIdeal : Cert.ConvABwdRefIdeal.Facts] : Prop :=
  ∀ (m : (ℓ : Loc Cert.ConvABwdRefIdeal.nD Cert.ConvABwdRefIdeal.τ Cert.ConvABwdRefIdeal.sig) → Buf (Elt Ideal) ℓ) (g : Dev Cert.ConvABwdRefIdeal.nD → PrngReg), Pre_ConvABwdRefIdeal m →
    θ_run (Cert.ConvABwdRefIdeal.defs (F := Ideal)) (onTc (τ := Cert.ConvABwdRefIdeal.τ) (Cert.ConvABwdRefIdeal.main (F := Ideal))) ⟨m, fun _ => 0, g⟩ (fun r => (∀ c : Dev Cert.ConvABwdRefIdeal.nD,
      r.2.mem ((c.tc : Thread Cert.ConvABwdRefIdeal.nD Cert.ConvABwdRefIdeal.τ).loc Cert.ConvABwdRefIdeal.main_arg0) = m ((c.tc : Thread Cert.ConvABwdRefIdeal.nD Cert.ConvABwdRefIdeal.τ).loc Cert.ConvABwdRefIdeal.main_arg0)
      ∧ r.2.mem ((c.tc : Thread Cert.ConvABwdRefIdeal.nD Cert.ConvABwdRefIdeal.τ).loc Cert.ConvABwdRefIdeal.main_arg1) = m ((c.tc : Thread Cert.ConvABwdRefIdeal.nD Cert.ConvABwdRefIdeal.τ).loc Cert.ConvABwdRefIdeal.main_arg1)
      ∧ r.2.mem ((c.tc : Thread Cert.ConvABwdRefIdeal.nD Cert.ConvABwdRefIdeal.τ).loc Cert.ConvABwdRefIdeal.main_arg2) = m ((c.tc : Thread Cert.ConvABwdRefIdeal.nD Cert.ConvABwdRefIdeal.τ).loc Cert.ConvABwdRefIdeal.main_arg2))
      ∧ r.2.sem = fun _ => 0)

def quiescent_EvenLnpl [hEvenLnpl : Cert.EvenLnpl.Facts] : Prop :=
  ∀ (m : (ℓ : Loc Cert.EvenLnpl.nD Cert.EvenLnpl.τ Cert.EvenLnpl.sig) → Buf (Elt Bits) ℓ) (g : Dev Cert.EvenLnpl.nD → PrngReg), Pre_EvenLnpl m →
    θ_run (Cert.EvenLnpl.defs (F := Bits)) (onTc (τ := Cert.EvenLnpl.τ) (Cert.EvenLnpl.main (F := Bits))) ⟨m, fun _ => 0, g⟩ (fun r => (∀ c : Dev Cert.EvenLnpl.nD,
      r.2.mem ((c.tc : Thread Cert.EvenLnpl.nD Cert.EvenLnpl.τ).loc Cert.EvenLnpl.main_arg0) = m ((c.tc : Thread Cert.EvenLnpl.nD Cert.EvenLnpl.τ).loc Cert.EvenLnpl.main_arg0)
      ∧ r.2.mem ((c.tc : Thread Cert.EvenLnpl.nD Cert.EvenLnpl.τ).loc Cert.EvenLnpl.main_arg1) = m ((c.tc : Thread Cert.EvenLnpl.nD Cert.EvenLnpl.τ).loc Cert.EvenLnpl.main_arg1)
      ∧ r.2.mem ((c.tc : Thread Cert.EvenLnpl.nD Cert.EvenLnpl.τ).loc Cert.EvenLnpl.main_arg2) = m ((c.tc : Thread Cert.EvenLnpl.nD Cert.EvenLnpl.τ).loc Cert.EvenLnpl.main_arg2)
      ∧ r.2.mem ((c.tc : Thread Cert.EvenLnpl.nD Cert.EvenLnpl.τ).loc Cert.EvenLnpl.main_arg3) = m ((c.tc : Thread Cert.EvenLnpl.nD Cert.EvenLnpl.τ).loc Cert.EvenLnpl.main_arg3)
      ∧ r.2.mem ((c.tc : Thread Cert.EvenLnpl.nD Cert.EvenLnpl.τ).loc Cert.EvenLnpl.main_arg4) = m ((c.tc : Thread Cert.EvenLnpl.nD Cert.EvenLnpl.τ).loc Cert.EvenLnpl.main_arg4)
      ∧ r.2.mem ((c.tc : Thread Cert.EvenLnpl.nD Cert.EvenLnpl.τ).loc Cert.EvenLnpl.main_arg5) = m ((c.tc : Thread Cert.EvenLnpl.nD Cert.EvenLnpl.τ).loc Cert.EvenLnpl.main_arg5)
      ∧ r.2.mem ((c.tc : Thread Cert.EvenLnpl.nD Cert.EvenLnpl.τ).loc Cert.EvenLnpl.main_arg6) = m ((c.tc : Thread Cert.EvenLnpl.nD Cert.EvenLnpl.τ).loc Cert.EvenLnpl.main_arg6)
      ∧ r.2.mem ((c.tc : Thread Cert.EvenLnpl.nD Cert.EvenLnpl.τ).loc Cert.EvenLnpl.main_arg7) = m ((c.tc : Thread Cert.EvenLnpl.nD Cert.EvenLnpl.τ).loc Cert.EvenLnpl.main_arg7))
      ∧ r.2.sem = fun _ => 0)

def quiescent_EvenLnplIdeal [hEvenLnplIdeal : Cert.EvenLnplIdeal.Facts] : Prop :=
  ∀ (m : (ℓ : Loc Cert.EvenLnplIdeal.nD Cert.EvenLnplIdeal.τ Cert.EvenLnplIdeal.sig) → Buf (Elt Ideal) ℓ) (g : Dev Cert.EvenLnplIdeal.nD → PrngReg), Pre_EvenLnplIdeal m →
    θ_run (Cert.EvenLnplIdeal.defs (F := Ideal)) (onTc (τ := Cert.EvenLnplIdeal.τ) (Cert.EvenLnplIdeal.main (F := Ideal))) ⟨m, fun _ => 0, g⟩ (fun r => (∀ c : Dev Cert.EvenLnplIdeal.nD,
      r.2.mem ((c.tc : Thread Cert.EvenLnplIdeal.nD Cert.EvenLnplIdeal.τ).loc Cert.EvenLnplIdeal.main_arg0) = m ((c.tc : Thread Cert.EvenLnplIdeal.nD Cert.EvenLnplIdeal.τ).loc Cert.EvenLnplIdeal.main_arg0)
      ∧ r.2.mem ((c.tc : Thread Cert.EvenLnplIdeal.nD Cert.EvenLnplIdeal.τ).loc Cert.EvenLnplIdeal.main_arg1) = m ((c.tc : Thread Cert.EvenLnplIdeal.nD Cert.EvenLnplIdeal.τ).loc Cert.EvenLnplIdeal.main_arg1)
      ∧ r.2.mem ((c.tc : Thread Cert.EvenLnplIdeal.nD Cert.EvenLnplIdeal.τ).loc Cert.EvenLnplIdeal.main_arg2) = m ((c.tc : Thread Cert.EvenLnplIdeal.nD Cert.EvenLnplIdeal.τ).loc Cert.EvenLnplIdeal.main_arg2)
      ∧ r.2.mem ((c.tc : Thread Cert.EvenLnplIdeal.nD Cert.EvenLnplIdeal.τ).loc Cert.EvenLnplIdeal.main_arg3) = m ((c.tc : Thread Cert.EvenLnplIdeal.nD Cert.EvenLnplIdeal.τ).loc Cert.EvenLnplIdeal.main_arg3)
      ∧ r.2.mem ((c.tc : Thread Cert.EvenLnplIdeal.nD Cert.EvenLnplIdeal.τ).loc Cert.EvenLnplIdeal.main_arg4) = m ((c.tc : Thread Cert.EvenLnplIdeal.nD Cert.EvenLnplIdeal.τ).loc Cert.EvenLnplIdeal.main_arg4)
      ∧ r.2.mem ((c.tc : Thread Cert.EvenLnplIdeal.nD Cert.EvenLnplIdeal.τ).loc Cert.EvenLnplIdeal.main_arg5) = m ((c.tc : Thread Cert.EvenLnplIdeal.nD Cert.EvenLnplIdeal.τ).loc Cert.EvenLnplIdeal.main_arg5)
      ∧ r.2.mem ((c.tc : Thread Cert.EvenLnplIdeal.nD Cert.EvenLnplIdeal.τ).loc Cert.EvenLnplIdeal.main_arg6) = m ((c.tc : Thread Cert.EvenLnplIdeal.nD Cert.EvenLnplIdeal.τ).loc Cert.EvenLnplIdeal.main_arg6)
      ∧ r.2.mem ((c.tc : Thread Cert.EvenLnplIdeal.nD Cert.EvenLnplIdeal.τ).loc Cert.EvenLnplIdeal.main_arg7) = m ((c.tc : Thread Cert.EvenLnplIdeal.nD Cert.EvenLnplIdeal.τ).loc Cert.EvenLnplIdeal.main_arg7))
      ∧ r.2.sem = fun _ => 0)

def quiescent_EvenLnplRefIdeal [hEvenLnplRefIdeal : Cert.EvenLnplRefIdeal.Facts] : Prop :=
  ∀ (m : (ℓ : Loc Cert.EvenLnplRefIdeal.nD Cert.EvenLnplRefIdeal.τ Cert.EvenLnplRefIdeal.sig) → Buf (Elt Ideal) ℓ) (g : Dev Cert.EvenLnplRefIdeal.nD → PrngReg), Pre_EvenLnplRefIdeal m →
    θ_run (Cert.EvenLnplRefIdeal.defs (F := Ideal)) (onTc (τ := Cert.EvenLnplRefIdeal.τ) (Cert.EvenLnplRefIdeal.main (F := Ideal))) ⟨m, fun _ => 0, g⟩ (fun r => (∀ c : Dev Cert.EvenLnplRefIdeal.nD,
      r.2.mem ((c.tc : Thread Cert.EvenLnplRefIdeal.nD Cert.EvenLnplRefIdeal.τ).loc Cert.EvenLnplRefIdeal.main_arg0) = m ((c.tc : Thread Cert.EvenLnplRefIdeal.nD Cert.EvenLnplRefIdeal.τ).loc Cert.EvenLnplRefIdeal.main_arg0)
      ∧ r.2.mem ((c.tc : Thread Cert.EvenLnplRefIdeal.nD Cert.EvenLnplRefIdeal.τ).loc Cert.EvenLnplRefIdeal.main_arg1) = m ((c.tc : Thread Cert.EvenLnplRefIdeal.nD Cert.EvenLnplRefIdeal.τ).loc Cert.EvenLnplRefIdeal.main_arg1)
      ∧ r.2.mem ((c.tc : Thread Cert.EvenLnplRefIdeal.nD Cert.EvenLnplRefIdeal.τ).loc Cert.EvenLnplRefIdeal.main_arg2) = m ((c.tc : Thread Cert.EvenLnplRefIdeal.nD Cert.EvenLnplRefIdeal.τ).loc Cert.EvenLnplRefIdeal.main_arg2)
      ∧ r.2.mem ((c.tc : Thread Cert.EvenLnplRefIdeal.nD Cert.EvenLnplRefIdeal.τ).loc Cert.EvenLnplRefIdeal.main_arg3) = m ((c.tc : Thread Cert.EvenLnplRefIdeal.nD Cert.EvenLnplRefIdeal.τ).loc Cert.EvenLnplRefIdeal.main_arg3)
      ∧ r.2.mem ((c.tc : Thread Cert.EvenLnplRefIdeal.nD Cert.EvenLnplRefIdeal.τ).loc Cert.EvenLnplRefIdeal.main_arg4) = m ((c.tc : Thread Cert.EvenLnplRefIdeal.nD Cert.EvenLnplRefIdeal.τ).loc Cert.EvenLnplRefIdeal.main_arg4)
      ∧ r.2.mem ((c.tc : Thread Cert.EvenLnplRefIdeal.nD Cert.EvenLnplRefIdeal.τ).loc Cert.EvenLnplRefIdeal.main_arg5) = m ((c.tc : Thread Cert.EvenLnplRefIdeal.nD Cert.EvenLnplRefIdeal.τ).loc Cert.EvenLnplRefIdeal.main_arg5)
      ∧ r.2.mem ((c.tc : Thread Cert.EvenLnplRefIdeal.nD Cert.EvenLnplRefIdeal.τ).loc Cert.EvenLnplRefIdeal.main_arg6) = m ((c.tc : Thread Cert.EvenLnplRefIdeal.nD Cert.EvenLnplRefIdeal.τ).loc Cert.EvenLnplRefIdeal.main_arg6)
      ∧ r.2.mem ((c.tc : Thread Cert.EvenLnplRefIdeal.nD Cert.EvenLnplRefIdeal.τ).loc Cert.EvenLnplRefIdeal.main_arg7) = m ((c.tc : Thread Cert.EvenLnplRefIdeal.nD Cert.EvenLnplRefIdeal.τ).loc Cert.EvenLnplRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_v94) = v5 c
          ∧ r.2.mem ((c.tc : Thread Cert.ReferenceIdeal.nD Cert.ReferenceIdeal.τ).loc Cert.ReferenceIdeal.main_v95) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_OddDw_OddDwIdeal : Prop :=
  True

def algebraic_OddDwIdeal_OddDwRefIdeal [hOddDwIdeal : Cert.OddDwIdeal.Facts] [hOddDwRefIdeal : Cert.OddDwRefIdeal.Facts] : Prop :=
  ∀ (m : (ℓ : Loc Cert.OddDwIdeal.nD Cert.OddDwIdeal.τ Cert.OddDwIdeal.sig) → Buf (Elt Ideal) ℓ) (g : Dev Cert.OddDwIdeal.nD → PrngReg)
    (m' : (ℓ : Loc Cert.OddDwRefIdeal.nD Cert.OddDwRefIdeal.τ Cert.OddDwRefIdeal.sig) → Buf (Elt Ideal) ℓ) (g' : Dev Cert.OddDwRefIdeal.nD → PrngReg), Pre_OddDwIdeal m →
    (∀ c : Dev Cert.OddDwIdeal.nD,
      m' ((c.tc : Thread Cert.OddDwRefIdeal.nD Cert.OddDwRefIdeal.τ).loc Cert.OddDwRefIdeal.main_arg0) = m ((c.tc : Thread Cert.OddDwIdeal.nD Cert.OddDwIdeal.τ).loc Cert.OddDwIdeal.main_arg0)
      ∧ m' ((c.tc : Thread Cert.OddDwRefIdeal.nD Cert.OddDwRefIdeal.τ).loc Cert.OddDwRefIdeal.main_arg1) = m ((c.tc : Thread Cert.OddDwIdeal.nD Cert.OddDwIdeal.τ).loc Cert.OddDwIdeal.main_arg1)) →
    ∃ (v0 : (c : Dev Cert.OddDwIdeal.nD) → Buf (Elt Ideal) ((c.tc : Thread Cert.OddDwIdeal.nD Cert.OddDwIdeal.τ).loc Cert.OddDwIdeal.main_v0)),
      θ_run (Cert.OddDwIdeal.defs (F := Ideal)) (onTc (τ := Cert.OddDwIdeal.τ) (Cert.OddDwIdeal.main (F := Ideal))) ⟨m, fun _ => 0, g⟩ (fun r => ∀ c : Dev Cert.OddDwIdeal.nD,
          r.2.mem ((c.tc : Thread Cert.OddDwIdeal.nD Cert.OddDwIdeal.τ).loc Cert.OddDwIdeal.main_v0) = v0 c
          ∧ r.2.mem ((c.tc : Thread Cert.OddDwIdeal.nD Cert.OddDwIdeal.τ).loc Cert.OddDwIdeal.main_arg0) = m ((c.tc : Thread Cert.OddDwIdeal.nD Cert.OddDwIdeal.τ).loc Cert.OddDwIdeal.main_arg0)
          ∧ r.2.mem ((c.tc : Thread Cert.OddDwIdeal.nD Cert.OddDwIdeal.τ).loc Cert.OddDwIdeal.main_arg1) = m ((c.tc : Thread Cert.OddDwIdeal.nD Cert.OddDwIdeal.τ).loc Cert.OddDwIdeal.main_arg1))
      ∧ θ_run (Cert.OddDwRefIdeal.defs (F := Ideal)) (onTc (τ := Cert.OddDwRefIdeal.τ) (Cert.OddDwRefIdeal.main (F := Ideal))) ⟨m', fun _ => 0, g'⟩ (fun r => ∀ c : Dev Cert.OddDwRefIdeal.nD,
          r.2.mem ((c.tc : Thread Cert.OddDwRefIdeal.nD Cert.OddDwRefIdeal.τ).loc Cert.OddDwRefIdeal.main_v5) = v0 c
          ∧ r.2.mem ((c.tc : Thread Cert.OddDwRefIdeal.nD Cert.OddDwRefIdeal.τ).loc Cert.OddDwRefIdeal.main_arg0) = m' ((c.tc : Thread Cert.OddDwRefIdeal.nD Cert.OddDwRefIdeal.τ).loc Cert.OddDwRefIdeal.main_arg0)
          ∧ r.2.mem ((c.tc : Thread Cert.OddDwRefIdeal.nD Cert.OddDwRefIdeal.τ).loc Cert.OddDwRefIdeal.main_arg1) = m' ((c.tc : Thread Cert.OddDwRefIdeal.nD Cert.OddDwRefIdeal.τ).loc Cert.OddDwRefIdeal.main_arg1))

def preserves_OddDxFirst_OddDxFirstIdeal : Prop :=
  True

def algebraic_OddDxFirstIdeal_OddDxFirstRefIdeal [hOddDxFirstIdeal : Cert.OddDxFirstIdeal.Facts] [hOddDxFirstRefIdeal : Cert.OddDxFirstRefIdeal.Facts] : Prop :=
  ∀ (m : (ℓ : Loc Cert.OddDxFirstIdeal.nD Cert.OddDxFirstIdeal.τ Cert.OddDxFirstIdeal.sig) → Buf (Elt Ideal) ℓ) (g : Dev Cert.OddDxFirstIdeal.nD → PrngReg)
    (m' : (ℓ : Loc Cert.OddDxFirstRefIdeal.nD Cert.OddDxFirstRefIdeal.τ Cert.OddDxFirstRefIdeal.sig) → Buf (Elt Ideal) ℓ) (g' : Dev Cert.OddDxFirstRefIdeal.nD → PrngReg), Pre_OddDxFirstIdeal m →
    (∀ c : Dev Cert.OddDxFirstIdeal.nD,
      m' ((c.tc : Thread Cert.OddDxFirstRefIdeal.nD Cert.OddDxFirstRefIdeal.τ).loc Cert.OddDxFirstRefIdeal.main_arg0) = m ((c.tc : Thread Cert.OddDxFirstIdeal.nD Cert.OddDxFirstIdeal.τ).loc Cert.OddDxFirstIdeal.main_arg0)
      ∧ m' ((c.tc : Thread Cert.OddDxFirstRefIdeal.nD Cert.OddDxFirstRefIdeal.τ).loc Cert.OddDxFirstRefIdeal.main_arg1) = m ((c.tc : Thread Cert.OddDxFirstIdeal.nD Cert.OddDxFirstIdeal.τ).loc Cert.OddDxFirstIdeal.main_arg1)
      ∧ m' ((c.tc : Thread Cert.OddDxFirstRefIdeal.nD Cert.OddDxFirstRefIdeal.τ).loc Cert.OddDxFirstRefIdeal.main_arg2) = m ((c.tc : Thread Cert.OddDxFirstIdeal.nD Cert.OddDxFirstIdeal.τ).loc Cert.OddDxFirstIdeal.main_arg2)) →
    ∃ (v0 : (c : Dev Cert.OddDxFirstIdeal.nD) → Buf (Elt Ideal) ((c.tc : Thread Cert.OddDxFirstIdeal.nD Cert.OddDxFirstIdeal.τ).loc Cert.OddDxFirstIdeal.main_v0)),
      θ_run (Cert.OddDxFirstIdeal.defs (F := Ideal)) (onTc (τ := Cert.OddDxFirstIdeal.τ) (Cert.OddDxFirstIdeal.main (F := Ideal))) ⟨m, fun _ => 0, g⟩ (fun r => ∀ c : Dev Cert.OddDxFirstIdeal.nD,
          r.2.mem ((c.tc : Thread Cert.OddDxFirstIdeal.nD Cert.OddDxFirstIdeal.τ).loc Cert.OddDxFirstIdeal.main_v0) = v0 c
          ∧ r.2.mem ((c.tc : Thread Cert.OddDxFirstIdeal.nD Cert.OddDxFirstIdeal.τ).loc Cert.OddDxFirstIdeal.main_arg0) = m ((c.tc : Thread Cert.OddDxFirstIdeal.nD Cert.OddDxFirstIdeal.τ).loc Cert.OddDxFirstIdeal.main_arg0)
          ∧ r.2.mem ((c.tc : Thread Cert.OddDxFirstIdeal.nD Cert.OddDxFirstIdeal.τ).loc Cert.OddDxFirstIdeal.main_arg1) = m ((c.tc : Thread Cert.OddDxFirstIdeal.nD Cert.OddDxFirstIdeal.τ).loc Cert.OddDxFirstIdeal.main_arg1)
          ∧ r.2.mem ((c.tc : Thread Cert.OddDxFirstIdeal.nD Cert.OddDxFirstIdeal.τ).loc Cert.OddDxFirstIdeal.main_arg2) = m ((c.tc : Thread Cert.OddDxFirstIdeal.nD Cert.OddDxFirstIdeal.τ).loc Cert.OddDxFirstIdeal.main_arg2))
      ∧ θ_run (Cert.OddDxFirstRefIdeal.defs (F := Ideal)) (onTc (τ := Cert.OddDxFirstRefIdeal.τ) (Cert.OddDxFirstRefIdeal.main (F := Ideal))) ⟨m', fun _ => 0, g'⟩ (fun r => ∀ c : Dev Cert.OddDxFirstRefIdeal.nD,
          r.2.mem ((c.tc : Thread Cert.OddDxFirstRefIdeal.nD Cert.OddDxFirstRefIdeal.τ).loc Cert.OddDxFirstRefIdeal.main_v9) = v0 c
          ∧ r.2.mem ((c.tc : Thread Cert.OddDxFirstRefIdeal.nD Cert.OddDxFirstRefIdeal.τ).loc Cert.OddDxFirstRefIdeal.main_arg0) = m' ((c.tc : Thread Cert.OddDxFirstRefIdeal.nD Cert.OddDxFirstRefIdeal.τ).loc Cert.OddDxFirstRefIdeal.main_arg0)
          ∧ r.2.mem ((c.tc : Thread Cert.OddDxFirstRefIdeal.nD Cert.OddDxFirstRefIdeal.τ).loc Cert.OddDxFirstRefIdeal.main_arg1) = m' ((c.tc : Thread Cert.OddDxFirstRefIdeal.nD Cert.OddDxFirstRefIdeal.τ).loc Cert.OddDxFirstRefIdeal.main_arg1)
          ∧ r.2.mem ((c.tc : Thread Cert.OddDxFirstRefIdeal.nD Cert.OddDxFirstRefIdeal.τ).loc Cert.OddDxFirstRefIdeal.main_arg2) = m' ((c.tc : Thread Cert.OddDxFirstRefIdeal.nD Cert.OddDxFirstRefIdeal.τ).loc Cert.OddDxFirstRefIdeal.main_arg2))

def preserves_OddDx_OddDxIdeal : Prop :=
  True

def algebraic_OddDxIdeal_OddDxRefIdeal [hOddDxIdeal : Cert.OddDxIdeal.Facts] [hOddDxRefIdeal : Cert.OddDxRefIdeal.Facts] : Prop :=
  ∀ (m : (ℓ : Loc Cert.OddDxIdeal.nD Cert.OddDxIdeal.τ Cert.OddDxIdeal.sig) → Buf (Elt Ideal) ℓ) (g : Dev Cert.OddDxIdeal.nD → PrngReg)
    (m' : (ℓ : Loc Cert.OddDxRefIdeal.nD Cert.OddDxRefIdeal.τ Cert.OddDxRefIdeal.sig) → Buf (Elt Ideal) ℓ) (g' : Dev Cert.OddDxRefIdeal.nD → PrngReg), Pre_OddDxIdeal m →
    (∀ c : Dev Cert.OddDxIdeal.nD,
      m' ((c.tc : Thread Cert.OddDxRefIdeal.nD Cert.OddDxRefIdeal.τ).loc Cert.OddDxRefIdeal.main_arg0) = m ((c.tc : Thread Cert.OddDxIdeal.nD Cert.OddDxIdeal.τ).loc Cert.OddDxIdeal.main_arg0)
      ∧ m' ((c.tc : Thread Cert.OddDxRefIdeal.nD Cert.OddDxRefIdeal.τ).loc Cert.OddDxRefIdeal.main_arg1) = m ((c.tc : Thread Cert.OddDxIdeal.nD Cert.OddDxIdeal.τ).loc Cert.OddDxIdeal.main_arg1)
      ∧ m' ((c.tc : Thread Cert.OddDxRefIdeal.nD Cert.OddDxRefIdeal.τ).loc Cert.OddDxRefIdeal.main_arg2) = m ((c.tc : Thread Cert.OddDxIdeal.nD Cert.OddDxIdeal.τ).loc Cert.OddDxIdeal.main_arg2)) →
    ∃ (v0 : (c : Dev Cert.OddDxIdeal.nD) → Buf (Elt Ideal) ((c.tc : Thread Cert.OddDxIdeal.nD Cert.OddDxIdeal.τ).loc Cert.OddDxIdeal.main_v0)),
      θ_run (Cert.OddDxIdeal.defs (F := Ideal)) (onTc (τ := Cert.OddDxIdeal.τ) (Cert.OddDxIdeal.main (F := Ideal))) ⟨m, fun _ => 0, g⟩ (fun r => ∀ c : Dev Cert.OddDxIdeal.nD,
          r.2.mem ((c.tc : Thread Cert.OddDxIdeal.nD Cert.OddDxIdeal.τ).loc Cert.OddDxIdeal.main_v0) = v0 c
          ∧ r.2.mem ((c.tc : Thread Cert.OddDxIdeal.nD Cert.OddDxIdeal.τ).loc Cert.OddDxIdeal.main_arg0) = m ((c.tc : Thread Cert.OddDxIdeal.nD Cert.OddDxIdeal.τ).loc Cert.OddDxIdeal.main_arg0)
          ∧ r.2.mem ((c.tc : Thread Cert.OddDxIdeal.nD Cert.OddDxIdeal.τ).loc Cert.OddDxIdeal.main_arg1) = m ((c.tc : Thread Cert.OddDxIdeal.nD Cert.OddDxIdeal.τ).loc Cert.OddDxIdeal.main_arg1)
          ∧ r.2.mem ((c.tc : Thread Cert.OddDxIdeal.nD Cert.OddDxIdeal.τ).loc Cert.OddDxIdeal.main_arg2) = m ((c.tc : Thread Cert.OddDxIdeal.nD Cert.OddDxIdeal.τ).loc Cert.OddDxIdeal.main_arg2))
      ∧ θ_run (Cert.OddDxRefIdeal.defs (F := Ideal)) (onTc (τ := Cert.OddDxRefIdeal.τ) (Cert.OddDxRefIdeal.main (F := Ideal))) ⟨m', fun _ => 0, g'⟩ (fun r => ∀ c : Dev Cert.OddDxRefIdeal.nD,
          r.2.mem ((c.tc : Thread Cert.OddDxRefIdeal.nD Cert.OddDxRefIdeal.τ).loc Cert.OddDxRefIdeal.main_v9) = v0 c
          ∧ r.2.mem ((c.tc : Thread Cert.OddDxRefIdeal.nD Cert.OddDxRefIdeal.τ).loc Cert.OddDxRefIdeal.main_arg0) = m' ((c.tc : Thread Cert.OddDxRefIdeal.nD Cert.OddDxRefIdeal.τ).loc Cert.OddDxRefIdeal.main_arg0)
          ∧ r.2.mem ((c.tc : Thread Cert.OddDxRefIdeal.nD Cert.OddDxRefIdeal.τ).loc Cert.OddDxRefIdeal.main_arg1) = m' ((c.tc : Thread Cert.OddDxRefIdeal.nD Cert.OddDxRefIdeal.τ).loc Cert.OddDxRefIdeal.main_arg1)
          ∧ r.2.mem ((c.tc : Thread Cert.OddDxRefIdeal.nD Cert.OddDxRefIdeal.τ).loc Cert.OddDxRefIdeal.main_arg2) = m' ((c.tc : Thread Cert.OddDxRefIdeal.nD Cert.OddDxRefIdeal.τ).loc Cert.OddDxRefIdeal.main_arg2))

def preserves_OddOutDx_OddOutDxIdeal : Prop :=
  True

def algebraic_OddOutDxIdeal_OddOutDxRefIdeal [hOddOutDxIdeal : Cert.OddOutDxIdeal.Facts] [hOddOutDxRefIdeal : Cert.OddOutDxRefIdeal.Facts] : Prop :=
  ∀ (m : (ℓ : Loc Cert.OddOutDxIdeal.nD Cert.OddOutDxIdeal.τ Cert.OddOutDxIdeal.sig) → Buf (Elt Ideal) ℓ) (g : Dev Cert.OddOutDxIdeal.nD → PrngReg)
    (m' : (ℓ : Loc Cert.OddOutDxRefIdeal.nD Cert.OddOutDxRefIdeal.τ Cert.OddOutDxRefIdeal.sig) → Buf (Elt Ideal) ℓ) (g' : Dev Cert.OddOutDxRefIdeal.nD → PrngReg), Pre_OddOutDxIdeal m →
    (∀ c : Dev Cert.OddOutDxIdeal.nD,
      m' ((c.tc : Thread Cert.OddOutDxRefIdeal.nD Cert.OddOutDxRefIdeal.τ).loc Cert.OddOutDxRefIdeal.main_arg0) = m ((c.tc : Thread Cert.OddOutDxIdeal.nD Cert.OddOutDxIdeal.τ).loc Cert.OddOutDxIdeal.main_arg0)
      ∧ m' ((c.tc : Thread Cert.OddOutDxRefIdeal.nD Cert.OddOutDxRefIdeal.τ).loc Cert.OddOutDxRefIdeal.main_arg1) = m ((c.tc : Thread Cert.OddOutDxIdeal.nD Cert.OddOutDxIdeal.τ).loc Cert.OddOutDxIdeal.main_arg1)) →
    ∃ (v0 : (c : Dev Cert.OddOutDxIdeal.nD) → Buf (Elt Ideal) ((c.tc : Thread Cert.OddOutDxIdeal.nD Cert.OddOutDxIdeal.τ).loc Cert.OddOutDxIdeal.main_v0)),
      θ_run (Cert.OddOutDxIdeal.defs (F := Ideal)) (onTc (τ := Cert.OddOutDxIdeal.τ) (Cert.OddOutDxIdeal.main (F := Ideal))) ⟨m, fun _ => 0, g⟩ (fun r => ∀ c : Dev Cert.OddOutDxIdeal.nD,
          r.2.mem ((c.tc : Thread Cert.OddOutDxIdeal.nD Cert.OddOutDxIdeal.τ).loc Cert.OddOutDxIdeal.main_v0) = v0 c
          ∧ r.2.mem ((c.tc : Thread Cert.OddOutDxIdeal.nD Cert.OddOutDxIdeal.τ).loc Cert.OddOutDxIdeal.main_arg0) = m ((c.tc : Thread Cert.OddOutDxIdeal.nD Cert.OddOutDxIdeal.τ).loc Cert.OddOutDxIdeal.main_arg0)
          ∧ r.2.mem ((c.tc : Thread Cert.OddOutDxIdeal.nD Cert.OddOutDxIdeal.τ).loc Cert.OddOutDxIdeal.main_arg1) = m ((c.tc : Thread Cert.OddOutDxIdeal.nD Cert.OddOutDxIdeal.τ).loc Cert.OddOutDxIdeal.main_arg1))
      ∧ θ_run (Cert.OddOutDxRefIdeal.defs (F := Ideal)) (onTc (τ := Cert.OddOutDxRefIdeal.τ) (Cert.OddOutDxRefIdeal.main (F := Ideal))) ⟨m', fun _ => 0, g'⟩ (fun r => ∀ c : Dev Cert.OddOutDxRefIdeal.nD,
          r.2.mem ((c.tc : Thread Cert.OddOutDxRefIdeal.nD Cert.OddOutDxRefIdeal.τ).loc Cert.OddOutDxRefIdeal.main_v4) = v0 c
          ∧ r.2.mem ((c.tc : Thread Cert.OddOutDxRefIdeal.nD Cert.OddOutDxRefIdeal.τ).loc Cert.OddOutDxRefIdeal.main_arg0) = m' ((c.tc : Thread Cert.OddOutDxRefIdeal.nD Cert.OddOutDxRefIdeal.τ).loc Cert.OddOutDxRefIdeal.main_arg0)
          ∧ r.2.mem ((c.tc : Thread Cert.OddOutDxRefIdeal.nD Cert.OddOutDxRefIdeal.τ).loc Cert.OddOutDxRefIdeal.main_arg1) = m' ((c.tc : Thread Cert.OddOutDxRefIdeal.nD Cert.OddOutDxRefIdeal.τ).loc Cert.OddOutDxRefIdeal.main_arg1))

def preserves_OddOutDw_OddOutDwIdeal : Prop :=
  True

def algebraic_OddOutDwIdeal_OddOutDwRefIdeal [hOddOutDwIdeal : Cert.OddOutDwIdeal.Facts] [hOddOutDwRefIdeal : Cert.OddOutDwRefIdeal.Facts] : Prop :=
  ∀ (m : (ℓ : Loc Cert.OddOutDwIdeal.nD Cert.OddOutDwIdeal.τ Cert.OddOutDwIdeal.sig) → Buf (Elt Ideal) ℓ) (g : Dev Cert.OddOutDwIdeal.nD → PrngReg)
    (m' : (ℓ : Loc Cert.OddOutDwRefIdeal.nD Cert.OddOutDwRefIdeal.τ Cert.OddOutDwRefIdeal.sig) → Buf (Elt Ideal) ℓ) (g' : Dev Cert.OddOutDwRefIdeal.nD → PrngReg), Pre_OddOutDwIdeal m →
    (∀ c : Dev Cert.OddOutDwIdeal.nD,
      m' ((c.tc : Thread Cert.OddOutDwRefIdeal.nD Cert.OddOutDwRefIdeal.τ).loc Cert.OddOutDwRefIdeal.main_arg0) = m ((c.tc : Thread Cert.OddOutDwIdeal.nD Cert.OddOutDwIdeal.τ).loc Cert.OddOutDwIdeal.main_arg0)
      ∧ m' ((c.tc : Thread Cert.OddOutDwRefIdeal.nD Cert.OddOutDwRefIdeal.τ).loc Cert.OddOutDwRefIdeal.main_arg1) = m ((c.tc : Thread Cert.OddOutDwIdeal.nD Cert.OddOutDwIdeal.τ).loc Cert.OddOutDwIdeal.main_arg1)) →
    ∃ (v0 : (c : Dev Cert.OddOutDwIdeal.nD) → Buf (Elt Ideal) ((c.tc : Thread Cert.OddOutDwIdeal.nD Cert.OddOutDwIdeal.τ).loc Cert.OddOutDwIdeal.main_v0)),
      θ_run (Cert.OddOutDwIdeal.defs (F := Ideal)) (onTc (τ := Cert.OddOutDwIdeal.τ) (Cert.OddOutDwIdeal.main (F := Ideal))) ⟨m, fun _ => 0, g⟩ (fun r => ∀ c : Dev Cert.OddOutDwIdeal.nD,
          r.2.mem ((c.tc : Thread Cert.OddOutDwIdeal.nD Cert.OddOutDwIdeal.τ).loc Cert.OddOutDwIdeal.main_v0) = v0 c
          ∧ r.2.mem ((c.tc : Thread Cert.OddOutDwIdeal.nD Cert.OddOutDwIdeal.τ).loc Cert.OddOutDwIdeal.main_arg0) = m ((c.tc : Thread Cert.OddOutDwIdeal.nD Cert.OddOutDwIdeal.τ).loc Cert.OddOutDwIdeal.main_arg0)
          ∧ r.2.mem ((c.tc : Thread Cert.OddOutDwIdeal.nD Cert.OddOutDwIdeal.τ).loc Cert.OddOutDwIdeal.main_arg1) = m ((c.tc : Thread Cert.OddOutDwIdeal.nD Cert.OddOutDwIdeal.τ).loc Cert.OddOutDwIdeal.main_arg1))
      ∧ θ_run (Cert.OddOutDwRefIdeal.defs (F := Ideal)) (onTc (τ := Cert.OddOutDwRefIdeal.τ) (Cert.OddOutDwRefIdeal.main (F := Ideal))) ⟨m', fun _ => 0, g'⟩ (fun r => ∀ c : Dev Cert.OddOutDwRefIdeal.nD,
          r.2.mem ((c.tc : Thread Cert.OddOutDwRefIdeal.nD Cert.OddOutDwRefIdeal.τ).loc Cert.OddOutDwRefIdeal.main_v5) = v0 c
          ∧ r.2.mem ((c.tc : Thread Cert.OddOutDwRefIdeal.nD Cert.OddOutDwRefIdeal.τ).loc Cert.OddOutDwRefIdeal.main_arg0) = m' ((c.tc : Thread Cert.OddOutDwRefIdeal.nD Cert.OddOutDwRefIdeal.τ).loc Cert.OddOutDwRefIdeal.main_arg0)
          ∧ r.2.mem ((c.tc : Thread Cert.OddOutDwRefIdeal.nD Cert.OddOutDwRefIdeal.τ).loc Cert.OddOutDwRefIdeal.main_arg1) = m' ((c.tc : Thread Cert.OddOutDwRefIdeal.nD Cert.OddOutDwRefIdeal.τ).loc Cert.OddOutDwRefIdeal.main_arg1))

def preserves_EvenDwA_EvenDwAIdeal : Prop :=
  True

def algebraic_EvenDwAIdeal_EvenDwARefIdeal [hEvenDwAIdeal : Cert.EvenDwAIdeal.Facts] [hEvenDwARefIdeal : Cert.EvenDwARefIdeal.Facts] : Prop :=
  ∀ (m : (ℓ : Loc Cert.EvenDwAIdeal.nD Cert.EvenDwAIdeal.τ Cert.EvenDwAIdeal.sig) → Buf (Elt Ideal) ℓ) (g : Dev Cert.EvenDwAIdeal.nD → PrngReg)
    (m' : (ℓ : Loc Cert.EvenDwARefIdeal.nD Cert.EvenDwARefIdeal.τ Cert.EvenDwARefIdeal.sig) → Buf (Elt Ideal) ℓ) (g' : Dev Cert.EvenDwARefIdeal.nD → PrngReg), Pre_EvenDwAIdeal m →
    (∀ c : Dev Cert.EvenDwAIdeal.nD,
      m' ((c.tc : Thread Cert.EvenDwARefIdeal.nD Cert.EvenDwARefIdeal.τ).loc Cert.EvenDwARefIdeal.main_arg0) = m ((c.tc : Thread Cert.EvenDwAIdeal.nD Cert.EvenDwAIdeal.τ).loc Cert.EvenDwAIdeal.main_arg0)
      ∧ m' ((c.tc : Thread Cert.EvenDwARefIdeal.nD Cert.EvenDwARefIdeal.τ).loc Cert.EvenDwARefIdeal.main_arg1) = m ((c.tc : Thread Cert.EvenDwAIdeal.nD Cert.EvenDwAIdeal.τ).loc Cert.EvenDwAIdeal.main_arg1)) →
    ∃ (v0 : (c : Dev Cert.EvenDwAIdeal.nD) → Buf (Elt Ideal) ((c.tc : Thread Cert.EvenDwAIdeal.nD Cert.EvenDwAIdeal.τ).loc Cert.EvenDwAIdeal.main_v0)),
      θ_run (Cert.EvenDwAIdeal.defs (F := Ideal)) (onTc (τ := Cert.EvenDwAIdeal.τ) (Cert.EvenDwAIdeal.main (F := Ideal))) ⟨m, fun _ => 0, g⟩ (fun r => ∀ c : Dev Cert.EvenDwAIdeal.nD,
          r.2.mem ((c.tc : Thread Cert.EvenDwAIdeal.nD Cert.EvenDwAIdeal.τ).loc Cert.EvenDwAIdeal.main_v0) = v0 c
          ∧ r.2.mem ((c.tc : Thread Cert.EvenDwAIdeal.nD Cert.EvenDwAIdeal.τ).loc Cert.EvenDwAIdeal.main_arg0) = m ((c.tc : Thread Cert.EvenDwAIdeal.nD Cert.EvenDwAIdeal.τ).loc Cert.EvenDwAIdeal.main_arg0)
          ∧ r.2.mem ((c.tc : Thread Cert.EvenDwAIdeal.nD Cert.EvenDwAIdeal.τ).loc Cert.EvenDwAIdeal.main_arg1) = m ((c.tc : Thread Cert.EvenDwAIdeal.nD Cert.EvenDwAIdeal.τ).loc Cert.EvenDwAIdeal.main_arg1))
      ∧ θ_run (Cert.EvenDwARefIdeal.defs (F := Ideal)) (onTc (τ := Cert.EvenDwARefIdeal.τ) (Cert.EvenDwARefIdeal.main (F := Ideal))) ⟨m', fun _ => 0, g'⟩ (fun r => ∀ c : Dev Cert.EvenDwARefIdeal.nD,
          r.2.mem ((c.tc : Thread Cert.EvenDwARefIdeal.nD Cert.EvenDwARefIdeal.τ).loc Cert.EvenDwARefIdeal.main_v5) = v0 c
          ∧ r.2.mem ((c.tc : Thread Cert.EvenDwARefIdeal.nD Cert.EvenDwARefIdeal.τ).loc Cert.EvenDwARefIdeal.main_arg0) = m' ((c.tc : Thread Cert.EvenDwARefIdeal.nD Cert.EvenDwARefIdeal.τ).loc Cert.EvenDwARefIdeal.main_arg0)
          ∧ r.2.mem ((c.tc : Thread Cert.EvenDwARefIdeal.nD Cert.EvenDwARefIdeal.τ).loc Cert.EvenDwARefIdeal.main_arg1) = m' ((c.tc : Thread Cert.EvenDwARefIdeal.nD Cert.EvenDwARefIdeal.τ).loc Cert.EvenDwARefIdeal.main_arg1))

def preserves_EvenDw_EvenDwIdeal : Prop :=
  True

def algebraic_EvenDwIdeal_EvenDwRefIdeal [hEvenDwIdeal : Cert.EvenDwIdeal.Facts] [hEvenDwRefIdeal : Cert.EvenDwRefIdeal.Facts] : Prop :=
  ∀ (m : (ℓ : Loc Cert.EvenDwIdeal.nD Cert.EvenDwIdeal.τ Cert.EvenDwIdeal.sig) → Buf (Elt Ideal) ℓ) (g : Dev Cert.EvenDwIdeal.nD → PrngReg)
    (m' : (ℓ : Loc Cert.EvenDwRefIdeal.nD Cert.EvenDwRefIdeal.τ Cert.EvenDwRefIdeal.sig) → Buf (Elt Ideal) ℓ) (g' : Dev Cert.EvenDwRefIdeal.nD → PrngReg), Pre_EvenDwIdeal m →
    (∀ c : Dev Cert.EvenDwIdeal.nD,
      m' ((c.tc : Thread Cert.EvenDwRefIdeal.nD Cert.EvenDwRefIdeal.τ).loc Cert.EvenDwRefIdeal.main_arg0) = m ((c.tc : Thread Cert.EvenDwIdeal.nD Cert.EvenDwIdeal.τ).loc Cert.EvenDwIdeal.main_arg0)
      ∧ m' ((c.tc : Thread Cert.EvenDwRefIdeal.nD Cert.EvenDwRefIdeal.τ).loc Cert.EvenDwRefIdeal.main_arg1) = m ((c.tc : Thread Cert.EvenDwIdeal.nD Cert.EvenDwIdeal.τ).loc Cert.EvenDwIdeal.main_arg1)) →
    ∃ (v0 : (c : Dev Cert.EvenDwIdeal.nD) → Buf (Elt Ideal) ((c.tc : Thread Cert.EvenDwIdeal.nD Cert.EvenDwIdeal.τ).loc Cert.EvenDwIdeal.main_v0)),
      θ_run (Cert.EvenDwIdeal.defs (F := Ideal)) (onTc (τ := Cert.EvenDwIdeal.τ) (Cert.EvenDwIdeal.main (F := Ideal))) ⟨m, fun _ => 0, g⟩ (fun r => ∀ c : Dev Cert.EvenDwIdeal.nD,
          r.2.mem ((c.tc : Thread Cert.EvenDwIdeal.nD Cert.EvenDwIdeal.τ).loc Cert.EvenDwIdeal.main_v0) = v0 c
          ∧ r.2.mem ((c.tc : Thread Cert.EvenDwIdeal.nD Cert.EvenDwIdeal.τ).loc Cert.EvenDwIdeal.main_arg0) = m ((c.tc : Thread Cert.EvenDwIdeal.nD Cert.EvenDwIdeal.τ).loc Cert.EvenDwIdeal.main_arg0)
          ∧ r.2.mem ((c.tc : Thread Cert.EvenDwIdeal.nD Cert.EvenDwIdeal.τ).loc Cert.EvenDwIdeal.main_arg1) = m ((c.tc : Thread Cert.EvenDwIdeal.nD Cert.EvenDwIdeal.τ).loc Cert.EvenDwIdeal.main_arg1))
      ∧ θ_run (Cert.EvenDwRefIdeal.defs (F := Ideal)) (onTc (τ := Cert.EvenDwRefIdeal.τ) (Cert.EvenDwRefIdeal.main (F := Ideal))) ⟨m', fun _ => 0, g'⟩ (fun r => ∀ c : Dev Cert.EvenDwRefIdeal.nD,
          r.2.mem ((c.tc : Thread Cert.EvenDwRefIdeal.nD Cert.EvenDwRefIdeal.τ).loc Cert.EvenDwRefIdeal.main_v5) = v0 c
          ∧ r.2.mem ((c.tc : Thread Cert.EvenDwRefIdeal.nD Cert.EvenDwRefIdeal.τ).loc Cert.EvenDwRefIdeal.main_arg0) = m' ((c.tc : Thread Cert.EvenDwRefIdeal.nD Cert.EvenDwRefIdeal.τ).loc Cert.EvenDwRefIdeal.main_arg0)
          ∧ r.2.mem ((c.tc : Thread Cert.EvenDwRefIdeal.nD Cert.EvenDwRefIdeal.τ).loc Cert.EvenDwRefIdeal.main_arg1) = m' ((c.tc : Thread Cert.EvenDwRefIdeal.nD Cert.EvenDwRefIdeal.τ).loc Cert.EvenDwRefIdeal.main_arg1))

def preserves_EvenDwTail_EvenDwTailIdeal : Prop :=
  True

def algebraic_EvenDwTailIdeal_EvenDwTailRefIdeal [hEvenDwTailIdeal : Cert.EvenDwTailIdeal.Facts] [hEvenDwTailRefIdeal : Cert.EvenDwTailRefIdeal.Facts] : Prop :=
  ∀ (m : (ℓ : Loc Cert.EvenDwTailIdeal.nD Cert.EvenDwTailIdeal.τ Cert.EvenDwTailIdeal.sig) → Buf (Elt Ideal) ℓ) (g : Dev Cert.EvenDwTailIdeal.nD → PrngReg)
    (m' : (ℓ : Loc Cert.EvenDwTailRefIdeal.nD Cert.EvenDwTailRefIdeal.τ Cert.EvenDwTailRefIdeal.sig) → Buf (Elt Ideal) ℓ) (g' : Dev Cert.EvenDwTailRefIdeal.nD → PrngReg), Pre_EvenDwTailIdeal m →
    (∀ c : Dev Cert.EvenDwTailIdeal.nD,
      m' ((c.tc : Thread Cert.EvenDwTailRefIdeal.nD Cert.EvenDwTailRefIdeal.τ).loc Cert.EvenDwTailRefIdeal.main_arg0) = m ((c.tc : Thread Cert.EvenDwTailIdeal.nD Cert.EvenDwTailIdeal.τ).loc Cert.EvenDwTailIdeal.main_arg0)
      ∧ m' ((c.tc : Thread Cert.EvenDwTailRefIdeal.nD Cert.EvenDwTailRefIdeal.τ).loc Cert.EvenDwTailRefIdeal.main_arg1) = m ((c.tc : Thread Cert.EvenDwTailIdeal.nD Cert.EvenDwTailIdeal.τ).loc Cert.EvenDwTailIdeal.main_arg1)) →
    ∃ (v0 : (c : Dev Cert.EvenDwTailIdeal.nD) → Buf (Elt Ideal) ((c.tc : Thread Cert.EvenDwTailIdeal.nD Cert.EvenDwTailIdeal.τ).loc Cert.EvenDwTailIdeal.main_v0)),
      θ_run (Cert.EvenDwTailIdeal.defs (F := Ideal)) (onTc (τ := Cert.EvenDwTailIdeal.τ) (Cert.EvenDwTailIdeal.main (F := Ideal))) ⟨m, fun _ => 0, g⟩ (fun r => ∀ c : Dev Cert.EvenDwTailIdeal.nD,
          r.2.mem ((c.tc : Thread Cert.EvenDwTailIdeal.nD Cert.EvenDwTailIdeal.τ).loc Cert.EvenDwTailIdeal.main_v0) = v0 c
          ∧ r.2.mem ((c.tc : Thread Cert.EvenDwTailIdeal.nD Cert.EvenDwTailIdeal.τ).loc Cert.EvenDwTailIdeal.main_arg0) = m ((c.tc : Thread Cert.EvenDwTailIdeal.nD Cert.EvenDwTailIdeal.τ).loc Cert.EvenDwTailIdeal.main_arg0)
          ∧ r.2.mem ((c.tc : Thread Cert.EvenDwTailIdeal.nD Cert.EvenDwTailIdeal.τ).loc Cert.EvenDwTailIdeal.main_arg1) = m ((c.tc : Thread Cert.EvenDwTailIdeal.nD Cert.EvenDwTailIdeal.τ).loc Cert.EvenDwTailIdeal.main_arg1))
      ∧ θ_run (Cert.EvenDwTailRefIdeal.defs (F := Ideal)) (onTc (τ := Cert.EvenDwTailRefIdeal.τ) (Cert.EvenDwTailRefIdeal.main (F := Ideal))) ⟨m', fun _ => 0, g'⟩ (fun r => ∀ c : Dev Cert.EvenDwTailRefIdeal.nD,
          r.2.mem ((c.tc : Thread Cert.EvenDwTailRefIdeal.nD Cert.EvenDwTailRefIdeal.τ).loc Cert.EvenDwTailRefIdeal.main_v4) = v0 c
          ∧ r.2.mem ((c.tc : Thread Cert.EvenDwTailRefIdeal.nD Cert.EvenDwTailRefIdeal.τ).loc Cert.EvenDwTailRefIdeal.main_arg0) = m' ((c.tc : Thread Cert.EvenDwTailRefIdeal.nD Cert.EvenDwTailRefIdeal.τ).loc Cert.EvenDwTailRefIdeal.main_arg0)
          ∧ r.2.mem ((c.tc : Thread Cert.EvenDwTailRefIdeal.nD Cert.EvenDwTailRefIdeal.τ).loc Cert.EvenDwTailRefIdeal.main_arg1) = m' ((c.tc : Thread Cert.EvenDwTailRefIdeal.nD Cert.EvenDwTailRefIdeal.τ).loc Cert.EvenDwTailRefIdeal.main_arg1))

def preserves_EvenDxFirst_EvenDxFirstIdeal : Prop :=
  True

def algebraic_EvenDxFirstIdeal_EvenDxFirstRefIdeal [hEvenDxFirstIdeal : Cert.EvenDxFirstIdeal.Facts] [hEvenDxFirstRefIdeal : Cert.EvenDxFirstRefIdeal.Facts] : Prop :=
  ∀ (m : (ℓ : Loc Cert.EvenDxFirstIdeal.nD Cert.EvenDxFirstIdeal.τ Cert.EvenDxFirstIdeal.sig) → Buf (Elt Ideal) ℓ) (g : Dev Cert.EvenDxFirstIdeal.nD → PrngReg)
    (m' : (ℓ : Loc Cert.EvenDxFirstRefIdeal.nD Cert.EvenDxFirstRefIdeal.τ Cert.EvenDxFirstRefIdeal.sig) → Buf (Elt Ideal) ℓ) (g' : Dev Cert.EvenDxFirstRefIdeal.nD → PrngReg), Pre_EvenDxFirstIdeal m →
    (∀ c : Dev Cert.EvenDxFirstIdeal.nD,
      m' ((c.tc : Thread Cert.EvenDxFirstRefIdeal.nD Cert.EvenDxFirstRefIdeal.τ).loc Cert.EvenDxFirstRefIdeal.main_arg0) = m ((c.tc : Thread Cert.EvenDxFirstIdeal.nD Cert.EvenDxFirstIdeal.τ).loc Cert.EvenDxFirstIdeal.main_arg0)
      ∧ m' ((c.tc : Thread Cert.EvenDxFirstRefIdeal.nD Cert.EvenDxFirstRefIdeal.τ).loc Cert.EvenDxFirstRefIdeal.main_arg1) = m ((c.tc : Thread Cert.EvenDxFirstIdeal.nD Cert.EvenDxFirstIdeal.τ).loc Cert.EvenDxFirstIdeal.main_arg1)
      ∧ m' ((c.tc : Thread Cert.EvenDxFirstRefIdeal.nD Cert.EvenDxFirstRefIdeal.τ).loc Cert.EvenDxFirstRefIdeal.main_arg2) = m ((c.tc : Thread Cert.EvenDxFirstIdeal.nD Cert.EvenDxFirstIdeal.τ).loc Cert.EvenDxFirstIdeal.main_arg2)) →
    ∃ (v0 : (c : Dev Cert.EvenDxFirstIdeal.nD) → Buf (Elt Ideal) ((c.tc : Thread Cert.EvenDxFirstIdeal.nD Cert.EvenDxFirstIdeal.τ).loc Cert.EvenDxFirstIdeal.main_v0)),
      θ_run (Cert.EvenDxFirstIdeal.defs (F := Ideal)) (onTc (τ := Cert.EvenDxFirstIdeal.τ) (Cert.EvenDxFirstIdeal.main (F := Ideal))) ⟨m, fun _ => 0, g⟩ (fun r => ∀ c : Dev Cert.EvenDxFirstIdeal.nD,
          r.2.mem ((c.tc : Thread Cert.EvenDxFirstIdeal.nD Cert.EvenDxFirstIdeal.τ).loc Cert.EvenDxFirstIdeal.main_v0) = v0 c
          ∧ r.2.mem ((c.tc : Thread Cert.EvenDxFirstIdeal.nD Cert.EvenDxFirstIdeal.τ).loc Cert.EvenDxFirstIdeal.main_arg0) = m ((c.tc : Thread Cert.EvenDxFirstIdeal.nD Cert.EvenDxFirstIdeal.τ).loc Cert.EvenDxFirstIdeal.main_arg0)
          ∧ r.2.mem ((c.tc : Thread Cert.EvenDxFirstIdeal.nD Cert.EvenDxFirstIdeal.τ).loc Cert.EvenDxFirstIdeal.main_arg1) = m ((c.tc : Thread Cert.EvenDxFirstIdeal.nD Cert.EvenDxFirstIdeal.τ).loc Cert.EvenDxFirstIdeal.main_arg1)
          ∧ r.2.mem ((c.tc : Thread Cert.EvenDxFirstIdeal.nD Cert.EvenDxFirstIdeal.τ).loc Cert.EvenDxFirstIdeal.main_arg2) = m ((c.tc : Thread Cert.EvenDxFirstIdeal.nD Cert.EvenDxFirstIdeal.τ).loc Cert.EvenDxFirstIdeal.main_arg2))
      ∧ θ_run (Cert.EvenDxFirstRefIdeal.defs (F := Ideal)) (onTc (τ := Cert.EvenDxFirstRefIdeal.τ) (Cert.EvenDxFirstRefIdeal.main (F := Ideal))) ⟨m', fun _ => 0, g'⟩ (fun r => ∀ c : Dev Cert.EvenDxFirstRefIdeal.nD,
          r.2.mem ((c.tc : Thread Cert.EvenDxFirstRefIdeal.nD Cert.EvenDxFirstRefIdeal.τ).loc Cert.EvenDxFirstRefIdeal.main_v9) = v0 c
          ∧ r.2.mem ((c.tc : Thread Cert.EvenDxFirstRefIdeal.nD Cert.EvenDxFirstRefIdeal.τ).loc Cert.EvenDxFirstRefIdeal.main_arg0) = m' ((c.tc : Thread Cert.EvenDxFirstRefIdeal.nD Cert.EvenDxFirstRefIdeal.τ).loc Cert.EvenDxFirstRefIdeal.main_arg0)
          ∧ r.2.mem ((c.tc : Thread Cert.EvenDxFirstRefIdeal.nD Cert.EvenDxFirstRefIdeal.τ).loc Cert.EvenDxFirstRefIdeal.main_arg1) = m' ((c.tc : Thread Cert.EvenDxFirstRefIdeal.nD Cert.EvenDxFirstRefIdeal.τ).loc Cert.EvenDxFirstRefIdeal.main_arg1)
          ∧ r.2.mem ((c.tc : Thread Cert.EvenDxFirstRefIdeal.nD Cert.EvenDxFirstRefIdeal.τ).loc Cert.EvenDxFirstRefIdeal.main_arg2) = m' ((c.tc : Thread Cert.EvenDxFirstRefIdeal.nD Cert.EvenDxFirstRefIdeal.τ).loc Cert.EvenDxFirstRefIdeal.main_arg2))

def preserves_EvenDx_EvenDxIdeal : Prop :=
  True

def algebraic_EvenDxIdeal_EvenDxRefIdeal [hEvenDxIdeal : Cert.EvenDxIdeal.Facts] [hEvenDxRefIdeal : Cert.EvenDxRefIdeal.Facts] : Prop :=
  ∀ (m : (ℓ : Loc Cert.EvenDxIdeal.nD Cert.EvenDxIdeal.τ Cert.EvenDxIdeal.sig) → Buf (Elt Ideal) ℓ) (g : Dev Cert.EvenDxIdeal.nD → PrngReg)
    (m' : (ℓ : Loc Cert.EvenDxRefIdeal.nD Cert.EvenDxRefIdeal.τ Cert.EvenDxRefIdeal.sig) → Buf (Elt Ideal) ℓ) (g' : Dev Cert.EvenDxRefIdeal.nD → PrngReg), Pre_EvenDxIdeal m →
    (∀ c : Dev Cert.EvenDxIdeal.nD,
      m' ((c.tc : Thread Cert.EvenDxRefIdeal.nD Cert.EvenDxRefIdeal.τ).loc Cert.EvenDxRefIdeal.main_arg0) = m ((c.tc : Thread Cert.EvenDxIdeal.nD Cert.EvenDxIdeal.τ).loc Cert.EvenDxIdeal.main_arg0)
      ∧ m' ((c.tc : Thread Cert.EvenDxRefIdeal.nD Cert.EvenDxRefIdeal.τ).loc Cert.EvenDxRefIdeal.main_arg1) = m ((c.tc : Thread Cert.EvenDxIdeal.nD Cert.EvenDxIdeal.τ).loc Cert.EvenDxIdeal.main_arg1)
      ∧ m' ((c.tc : Thread Cert.EvenDxRefIdeal.nD Cert.EvenDxRefIdeal.τ).loc Cert.EvenDxRefIdeal.main_arg2) = m ((c.tc : Thread Cert.EvenDxIdeal.nD Cert.EvenDxIdeal.τ).loc Cert.EvenDxIdeal.main_arg2)) →
    ∃ (v0 : (c : Dev Cert.EvenDxIdeal.nD) → Buf (Elt Ideal) ((c.tc : Thread Cert.EvenDxIdeal.nD Cert.EvenDxIdeal.τ).loc Cert.EvenDxIdeal.main_v0)),
      θ_run (Cert.EvenDxIdeal.defs (F := Ideal)) (onTc (τ := Cert.EvenDxIdeal.τ) (Cert.EvenDxIdeal.main (F := Ideal))) ⟨m, fun _ => 0, g⟩ (fun r => ∀ c : Dev Cert.EvenDxIdeal.nD,
          r.2.mem ((c.tc : Thread Cert.EvenDxIdeal.nD Cert.EvenDxIdeal.τ).loc Cert.EvenDxIdeal.main_v0) = v0 c
          ∧ r.2.mem ((c.tc : Thread Cert.EvenDxIdeal.nD Cert.EvenDxIdeal.τ).loc Cert.EvenDxIdeal.main_arg0) = m ((c.tc : Thread Cert.EvenDxIdeal.nD Cert.EvenDxIdeal.τ).loc Cert.EvenDxIdeal.main_arg0)
          ∧ r.2.mem ((c.tc : Thread Cert.EvenDxIdeal.nD Cert.EvenDxIdeal.τ).loc Cert.EvenDxIdeal.main_arg1) = m ((c.tc : Thread Cert.EvenDxIdeal.nD Cert.EvenDxIdeal.τ).loc Cert.EvenDxIdeal.main_arg1)
          ∧ r.2.mem ((c.tc : Thread Cert.EvenDxIdeal.nD Cert.EvenDxIdeal.τ).loc Cert.EvenDxIdeal.main_arg2) = m ((c.tc : Thread Cert.EvenDxIdeal.nD Cert.EvenDxIdeal.τ).loc Cert.EvenDxIdeal.main_arg2))
      ∧ θ_run (Cert.EvenDxRefIdeal.defs (F := Ideal)) (onTc (τ := Cert.EvenDxRefIdeal.τ) (Cert.EvenDxRefIdeal.main (F := Ideal))) ⟨m', fun _ => 0, g'⟩ (fun r => ∀ c : Dev Cert.EvenDxRefIdeal.nD,
          r.2.mem ((c.tc : Thread Cert.EvenDxRefIdeal.nD Cert.EvenDxRefIdeal.τ).loc Cert.EvenDxRefIdeal.main_v9) = v0 c
          ∧ r.2.mem ((c.tc : Thread Cert.EvenDxRefIdeal.nD Cert.EvenDxRefIdeal.τ).loc Cert.EvenDxRefIdeal.main_arg0) = m' ((c.tc : Thread Cert.EvenDxRefIdeal.nD Cert.EvenDxRefIdeal.τ).loc Cert.EvenDxRefIdeal.main_arg0)
          ∧ r.2.mem ((c.tc : Thread Cert.EvenDxRefIdeal.nD Cert.EvenDxRefIdeal.τ).loc Cert.EvenDxRefIdeal.main_arg1) = m' ((c.tc : Thread Cert.EvenDxRefIdeal.nD Cert.EvenDxRefIdeal.τ).loc Cert.EvenDxRefIdeal.main_arg1)
          ∧ r.2.mem ((c.tc : Thread Cert.EvenDxRefIdeal.nD Cert.EvenDxRefIdeal.τ).loc Cert.EvenDxRefIdeal.main_arg2) = m' ((c.tc : Thread Cert.EvenDxRefIdeal.nD Cert.EvenDxRefIdeal.τ).loc Cert.EvenDxRefIdeal.main_arg2))

def preserves_EvenDxTail_EvenDxTailIdeal : Prop :=
  True

def algebraic_EvenDxTailIdeal_EvenDxTailRefIdeal [hEvenDxTailIdeal : Cert.EvenDxTailIdeal.Facts] [hEvenDxTailRefIdeal : Cert.EvenDxTailRefIdeal.Facts] : Prop :=
  ∀ (m : (ℓ : Loc Cert.EvenDxTailIdeal.nD Cert.EvenDxTailIdeal.τ Cert.EvenDxTailIdeal.sig) → Buf (Elt Ideal) ℓ) (g : Dev Cert.EvenDxTailIdeal.nD → PrngReg)
    (m' : (ℓ : Loc Cert.EvenDxTailRefIdeal.nD Cert.EvenDxTailRefIdeal.τ Cert.EvenDxTailRefIdeal.sig) → Buf (Elt Ideal) ℓ) (g' : Dev Cert.EvenDxTailRefIdeal.nD → PrngReg), Pre_EvenDxTailIdeal m →
    (∀ c : Dev Cert.EvenDxTailIdeal.nD,
      m' ((c.tc : Thread Cert.EvenDxTailRefIdeal.nD Cert.EvenDxTailRefIdeal.τ).loc Cert.EvenDxTailRefIdeal.main_arg0) = m ((c.tc : Thread Cert.EvenDxTailIdeal.nD Cert.EvenDxTailIdeal.τ).loc Cert.EvenDxTailIdeal.main_arg0)
      ∧ m' ((c.tc : Thread Cert.EvenDxTailRefIdeal.nD Cert.EvenDxTailRefIdeal.τ).loc Cert.EvenDxTailRefIdeal.main_arg1) = m ((c.tc : Thread Cert.EvenDxTailIdeal.nD Cert.EvenDxTailIdeal.τ).loc Cert.EvenDxTailIdeal.main_arg1)
      ∧ m' ((c.tc : Thread Cert.EvenDxTailRefIdeal.nD Cert.EvenDxTailRefIdeal.τ).loc Cert.EvenDxTailRefIdeal.main_arg2) = m ((c.tc : Thread Cert.EvenDxTailIdeal.nD Cert.EvenDxTailIdeal.τ).loc Cert.EvenDxTailIdeal.main_arg2)) →
    ∃ (v0 : (c : Dev Cert.EvenDxTailIdeal.nD) → Buf (Elt Ideal) ((c.tc : Thread Cert.EvenDxTailIdeal.nD Cert.EvenDxTailIdeal.τ).loc Cert.EvenDxTailIdeal.main_v0)),
      θ_run (Cert.EvenDxTailIdeal.defs (F := Ideal)) (onTc (τ := Cert.EvenDxTailIdeal.τ) (Cert.EvenDxTailIdeal.main (F := Ideal))) ⟨m, fun _ => 0, g⟩ (fun r => ∀ c : Dev Cert.EvenDxTailIdeal.nD,
          r.2.mem ((c.tc : Thread Cert.EvenDxTailIdeal.nD Cert.EvenDxTailIdeal.τ).loc Cert.EvenDxTailIdeal.main_v0) = v0 c
          ∧ r.2.mem ((c.tc : Thread Cert.EvenDxTailIdeal.nD Cert.EvenDxTailIdeal.τ).loc Cert.EvenDxTailIdeal.main_arg0) = m ((c.tc : Thread Cert.EvenDxTailIdeal.nD Cert.EvenDxTailIdeal.τ).loc Cert.EvenDxTailIdeal.main_arg0)
          ∧ r.2.mem ((c.tc : Thread Cert.EvenDxTailIdeal.nD Cert.EvenDxTailIdeal.τ).loc Cert.EvenDxTailIdeal.main_arg1) = m ((c.tc : Thread Cert.EvenDxTailIdeal.nD Cert.EvenDxTailIdeal.τ).loc Cert.EvenDxTailIdeal.main_arg1)
          ∧ r.2.mem ((c.tc : Thread Cert.EvenDxTailIdeal.nD Cert.EvenDxTailIdeal.τ).loc Cert.EvenDxTailIdeal.main_arg2) = m ((c.tc : Thread Cert.EvenDxTailIdeal.nD Cert.EvenDxTailIdeal.τ).loc Cert.EvenDxTailIdeal.main_arg2))
      ∧ θ_run (Cert.EvenDxTailRefIdeal.defs (F := Ideal)) (onTc (τ := Cert.EvenDxTailRefIdeal.τ) (Cert.EvenDxTailRefIdeal.main (F := Ideal))) ⟨m', fun _ => 0, g'⟩ (fun r => ∀ c : Dev Cert.EvenDxTailRefIdeal.nD,
          r.2.mem ((c.tc : Thread Cert.EvenDxTailRefIdeal.nD Cert.EvenDxTailRefIdeal.τ).loc Cert.EvenDxTailRefIdeal.main_v8) = v0 c
          ∧ r.2.mem ((c.tc : Thread Cert.EvenDxTailRefIdeal.nD Cert.EvenDxTailRefIdeal.τ).loc Cert.EvenDxTailRefIdeal.main_arg0) = m' ((c.tc : Thread Cert.EvenDxTailRefIdeal.nD Cert.EvenDxTailRefIdeal.τ).loc Cert.EvenDxTailRefIdeal.main_arg0)
          ∧ r.2.mem ((c.tc : Thread Cert.EvenDxTailRefIdeal.nD Cert.EvenDxTailRefIdeal.τ).loc Cert.EvenDxTailRefIdeal.main_arg1) = m' ((c.tc : Thread Cert.EvenDxTailRefIdeal.nD Cert.EvenDxTailRefIdeal.τ).loc Cert.EvenDxTailRefIdeal.main_arg1)
          ∧ r.2.mem ((c.tc : Thread Cert.EvenDxTailRefIdeal.nD Cert.EvenDxTailRefIdeal.τ).loc Cert.EvenDxTailRefIdeal.main_arg2) = m' ((c.tc : Thread Cert.EvenDxTailRefIdeal.nD Cert.EvenDxTailRefIdeal.τ).loc Cert.EvenDxTailRefIdeal.main_arg2))

def preserves_EvenOutDx_EvenOutDxIdeal : Prop :=
  True

def algebraic_EvenOutDxIdeal_EvenOutDxRefIdeal [hEvenOutDxIdeal : Cert.EvenOutDxIdeal.Facts] [hEvenOutDxRefIdeal : Cert.EvenOutDxRefIdeal.Facts] : Prop :=
  ∀ (m : (ℓ : Loc Cert.EvenOutDxIdeal.nD Cert.EvenOutDxIdeal.τ Cert.EvenOutDxIdeal.sig) → Buf (Elt Ideal) ℓ) (g : Dev Cert.EvenOutDxIdeal.nD → PrngReg)
    (m' : (ℓ : Loc Cert.EvenOutDxRefIdeal.nD Cert.EvenOutDxRefIdeal.τ Cert.EvenOutDxRefIdeal.sig) → Buf (Elt Ideal) ℓ) (g' : Dev Cert.EvenOutDxRefIdeal.nD → PrngReg), Pre_EvenOutDxIdeal m →
    (∀ c : Dev Cert.EvenOutDxIdeal.nD,
      m' ((c.tc : Thread Cert.EvenOutDxRefIdeal.nD Cert.EvenOutDxRefIdeal.τ).loc Cert.EvenOutDxRefIdeal.main_arg0) = m ((c.tc : Thread Cert.EvenOutDxIdeal.nD Cert.EvenOutDxIdeal.τ).loc Cert.EvenOutDxIdeal.main_arg0)
      ∧ m' ((c.tc : Thread Cert.EvenOutDxRefIdeal.nD Cert.EvenOutDxRefIdeal.τ).loc Cert.EvenOutDxRefIdeal.main_arg1) = m ((c.tc : Thread Cert.EvenOutDxIdeal.nD Cert.EvenOutDxIdeal.τ).loc Cert.EvenOutDxIdeal.main_arg1)) →
    ∃ (v0 : (c : Dev Cert.EvenOutDxIdeal.nD) → Buf (Elt Ideal) ((c.tc : Thread Cert.EvenOutDxIdeal.nD Cert.EvenOutDxIdeal.τ).loc Cert.EvenOutDxIdeal.main_v0)),
      θ_run (Cert.EvenOutDxIdeal.defs (F := Ideal)) (onTc (τ := Cert.EvenOutDxIdeal.τ) (Cert.EvenOutDxIdeal.main (F := Ideal))) ⟨m, fun _ => 0, g⟩ (fun r => ∀ c : Dev Cert.EvenOutDxIdeal.nD,
          r.2.mem ((c.tc : Thread Cert.EvenOutDxIdeal.nD Cert.EvenOutDxIdeal.τ).loc Cert.EvenOutDxIdeal.main_v0) = v0 c
          ∧ r.2.mem ((c.tc : Thread Cert.EvenOutDxIdeal.nD Cert.EvenOutDxIdeal.τ).loc Cert.EvenOutDxIdeal.main_arg0) = m ((c.tc : Thread Cert.EvenOutDxIdeal.nD Cert.EvenOutDxIdeal.τ).loc Cert.EvenOutDxIdeal.main_arg0)
          ∧ r.2.mem ((c.tc : Thread Cert.EvenOutDxIdeal.nD Cert.EvenOutDxIdeal.τ).loc Cert.EvenOutDxIdeal.main_arg1) = m ((c.tc : Thread Cert.EvenOutDxIdeal.nD Cert.EvenOutDxIdeal.τ).loc Cert.EvenOutDxIdeal.main_arg1))
      ∧ θ_run (Cert.EvenOutDxRefIdeal.defs (F := Ideal)) (onTc (τ := Cert.EvenOutDxRefIdeal.τ) (Cert.EvenOutDxRefIdeal.main (F := Ideal))) ⟨m', fun _ => 0, g'⟩ (fun r => ∀ c : Dev Cert.EvenOutDxRefIdeal.nD,
          r.2.mem ((c.tc : Thread Cert.EvenOutDxRefIdeal.nD Cert.EvenOutDxRefIdeal.τ).loc Cert.EvenOutDxRefIdeal.main_v4) = v0 c
          ∧ r.2.mem ((c.tc : Thread Cert.EvenOutDxRefIdeal.nD Cert.EvenOutDxRefIdeal.τ).loc Cert.EvenOutDxRefIdeal.main_arg0) = m' ((c.tc : Thread Cert.EvenOutDxRefIdeal.nD Cert.EvenOutDxRefIdeal.τ).loc Cert.EvenOutDxRefIdeal.main_arg0)
          ∧ r.2.mem ((c.tc : Thread Cert.EvenOutDxRefIdeal.nD Cert.EvenOutDxRefIdeal.τ).loc Cert.EvenOutDxRefIdeal.main_arg1) = m' ((c.tc : Thread Cert.EvenOutDxRefIdeal.nD Cert.EvenOutDxRefIdeal.τ).loc Cert.EvenOutDxRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v0)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v0) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v2) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)) →
    ∃ (v0 : (c : Dev Cert.OddOutIdeal.nD) → Buf (Elt Ideal) ((c.tc : Thread Cert.OddOutIdeal.nD Cert.OddOutIdeal.τ).loc Cert.OddOutIdeal.main_v0)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v0) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v2) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1))

def preserves_EvenInA_EvenInAIdeal : Prop :=
  True

def algebraic_EvenInAIdeal_EvenInARefIdeal [hEvenInAIdeal : Cert.EvenInAIdeal.Facts] [hEvenInARefIdeal : Cert.EvenInARefIdeal.Facts] : Prop :=
  ∀ (m : (ℓ : Loc Cert.EvenInAIdeal.nD Cert.EvenInAIdeal.τ Cert.EvenInAIdeal.sig) → Buf (Elt Ideal) ℓ) (g : Dev Cert.EvenInAIdeal.nD → PrngReg)
    (m' : (ℓ : Loc Cert.EvenInARefIdeal.nD Cert.EvenInARefIdeal.τ Cert.EvenInARefIdeal.sig) → Buf (Elt Ideal) ℓ) (g' : Dev Cert.EvenInARefIdeal.nD → PrngReg), Pre_EvenInAIdeal m →
    (∀ c : Dev Cert.EvenInAIdeal.nD,
      m' ((c.tc : Thread Cert.EvenInARefIdeal.nD Cert.EvenInARefIdeal.τ).loc Cert.EvenInARefIdeal.main_arg0) = m ((c.tc : Thread Cert.EvenInAIdeal.nD Cert.EvenInAIdeal.τ).loc Cert.EvenInAIdeal.main_arg0)
      ∧ m' ((c.tc : Thread Cert.EvenInARefIdeal.nD Cert.EvenInARefIdeal.τ).loc Cert.EvenInARefIdeal.main_arg1) = m ((c.tc : Thread Cert.EvenInAIdeal.nD Cert.EvenInAIdeal.τ).loc Cert.EvenInAIdeal.main_arg1)) →
    ∃ (v0 : (c : Dev Cert.EvenInAIdeal.nD) → Buf (Elt Ideal) ((c.tc : Thread Cert.EvenInAIdeal.nD Cert.EvenInAIdeal.τ).loc Cert.EvenInAIdeal.main_v0)),
      θ_run (Cert.EvenInAIdeal.defs (F := Ideal)) (onTc (τ := Cert.EvenInAIdeal.τ) (Cert.EvenInAIdeal.main (F := Ideal))) ⟨m, fun _ => 0, g⟩ (fun r => ∀ c : Dev Cert.EvenInAIdeal.nD,
          r.2.mem ((c.tc : Thread Cert.EvenInAIdeal.nD Cert.EvenInAIdeal.τ).loc Cert.EvenInAIdeal.main_v0) = v0 c
          ∧ r.2.mem ((c.tc : Thread Cert.EvenInAIdeal.nD Cert.EvenInAIdeal.τ).loc Cert.EvenInAIdeal.main_arg0) = m ((c.tc : Thread Cert.EvenInAIdeal.nD Cert.EvenInAIdeal.τ).loc Cert.EvenInAIdeal.main_arg0)
          ∧ r.2.mem ((c.tc : Thread Cert.EvenInAIdeal.nD Cert.EvenInAIdeal.τ).loc Cert.EvenInAIdeal.main_arg1) = m ((c.tc : Thread Cert.EvenInAIdeal.nD Cert.EvenInAIdeal.τ).loc Cert.EvenInAIdeal.main_arg1))
      ∧ θ_run (Cert.EvenInARefIdeal.defs (F := Ideal)) (onTc (τ := Cert.EvenInARefIdeal.τ) (Cert.EvenInARefIdeal.main (F := Ideal))) ⟨m', fun _ => 0, g'⟩ (fun r => ∀ c : Dev Cert.EvenInARefIdeal.nD,
          r.2.mem ((c.tc : Thread Cert.EvenInARefIdeal.nD Cert.EvenInARefIdeal.τ).loc Cert.EvenInARefIdeal.main_v2) = v0 c
          ∧ r.2.mem ((c.tc : Thread Cert.EvenInARefIdeal.nD Cert.EvenInARefIdeal.τ).loc Cert.EvenInARefIdeal.main_arg0) = m' ((c.tc : Thread Cert.EvenInARefIdeal.nD Cert.EvenInARefIdeal.τ).loc Cert.EvenInARefIdeal.main_arg0)
          ∧ r.2.mem ((c.tc : Thread Cert.EvenInARefIdeal.nD Cert.EvenInARefIdeal.τ).loc Cert.EvenInARefIdeal.main_arg1) = m' ((c.tc : Thread Cert.EvenInARefIdeal.nD Cert.EvenInARefIdeal.τ).loc Cert.EvenInARefIdeal.main_arg1))

def preserves_EvenInQkv_EvenInQkvIdeal : Prop :=
  True

def algebraic_EvenInQkvIdeal_EvenInQkvRefIdeal [hEvenInQkvIdeal : Cert.EvenInQkvIdeal.Facts] [hEvenInQkvRefIdeal : Cert.EvenInQkvRefIdeal.Facts] : Prop :=
  ∀ (m : (ℓ : Loc Cert.EvenInQkvIdeal.nD Cert.EvenInQkvIdeal.τ Cert.EvenInQkvIdeal.sig) → Buf (Elt Ideal) ℓ) (g : Dev Cert.EvenInQkvIdeal.nD → PrngReg)
    (m' : (ℓ : Loc Cert.EvenInQkvRefIdeal.nD Cert.EvenInQkvRefIdeal.τ Cert.EvenInQkvRefIdeal.sig) → Buf (Elt Ideal) ℓ) (g' : Dev Cert.EvenInQkvRefIdeal.nD → PrngReg), Pre_EvenInQkvIdeal m →
    (∀ c : Dev Cert.EvenInQkvIdeal.nD,
      m' ((c.tc : Thread Cert.EvenInQkvRefIdeal.nD Cert.EvenInQkvRefIdeal.τ).loc Cert.EvenInQkvRefIdeal.main_arg0) = m ((c.tc : Thread Cert.EvenInQkvIdeal.nD Cert.EvenInQkvIdeal.τ).loc Cert.EvenInQkvIdeal.main_arg0)
      ∧ m' ((c.tc : Thread Cert.EvenInQkvRefIdeal.nD Cert.EvenInQkvRefIdeal.τ).loc Cert.EvenInQkvRefIdeal.main_arg1) = m ((c.tc : Thread Cert.EvenInQkvIdeal.nD Cert.EvenInQkvIdeal.τ).loc Cert.EvenInQkvIdeal.main_arg1)) →
    ∃ (v0 : (c : Dev Cert.EvenInQkvIdeal.nD) → Buf (Elt Ideal) ((c.tc : Thread Cert.EvenInQkvIdeal.nD Cert.EvenInQkvIdeal.τ).loc Cert.EvenInQkvIdeal.main_v0)),
      θ_run (Cert.EvenInQkvIdeal.defs (F := Ideal)) (onTc (τ := Cert.EvenInQkvIdeal.τ) (Cert.EvenInQkvIdeal.main (F := Ideal))) ⟨m, fun _ => 0, g⟩ (fun r => ∀ c : Dev Cert.EvenInQkvIdeal.nD,
          r.2.mem ((c.tc : Thread Cert.EvenInQkvIdeal.nD Cert.EvenInQkvIdeal.τ).loc Cert.EvenInQkvIdeal.main_v0) = v0 c
          ∧ r.2.mem ((c.tc : Thread Cert.EvenInQkvIdeal.nD Cert.EvenInQkvIdeal.τ).loc Cert.EvenInQkvIdeal.main_arg0) = m ((c.tc : Thread Cert.EvenInQkvIdeal.nD Cert.EvenInQkvIdeal.τ).loc Cert.EvenInQkvIdeal.main_arg0)
          ∧ r.2.mem ((c.tc : Thread Cert.EvenInQkvIdeal.nD Cert.EvenInQkvIdeal.τ).loc Cert.EvenInQkvIdeal.main_arg1) = m ((c.tc : Thread Cert.EvenInQkvIdeal.nD Cert.EvenInQkvIdeal.τ).loc Cert.EvenInQkvIdeal.main_arg1))
      ∧ θ_run (Cert.EvenInQkvRefIdeal.defs (F := Ideal)) (onTc (τ := Cert.EvenInQkvRefIdeal.τ) (Cert.EvenInQkvRefIdeal.main (F := Ideal))) ⟨m', fun _ => 0, g'⟩ (fun r => ∀ c : Dev Cert.EvenInQkvRefIdeal.nD,
          r.2.mem ((c.tc : Thread Cert.EvenInQkvRefIdeal.nD Cert.EvenInQkvRefIdeal.τ).loc Cert.EvenInQkvRefIdeal.main_v2) = v0 c
          ∧ r.2.mem ((c.tc : Thread Cert.EvenInQkvRefIdeal.nD Cert.EvenInQkvRefIdeal.τ).loc Cert.EvenInQkvRefIdeal.main_arg0) = m' ((c.tc : Thread Cert.EvenInQkvRefIdeal.nD Cert.EvenInQkvRefIdeal.τ).loc Cert.EvenInQkvRefIdeal.main_arg0)
          ∧ r.2.mem ((c.tc : Thread Cert.EvenInQkvRefIdeal.nD Cert.EvenInQkvRefIdeal.τ).loc Cert.EvenInQkvRefIdeal.main_arg1) = m' ((c.tc : Thread Cert.EvenInQkvRefIdeal.nD Cert.EvenInQkvRefIdeal.τ).loc Cert.EvenInQkvRefIdeal.main_arg1))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v0)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v0) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v2) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_EvenInTail_EvenInTailIdeal : Prop :=
  True

def algebraic_EvenInTailIdeal_EvenInTailRefIdeal [hEvenInTailIdeal : Cert.EvenInTailIdeal.Facts] [hEvenInTailRefIdeal : Cert.EvenInTailRefIdeal.Facts] : Prop :=
  ∀ (m : (ℓ : Loc Cert.EvenInTailIdeal.nD Cert.EvenInTailIdeal.τ Cert.EvenInTailIdeal.sig) → Buf (Elt Ideal) ℓ) (g : Dev Cert.EvenInTailIdeal.nD → PrngReg)
    (m' : (ℓ : Loc Cert.EvenInTailRefIdeal.nD Cert.EvenInTailRefIdeal.τ Cert.EvenInTailRefIdeal.sig) → Buf (Elt Ideal) ℓ) (g' : Dev Cert.EvenInTailRefIdeal.nD → PrngReg), Pre_EvenInTailIdeal m →
    (∀ c : Dev Cert.EvenInTailIdeal.nD,
      m' ((c.tc : Thread Cert.EvenInTailRefIdeal.nD Cert.EvenInTailRefIdeal.τ).loc Cert.EvenInTailRefIdeal.main_arg0) = m ((c.tc : Thread Cert.EvenInTailIdeal.nD Cert.EvenInTailIdeal.τ).loc Cert.EvenInTailIdeal.main_arg0)
      ∧ m' ((c.tc : Thread Cert.EvenInTailRefIdeal.nD Cert.EvenInTailRefIdeal.τ).loc Cert.EvenInTailRefIdeal.main_arg1) = m ((c.tc : Thread Cert.EvenInTailIdeal.nD Cert.EvenInTailIdeal.τ).loc Cert.EvenInTailIdeal.main_arg1)) →
    ∃ (v0 : (c : Dev Cert.EvenInTailIdeal.nD) → Buf (Elt Ideal) ((c.tc : Thread Cert.EvenInTailIdeal.nD Cert.EvenInTailIdeal.τ).loc Cert.EvenInTailIdeal.main_v0)),
      θ_run (Cert.EvenInTailIdeal.defs (F := Ideal)) (onTc (τ := Cert.EvenInTailIdeal.τ) (Cert.EvenInTailIdeal.main (F := Ideal))) ⟨m, fun _ => 0, g⟩ (fun r => ∀ c : Dev Cert.EvenInTailIdeal.nD,
          r.2.mem ((c.tc : Thread Cert.EvenInTailIdeal.nD Cert.EvenInTailIdeal.τ).loc Cert.EvenInTailIdeal.main_v0) = v0 c
          ∧ r.2.mem ((c.tc : Thread Cert.EvenInTailIdeal.nD Cert.EvenInTailIdeal.τ).loc Cert.EvenInTailIdeal.main_arg0) = m ((c.tc : Thread Cert.EvenInTailIdeal.nD Cert.EvenInTailIdeal.τ).loc Cert.EvenInTailIdeal.main_arg0)
          ∧ r.2.mem ((c.tc : Thread Cert.EvenInTailIdeal.nD Cert.EvenInTailIdeal.τ).loc Cert.EvenInTailIdeal.main_arg1) = m ((c.tc : Thread Cert.EvenInTailIdeal.nD Cert.EvenInTailIdeal.τ).loc Cert.EvenInTailIdeal.main_arg1))
      ∧ θ_run (Cert.EvenInTailRefIdeal.defs (F := Ideal)) (onTc (τ := Cert.EvenInTailRefIdeal.τ) (Cert.EvenInTailRefIdeal.main (F := Ideal))) ⟨m', fun _ => 0, g'⟩ (fun r => ∀ c : Dev Cert.EvenInTailRefIdeal.nD,
          r.2.mem ((c.tc : Thread Cert.EvenInTailRefIdeal.nD Cert.EvenInTailRefIdeal.τ).loc Cert.EvenInTailRefIdeal.main_v2) = v0 c
          ∧ r.2.mem ((c.tc : Thread Cert.EvenInTailRefIdeal.nD Cert.EvenInTailRefIdeal.τ).loc Cert.EvenInTailRefIdeal.main_arg0) = m' ((c.tc : Thread Cert.EvenInTailRefIdeal.nD Cert.EvenInTailRefIdeal.τ).loc Cert.EvenInTailRefIdeal.main_arg0)
          ∧ r.2.mem ((c.tc : Thread Cert.EvenInTailRefIdeal.nD Cert.EvenInTailRefIdeal.τ).loc Cert.EvenInTailRefIdeal.main_arg1) = m' ((c.tc : Thread Cert.EvenInTailRefIdeal.nD Cert.EvenInTailRefIdeal.τ).loc Cert.EvenInTailRefIdeal.main_arg1))

def preserves_EvenOutB_EvenOutBIdeal : Prop :=
  True

def algebraic_EvenOutBIdeal_EvenOutBRefIdeal [hEvenOutBIdeal : Cert.EvenOutBIdeal.Facts] [hEvenOutBRefIdeal : Cert.EvenOutBRefIdeal.Facts] : Prop :=
  ∀ (m : (ℓ : Loc Cert.EvenOutBIdeal.nD Cert.EvenOutBIdeal.τ Cert.EvenOutBIdeal.sig) → Buf (Elt Ideal) ℓ) (g : Dev Cert.EvenOutBIdeal.nD → PrngReg)
    (m' : (ℓ : Loc Cert.EvenOutBRefIdeal.nD Cert.EvenOutBRefIdeal.τ Cert.EvenOutBRefIdeal.sig) → Buf (Elt Ideal) ℓ) (g' : Dev Cert.EvenOutBRefIdeal.nD → PrngReg), Pre_EvenOutBIdeal m →
    (∀ c : Dev Cert.EvenOutBIdeal.nD,
      m' ((c.tc : Thread Cert.EvenOutBRefIdeal.nD Cert.EvenOutBRefIdeal.τ).loc Cert.EvenOutBRefIdeal.main_arg0) = m ((c.tc : Thread Cert.EvenOutBIdeal.nD Cert.EvenOutBIdeal.τ).loc Cert.EvenOutBIdeal.main_arg0)
      ∧ m' ((c.tc : Thread Cert.EvenOutBRefIdeal.nD Cert.EvenOutBRefIdeal.τ).loc Cert.EvenOutBRefIdeal.main_arg1) = m ((c.tc : Thread Cert.EvenOutBIdeal.nD Cert.EvenOutBIdeal.τ).loc Cert.EvenOutBIdeal.main_arg1)
      ∧ m' ((c.tc : Thread Cert.EvenOutBRefIdeal.nD Cert.EvenOutBRefIdeal.τ).loc Cert.EvenOutBRefIdeal.main_arg2) = m ((c.tc : Thread Cert.EvenOutBIdeal.nD Cert.EvenOutBIdeal.τ).loc Cert.EvenOutBIdeal.main_arg2)) →
    ∃ (v0 : (c : Dev Cert.EvenOutBIdeal.nD) → Buf (Elt Ideal) ((c.tc : Thread Cert.EvenOutBIdeal.nD Cert.EvenOutBIdeal.τ).loc Cert.EvenOutBIdeal.main_v0)),
      θ_run (Cert.EvenOutBIdeal.defs (F := Ideal)) (onTc (τ := Cert.EvenOutBIdeal.τ) (Cert.EvenOutBIdeal.main (F := Ideal))) ⟨m, fun _ => 0, g⟩ (fun r => ∀ c : Dev Cert.EvenOutBIdeal.nD,
          r.2.mem ((c.tc : Thread Cert.EvenOutBIdeal.nD Cert.EvenOutBIdeal.τ).loc Cert.EvenOutBIdeal.main_v0) = v0 c
          ∧ r.2.mem ((c.tc : Thread Cert.EvenOutBIdeal.nD Cert.EvenOutBIdeal.τ).loc Cert.EvenOutBIdeal.main_arg0) = m ((c.tc : Thread Cert.EvenOutBIdeal.nD Cert.EvenOutBIdeal.τ).loc Cert.EvenOutBIdeal.main_arg0)
          ∧ r.2.mem ((c.tc : Thread Cert.EvenOutBIdeal.nD Cert.EvenOutBIdeal.τ).loc Cert.EvenOutBIdeal.main_arg1) = m ((c.tc : Thread Cert.EvenOutBIdeal.nD Cert.EvenOutBIdeal.τ).loc Cert.EvenOutBIdeal.main_arg1)
          ∧ r.2.mem ((c.tc : Thread Cert.EvenOutBIdeal.nD Cert.EvenOutBIdeal.τ).loc Cert.EvenOutBIdeal.main_arg2) = m ((c.tc : Thread Cert.EvenOutBIdeal.nD Cert.EvenOutBIdeal.τ).loc Cert.EvenOutBIdeal.main_arg2))
      ∧ θ_run (Cert.EvenOutBRefIdeal.defs (F := Ideal)) (onTc (τ := Cert.EvenOutBRefIdeal.τ) (Cert.EvenOutBRefIdeal.main (F := Ideal))) ⟨m', fun _ => 0, g'⟩ (fun r => ∀ c : Dev Cert.EvenOutBRefIdeal.nD,
          r.2.mem ((c.tc : Thread Cert.EvenOutBRefIdeal.nD Cert.EvenOutBRefIdeal.τ).loc Cert.EvenOutBRefIdeal.main_v3) = v0 c
          ∧ r.2.mem ((c.tc : Thread Cert.EvenOutBRefIdeal.nD Cert.EvenOutBRefIdeal.τ).loc Cert.EvenOutBRefIdeal.main_arg0) = m' ((c.tc : Thread Cert.EvenOutBRefIdeal.nD Cert.EvenOutBRefIdeal.τ).loc Cert.EvenOutBRefIdeal.main_arg0)
          ∧ r.2.mem ((c.tc : Thread Cert.EvenOutBRefIdeal.nD Cert.EvenOutBRefIdeal.τ).loc Cert.EvenOutBRefIdeal.main_arg1) = m' ((c.tc : Thread Cert.EvenOutBRefIdeal.nD Cert.EvenOutBRefIdeal.τ).loc Cert.EvenOutBRefIdeal.main_arg1)
          ∧ r.2.mem ((c.tc : Thread Cert.EvenOutBRefIdeal.nD Cert.EvenOutBRefIdeal.τ).loc Cert.EvenOutBRefIdeal.main_arg2) = m' ((c.tc : Thread Cert.EvenOutBRefIdeal.nD Cert.EvenOutBRefIdeal.τ).loc Cert.EvenOutBRefIdeal.main_arg2))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamInOdd_AdamInOddIdeal : Prop :=
  True

def algebraic_AdamInOddIdeal_AdamInOddRefIdeal [hAdamInOddIdeal : Cert.AdamInOddIdeal.Facts] [hAdamInOddRefIdeal : Cert.AdamInOddRefIdeal.Facts] : Prop :=
  ∀ (m : (ℓ : Loc Cert.AdamInOddIdeal.nD Cert.AdamInOddIdeal.τ Cert.AdamInOddIdeal.sig) → Buf (Elt Ideal) ℓ) (g : Dev Cert.AdamInOddIdeal.nD → PrngReg)
    (m' : (ℓ : Loc Cert.AdamInOddRefIdeal.nD Cert.AdamInOddRefIdeal.τ Cert.AdamInOddRefIdeal.sig) → Buf (Elt Ideal) ℓ) (g' : Dev Cert.AdamInOddRefIdeal.nD → PrngReg), Pre_AdamInOddIdeal m →
    (∀ c : Dev Cert.AdamInOddIdeal.nD,
      m' ((c.tc : Thread Cert.AdamInOddRefIdeal.nD Cert.AdamInOddRefIdeal.τ).loc Cert.AdamInOddRefIdeal.main_arg0) = m ((c.tc : Thread Cert.AdamInOddIdeal.nD Cert.AdamInOddIdeal.τ).loc Cert.AdamInOddIdeal.main_arg0)
      ∧ m' ((c.tc : Thread Cert.AdamInOddRefIdeal.nD Cert.AdamInOddRefIdeal.τ).loc Cert.AdamInOddRefIdeal.main_arg1) = m ((c.tc : Thread Cert.AdamInOddIdeal.nD Cert.AdamInOddIdeal.τ).loc Cert.AdamInOddIdeal.main_arg1)
      ∧ m' ((c.tc : Thread Cert.AdamInOddRefIdeal.nD Cert.AdamInOddRefIdeal.τ).loc Cert.AdamInOddRefIdeal.main_arg2) = m ((c.tc : Thread Cert.AdamInOddIdeal.nD Cert.AdamInOddIdeal.τ).loc Cert.AdamInOddIdeal.main_arg2)
      ∧ m' ((c.tc : Thread Cert.AdamInOddRefIdeal.nD Cert.AdamInOddRefIdeal.τ).loc Cert.AdamInOddRefIdeal.main_arg3) = m ((c.tc : Thread Cert.AdamInOddIdeal.nD Cert.AdamInOddIdeal.τ).loc Cert.AdamInOddIdeal.main_arg3)) →
    ∃ (v0 : (c : Dev Cert.AdamInOddIdeal.nD) → Buf (Elt Ideal) ((c.tc : Thread Cert.AdamInOddIdeal.nD Cert.AdamInOddIdeal.τ).loc Cert.AdamInOddIdeal.main_v0_0)) (v1 : (c : Dev Cert.AdamInOddIdeal.nD) → Buf (Elt Ideal) ((c.tc : Thread Cert.AdamInOddIdeal.nD Cert.AdamInOddIdeal.τ).loc Cert.AdamInOddIdeal.main_v0_1)) (v2 : (c : Dev Cert.AdamInOddIdeal.nD) → Buf (Elt Ideal) ((c.tc : Thread Cert.AdamInOddIdeal.nD Cert.AdamInOddIdeal.τ).loc Cert.AdamInOddIdeal.main_v0_2)),
      θ_run (Cert.AdamInOddIdeal.defs (F := Ideal)) (onTc (τ := Cert.AdamInOddIdeal.τ) (Cert.AdamInOddIdeal.main (F := Ideal))) ⟨m, fun _ => 0, g⟩ (fun r => ∀ c : Dev Cert.AdamInOddIdeal.nD,
          r.2.mem ((c.tc : Thread Cert.AdamInOddIdeal.nD Cert.AdamInOddIdeal.τ).loc Cert.AdamInOddIdeal.main_v0_0) = v0 c
          ∧ r.2.mem ((c.tc : Thread Cert.AdamInOddIdeal.nD Cert.AdamInOddIdeal.τ).loc Cert.AdamInOddIdeal.main_v0_1) = v1 c
          ∧ r.2.mem ((c.tc : Thread Cert.AdamInOddIdeal.nD Cert.AdamInOddIdeal.τ).loc Cert.AdamInOddIdeal.main_v0_2) = v2 c
          ∧ r.2.mem ((c.tc : Thread Cert.AdamInOddIdeal.nD Cert.AdamInOddIdeal.τ).loc Cert.AdamInOddIdeal.main_arg0) = m ((c.tc : Thread Cert.AdamInOddIdeal.nD Cert.AdamInOddIdeal.τ).loc Cert.AdamInOddIdeal.main_arg0)
          ∧ r.2.mem ((c.tc : Thread Cert.AdamInOddIdeal.nD Cert.AdamInOddIdeal.τ).loc Cert.AdamInOddIdeal.main_arg1) = m ((c.tc : Thread Cert.AdamInOddIdeal.nD Cert.AdamInOddIdeal.τ).loc Cert.AdamInOddIdeal.main_arg1)
          ∧ r.2.mem ((c.tc : Thread Cert.AdamInOddIdeal.nD Cert.AdamInOddIdeal.τ).loc Cert.AdamInOddIdeal.main_arg2) = m ((c.tc : Thread Cert.AdamInOddIdeal.nD Cert.AdamInOddIdeal.τ).loc Cert.AdamInOddIdeal.main_arg2)
          ∧ r.2.mem ((c.tc : Thread Cert.AdamInOddIdeal.nD Cert.AdamInOddIdeal.τ).loc Cert.AdamInOddIdeal.main_arg3) = m ((c.tc : Thread Cert.AdamInOddIdeal.nD Cert.AdamInOddIdeal.τ).loc Cert.AdamInOddIdeal.main_arg3))
      ∧ θ_run (Cert.AdamInOddRefIdeal.defs (F := Ideal)) (onTc (τ := Cert.AdamInOddRefIdeal.τ) (Cert.AdamInOddRefIdeal.main (F := Ideal))) ⟨m', fun _ => 0, g'⟩ (fun r => ∀ c : Dev Cert.AdamInOddRefIdeal.nD,
          r.2.mem ((c.tc : Thread Cert.AdamInOddRefIdeal.nD Cert.AdamInOddRefIdeal.τ).loc Cert.AdamInOddRefIdeal.main_v23) = v0 c
          ∧ r.2.mem ((c.tc : Thread Cert.AdamInOddRefIdeal.nD Cert.AdamInOddRefIdeal.τ).loc Cert.AdamInOddRefIdeal.main_v4) = v1 c
          ∧ r.2.mem ((c.tc : Thread Cert.AdamInOddRefIdeal.nD Cert.AdamInOddRefIdeal.τ).loc Cert.AdamInOddRefIdeal.main_v10) = v2 c
          ∧ r.2.mem ((c.tc : Thread Cert.AdamInOddRefIdeal.nD Cert.AdamInOddRefIdeal.τ).loc Cert.AdamInOddRefIdeal.main_arg0) = m' ((c.tc : Thread Cert.AdamInOddRefIdeal.nD Cert.AdamInOddRefIdeal.τ).loc Cert.AdamInOddRefIdeal.main_arg0)
          ∧ r.2.mem ((c.tc : Thread Cert.AdamInOddRefIdeal.nD Cert.AdamInOddRefIdeal.τ).loc Cert.AdamInOddRefIdeal.main_arg1) = m' ((c.tc : Thread Cert.AdamInOddRefIdeal.nD Cert.AdamInOddRefIdeal.τ).loc Cert.AdamInOddRefIdeal.main_arg1)
          ∧ r.2.mem ((c.tc : Thread Cert.AdamInOddRefIdeal.nD Cert.AdamInOddRefIdeal.τ).loc Cert.AdamInOddRefIdeal.main_arg2) = m' ((c.tc : Thread Cert.AdamInOddRefIdeal.nD Cert.AdamInOddRefIdeal.τ).loc Cert.AdamInOddRefIdeal.main_arg2)
          ∧ r.2.mem ((c.tc : Thread Cert.AdamInOddRefIdeal.nD Cert.AdamInOddRefIdeal.τ).loc Cert.AdamInOddRefIdeal.main_arg3) = m' ((c.tc : Thread Cert.AdamInOddRefIdeal.nD Cert.AdamInOddRefIdeal.τ).loc Cert.AdamInOddRefIdeal.main_arg3))

def preserves_AdamPl_AdamPlIdeal : Prop :=
  True

def algebraic_AdamPlIdeal_AdamPlRefIdeal [hAdamPlIdeal : Cert.AdamPlIdeal.Facts] [hAdamPlRefIdeal : Cert.AdamPlRefIdeal.Facts] : Prop :=
  ∀ (m : (ℓ : Loc Cert.AdamPlIdeal.nD Cert.AdamPlIdeal.τ Cert.AdamPlIdeal.sig) → Buf (Elt Ideal) ℓ) (g : Dev Cert.AdamPlIdeal.nD → PrngReg)
    (m' : (ℓ : Loc Cert.AdamPlRefIdeal.nD Cert.AdamPlRefIdeal.τ Cert.AdamPlRefIdeal.sig) → Buf (Elt Ideal) ℓ) (g' : Dev Cert.AdamPlRefIdeal.nD → PrngReg), Pre_AdamPlIdeal m →
    (∀ c : Dev Cert.AdamPlIdeal.nD,
      m' ((c.tc : Thread Cert.AdamPlRefIdeal.nD Cert.AdamPlRefIdeal.τ).loc Cert.AdamPlRefIdeal.main_arg0) = m ((c.tc : Thread Cert.AdamPlIdeal.nD Cert.AdamPlIdeal.τ).loc Cert.AdamPlIdeal.main_arg0)
      ∧ m' ((c.tc : Thread Cert.AdamPlRefIdeal.nD Cert.AdamPlRefIdeal.τ).loc Cert.AdamPlRefIdeal.main_arg1) = m ((c.tc : Thread Cert.AdamPlIdeal.nD Cert.AdamPlIdeal.τ).loc Cert.AdamPlIdeal.main_arg1)
      ∧ m' ((c.tc : Thread Cert.AdamPlRefIdeal.nD Cert.AdamPlRefIdeal.τ).loc Cert.AdamPlRefIdeal.main_arg2) = m ((c.tc : Thread Cert.AdamPlIdeal.nD Cert.AdamPlIdeal.τ).loc Cert.AdamPlIdeal.main_arg2)
      ∧ m' ((c.tc : Thread Cert.AdamPlRefIdeal.nD Cert.AdamPlRefIdeal.τ).loc Cert.AdamPlRefIdeal.main_arg3) = m ((c.tc : Thread Cert.AdamPlIdeal.nD Cert.AdamPlIdeal.τ).loc Cert.AdamPlIdeal.main_arg3)) →
    ∃ (v0 : (c : Dev Cert.AdamPlIdeal.nD) → Buf (Elt Ideal) ((c.tc : Thread Cert.AdamPlIdeal.nD Cert.AdamPlIdeal.τ).loc Cert.AdamPlIdeal.main_v0_0)) (v1 : (c : Dev Cert.AdamPlIdeal.nD) → Buf (Elt Ideal) ((c.tc : Thread Cert.AdamPlIdeal.nD Cert.AdamPlIdeal.τ).loc Cert.AdamPlIdeal.main_v0_1)) (v2 : (c : Dev Cert.AdamPlIdeal.nD) → Buf (Elt Ideal) ((c.tc : Thread Cert.AdamPlIdeal.nD Cert.AdamPlIdeal.τ).loc Cert.AdamPlIdeal.main_v0_2)),
      θ_run (Cert.AdamPlIdeal.defs (F := Ideal)) (onTc (τ := Cert.AdamPlIdeal.τ) (Cert.AdamPlIdeal.main (F := Ideal))) ⟨m, fun _ => 0, g⟩ (fun r => ∀ c : Dev Cert.AdamPlIdeal.nD,
          r.2.mem ((c.tc : Thread Cert.AdamPlIdeal.nD Cert.AdamPlIdeal.τ).loc Cert.AdamPlIdeal.main_v0_0) = v0 c
          ∧ r.2.mem ((c.tc : Thread Cert.AdamPlIdeal.nD Cert.AdamPlIdeal.τ).loc Cert.AdamPlIdeal.main_v0_1) = v1 c
          ∧ r.2.mem ((c.tc : Thread Cert.AdamPlIdeal.nD Cert.AdamPlIdeal.τ).loc Cert.AdamPlIdeal.main_v0_2) = v2 c
          ∧ r.2.mem ((c.tc : Thread Cert.AdamPlIdeal.nD Cert.AdamPlIdeal.τ).loc Cert.AdamPlIdeal.main_arg0) = m ((c.tc : Thread Cert.AdamPlIdeal.nD Cert.AdamPlIdeal.τ).loc Cert.AdamPlIdeal.main_arg0)
          ∧ r.2.mem ((c.tc : Thread Cert.AdamPlIdeal.nD Cert.AdamPlIdeal.τ).loc Cert.AdamPlIdeal.main_arg1) = m ((c.tc : Thread Cert.AdamPlIdeal.nD Cert.AdamPlIdeal.τ).loc Cert.AdamPlIdeal.main_arg1)
          ∧ r.2.mem ((c.tc : Thread Cert.AdamPlIdeal.nD Cert.AdamPlIdeal.τ).loc Cert.AdamPlIdeal.main_arg2) = m ((c.tc : Thread Cert.AdamPlIdeal.nD Cert.AdamPlIdeal.τ).loc Cert.AdamPlIdeal.main_arg2)
          ∧ r.2.mem ((c.tc : Thread Cert.AdamPlIdeal.nD Cert.AdamPlIdeal.τ).loc Cert.AdamPlIdeal.main_arg3) = m ((c.tc : Thread Cert.AdamPlIdeal.nD Cert.AdamPlIdeal.τ).loc Cert.AdamPlIdeal.main_arg3))
      ∧ θ_run (Cert.AdamPlRefIdeal.defs (F := Ideal)) (onTc (τ := Cert.AdamPlRefIdeal.τ) (Cert.AdamPlRefIdeal.main (F := Ideal))) ⟨m', fun _ => 0, g'⟩ (fun r => ∀ c : Dev Cert.AdamPlRefIdeal.nD,
          r.2.mem ((c.tc : Thread Cert.AdamPlRefIdeal.nD Cert.AdamPlRefIdeal.τ).loc Cert.AdamPlRefIdeal.main_v23) = v0 c
          ∧ r.2.mem ((c.tc : Thread Cert.AdamPlRefIdeal.nD Cert.AdamPlRefIdeal.τ).loc Cert.AdamPlRefIdeal.main_v4) = v1 c
          ∧ r.2.mem ((c.tc : Thread Cert.AdamPlRefIdeal.nD Cert.AdamPlRefIdeal.τ).loc Cert.AdamPlRefIdeal.main_v10) = v2 c
          ∧ r.2.mem ((c.tc : Thread Cert.AdamPlRefIdeal.nD Cert.AdamPlRefIdeal.τ).loc Cert.AdamPlRefIdeal.main_arg0) = m' ((c.tc : Thread Cert.AdamPlRefIdeal.nD Cert.AdamPlRefIdeal.τ).loc Cert.AdamPlRefIdeal.main_arg0)
          ∧ r.2.mem ((c.tc : Thread Cert.AdamPlRefIdeal.nD Cert.AdamPlRefIdeal.τ).loc Cert.AdamPlRefIdeal.main_arg1) = m' ((c.tc : Thread Cert.AdamPlRefIdeal.nD Cert.AdamPlRefIdeal.τ).loc Cert.AdamPlRefIdeal.main_arg1)
          ∧ r.2.mem ((c.tc : Thread Cert.AdamPlRefIdeal.nD Cert.AdamPlRefIdeal.τ).loc Cert.AdamPlRefIdeal.main_arg2) = m' ((c.tc : Thread Cert.AdamPlRefIdeal.nD Cert.AdamPlRefIdeal.τ).loc Cert.AdamPlRefIdeal.main_arg2)
          ∧ r.2.mem ((c.tc : Thread Cert.AdamPlRefIdeal.nD Cert.AdamPlRefIdeal.τ).loc Cert.AdamPlRefIdeal.main_arg3) = m' ((c.tc : Thread Cert.AdamPlRefIdeal.nD Cert.AdamPlRefIdeal.τ).loc Cert.AdamPlRefIdeal.main_arg3))

def preserves_AdamPlGate_AdamPlGateIdeal : Prop :=
  True

def algebraic_AdamPlGateIdeal_AdamPlGateRefIdeal [hAdamPlGateIdeal : Cert.AdamPlGateIdeal.Facts] [hAdamPlGateRefIdeal : Cert.AdamPlGateRefIdeal.Facts] : Prop :=
  ∀ (m : (ℓ : Loc Cert.AdamPlGateIdeal.nD Cert.AdamPlGateIdeal.τ Cert.AdamPlGateIdeal.sig) → Buf (Elt Ideal) ℓ) (g : Dev Cert.AdamPlGateIdeal.nD → PrngReg)
    (m' : (ℓ : Loc Cert.AdamPlGateRefIdeal.nD Cert.AdamPlGateRefIdeal.τ Cert.AdamPlGateRefIdeal.sig) → Buf (Elt Ideal) ℓ) (g' : Dev Cert.AdamPlGateRefIdeal.nD → PrngReg), Pre_AdamPlGateIdeal m →
    (∀ c : Dev Cert.AdamPlGateIdeal.nD,
      m' ((c.tc : Thread Cert.AdamPlGateRefIdeal.nD Cert.AdamPlGateRefIdeal.τ).loc Cert.AdamPlGateRefIdeal.main_arg0) = m ((c.tc : Thread Cert.AdamPlGateIdeal.nD Cert.AdamPlGateIdeal.τ).loc Cert.AdamPlGateIdeal.main_arg0)
      ∧ m' ((c.tc : Thread Cert.AdamPlGateRefIdeal.nD Cert.AdamPlGateRefIdeal.τ).loc Cert.AdamPlGateRefIdeal.main_arg1) = m ((c.tc : Thread Cert.AdamPlGateIdeal.nD Cert.AdamPlGateIdeal.τ).loc Cert.AdamPlGateIdeal.main_arg1)
      ∧ m' ((c.tc : Thread Cert.AdamPlGateRefIdeal.nD Cert.AdamPlGateRefIdeal.τ).loc Cert.AdamPlGateRefIdeal.main_arg2) = m ((c.tc : Thread Cert.AdamPlGateIdeal.nD Cert.AdamPlGateIdeal.τ).loc Cert.AdamPlGateIdeal.main_arg2)
      ∧ m' ((c.tc : Thread Cert.AdamPlGateRefIdeal.nD Cert.AdamPlGateRefIdeal.τ).loc Cert.AdamPlGateRefIdeal.main_arg3) = m ((c.tc : Thread Cert.AdamPlGateIdeal.nD Cert.AdamPlGateIdeal.τ).loc Cert.AdamPlGateIdeal.main_arg3)) →
    ∃ (v0 : (c : Dev Cert.AdamPlGateIdeal.nD) → Buf (Elt Ideal) ((c.tc : Thread Cert.AdamPlGateIdeal.nD Cert.AdamPlGateIdeal.τ).loc Cert.AdamPlGateIdeal.main_v0_0)) (v1 : (c : Dev Cert.AdamPlGateIdeal.nD) → Buf (Elt Ideal) ((c.tc : Thread Cert.AdamPlGateIdeal.nD Cert.AdamPlGateIdeal.τ).loc Cert.AdamPlGateIdeal.main_v0_1)) (v2 : (c : Dev Cert.AdamPlGateIdeal.nD) → Buf (Elt Ideal) ((c.tc : Thread Cert.AdamPlGateIdeal.nD Cert.AdamPlGateIdeal.τ).loc Cert.AdamPlGateIdeal.main_v0_2)),
      θ_run (Cert.AdamPlGateIdeal.defs (F := Ideal)) (onTc (τ := Cert.AdamPlGateIdeal.τ) (Cert.AdamPlGateIdeal.main (F := Ideal))) ⟨m, fun _ => 0, g⟩ (fun r => ∀ c : Dev Cert.AdamPlGateIdeal.nD,
          r.2.mem ((c.tc : Thread Cert.AdamPlGateIdeal.nD Cert.AdamPlGateIdeal.τ).loc Cert.AdamPlGateIdeal.main_v0_0) = v0 c
          ∧ r.2.mem ((c.tc : Thread Cert.AdamPlGateIdeal.nD Cert.AdamPlGateIdeal.τ).loc Cert.AdamPlGateIdeal.main_v0_1) = v1 c
          ∧ r.2.mem ((c.tc : Thread Cert.AdamPlGateIdeal.nD Cert.AdamPlGateIdeal.τ).loc Cert.AdamPlGateIdeal.main_v0_2) = v2 c
          ∧ r.2.mem ((c.tc : Thread Cert.AdamPlGateIdeal.nD Cert.AdamPlGateIdeal.τ).loc Cert.AdamPlGateIdeal.main_arg0) = m ((c.tc : Thread Cert.AdamPlGateIdeal.nD Cert.AdamPlGateIdeal.τ).loc Cert.AdamPlGateIdeal.main_arg0)
          ∧ r.2.mem ((c.tc : Thread Cert.AdamPlGateIdeal.nD Cert.AdamPlGateIdeal.τ).loc Cert.AdamPlGateIdeal.main_arg1) = m ((c.tc : Thread Cert.AdamPlGateIdeal.nD Cert.AdamPlGateIdeal.τ).loc Cert.AdamPlGateIdeal.main_arg1)
          ∧ r.2.mem ((c.tc : Thread Cert.AdamPlGateIdeal.nD Cert.AdamPlGateIdeal.τ).loc Cert.AdamPlGateIdeal.main_arg2) = m ((c.tc : Thread Cert.AdamPlGateIdeal.nD Cert.AdamPlGateIdeal.τ).loc Cert.AdamPlGateIdeal.main_arg2)
          ∧ r.2.mem ((c.tc : Thread Cert.AdamPlGateIdeal.nD Cert.AdamPlGateIdeal.τ).loc Cert.AdamPlGateIdeal.main_arg3) = m ((c.tc : Thread Cert.AdamPlGateIdeal.nD Cert.AdamPlGateIdeal.τ).loc Cert.AdamPlGateIdeal.main_arg3))
      ∧ θ_run (Cert.AdamPlGateRefIdeal.defs (F := Ideal)) (onTc (τ := Cert.AdamPlGateRefIdeal.τ) (Cert.AdamPlGateRefIdeal.main (F := Ideal))) ⟨m', fun _ => 0, g'⟩ (fun r => ∀ c : Dev Cert.AdamPlGateRefIdeal.nD,
          r.2.mem ((c.tc : Thread Cert.AdamPlGateRefIdeal.nD Cert.AdamPlGateRefIdeal.τ).loc Cert.AdamPlGateRefIdeal.main_v23) = v0 c
          ∧ r.2.mem ((c.tc : Thread Cert.AdamPlGateRefIdeal.nD Cert.AdamPlGateRefIdeal.τ).loc Cert.AdamPlGateRefIdeal.main_v4) = v1 c
          ∧ r.2.mem ((c.tc : Thread Cert.AdamPlGateRefIdeal.nD Cert.AdamPlGateRefIdeal.τ).loc Cert.AdamPlGateRefIdeal.main_v10) = v2 c
          ∧ r.2.mem ((c.tc : Thread Cert.AdamPlGateRefIdeal.nD Cert.AdamPlGateRefIdeal.τ).loc Cert.AdamPlGateRefIdeal.main_arg0) = m' ((c.tc : Thread Cert.AdamPlGateRefIdeal.nD Cert.AdamPlGateRefIdeal.τ).loc Cert.AdamPlGateRefIdeal.main_arg0)
          ∧ r.2.mem ((c.tc : Thread Cert.AdamPlGateRefIdeal.nD Cert.AdamPlGateRefIdeal.τ).loc Cert.AdamPlGateRefIdeal.main_arg1) = m' ((c.tc : Thread Cert.AdamPlGateRefIdeal.nD Cert.AdamPlGateRefIdeal.τ).loc Cert.AdamPlGateRefIdeal.main_arg1)
          ∧ r.2.mem ((c.tc : Thread Cert.AdamPlGateRefIdeal.nD Cert.AdamPlGateRefIdeal.τ).loc Cert.AdamPlGateRefIdeal.main_arg2) = m' ((c.tc : Thread Cert.AdamPlGateRefIdeal.nD Cert.AdamPlGateRefIdeal.τ).loc Cert.AdamPlGateRefIdeal.main_arg2)
          ∧ r.2.mem ((c.tc : Thread Cert.AdamPlGateRefIdeal.nD Cert.AdamPlGateRefIdeal.τ).loc Cert.AdamPlGateRefIdeal.main_arg3) = m' ((c.tc : Thread Cert.AdamPlGateRefIdeal.nD Cert.AdamPlGateRefIdeal.τ).loc Cert.AdamPlGateRefIdeal.main_arg3))

def preserves_AdamInEven_AdamInEvenIdeal : Prop :=
  True

def algebraic_AdamInEvenIdeal_AdamInEvenRefIdeal [hAdamInEvenIdeal : Cert.AdamInEvenIdeal.Facts] [hAdamInEvenRefIdeal : Cert.AdamInEvenRefIdeal.Facts] : Prop :=
  ∀ (m : (ℓ : Loc Cert.AdamInEvenIdeal.nD Cert.AdamInEvenIdeal.τ Cert.AdamInEvenIdeal.sig) → Buf (Elt Ideal) ℓ) (g : Dev Cert.AdamInEvenIdeal.nD → PrngReg)
    (m' : (ℓ : Loc Cert.AdamInEvenRefIdeal.nD Cert.AdamInEvenRefIdeal.τ Cert.AdamInEvenRefIdeal.sig) → Buf (Elt Ideal) ℓ) (g' : Dev Cert.AdamInEvenRefIdeal.nD → PrngReg), Pre_AdamInEvenIdeal m →
    (∀ c : Dev Cert.AdamInEvenIdeal.nD,
      m' ((c.tc : Thread Cert.AdamInEvenRefIdeal.nD Cert.AdamInEvenRefIdeal.τ).loc Cert.AdamInEvenRefIdeal.main_arg0) = m ((c.tc : Thread Cert.AdamInEvenIdeal.nD Cert.AdamInEvenIdeal.τ).loc Cert.AdamInEvenIdeal.main_arg0)
      ∧ m' ((c.tc : Thread Cert.AdamInEvenRefIdeal.nD Cert.AdamInEvenRefIdeal.τ).loc Cert.AdamInEvenRefIdeal.main_arg1) = m ((c.tc : Thread Cert.AdamInEvenIdeal.nD Cert.AdamInEvenIdeal.τ).loc Cert.AdamInEvenIdeal.main_arg1)
      ∧ m' ((c.tc : Thread Cert.AdamInEvenRefIdeal.nD Cert.AdamInEvenRefIdeal.τ).loc Cert.AdamInEvenRefIdeal.main_arg2) = m ((c.tc : Thread Cert.AdamInEvenIdeal.nD Cert.AdamInEvenIdeal.τ).loc Cert.AdamInEvenIdeal.main_arg2)
      ∧ m' ((c.tc : Thread Cert.AdamInEvenRefIdeal.nD Cert.AdamInEvenRefIdeal.τ).loc Cert.AdamInEvenRefIdeal.main_arg3) = m ((c.tc : Thread Cert.AdamInEvenIdeal.nD Cert.AdamInEvenIdeal.τ).loc Cert.AdamInEvenIdeal.main_arg3)) →
    ∃ (v0 : (c : Dev Cert.AdamInEvenIdeal.nD) → Buf (Elt Ideal) ((c.tc : Thread Cert.AdamInEvenIdeal.nD Cert.AdamInEvenIdeal.τ).loc Cert.AdamInEvenIdeal.main_v0_0)) (v1 : (c : Dev Cert.AdamInEvenIdeal.nD) → Buf (Elt Ideal) ((c.tc : Thread Cert.AdamInEvenIdeal.nD Cert.AdamInEvenIdeal.τ).loc Cert.AdamInEvenIdeal.main_v0_1)) (v2 : (c : Dev Cert.AdamInEvenIdeal.nD) → Buf (Elt Ideal) ((c.tc : Thread Cert.AdamInEvenIdeal.nD Cert.AdamInEvenIdeal.τ).loc Cert.AdamInEvenIdeal.main_v0_2)),
      θ_run (Cert.AdamInEvenIdeal.defs (F := Ideal)) (onTc (τ := Cert.AdamInEvenIdeal.τ) (Cert.AdamInEvenIdeal.main (F := Ideal))) ⟨m, fun _ => 0, g⟩ (fun r => ∀ c : Dev Cert.AdamInEvenIdeal.nD,
          r.2.mem ((c.tc : Thread Cert.AdamInEvenIdeal.nD Cert.AdamInEvenIdeal.τ).loc Cert.AdamInEvenIdeal.main_v0_0) = v0 c
          ∧ r.2.mem ((c.tc : Thread Cert.AdamInEvenIdeal.nD Cert.AdamInEvenIdeal.τ).loc Cert.AdamInEvenIdeal.main_v0_1) = v1 c
          ∧ r.2.mem ((c.tc : Thread Cert.AdamInEvenIdeal.nD Cert.AdamInEvenIdeal.τ).loc Cert.AdamInEvenIdeal.main_v0_2) = v2 c
          ∧ r.2.mem ((c.tc : Thread Cert.AdamInEvenIdeal.nD Cert.AdamInEvenIdeal.τ).loc Cert.AdamInEvenIdeal.main_arg0) = m ((c.tc : Thread Cert.AdamInEvenIdeal.nD Cert.AdamInEvenIdeal.τ).loc Cert.AdamInEvenIdeal.main_arg0)
          ∧ r.2.mem ((c.tc : Thread Cert.AdamInEvenIdeal.nD Cert.AdamInEvenIdeal.τ).loc Cert.AdamInEvenIdeal.main_arg1) = m ((c.tc : Thread Cert.AdamInEvenIdeal.nD Cert.AdamInEvenIdeal.τ).loc Cert.AdamInEvenIdeal.main_arg1)
          ∧ r.2.mem ((c.tc : Thread Cert.AdamInEvenIdeal.nD Cert.AdamInEvenIdeal.τ).loc Cert.AdamInEvenIdeal.main_arg2) = m ((c.tc : Thread Cert.AdamInEvenIdeal.nD Cert.AdamInEvenIdeal.τ).loc Cert.AdamInEvenIdeal.main_arg2)
          ∧ r.2.mem ((c.tc : Thread Cert.AdamInEvenIdeal.nD Cert.AdamInEvenIdeal.τ).loc Cert.AdamInEvenIdeal.main_arg3) = m ((c.tc : Thread Cert.AdamInEvenIdeal.nD Cert.AdamInEvenIdeal.τ).loc Cert.AdamInEvenIdeal.main_arg3))
      ∧ θ_run (Cert.AdamInEvenRefIdeal.defs (F := Ideal)) (onTc (τ := Cert.AdamInEvenRefIdeal.τ) (Cert.AdamInEvenRefIdeal.main (F := Ideal))) ⟨m', fun _ => 0, g'⟩ (fun r => ∀ c : Dev Cert.AdamInEvenRefIdeal.nD,
          r.2.mem ((c.tc : Thread Cert.AdamInEvenRefIdeal.nD Cert.AdamInEvenRefIdeal.τ).loc Cert.AdamInEvenRefIdeal.main_v23) = v0 c
          ∧ r.2.mem ((c.tc : Thread Cert.AdamInEvenRefIdeal.nD Cert.AdamInEvenRefIdeal.τ).loc Cert.AdamInEvenRefIdeal.main_v4) = v1 c
          ∧ r.2.mem ((c.tc : Thread Cert.AdamInEvenRefIdeal.nD Cert.AdamInEvenRefIdeal.τ).loc Cert.AdamInEvenRefIdeal.main_v10) = v2 c
          ∧ r.2.mem ((c.tc : Thread Cert.AdamInEvenRefIdeal.nD Cert.AdamInEvenRefIdeal.τ).loc Cert.AdamInEvenRefIdeal.main_arg0) = m' ((c.tc : Thread Cert.AdamInEvenRefIdeal.nD Cert.AdamInEvenRefIdeal.τ).loc Cert.AdamInEvenRefIdeal.main_arg0)
          ∧ r.2.mem ((c.tc : Thread Cert.AdamInEvenRefIdeal.nD Cert.AdamInEvenRefIdeal.τ).loc Cert.AdamInEvenRefIdeal.main_arg1) = m' ((c.tc : Thread Cert.AdamInEvenRefIdeal.nD Cert.AdamInEvenRefIdeal.τ).loc Cert.AdamInEvenRefIdeal.main_arg1)
          ∧ r.2.mem ((c.tc : Thread Cert.AdamInEvenRefIdeal.nD Cert.AdamInEvenRefIdeal.τ).loc Cert.AdamInEvenRefIdeal.main_arg2) = m' ((c.tc : Thread Cert.AdamInEvenRefIdeal.nD Cert.AdamInEvenRefIdeal.τ).loc Cert.AdamInEvenRefIdeal.main_arg2)
          ∧ r.2.mem ((c.tc : Thread Cert.AdamInEvenRefIdeal.nD Cert.AdamInEvenRefIdeal.τ).loc Cert.AdamInEvenRefIdeal.main_arg3) = m' ((c.tc : Thread Cert.AdamInEvenRefIdeal.nD Cert.AdamInEvenRefIdeal.τ).loc Cert.AdamInEvenRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_ConvBwdQ_ConvBwdQIdeal : Prop :=
  True

def algebraic_ConvBwdQIdeal_ConvBwdQRefIdeal [hConvBwdQIdeal : Cert.ConvBwdQIdeal.Facts] [hConvBwdQRefIdeal : Cert.ConvBwdQRefIdeal.Facts] : Prop :=
  ∀ (m : (ℓ : Loc Cert.ConvBwdQIdeal.nD Cert.ConvBwdQIdeal.τ Cert.ConvBwdQIdeal.sig) → Buf (Elt Ideal) ℓ) (g : Dev Cert.ConvBwdQIdeal.nD → PrngReg)
    (m' : (ℓ : Loc Cert.ConvBwdQRefIdeal.nD Cert.ConvBwdQRefIdeal.τ Cert.ConvBwdQRefIdeal.sig) → Buf (Elt Ideal) ℓ) (g' : Dev Cert.ConvBwdQRefIdeal.nD → PrngReg), Pre_ConvBwdQIdeal m →
    (∀ c : Dev Cert.ConvBwdQIdeal.nD,
      m' ((c.tc : Thread Cert.ConvBwdQRefIdeal.nD Cert.ConvBwdQRefIdeal.τ).loc Cert.ConvBwdQRefIdeal.main_arg0) = m ((c.tc : Thread Cert.ConvBwdQIdeal.nD Cert.ConvBwdQIdeal.τ).loc Cert.ConvBwdQIdeal.main_arg0)
      ∧ m' ((c.tc : Thread Cert.ConvBwdQRefIdeal.nD Cert.ConvBwdQRefIdeal.τ).loc Cert.ConvBwdQRefIdeal.main_arg1) = m ((c.tc : Thread Cert.ConvBwdQIdeal.nD Cert.ConvBwdQIdeal.τ).loc Cert.ConvBwdQIdeal.main_arg1)
      ∧ m' ((c.tc : Thread Cert.ConvBwdQRefIdeal.nD Cert.ConvBwdQRefIdeal.τ).loc Cert.ConvBwdQRefIdeal.main_arg2) = m ((c.tc : Thread Cert.ConvBwdQIdeal.nD Cert.ConvBwdQIdeal.τ).loc Cert.ConvBwdQIdeal.main_arg2)) →
    ∃ (v0 : (c : Dev Cert.ConvBwdQIdeal.nD) → Buf (Elt Ideal) ((c.tc : Thread Cert.ConvBwdQIdeal.nD Cert.ConvBwdQIdeal.τ).loc Cert.ConvBwdQIdeal.main_v0_0)) (v1 : (c : Dev Cert.ConvBwdQIdeal.nD) → Buf (Elt Ideal) ((c.tc : Thread Cert.ConvBwdQIdeal.nD Cert.ConvBwdQIdeal.τ).loc Cert.ConvBwdQIdeal.main_v0_1)),
      θ_run (Cert.ConvBwdQIdeal.defs (F := Ideal)) (onTc (τ := Cert.ConvBwdQIdeal.τ) (Cert.ConvBwdQIdeal.main (F := Ideal))) ⟨m, fun _ => 0, g⟩ (fun r => ∀ c : Dev Cert.ConvBwdQIdeal.nD,
          r.2.mem ((c.tc : Thread Cert.ConvBwdQIdeal.nD Cert.ConvBwdQIdeal.τ).loc Cert.ConvBwdQIdeal.main_v0_0) = v0 c
          ∧ r.2.mem ((c.tc : Thread Cert.ConvBwdQIdeal.nD Cert.ConvBwdQIdeal.τ).loc Cert.ConvBwdQIdeal.main_v0_1) = v1 c
          ∧ r.2.mem ((c.tc : Thread Cert.ConvBwdQIdeal.nD Cert.ConvBwdQIdeal.τ).loc Cert.ConvBwdQIdeal.main_arg0) = m ((c.tc : Thread Cert.ConvBwdQIdeal.nD Cert.ConvBwdQIdeal.τ).loc Cert.ConvBwdQIdeal.main_arg0)
          ∧ r.2.mem ((c.tc : Thread Cert.ConvBwdQIdeal.nD Cert.ConvBwdQIdeal.τ).loc Cert.ConvBwdQIdeal.main_arg1) = m ((c.tc : Thread Cert.ConvBwdQIdeal.nD Cert.ConvBwdQIdeal.τ).loc Cert.ConvBwdQIdeal.main_arg1)
          ∧ r.2.mem ((c.tc : Thread Cert.ConvBwdQIdeal.nD Cert.ConvBwdQIdeal.τ).loc Cert.ConvBwdQIdeal.main_arg2) = m ((c.tc : Thread Cert.ConvBwdQIdeal.nD Cert.ConvBwdQIdeal.τ).loc Cert.ConvBwdQIdeal.main_arg2))
      ∧ θ_run (Cert.ConvBwdQRefIdeal.defs (F := Ideal)) (onTc (τ := Cert.ConvBwdQRefIdeal.τ) (Cert.ConvBwdQRefIdeal.main (F := Ideal))) ⟨m', fun _ => 0, g'⟩ (fun r => ∀ c : Dev Cert.ConvBwdQRefIdeal.nD,
          r.2.mem ((c.tc : Thread Cert.ConvBwdQRefIdeal.nD Cert.ConvBwdQRefIdeal.τ).loc Cert.ConvBwdQRefIdeal.main_v75) = v0 c
          ∧ r.2.mem ((c.tc : Thread Cert.ConvBwdQRefIdeal.nD Cert.ConvBwdQRefIdeal.τ).loc Cert.ConvBwdQRefIdeal.main_v76) = v1 c
          ∧ r.2.mem ((c.tc : Thread Cert.ConvBwdQRefIdeal.nD Cert.ConvBwdQRefIdeal.τ).loc Cert.ConvBwdQRefIdeal.main_arg0) = m' ((c.tc : Thread Cert.ConvBwdQRefIdeal.nD Cert.ConvBwdQRefIdeal.τ).loc Cert.ConvBwdQRefIdeal.main_arg0)
          ∧ r.2.mem ((c.tc : Thread Cert.ConvBwdQRefIdeal.nD Cert.ConvBwdQRefIdeal.τ).loc Cert.ConvBwdQRefIdeal.main_arg1) = m' ((c.tc : Thread Cert.ConvBwdQRefIdeal.nD Cert.ConvBwdQRefIdeal.τ).loc Cert.ConvBwdQRefIdeal.main_arg1)
          ∧ r.2.mem ((c.tc : Thread Cert.ConvBwdQRefIdeal.nD Cert.ConvBwdQRefIdeal.τ).loc Cert.ConvBwdQRefIdeal.main_arg2) = m' ((c.tc : Thread Cert.ConvBwdQRefIdeal.nD Cert.ConvBwdQRefIdeal.τ).loc Cert.ConvBwdQRefIdeal.main_arg2))

def preserves_ConvBwdK_ConvBwdKIdeal : Prop :=
  True

def algebraic_ConvBwdKIdeal_ConvBwdKRefIdeal [hConvBwdKIdeal : Cert.ConvBwdKIdeal.Facts] [hConvBwdKRefIdeal : Cert.ConvBwdKRefIdeal.Facts] : Prop :=
  ∀ (m : (ℓ : Loc Cert.ConvBwdKIdeal.nD Cert.ConvBwdKIdeal.τ Cert.ConvBwdKIdeal.sig) → Buf (Elt Ideal) ℓ) (g : Dev Cert.ConvBwdKIdeal.nD → PrngReg)
    (m' : (ℓ : Loc Cert.ConvBwdKRefIdeal.nD Cert.ConvBwdKRefIdeal.τ Cert.ConvBwdKRefIdeal.sig) → Buf (Elt Ideal) ℓ) (g' : Dev Cert.ConvBwdKRefIdeal.nD → PrngReg), Pre_ConvBwdKIdeal m →
    (∀ c : Dev Cert.ConvBwdKIdeal.nD,
      m' ((c.tc : Thread Cert.ConvBwdKRefIdeal.nD Cert.ConvBwdKRefIdeal.τ).loc Cert.ConvBwdKRefIdeal.main_arg0) = m ((c.tc : Thread Cert.ConvBwdKIdeal.nD Cert.ConvBwdKIdeal.τ).loc Cert.ConvBwdKIdeal.main_arg0)
      ∧ m' ((c.tc : Thread Cert.ConvBwdKRefIdeal.nD Cert.ConvBwdKRefIdeal.τ).loc Cert.ConvBwdKRefIdeal.main_arg1) = m ((c.tc : Thread Cert.ConvBwdKIdeal.nD Cert.ConvBwdKIdeal.τ).loc Cert.ConvBwdKIdeal.main_arg1)
      ∧ m' ((c.tc : Thread Cert.ConvBwdKRefIdeal.nD Cert.ConvBwdKRefIdeal.τ).loc Cert.ConvBwdKRefIdeal.main_arg2) = m ((c.tc : Thread Cert.ConvBwdKIdeal.nD Cert.ConvBwdKIdeal.τ).loc Cert.ConvBwdKIdeal.main_arg2)) →
    ∃ (v0 : (c : Dev Cert.ConvBwdKIdeal.nD) → Buf (Elt Ideal) ((c.tc : Thread Cert.ConvBwdKIdeal.nD Cert.ConvBwdKIdeal.τ).loc Cert.ConvBwdKIdeal.main_v0_0)) (v1 : (c : Dev Cert.ConvBwdKIdeal.nD) → Buf (Elt Ideal) ((c.tc : Thread Cert.ConvBwdKIdeal.nD Cert.ConvBwdKIdeal.τ).loc Cert.ConvBwdKIdeal.main_v0_1)),
      θ_run (Cert.ConvBwdKIdeal.defs (F := Ideal)) (onTc (τ := Cert.ConvBwdKIdeal.τ) (Cert.ConvBwdKIdeal.main (F := Ideal))) ⟨m, fun _ => 0, g⟩ (fun r => ∀ c : Dev Cert.ConvBwdKIdeal.nD,
          r.2.mem ((c.tc : Thread Cert.ConvBwdKIdeal.nD Cert.ConvBwdKIdeal.τ).loc Cert.ConvBwdKIdeal.main_v0_0) = v0 c
          ∧ r.2.mem ((c.tc : Thread Cert.ConvBwdKIdeal.nD Cert.ConvBwdKIdeal.τ).loc Cert.ConvBwdKIdeal.main_v0_1) = v1 c
          ∧ r.2.mem ((c.tc : Thread Cert.ConvBwdKIdeal.nD Cert.ConvBwdKIdeal.τ).loc Cert.ConvBwdKIdeal.main_arg0) = m ((c.tc : Thread Cert.ConvBwdKIdeal.nD Cert.ConvBwdKIdeal.τ).loc Cert.ConvBwdKIdeal.main_arg0)
          ∧ r.2.mem ((c.tc : Thread Cert.ConvBwdKIdeal.nD Cert.ConvBwdKIdeal.τ).loc Cert.ConvBwdKIdeal.main_arg1) = m ((c.tc : Thread Cert.ConvBwdKIdeal.nD Cert.ConvBwdKIdeal.τ).loc Cert.ConvBwdKIdeal.main_arg1)
          ∧ r.2.mem ((c.tc : Thread Cert.ConvBwdKIdeal.nD Cert.ConvBwdKIdeal.τ).loc Cert.ConvBwdKIdeal.main_arg2) = m ((c.tc : Thread Cert.ConvBwdKIdeal.nD Cert.ConvBwdKIdeal.τ).loc Cert.ConvBwdKIdeal.main_arg2))
      ∧ θ_run (Cert.ConvBwdKRefIdeal.defs (F := Ideal)) (onTc (τ := Cert.ConvBwdKRefIdeal.τ) (Cert.ConvBwdKRefIdeal.main (F := Ideal))) ⟨m', fun _ => 0, g'⟩ (fun r => ∀ c : Dev Cert.ConvBwdKRefIdeal.nD,
          r.2.mem ((c.tc : Thread Cert.ConvBwdKRefIdeal.nD Cert.ConvBwdKRefIdeal.τ).loc Cert.ConvBwdKRefIdeal.main_v75) = v0 c
          ∧ r.2.mem ((c.tc : Thread Cert.ConvBwdKRefIdeal.nD Cert.ConvBwdKRefIdeal.τ).loc Cert.ConvBwdKRefIdeal.main_v76) = v1 c
          ∧ r.2.mem ((c.tc : Thread Cert.ConvBwdKRefIdeal.nD Cert.ConvBwdKRefIdeal.τ).loc Cert.ConvBwdKRefIdeal.main_arg0) = m' ((c.tc : Thread Cert.ConvBwdKRefIdeal.nD Cert.ConvBwdKRefIdeal.τ).loc Cert.ConvBwdKRefIdeal.main_arg0)
          ∧ r.2.mem ((c.tc : Thread Cert.ConvBwdKRefIdeal.nD Cert.ConvBwdKRefIdeal.τ).loc Cert.ConvBwdKRefIdeal.main_arg1) = m' ((c.tc : Thread Cert.ConvBwdKRefIdeal.nD Cert.ConvBwdKRefIdeal.τ).loc Cert.ConvBwdKRefIdeal.main_arg1)
          ∧ r.2.mem ((c.tc : Thread Cert.ConvBwdKRefIdeal.nD Cert.ConvBwdKRefIdeal.τ).loc Cert.ConvBwdKRefIdeal.main_arg2) = m' ((c.tc : Thread Cert.ConvBwdKRefIdeal.nD Cert.ConvBwdKRefIdeal.τ).loc Cert.ConvBwdKRefIdeal.main_arg2))

def preserves_ConvBwdV_ConvBwdVIdeal : Prop :=
  True

def algebraic_ConvBwdVIdeal_ConvBwdVRefIdeal [hConvBwdVIdeal : Cert.ConvBwdVIdeal.Facts] [hConvBwdVRefIdeal : Cert.ConvBwdVRefIdeal.Facts] : Prop :=
  ∀ (m : (ℓ : Loc Cert.ConvBwdVIdeal.nD Cert.ConvBwdVIdeal.τ Cert.ConvBwdVIdeal.sig) → Buf (Elt Ideal) ℓ) (g : Dev Cert.ConvBwdVIdeal.nD → PrngReg)
    (m' : (ℓ : Loc Cert.ConvBwdVRefIdeal.nD Cert.ConvBwdVRefIdeal.τ Cert.ConvBwdVRefIdeal.sig) → Buf (Elt Ideal) ℓ) (g' : Dev Cert.ConvBwdVRefIdeal.nD → PrngReg), Pre_ConvBwdVIdeal m →
    (∀ c : Dev Cert.ConvBwdVIdeal.nD,
      m' ((c.tc : Thread Cert.ConvBwdVRefIdeal.nD Cert.ConvBwdVRefIdeal.τ).loc Cert.ConvBwdVRefIdeal.main_arg0) = m ((c.tc : Thread Cert.ConvBwdVIdeal.nD Cert.ConvBwdVIdeal.τ).loc Cert.ConvBwdVIdeal.main_arg0)
      ∧ m' ((c.tc : Thread Cert.ConvBwdVRefIdeal.nD Cert.ConvBwdVRefIdeal.τ).loc Cert.ConvBwdVRefIdeal.main_arg1) = m ((c.tc : Thread Cert.ConvBwdVIdeal.nD Cert.ConvBwdVIdeal.τ).loc Cert.ConvBwdVIdeal.main_arg1)
      ∧ m' ((c.tc : Thread Cert.ConvBwdVRefIdeal.nD Cert.ConvBwdVRefIdeal.τ).loc Cert.ConvBwdVRefIdeal.main_arg2) = m ((c.tc : Thread Cert.ConvBwdVIdeal.nD Cert.ConvBwdVIdeal.τ).loc Cert.ConvBwdVIdeal.main_arg2)) →
    ∃ (v0 : (c : Dev Cert.ConvBwdVIdeal.nD) → Buf (Elt Ideal) ((c.tc : Thread Cert.ConvBwdVIdeal.nD Cert.ConvBwdVIdeal.τ).loc Cert.ConvBwdVIdeal.main_v0_0)) (v1 : (c : Dev Cert.ConvBwdVIdeal.nD) → Buf (Elt Ideal) ((c.tc : Thread Cert.ConvBwdVIdeal.nD Cert.ConvBwdVIdeal.τ).loc Cert.ConvBwdVIdeal.main_v0_1)),
      θ_run (Cert.ConvBwdVIdeal.defs (F := Ideal)) (onTc (τ := Cert.ConvBwdVIdeal.τ) (Cert.ConvBwdVIdeal.main (F := Ideal))) ⟨m, fun _ => 0, g⟩ (fun r => ∀ c : Dev Cert.ConvBwdVIdeal.nD,
          r.2.mem ((c.tc : Thread Cert.ConvBwdVIdeal.nD Cert.ConvBwdVIdeal.τ).loc Cert.ConvBwdVIdeal.main_v0_0) = v0 c
          ∧ r.2.mem ((c.tc : Thread Cert.ConvBwdVIdeal.nD Cert.ConvBwdVIdeal.τ).loc Cert.ConvBwdVIdeal.main_v0_1) = v1 c
          ∧ r.2.mem ((c.tc : Thread Cert.ConvBwdVIdeal.nD Cert.ConvBwdVIdeal.τ).loc Cert.ConvBwdVIdeal.main_arg0) = m ((c.tc : Thread Cert.ConvBwdVIdeal.nD Cert.ConvBwdVIdeal.τ).loc Cert.ConvBwdVIdeal.main_arg0)
          ∧ r.2.mem ((c.tc : Thread Cert.ConvBwdVIdeal.nD Cert.ConvBwdVIdeal.τ).loc Cert.ConvBwdVIdeal.main_arg1) = m ((c.tc : Thread Cert.ConvBwdVIdeal.nD Cert.ConvBwdVIdeal.τ).loc Cert.ConvBwdVIdeal.main_arg1)
          ∧ r.2.mem ((c.tc : Thread Cert.ConvBwdVIdeal.nD Cert.ConvBwdVIdeal.τ).loc Cert.ConvBwdVIdeal.main_arg2) = m ((c.tc : Thread Cert.ConvBwdVIdeal.nD Cert.ConvBwdVIdeal.τ).loc Cert.ConvBwdVIdeal.main_arg2))
      ∧ θ_run (Cert.ConvBwdVRefIdeal.defs (F := Ideal)) (onTc (τ := Cert.ConvBwdVRefIdeal.τ) (Cert.ConvBwdVRefIdeal.main (F := Ideal))) ⟨m', fun _ => 0, g'⟩ (fun r => ∀ c : Dev Cert.ConvBwdVRefIdeal.nD,
          r.2.mem ((c.tc : Thread Cert.ConvBwdVRefIdeal.nD Cert.ConvBwdVRefIdeal.τ).loc Cert.ConvBwdVRefIdeal.main_v75) = v0 c
          ∧ r.2.mem ((c.tc : Thread Cert.ConvBwdVRefIdeal.nD Cert.ConvBwdVRefIdeal.τ).loc Cert.ConvBwdVRefIdeal.main_v76) = v1 c
          ∧ r.2.mem ((c.tc : Thread Cert.ConvBwdVRefIdeal.nD Cert.ConvBwdVRefIdeal.τ).loc Cert.ConvBwdVRefIdeal.main_arg0) = m' ((c.tc : Thread Cert.ConvBwdVRefIdeal.nD Cert.ConvBwdVRefIdeal.τ).loc Cert.ConvBwdVRefIdeal.main_arg0)
          ∧ r.2.mem ((c.tc : Thread Cert.ConvBwdVRefIdeal.nD Cert.ConvBwdVRefIdeal.τ).loc Cert.ConvBwdVRefIdeal.main_arg1) = m' ((c.tc : Thread Cert.ConvBwdVRefIdeal.nD Cert.ConvBwdVRefIdeal.τ).loc Cert.ConvBwdVRefIdeal.main_arg1)
          ∧ r.2.mem ((c.tc : Thread Cert.ConvBwdVRefIdeal.nD Cert.ConvBwdVRefIdeal.τ).loc Cert.ConvBwdVRefIdeal.main_arg2) = m' ((c.tc : Thread Cert.ConvBwdVRefIdeal.nD Cert.ConvBwdVRefIdeal.τ).loc Cert.ConvBwdVRefIdeal.main_arg2))

def preserves_LnplFwd_LnplFwdIdeal : Prop :=
  True

def algebraic_LnplFwdIdeal_LnplFwdRefIdeal [hLnplFwdIdeal : Cert.LnplFwdIdeal.Facts] [hLnplFwdRefIdeal : Cert.LnplFwdRefIdeal.Facts] : Prop :=
  ∀ (m : (ℓ : Loc Cert.LnplFwdIdeal.nD Cert.LnplFwdIdeal.τ Cert.LnplFwdIdeal.sig) → Buf (Elt Ideal) ℓ) (g : Dev Cert.LnplFwdIdeal.nD → PrngReg)
    (m' : (ℓ : Loc Cert.LnplFwdRefIdeal.nD Cert.LnplFwdRefIdeal.τ Cert.LnplFwdRefIdeal.sig) → Buf (Elt Ideal) ℓ) (g' : Dev Cert.LnplFwdRefIdeal.nD → PrngReg), Pre_LnplFwdIdeal m →
    (∀ c : Dev Cert.LnplFwdIdeal.nD,
      m' ((c.tc : Thread Cert.LnplFwdRefIdeal.nD Cert.LnplFwdRefIdeal.τ).loc Cert.LnplFwdRefIdeal.main_arg0) = m ((c.tc : Thread Cert.LnplFwdIdeal.nD Cert.LnplFwdIdeal.τ).loc Cert.LnplFwdIdeal.main_arg0)
      ∧ m' ((c.tc : Thread Cert.LnplFwdRefIdeal.nD Cert.LnplFwdRefIdeal.τ).loc Cert.LnplFwdRefIdeal.main_arg1) = m ((c.tc : Thread Cert.LnplFwdIdeal.nD Cert.LnplFwdIdeal.τ).loc Cert.LnplFwdIdeal.main_arg1)
      ∧ m' ((c.tc : Thread Cert.LnplFwdRefIdeal.nD Cert.LnplFwdRefIdeal.τ).loc Cert.LnplFwdRefIdeal.main_arg2) = m ((c.tc : Thread Cert.LnplFwdIdeal.nD Cert.LnplFwdIdeal.τ).loc Cert.LnplFwdIdeal.main_arg2)
      ∧ m' ((c.tc : Thread Cert.LnplFwdRefIdeal.nD Cert.LnplFwdRefIdeal.τ).loc Cert.LnplFwdRefIdeal.main_arg3) = m ((c.tc : Thread Cert.LnplFwdIdeal.nD Cert.LnplFwdIdeal.τ).loc Cert.LnplFwdIdeal.main_arg3)
      ∧ m' ((c.tc : Thread Cert.LnplFwdRefIdeal.nD Cert.LnplFwdRefIdeal.τ).loc Cert.LnplFwdRefIdeal.main_arg4) = m ((c.tc : Thread Cert.LnplFwdIdeal.nD Cert.LnplFwdIdeal.τ).loc Cert.LnplFwdIdeal.main_arg4)
      ∧ m' ((c.tc : Thread Cert.LnplFwdRefIdeal.nD Cert.LnplFwdRefIdeal.τ).loc Cert.LnplFwdRefIdeal.main_arg5) = m ((c.tc : Thread Cert.LnplFwdIdeal.nD Cert.LnplFwdIdeal.τ).loc Cert.LnplFwdIdeal.main_arg5)
      ∧ m' ((c.tc : Thread Cert.LnplFwdRefIdeal.nD Cert.LnplFwdRefIdeal.τ).loc Cert.LnplFwdRefIdeal.main_arg6) = m ((c.tc : Thread Cert.LnplFwdIdeal.nD Cert.LnplFwdIdeal.τ).loc Cert.LnplFwdIdeal.main_arg6)) →
    ∃ (v0 : (c : Dev Cert.LnplFwdIdeal.nD) → Buf (Elt Ideal) ((c.tc : Thread Cert.LnplFwdIdeal.nD Cert.LnplFwdIdeal.τ).loc Cert.LnplFwdIdeal.main_v0_0)) (v1 : (c : Dev Cert.LnplFwdIdeal.nD) → Buf (Elt Ideal) ((c.tc : Thread Cert.LnplFwdIdeal.nD Cert.LnplFwdIdeal.τ).loc Cert.LnplFwdIdeal.main_v0_1)),
      θ_run (Cert.LnplFwdIdeal.defs (F := Ideal)) (onTc (τ := Cert.LnplFwdIdeal.τ) (Cert.LnplFwdIdeal.main (F := Ideal))) ⟨m, fun _ => 0, g⟩ (fun r => ∀ c : Dev Cert.LnplFwdIdeal.nD,
          r.2.mem ((c.tc : Thread Cert.LnplFwdIdeal.nD Cert.LnplFwdIdeal.τ).loc Cert.LnplFwdIdeal.main_v0_0) = v0 c
          ∧ r.2.mem ((c.tc : Thread Cert.LnplFwdIdeal.nD Cert.LnplFwdIdeal.τ).loc Cert.LnplFwdIdeal.main_v0_1) = v1 c
          ∧ r.2.mem ((c.tc : Thread Cert.LnplFwdIdeal.nD Cert.LnplFwdIdeal.τ).loc Cert.LnplFwdIdeal.main_arg0) = m ((c.tc : Thread Cert.LnplFwdIdeal.nD Cert.LnplFwdIdeal.τ).loc Cert.LnplFwdIdeal.main_arg0)
          ∧ r.2.mem ((c.tc : Thread Cert.LnplFwdIdeal.nD Cert.LnplFwdIdeal.τ).loc Cert.LnplFwdIdeal.main_arg1) = m ((c.tc : Thread Cert.LnplFwdIdeal.nD Cert.LnplFwdIdeal.τ).loc Cert.LnplFwdIdeal.main_arg1)
          ∧ r.2.mem ((c.tc : Thread Cert.LnplFwdIdeal.nD Cert.LnplFwdIdeal.τ).loc Cert.LnplFwdIdeal.main_arg2) = m ((c.tc : Thread Cert.LnplFwdIdeal.nD Cert.LnplFwdIdeal.τ).loc Cert.LnplFwdIdeal.main_arg2)
          ∧ r.2.mem ((c.tc : Thread Cert.LnplFwdIdeal.nD Cert.LnplFwdIdeal.τ).loc Cert.LnplFwdIdeal.main_arg3) = m ((c.tc : Thread Cert.LnplFwdIdeal.nD Cert.LnplFwdIdeal.τ).loc Cert.LnplFwdIdeal.main_arg3)
          ∧ r.2.mem ((c.tc : Thread Cert.LnplFwdIdeal.nD Cert.LnplFwdIdeal.τ).loc Cert.LnplFwdIdeal.main_arg4) = m ((c.tc : Thread Cert.LnplFwdIdeal.nD Cert.LnplFwdIdeal.τ).loc Cert.LnplFwdIdeal.main_arg4)
          ∧ r.2.mem ((c.tc : Thread Cert.LnplFwdIdeal.nD Cert.LnplFwdIdeal.τ).loc Cert.LnplFwdIdeal.main_arg5) = m ((c.tc : Thread Cert.LnplFwdIdeal.nD Cert.LnplFwdIdeal.τ).loc Cert.LnplFwdIdeal.main_arg5)
          ∧ r.2.mem ((c.tc : Thread Cert.LnplFwdIdeal.nD Cert.LnplFwdIdeal.τ).loc Cert.LnplFwdIdeal.main_arg6) = m ((c.tc : Thread Cert.LnplFwdIdeal.nD Cert.LnplFwdIdeal.τ).loc Cert.LnplFwdIdeal.main_arg6))
      ∧ θ_run (Cert.LnplFwdRefIdeal.defs (F := Ideal)) (onTc (τ := Cert.LnplFwdRefIdeal.τ) (Cert.LnplFwdRefIdeal.main (F := Ideal))) ⟨m', fun _ => 0, g'⟩ (fun r => ∀ c : Dev Cert.LnplFwdRefIdeal.nD,
          r.2.mem ((c.tc : Thread Cert.LnplFwdRefIdeal.nD Cert.LnplFwdRefIdeal.τ).loc Cert.LnplFwdRefIdeal.main_v32) = v0 c
          ∧ r.2.mem ((c.tc : Thread Cert.LnplFwdRefIdeal.nD Cert.LnplFwdRefIdeal.τ).loc Cert.LnplFwdRefIdeal.main_v33) = v1 c
          ∧ r.2.mem ((c.tc : Thread Cert.LnplFwdRefIdeal.nD Cert.LnplFwdRefIdeal.τ).loc Cert.LnplFwdRefIdeal.main_arg0) = m' ((c.tc : Thread Cert.LnplFwdRefIdeal.nD Cert.LnplFwdRefIdeal.τ).loc Cert.LnplFwdRefIdeal.main_arg0)
          ∧ r.2.mem ((c.tc : Thread Cert.LnplFwdRefIdeal.nD Cert.LnplFwdRefIdeal.τ).loc Cert.LnplFwdRefIdeal.main_arg1) = m' ((c.tc : Thread Cert.LnplFwdRefIdeal.nD Cert.LnplFwdRefIdeal.τ).loc Cert.LnplFwdRefIdeal.main_arg1)
          ∧ r.2.mem ((c.tc : Thread Cert.LnplFwdRefIdeal.nD Cert.LnplFwdRefIdeal.τ).loc Cert.LnplFwdRefIdeal.main_arg2) = m' ((c.tc : Thread Cert.LnplFwdRefIdeal.nD Cert.LnplFwdRefIdeal.τ).loc Cert.LnplFwdRefIdeal.main_arg2)
          ∧ r.2.mem ((c.tc : Thread Cert.LnplFwdRefIdeal.nD Cert.LnplFwdRefIdeal.τ).loc Cert.LnplFwdRefIdeal.main_arg3) = m' ((c.tc : Thread Cert.LnplFwdRefIdeal.nD Cert.LnplFwdRefIdeal.τ).loc Cert.LnplFwdRefIdeal.main_arg3)
          ∧ r.2.mem ((c.tc : Thread Cert.LnplFwdRefIdeal.nD Cert.LnplFwdRefIdeal.τ).loc Cert.LnplFwdRefIdeal.main_arg4) = m' ((c.tc : Thread Cert.LnplFwdRefIdeal.nD Cert.LnplFwdRefIdeal.τ).loc Cert.LnplFwdRefIdeal.main_arg4)
          ∧ r.2.mem ((c.tc : Thread Cert.LnplFwdRefIdeal.nD Cert.LnplFwdRefIdeal.τ).loc Cert.LnplFwdRefIdeal.main_arg5) = m' ((c.tc : Thread Cert.LnplFwdRefIdeal.nD Cert.LnplFwdRefIdeal.τ).loc Cert.LnplFwdRefIdeal.main_arg5)
          ∧ r.2.mem ((c.tc : Thread Cert.LnplFwdRefIdeal.nD Cert.LnplFwdRefIdeal.τ).loc Cert.LnplFwdRefIdeal.main_arg6) = m' ((c.tc : Thread Cert.LnplFwdRefIdeal.nD Cert.LnplFwdRefIdeal.τ).loc Cert.LnplFwdRefIdeal.main_arg6))

def preserves_ConvAFwd_ConvAFwdIdeal : Prop :=
  True

def algebraic_ConvAFwdIdeal_ConvAFwdRefIdeal [hConvAFwdIdeal : Cert.ConvAFwdIdeal.Facts] [hConvAFwdRefIdeal : Cert.ConvAFwdRefIdeal.Facts] : Prop :=
  ∀ (m : (ℓ : Loc Cert.ConvAFwdIdeal.nD Cert.ConvAFwdIdeal.τ Cert.ConvAFwdIdeal.sig) → Buf (Elt Ideal) ℓ) (g : Dev Cert.ConvAFwdIdeal.nD → PrngReg)
    (m' : (ℓ : Loc Cert.ConvAFwdRefIdeal.nD Cert.ConvAFwdRefIdeal.τ Cert.ConvAFwdRefIdeal.sig) → Buf (Elt Ideal) ℓ) (g' : Dev Cert.ConvAFwdRefIdeal.nD → PrngReg), Pre_ConvAFwdIdeal m →
    (∀ c : Dev Cert.ConvAFwdIdeal.nD,
      m' ((c.tc : Thread Cert.ConvAFwdRefIdeal.nD Cert.ConvAFwdRefIdeal.τ).loc Cert.ConvAFwdRefIdeal.main_arg0) = m ((c.tc : Thread Cert.ConvAFwdIdeal.nD Cert.ConvAFwdIdeal.τ).loc Cert.ConvAFwdIdeal.main_arg0)
      ∧ m' ((c.tc : Thread Cert.ConvAFwdRefIdeal.nD Cert.ConvAFwdRefIdeal.τ).loc Cert.ConvAFwdRefIdeal.main_arg1) = m ((c.tc : Thread Cert.ConvAFwdIdeal.nD Cert.ConvAFwdIdeal.τ).loc Cert.ConvAFwdIdeal.main_arg1)) →
    ∃ (v0 : (c : Dev Cert.ConvAFwdIdeal.nD) → Buf (Elt Ideal) ((c.tc : Thread Cert.ConvAFwdIdeal.nD Cert.ConvAFwdIdeal.τ).loc Cert.ConvAFwdIdeal.main_v0)),
      θ_run (Cert.ConvAFwdIdeal.defs (F := Ideal)) (onTc (τ := Cert.ConvAFwdIdeal.τ) (Cert.ConvAFwdIdeal.main (F := Ideal))) ⟨m, fun _ => 0, g⟩ (fun r => ∀ c : Dev Cert.ConvAFwdIdeal.nD,
          r.2.mem ((c.tc : Thread Cert.ConvAFwdIdeal.nD Cert.ConvAFwdIdeal.τ).loc Cert.ConvAFwdIdeal.main_v0) = v0 c
          ∧ r.2.mem ((c.tc : Thread Cert.ConvAFwdIdeal.nD Cert.ConvAFwdIdeal.τ).loc Cert.ConvAFwdIdeal.main_arg0) = m ((c.tc : Thread Cert.ConvAFwdIdeal.nD Cert.ConvAFwdIdeal.τ).loc Cert.ConvAFwdIdeal.main_arg0)
          ∧ r.2.mem ((c.tc : Thread Cert.ConvAFwdIdeal.nD Cert.ConvAFwdIdeal.τ).loc Cert.ConvAFwdIdeal.main_arg1) = m ((c.tc : Thread Cert.ConvAFwdIdeal.nD Cert.ConvAFwdIdeal.τ).loc Cert.ConvAFwdIdeal.main_arg1))
      ∧ θ_run (Cert.ConvAFwdRefIdeal.defs (F := Ideal)) (onTc (τ := Cert.ConvAFwdRefIdeal.τ) (Cert.ConvAFwdRefIdeal.main (F := Ideal))) ⟨m', fun _ => 0, g'⟩ (fun r => ∀ c : Dev Cert.ConvAFwdRefIdeal.nD,
          r.2.mem ((c.tc : Thread Cert.ConvAFwdRefIdeal.nD Cert.ConvAFwdRefIdeal.τ).loc Cert.ConvAFwdRefIdeal.main_v26) = v0 c
          ∧ r.2.mem ((c.tc : Thread Cert.ConvAFwdRefIdeal.nD Cert.ConvAFwdRefIdeal.τ).loc Cert.ConvAFwdRefIdeal.main_arg0) = m' ((c.tc : Thread Cert.ConvAFwdRefIdeal.nD Cert.ConvAFwdRefIdeal.τ).loc Cert.ConvAFwdRefIdeal.main_arg0)
          ∧ r.2.mem ((c.tc : Thread Cert.ConvAFwdRefIdeal.nD Cert.ConvAFwdRefIdeal.τ).loc Cert.ConvAFwdRefIdeal.main_arg1) = m' ((c.tc : Thread Cert.ConvAFwdRefIdeal.nD Cert.ConvAFwdRefIdeal.τ).loc Cert.ConvAFwdRefIdeal.main_arg1))

def preserves_ConvBFwd_ConvBFwdIdeal : Prop :=
  True

def algebraic_ConvBFwdIdeal_ConvBFwdRefIdeal [hConvBFwdIdeal : Cert.ConvBFwdIdeal.Facts] [hConvBFwdRefIdeal : Cert.ConvBFwdRefIdeal.Facts] : Prop :=
  ∀ (m : (ℓ : Loc Cert.ConvBFwdIdeal.nD Cert.ConvBFwdIdeal.τ Cert.ConvBFwdIdeal.sig) → Buf (Elt Ideal) ℓ) (g : Dev Cert.ConvBFwdIdeal.nD → PrngReg)
    (m' : (ℓ : Loc Cert.ConvBFwdRefIdeal.nD Cert.ConvBFwdRefIdeal.τ Cert.ConvBFwdRefIdeal.sig) → Buf (Elt Ideal) ℓ) (g' : Dev Cert.ConvBFwdRefIdeal.nD → PrngReg), Pre_ConvBFwdIdeal m →
    (∀ c : Dev Cert.ConvBFwdIdeal.nD,
      m' ((c.tc : Thread Cert.ConvBFwdRefIdeal.nD Cert.ConvBFwdRefIdeal.τ).loc Cert.ConvBFwdRefIdeal.main_arg0) = m ((c.tc : Thread Cert.ConvBFwdIdeal.nD Cert.ConvBFwdIdeal.τ).loc Cert.ConvBFwdIdeal.main_arg0)
      ∧ m' ((c.tc : Thread Cert.ConvBFwdRefIdeal.nD Cert.ConvBFwdRefIdeal.τ).loc Cert.ConvBFwdRefIdeal.main_arg1) = m ((c.tc : Thread Cert.ConvBFwdIdeal.nD Cert.ConvBFwdIdeal.τ).loc Cert.ConvBFwdIdeal.main_arg1)) →
    ∃ (v0 : (c : Dev Cert.ConvBFwdIdeal.nD) → Buf (Elt Ideal) ((c.tc : Thread Cert.ConvBFwdIdeal.nD Cert.ConvBFwdIdeal.τ).loc Cert.ConvBFwdIdeal.main_v0)),
      θ_run (Cert.ConvBFwdIdeal.defs (F := Ideal)) (onTc (τ := Cert.ConvBFwdIdeal.τ) (Cert.ConvBFwdIdeal.main (F := Ideal))) ⟨m, fun _ => 0, g⟩ (fun r => ∀ c : Dev Cert.ConvBFwdIdeal.nD,
          r.2.mem ((c.tc : Thread Cert.ConvBFwdIdeal.nD Cert.ConvBFwdIdeal.τ).loc Cert.ConvBFwdIdeal.main_v0) = v0 c
          ∧ r.2.mem ((c.tc : Thread Cert.ConvBFwdIdeal.nD Cert.ConvBFwdIdeal.τ).loc Cert.ConvBFwdIdeal.main_arg0) = m ((c.tc : Thread Cert.ConvBFwdIdeal.nD Cert.ConvBFwdIdeal.τ).loc Cert.ConvBFwdIdeal.main_arg0)
          ∧ r.2.mem ((c.tc : Thread Cert.ConvBFwdIdeal.nD Cert.ConvBFwdIdeal.τ).loc Cert.ConvBFwdIdeal.main_arg1) = m ((c.tc : Thread Cert.ConvBFwdIdeal.nD Cert.ConvBFwdIdeal.τ).loc Cert.ConvBFwdIdeal.main_arg1))
      ∧ θ_run (Cert.ConvBFwdRefIdeal.defs (F := Ideal)) (onTc (τ := Cert.ConvBFwdRefIdeal.τ) (Cert.ConvBFwdRefIdeal.main (F := Ideal))) ⟨m', fun _ => 0, g'⟩ (fun r => ∀ c : Dev Cert.ConvBFwdRefIdeal.nD,
          r.2.mem ((c.tc : Thread Cert.ConvBFwdRefIdeal.nD Cert.ConvBFwdRefIdeal.τ).loc Cert.ConvBFwdRefIdeal.main_v23) = v0 c
          ∧ r.2.mem ((c.tc : Thread Cert.ConvBFwdRefIdeal.nD Cert.ConvBFwdRefIdeal.τ).loc Cert.ConvBFwdRefIdeal.main_arg0) = m' ((c.tc : Thread Cert.ConvBFwdRefIdeal.nD Cert.ConvBFwdRefIdeal.τ).loc Cert.ConvBFwdRefIdeal.main_arg0)
          ∧ r.2.mem ((c.tc : Thread Cert.ConvBFwdRefIdeal.nD Cert.ConvBFwdRefIdeal.τ).loc Cert.ConvBFwdRefIdeal.main_arg1) = m' ((c.tc : Thread Cert.ConvBFwdRefIdeal.nD Cert.ConvBFwdRefIdeal.τ).loc Cert.ConvBFwdRefIdeal.main_arg1))

def preserves_ConvABwd_ConvABwdIdeal : Prop :=
  True

def algebraic_ConvABwdIdeal_ConvABwdRefIdeal [hConvABwdIdeal : Cert.ConvABwdIdeal.Facts] [hConvABwdRefIdeal : Cert.ConvABwdRefIdeal.Facts] : Prop :=
  ∀ (m : (ℓ : Loc Cert.ConvABwdIdeal.nD Cert.ConvABwdIdeal.τ Cert.ConvABwdIdeal.sig) → Buf (Elt Ideal) ℓ) (g : Dev Cert.ConvABwdIdeal.nD → PrngReg)
    (m' : (ℓ : Loc Cert.ConvABwdRefIdeal.nD Cert.ConvABwdRefIdeal.τ Cert.ConvABwdRefIdeal.sig) → Buf (Elt Ideal) ℓ) (g' : Dev Cert.ConvABwdRefIdeal.nD → PrngReg), Pre_ConvABwdIdeal m →
    (∀ c : Dev Cert.ConvABwdIdeal.nD,
      m' ((c.tc : Thread Cert.ConvABwdRefIdeal.nD Cert.ConvABwdRefIdeal.τ).loc Cert.ConvABwdRefIdeal.main_arg0) = m ((c.tc : Thread Cert.ConvABwdIdeal.nD Cert.ConvABwdIdeal.τ).loc Cert.ConvABwdIdeal.main_arg0)
      ∧ m' ((c.tc : Thread Cert.ConvABwdRefIdeal.nD Cert.ConvABwdRefIdeal.τ).loc Cert.ConvABwdRefIdeal.main_arg1) = m ((c.tc : Thread Cert.ConvABwdIdeal.nD Cert.ConvABwdIdeal.τ).loc Cert.ConvABwdIdeal.main_arg1)
      ∧ m' ((c.tc : Thread Cert.ConvABwdRefIdeal.nD Cert.ConvABwdRefIdeal.τ).loc Cert.ConvABwdRefIdeal.main_arg2) = m ((c.tc : Thread Cert.ConvABwdIdeal.nD Cert.ConvABwdIdeal.τ).loc Cert.ConvABwdIdeal.main_arg2)) →
    ∃ (v0 : (c : Dev Cert.ConvABwdIdeal.nD) → Buf (Elt Ideal) ((c.tc : Thread Cert.ConvABwdIdeal.nD Cert.ConvABwdIdeal.τ).loc Cert.ConvABwdIdeal.main_v0_0)) (v1 : (c : Dev Cert.ConvABwdIdeal.nD) → Buf (Elt Ideal) ((c.tc : Thread Cert.ConvABwdIdeal.nD Cert.ConvABwdIdeal.τ).loc Cert.ConvABwdIdeal.main_v0_1)),
      θ_run (Cert.ConvABwdIdeal.defs (F := Ideal)) (onTc (τ := Cert.ConvABwdIdeal.τ) (Cert.ConvABwdIdeal.main (F := Ideal))) ⟨m, fun _ => 0, g⟩ (fun r => ∀ c : Dev Cert.ConvABwdIdeal.nD,
          r.2.mem ((c.tc : Thread Cert.ConvABwdIdeal.nD Cert.ConvABwdIdeal.τ).loc Cert.ConvABwdIdeal.main_v0_0) = v0 c
          ∧ r.2.mem ((c.tc : Thread Cert.ConvABwdIdeal.nD Cert.ConvABwdIdeal.τ).loc Cert.ConvABwdIdeal.main_v0_1) = v1 c
          ∧ r.2.mem ((c.tc : Thread Cert.ConvABwdIdeal.nD Cert.ConvABwdIdeal.τ).loc Cert.ConvABwdIdeal.main_arg0) = m ((c.tc : Thread Cert.ConvABwdIdeal.nD Cert.ConvABwdIdeal.τ).loc Cert.ConvABwdIdeal.main_arg0)
          ∧ r.2.mem ((c.tc : Thread Cert.ConvABwdIdeal.nD Cert.ConvABwdIdeal.τ).loc Cert.ConvABwdIdeal.main_arg1) = m ((c.tc : Thread Cert.ConvABwdIdeal.nD Cert.ConvABwdIdeal.τ).loc Cert.ConvABwdIdeal.main_arg1)
          ∧ r.2.mem ((c.tc : Thread Cert.ConvABwdIdeal.nD Cert.ConvABwdIdeal.τ).loc Cert.ConvABwdIdeal.main_arg2) = m ((c.tc : Thread Cert.ConvABwdIdeal.nD Cert.ConvABwdIdeal.τ).loc Cert.ConvABwdIdeal.main_arg2))
      ∧ θ_run (Cert.ConvABwdRefIdeal.defs (F := Ideal)) (onTc (τ := Cert.ConvABwdRefIdeal.τ) (Cert.ConvABwdRefIdeal.main (F := Ideal))) ⟨m', fun _ => 0, g'⟩ (fun r => ∀ c : Dev Cert.ConvABwdRefIdeal.nD,
          r.2.mem ((c.tc : Thread Cert.ConvABwdRefIdeal.nD Cert.ConvABwdRefIdeal.τ).loc Cert.ConvABwdRefIdeal.main_v74) = v0 c
          ∧ r.2.mem ((c.tc : Thread Cert.ConvABwdRefIdeal.nD Cert.ConvABwdRefIdeal.τ).loc Cert.ConvABwdRefIdeal.main_v75) = v1 c
          ∧ r.2.mem ((c.tc : Thread Cert.ConvABwdRefIdeal.nD Cert.ConvABwdRefIdeal.τ).loc Cert.ConvABwdRefIdeal.main_arg0) = m' ((c.tc : Thread Cert.ConvABwdRefIdeal.nD Cert.ConvABwdRefIdeal.τ).loc Cert.ConvABwdRefIdeal.main_arg0)
          ∧ r.2.mem ((c.tc : Thread Cert.ConvABwdRefIdeal.nD Cert.ConvABwdRefIdeal.τ).loc Cert.ConvABwdRefIdeal.main_arg1) = m' ((c.tc : Thread Cert.ConvABwdRefIdeal.nD Cert.ConvABwdRefIdeal.τ).loc Cert.ConvABwdRefIdeal.main_arg1)
          ∧ r.2.mem ((c.tc : Thread Cert.ConvABwdRefIdeal.nD Cert.ConvABwdRefIdeal.τ).loc Cert.ConvABwdRefIdeal.main_arg2) = m' ((c.tc : Thread Cert.ConvABwdRefIdeal.nD Cert.ConvABwdRefIdeal.τ).loc Cert.ConvABwdRefIdeal.main_arg2))

def preserves_EvenLnpl_EvenLnplIdeal : Prop :=
  True

def algebraic_EvenLnplIdeal_EvenLnplRefIdeal [hEvenLnplIdeal : Cert.EvenLnplIdeal.Facts] [hEvenLnplRefIdeal : Cert.EvenLnplRefIdeal.Facts] : Prop :=
  ∀ (m : (ℓ : Loc Cert.EvenLnplIdeal.nD Cert.EvenLnplIdeal.τ Cert.EvenLnplIdeal.sig) → Buf (Elt Ideal) ℓ) (g : Dev Cert.EvenLnplIdeal.nD → PrngReg)
    (m' : (ℓ : Loc Cert.EvenLnplRefIdeal.nD Cert.EvenLnplRefIdeal.τ Cert.EvenLnplRefIdeal.sig) → Buf (Elt Ideal) ℓ) (g' : Dev Cert.EvenLnplRefIdeal.nD → PrngReg), Pre_EvenLnplIdeal m →
    (∀ c : Dev Cert.EvenLnplIdeal.nD,
      m' ((c.tc : Thread Cert.EvenLnplRefIdeal.nD Cert.EvenLnplRefIdeal.τ).loc Cert.EvenLnplRefIdeal.main_arg0) = m ((c.tc : Thread Cert.EvenLnplIdeal.nD Cert.EvenLnplIdeal.τ).loc Cert.EvenLnplIdeal.main_arg0)
      ∧ m' ((c.tc : Thread Cert.EvenLnplRefIdeal.nD Cert.EvenLnplRefIdeal.τ).loc Cert.EvenLnplRefIdeal.main_arg1) = m ((c.tc : Thread Cert.EvenLnplIdeal.nD Cert.EvenLnplIdeal.τ).loc Cert.EvenLnplIdeal.main_arg1)
      ∧ m' ((c.tc : Thread Cert.EvenLnplRefIdeal.nD Cert.EvenLnplRefIdeal.τ).loc Cert.EvenLnplRefIdeal.main_arg2) = m ((c.tc : Thread Cert.EvenLnplIdeal.nD Cert.EvenLnplIdeal.τ).loc Cert.EvenLnplIdeal.main_arg2)
      ∧ m' ((c.tc : Thread Cert.EvenLnplRefIdeal.nD Cert.EvenLnplRefIdeal.τ).loc Cert.EvenLnplRefIdeal.main_arg3) = m ((c.tc : Thread Cert.EvenLnplIdeal.nD Cert.EvenLnplIdeal.τ).loc Cert.EvenLnplIdeal.main_arg3)
      ∧ m' ((c.tc : Thread Cert.EvenLnplRefIdeal.nD Cert.EvenLnplRefIdeal.τ).loc Cert.EvenLnplRefIdeal.main_arg4) = m ((c.tc : Thread Cert.EvenLnplIdeal.nD Cert.EvenLnplIdeal.τ).loc Cert.EvenLnplIdeal.main_arg4)
      ∧ m' ((c.tc : Thread Cert.EvenLnplRefIdeal.nD Cert.EvenLnplRefIdeal.τ).loc Cert.EvenLnplRefIdeal.main_arg5) = m ((c.tc : Thread Cert.EvenLnplIdeal.nD Cert.EvenLnplIdeal.τ).loc Cert.EvenLnplIdeal.main_arg5)
      ∧ m' ((c.tc : Thread Cert.EvenLnplRefIdeal.nD Cert.EvenLnplRefIdeal.τ).loc Cert.EvenLnplRefIdeal.main_arg6) = m ((c.tc : Thread Cert.EvenLnplIdeal.nD Cert.EvenLnplIdeal.τ).loc Cert.EvenLnplIdeal.main_arg6)
      ∧ m' ((c.tc : Thread Cert.EvenLnplRefIdeal.nD Cert.EvenLnplRefIdeal.τ).loc Cert.EvenLnplRefIdeal.main_arg7) = m ((c.tc : Thread Cert.EvenLnplIdeal.nD Cert.EvenLnplIdeal.τ).loc Cert.EvenLnplIdeal.main_arg7)) →
    ∃ (v0 : (c : Dev Cert.EvenLnplIdeal.nD) → Buf (Elt Ideal) ((c.tc : Thread Cert.EvenLnplIdeal.nD Cert.EvenLnplIdeal.τ).loc Cert.EvenLnplIdeal.main_v0_0)) (v1 : (c : Dev Cert.EvenLnplIdeal.nD) → Buf (Elt Ideal) ((c.tc : Thread Cert.EvenLnplIdeal.nD Cert.EvenLnplIdeal.τ).loc Cert.EvenLnplIdeal.main_v0_1)) (v2 : (c : Dev Cert.EvenLnplIdeal.nD) → Buf (Elt Ideal) ((c.tc : Thread Cert.EvenLnplIdeal.nD Cert.EvenLnplIdeal.τ).loc Cert.EvenLnplIdeal.main_v0_2)) (v3 : (c : Dev Cert.EvenLnplIdeal.nD) → Buf (Elt Ideal) ((c.tc : Thread Cert.EvenLnplIdeal.nD Cert.EvenLnplIdeal.τ).loc Cert.EvenLnplIdeal.main_v0_3)) (v4 : (c : Dev Cert.EvenLnplIdeal.nD) → Buf (Elt Ideal) ((c.tc : Thread Cert.EvenLnplIdeal.nD Cert.EvenLnplIdeal.τ).loc Cert.EvenLnplIdeal.main_v0_4)) (v5 : (c : Dev Cert.EvenLnplIdeal.nD) → Buf (Elt Ideal) ((c.tc : Thread Cert.EvenLnplIdeal.nD Cert.EvenLnplIdeal.τ).loc Cert.EvenLnplIdeal.main_v0_6)),
      θ_run (Cert.EvenLnplIdeal.defs (F := Ideal)) (onTc (τ := Cert.EvenLnplIdeal.τ) (Cert.EvenLnplIdeal.main (F := Ideal))) ⟨m, fun _ => 0, g⟩ (fun r => ∀ c : Dev Cert.EvenLnplIdeal.nD,
          r.2.mem ((c.tc : Thread Cert.EvenLnplIdeal.nD Cert.EvenLnplIdeal.τ).loc Cert.EvenLnplIdeal.main_v0_0) = v0 c
          ∧ r.2.mem ((c.tc : Thread Cert.EvenLnplIdeal.nD Cert.EvenLnplIdeal.τ).loc Cert.EvenLnplIdeal.main_v0_1) = v1 c
          ∧ r.2.mem ((c.tc : Thread Cert.EvenLnplIdeal.nD Cert.EvenLnplIdeal.τ).loc Cert.EvenLnplIdeal.main_v0_2) = v2 c
          ∧ r.2.mem ((c.tc : Thread Cert.EvenLnplIdeal.nD Cert.EvenLnplIdeal.τ).loc Cert.EvenLnplIdeal.main_v0_3) = v3 c
          ∧ r.2.mem ((c.tc : Thread Cert.EvenLnplIdeal.nD Cert.EvenLnplIdeal.τ).loc Cert.EvenLnplIdeal.main_v0_4) = v4 c
          ∧ r.2.mem ((c.tc : Thread Cert.EvenLnplIdeal.nD Cert.EvenLnplIdeal.τ).loc Cert.EvenLnplIdeal.main_v0_6) = v5 c
          ∧ r.2.mem ((c.tc : Thread Cert.EvenLnplIdeal.nD Cert.EvenLnplIdeal.τ).loc Cert.EvenLnplIdeal.main_arg0) = m ((c.tc : Thread Cert.EvenLnplIdeal.nD Cert.EvenLnplIdeal.τ).loc Cert.EvenLnplIdeal.main_arg0)
          ∧ r.2.mem ((c.tc : Thread Cert.EvenLnplIdeal.nD Cert.EvenLnplIdeal.τ).loc Cert.EvenLnplIdeal.main_arg1) = m ((c.tc : Thread Cert.EvenLnplIdeal.nD Cert.EvenLnplIdeal.τ).loc Cert.EvenLnplIdeal.main_arg1)
          ∧ r.2.mem ((c.tc : Thread Cert.EvenLnplIdeal.nD Cert.EvenLnplIdeal.τ).loc Cert.EvenLnplIdeal.main_arg2) = m ((c.tc : Thread Cert.EvenLnplIdeal.nD Cert.EvenLnplIdeal.τ).loc Cert.EvenLnplIdeal.main_arg2)
          ∧ r.2.mem ((c.tc : Thread Cert.EvenLnplIdeal.nD Cert.EvenLnplIdeal.τ).loc Cert.EvenLnplIdeal.main_arg3) = m ((c.tc : Thread Cert.EvenLnplIdeal.nD Cert.EvenLnplIdeal.τ).loc Cert.EvenLnplIdeal.main_arg3)
          ∧ r.2.mem ((c.tc : Thread Cert.EvenLnplIdeal.nD Cert.EvenLnplIdeal.τ).loc Cert.EvenLnplIdeal.main_arg4) = m ((c.tc : Thread Cert.EvenLnplIdeal.nD Cert.EvenLnplIdeal.τ).loc Cert.EvenLnplIdeal.main_arg4)
          ∧ r.2.mem ((c.tc : Thread Cert.EvenLnplIdeal.nD Cert.EvenLnplIdeal.τ).loc Cert.EvenLnplIdeal.main_arg5) = m ((c.tc : Thread Cert.EvenLnplIdeal.nD Cert.EvenLnplIdeal.τ).loc Cert.EvenLnplIdeal.main_arg5)
          ∧ r.2.mem ((c.tc : Thread Cert.EvenLnplIdeal.nD Cert.EvenLnplIdeal.τ).loc Cert.EvenLnplIdeal.main_arg6) = m ((c.tc : Thread Cert.EvenLnplIdeal.nD Cert.EvenLnplIdeal.τ).loc Cert.EvenLnplIdeal.main_arg6)
          ∧ r.2.mem ((c.tc : Thread Cert.EvenLnplIdeal.nD Cert.EvenLnplIdeal.τ).loc Cert.EvenLnplIdeal.main_arg7) = m ((c.tc : Thread Cert.EvenLnplIdeal.nD Cert.EvenLnplIdeal.τ).loc Cert.EvenLnplIdeal.main_arg7))
      ∧ θ_run (Cert.EvenLnplRefIdeal.defs (F := Ideal)) (onTc (τ := Cert.EvenLnplRefIdeal.τ) (Cert.EvenLnplRefIdeal.main (F := Ideal))) ⟨m', fun _ => 0, g'⟩ (fun r => ∀ c : Dev Cert.EvenLnplRefIdeal.nD,
          r.2.mem ((c.tc : Thread Cert.EvenLnplRefIdeal.nD Cert.EvenLnplRefIdeal.τ).loc Cert.EvenLnplRefIdeal.main_v80) = v0 c
          ∧ r.2.mem ((c.tc : Thread Cert.EvenLnplRefIdeal.nD Cert.EvenLnplRefIdeal.τ).loc Cert.EvenLnplRefIdeal.main_v51) = v1 c
          ∧ r.2.mem ((c.tc : Thread Cert.EvenLnplRefIdeal.nD Cert.EvenLnplRefIdeal.τ).loc Cert.EvenLnplRefIdeal.main_v48) = v2 c
          ∧ r.2.mem ((c.tc : Thread Cert.EvenLnplRefIdeal.nD Cert.EvenLnplRefIdeal.τ).loc Cert.EvenLnplRefIdeal.main_v58) = v3 c
          ∧ r.2.mem ((c.tc : Thread Cert.EvenLnplRefIdeal.nD Cert.EvenLnplRefIdeal.τ).loc Cert.EvenLnplRefIdeal.main_v55) = v4 c
          ∧ r.2.mem ((c.tc : Thread Cert.EvenLnplRefIdeal.nD Cert.EvenLnplRefIdeal.τ).loc Cert.EvenLnplRefIdeal.main_v81) = v5 c
          ∧ r.2.mem ((c.tc : Thread Cert.EvenLnplRefIdeal.nD Cert.EvenLnplRefIdeal.τ).loc Cert.EvenLnplRefIdeal.main_arg0) = m' ((c.tc : Thread Cert.EvenLnplRefIdeal.nD Cert.EvenLnplRefIdeal.τ).loc Cert.EvenLnplRefIdeal.main_arg0)
          ∧ r.2.mem ((c.tc : Thread Cert.EvenLnplRefIdeal.nD Cert.EvenLnplRefIdeal.τ).loc Cert.EvenLnplRefIdeal.main_arg1) = m' ((c.tc : Thread Cert.EvenLnplRefIdeal.nD Cert.EvenLnplRefIdeal.τ).loc Cert.EvenLnplRefIdeal.main_arg1)
          ∧ r.2.mem ((c.tc : Thread Cert.EvenLnplRefIdeal.nD Cert.EvenLnplRefIdeal.τ).loc Cert.EvenLnplRefIdeal.main_arg2) = m' ((c.tc : Thread Cert.EvenLnplRefIdeal.nD Cert.EvenLnplRefIdeal.τ).loc Cert.EvenLnplRefIdeal.main_arg2)
          ∧ r.2.mem ((c.tc : Thread Cert.EvenLnplRefIdeal.nD Cert.EvenLnplRefIdeal.τ).loc Cert.EvenLnplRefIdeal.main_arg3) = m' ((c.tc : Thread Cert.EvenLnplRefIdeal.nD Cert.EvenLnplRefIdeal.τ).loc Cert.EvenLnplRefIdeal.main_arg3)
          ∧ r.2.mem ((c.tc : Thread Cert.EvenLnplRefIdeal.nD Cert.EvenLnplRefIdeal.τ).loc Cert.EvenLnplRefIdeal.main_arg4) = m' ((c.tc : Thread Cert.EvenLnplRefIdeal.nD Cert.EvenLnplRefIdeal.τ).loc Cert.EvenLnplRefIdeal.main_arg4)
          ∧ r.2.mem ((c.tc : Thread Cert.EvenLnplRefIdeal.nD Cert.EvenLnplRefIdeal.τ).loc Cert.EvenLnplRefIdeal.main_arg5) = m' ((c.tc : Thread Cert.EvenLnplRefIdeal.nD Cert.EvenLnplRefIdeal.τ).loc Cert.EvenLnplRefIdeal.main_arg5)
          ∧ r.2.mem ((c.tc : Thread Cert.EvenLnplRefIdeal.nD Cert.EvenLnplRefIdeal.τ).loc Cert.EvenLnplRefIdeal.main_arg6) = m' ((c.tc : Thread Cert.EvenLnplRefIdeal.nD Cert.EvenLnplRefIdeal.τ).loc Cert.EvenLnplRefIdeal.main_arg6)
          ∧ r.2.mem ((c.tc : Thread Cert.EvenLnplRefIdeal.nD Cert.EvenLnplRefIdeal.τ).loc Cert.EvenLnplRefIdeal.main_arg7) = m' ((c.tc : Thread Cert.EvenLnplRefIdeal.nD Cert.EvenLnplRefIdeal.τ).loc Cert.EvenLnplRefIdeal.main_arg7))

def Claim : Prop :=
  ∃ (hKernel : Cert.Kernel.Facts) (hKernelIdeal : Cert.KernelIdeal.Facts) (hReferenceIdeal : Cert.ReferenceIdeal.Facts) (hOddDw : Cert.OddDw.Facts) (hOddDwIdeal : Cert.OddDwIdeal.Facts) (hOddDwRefIdeal : Cert.OddDwRefIdeal.Facts) (hOddDxFirst : Cert.OddDxFirst.Facts) (hOddDxFirstIdeal : Cert.OddDxFirstIdeal.Facts) (hOddDxFirstRefIdeal : Cert.OddDxFirstRefIdeal.Facts) (hOddDx : Cert.OddDx.Facts) (hOddDxIdeal : Cert.OddDxIdeal.Facts) (hOddDxRefIdeal : Cert.OddDxRefIdeal.Facts) (hOddOutDx : Cert.OddOutDx.Facts) (hOddOutDxIdeal : Cert.OddOutDxIdeal.Facts) (hOddOutDxRefIdeal : Cert.OddOutDxRefIdeal.Facts) (hOddOutDw : Cert.OddOutDw.Facts) (hOddOutDwIdeal : Cert.OddOutDwIdeal.Facts) (hOddOutDwRefIdeal : Cert.OddOutDwRefIdeal.Facts) (hEvenDwA : Cert.EvenDwA.Facts) (hEvenDwAIdeal : Cert.EvenDwAIdeal.Facts) (hEvenDwARefIdeal : Cert.EvenDwARefIdeal.Facts) (hEvenDw : Cert.EvenDw.Facts) (hEvenDwIdeal : Cert.EvenDwIdeal.Facts) (hEvenDwRefIdeal : Cert.EvenDwRefIdeal.Facts) (hEvenDwTail : Cert.EvenDwTail.Facts) (hEvenDwTailIdeal : Cert.EvenDwTailIdeal.Facts) (hEvenDwTailRefIdeal : Cert.EvenDwTailRefIdeal.Facts) (hEvenDxFirst : Cert.EvenDxFirst.Facts) (hEvenDxFirstIdeal : Cert.EvenDxFirstIdeal.Facts) (hEvenDxFirstRefIdeal : Cert.EvenDxFirstRefIdeal.Facts) (hEvenDx : Cert.EvenDx.Facts) (hEvenDxIdeal : Cert.EvenDxIdeal.Facts) (hEvenDxRefIdeal : Cert.EvenDxRefIdeal.Facts) (hEvenDxTail : Cert.EvenDxTail.Facts) (hEvenDxTailIdeal : Cert.EvenDxTailIdeal.Facts) (hEvenDxTailRefIdeal : Cert.EvenDxTailRefIdeal.Facts) (hEvenOutDx : Cert.EvenOutDx.Facts) (hEvenOutDxIdeal : Cert.EvenOutDxIdeal.Facts) (hEvenOutDxRefIdeal : Cert.EvenOutDxRefIdeal.Facts) (hOddIn : Cert.OddIn.Facts) (hOddInIdeal : Cert.OddInIdeal.Facts) (hOddInRefIdeal : Cert.OddInRefIdeal.Facts) (hOddOut : Cert.OddOut.Facts) (hOddOutIdeal : Cert.OddOutIdeal.Facts) (hOddOutRefIdeal : Cert.OddOutRefIdeal.Facts) (hEvenInA : Cert.EvenInA.Facts) (hEvenInAIdeal : Cert.EvenInAIdeal.Facts) (hEvenInARefIdeal : Cert.EvenInARefIdeal.Facts) (hEvenInQkv : Cert.EvenInQkv.Facts) (hEvenInQkvIdeal : Cert.EvenInQkvIdeal.Facts) (hEvenInQkvRefIdeal : Cert.EvenInQkvRefIdeal.Facts) (hEvenIn : Cert.EvenIn.Facts) (hEvenInIdeal : Cert.EvenInIdeal.Facts) (hEvenInRefIdeal : Cert.EvenInRefIdeal.Facts) (hEvenInTail : Cert.EvenInTail.Facts) (hEvenInTailIdeal : Cert.EvenInTailIdeal.Facts) (hEvenInTailRefIdeal : Cert.EvenInTailRefIdeal.Facts) (hEvenOutB : Cert.EvenOutB.Facts) (hEvenOutBIdeal : Cert.EvenOutBIdeal.Facts) (hEvenOutBRefIdeal : Cert.EvenOutBRefIdeal.Facts) (hAdamOut : Cert.AdamOut.Facts) (hAdamOutIdeal : Cert.AdamOutIdeal.Facts) (hAdamOutRefIdeal : Cert.AdamOutRefIdeal.Facts) (hAdamInOdd : Cert.AdamInOdd.Facts) (hAdamInOddIdeal : Cert.AdamInOddIdeal.Facts) (hAdamInOddRefIdeal : Cert.AdamInOddRefIdeal.Facts) (hAdamPl : Cert.AdamPl.Facts) (hAdamPlIdeal : Cert.AdamPlIdeal.Facts) (hAdamPlRefIdeal : Cert.AdamPlRefIdeal.Facts) (hAdamPlGate : Cert.AdamPlGate.Facts) (hAdamPlGateIdeal : Cert.AdamPlGateIdeal.Facts) (hAdamPlGateRefIdeal : Cert.AdamPlGateRefIdeal.Facts) (hAdamInEven : Cert.AdamInEven.Facts) (hAdamInEvenIdeal : Cert.AdamInEvenIdeal.Facts) (hAdamInEvenRefIdeal : Cert.AdamInEvenRefIdeal.Facts) (hAdamSmall : Cert.AdamSmall.Facts) (hAdamSmallIdeal : Cert.AdamSmallIdeal.Facts) (hAdamSmallRefIdeal : Cert.AdamSmallRefIdeal.Facts) (hConvBwdQ : Cert.ConvBwdQ.Facts) (hConvBwdQIdeal : Cert.ConvBwdQIdeal.Facts) (hConvBwdQRefIdeal : Cert.ConvBwdQRefIdeal.Facts) (hConvBwdK : Cert.ConvBwdK.Facts) (hConvBwdKIdeal : Cert.ConvBwdKIdeal.Facts) (hConvBwdKRefIdeal : Cert.ConvBwdKRefIdeal.Facts) (hConvBwdV : Cert.ConvBwdV.Facts) (hConvBwdVIdeal : Cert.ConvBwdVIdeal.Facts) (hConvBwdVRefIdeal : Cert.ConvBwdVRefIdeal.Facts) (hLnplFwd : Cert.LnplFwd.Facts) (hLnplFwdIdeal : Cert.LnplFwdIdeal.Facts) (hLnplFwdRefIdeal : Cert.LnplFwdRefIdeal.Facts) (hConvAFwd : Cert.ConvAFwd.Facts) (hConvAFwdIdeal : Cert.ConvAFwdIdeal.Facts) (hConvAFwdRefIdeal : Cert.ConvAFwdRefIdeal.Facts) (hConvBFwd : Cert.ConvBFwd.Facts) (hConvBFwdIdeal : Cert.ConvBFwdIdeal.Facts) (hConvBFwdRefIdeal : Cert.ConvBFwdRefIdeal.Facts) (hConvABwd : Cert.ConvABwd.Facts) (hConvABwdIdeal : Cert.ConvABwdIdeal.Facts) (hConvABwdRefIdeal : Cert.ConvABwdRefIdeal.Facts) (hEvenLnpl : Cert.EvenLnpl.Facts) (hEvenLnplIdeal : Cert.EvenLnplIdeal.Facts) (hEvenLnplRefIdeal : Cert.EvenLnplRefIdeal.Facts),
    quiescent_Kernel (hKernel := hKernel)
    ∧ quiescent_KernelIdeal (hKernelIdeal := hKernelIdeal)
    ∧ quiescent_ReferenceIdeal (hReferenceIdeal := hReferenceIdeal)
    ∧ quiescent_OddDw (hOddDw := hOddDw)
    ∧ quiescent_OddDwIdeal (hOddDwIdeal := hOddDwIdeal)
    ∧ quiescent_OddDwRefIdeal (hOddDwRefIdeal := hOddDwRefIdeal)
    ∧ quiescent_OddDxFirst (hOddDxFirst := hOddDxFirst)
    ∧ quiescent_OddDxFirstIdeal (hOddDxFirstIdeal := hOddDxFirstIdeal)
    ∧ quiescent_OddDxFirstRefIdeal (hOddDxFirstRefIdeal := hOddDxFirstRefIdeal)
    ∧ quiescent_OddDx (hOddDx := hOddDx)
    ∧ quiescent_OddDxIdeal (hOddDxIdeal := hOddDxIdeal)
    ∧ quiescent_OddDxRefIdeal (hOddDxRefIdeal := hOddDxRefIdeal)
    ∧ quiescent_OddOutDx (hOddOutDx := hOddOutDx)
    ∧ quiescent_OddOutDxIdeal (hOddOutDxIdeal := hOddOutDxIdeal)
    ∧ quiescent_OddOutDxRefIdeal (hOddOutDxRefIdeal := hOddOutDxRefIdeal)
    ∧ quiescent_OddOutDw (hOddOutDw := hOddOutDw)
    ∧ quiescent_OddOutDwIdeal (hOddOutDwIdeal := hOddOutDwIdeal)
    ∧ quiescent_OddOutDwRefIdeal (hOddOutDwRefIdeal := hOddOutDwRefIdeal)
    ∧ quiescent_EvenDwA (hEvenDwA := hEvenDwA)
    ∧ quiescent_EvenDwAIdeal (hEvenDwAIdeal := hEvenDwAIdeal)
    ∧ quiescent_EvenDwARefIdeal (hEvenDwARefIdeal := hEvenDwARefIdeal)
    ∧ quiescent_EvenDw (hEvenDw := hEvenDw)
    ∧ quiescent_EvenDwIdeal (hEvenDwIdeal := hEvenDwIdeal)
    ∧ quiescent_EvenDwRefIdeal (hEvenDwRefIdeal := hEvenDwRefIdeal)
    ∧ quiescent_EvenDwTail (hEvenDwTail := hEvenDwTail)
    ∧ quiescent_EvenDwTailIdeal (hEvenDwTailIdeal := hEvenDwTailIdeal)
    ∧ quiescent_EvenDwTailRefIdeal (hEvenDwTailRefIdeal := hEvenDwTailRefIdeal)
    ∧ quiescent_EvenDxFirst (hEvenDxFirst := hEvenDxFirst)
    ∧ quiescent_EvenDxFirstIdeal (hEvenDxFirstIdeal := hEvenDxFirstIdeal)
    ∧ quiescent_EvenDxFirstRefIdeal (hEvenDxFirstRefIdeal := hEvenDxFirstRefIdeal)
    ∧ quiescent_EvenDx (hEvenDx := hEvenDx)
    ∧ quiescent_EvenDxIdeal (hEvenDxIdeal := hEvenDxIdeal)
    ∧ quiescent_EvenDxRefIdeal (hEvenDxRefIdeal := hEvenDxRefIdeal)
    ∧ quiescent_EvenDxTail (hEvenDxTail := hEvenDxTail)
    ∧ quiescent_EvenDxTailIdeal (hEvenDxTailIdeal := hEvenDxTailIdeal)
    ∧ quiescent_EvenDxTailRefIdeal (hEvenDxTailRefIdeal := hEvenDxTailRefIdeal)
    ∧ quiescent_EvenOutDx (hEvenOutDx := hEvenOutDx)
    ∧ quiescent_EvenOutDxIdeal (hEvenOutDxIdeal := hEvenOutDxIdeal)
    ∧ quiescent_EvenOutDxRefIdeal (hEvenOutDxRefIdeal := hEvenOutDxRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenInA (hEvenInA := hEvenInA)
    ∧ quiescent_EvenInAIdeal (hEvenInAIdeal := hEvenInAIdeal)
    ∧ quiescent_EvenInARefIdeal (hEvenInARefIdeal := hEvenInARefIdeal)
    ∧ quiescent_EvenInQkv (hEvenInQkv := hEvenInQkv)
    ∧ quiescent_EvenInQkvIdeal (hEvenInQkvIdeal := hEvenInQkvIdeal)
    ∧ quiescent_EvenInQkvRefIdeal (hEvenInQkvRefIdeal := hEvenInQkvRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_EvenInTail (hEvenInTail := hEvenInTail)
    ∧ quiescent_EvenInTailIdeal (hEvenInTailIdeal := hEvenInTailIdeal)
    ∧ quiescent_EvenInTailRefIdeal (hEvenInTailRefIdeal := hEvenInTailRefIdeal)
    ∧ quiescent_EvenOutB (hEvenOutB := hEvenOutB)
    ∧ quiescent_EvenOutBIdeal (hEvenOutBIdeal := hEvenOutBIdeal)
    ∧ quiescent_EvenOutBRefIdeal (hEvenOutBRefIdeal := hEvenOutBRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamInOdd (hAdamInOdd := hAdamInOdd)
    ∧ quiescent_AdamInOddIdeal (hAdamInOddIdeal := hAdamInOddIdeal)
    ∧ quiescent_AdamInOddRefIdeal (hAdamInOddRefIdeal := hAdamInOddRefIdeal)
    ∧ quiescent_AdamPl (hAdamPl := hAdamPl)
    ∧ quiescent_AdamPlIdeal (hAdamPlIdeal := hAdamPlIdeal)
    ∧ quiescent_AdamPlRefIdeal (hAdamPlRefIdeal := hAdamPlRefIdeal)
    ∧ quiescent_AdamPlGate (hAdamPlGate := hAdamPlGate)
    ∧ quiescent_AdamPlGateIdeal (hAdamPlGateIdeal := hAdamPlGateIdeal)
    ∧ quiescent_AdamPlGateRefIdeal (hAdamPlGateRefIdeal := hAdamPlGateRefIdeal)
    ∧ quiescent_AdamInEven (hAdamInEven := hAdamInEven)
    ∧ quiescent_AdamInEvenIdeal (hAdamInEvenIdeal := hAdamInEvenIdeal)
    ∧ quiescent_AdamInEvenRefIdeal (hAdamInEvenRefIdeal := hAdamInEvenRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_ConvBwdQ (hConvBwdQ := hConvBwdQ)
    ∧ quiescent_ConvBwdQIdeal (hConvBwdQIdeal := hConvBwdQIdeal)
    ∧ quiescent_ConvBwdQRefIdeal (hConvBwdQRefIdeal := hConvBwdQRefIdeal)
    ∧ quiescent_ConvBwdK (hConvBwdK := hConvBwdK)
    ∧ quiescent_ConvBwdKIdeal (hConvBwdKIdeal := hConvBwdKIdeal)
    ∧ quiescent_ConvBwdKRefIdeal (hConvBwdKRefIdeal := hConvBwdKRefIdeal)
    ∧ quiescent_ConvBwdV (hConvBwdV := hConvBwdV)
    ∧ quiescent_ConvBwdVIdeal (hConvBwdVIdeal := hConvBwdVIdeal)
    ∧ quiescent_ConvBwdVRefIdeal (hConvBwdVRefIdeal := hConvBwdVRefIdeal)
    ∧ quiescent_LnplFwd (hLnplFwd := hLnplFwd)
    ∧ quiescent_LnplFwdIdeal (hLnplFwdIdeal := hLnplFwdIdeal)
    ∧ quiescent_LnplFwdRefIdeal (hLnplFwdRefIdeal := hLnplFwdRefIdeal)
    ∧ quiescent_ConvAFwd (hConvAFwd := hConvAFwd)
    ∧ quiescent_ConvAFwdIdeal (hConvAFwdIdeal := hConvAFwdIdeal)
    ∧ quiescent_ConvAFwdRefIdeal (hConvAFwdRefIdeal := hConvAFwdRefIdeal)
    ∧ quiescent_ConvBFwd (hConvBFwd := hConvBFwd)
    ∧ quiescent_ConvBFwdIdeal (hConvBFwdIdeal := hConvBFwdIdeal)
    ∧ quiescent_ConvBFwdRefIdeal (hConvBFwdRefIdeal := hConvBFwdRefIdeal)
    ∧ quiescent_ConvABwd (hConvABwd := hConvABwd)
    ∧ quiescent_ConvABwdIdeal (hConvABwdIdeal := hConvABwdIdeal)
    ∧ quiescent_ConvABwdRefIdeal (hConvABwdRefIdeal := hConvABwdRefIdeal)
    ∧ quiescent_EvenLnpl (hEvenLnpl := hEvenLnpl)
    ∧ quiescent_EvenLnplIdeal (hEvenLnplIdeal := hEvenLnplIdeal)
    ∧ quiescent_EvenLnplRefIdeal (hEvenLnplRefIdeal := hEvenLnplRefIdeal)
    ∧ preserves_Kernel_KernelIdeal
    ∧ algebraic_KernelIdeal_ReferenceIdeal (hKernelIdeal := hKernelIdeal) (hReferenceIdeal := hReferenceIdeal)
    ∧ preserves_OddDw_OddDwIdeal
    ∧ algebraic_OddDwIdeal_OddDwRefIdeal (hOddDwIdeal := hOddDwIdeal) (hOddDwRefIdeal := hOddDwRefIdeal)
    ∧ preserves_OddDxFirst_OddDxFirstIdeal
    ∧ algebraic_OddDxFirstIdeal_OddDxFirstRefIdeal (hOddDxFirstIdeal := hOddDxFirstIdeal) (hOddDxFirstRefIdeal := hOddDxFirstRefIdeal)
    ∧ preserves_OddDx_OddDxIdeal
    ∧ algebraic_OddDxIdeal_OddDxRefIdeal (hOddDxIdeal := hOddDxIdeal) (hOddDxRefIdeal := hOddDxRefIdeal)
    ∧ preserves_OddOutDx_OddOutDxIdeal
    ∧ algebraic_OddOutDxIdeal_OddOutDxRefIdeal (hOddOutDxIdeal := hOddOutDxIdeal) (hOddOutDxRefIdeal := hOddOutDxRefIdeal)
    ∧ preserves_OddOutDw_OddOutDwIdeal
    ∧ algebraic_OddOutDwIdeal_OddOutDwRefIdeal (hOddOutDwIdeal := hOddOutDwIdeal) (hOddOutDwRefIdeal := hOddOutDwRefIdeal)
    ∧ preserves_EvenDwA_EvenDwAIdeal
    ∧ algebraic_EvenDwAIdeal_EvenDwARefIdeal (hEvenDwAIdeal := hEvenDwAIdeal) (hEvenDwARefIdeal := hEvenDwARefIdeal)
    ∧ preserves_EvenDw_EvenDwIdeal
    ∧ algebraic_EvenDwIdeal_EvenDwRefIdeal (hEvenDwIdeal := hEvenDwIdeal) (hEvenDwRefIdeal := hEvenDwRefIdeal)
    ∧ preserves_EvenDwTail_EvenDwTailIdeal
    ∧ algebraic_EvenDwTailIdeal_EvenDwTailRefIdeal (hEvenDwTailIdeal := hEvenDwTailIdeal) (hEvenDwTailRefIdeal := hEvenDwTailRefIdeal)
    ∧ preserves_EvenDxFirst_EvenDxFirstIdeal
    ∧ algebraic_EvenDxFirstIdeal_EvenDxFirstRefIdeal (hEvenDxFirstIdeal := hEvenDxFirstIdeal) (hEvenDxFirstRefIdeal := hEvenDxFirstRefIdeal)
    ∧ preserves_EvenDx_EvenDxIdeal
    ∧ algebraic_EvenDxIdeal_EvenDxRefIdeal (hEvenDxIdeal := hEvenDxIdeal) (hEvenDxRefIdeal := hEvenDxRefIdeal)
    ∧ preserves_EvenDxTail_EvenDxTailIdeal
    ∧ algebraic_EvenDxTailIdeal_EvenDxTailRefIdeal (hEvenDxTailIdeal := hEvenDxTailIdeal) (hEvenDxTailRefIdeal := hEvenDxTailRefIdeal)
    ∧ preserves_EvenOutDx_EvenOutDxIdeal
    ∧ algebraic_EvenOutDxIdeal_EvenOutDxRefIdeal (hEvenOutDxIdeal := hEvenOutDxIdeal) (hEvenOutDxRefIdeal := hEvenOutDxRefIdeal)
    ∧ preserves_OddIn_OddInIdeal
    ∧ algebraic_OddInIdeal_OddInRefIdeal (hOddInIdeal := hOddInIdeal) (hOddInRefIdeal := hOddInRefIdeal)
    ∧ preserves_OddOut_OddOutIdeal
    ∧ algebraic_OddOutIdeal_OddOutRefIdeal (hOddOutIdeal := hOddOutIdeal) (hOddOutRefIdeal := hOddOutRefIdeal)
    ∧ preserves_EvenInA_EvenInAIdeal
    ∧ algebraic_EvenInAIdeal_EvenInARefIdeal (hEvenInAIdeal := hEvenInAIdeal) (hEvenInARefIdeal := hEvenInARefIdeal)
    ∧ preserves_EvenInQkv_EvenInQkvIdeal
    ∧ algebraic_EvenInQkvIdeal_EvenInQkvRefIdeal (hEvenInQkvIdeal := hEvenInQkvIdeal) (hEvenInQkvRefIdeal := hEvenInQkvRefIdeal)
    ∧ preserves_EvenIn_EvenInIdeal
    ∧ algebraic_EvenInIdeal_EvenInRefIdeal (hEvenInIdeal := hEvenInIdeal) (hEvenInRefIdeal := hEvenInRefIdeal)
    ∧ preserves_EvenInTail_EvenInTailIdeal
    ∧ algebraic_EvenInTailIdeal_EvenInTailRefIdeal (hEvenInTailIdeal := hEvenInTailIdeal) (hEvenInTailRefIdeal := hEvenInTailRefIdeal)
    ∧ preserves_EvenOutB_EvenOutBIdeal
    ∧ algebraic_EvenOutBIdeal_EvenOutBRefIdeal (hEvenOutBIdeal := hEvenOutBIdeal) (hEvenOutBRefIdeal := hEvenOutBRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamInOdd_AdamInOddIdeal
    ∧ algebraic_AdamInOddIdeal_AdamInOddRefIdeal (hAdamInOddIdeal := hAdamInOddIdeal) (hAdamInOddRefIdeal := hAdamInOddRefIdeal)
    ∧ preserves_AdamPl_AdamPlIdeal
    ∧ algebraic_AdamPlIdeal_AdamPlRefIdeal (hAdamPlIdeal := hAdamPlIdeal) (hAdamPlRefIdeal := hAdamPlRefIdeal)
    ∧ preserves_AdamPlGate_AdamPlGateIdeal
    ∧ algebraic_AdamPlGateIdeal_AdamPlGateRefIdeal (hAdamPlGateIdeal := hAdamPlGateIdeal) (hAdamPlGateRefIdeal := hAdamPlGateRefIdeal)
    ∧ preserves_AdamInEven_AdamInEvenIdeal
    ∧ algebraic_AdamInEvenIdeal_AdamInEvenRefIdeal (hAdamInEvenIdeal := hAdamInEvenIdeal) (hAdamInEvenRefIdeal := hAdamInEvenRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_ConvBwdQ_ConvBwdQIdeal
    ∧ algebraic_ConvBwdQIdeal_ConvBwdQRefIdeal (hConvBwdQIdeal := hConvBwdQIdeal) (hConvBwdQRefIdeal := hConvBwdQRefIdeal)
    ∧ preserves_ConvBwdK_ConvBwdKIdeal
    ∧ algebraic_ConvBwdKIdeal_ConvBwdKRefIdeal (hConvBwdKIdeal := hConvBwdKIdeal) (hConvBwdKRefIdeal := hConvBwdKRefIdeal)
    ∧ preserves_ConvBwdV_ConvBwdVIdeal
    ∧ algebraic_ConvBwdVIdeal_ConvBwdVRefIdeal (hConvBwdVIdeal := hConvBwdVIdeal) (hConvBwdVRefIdeal := hConvBwdVRefIdeal)
    ∧ preserves_LnplFwd_LnplFwdIdeal
    ∧ algebraic_LnplFwdIdeal_LnplFwdRefIdeal (hLnplFwdIdeal := hLnplFwdIdeal) (hLnplFwdRefIdeal := hLnplFwdRefIdeal)
    ∧ preserves_ConvAFwd_ConvAFwdIdeal
    ∧ algebraic_ConvAFwdIdeal_ConvAFwdRefIdeal (hConvAFwdIdeal := hConvAFwdIdeal) (hConvAFwdRefIdeal := hConvAFwdRefIdeal)
    ∧ preserves_ConvBFwd_ConvBFwdIdeal
    ∧ algebraic_ConvBFwdIdeal_ConvBFwdRefIdeal (hConvBFwdIdeal := hConvBFwdIdeal) (hConvBFwdRefIdeal := hConvBFwdRefIdeal)
    ∧ preserves_ConvABwd_ConvABwdIdeal
    ∧ algebraic_ConvABwdIdeal_ConvABwdRefIdeal (hConvABwdIdeal := hConvABwdIdeal) (hConvABwdRefIdeal := hConvABwdRefIdeal)
    ∧ preserves_EvenLnpl_EvenLnplIdeal
    ∧ algebraic_EvenLnplIdeal_EvenLnplRefIdeal (hEvenLnplIdeal := hEvenLnplIdeal) (hEvenLnplRefIdeal := hEvenLnplRefIdeal)
-- ==== Kernel.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1x1024 : Shape := ⟨2, ![1, 1024]⟩
abbrev S8x128 : Shape := ⟨2, ![8, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 15
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S256x1024, .f32⟩
  | .hbm, ⟨11, _⟩ => ⟨S1x1024, .f32⟩
  | .hbm, ⟨12, _⟩ => ⟨S1x1024, .f32⟩
  | .hbm, ⟨13, _⟩ => ⟨S8x128, .f32⟩
  | .hbm, ⟨14, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S8x128, .f32⟩
  | .local _ .vmem, ⟨19, _⟩ => ⟨S512x1024, .bf16⟩
  | .local _ .vmem, ⟨20, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x256 : Shape := ⟨2, ![1024, 256]⟩
abbrev S1024 : Shape := ⟨1, ![1024]⟩
abbrev S8x128 : Shape := ⟨2, ![8, 128]⟩

abbrev nBuf : Space → Nat
  | .hbm => 131
  | .vmem => 0
  | .smem => 0
  | _ => 0

abbrev hbmTy0_0 (i : Nat) : BufTy := match i % 128 with
  | 0 => ⟨S4096x1024, .f32⟩
  | 1 => ⟨S4096x1024, .f32⟩
  | 2 => ⟨S4096x256, .f32⟩
  | 3 => ⟨S1024x1024, .bf16⟩
  | 4 => ⟨S256x1024, .bf16⟩
  | 5 => ⟨S1x1024, .f32⟩
  | 6 => ⟨S1x1024, .f32⟩
  | 7 => ⟨S4096x1024, .f32⟩
  | 8 => ⟨S1024x1024, .f32⟩
  | 9 => ⟨S256x1024, .f32⟩
  | 10 => ⟨S_, .f32⟩
  | 11 => ⟨S4096x1024, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S_, .f32⟩
  | 68 => ⟨S4096, .f32⟩
  | 69 => ⟨S_, .f32⟩
  | 70 => ⟨S4096, .f32⟩
  | 71 => ⟨S4096, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S4096, .f32⟩
  | 80 => ⟨S_, .f32⟩
  | 81 => ⟨S4096, .f32⟩
  | 82 => ⟨S4096, .f32⟩
  | 83 => ⟨S4096x1024, .f32⟩
  | 84 => ⟨S4096x1024, .f32⟩
  | 85 => ⟨S4096x1024, .f32⟩
  | 86 => ⟨S4096x1024, .f32⟩
  | 87 => ⟨S1024x256, .f32⟩
  | 88 => ⟨S256x1024, .f32⟩
  | 89 => ⟨S4096x1024, .f32⟩
  | 90 => ⟨S1024x1024, .f32⟩
  | 91 => ⟨S1024x1024, .f32⟩
  | 92 => ⟨S4096x1024, .f32⟩
  | 93 => ⟨S4096x1024, .f32⟩
  | 94 => ⟨S_, .f32⟩
  | 95 => ⟨S1024, .f32⟩
  | 96 => ⟨S1x1024, .f32⟩
  | 97 => ⟨S4096x1024, .f32⟩
  | 98 => ⟨S_, .f32⟩
  | 99 => ⟨S1024, .f32⟩
  | 100 => ⟨S1x1024, .f32⟩
  | 101 => ⟨S4096x1024, .f32⟩
  | 102 => ⟨S4096x1024, .f32⟩
  | 103 => ⟨S4096x1024, .f32⟩
  | 104 => ⟨S_, .f32⟩
  | 105 => ⟨S4096, .f32⟩
  | 106 => ⟨S4096x1, .f32⟩
  | 107 => ⟨S4096x1024, .f32⟩
  | 108 => ⟨S4096x1024, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x1024, .f32⟩
  | 116 => ⟨S4096x1024, .f32⟩
  | 117 => ⟨S4096x1024, .f32⟩
  | 118 => ⟨S4096x1024, .f32⟩
  | 119 => ⟨S_, .f32⟩
  | 120 => ⟨S4096, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x1024, .f32⟩
  | _ => ⟨S4096x1024, .f32⟩

abbrev hbmTy0_1 (i : Nat) : BufTy := match i % 128 with
  | 0 => ⟨S4096x1024, .f32⟩
  | 1 => ⟨S8x128, .f32⟩
  | 2 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_cst_15 : Ref sig .tc := ⟨.hbm, 76, rfl⟩
abbrev main_cst_16 : Ref sig .tc := ⟨.hbm, 77, rfl⟩
abbrev main_v52 : Ref sig .tc := ⟨.hbm, 78, rfl⟩
abbrev main_v53 : Ref sig .tc := ⟨.hbm, 79, rfl⟩
abbrev main_cst_17 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_18 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_20 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_21 : Ref sig .tc := ⟨.hbm, 110, rfl⟩
abbrev main_v80 : Ref sig .tc := ⟨.hbm, 111, rfl⟩
abbrev main_v81 : Ref sig .tc := ⟨.hbm, 112, rfl⟩
abbrev main_cst_22 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_23 : Ref sig .tc := ⟨.hbm, 119, rfl⟩
abbrev main_v87 : Ref sig .tc := ⟨.hbm, 120, rfl⟩
abbrev main_v88 : Ref sig .tc := ⟨.hbm, 121, rfl⟩
abbrev main_cst_24 : Ref sig .tc := ⟨.hbm, 122, rfl⟩
abbrev main_v89 : Ref sig .tc := ⟨.hbm, 123, rfl⟩
abbrev main_v90 : Ref sig .tc := ⟨.hbm, 124, rfl⟩
abbrev main_cst_25 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]
-- ==== OddDw.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OddDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OddDxFirst.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OddDxFirstRefIdeal.lean ====
abbrev S4096x2048 : Shape := ⟨2, ![4096, 2048]⟩
abbrev S1024x2048 : Shape := ⟨2, ![1024, 2048]⟩
abbrev S4096x1024 : Shape := ⟨2, ![4096, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1024x2048, .f32⟩
  | .hbm, ⟨9, _⟩ => ⟨S4096x2048, .f32⟩
  | .hbm, ⟨10, _⟩ => ⟨S4096x2048, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== OddDx.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OddDxRefIdeal.lean ====
abbrev S4096x2048 : Shape := ⟨2, ![4096, 2048]⟩
abbrev S1024x2048 : Shape := ⟨2, ![1024, 2048]⟩
abbrev S4096x1024 : Shape := ⟨2, ![4096, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1024x2048, .f32⟩
  | .hbm, ⟨9, _⟩ => ⟨S4096x2048, .f32⟩
  | .hbm, ⟨10, _⟩ => ⟨S4096x2048, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== OddOutDx.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddOutDxRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OddOutDw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddOutDwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvenDwA.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenDwARefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvenDw.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EvenDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvenDwTail.lean ====
abbrev S4096x1024 : Shape := ⟨2, ![4096, 1024]⟩
abbrev S4096x128 : Shape := ⟨2, ![4096, 128]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EvenDwTailRefIdeal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S128x1024, .f32⟩
  | .hbm, ⟨7, _⟩ => ⟨S1024x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EvenDxFirst.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== EvenDxFirstRefIdeal.lean ====
abbrev S4096x4096 : Shape := ⟨2, ![4096, 4096]⟩
abbrev S1024x4096 : Shape := ⟨2, ![1024, 4096]⟩
abbrev S4096x1024 : Shape := ⟨2, ![4096, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== EvenDx.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== EvenDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== EvenDxTail.lean ====
abbrev S4096x128 : Shape := ⟨2, ![4096, 128]⟩
abbrev S1024x128 : Shape := ⟨2, ![1024, 128]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S4096x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== EvenDxTailRefIdeal.lean ====
abbrev S4096x128 : Shape := ⟨2, ![4096, 128]⟩
abbrev S1024x128 : Shape := ⟨2, ![1024, 128]⟩
abbrev S4096x1024 : Shape := ⟨2, ![4096, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1024x128, .f32⟩
  | .hbm, ⟨9, _⟩ => ⟨S4096x128, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== EvenOutDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenOutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OddIn.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddOut.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddOutRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenInA.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInARefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenInQkv.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInQkvRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenIn.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenInTail.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInTailRefIdeal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenOutB.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== EvenOutBRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamOut.lean ====
abbrev S1x512x1024 : Shape := ⟨3, ![1, 512, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AdamOutRefIdeal.lean ====
abbrev S1x512x1024 : Shape := ⟨3, ![1, 512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S_, .f32⟩
  | .hbm, ⟨5, _⟩ => ⟨S1x512x1024, .f32⟩
  | .hbm, ⟨6, _⟩ => ⟨S1x512x1024, .f32⟩
  | .hbm, ⟨7, _⟩ => ⟨S_, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S_, .f32⟩
  | .hbm, ⟨23, _⟩ => ⟨S1x512x1024, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInOdd.lean ====
abbrev S1x1024x2048 : Shape := ⟨3, ![1, 1024, 2048]⟩
abbrev S1x256x2048 : Shape := ⟨3, ![1, 256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S1x1024x2048, .f32⟩
  | .hbm, ⟨5, _⟩ => ⟨S1x1024x2048, .f32⟩
  | .hbm, ⟨6, _⟩ => ⟨S1x1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AdamInOddRefIdeal.lean ====
abbrev S1x1024x2048 : Shape := ⟨3, ![1, 1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S_, .f32⟩
  | .hbm, ⟨5, _⟩ => ⟨S1x1024x2048, .f32⟩
  | .hbm, ⟨6, _⟩ => ⟨S1x1024x2048, .f32⟩
  | .hbm, ⟨7, _⟩ => ⟨S_, .f32⟩
  | .hbm, ⟨8, _⟩ => ⟨S1x1024x2048, .f32⟩
  | .hbm, ⟨9, _⟩ => ⟨S1x1024x2048, .f32⟩
  | .hbm, ⟨10, _⟩ => ⟨S1x1024x2048, .f32⟩
  | .hbm, ⟨11, _⟩ => ⟨S_, .f32⟩
  | .hbm, ⟨12, _⟩ => ⟨S1x1024x2048, .f32⟩
  | .hbm, ⟨13, _⟩ => ⟨S1x1024x2048, .f32⟩
  | .hbm, ⟨14, _⟩ => ⟨S1x1024x2048, .f32⟩
  | .hbm, ⟨15, _⟩ => ⟨S_, .f32⟩
  | .hbm, ⟨16, _⟩ => ⟨S1x1024x2048, .f32⟩
  | .hbm, ⟨17, _⟩ => ⟨S1x1024x2048, .f32⟩
  | .hbm, ⟨18, _⟩ => ⟨S1x1024x2048, .f32⟩
  | .hbm, ⟨19, _⟩ => ⟨S_, .f32⟩
  | .hbm, ⟨20, _⟩ => ⟨S1x1024x2048, .f32⟩
  | .hbm, ⟨21, _⟩ => ⟨S1x1024x2048, .f32⟩
  | .hbm, ⟨22, _⟩ => ⟨S_, .f32⟩
  | .hbm, ⟨23, _⟩ => ⟨S1x1024x2048, .f32⟩
  | .hbm, ⟨24, _⟩ => ⟨S1x1024x2048, .f32⟩
  | .hbm, ⟨25, _⟩ => ⟨S1x1024x2048, .f32⟩
  | .hbm, ⟨26, _⟩ => ⟨S_, .f32⟩
  | .hbm, ⟨27, _⟩ => ⟨S1x1024x2048, .f32⟩
  | .hbm, ⟨28, _⟩ => ⟨S1x1024x2048, .f32⟩
  | .hbm, ⟨29, _⟩ => ⟨S1x1024x2048, .f32⟩
  | .hbm, ⟨30, _⟩ => ⟨S_, .f32⟩
  | .hbm, ⟨31, _⟩ => ⟨S1x1024x2048, .f32⟩
  | .hbm, ⟨32, _⟩ => ⟨S1x1024x2048, .f32⟩
  | .hbm, ⟨33, _⟩ => ⟨S1x1024x2048, .f32⟩
  | .hbm, ⟨34, _⟩ => ⟨S_, .f32⟩
  | .hbm, ⟨35, _⟩ => ⟨S1x1024x2048, .f32⟩
  | .hbm, ⟨36, _⟩ => ⟨S1x1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPl.lean ====
abbrev S2x256x256 : Shape := ⟨3, ![2, 256, 256]⟩
abbrev S1x256x256 : Shape := ⟨3, ![1, 256, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AdamPlRefIdeal.lean ====
abbrev S2x256x256 : Shape := ⟨3, ![2, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPlGate.lean ====
abbrev S2x256x1024 : Shape := ⟨3, ![2, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AdamPlGateRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInEven.lean ====
abbrev S1x2052x1024 : Shape := ⟨3, ![1, 2052, 1024]⟩
abbrev S1x2052x256 : Shape := ⟨3, ![1, 2052, 256]⟩

abbrev nBuf : Space → Nat
  | .hbm => 7
  | .vmem => 14
  | .smem => 0
  | _ => 0

abbrev bufTy : (tb : Table) → Fin (tcTables nBuf tb) → BufTy
  | .hbm, ⟨0, _⟩ => ⟨S1x2052x1024, .f32⟩
  | .hbm, ⟨1, _⟩ => ⟨S1x2052x1024, .f32⟩
  | .hbm, ⟨2, _⟩ => ⟨S1x2052x1024, .f32⟩
  | .hbm, ⟨3, _⟩ => ⟨S1x2052x1024, .f32⟩
  | .hbm, ⟨4, _⟩ => ⟨S1x2052x1024, .f32⟩
  | .hbm, ⟨5, _⟩ => ⟨S1x2052x1024, .f32⟩
  | .hbm, ⟨6, _⟩ => ⟨S1x2052x1024, .f32⟩
  | .local _ .vmem, ⟨0, _⟩ => ⟨S1x2052x256, .f32⟩
  | .local _ .vmem, ⟨1, _⟩ => ⟨S1x2052x256, .f32⟩
  | .local _ .vmem, ⟨2, _⟩ => ⟨S1x2052x256, .f32⟩
  | .local _ .vmem, ⟨3, _⟩ => ⟨S1x2052x256, .f32⟩
  | .local _ .vmem, ⟨4, _⟩ => ⟨S1x2052x256, .f32⟩
  | .local _ .vmem, ⟨5, _⟩ => ⟨S1x2052x256, .f32⟩
  | .local _ .vmem, ⟨6, _⟩ => ⟨S1x2052x256, .f32⟩
  | .local _ .vmem, ⟨7, _⟩ => ⟨S1x2052x256, .f32⟩
  | .local _ .vmem, ⟨8, _⟩ => ⟨S1x2052x256, .f32⟩
  | .local _ .vmem, ⟨9, _⟩ => ⟨S1x2052x256, .f32⟩
  | .local _ .vmem, ⟨10, _⟩ => ⟨S1x2052x256, .f32⟩
  | .local _ .vmem, ⟨11, _⟩ => ⟨S1x2052x256, .f32⟩
  | .local _ .vmem, ⟨12, _⟩ => ⟨S1x2052x256, .f32⟩
  | .local _ .vmem, ⟨13, _⟩ => ⟨S1x2052x256, .f32⟩
  | _, _ => ⟨S1x2052x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2052x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2052x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2052x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2052x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2052x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2052x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2052x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AdamInEvenRefIdeal.lean ====
abbrev S1x2052x1024 : Shape := ⟨3, ![1, 2052, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2052x1024, .f32⟩
  | .hbm, ⟨1, _⟩ => ⟨S1x2052x1024, .f32⟩
  | .hbm, ⟨2, _⟩ => ⟨S1x2052x1024, .f32⟩
  | .hbm, ⟨3, _⟩ => ⟨S1x2052x1024, .f32⟩
  | .hbm, ⟨4, _⟩ => ⟨S_, .f32⟩
  | .hbm, ⟨5, _⟩ => ⟨S1x2052x1024, .f32⟩
  | .hbm, ⟨6, _⟩ => ⟨S1x2052x1024, .f32⟩
  | .hbm, ⟨7, _⟩ => ⟨S_, .f32⟩
  | .hbm, ⟨8, _⟩ => ⟨S1x2052x1024, .f32⟩
  | .hbm, ⟨9, _⟩ => ⟨S1x2052x1024, .f32⟩
  | .hbm, ⟨10, _⟩ => ⟨S1x2052x1024, .f32⟩
  | .hbm, ⟨11, _⟩ => ⟨S_, .f32⟩
  | .hbm, ⟨12, _⟩ => ⟨S1x2052x1024, .f32⟩
  | .hbm, ⟨13, _⟩ => ⟨S1x2052x1024, .f32⟩
  | .hbm, ⟨14, _⟩ => ⟨S1x2052x1024, .f32⟩
  | .hbm, ⟨15, _⟩ => ⟨S_, .f32⟩
  | .hbm, ⟨16, _⟩ => ⟨S1x2052x1024, .f32⟩
  | .hbm, ⟨17, _⟩ => ⟨S1x2052x1024, .f32⟩
  | .hbm, ⟨18, _⟩ => ⟨S1x2052x1024, .f32⟩
  | .hbm, ⟨19, _⟩ => ⟨S_, .f32⟩
  | .hbm, ⟨20, _⟩ => ⟨S1x2052x1024, .f32⟩
  | .hbm, ⟨21, _⟩ => ⟨S1x2052x1024, .f32⟩
  | .hbm, ⟨22, _⟩ => ⟨S_, .f32⟩
  | .hbm, ⟨23, _⟩ => ⟨S1x2052x1024, .f32⟩
  | .hbm, ⟨24, _⟩ => ⟨S1x2052x1024, .f32⟩
  | .hbm, ⟨25, _⟩ => ⟨S1x2052x1024, .f32⟩
  | .hbm, ⟨26, _⟩ => ⟨S_, .f32⟩
  | .hbm, ⟨27, _⟩ => ⟨S1x2052x1024, .f32⟩
  | .hbm, ⟨28, _⟩ => ⟨S1x2052x1024, .f32⟩
  | .hbm, ⟨29, _⟩ => ⟨S1x2052x1024, .f32⟩
  | .hbm, ⟨30, _⟩ => ⟨S_, .f32⟩
  | .hbm, ⟨31, _⟩ => ⟨S1x2052x1024, .f32⟩
  | .hbm, ⟨32, _⟩ => ⟨S1x2052x1024, .f32⟩
  | .hbm, ⟨33, _⟩ => ⟨S1x2052x1024, .f32⟩
  | .hbm, ⟨34, _⟩ => ⟨S_, .f32⟩
  | .hbm, ⟨35, _⟩ => ⟨S1x2052x1024, .f32⟩
  | .hbm, ⟨36, _⟩ => ⟨S1x2052x1024, .f32⟩
  | _, _ => ⟨S1x2052x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x104x128 : Shape := ⟨3, ![1, 104, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x104x128, .f32⟩
  | .hbm, ⟨1, _⟩ => ⟨S1x104x128, .f32⟩
  | .hbm, ⟨2, _⟩ => ⟨S1x104x128, .f32⟩
  | .hbm, ⟨3, _⟩ => ⟨S1x104x128, .f32⟩
  | .hbm, ⟨4, _⟩ => ⟨S1x104x128, .f32⟩
  | .hbm, ⟨5, _⟩ => ⟨S1x104x128, .f32⟩
  | .hbm, ⟨6, _⟩ => ⟨S1x104x128, .f32⟩
  | .local _ .vmem, ⟨0, _⟩ => ⟨S1x104x128, .f32⟩
  | .local _ .vmem, ⟨1, _⟩ => ⟨S1x104x128, .f32⟩
  | .local _ .vmem, ⟨2, _⟩ => ⟨S1x104x128, .f32⟩
  | .local _ .vmem, ⟨3, _⟩ => ⟨S1x104x128, .f32⟩
  | .local _ .vmem, ⟨4, _⟩ => ⟨S1x104x128, .f32⟩
  | .local _ .vmem, ⟨5, _⟩ => ⟨S1x104x128, .f32⟩
  | .local _ .vmem, ⟨6, _⟩ => ⟨S1x104x128, .f32⟩
  | _, _ => ⟨S1x104x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x104x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x104x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x104x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x104x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x104x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x104x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== AdamSmallRefIdeal.lean ====
abbrev S1x104x128 : Shape := ⟨3, ![1, 104, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x104x128, .f32⟩
  | .hbm, ⟨1, _⟩ => ⟨S1x104x128, .f32⟩
  | .hbm, ⟨2, _⟩ => ⟨S1x104x128, .f32⟩
  | .hbm, ⟨3, _⟩ => ⟨S1x104x128, .f32⟩
  | .hbm, ⟨4, _⟩ => ⟨S_, .f32⟩
  | .hbm, ⟨5, _⟩ => ⟨S1x104x128, .f32⟩
  | .hbm, ⟨6, _⟩ => ⟨S1x104x128, .f32⟩
  | .hbm, ⟨7, _⟩ => ⟨S_, .f32⟩
  | .hbm, ⟨8, _⟩ => ⟨S1x104x128, .f32⟩
  | .hbm, ⟨9, _⟩ => ⟨S1x104x128, .f32⟩
  | .hbm, ⟨10, _⟩ => ⟨S1x104x128, .f32⟩
  | .hbm, ⟨11, _⟩ => ⟨S_, .f32⟩
  | .hbm, ⟨12, _⟩ => ⟨S1x104x128, .f32⟩
  | .hbm, ⟨13, _⟩ => ⟨S1x104x128, .f32⟩
  | .hbm, ⟨14, _⟩ => ⟨S1x104x128, .f32⟩
  | .hbm, ⟨15, _⟩ => ⟨S_, .f32⟩
  | .hbm, ⟨16, _⟩ => ⟨S1x104x128, .f32⟩
  | .hbm, ⟨17, _⟩ => ⟨S1x104x128, .f32⟩
  | .hbm, ⟨18, _⟩ => ⟨S1x104x128, .f32⟩
  | .hbm, ⟨19, _⟩ => ⟨S_, .f32⟩
  | .hbm, ⟨20, _⟩ => ⟨S1x104x128, .f32⟩
  | .hbm, ⟨21, _⟩ => ⟨S1x104x128, .f32⟩
  | .hbm, ⟨22, _⟩ => ⟨S_, .f32⟩
  | .hbm, ⟨23, _⟩ => ⟨S1x104x128, .f32⟩
  | .hbm, ⟨24, _⟩ => ⟨S1x104x128, .f32⟩
  | .hbm, ⟨25, _⟩ => ⟨S1x104x128, .f32⟩
  | .hbm, ⟨26, _⟩ => ⟨S_, .f32⟩
  | .hbm, ⟨27, _⟩ => ⟨S1x104x128, .f32⟩
  | .hbm, ⟨28, _⟩ => ⟨S1x104x128, .f32⟩
  | .hbm, ⟨29, _⟩ => ⟨S1x104x128, .f32⟩
  | .hbm, ⟨30, _⟩ => ⟨S_, .f32⟩
  | .hbm, ⟨31, _⟩ => ⟨S1x104x128, .f32⟩
  | .hbm, ⟨32, _⟩ => ⟨S1x104x128, .f32⟩
  | .hbm, ⟨33, _⟩ => ⟨S1x104x128, .f32⟩
  | .hbm, ⟨34, _⟩ => ⟨S_, .f32⟩
  | .hbm, ⟨35, _⟩ => ⟨S1x104x128, .f32⟩
  | .hbm, ⟨36, _⟩ => ⟨S1x104x128, .f32⟩
  | _, _ => ⟨S1x104x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ConvBwdQ.lean ====
abbrev S4096x3072 : Shape := ⟨2, ![4096, 3072]⟩
abbrev S4x3072 : Shape := ⟨2, ![4, 3072]⟩
abbrev S4096x1024 : Shape := ⟨2, ![4096, 1024]⟩
abbrev S8x1024 : Shape := ⟨2, ![8, 1024]⟩
abbrev S256x1024 : Shape := ⟨2, ![256, 1024]⟩
abbrev S4x1024 : Shape := ⟨2, ![4, 1024]⟩
abbrev S272x1024 : Shape := ⟨2, ![272, 1024]⟩
abbrev S264x1024 : Shape := ⟨2, ![264, 1024]⟩
abbrev S1x1024 : Shape := ⟨2, ![1, 1024]⟩
abbrev S1024 : Shape := ⟨1, ![1024]⟩

abbrev nBuf : Space → Nat
  | .hbm => 5
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x1024, .f32⟩
  | .hbm, ⟨3, _⟩ => ⟨S4096x1024, .bf16⟩
  | .hbm, ⟨4, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S4x1024, .f32⟩
  | .local _ .vmem, ⟨7, _⟩ => ⟨S256x1024, .f32⟩
  | .local _ .vmem, ⟨8, _⟩ => ⟨S256x1024, .f32⟩
  | .local _ .vmem, ⟨9, _⟩ => ⟨S8x1024, .f32⟩
  | .local _ .vmem, ⟨10, _⟩ => ⟨S8x1024, .f32⟩
  | .local _ .vmem, ⟨11, _⟩ => ⟨S256x1024, .bf16⟩
  | .local _ .vmem, ⟨12, _⟩ => ⟨S256x1024, .bf16⟩
  | .local _ .vmem, ⟨13, _⟩ => ⟨S8x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvBwdQRefIdeal.lean ====
abbrev S4096x3072 : Shape := ⟨2, ![4096, 3072]⟩
abbrev S4x3072 : Shape := ⟨2, ![4, 3072]⟩
abbrev S4096x1024 : Shape := ⟨2, ![4096, 1024]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x1024, .f32⟩
  | .hbm, ⟨3, _⟩ => ⟨S4096x1024, .f32⟩
  | .hbm, ⟨4, _⟩ => ⟨S4x1024, .f32⟩
  | .hbm, ⟨5, _⟩ => ⟨S_, .f32⟩
  | .hbm, ⟨6, _⟩ => ⟨S3x1024, .f32⟩
  | .hbm, ⟨7, _⟩ => ⟨S4099x1024, .f32⟩
  | .hbm, ⟨8, _⟩ => ⟨S_, .f32⟩
  | .hbm, ⟨9, _⟩ => ⟨S3x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S4099x1024, .f32⟩
  | .hbm, ⟨57, _⟩ => ⟨S_, .f32⟩
  | .hbm, ⟨58, _⟩ => ⟨S4x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S4099x1024, .f32⟩
  | .hbm, ⟨67, _⟩ => ⟨S4099x1024, .f32⟩
  | .hbm, ⟨68, _⟩ => ⟨S_, .f32⟩
  | .hbm, ⟨69, _⟩ => ⟨S4x1024, .f32⟩
  | .hbm, ⟨70, _⟩ => ⟨S4x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S4099x1024, .f32⟩
  | .hbm, ⟨79, _⟩ => ⟨S4099x1024, .f32⟩
  | .hbm, ⟨80, _⟩ => ⟨S_, .f32⟩
  | .hbm, ⟨81, _⟩ => ⟨S4x1024, .f32⟩
  | .hbm, ⟨82, _⟩ => ⟨S4x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S_, .f32⟩
  | .hbm, ⟨90, _⟩ => ⟨S4099x1024, .f32⟩
  | .hbm, ⟨91, _⟩ => ⟨S4099x1024, .f32⟩
  | .hbm, ⟨92, _⟩ => ⟨S_, .f32⟩
  | .hbm, ⟨93, _⟩ => ⟨S4x1024, .f32⟩
  | .hbm, ⟨94, _⟩ => ⟨S4x1024, .f32⟩
  | .hbm, ⟨95, _⟩ => ⟨S3x1024, .f32⟩
  | .hbm, ⟨96, _⟩ => ⟨S4096x1024, .f32⟩
  | .hbm, ⟨97, _⟩ => ⟨S4096x1024, .bf16⟩
  | .hbm, ⟨98, _⟩ => ⟨S_, .i32⟩
  | .hbm, ⟨99, _⟩ => ⟨S_, .f32⟩
  | .hbm, ⟨100, _⟩ => ⟨S8x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_cst_13 : Ref sig .tc := ⟨.hbm, 77, rfl⟩
abbrev main_v60 : Ref sig .tc := ⟨.hbm, 78, rfl⟩
abbrev main_v61 : Ref sig .tc := ⟨.hbm, 79, rfl⟩
abbrev main_cst_14 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_15 : Ref sig .tc := ⟨.hbm, 86, rfl⟩
abbrev main_v67 : Ref sig .tc := ⟨.hbm, 87, rfl⟩
abbrev main_v68 : Ref sig .tc := ⟨.hbm, 88, rfl⟩
abbrev main_cst_16 : Ref sig .tc := ⟨.hbm, 89, rfl⟩
abbrev main_v69 : Ref sig .tc := ⟨.hbm, 90, rfl⟩
abbrev main_v70 : Ref sig .tc := ⟨.hbm, 91, rfl⟩
abbrev main_cst_17 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c : Ref sig .tc := ⟨.hbm, 98, rfl⟩
abbrev main_call0_v0 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== ConvBwdK.lean ====
abbrev S4096x3072 : Shape := ⟨2, ![4096, 3072]⟩
abbrev S4x3072 : Shape := ⟨2, ![4, 3072]⟩
abbrev S4096x1024 : Shape := ⟨2, ![4096, 1024]⟩
abbrev S8x1024 : Shape := ⟨2, ![8, 1024]⟩
abbrev S256x1024 : Shape := ⟨2, ![256, 1024]⟩
abbrev S4x1024 : Shape := ⟨2, ![4, 1024]⟩
abbrev S272x1024 : Shape := ⟨2, ![272, 1024]⟩
abbrev S264x1024 : Shape := ⟨2, ![264, 1024]⟩
abbrev S1x1024 : Shape := ⟨2, ![1, 1024]⟩
abbrev S1024 : Shape := ⟨1, ![1024]⟩

abbrev nBuf : Space → Nat
  | .hbm => 5
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x1024, .f32⟩
  | .hbm, ⟨3, _⟩ => ⟨S4096x1024, .bf16⟩
  | .hbm, ⟨4, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S4x1024, .f32⟩
  | .local _ .vmem, ⟨7, _⟩ => ⟨S256x1024, .f32⟩
  | .local _ .vmem, ⟨8, _⟩ => ⟨S256x1024, .f32⟩
  | .local _ .vmem, ⟨9, _⟩ => ⟨S8x1024, .f32⟩
  | .local _ .vmem, ⟨10, _⟩ => ⟨S8x1024, .f32⟩
  | .local _ .vmem, ⟨11, _⟩ => ⟨S256x1024, .bf16⟩
  | .local _ .vmem, ⟨12, _⟩ => ⟨S256x1024, .bf16⟩
  | .local _ .vmem, ⟨13, _⟩ => ⟨S8x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvBwdKRefIdeal.lean ====
abbrev S4096x3072 : Shape := ⟨2, ![4096, 3072]⟩
abbrev S4x3072 : Shape := ⟨2, ![4, 3072]⟩
abbrev S4096x1024 : Shape := ⟨2, ![4096, 1024]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x1024, .f32⟩
  | .hbm, ⟨3, _⟩ => ⟨S4096x1024, .f32⟩
  | .hbm, ⟨4, _⟩ => ⟨S4x1024, .f32⟩
  | .hbm, ⟨5, _⟩ => ⟨S_, .f32⟩
  | .hbm, ⟨6, _⟩ => ⟨S3x1024, .f32⟩
  | .hbm, ⟨7, _⟩ => ⟨S4099x1024, .f32⟩
  | .hbm, ⟨8, _⟩ => ⟨S_, .f32⟩
  | .hbm, ⟨9, _⟩ => ⟨S3x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S4099x1024, .f32⟩
  | .hbm, ⟨57, _⟩ => ⟨S_, .f32⟩
  | .hbm, ⟨58, _⟩ => ⟨S4x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S4099x1024, .f32⟩
  | .hbm, ⟨67, _⟩ => ⟨S4099x1024, .f32⟩
  | .hbm, ⟨68, _⟩ => ⟨S_, .f32⟩
  | .hbm, ⟨69, _⟩ => ⟨S4x1024, .f32⟩
  | .hbm, ⟨70, _⟩ => ⟨S4x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S4099x1024, .f32⟩
  | .hbm, ⟨79, _⟩ => ⟨S4099x1024, .f32⟩
  | .hbm, ⟨80, _⟩ => ⟨S_, .f32⟩
  | .hbm, ⟨81, _⟩ => ⟨S4x1024, .f32⟩
  | .hbm, ⟨82, _⟩ => ⟨S4x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S_, .f32⟩
  | .hbm, ⟨90, _⟩ => ⟨S4099x1024, .f32⟩
  | .hbm, ⟨91, _⟩ => ⟨S4099x1024, .f32⟩
  | .hbm, ⟨92, _⟩ => ⟨S_, .f32⟩
  | .hbm, ⟨93, _⟩ => ⟨S4x1024, .f32⟩
  | .hbm, ⟨94, _⟩ => ⟨S4x1024, .f32⟩
  | .hbm, ⟨95, _⟩ => ⟨S3x1024, .f32⟩
  | .hbm, ⟨96, _⟩ => ⟨S4096x1024, .f32⟩
  | .hbm, ⟨97, _⟩ => ⟨S4096x1024, .bf16⟩
  | .hbm, ⟨98, _⟩ => ⟨S_, .i32⟩
  | .hbm, ⟨99, _⟩ => ⟨S_, .f32⟩
  | .hbm, ⟨100, _⟩ => ⟨S8x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_cst_13 : Ref sig .tc := ⟨.hbm, 77, rfl⟩
abbrev main_v60 : Ref sig .tc := ⟨.hbm, 78, rfl⟩
abbrev main_v61 : Ref sig .tc := ⟨.hbm, 79, rfl⟩
abbrev main_cst_14 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_15 : Ref sig .tc := ⟨.hbm, 86, rfl⟩
abbrev main_v67 : Ref sig .tc := ⟨.hbm, 87, rfl⟩
abbrev main_v68 : Ref sig .tc := ⟨.hbm, 88, rfl⟩
abbrev main_cst_16 : Ref sig .tc := ⟨.hbm, 89, rfl⟩
abbrev main_v69 : Ref sig .tc := ⟨.hbm, 90, rfl⟩
abbrev main_v70 : Ref sig .tc := ⟨.hbm, 91, rfl⟩
abbrev main_cst_17 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c : Ref sig .tc := ⟨.hbm, 98, rfl⟩
abbrev main_call0_v0 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== ConvBwdV.lean ====
abbrev S4096x3072 : Shape := ⟨2, ![4096, 3072]⟩
abbrev S4x3072 : Shape := ⟨2, ![4, 3072]⟩
abbrev S4096x1024 : Shape := ⟨2, ![4096, 1024]⟩
abbrev S8x1024 : Shape := ⟨2, ![8, 1024]⟩
abbrev S256x1024 : Shape := ⟨2, ![256, 1024]⟩
abbrev S4x1024 : Shape := ⟨2, ![4, 1024]⟩
abbrev S272x1024 : Shape := ⟨2, ![272, 1024]⟩
abbrev S264x1024 : Shape := ⟨2, ![264, 1024]⟩
abbrev S1x1024 : Shape := ⟨2, ![1, 1024]⟩
abbrev S1024 : Shape := ⟨1, ![1024]⟩

abbrev nBuf : Space → Nat
  | .hbm => 5
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x1024, .f32⟩
  | .hbm, ⟨3, _⟩ => ⟨S4096x1024, .bf16⟩
  | .hbm, ⟨4, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S4x1024, .f32⟩
  | .local _ .vmem, ⟨7, _⟩ => ⟨S256x1024, .f32⟩
  | .local _ .vmem, ⟨8, _⟩ => ⟨S256x1024, .f32⟩
  | .local _ .vmem, ⟨9, _⟩ => ⟨S8x1024, .f32⟩
  | .local _ .vmem, ⟨10, _⟩ => ⟨S8x1024, .f32⟩
  | .local _ .vmem, ⟨11, _⟩ => ⟨S256x1024, .bf16⟩
  | .local _ .vmem, ⟨12, _⟩ => ⟨S256x1024, .bf16⟩
  | .local _ .vmem, ⟨13, _⟩ => ⟨S8x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvBwdVRefIdeal.lean ====
abbrev S4096x3072 : Shape := ⟨2, ![4096, 3072]⟩
abbrev S4x3072 : Shape := ⟨2, ![4, 3072]⟩
abbrev S4096x1024 : Shape := ⟨2, ![4096, 1024]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x1024, .f32⟩
  | .hbm, ⟨3, _⟩ => ⟨S4096x1024, .f32⟩
  | .hbm, ⟨4, _⟩ => ⟨S4x1024, .f32⟩
  | .hbm, ⟨5, _⟩ => ⟨S_, .f32⟩
  | .hbm, ⟨6, _⟩ => ⟨S3x1024, .f32⟩
  | .hbm, ⟨7, _⟩ => ⟨S4099x1024, .f32⟩
  | .hbm, ⟨8, _⟩ => ⟨S_, .f32⟩
  | .hbm, ⟨9, _⟩ => ⟨S3x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S4099x1024, .f32⟩
  | .hbm, ⟨57, _⟩ => ⟨S_, .f32⟩
  | .hbm, ⟨58, _⟩ => ⟨S4x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S4099x1024, .f32⟩
  | .hbm, ⟨67, _⟩ => ⟨S4099x1024, .f32⟩
  | .hbm, ⟨68, _⟩ => ⟨S_, .f32⟩
  | .hbm, ⟨69, _⟩ => ⟨S4x1024, .f32⟩
  | .hbm, ⟨70, _⟩ => ⟨S4x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S4099x1024, .f32⟩
  | .hbm, ⟨79, _⟩ => ⟨S4099x1024, .f32⟩
  | .hbm, ⟨80, _⟩ => ⟨S_, .f32⟩
  | .hbm, ⟨81, _⟩ => ⟨S4x1024, .f32⟩
  | .hbm, ⟨82, _⟩ => ⟨S4x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S_, .f32⟩
  | .hbm, ⟨90, _⟩ => ⟨S4099x1024, .f32⟩
  | .hbm, ⟨91, _⟩ => ⟨S4099x1024, .f32⟩
  | .hbm, ⟨92, _⟩ => ⟨S_, .f32⟩
  | .hbm, ⟨93, _⟩ => ⟨S4x1024, .f32⟩
  | .hbm, ⟨94, _⟩ => ⟨S4x1024, .f32⟩
  | .hbm, ⟨95, _⟩ => ⟨S3x1024, .f32⟩
  | .hbm, ⟨96, _⟩ => ⟨S4096x1024, .f32⟩
  | .hbm, ⟨97, _⟩ => ⟨S4096x1024, .bf16⟩
  | .hbm, ⟨98, _⟩ => ⟨S_, .i32⟩
  | .hbm, ⟨99, _⟩ => ⟨S_, .f32⟩
  | .hbm, ⟨100, _⟩ => ⟨S8x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_cst_13 : Ref sig .tc := ⟨.hbm, 77, rfl⟩
abbrev main_v60 : Ref sig .tc := ⟨.hbm, 78, rfl⟩
abbrev main_v61 : Ref sig .tc := ⟨.hbm, 79, rfl⟩
abbrev main_cst_14 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_15 : Ref sig .tc := ⟨.hbm, 86, rfl⟩
abbrev main_v67 : Ref sig .tc := ⟨.hbm, 87, rfl⟩
abbrev main_v68 : Ref sig .tc := ⟨.hbm, 88, rfl⟩
abbrev main_cst_16 : Ref sig .tc := ⟨.hbm, 89, rfl⟩
abbrev main_v69 : Ref sig .tc := ⟨.hbm, 90, rfl⟩
abbrev main_v70 : Ref sig .tc := ⟨.hbm, 91, rfl⟩
abbrev main_cst_17 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c : Ref sig .tc := ⟨.hbm, 98, rfl⟩
abbrev main_call0_v0 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== LnplFwd.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LnplFwdRefIdeal.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== ConvAFwd.lean ====
abbrev S4096x4096 : Shape := ⟨2, ![4096, 4096]⟩
abbrev S3x1024 : Shape := ⟨2, ![3, 1024]⟩
abbrev S4096x1024 : Shape := ⟨2, ![4096, 1024]⟩
abbrev S256x4096 : Shape := ⟨2, ![256, 4096]⟩
abbrev S8x4096 : Shape := ⟨2, ![8, 4096]⟩
abbrev S256x1024 : Shape := ⟨2, ![256, 1024]⟩
abbrev S8x1024 : Shape := ⟨2, ![8, 1024]⟩
abbrev S264x1024 : Shape := ⟨2, ![264, 1024]⟩
abbrev S1x1024 : Shape := ⟨2, ![1, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S3x1024, .f32⟩
  | .hbm, ⟨2, _⟩ => ⟨S4096x1024, .bf16⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S8x4096, .f32⟩
  | .local _ .vmem, ⟨4, _⟩ => ⟨S3x1024, .f32⟩
  | .local _ .vmem, ⟨5, _⟩ => ⟨S256x1024, .bf16⟩
  | .local _ .vmem, ⟨6, _⟩ => ⟨S256x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvAFwdRefIdeal.lean ====
abbrev S4096x4096 : Shape := ⟨2, ![4096, 4096]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4098x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== ConvBFwd.lean ====
abbrev S4096x3072 : Shape := ⟨2, ![4096, 3072]⟩
abbrev S4x3072 : Shape := ⟨2, ![4, 3072]⟩
abbrev S256x1024 : Shape := ⟨2, ![256, 1024]⟩
abbrev S8x1024 : Shape := ⟨2, ![8, 1024]⟩
abbrev S4x1024 : Shape := ⟨2, ![4, 1024]⟩
abbrev S264x1024 : Shape := ⟨2, ![264, 1024]⟩
abbrev S1x1024 : Shape := ⟨2, ![1, 1024]⟩

abbrev nBuf : Space → Nat
  | .hbm => 3
  | .vmem => 8
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x3072, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S4x1024, .f32⟩
  | .local _ .vmem, ⟨6, _⟩ => ⟨S256x1024, .f32⟩
  | .local _ .vmem, ⟨7, _⟩ => ⟨S256x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvBFwdRefIdeal.lean ====
abbrev S4096x3072 : Shape := ⟨2, ![4096, 3072]⟩
abbrev S4x3072 : Shape := ⟨2, ![4, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩

abbrev nBuf : Space → Nat
  | .hbm => 36
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S_, .f32⟩
  | .hbm, ⟨3, _⟩ => ⟨S3x3072, .f32⟩
  | .hbm, ⟨4, _⟩ => ⟨S4099x3072, .f32⟩
  | .hbm, ⟨5, _⟩ => ⟨S1x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S_, .f32⟩
  | .hbm, ⟨10, _⟩ => ⟨S4096x3072, .f32⟩
  | .hbm, ⟨11, _⟩ => ⟨S4096x3072, .f32⟩
  | .hbm, ⟨12, _⟩ => ⟨S1x3072, .f32⟩
  | .hbm, ⟨13, _⟩ => ⟨S4096x3072, .f32⟩
  | .hbm, ⟨14, _⟩ => ⟨S4096x3072, .f32⟩
  | .hbm, ⟨15, _⟩ => ⟨S4096x3072, .f32⟩
  | .hbm, ⟨16, _⟩ => ⟨S4096x3072, .f32⟩
  | .hbm, ⟨17, _⟩ => ⟨S1x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S1x3072, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S_, .f32⟩
  | .hbm, ⟨30, _⟩ => ⟨S4096x3072, .f32⟩
  | .hbm, ⟨31, _⟩ => ⟨S4096x3072, .f32⟩
  | .hbm, ⟨32, _⟩ => ⟨S_, .f32⟩
  | .hbm, ⟨33, _⟩ => ⟨S4096x3072, .f32⟩
  | .hbm, ⟨34, _⟩ => ⟨S4096x3072, .f32⟩
  | .hbm, ⟨35, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== ConvABwd.lean ====
abbrev S4096x4096 : Shape := ⟨2, ![4096, 4096]⟩
abbrev S3x1024 : Shape := ⟨2, ![3, 1024]⟩
abbrev S4096x1024 : Shape := ⟨2, ![4096, 1024]⟩
abbrev S8x1024 : Shape := ⟨2, ![8, 1024]⟩
abbrev S256x4096 : Shape := ⟨2, ![256, 4096]⟩
abbrev S8x4096 : Shape := ⟨2, ![8, 4096]⟩
abbrev S256x1024 : Shape := ⟨2, ![256, 1024]⟩
abbrev S272x1024 : Shape := ⟨2, ![272, 1024]⟩
abbrev S264x1024 : Shape := ⟨2, ![264, 1024]⟩
abbrev S1x1024 : Shape := ⟨2, ![1, 1024]⟩
abbrev S1024 : Shape := ⟨1, ![1024]⟩

abbrev nBuf : Space → Nat
  | .hbm => 5
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S3x1024, .f32⟩
  | .hbm, ⟨2, _⟩ => ⟨S4096x1024, .f32⟩
  | .hbm, ⟨3, _⟩ => ⟨S4096x4096, .bf16⟩
  | .hbm, ⟨4, _⟩ => ⟨S8x1024, .f32⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S3x1024, .f32⟩
  | .local _ .vmem, ⟨7, _⟩ => ⟨S256x1024, .f32⟩
  | .local _ .vmem, ⟨8, _⟩ => ⟨S256x1024, .f32⟩
  | .local _ .vmem, ⟨9, _⟩ => ⟨S8x1024, .f32⟩
  | .local _ .vmem, ⟨10, _⟩ => ⟨S8x1024, .f32⟩
  | .local _ .vmem, ⟨11, _⟩ => ⟨S256x4096, .bf16⟩
  | .local _ .vmem, ⟨12, _⟩ => ⟨S256x4096, .bf16⟩
  | .local _ .vmem, ⟨13, _⟩ => ⟨S8x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvABwdRefIdeal.lean ====
abbrev S4096x4096 : Shape := ⟨2, ![4096, 4096]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S2x1024, .f32⟩
  | .hbm, ⟨19, _⟩ => ⟨S4098x1024, .f32⟩
  | .hbm, ⟨20, _⟩ => ⟨S_, .f32⟩
  | .hbm, ⟨21, _⟩ => ⟨S2x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S4098x1024, .f32⟩
  | .hbm, ⟨53, _⟩ => ⟨S_, .f32⟩
  | .hbm, ⟨54, _⟩ => ⟨S3x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S4098x1024, .f32⟩
  | .hbm, ⟨63, _⟩ => ⟨S4098x1024, .f32⟩
  | .hbm, ⟨64, _⟩ => ⟨S_, .f32⟩
  | .hbm, ⟨65, _⟩ => ⟨S3x1024, .f32⟩
  | .hbm, ⟨66, _⟩ => ⟨S3x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S4098x1024, .f32⟩
  | .hbm, ⟨75, _⟩ => ⟨S4098x1024, .f32⟩
  | .hbm, ⟨76, _⟩ => ⟨S_, .f32⟩
  | .hbm, ⟨77, _⟩ => ⟨S3x1024, .f32⟩
  | .hbm, ⟨78, _⟩ => ⟨S3x1024, .f32⟩
  | .hbm, ⟨79, _⟩ => ⟨S2x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x4096, .f32⟩
  | .hbm, ⟨93, _⟩ => ⟨S4096x4096, .bf16⟩
  | .hbm, ⟨94, _⟩ => ⟨S_, .i32⟩
  | .hbm, ⟨95, _⟩ => ⟨S_, .f32⟩
  | .hbm, ⟨96, _⟩ => ⟨S8x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_c : Ref sig .tc := ⟨.hbm, 94, rfl⟩
abbrev main_call0_v0 : Ref sig .tc := ⟨.hbm, 95, rfl⟩
abbrev main_v75 : Ref sig .tc := ⟨.hbm, 96, rfl⟩

abbrev nD : Nat := 1
abbrev τ : Topo := Topo.v7x

variable {F : FTy → Type} [FloatOps F]
-- ==== EvenLnpl.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1x1024 : Shape := ⟨2, ![1, 1024]⟩
abbrev S8x128 : Shape := ⟨2, ![8, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024 : Shape := ⟨1, ![1024]⟩

abbrev nBuf : Space → Nat
  | .hbm => 15
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S256x1024, .f32⟩
  | .hbm, ⟨11, _⟩ => ⟨S1x1024, .f32⟩
  | .hbm, ⟨12, _⟩ => ⟨S1x1024, .f32⟩
  | .hbm, ⟨13, _⟩ => ⟨S8x128, .f32⟩
  | .hbm, ⟨14, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S8x128, .f32⟩
  | .local _ .vmem, ⟨19, _⟩ => ⟨S512x1024, .bf16⟩
  | .local _ .vmem, ⟨20, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== EvenLnplRefIdeal.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x256 : Shape := ⟨2, ![1024, 256]⟩
abbrev S1024 : Shape := ⟨1, ![1024]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S1024x1024, .f32⟩
  | .hbm, ⟨9, _⟩ => ⟨S256x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S1024x256, .f32⟩
  | .hbm, ⟨67, _⟩ => ⟨S256x1024, .f32⟩
  | .hbm, ⟨68, _⟩ => ⟨S4096x1024, .f32⟩
  | .hbm, ⟨69, _⟩ => ⟨S1024x1024, .f32⟩
  | .hbm, ⟨70, _⟩ => ⟨S1024x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S_, .f32⟩
  | .hbm, ⟨102, _⟩ => ⟨S4096x1, .f32⟩
  | .hbm, ⟨103, _⟩ => ⟨S4096x1, .f32⟩
  | .hbm, ⟨104, _⟩ => ⟨S_, .f32⟩
  | .hbm, ⟨105, _⟩ => ⟨S4096, .f32⟩
  | .hbm, ⟨106, _⟩ => ⟨S4096x1024, .f32⟩
  | .hbm, ⟨107, _⟩ => ⟨S4096x1024, .f32⟩
  | .hbm, ⟨108, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_cst_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_15 : Ref sig .tc := ⟨.hbm, 98, rfl⟩
abbrev main_v74 : Ref sig .tc := ⟨.hbm, 99, rfl⟩
abbrev main_v75 : Ref sig .tc := ⟨.hbm, 100, rfl⟩
abbrev main_cst_16 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== Proof.LnplStages.lean ====
/- The second layer's norm, gated embedding and loss, backwards: one block of 512 rows of the kernel against the
   reference's whole arrays. `Row` says that row `r` of each input block is row `R` of the whole array; under it every
   intermediate value of the kernel's body at `(r, l)` is the reference's value of the same name at `(R, l)`. -/
module

public import proofs.«01_k».proof.Defs
public import proofs.«01_k».proof.Proof.Gen.KernelIdeal.Skeleton
public import proofs.«01_k».proof.Proof.Gen.ReferenceIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.KernelIdeal.RefValue

open Cert.KernelIdeal Cert.KernelIdeal.Gen Cert.ReferenceIdeal.Read

variable {x s u : Vec Ideal S512x1024 .f32} {p : Vec Ideal S512x256 .f32}
variable {X S U : Vec Ideal S4096x1024 .f32} {P : Vec Ideal S4096x256 .f32}
variable {Wg : Vec Ideal S1024x1024 .bf16} {Wp : Vec Ideal S256x1024 .bf16} {G B : Vec Ideal S1x1024 .f32}
variable {r : Fin 512} {R : Fin 4096}

/-! ## The constants, as real numbers -/

theorem c1024 : Ideal.ofBits .f32 0x44800000#32 = ((1024 : ℝ) : EReal) := by
  simp [Ideal.ofBits, Ideal.ieee, -EReal.coe_mul]; norm_num

theorem cInv1024 : Ideal.ofBits .f32 0x3A800000#32 = ((1 / 1024 : ℝ) : EReal) := by
  simp [Ideal.ofBits, Ideal.ieee, -EReal.coe_mul]; norm_num

theorem cInv2048 : Ideal.ofBits .f32 0x3A000000#32 = ((1 / 2048 : ℝ) : EReal) := by
  simp [Ideal.ofBits, Ideal.ieee, -EReal.coe_mul]; norm_num

theorem cHalf : Ideal.ofBits .f32 0x3F000000#32 = ((1 / 2 : ℝ) : EReal) := by
  simp [Ideal.ofBits, Ideal.ieee, -EReal.coe_mul]; norm_num

theorem cTwo : Ideal.ofBits .f32 0x40000000#32 = ((2 : ℝ) : EReal) := by
  simp [Ideal.ofBits, Ideal.ieee, -EReal.coe_mul]; norm_num

theorem div1024 (y : EReal) : Ideal.div y (Ideal.ofBits .f32 0x44800000#32) = y * ((1 / 1024 : ℝ) : EReal) := by
  rw [c1024, Ideal.div, if_neg (by norm_num), ← EReal.coe_inv]; norm_num

/-- The gradient of half the mean square: `(1/2 / 1024) * (2 * e)` is `e / 1024`. -/
theorem scale_err (e : EReal) :
    e * Ideal.ofBits .f32 0x3A800000#32
      = Ideal.div (Ideal.ofBits .f32 0x3F000000#32) (Ideal.ofBits .f32 0x44800000#32) * (Ideal.ofBits .f32 0x40000000#32 * e) := by
  rw [div1024, cInv1024, cHalf, cTwo, ← mul_assoc, ← EReal.coe_mul, ← EReal.coe_mul, mul_comm]
  norm_num

theorem two_times (y : EReal) : ((2 : ℝ) : EReal) * y = y + y := by
  induction y with
  | bot => rw [EReal.coe_mul_bot_of_pos (by norm_num), EReal.bot_add]
  | coe y => rw [← EReal.coe_mul, ← EReal.coe_add, two_mul]
  | top => rw [EReal.coe_mul_top_of_pos (by norm_num), EReal.top_add_top]

/-- Twice a number, split over a sum. -/
theorem two_split (a d c : EReal) : a + d * c + c * d = a + c * (Ideal.ofBits .f32 0x40000000#32 * d) := by
  rw [cTwo, mul_left_comm, two_times, mul_comm d c, add_assoc]

/-- A nonnegative real factor goes into a finite sum. -/
theorem mul_sum_real {ι : Type*} (T : Finset ι) (k : ℝ) (hk : 0 ≤ k) (f : ι → EReal) :
    (k : EReal) * ∑ i ∈ T, f i = ∑ i ∈ T, (k : EReal) * f i := by
  classical
  induction T using Finset.induction_on with
  | empty => simp
  | insert a T ha ih =>
    rw [Finset.sum_insert ha, Finset.sum_insert ha,
      EReal.left_distrib_of_nonneg_of_ne_top (EReal.coe_nonneg.mpr hk) (EReal.coe_ne_top k), ih]

/-- Row `r` of the blocks is row `R` of the arrays. -/
structure Row (x s u : Vec Ideal S512x1024 .f32) (p : Vec Ideal S512x256 .f32) (X S U : Vec Ideal S4096x1024 .f32)
    (P : Vec Ideal S4096x256 .f32) (r : Fin 512) (R : Fin 4096) : Prop where
  hx : ∀ l : Fin 1024, x (ix2 r l) = X (ix2 R l)
  hs : ∀ l : Fin 1024, s (ix2 r l) = S (ix2 R l)
  hu : ∀ l : Fin 1024, u (ix2 r l) = U (ix2 R l)
  hp : ∀ l : Fin 256, p (ix2 r l) = P (ix2 R l)

theorem dev_at (h : Row x s u p X S U P r R) (l : Fin 1024) :
    k0_pay10 x s (ix2 r l) = val_main_v10 (F := Ideal) X S (ix2 R l) := by
  pointwise [k0_pay10, val_main_v10, val_main_v9, val_main_v8, val_main_v7, val_main_v6, val_main_v5, val_main_v4,
    val_main_v3, val_main_v2, val_main_cst, val_main_cst_0, val_main_cst_1]
  simp only [h.hx, h.hs]

theorem var_at (h : Row x s u p X S U P r R) :
    k0_pay11 x s (ix2 r 0) = val_main_v19 (F := Ideal) X S (ix2 R 0) := by
  pointwise [k0_pay11, val_main_v19, val_main_v18, val_main_v17, val_main_v16, val_main_v15, val_main_v14, val_main_v11,
    val_main_cst_3, val_main_cst_4, val_main_cst_5]
  simp only [dev_at h]

theorem rs_at (h : Row x s u p X S U P r R) :
    k0_pay12 x s (ix2 r 0) = val_main_v20 (F := Ideal) X S (ix2 R 0) := by
  pointwise [k0_pay12, val_main_v20]
  simp only [var_at h]

theorem slope_at (h : Row x s u p X S U P r R) (z z' : Fin 1) :
    k0_pay13 x s (ix2 r z) = val_main_v23 (F := Ideal) X S (ix2 R z') := by
  obtain rfl : z = 0 := Subsingleton.elim _ _
  obtain rfl : z' = 0 := Subsingleton.elim _ _
  pointwise [k0_pay13, val_main_v23, val_main_v22, val_main_v21, val_main_cst_6]
  simp only [var_at h, rs_at h]

theorem unit_at (h : Row x s u p X S U P r R) (l : Fin 1024) :
    k0_pay14 x s (ix2 r l) = val_main_v25 (F := Ideal) X S (ix2 R l) := by
  pointwise [k0_pay14, val_main_v25, val_main_v24]
  simp only [dev_at h, rs_at h]

theorem xn_at (h : Row x s u p X S U P r R) (l : Fin 1024) :
    k0_pay15 x s G B (ix2 r l) = val_main_v29 (F := Ideal) X S G B (ix2 R l) := by
  pointwise [k0_pay15, val_main_v29, val_main_v28, val_main_v27, val_main_v26]
  simp only [unit_at h]

theorem gate_at (h : Row x s u p X S U P r R) (l : Fin 1024) :
    k0_pay16 x s G B Wg (ix2 r l) = val_main_v36 (F := Ideal) X S Wg G B (ix2 R l) := by
  pointwise [k0_pay16, val_main_v36, val_main_v35, val_main_v34, val_main_v33, val_main_v32, val_main_v31, val_main_v30,
    val_main_v0, val_main_cst_7, val_main_cst_8]
  simp only [xn_at h]
  rfl

theorem plv_at (h : Row x s u p X S U P r R) (l : Fin 1024) :
    k0_pay17 p Wp (ix2 r l) = val_main_v40 (F := Ideal) P Wp (ix2 R l) := by
  pointwise [k0_pay17, val_main_v40, val_main_v1]
  simp only [h.hp]

theorem err_at (h : Row x s u p X S U P r R) (l : Fin 1024) :
    k0_pay18 (k0_pay15 x s G B) (k0_pay16 x s G B Wg) p Wp u (ix2 r l)
      = val_main_v43 (F := Ideal) X S P Wg Wp G B U (ix2 R l) := by
  pointwise [k0_pay18, val_main_v43, val_main_v42, val_main_v41]
  simp only [xn_at h, gate_at h, plv_at h, h.hu]

theorem dout_at (h : Row x s u p X S U P r R) (l : Fin 1024) :
    k0_pay19 (k0_pay15 x s G B) (k0_pay16 x s G B Wg) p Wp u (ix2 r l)
      = val_main_v57 (F := Ideal) X S P Wg Wp G B U (ix2 R l) := by
  pointwise [k0_pay19, val_main_v57, val_main_v56, val_main_v55, val_main_v54, val_main_v53, val_main_v52, val_main_v46,
    val_main_v45, val_main_cst_10, val_main_cst_15, val_main_cst_16, val_main_cst_17]
  simp only [err_at h]
  exact scale_err _

theorem dplv_at (h : Row x s u p X S U P r R) (l : Fin 1024) :
    k0_pay21 (k0_pay15 x s G B) (k0_pay16 x s G B Wg) p Wp u (ix2 r l)
      = val_main_v59 (F := Ideal) X S P Wg Wp G B U (ix2 R l) := by
  pointwise [k0_pay21, val_main_v59]
  simp only [dout_at h, gate_at h]

theorem dlog_at (h : Row x s u p X S U P r R) (l : Fin 1024) :
    k0_pay22 (k0_pay15 x s G B) (k0_pay16 x s G B Wg) p Wp u (ix2 r l)
      = val_main_v62 (F := Ideal) X S P Wg Wp G B U (ix2 R l) := by
  pointwise [k0_pay22, val_main_v62, val_main_v58, val_main_v39, val_main_v38, val_main_v37, val_main_cst_9]
  simp only [dout_at h, gate_at h, plv_at h, mul_assoc, mul_comm, mul_left_comm]

/-- The gradient at the norm's result. -/
theorem dxn_at (h : Row x s u p X S U P r R) (l : Fin 1024) :
    k0_pay25 (k0_pay19 (k0_pay15 x s G B) (k0_pay16 x s G B Wg) p Wp u)
        (k0_pay22 (k0_pay15 x s G B) (k0_pay16 x s G B Wg) p Wp u) Wg (ix2 r l)
      = val_main_v66 (F := Ideal) X S P Wg Wp G B U (ix2 R l) := by
  pointwise [k0_pay25, val_main_v66, val_main_v65, val_main_v0]
  simp only [dout_at h, dlog_at h]

theorem dq_at (h : Row x s u p X S U P r R) (l : Fin 1024) :
    k0_pay28 G (k0_pay10 x s) (k0_pay12 x s) (k0_pay13 x s) (k0_pay19 (k0_pay15 x s G B) (k0_pay16 x s G B Wg) p Wp u)
        (k0_pay22 (k0_pay15 x s G B) (k0_pay16 x s G B Wg) p Wp u) Wg (ix2 r l)
      = val_main_v85 (F := Ideal) X S P Wg Wp G B U (ix2 R l) := by
  pointwise [k0_pay28, val_main_v85, val_main_v84, val_main_v83, val_main_v82, val_main_v81, val_main_v80, val_main_v79,
    val_main_v78, val_main_v77, val_main_v76, val_main_v75, val_main_v74, val_main_v73, val_main_v72, val_main_v13,
    val_main_v12, val_main_cst_2, val_main_cst_20, val_main_cst_21, val_main_cst_22]
  simp only [dxn_at h, dev_at h, rs_at h, slope_at h _ 0]
  rw [two_split]
  simp only [Subsingleton.elim _ (0 : Fin 1)]

theorem dmean_at (h : Row x s u p X S U P r R) :
    k0_pay29 G (k0_pay10 x s) (k0_pay12 x s) (k0_pay13 x s) (k0_pay19 (k0_pay15 x s G B) (k0_pay16 x s G B Wg) p Wp u)
        (k0_pay22 (k0_pay15 x s G B) (k0_pay16 x s G B Wg) p Wp u) Wg (ix2 r 0)
      = val_main_v91 (F := Ideal) X S P Wg Wp G B U (ix1 R) := by
  pointwise [k0_pay29, val_main_v91, val_main_v90, val_main_v89, val_main_v88, val_main_v87, val_main_v86,
    val_main_cst_23, val_main_cst_24, val_main_cst_25]
  simp only [dq_at h, zero_sub]

/-- The gradient of the block's input. -/
theorem dpre_at (h : Row x s u p X S U P r R) (l : Fin 1024) :
    k0_pay1 (k0_pay28 G (k0_pay10 x s) (k0_pay12 x s) (k0_pay13 x s) (k0_pay19 (k0_pay15 x s G B) (k0_pay16 x s G B Wg) p Wp u)
        (k0_pay22 (k0_pay15 x s G B) (k0_pay16 x s G B Wg) p Wp u) Wg)
       (k0_pay29 G (k0_pay10 x s) (k0_pay12 x s) (k0_pay13 x s) (k0_pay19 (k0_pay15 x s G B) (k0_pay16 x s G B Wg) p Wp u)
        (k0_pay22 (k0_pay15 x s G B) (k0_pay16 x s G B Wg) p Wp u) Wg) (ix2 r l)
      = val_main_v93 (F := Ideal) X S P Wg Wp G B U (ix2 R l) := by
  pointwise [k0_pay1, val_main_v93, val_main_v92]
  simp only [dq_at h, dmean_at h]

/-! ## What one block adds to the accumulated results -/

/-- Half the mean square of the error's row `R`, times two times 1024. -/
def sq (X S : Vec Ideal S4096x1024 .f32) (P : Vec Ideal S4096x256 .f32) (Wg : Vec Ideal S1024x1024 .bf16)
    (Wp : Vec Ideal S256x1024 .bf16) (G B : Vec Ideal S1x1024 .f32) (U : Vec Ideal S4096x1024 .f32) (R : Fin 4096) : EReal :=
  ∑ l : Fin 1024, val_main_v43 (F := Ideal) X S P Wg Wp G B U (ix2 R l) * val_main_v43 (F := Ideal) X S P Wg Wp G B U (ix2 R l)

variable {ro : Fin 512 → Fin 4096}

theorem loss_add (h : ∀ r, Row x s u p X S U P r (ro r)) (acc : Vec Ideal S8x128 .f32) (a : Fin 8) (b : Fin 128) :
    k0_pay20 (k0_pay15 x s G B) (k0_pay16 x s G B Wg) p Wp u acc (ix2 a b)
      = acc (ix2 a b) + (∑ r : Fin 512, sq X S P Wg Wp G B U (ro r)) * ((1 / 2048 : ℝ) : EReal) := by
  pointwise [k0_pay20]
  simp only [err_at (h _), cInv2048, sq]

theorem dwg_add (h : ∀ r, Row x s u p X S U P r (ro r)) (acc : Vec Ideal S1024x1024 .f32) (k n : Fin 1024) :
    k0_pay23 (k0_pay15 x s G B) (k0_pay16 x s G B Wg) p Wp u acc (ix2 k n)
      = acc (ix2 k n) + ∑ r : Fin 512, val_main_v29 (F := Ideal) X S G B (ix2 (ro r) k)
          * val_main_v62 (F := Ideal) X S P Wg Wp G B U (ix2 (ro r) n) := by
  pointwise [k0_pay23]
  simp only [xn_at (h _), dlog_at (h _)]

theorem dwpl_add (h : ∀ r, Row x s u p X S U P r (ro r)) (acc : Vec Ideal S256x1024 .f32) (k : Fin 256) (n : Fin 1024) :
    k0_pay24 (k0_pay21 (k0_pay15 x s G B) (k0_pay16 x s G B Wg) p Wp u) acc p (ix2 k n)
      = acc (ix2 k n) + ∑ r : Fin 512, P (ix2 (ro r) k) * val_main_v59 (F := Ideal) X S P Wg Wp G B U (ix2 (ro r) n) := by
  pointwise [k0_pay24]
  simp only [(h _).hp, dplv_at (h _)]

theorem db_add (h : ∀ r, Row x s u p X S U P r (ro r)) (acc : Vec Ideal S1x1024 .f32) (z : Fin 1) (n : Fin 1024) :
    k0_pay4 (k0_pay26 (k0_pay19 (k0_pay15 x s G B) (k0_pay16 x s G B Wg) p Wp u)
        (k0_pay22 (k0_pay15 x s G B) (k0_pay16 x s G B Wg) p Wp u) Wg) acc (ix2 z n)
      = acc (ix2 z n) + ∑ r : Fin 512, val_main_v66 (F := Ideal) X S P Wg Wp G B U (ix2 (ro r) n) := by
  pointwise [k0_pay4, k0_pay26]
  simp only [dxn_at (h _)]

theorem dg_add (h : ∀ r, Row x s u p X S U P r (ro r)) (acc : Vec Ideal S1x1024 .f32) (z : Fin 1) (n : Fin 1024) :
    k0_pay3 (k0_pay27 (k0_pay14 x s) (k0_pay19 (k0_pay15 x s G B) (k0_pay16 x s G B Wg) p Wp u)
        (k0_pay22 (k0_pay15 x s G B) (k0_pay16 x s G B Wg) p Wp u) Wg) acc (ix2 z n)
      = acc (ix2 z n) + ∑ r : Fin 512, val_main_v25 (F := Ideal) X S (ix2 (ro r) n)
          * val_main_v66 (F := Ideal) X S P Wg Wp G B U (ix2 (ro r) n) := by
  pointwise [k0_pay3, k0_pay27]
  simp only [dxn_at (h _), unit_at (h _)]

/-! ## The reference's accumulated results -/

theorem loss_ref (a : Fin 8) (b : Fin 128) :
    val_main_v94 (F := Ideal) X S P Wg Wp G B U (ix2 a b)
      = (∑ R : Fin 4096, sq X S P Wg Wp G B U R) * ((1 / 2048 : ℝ) : EReal) := by
  pointwise [val_main_v94, val_main_v51, val_main_v50, val_main_v49, val_main_v48, val_main_v47, val_main_v44, val_main_cst_14,
    val_main_cst_13, val_main_cst_12, val_main_cst_11]
  simp only [div1024, sq, cHalf, mul_comm _ (((1 / 1024 : ℝ) : ℝ) : EReal), mul_comm _ (((1 / 2048 : ℝ) : ℝ) : EReal)]
  rw [← mul_sum_real _ _ (by norm_num), ← mul_assoc, ← EReal.coe_mul]
  norm_num

theorem dwg_ref (k n : Fin 1024) :
    val_main_v64 (F := Ideal) X S P Wg Wp G B U (ix2 k n)
      = ∑ R : Fin 4096, val_main_v29 (F := Ideal) X S G B (ix2 R k) * val_main_v62 (F := Ideal) X S P Wg Wp G B U (ix2 R n) := by
  pointwise [val_main_v64, val_main_v63]
  simp only [mul_comm]

theorem dwpl_ref (k : Fin 256) (n : Fin 1024) :
    val_main_v61 (F := Ideal) X S P Wg Wp G B U (ix2 k n)
      = ∑ R : Fin 4096, P (ix2 R k) * val_main_v59 (F := Ideal) X S P Wg Wp G B U (ix2 R n) := by
  pointwise [val_main_v61, val_main_v60]
  simp only [mul_comm]

theorem db_ref (z : Fin 1) (n : Fin 1024) :
    val_main_v68 (F := Ideal) X S P Wg Wp G B U (ix2 z n)
      = ∑ R : Fin 4096, val_main_v66 (F := Ideal) X S P Wg Wp G B U (ix2 R n) := by
  pointwise [val_main_v68, val_main_v67, val_main_cst_18]

theorem dg_ref (z : Fin 1) (n : Fin 1024) :
    val_main_v71 (F := Ideal) X S P Wg Wp G B U (ix2 z n)
      = ∑ R : Fin 4096, val_main_v25 (F := Ideal) X S (ix2 R n) * val_main_v66 (F := Ideal) X S P Wg Wp G B U (ix2 R n) := by
  pointwise [val_main_v71, val_main_v70, val_main_v69, val_main_cst_19]

end Cert.KernelIdeal.RefValue
end
-- ==== Proof.LnplFinal.lean ====
/- The second layer's norm, gated embedding and loss, backwards: the kernel's seven result arrays after its eight grid
   points, and the claim that they are the reference's. The gradients of the weights, of the norm's scale and shift and
   the loss are sums over the eight blocks of 512 rows, re-indexed to the reference's sums over 4096 rows. -/
module

public import proofs.«01_k».proof.Proof.LnplStages
public import proofs.«01_k».proof.Proof.Gen.KernelIdeal.Value
public import proofs.«01_k».proof.Proof.Gen.ReferenceIdeal.Run

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.KernelIdeal.Value Cert.ReferenceIdeal.Read

variable (m : (ℓ : Loc nD τ sig) → Buf (Elt Ideal) ℓ) (ρ : Dev nD → PrngReg) (c : Dev nD)

abbrev aX : Vec Ideal S4096x1024 .f32 := m ((c : Thread nD τ).loc main_arg0)
abbrev aS : Vec Ideal S4096x1024 .f32 := m ((c : Thread nD τ).loc main_arg1)
abbrev aP : Vec Ideal S4096x256 .f32 := m ((c : Thread nD τ).loc main_arg2)
abbrev aWg : Vec Ideal S1024x1024 .bf16 := m ((c : Thread nD τ).loc main_arg3)
abbrev aWp : Vec Ideal S256x1024 .bf16 := m ((c : Thread nD τ).loc main_arg4)
abbrev aG : Vec Ideal S1x1024 .f32 := m ((c : Thread nD τ).loc main_arg5)
abbrev aB : Vec Ideal S1x1024 .f32 := m ((c : Thread nD τ).loc main_arg6)
abbrev aU : Vec Ideal S4096x1024 .f32 := m ((c : Thread nD τ).loc main_arg7)

/-- Every input window's block index at every point (decided). -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_14.index t = ![t.val, 0] :=
  (by decide +kernel : ∀ t : Fin grid0.N, _)

/-- Row `r` of block `t`, as a row of the whole array. -/
abbrev rowOf (t : Fin cfg0.N) (r : Fin 512) : Fin 4096 :=
  ⟨t.val * 512 + r.val, by have := t.isLt; have hN : cfg0.N = 8 := N_0; omega⟩

theorem row_at (t : Fin cfg0.N) (r : Fin 512) :
    Row (iblk m c 0 t) (iblk m c 1 t) (iblk m c 7 t) (iblk m c 2 t) (aX m c) (aS m c) (aU m c) (aP m c) r (rowOf t r) where
  hx l := by blk_ext [iblk, V, idx t]
  hs l := by blk_ext [iblk, V, idx t]
  hu l := by blk_ext [iblk, V, idx t]
  hp l := by blk_ext [iblk, V, idx t]

theorem blk3 (t : Fin cfg0.N) : iblk m c 3 t = aWg m c := by blk_ext! [iblk, V, idx t]
theorem blk4 (t : Fin cfg0.N) : iblk m c 4 t = aWp m c := by blk_ext! [iblk, V, idx t]
theorem blk5 (t : Fin cfg0.N) : iblk m c 5 t = aG m c := by blk_ext! [iblk, V, idx t]
theorem blk6 (t : Fin cfg0.N) : iblk m c 6 t = aB m c := by blk_ext! [iblk, V, idx t]

theorem exists_ix2 {n k : ℕ} (j : (⟨2, ![n, k]⟩ : Shape).Idx) : ∃ a b, j = ix2 a b := ⟨_, _, eq_ix2 j⟩

theorem final8 : (dats m 0 c).arrAt 8 cfg0.N
    = val_main_v93 (F := Ideal) (aX m c) (aS m c) (aP m c) (aWg m c) (aWp m c) (aG m c) (aB m c) (aU m c) := by
  refine (dats m 0 c).arrAt_eq_of_covers 8 _ (by decide +kernel) fun t hf y => ?_
  have hy : (win0_8.blk t).view.emb y = ix2 (rowOf t (y 0)) (y 1) := by blk_ext [idx t]
  have hd := dpre_at (Wg := aWg m c) (Wp := aWp m c) (G := aG m c) (B := aB m c) (row_at m c t (y 0)) (y 1)
  rw [after0_8]
  by_cases h0 : t.val % 8 = 0
  · rw [outsAt0_A m c t h0]
    frame_out
    rw [blk3, blk4, blk5, blk6]
    exact (congrArg _ (eq_ix2 y)).trans (hd.trans (congrArg _ hy.symm))
  · rw [outsAt0_B m c t h0]
    frame_out
    rw [blk3, blk4, blk5, blk6]
    exact (congrArg _ (eq_ix2 y)).trans (hd.trans (congrArg _ hy.symm))

theorem final14 : (dats m 0 c).arrAt 14 cfg0.N
    = val_main_v95 (F := Ideal) (aX m c) (aS m c) (aP m c) (aWg m c) (aWp m c) (aG m c) (aB m c) (aU m c) := by
  refine (dats m 0 c).arrAt_eq_of_covers 14 _ (by decide +kernel) fun t hf y => ?_
  have hy : (win0_14.blk t).view.emb y = ix2 (rowOf t (y 0)) (y 1) := by blk_ext [idx t]
  have hd := dpre_at (Wg := aWg m c) (Wp := aWp m c) (G := aG m c) (B := aB m c) (row_at m c t (y 0)) (y 1)
  rw [after0_14]
  by_cases h0 : t.val % 8 = 0
  · rw [outsAt0_A m c t h0]
    frame_out
    rw [blk3, blk4, blk5, blk6]
    exact (congrArg _ (eq_ix2 y)).trans (hd.trans (congrArg _ hy.symm))
  · rw [outsAt0_B m c t h0]
    frame_out
    rw [blk3, blk4, blk5, blk6]
    exact (congrArg _ (eq_ix2 y)).trans (hd.trans (congrArg _ hy.symm))

/-- The eight blocks' sums are one sum over the rows. -/
theorem sum_rows (f : Fin 4096 → EReal) : ∑ t : Fin cfg0.N, ∑ r : Fin 512, f (rowOf t r) = ∑ R : Fin 4096, f R :=
  Fin.sum_mul_add_congr fun _ _ _ => rfl

theorem final9 : (dats m 0 c).arrAt 9 cfg0.N
    = val_main_v64 (F := Ideal) (aX m c) (aS m c) (aP m c) (aWg m c) (aWp m c) (aG m c) (aB m c) (aU m c) := by
  refine (dats m 0 c).arrAt_eq_of_after_last 9 t0_7 (by decide +kernel) _ fun j => ?_
  blk_simp
  rw [after0_9]
  rw [Pipeline.eq_sum_fin_of_reset_step_apply_last (fun n h => (outsAt0 m c n h).2.1) 8 (fun _ => 0)
    (fun t j => ∑ r : Fin 512, val_main_v29 (F := Ideal) (aX m c) (aS m c) (aG m c) (aB m c) (ix2 (rowOf t r) (j 0))
      * val_main_v62 (F := Ideal) (aX m c) (aS m c) (aP m c) (aWg m c) (aWp m c) (aG m c) (aB m c) (aU m c) (ix2 (rowOf t r) (j 1)))
    (fun t h j => by
      rw [outsAt0_A m c t h]; frame_out; rw [blk3, blk4, blk5, blk6]
      obtain ⟨a, b, rfl⟩ := exists_ix2 j
      refine (dwg_add (row_at m c t) _ a b).trans (congrArg (fun z : EReal => z + _) ?_)
      pointwise [k0_pay5])
    (fun t h j => by
      rw [outsAt0_B m c t h]; frame_out; rw [blk3, blk4, blk5, blk6]
      obtain ⟨a, b, rfl⟩ := exists_ix2 j
      exact dwg_add (row_at m c t) _ a b) (le_of_eq N_0) t0_7 rfl j]
  refine (zero_add (M := EReal) _).trans (Eq.trans ?_ ((dwg_ref (j 0) (j 1)).symm.trans (congrArg _ (eq_ix2 j).symm)))
  exact sum_rows fun R => val_main_v29 (F := Ideal) (aX m c) (aS m c) (aG m c) (aB m c) (ix2 R (j 0))
    * val_main_v62 (F := Ideal) (aX m c) (aS m c) (aP m c) (aWg m c) (aWp m c) (aG m c) (aB m c) (aU m c) (ix2 R (j 1))

theorem final10 : (dats m 0 c).arrAt 10 cfg0.N
    = val_main_v61 (F := Ideal) (aX m c) (aS m c) (aP m c) (aWg m c) (aWp m c) (aG m c) (aB m c) (aU m c) := by
  refine (dats m 0 c).arrAt_eq_of_after_last 10 t0_7 (by decide +kernel) _ fun j => ?_
  blk_simp
  rw [after0_10]
  rw [Pipeline.eq_sum_fin_of_reset_step_apply_last (fun n h => (outsAt0 m c n h).2.2.1) 8 (fun _ => 0)
    (fun t j => ∑ r : Fin 512, aP m c (ix2 (rowOf t r) (j 0))
      * val_main_v59 (F := Ideal) (aX m c) (aS m c) (aP m c) (aWg m c) (aWp m c) (aG m c) (aB m c) (aU m c) (ix2 (rowOf t r) (j 1)))
    (fun t h j => by
      rw [outsAt0_A m c t h]; frame_out; rw [blk3, blk4, blk5, blk6]
      obtain ⟨a, b, rfl⟩ := exists_ix2 j
      refine (dwpl_add (row_at m c t) _ a b).trans (congrArg (fun z : EReal => z + _) ?_)
      pointwise [k0_pay6])
    (fun t h j => by
      rw [outsAt0_B m c t h]; frame_out; rw [blk3, blk4, blk5, blk6]
      obtain ⟨a, b, rfl⟩ := exists_ix2 j
      exact dwpl_add (row_at m c t) _ a b) (le_of_eq N_0) t0_7 rfl j]
  refine (zero_add (M := EReal) _).trans (Eq.trans ?_ ((dwpl_ref (j 0) (j 1)).symm.trans (congrArg _ (eq_ix2 j).symm)))
  exact sum_rows fun R => aP m c (ix2 R (j 0))
    * val_main_v59 (F := Ideal) (aX m c) (aS m c) (aP m c) (aWg m c) (aWp m c) (aG m c) (aB m c) (aU m c) (ix2 R (j 1))

theorem final11 : (dats m 0 c).arrAt 11 cfg0.N
    = val_main_v71 (F := Ideal) (aX m c) (aS m c) (aP m c) (aWg m c) (aWp m c) (aG m c) (aB m c) (aU m c) := by
  refine (dats m 0 c).arrAt_eq_of_after_last 11 t0_7 (by decide +kernel) _ fun j => ?_
  blk_simp
  rw [after0_11]
  rw [Pipeline.eq_sum_fin_of_reset_step_apply_last (fun n h => (outsAt0 m c n h).2.2.2.1) 8 (fun _ => 0)
    (fun t j => ∑ r : Fin 512, val_main_v25 (F := Ideal) (aX m c) (aS m c) (ix2 (rowOf t r) (j 1))
      * val_main_v66 (F := Ideal) (aX m c) (aS m c) (aP m c) (aWg m c) (aWp m c) (aG m c) (aB m c) (aU m c) (ix2 (rowOf t r) (j 1)))
    (fun t h j => by
      rw [outsAt0_A m c t h]; frame_out; rw [blk3, blk4, blk5, blk6]
      obtain ⟨a, b, rfl⟩ := exists_ix2 j
      refine (dg_add (row_at m c t) _ a b).trans (congrArg (fun z : EReal => z + _) ?_)
      pointwise [k0_pay7])
    (fun t h j => by
      rw [outsAt0_B m c t h]; frame_out; rw [blk3, blk4, blk5, blk6]
      obtain ⟨a, b, rfl⟩ := exists_ix2 j
      exact dg_add (row_at m c t) _ a b) (le_of_eq N_0) t0_7 rfl j]
  refine (zero_add (M := EReal) _).trans (Eq.trans ?_ ((dg_ref (j 0) (j 1)).symm.trans (congrArg _ (eq_ix2 j).symm)))
  exact sum_rows fun R => val_main_v25 (F := Ideal) (aX m c) (aS m c) (ix2 R (j 1))
    * val_main_v66 (F := Ideal) (aX m c) (aS m c) (aP m c) (aWg m c) (aWp m c) (aG m c) (aB m c) (aU m c) (ix2 R (j 1))

theorem final12 : (dats m 0 c).arrAt 12 cfg0.N
    = val_main_v68 (F := Ideal) (aX m c) (aS m c) (aP m c) (aWg m c) (aWp m c) (aG m c) (aB m c) (aU m c) := by
  refine (dats m 0 c).arrAt_eq_of_after_last 12 t0_7 (by decide +kernel) _ fun j => ?_
  blk_simp
  rw [after0_12]
  rw [Pipeline.eq_sum_fin_of_reset_step_apply_last (fun n h => (outsAt0 m c n h).2.2.2.2.1) 8 (fun _ => 0)
    (fun t j => ∑ r : Fin 512, val_main_v66 (F := Ideal) (aX m c) (aS m c) (aP m c) (aWg m c) (aWp m c) (aG m c) (aB m c) (aU m c) (ix2 (rowOf t r) (j 1)))
    (fun t h j => by
      rw [outsAt0_A m c t h]; frame_out; rw [blk3, blk4, blk5, blk6]
      obtain ⟨a, b, rfl⟩ := exists_ix2 j
      refine (db_add (row_at m c t) _ a b).trans (congrArg (fun z : EReal => z + _) ?_)
      pointwise [k0_pay8])
    (fun t h j => by
      rw [outsAt0_B m c t h]; frame_out; rw [blk3, blk4, blk5, blk6]
      obtain ⟨a, b, rfl⟩ := exists_ix2 j
      exact db_add (row_at m c t) _ a b) (le_of_eq N_0) t0_7 rfl j]
  refine (zero_add (M := EReal) _).trans (Eq.trans ?_ ((db_ref (j 0) (j 1)).symm.trans (congrArg _ (eq_ix2 j).symm)))
  exact sum_rows fun R => val_main_v66 (F := Ideal) (aX m c) (aS m c) (aP m c) (aWg m c) (aWp m c) (aG m c) (aB m c) (aU m c) (ix2 R (j 1))

theorem final13 : (dats m 0 c).arrAt 13 cfg0.N
    = val_main_v94 (F := Ideal) (aX m c) (aS m c) (aP m c) (aWg m c) (aWp m c) (aG m c) (aB m c) (aU m c) := by
  refine (dats m 0 c).arrAt_eq_of_after_last 13 t0_7 (by decide +kernel) _ fun j => ?_
  blk_simp
  rw [after0_13]
  rw [Pipeline.eq_sum_fin_of_reset_step_apply_last (fun n h => (outsAt0 m c n h).2.2.2.2.2.1) 8 (fun _ => 0)
    (fun t j => (∑ r : Fin 512, sq (aX m c) (aS m c) (aP m c) (aWg m c) (aWp m c) (aG m c) (aB m c) (aU m c) (rowOf t r)) * ((1 / 2048 : ℝ) : EReal))
    (fun t h j => by
      rw [outsAt0_A m c t h]; frame_out; rw [blk3, blk4, blk5, blk6]
      obtain ⟨a, b, rfl⟩ := exists_ix2 j
      refine (loss_add (row_at m c t) _ a b).trans (congrArg (fun z : EReal => z + _) ?_)
      pointwise [k0_pay9])
    (fun t h j => by
      rw [outsAt0_B m c t h]; frame_out; rw [blk3, blk4, blk5, blk6]
      obtain ⟨a, b, rfl⟩ := exists_ix2 j
      exact loss_add (row_at m c t) _ a b) (le_of_eq N_0) t0_7 rfl j]
  refine (zero_add (M := EReal) _).trans (Eq.trans ?_ ((loss_ref (j 0) (j 1)).symm.trans (congrArg _ (eq_ix2 j).symm)))
  rw [← sum_rows (sq (aX m c) (aS m c) (aP m c) (aWg m c) (aWp m c) (aG m c) (aB m c) (aU m c)), mul_comm, mul_sum_real _ _ (by norm_num)]
  exact Finset.sum_congr rfl fun _ _ => mul_comm _ _

end Cert.KernelIdeal.RefValue

namespace Cert.Proof

/-- At `Ideal` the kernel's seven result arrays and the reference's agree. -/
theorem algebraic : Cert.algebraic_KernelIdeal_ReferenceIdeal := by
  pair_intro
  · run_from Cert.KernelIdeal.Value.run_blocks m g
  · run_from Cert.ReferenceIdeal.Value.run m' g'
    all_goals
      obtain ⟨h0, h1, h2, h3, h4, h5, h6, h7⟩ := hagree c
    · rw [Cert.KernelIdeal.RefValue.final8 m c, Cert.ReferenceIdeal.Read.val_main_v93_eq m' c, h0, h1, h2, h3, h4, h5, h6, h7]
    · rw [Cert.KernelIdeal.RefValue.final9 m c, Cert.ReferenceIdeal.Read.val_main_v64_eq m' c, h0, h1, h2, h3, h4, h5, h6, h7]
    · rw [Cert.KernelIdeal.RefValue.final10 m c, Cert.ReferenceIdeal.Read.val_main_v61_eq m' c, h0, h1, h2, h3, h4, h5, h6, h7]
    · rw [Cert.KernelIdeal.RefValue.final11 m c, Cert.ReferenceIdeal.Read.val_main_v71_eq m' c, h0, h1, h2, h3, h4, h5, h6, h7]
    · rw [Cert.KernelIdeal.RefValue.final12 m c, Cert.ReferenceIdeal.Read.val_main_v68_eq m' c, h0, h1, h2, h3, h4, h5, h6, h7]
    · rw [Cert.KernelIdeal.RefValue.final13 m c, Cert.ReferenceIdeal.Read.val_main_v94_eq m' c, h0, h1, h2, h3, h4, h5, h6, h7]
    · rw [Cert.KernelIdeal.RefValue.final14 m c, Cert.ReferenceIdeal.Read.val_main_v95_eq m' c, h0, h1, h2, h3, h4, h5, h6, h7]

end Cert.Proof
end
-- ==== Proof.OddDwValue.lean ====
/- `OddDw`: the gradient of a weight, 1024 x 2048 by a depth of 4096 in 4 pieces. The kernel's result array after its 4 grid points is the reference's
   product. -/
module

public import proofs.«01_k».proof.Defs
public import proofs.«01_k».proof.Proof.Gen.OddDwIdeal.Value
public import proofs.«01_k».proof.Proof.Gen.OddDwRefIdeal.Run
public import proofs.«01_k».proof.Proof.Gen.OddDwRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.OddDwIdeal.RefValue

open Cert.OddDwIdeal Cert.OddDwIdeal.Gen Cert.OddDwIdeal.Value Cert.OddDwRefIdeal.Read

variable (m : (ℓ : Loc nD τ sig) → Buf (Elt Ideal) ℓ) (c : Dev nD)

abbrev aA : Vec Ideal S4096x1024 .bf16 := m ((c : Thread nD τ).loc main_arg0)
abbrev aB : Vec Ideal S4096x2048 .bf16 := m ((c : Thread nD τ).loc main_arg1)

/-- Every window's block index at every point (decided). -/
theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

/-- The array's row, column and depth of a block's. -/
abbrev rowOf (t : Fin cfg0.N) (a : Fin 1024) : Fin 1024 :=
  ⟨(t.val / 4) * 1024 + a.val, by have := t.isLt; have hN : cfg0.N = 4 := N_0; omega⟩
abbrev colOf (t : Fin cfg0.N) (b : Fin 2048) : Fin 2048 :=
  ⟨(t.val / 4 % 1) * 2048 + b.val, by have := t.isLt; have hN : cfg0.N = 4 := N_0; omega⟩
abbrev depOf (t : Fin cfg0.N) (k : Fin 1024) : Fin 4096 :=
  ⟨(t.val % 4) * 1024 + k.val, by have := t.isLt; have hN : cfg0.N = 4 := N_0; omega⟩

theorem a_at (t : Fin cfg0.N) (a : Fin 1024) (k : Fin 1024) : iblk m c 0 t (ix2 k a) = aA m c (ix2 (depOf t k) (rowOf t a)) := by
  blk_ext [iblk, V, idx t]
theorem b_at (t : Fin cfg0.N) (k : Fin 1024) (b : Fin 2048) : iblk m c 1 t (ix2 k b) = aB m c (ix2 (depOf t k) (colOf t b)) := by
  blk_ext [iblk, V, idx t]

/-- The reference's result at an index. -/
theorem ref_at (A : Vec Ideal S4096x1024 .bf16) (B : Vec Ideal S4096x2048 .bf16) (r : Fin 1024) (q : Fin 2048) :
    val_main_v5 (F := Ideal) A B (ix2 r q) = (∑ k : Fin 4096, A (ix2 k r) * B (ix2 k q)) := by
  pointwise [val_main_cst, val_main_v0, val_main_v1, val_main_v2, val_main_v3, val_main_v4, val_main_v5]
  try simp only [mul_comm, add_comm]

/-- What point `t` adds to its block. -/
def piece (t : Fin cfg0.N) (a : Fin 1024) (b : Fin 2048) : EReal :=
  ∑ k : Fin 1024, aA m c (ix2 (depOf t k) (rowOf t a)) * aB m c (ix2 (depOf t k) (colOf t b))

abbrev term (t : Fin cfg0.N) (j : S1024x2048.Idx) : EReal := piece m c t (j 0) (j 1)

theorem first_at (t : Fin cfg0.N) (h : t.val % 4 = 0) (j : S1024x2048.Idx) : k0_pay1 (iblk m c 0 t) (iblk m c 1 t) j = 0 + term m c t j := by
  obtain ⟨a, b, rfl⟩ : ∃ a b, j = ix2 a b := ⟨_, _, eq_ix2 j⟩
  pointwise [k0_pay1]
  simp only [a_at, b_at, term, piece]
  try rw [zero_add]
  try rw [add_comm]
  rfl

theorem next_at (t : Fin cfg0.N) (h : ¬t.val % 4 = 0) (acc : Vec Ideal S1024x2048 .f32) (j : S1024x2048.Idx) :
    k0_pay2 (iblk m c 0 t) (iblk m c 1 t) acc j = acc j + term m c t j := by
  obtain ⟨a, b, rfl⟩ : ∃ a b, j = ix2 a b := ⟨_, _, eq_ix2 j⟩
  pointwise [k0_pay1, k0_pay2]
  simp only [a_at, b_at, term, piece]
  rfl

theorem flush_at : ∀ t : Fin cfg0.N, (cfg0.win 2).flush t = true → t.val % 4 = 3 :=
  (by decide +kernel : ∀ t : Fin grid0.N, _)

/-- The pieces of one block's run add up to the whole depth. -/
theorem run_sum (t : Fin cfg0.N) (j : S1024x2048.Idx) (h : ∀ s : Fin 4, 4 * (t.val / 4) + s.val < cfg0.N) :
    ∑ s : Fin 4, term m c ⟨4 * (t.val / 4) + s.val, h s⟩ j
      = val_main_v5 (F := Ideal) (aA m c) (aB m c) (ix2 (rowOf t (j 0)) (colOf t (j 1))) := by
  have hr : ∀ s a, rowOf ⟨4 * (t.val / 4) + s.val, h s⟩ a = rowOf t a := fun s a => Fin.ext (by
    show (4 * (t.val / 4) + s.val) / 4 * 1024 + a.val = t.val / 4 * 1024 + a.val; omega)
  have hc : ∀ s b, colOf ⟨4 * (t.val / 4) + s.val, h s⟩ b = colOf t b := fun s b => Fin.ext (by
    show (4 * (t.val / 4) + s.val) / 4 % 1 * 2048 + b.val = t.val / 4 % 1 * 2048 + b.val; omega)
  obtain ⟨a, b, rfl⟩ : ∃ a b, j = ix2 a b := ⟨_, _, eq_ix2 j⟩
  show ∑ s : Fin 4, piece m c _ a b = val_main_v5 (F := Ideal) (aA m c) (aB m c) (ix2 (rowOf t a) (colOf t b))
  rw [ref_at]
  simp only [piece]
  exact Fin.sum_mul_add_congr fun s k hl => by
    have hd : depOf ⟨4 * (t.val / 4) + s.val, h s⟩ k = ⟨s.val * 1024 + k.val, hl⟩ := Fin.ext (by
      show (4 * (t.val / 4) + s.val) % 4 * 1024 + k.val = s.val * 1024 + k.val; omega)
    rw [hr, hc, hd]

theorem final : (dats m 0 c).arrAt 2 cfg0.N = val_main_v5 (F := Ideal) (aA m c) (aB m c) := by
  refine (dats m 0 c).arrAt_eq_of_covers 2 _ (by decide +kernel) fun t hf y => ?_
  have hy : (win0_2.blk t).view.emb y = ix2 (rowOf t (y 0)) (colOf t (y 1)) := by blk_ext [idx t]
  rw [after0_2]
  have hs := Pipeline.eq_sum_fin_of_reset_step_apply_of_flush (fun n h => outsAt0 m c n h) 4 (fun _ => (0 : EReal)) (term m c)
    (fun t h j => by
      show outsAt0 m c t.val t.isLt j = _
      rw [outsAt0_A m c t h (by have := t.isLt; have hN : cfg0.N = 4 := N_0; omega)]; frame_out
      exact first_at m c t h j)
    (fun t h j => by
      show outsAt0 m c t.val t.isLt j = _
      rw [outsAt0_B m c t h (by have := t.isLt; have hN : cfg0.N = 4 := N_0; omega)]; frame_out
      exact next_at m c t h _ j) t (flush_at t hf) y
  refine hs.trans ((zero_add (M := EReal) _).trans ((run_sum m c t y _).trans (congrArg _ hy.symm)))

end Cert.OddDwIdeal.RefValue

namespace Cert.Proof.OddDw

/-- At `Ideal` the kernel's result array and the reference's agree. -/
theorem algebraic : Cert.algebraic_OddDwIdeal_OddDwRefIdeal := by
  pair_intro
  · run_from Cert.OddDwIdeal.Value.run_blocks m g
  · run_from Cert.OddDwRefIdeal.Value.run m' g'
    rw [Cert.OddDwIdeal.RefValue.final m c]
    exact Cert.OddDwRefIdeal.Read.val_main_v5_eq (F := Ideal) _ _

end Cert.Proof.OddDw

end
-- ==== Proof.OddDxFirstValue.lean ====
/- `OddDxFirst`: the gradient of a projection's input, 4096 x 1024 by a depth of 2048 in 2 pieces. The kernel's result array after its 8 grid points is the reference's
   product with the scaled array added. -/
module

public import proofs.«01_k».proof.Defs
public import proofs.«01_k».proof.Proof.Gen.OddDxFirstIdeal.Value
public import proofs.«01_k».proof.Proof.Gen.OddDxFirstRefIdeal.Run
public import proofs.«01_k».proof.Proof.Gen.OddDxFirstRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.OddDxFirstIdeal.RefValue

open Cert.OddDxFirstIdeal Cert.OddDxFirstIdeal.Gen Cert.OddDxFirstIdeal.Value Cert.OddDxFirstRefIdeal.Read

variable (m : (ℓ : Loc nD τ sig) → Buf (Elt Ideal) ℓ) (c : Dev nD)

abbrev aA : Vec Ideal S4096x2048 .bf16 := m ((c : Thread nD τ).loc main_arg0)
abbrev aB : Vec Ideal S1024x2048 .bf16 := m ((c : Thread nD τ).loc main_arg1)
abbrev aD : Vec Ideal S4096x1024 .f32 := m ((c : Thread nD τ).loc main_arg2)

/-- Every window's block index at every point (decided). -/
theorem idx : ∀ t : Fin cfg0.N, win0_0.index t = ![t.val / 2, t.val % 2] ∧ win0_1.index t = ![t.val / 2 % 1, t.val % 2]
    ∧ win0_2.index t = ![t.val / 2, t.val / 2 % 1]
    ∧ win0_3.index t = ![t.val / 2, t.val / 2 % 1] :=
  (by decide +kernel : ∀ t : Fin grid0.N, _)

/-- The array's row, column and depth of a block's. -/
abbrev rowOf (t : Fin cfg0.N) (a : Fin 1024) : Fin 4096 :=
  ⟨(t.val / 2) * 1024 + a.val, by have := t.isLt; have hN : cfg0.N = 8 := N_0; omega⟩
abbrev colOf (t : Fin cfg0.N) (b : Fin 1024) : Fin 1024 :=
  ⟨(t.val / 2 % 1) * 1024 + b.val, by have := t.isLt; have hN : cfg0.N = 8 := N_0; omega⟩
abbrev depOf (t : Fin cfg0.N) (k : Fin 1024) : Fin 2048 :=
  ⟨(t.val % 2) * 1024 + k.val, by have := t.isLt; have hN : cfg0.N = 8 := N_0; omega⟩

theorem a_at (t : Fin cfg0.N) (a : Fin 1024) (k : Fin 1024) : iblk m c 0 t (ix2 a k) = aA m c (ix2 (rowOf t a) (depOf t k)) := by
  blk_ext [iblk, V, idx t]
theorem b_at (t : Fin cfg0.N) (k : Fin 1024) (b : Fin 1024) : iblk m c 1 t (ix2 b k) = aB m c (ix2 (colOf t b) (depOf t k)) := by
  blk_ext [iblk, V, idx t]
theorem d_at (t : Fin cfg0.N) (a : Fin 1024) (b : Fin 1024) : iblk m c 2 t (ix2 a b) = aD m c (ix2 (rowOf t a) (colOf t b)) := by
  blk_ext [iblk, V, idx t]

/-- The reference's result at an index. -/
theorem ref_at (A : Vec Ideal S4096x2048 .bf16) (B : Vec Ideal S1024x2048 .bf16) (D : Vec Ideal S4096x1024 .f32) (r : Fin 4096) (q : Fin 1024) :
    val_main_v9 (F := Ideal) A B D (ix2 r q) = (∑ k : Fin 2048, A (ix2 r k) * B (ix2 q k)) + Ideal.ofBits .f32 0x3FB504F3#32 * D (ix2 r q) := by
  pointwise [val_main_cst, val_main_v0, val_main_cst_0, val_main_v1, val_main_v2, val_main_v3, val_main_v4, val_main_v5, val_main_v6, val_main_cst_1, val_main_v7, val_main_v8, val_main_v9]
  try simp only [mul_comm, add_comm]

/-- What point `t` adds to its block. -/
def piece (t : Fin cfg0.N) (a : Fin 1024) (b : Fin 1024) : EReal :=
  (if t.val % 2 = 0 then Ideal.ofBits .f32 0x3FB504F3#32 * aD m c (ix2 (rowOf t a) (colOf t b)) else 0) + ∑ k : Fin 1024, aA m c (ix2 (rowOf t a) (depOf t k)) * aB m c (ix2 (colOf t b) (depOf t k))

abbrev term (t : Fin cfg0.N) (j : S1024x1024.Idx) : EReal := piece m c t (j 0) (j 1)

theorem first_at (t : Fin cfg0.N) (h : t.val % 2 = 0) (j : S1024x1024.Idx) : k0_pay2 (iblk m c 0 t) (iblk m c 1 t) (iblk m c 2 t) j = 0 + term m c t j := by
  obtain ⟨a, b, rfl⟩ : ∃ a b, j = ix2 a b := ⟨_, _, eq_ix2 j⟩
  pointwise [k0_pay1, k0_pay2]
  simp only [a_at, b_at, d_at, term, piece, h, if_true]
  try rw [zero_add]
  try rw [add_comm]
  rfl

theorem next_at (t : Fin cfg0.N) (h : ¬t.val % 2 = 0) (acc : Vec Ideal S1024x1024 .f32) (j : S1024x1024.Idx) :
    k0_pay3 (iblk m c 0 t) (iblk m c 1 t) acc j = acc j + term m c t j := by
  obtain ⟨a, b, rfl⟩ : ∃ a b, j = ix2 a b := ⟨_, _, eq_ix2 j⟩
  pointwise [k0_pay1, k0_pay3]
  simp only [a_at, b_at, term, piece, h, if_false, zero_add]
  rfl

theorem flush_at : ∀ t : Fin cfg0.N, (cfg0.win 3).flush t = true → t.val % 2 = 1 :=
  (by decide +kernel : ∀ t : Fin grid0.N, _)

/-- The pieces of one block's run add up to the whole depth. -/
theorem run_sum (t : Fin cfg0.N) (j : S1024x1024.Idx) (h : ∀ s : Fin 2, 2 * (t.val / 2) + s.val < cfg0.N) :
    ∑ s : Fin 2, term m c ⟨2 * (t.val / 2) + s.val, h s⟩ j
      = val_main_v9 (F := Ideal) (aA m c) (aB m c) (aD m c) (ix2 (rowOf t (j 0)) (colOf t (j 1))) := by
  have hr : ∀ s a, rowOf ⟨2 * (t.val / 2) + s.val, h s⟩ a = rowOf t a := fun s a => Fin.ext (by
    show (2 * (t.val / 2) + s.val) / 2 * 1024 + a.val = t.val / 2 * 1024 + a.val; omega)
  have hc : ∀ s b, colOf ⟨2 * (t.val / 2) + s.val, h s⟩ b = colOf t b := fun s b => Fin.ext (by
    show (2 * (t.val / 2) + s.val) / 2 % 1 * 1024 + b.val = t.val / 2 % 1 * 1024 + b.val; omega)
  obtain ⟨a, b, rfl⟩ : ∃ a b, j = ix2 a b := ⟨_, _, eq_ix2 j⟩
  show ∑ s : Fin 2, piece m c _ a b = val_main_v9 (F := Ideal) (aA m c) (aB m c) (aD m c) (ix2 (rowOf t a) (colOf t b))
  rw [ref_at]
  simp only [piece]
  rw [Finset.sum_add_distrib, add_comm]
  refine congrArg₂ (· + ·) ?_ ?_
  · exact Fin.sum_mul_add_congr fun s k hl => by
      have hd : depOf ⟨2 * (t.val / 2) + s.val, h s⟩ k = ⟨s.val * 1024 + k.val, hl⟩ := Fin.ext (by
        show (2 * (t.val / 2) + s.val) % 2 * 1024 + k.val = s.val * 1024 + k.val; omega)
      rw [hr, hc, hd]
  · rw [Finset.sum_eq_single (0 : Fin 2)]
    · rw [hr, hc]
      exact if_pos (by show (2 * (t.val / 2) + 0) % 2 = 0; omega)
    · intro s _ hs
      have : s.val ≠ 0 := fun e => hs (Fin.ext e)
      exact if_neg (by show ¬(2 * (t.val / 2) + s.val) % 2 = 0; omega)
    · exact fun e => absurd (Finset.mem_univ _) e

theorem final : (dats m 0 c).arrAt 3 cfg0.N = val_main_v9 (F := Ideal) (aA m c) (aB m c) (aD m c) := by
  refine (dats m 0 c).arrAt_eq_of_covers 3 _ (by decide +kernel) fun t hf y => ?_
  have hy : (win0_3.blk t).view.emb y = ix2 (rowOf t (y 0)) (colOf t (y 1)) := by blk_ext [idx t]
  rw [after0_3]
  have hs := Pipeline.eq_sum_fin_of_reset_step_apply_of_flush (fun n h => outsAt0 m c n h) 2 (fun _ => (0 : EReal)) (term m c)
    (fun t h j => by
      show outsAt0 m c t.val t.isLt j = _
      rw [outsAt0_A m c t h (by have := t.isLt; have hN : cfg0.N = 8 := N_0; omega)]; frame_out
      exact first_at m c t h j)
    (fun t h j => by
      show outsAt0 m c t.val t.isLt j = _
      rw [outsAt0_B m c t h (by have := t.isLt; have hN : cfg0.N = 8 := N_0; omega)]; frame_out
      exact next_at m c t h _ j) t (flush_at t hf) y
  refine hs.trans ((zero_add (M := EReal) _).trans ((run_sum m c t y _).trans (congrArg _ hy.symm)))

end Cert.OddDxFirstIdeal.RefValue

namespace Cert.Proof.OddDxFirst

/-- At `Ideal` the kernel's result array and the reference's agree. -/
theorem algebraic : Cert.algebraic_OddDxFirstIdeal_OddDxFirstRefIdeal := by
  pair_intro
  · run_from Cert.OddDxFirstIdeal.Value.run_blocks m g
  · run_from Cert.OddDxFirstRefIdeal.Value.run m' g'
    rw [Cert.OddDxFirstIdeal.RefValue.final m c]
    exact Cert.OddDxFirstRefIdeal.Read.val_main_v9_eq (F := Ideal) _ _ _

end Cert.Proof.OddDxFirst

end
-- ==== Proof.OddDxValue.lean ====
/- `OddDx`: the gradient of a projection's input, 4096 x 1024 by a depth of 2048 in 2 pieces. The kernel's result array after its 8 grid points is the reference's
   product with the scaled array added. -/
module

public import proofs.«01_k».proof.Defs
public import proofs.«01_k».proof.Proof.Gen.OddDxIdeal.Value
public import proofs.«01_k».proof.Proof.Gen.OddDxRefIdeal.Run
public import proofs.«01_k».proof.Proof.Gen.OddDxRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.OddDxIdeal.RefValue

open Cert.OddDxIdeal Cert.OddDxIdeal.Gen Cert.OddDxIdeal.Value Cert.OddDxRefIdeal.Read

variable (m : (ℓ : Loc nD τ sig) → Buf (Elt Ideal) ℓ) (c : Dev nD)

abbrev aA : Vec Ideal S4096x2048 .bf16 := m ((c : Thread nD τ).loc main_arg0)
abbrev aB : Vec Ideal S1024x2048 .bf16 := m ((c : Thread nD τ).loc main_arg1)
abbrev aD : Vec Ideal S4096x1024 .f32 := m ((c : Thread nD τ).loc main_arg2)

/-- Every window's block index at every point (decided). -/
theorem idx : ∀ t : Fin cfg0.N, win0_0.index t = ![t.val / 2, t.val % 2] ∧ win0_1.index t = ![t.val / 2 % 1, t.val % 2]
    ∧ win0_2.index t = ![t.val / 2, t.val / 2 % 1]
    ∧ win0_3.index t = ![t.val / 2, t.val / 2 % 1] :=
  (by decide +kernel : ∀ t : Fin grid0.N, _)

/-- The array's row, column and depth of a block's. -/
abbrev rowOf (t : Fin cfg0.N) (a : Fin 1024) : Fin 4096 :=
  ⟨(t.val / 2) * 1024 + a.val, by have := t.isLt; have hN : cfg0.N = 8 := N_0; omega⟩
abbrev colOf (t : Fin cfg0.N) (b : Fin 1024) : Fin 1024 :=
  ⟨(t.val / 2 % 1) * 1024 + b.val, by have := t.isLt; have hN : cfg0.N = 8 := N_0; omega⟩
abbrev depOf (t : Fin cfg0.N) (k : Fin 1024) : Fin 2048 :=
  ⟨(t.val % 2) * 1024 + k.val, by have := t.isLt; have hN : cfg0.N = 8 := N_0; omega⟩

theorem a_at (t : Fin cfg0.N) (a : Fin 1024) (k : Fin 1024) : iblk m c 0 t (ix2 a k) = aA m c (ix2 (rowOf t a) (depOf t k)) := by
  blk_ext [iblk, V, idx t]
theorem b_at (t : Fin cfg0.N) (k : Fin 1024) (b : Fin 1024) : iblk m c 1 t (ix2 b k) = aB m c (ix2 (colOf t b) (depOf t k)) := by
  blk_ext [iblk, V, idx t]
theorem d_at (t : Fin cfg0.N) (a : Fin 1024) (b : Fin 1024) : iblk m c 2 t (ix2 a b) = aD m c (ix2 (rowOf t a) (colOf t b)) := by
  blk_ext [iblk, V, idx t]

/-- The reference's result at an index. -/
theorem ref_at (A : Vec Ideal S4096x2048 .bf16) (B : Vec Ideal S1024x2048 .bf16) (D : Vec Ideal S4096x1024 .f32) (r : Fin 4096) (q : Fin 1024) :
    val_main_v9 (F := Ideal) A B D (ix2 r q) = (∑ k : Fin 2048, A (ix2 r k) * B (ix2 q k)) + D (ix2 r q) := by
  pointwise [val_main_cst, val_main_v0, val_main_cst_0, val_main_v1, val_main_v2, val_main_v3, val_main_v4, val_main_v5, val_main_v6, val_main_cst_1, val_main_v7, val_main_v8, val_main_v9]
  try simp only [mul_comm, add_comm]

/-- What point `t` adds to its block. -/
def piece (t : Fin cfg0.N) (a : Fin 1024) (b : Fin 1024) : EReal :=
  (if t.val % 2 = 0 then aD m c (ix2 (rowOf t a) (colOf t b)) else 0) + ∑ k : Fin 1024, aA m c (ix2 (rowOf t a) (depOf t k)) * aB m c (ix2 (colOf t b) (depOf t k))

abbrev term (t : Fin cfg0.N) (j : S1024x1024.Idx) : EReal := piece m c t (j 0) (j 1)

theorem first_at (t : Fin cfg0.N) (h : t.val % 2 = 0) (j : S1024x1024.Idx) : k0_pay2 (iblk m c 0 t) (iblk m c 1 t) (iblk m c 2 t) j = 0 + term m c t j := by
  obtain ⟨a, b, rfl⟩ : ∃ a b, j = ix2 a b := ⟨_, _, eq_ix2 j⟩
  pointwise [k0_pay1, k0_pay2]
  simp only [a_at, b_at, d_at, term, piece, h, if_true]
  try rw [zero_add]
  try rw [add_comm]
  rfl

theorem next_at (t : Fin cfg0.N) (h : ¬t.val % 2 = 0) (acc : Vec Ideal S1024x1024 .f32) (j : S1024x1024.Idx) :
    k0_pay3 (iblk m c 0 t) (iblk m c 1 t) acc j = acc j + term m c t j := by
  obtain ⟨a, b, rfl⟩ : ∃ a b, j = ix2 a b := ⟨_, _, eq_ix2 j⟩
  pointwise [k0_pay1, k0_pay3]
  simp only [a_at, b_at, term, piece, h, if_false, zero_add]
  rfl

theorem flush_at : ∀ t : Fin cfg0.N, (cfg0.win 3).flush t = true → t.val % 2 = 1 :=
  (by decide +kernel : ∀ t : Fin grid0.N, _)

/-- The pieces of one block's run add up to the whole depth. -/
theorem run_sum (t : Fin cfg0.N) (j : S1024x1024.Idx) (h : ∀ s : Fin 2, 2 * (t.val / 2) + s.val < cfg0.N) :
    ∑ s : Fin 2, term m c ⟨2 * (t.val / 2) + s.val, h s⟩ j
      = val_main_v9 (F := Ideal) (aA m c) (aB m c) (aD m c) (ix2 (rowOf t (j 0)) (colOf t (j 1))) := by
  have hr : ∀ s a, rowOf ⟨2 * (t.val / 2) + s.val, h s⟩ a = rowOf t a := fun s a => Fin.ext (by
    show (2 * (t.val / 2) + s.val) / 2 * 1024 + a.val = t.val / 2 * 1024 + a.val; omega)
  have hc : ∀ s b, colOf ⟨2 * (t.val / 2) + s.val, h s⟩ b = colOf t b := fun s b => Fin.ext (by
    show (2 * (t.val / 2) + s.val) / 2 % 1 * 1024 + b.val = t.val / 2 % 1 * 1024 + b.val; omega)
  obtain ⟨a, b, rfl⟩ : ∃ a b, j = ix2 a b := ⟨_, _, eq_ix2 j⟩
  show ∑ s : Fin 2, piece m c _ a b = val_main_v9 (F := Ideal) (aA m c) (aB m c) (aD m c) (ix2 (rowOf t a) (colOf t b))
  rw [ref_at]
  simp only [piece]
  rw [Finset.sum_add_distrib, add_comm]
  refine congrArg₂ (· + ·) ?_ ?_
  · exact Fin.sum_mul_add_congr fun s k hl => by
      have hd : depOf ⟨2 * (t.val / 2) + s.val, h s⟩ k = ⟨s.val * 1024 + k.val, hl⟩ := Fin.ext (by
        show (2 * (t.val / 2) + s.val) % 2 * 1024 + k.val = s.val * 1024 + k.val; omega)
      rw [hr, hc, hd]
  · rw [Finset.sum_eq_single (0 : Fin 2)]
    · rw [hr, hc]
      exact if_pos (by show (2 * (t.val / 2) + 0) % 2 = 0; omega)
    · intro s _ hs
      have : s.val ≠ 0 := fun e => hs (Fin.ext e)
      exact if_neg (by show ¬(2 * (t.val / 2) + s.val) % 2 = 0; omega)
    · exact fun e => absurd (Finset.mem_univ _) e

theorem final : (dats m 0 c).arrAt 3 cfg0.N = val_main_v9 (F := Ideal) (aA m c) (aB m c) (aD m c) := by
  refine (dats m 0 c).arrAt_eq_of_covers 3 _ (by decide +kernel) fun t hf y => ?_
  have hy : (win0_3.blk t).view.emb y = ix2 (rowOf t (y 0)) (colOf t (y 1)) := by blk_ext [idx t]
  rw [after0_3]
  have hs := Pipeline.eq_sum_fin_of_reset_step_apply_of_flush (fun n h => outsAt0 m c n h) 2 (fun _ => (0 : EReal)) (term m c)
    (fun t h j => by
      show outsAt0 m c t.val t.isLt j = _
      rw [outsAt0_A m c t h (by have := t.isLt; have hN : cfg0.N = 8 := N_0; omega)]; frame_out
      exact first_at m c t h j)
    (fun t h j => by
      show outsAt0 m c t.val t.isLt j = _
      rw [outsAt0_B m c t h (by have := t.isLt; have hN : cfg0.N = 8 := N_0; omega)]; frame_out
      exact next_at m c t h _ j) t (flush_at t hf) y
  refine hs.trans ((zero_add (M := EReal) _).trans ((run_sum m c t y _).trans (congrArg _ hy.symm)))

end Cert.OddDxIdeal.RefValue

namespace Cert.Proof.OddDx

/-- At `Ideal` the kernel's result array and the reference's agree. -/
theorem algebraic : Cert.algebraic_OddDxIdeal_OddDxRefIdeal := by
  pair_intro
  · run_from Cert.OddDxIdeal.Value.run_blocks m g
  · run_from Cert.OddDxRefIdeal.Value.run m' g'
    rw [Cert.OddDxIdeal.RefValue.final m c]
    exact Cert.OddDxRefIdeal.Read.val_main_v9_eq (F := Ideal) _ _ _

end Cert.Proof.OddDx

end
-- ==== Proof.OddOutDxValue.lean ====
/- `OddOutDx`: the gradient of a projection's input, 4096 x 2048 by a depth of 1024 in one piece. The kernel's result array after its 4 grid points is the reference's
   product. -/
module

public import proofs.«01_k».proof.Defs
public import proofs.«01_k».proof.Proof.Gen.OddOutDxIdeal.Value
public import proofs.«01_k».proof.Proof.Gen.OddOutDxRefIdeal.Run
public import proofs.«01_k».proof.Proof.Gen.OddOutDxRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.OddOutDxIdeal.RefValue

open Cert.OddOutDxIdeal Cert.OddOutDxIdeal.Gen Cert.OddOutDxIdeal.Value Cert.OddOutDxRefIdeal.Read

variable (m : (ℓ : Loc nD τ sig) → Buf (Elt Ideal) ℓ) (c : Dev nD)

abbrev aA : Vec Ideal S4096x1024 .bf16 := m ((c : Thread nD τ).loc main_arg0)
abbrev aB : Vec Ideal S2048x1024 .bf16 := m ((c : Thread nD τ).loc main_arg1)

/-- Every window's block index at every point (decided). -/
theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

/-- The array's row, column and depth of a block's. -/
abbrev rowOf (t : Fin cfg0.N) (a : Fin 1024) : Fin 4096 :=
  ⟨(t.val / 1) * 1024 + a.val, by have := t.isLt; have hN : cfg0.N = 4 := N_0; omega⟩
abbrev colOf (t : Fin cfg0.N) (b : Fin 2048) : Fin 2048 :=
  ⟨(t.val / 1 % 1) * 2048 + b.val, by have := t.isLt; have hN : cfg0.N = 4 := N_0; omega⟩
abbrev depOf (t : Fin cfg0.N) (k : Fin 1024) : Fin 1024 :=
  ⟨(t.val % 1) * 1024 + k.val, by have := t.isLt; have hN : cfg0.N = 4 := N_0; omega⟩

theorem a_at (t : Fin cfg0.N) (a : Fin 1024) (k : Fin 1024) : iblk m c 0 t (ix2 a k) = aA m c (ix2 (rowOf t a) (depOf t k)) := by
  blk_ext [iblk, V, idx t]
theorem b_at (t : Fin cfg0.N) (k : Fin 1024) (b : Fin 2048) : iblk m c 1 t (ix2 b k) = aB m c (ix2 (colOf t b) (depOf t k)) := by
  blk_ext [iblk, V, idx t]

/-- The reference's result at an index. -/
theorem ref_at (A : Vec Ideal S4096x1024 .bf16) (B : Vec Ideal S2048x1024 .bf16) (r : Fin 4096) (q : Fin 2048) :
    val_main_v4 (F := Ideal) A B (ix2 r q) = (∑ k : Fin 1024, A (ix2 r k) * B (ix2 q k)) := by
  pointwise [val_main_cst, val_main_v0, val_main_v1, val_main_v2, val_main_v3, val_main_v4]
  try simp only [mul_comm, add_comm]

theorem pay_at (t : Fin cfg0.N) (a : Fin 1024) (b : Fin 2048) :
    k0_pay1 (iblk m c 0 t) (iblk m c 1 t) (ix2 a b) = val_main_v4 (F := Ideal) (aA m c) (aB m c) (ix2 (rowOf t a) (colOf t b)) := by
  rw [ref_at]
  pointwise [k0_pay1]
  simp only [a_at, b_at]
  have hd : ∀ k : Fin 1024, depOf t k = ⟨k.val, by omega⟩ := fun k => Fin.ext (by simp [depOf, Nat.mod_one])
  simp only [hd]

theorem final : (dats m 0 c).arrAt 2 cfg0.N = val_main_v4 (F := Ideal) (aA m c) (aB m c) := by
  refine (dats m 0 c).arrAt_eq_of_covers 2 _ (by decide +kernel) fun t hf y => ?_
  have hy : (win0_2.blk t).view.emb y = ix2 (rowOf t (y 0)) (colOf t (y 1)) := by blk_ext [idx t]
  have hp := pay_at m c t (y 0) (y 1)
  rw [after0_2]
  frame_out
  exact (congrArg _ (eq_ix2 y)).trans (hp.trans (congrArg _ hy.symm))

end Cert.OddOutDxIdeal.RefValue

namespace Cert.Proof.OddOutDx

/-- At `Ideal` the kernel's result array and the reference's agree. -/
theorem algebraic : Cert.algebraic_OddOutDxIdeal_OddOutDxRefIdeal := by
  pair_intro
  · run_from Cert.OddOutDxIdeal.Value.run_blocks m g
  · run_from Cert.OddOutDxRefIdeal.Value.run m' g'
    rw [Cert.OddOutDxIdeal.RefValue.final m c]
    exact Cert.OddOutDxRefIdeal.Read.val_main_v4_eq (F := Ideal) _ _

end Cert.Proof.OddOutDx

end
-- ==== Proof.OddOutDwValue.lean ====
/- `OddOutDw`: the gradient of a weight, 2048 x 1024 by a depth of 4096 in 4 pieces. The kernel's result array after its 8 grid points is the reference's
   product. -/
module

public import proofs.«01_k».proof.Defs
public import proofs.«01_k».proof.Proof.Gen.OddOutDwIdeal.Value
public import proofs.«01_k».proof.Proof.Gen.OddOutDwRefIdeal.Run
public import proofs.«01_k».proof.Proof.Gen.OddOutDwRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.OddOutDwIdeal.RefValue

open Cert.OddOutDwIdeal Cert.OddOutDwIdeal.Gen Cert.OddOutDwIdeal.Value Cert.OddOutDwRefIdeal.Read

variable (m : (ℓ : Loc nD τ sig) → Buf (Elt Ideal) ℓ) (c : Dev nD)

abbrev aA : Vec Ideal S4096x2048 .bf16 := m ((c : Thread nD τ).loc main_arg0)
abbrev aB : Vec Ideal S4096x1024 .bf16 := m ((c : Thread nD τ).loc main_arg1)

/-- Every window's block index at every point (decided). -/
theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

/-- The array's row, column and depth of a block's. -/
abbrev rowOf (t : Fin cfg0.N) (a : Fin 1024) : Fin 2048 :=
  ⟨(t.val / 4) * 1024 + a.val, by have := t.isLt; have hN : cfg0.N = 8 := N_0; omega⟩
abbrev colOf (t : Fin cfg0.N) (b : Fin 1024) : Fin 1024 :=
  ⟨(t.val / 4 % 1) * 1024 + b.val, by have := t.isLt; have hN : cfg0.N = 8 := N_0; omega⟩
abbrev depOf (t : Fin cfg0.N) (k : Fin 1024) : Fin 4096 :=
  ⟨(t.val % 4) * 1024 + k.val, by have := t.isLt; have hN : cfg0.N = 8 := N_0; omega⟩

theorem a_at (t : Fin cfg0.N) (a : Fin 1024) (k : Fin 1024) : iblk m c 0 t (ix2 k a) = aA m c (ix2 (depOf t k) (rowOf t a)) := by
  blk_ext [iblk, V, idx t]
theorem b_at (t : Fin cfg0.N) (k : Fin 1024) (b : Fin 1024) : iblk m c 1 t (ix2 k b) = aB m c (ix2 (depOf t k) (colOf t b)) := by
  blk_ext [iblk, V, idx t]

/-- The reference's result at an index. -/
theorem ref_at (A : Vec Ideal S4096x2048 .bf16) (B : Vec Ideal S4096x1024 .bf16) (r : Fin 2048) (q : Fin 1024) :
    val_main_v5 (F := Ideal) A B (ix2 r q) = (∑ k : Fin 4096, A (ix2 k r) * B (ix2 k q)) := by
  pointwise [val_main_cst, val_main_v0, val_main_v1, val_main_v2, val_main_v3, val_main_v4, val_main_v5]
  try simp only [mul_comm, add_comm]

/-- What point `t` adds to its block. -/
def piece (t : Fin cfg0.N) (a : Fin 1024) (b : Fin 1024) : EReal :=
  ∑ k : Fin 1024, aA m c (ix2 (depOf t k) (rowOf t a)) * aB m c (ix2 (depOf t k) (colOf t b))

abbrev term (t : Fin cfg0.N) (j : S1024x1024.Idx) : EReal := piece m c t (j 0) (j 1)

theorem first_at (t : Fin cfg0.N) (h : t.val % 4 = 0) (j : S1024x1024.Idx) : k0_pay1 (iblk m c 0 t) (iblk m c 1 t) j = 0 + term m c t j := by
  obtain ⟨a, b, rfl⟩ : ∃ a b, j = ix2 a b := ⟨_, _, eq_ix2 j⟩
  pointwise [k0_pay1]
  simp only [a_at, b_at, term, piece]
  try rw [zero_add]
  try rw [add_comm]
  rfl

theorem next_at (t : Fin cfg0.N) (h : ¬t.val % 4 = 0) (acc : Vec Ideal S1024x1024 .f32) (j : S1024x1024.Idx) :
    k0_pay2 (iblk m c 0 t) (iblk m c 1 t) acc j = acc j + term m c t j := by
  obtain ⟨a, b, rfl⟩ : ∃ a b, j = ix2 a b := ⟨_, _, eq_ix2 j⟩
  pointwise [k0_pay1, k0_pay2]
  simp only [a_at, b_at, term, piece]
  rfl

theorem flush_at : ∀ t : Fin cfg0.N, (cfg0.win 2).flush t = true → t.val % 4 = 3 :=
  (by decide +kernel : ∀ t : Fin grid0.N, _)

/-- The pieces of one block's run add up to the whole depth. -/
theorem run_sum (t : Fin cfg0.N) (j : S1024x1024.Idx) (h : ∀ s : Fin 4, 4 * (t.val / 4) + s.val < cfg0.N) :
    ∑ s : Fin 4, term m c ⟨4 * (t.val / 4) + s.val, h s⟩ j
      = val_main_v5 (F := Ideal) (aA m c) (aB m c) (ix2 (rowOf t (j 0)) (colOf t (j 1))) := by
  have hr : ∀ s a, rowOf ⟨4 * (t.val / 4) + s.val, h s⟩ a = rowOf t a := fun s a => Fin.ext (by
    show (4 * (t.val / 4) + s.val) / 4 * 1024 + a.val = t.val / 4 * 1024 + a.val; omega)
  have hc : ∀ s b, colOf ⟨4 * (t.val / 4) + s.val, h s⟩ b = colOf t b := fun s b => Fin.ext (by
    show (4 * (t.val / 4) + s.val) / 4 % 1 * 1024 + b.val = t.val / 4 % 1 * 1024 + b.val; omega)
  obtain ⟨a, b, rfl⟩ : ∃ a b, j = ix2 a b := ⟨_, _, eq_ix2 j⟩
  show ∑ s : Fin 4, piece m c _ a b = val_main_v5 (F := Ideal) (aA m c) (aB m c) (ix2 (rowOf t a) (colOf t b))
  rw [ref_at]
  simp only [piece]
  exact Fin.sum_mul_add_congr fun s k hl => by
    have hd : depOf ⟨4 * (t.val / 4) + s.val, h s⟩ k = ⟨s.val * 1024 + k.val, hl⟩ := Fin.ext (by
      show (4 * (t.val / 4) + s.val) % 4 * 1024 + k.val = s.val * 1024 + k.val; omega)
    rw [hr, hc, hd]

theorem final : (dats m 0 c).arrAt 2 cfg0.N = val_main_v5 (F := Ideal) (aA m c) (aB m c) := by
  refine (dats m 0 c).arrAt_eq_of_covers 2 _ (by decide +kernel) fun t hf y => ?_
  have hy : (win0_2.blk t).view.emb y = ix2 (rowOf t (y 0)) (colOf t (y 1)) := by blk_ext [idx t]
  rw [after0_2]
  have hs := Pipeline.eq_sum_fin_of_reset_step_apply_of_flush (fun n h => outsAt0 m c n h) 4 (fun _ => (0 : EReal)) (term m c)
    (fun t h j => by
      show outsAt0 m c t.val t.isLt j = _
      rw [outsAt0_A m c t h (by have := t.isLt; have hN : cfg0.N = 8 := N_0; omega)]; frame_out
      exact first_at m c t h j)
    (fun t h j => by
      show outsAt0 m c t.val t.isLt j = _
      rw [outsAt0_B m c t h (by have := t.isLt; have hN : cfg0.N = 8 := N_0; omega)]; frame_out
      exact next_at m c t h _ j) t (flush_at t hf) y
  refine hs.trans ((zero_add (M := EReal) _).trans ((run_sum m c t y _).trans (congrArg _ hy.symm)))

end Cert.OddOutDwIdeal.RefValue

namespace Cert.Proof.OddOutDw

/-- At `Ideal` the kernel's result array and the reference's agree. -/
theorem algebraic : Cert.algebraic_OddOutDwIdeal_OddOutDwRefIdeal := by
  pair_intro
  · run_from Cert.OddOutDwIdeal.Value.run_blocks m g
  · run_from Cert.OddOutDwRefIdeal.Value.run m' g'
    rw [Cert.OddOutDwIdeal.RefValue.final m c]
    exact Cert.OddOutDwRefIdeal.Read.val_main_v5_eq (F := Ideal) _ _

end Cert.Proof.OddOutDw

end
-- ==== Proof.EvenDwAValue.lean ====
/- `EvenDwA`: the gradient of a weight, 1024 x 4096 by a depth of 4096 in 4 pieces. The kernel's result array after its 8 grid points is the reference's
   product. -/
module

public import proofs.«01_k».proof.Defs
public import proofs.«01_k».proof.Proof.Gen.EvenDwAIdeal.Value
public import proofs.«01_k».proof.Proof.Gen.EvenDwARefIdeal.Run
public import proofs.«01_k».proof.Proof.Gen.EvenDwARefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.EvenDwAIdeal.RefValue

open Cert.EvenDwAIdeal Cert.EvenDwAIdeal.Gen Cert.EvenDwAIdeal.Value Cert.EvenDwARefIdeal.Read

variable (m : (ℓ : Loc nD τ sig) → Buf (Elt Ideal) ℓ) (c : Dev nD)

abbrev aA : Vec Ideal S4096x1024 .bf16 := m ((c : Thread nD τ).loc main_arg0)
abbrev aB : Vec Ideal S4096x4096 .bf16 := m ((c : Thread nD τ).loc main_arg1)

/-- Every window's block index at every point (decided). -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The array's row, column and depth of a block's. -/
abbrev rowOf (t : Fin cfg0.N) (a : Fin 1024) : Fin 1024 :=
  ⟨(t.val / 8) * 1024 + a.val, by have := t.isLt; have hN : cfg0.N = 8 := N_0; omega⟩
abbrev colOf (t : Fin cfg0.N) (b : Fin 2048) : Fin 4096 :=
  ⟨(t.val / 4 % 2) * 2048 + b.val, by have := t.isLt; have hN : cfg0.N = 8 := N_0; omega⟩
abbrev depOf (t : Fin cfg0.N) (k : Fin 1024) : Fin 4096 :=
  ⟨(t.val % 4) * 1024 + k.val, by have := t.isLt; have hN : cfg0.N = 8 := N_0; omega⟩

theorem a_at (t : Fin cfg0.N) (a : Fin 1024) (k : Fin 1024) : iblk m c 0 t (ix2 k a) = aA m c (ix2 (depOf t k) (rowOf t a)) := by
  blk_ext [iblk, V, idx t]
theorem b_at (t : Fin cfg0.N) (k : Fin 1024) (b : Fin 2048) : iblk m c 1 t (ix2 k b) = aB m c (ix2 (depOf t k) (colOf t b)) := by
  blk_ext [iblk, V, idx t]

/-- The reference's result at an index. -/
theorem ref_at (A : Vec Ideal S4096x1024 .bf16) (B : Vec Ideal S4096x4096 .bf16) (r : Fin 1024) (q : Fin 4096) :
    val_main_v5 (F := Ideal) A B (ix2 r q) = (∑ k : Fin 4096, A (ix2 k r) * B (ix2 k q)) := by
  pointwise [val_main_cst, val_main_v0, val_main_v1, val_main_v2, val_main_v3, val_main_v4, val_main_v5]
  try simp only [mul_comm, add_comm]

/-- What point `t` adds to its block. -/
def piece (t : Fin cfg0.N) (a : Fin 1024) (b : Fin 2048) : EReal :=
  ∑ k : Fin 1024, aA m c (ix2 (depOf t k) (rowOf t a)) * aB m c (ix2 (depOf t k) (colOf t b))

abbrev term (t : Fin cfg0.N) (j : S1024x2048.Idx) : EReal := piece m c t (j 0) (j 1)

theorem first_at (t : Fin cfg0.N) (h : t.val % 4 = 0) (j : S1024x2048.Idx) : k0_pay1 (iblk m c 0 t) (iblk m c 1 t) j = 0 + term m c t j := by
  obtain ⟨a, b, rfl⟩ : ∃ a b, j = ix2 a b := ⟨_, _, eq_ix2 j⟩
  pointwise [k0_pay1]
  simp only [a_at, b_at, term, piece]
  try rw [zero_add]
  try rw [add_comm]
  rfl

theorem next_at (t : Fin cfg0.N) (h : ¬t.val % 4 = 0) (acc : Vec Ideal S1024x2048 .f32) (j : S1024x2048.Idx) :
    k0_pay2 (iblk m c 0 t) (iblk m c 1 t) acc j = acc j + term m c t j := by
  obtain ⟨a, b, rfl⟩ : ∃ a b, j = ix2 a b := ⟨_, _, eq_ix2 j⟩
  pointwise [k0_pay1, k0_pay2]
  simp only [a_at, b_at, term, piece]
  rfl

theorem flush_at : ∀ t : Fin cfg0.N, (cfg0.win 2).flush t = true → t.val % 4 = 3 :=
  (by decide +kernel : ∀ t : Fin grid0.N, _)

/-- The pieces of one block's run add up to the whole depth. -/
theorem run_sum (t : Fin cfg0.N) (j : S1024x2048.Idx) (h : ∀ s : Fin 4, 4 * (t.val / 4) + s.val < cfg0.N) :
    ∑ s : Fin 4, term m c ⟨4 * (t.val / 4) + s.val, h s⟩ j
      = val_main_v5 (F := Ideal) (aA m c) (aB m c) (ix2 (rowOf t (j 0)) (colOf t (j 1))) := by
  have hr : ∀ s a, rowOf ⟨4 * (t.val / 4) + s.val, h s⟩ a = rowOf t a := fun s a => Fin.ext (by
    show (4 * (t.val / 4) + s.val) / 8 * 1024 + a.val = t.val / 8 * 1024 + a.val; omega)
  have hc : ∀ s b, colOf ⟨4 * (t.val / 4) + s.val, h s⟩ b = colOf t b := fun s b => Fin.ext (by
    show (4 * (t.val / 4) + s.val) / 4 % 2 * 2048 + b.val = t.val / 4 % 2 * 2048 + b.val; omega)
  obtain ⟨a, b, rfl⟩ : ∃ a b, j = ix2 a b := ⟨_, _, eq_ix2 j⟩
  show ∑ s : Fin 4, piece m c _ a b = val_main_v5 (F := Ideal) (aA m c) (aB m c) (ix2 (rowOf t a) (colOf t b))
  rw [ref_at]
  simp only [piece]
  exact Fin.sum_mul_add_congr fun s k hl => by
    have hd : depOf ⟨4 * (t.val / 4) + s.val, h s⟩ k = ⟨s.val * 1024 + k.val, hl⟩ := Fin.ext (by
      show (4 * (t.val / 4) + s.val) % 4 * 1024 + k.val = s.val * 1024 + k.val; omega)
    rw [hr, hc, hd]

theorem final : (dats m 0 c).arrAt 2 cfg0.N = val_main_v5 (F := Ideal) (aA m c) (aB m c) := by
  refine (dats m 0 c).arrAt_eq_of_covers 2 _ (by decide +kernel) fun t hf y => ?_
  have hy : (win0_2.blk t).view.emb y = ix2 (rowOf t (y 0)) (colOf t (y 1)) := by blk_ext [idx t]
  rw [after0_2]
  have hs := Pipeline.eq_sum_fin_of_reset_step_apply_of_flush (fun n h => outsAt0 m c n h) 4 (fun _ => (0 : EReal)) (term m c)
    (fun t h j => by
      show outsAt0 m c t.val t.isLt j = _
      rw [outsAt0_A m c t h (by have := t.isLt; have hN : cfg0.N = 8 := N_0; omega)]; frame_out
      exact first_at m c t h j)
    (fun t h j => by
      show outsAt0 m c t.val t.isLt j = _
      rw [outsAt0_B m c t h (by have := t.isLt; have hN : cfg0.N = 8 := N_0; omega)]; frame_out
      exact next_at m c t h _ j) t (flush_at t hf) y
  refine hs.trans ((zero_add (M := EReal) _).trans ((run_sum m c t y _).trans (congrArg _ hy.symm)))

end Cert.EvenDwAIdeal.RefValue

namespace Cert.Proof.EvenDwA

/-- At `Ideal` the kernel's result array and the reference's agree. -/
theorem algebraic : Cert.algebraic_EvenDwAIdeal_EvenDwARefIdeal := by
  pair_intro
  · run_from Cert.EvenDwAIdeal.Value.run_blocks m g
  · run_from Cert.EvenDwARefIdeal.Value.run m' g'
    rw [Cert.EvenDwAIdeal.RefValue.final m c]
    exact Cert.EvenDwARefIdeal.Read.val_main_v5_eq (F := Ideal) _ _

end Cert.Proof.EvenDwA

end
-- ==== Proof.EvenDwValue.lean ====
/- `EvenDw`: the gradient of a weight, 1024 x 1024 by a depth of 4096 in 4 pieces. The kernel's result array after its 4 grid points is the reference's
   product. -/
module

public import proofs.«01_k».proof.Defs
public import proofs.«01_k».proof.Proof.Gen.EvenDwIdeal.Value
public import proofs.«01_k».proof.Proof.Gen.EvenDwRefIdeal.Run
public import proofs.«01_k».proof.Proof.Gen.EvenDwRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.EvenDwIdeal.RefValue

open Cert.EvenDwIdeal Cert.EvenDwIdeal.Gen Cert.EvenDwIdeal.Value Cert.EvenDwRefIdeal.Read

variable (m : (ℓ : Loc nD τ sig) → Buf (Elt Ideal) ℓ) (c : Dev nD)

abbrev aA : Vec Ideal S4096x1024 .bf16 := m ((c : Thread nD τ).loc main_arg0)
abbrev aB : Vec Ideal S4096x1024 .bf16 := m ((c : Thread nD τ).loc main_arg1)

/-- Every window's block index at every point (decided). -/
theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

/-- The array's row, column and depth of a block's. -/
abbrev rowOf (t : Fin cfg0.N) (a : Fin 1024) : Fin 1024 :=
  ⟨(t.val / 4) * 1024 + a.val, by have := t.isLt; have hN : cfg0.N = 4 := N_0; omega⟩
abbrev colOf (t : Fin cfg0.N) (b : Fin 1024) : Fin 1024 :=
  ⟨(t.val / 4 % 1) * 1024 + b.val, by have := t.isLt; have hN : cfg0.N = 4 := N_0; omega⟩
abbrev depOf (t : Fin cfg0.N) (k : Fin 1024) : Fin 4096 :=
  ⟨(t.val % 4) * 1024 + k.val, by have := t.isLt; have hN : cfg0.N = 4 := N_0; omega⟩

theorem a_at (t : Fin cfg0.N) (a : Fin 1024) (k : Fin 1024) : iblk m c 0 t (ix2 k a) = aA m c (ix2 (depOf t k) (rowOf t a)) := by
  blk_ext [iblk, V, idx t]
theorem b_at (t : Fin cfg0.N) (k : Fin 1024) (b : Fin 1024) : iblk m c 1 t (ix2 k b) = aB m c (ix2 (depOf t k) (colOf t b)) := by
  blk_ext [iblk, V, idx t]

/-- The reference's result at an index. -/
theorem ref_at (A : Vec Ideal S4096x1024 .bf16) (B : Vec Ideal S4096x1024 .bf16) (r : Fin 1024) (q : Fin 1024) :
    val_main_v5 (F := Ideal) A B (ix2 r q) = (∑ k : Fin 4096, A (ix2 k r) * B (ix2 k q)) := by
  pointwise [val_main_cst, val_main_v0, val_main_v1, val_main_v2, val_main_v3, val_main_v4, val_main_v5]
  try simp only [mul_comm, add_comm]

/-- What point `t` adds to its block. -/
def piece (t : Fin cfg0.N) (a : Fin 1024) (b : Fin 1024) : EReal :=
  ∑ k : Fin 1024, aA m c (ix2 (depOf t k) (rowOf t a)) * aB m c (ix2 (depOf t k) (colOf t b))

abbrev term (t : Fin cfg0.N) (j : S1024x1024.Idx) : EReal := piece m c t (j 0) (j 1)

theorem first_at (t : Fin cfg0.N) (h : t.val % 4 = 0) (j : S1024x1024.Idx) : k0_pay1 (iblk m c 0 t) (iblk m c 1 t) j = 0 + term m c t j := by
  obtain ⟨a, b, rfl⟩ : ∃ a b, j = ix2 a b := ⟨_, _, eq_ix2 j⟩
  pointwise [k0_pay1]
  simp only [a_at, b_at, term, piece]
  try rw [zero_add]
  try rw [add_comm]
  rfl

theorem next_at (t : Fin cfg0.N) (h : ¬t.val % 4 = 0) (acc : Vec Ideal S1024x1024 .f32) (j : S1024x1024.Idx) :
    k0_pay2 (iblk m c 0 t) (iblk m c 1 t) acc j = acc j + term m c t j := by
  obtain ⟨a, b, rfl⟩ : ∃ a b, j = ix2 a b := ⟨_, _, eq_ix2 j⟩
  pointwise [k0_pay1, k0_pay2]
  simp only [a_at, b_at, term, piece]
  rfl

theorem flush_at : ∀ t : Fin cfg0.N, (cfg0.win 2).flush t = true → t.val % 4 = 3 :=
  (by decide +kernel : ∀ t : Fin grid0.N, _)

/-- The pieces of one block's run add up to the whole depth. -/
theorem run_sum (t : Fin cfg0.N) (j : S1024x1024.Idx) (h : ∀ s : Fin 4, 4 * (t.val / 4) + s.val < cfg0.N) :
    ∑ s : Fin 4, term m c ⟨4 * (t.val / 4) + s.val, h s⟩ j
      = val_main_v5 (F := Ideal) (aA m c) (aB m c) (ix2 (rowOf t (j 0)) (colOf t (j 1))) := by
  have hr : ∀ s a, rowOf ⟨4 * (t.val / 4) + s.val, h s⟩ a = rowOf t a := fun s a => Fin.ext (by
    show (4 * (t.val / 4) + s.val) / 4 * 1024 + a.val = t.val / 4 * 1024 + a.val; omega)
  have hc : ∀ s b, colOf ⟨4 * (t.val / 4) + s.val, h s⟩ b = colOf t b := fun s b => Fin.ext (by
    show (4 * (t.val / 4) + s.val) / 4 % 1 * 1024 + b.val = t.val / 4 % 1 * 1024 + b.val; omega)
  obtain ⟨a, b, rfl⟩ : ∃ a b, j = ix2 a b := ⟨_, _, eq_ix2 j⟩
  show ∑ s : Fin 4, piece m c _ a b = val_main_v5 (F := Ideal) (aA m c) (aB m c) (ix2 (rowOf t a) (colOf t b))
  rw [ref_at]
  simp only [piece]
  exact Fin.sum_mul_add_congr fun s k hl => by
    have hd : depOf ⟨4 * (t.val / 4) + s.val, h s⟩ k = ⟨s.val * 1024 + k.val, hl⟩ := Fin.ext (by
      show (4 * (t.val / 4) + s.val) % 4 * 1024 + k.val = s.val * 1024 + k.val; omega)
    rw [hr, hc, hd]

theorem final : (dats m 0 c).arrAt 2 cfg0.N = val_main_v5 (F := Ideal) (aA m c) (aB m c) := by
  refine (dats m 0 c).arrAt_eq_of_covers 2 _ (by decide +kernel) fun t hf y => ?_
  have hy : (win0_2.blk t).view.emb y = ix2 (rowOf t (y 0)) (colOf t (y 1)) := by blk_ext [idx t]
  rw [after0_2]
  have hs := Pipeline.eq_sum_fin_of_reset_step_apply_of_flush (fun n h => outsAt0 m c n h) 4 (fun _ => (0 : EReal)) (term m c)
    (fun t h j => by
      show outsAt0 m c t.val t.isLt j = _
      rw [outsAt0_A m c t h (by have := t.isLt; have hN : cfg0.N = 4 := N_0; omega)]; frame_out
      exact first_at m c t h j)
    (fun t h j => by
      show outsAt0 m c t.val t.isLt j = _
      rw [outsAt0_B m c t h (by have := t.isLt; have hN : cfg0.N = 4 := N_0; omega)]; frame_out
      exact next_at m c t h _ j) t (flush_at t hf) y
  refine hs.trans ((zero_add (M := EReal) _).trans ((run_sum m c t y _).trans (congrArg _ hy.symm)))

end Cert.EvenDwIdeal.RefValue

namespace Cert.Proof.EvenDw

/-- At `Ideal` the kernel's result array and the reference's agree. -/
theorem algebraic : Cert.algebraic_EvenDwIdeal_EvenDwRefIdeal := by
  pair_intro
  · run_from Cert.EvenDwIdeal.Value.run_blocks m g
  · run_from Cert.EvenDwRefIdeal.Value.run m' g'
    rw [Cert.EvenDwIdeal.RefValue.final m c]
    exact Cert.EvenDwRefIdeal.Read.val_main_v5_eq (F := Ideal) _ _

end Cert.Proof.EvenDw

end
-- ==== Proof.EvenDwTailValue.lean ====
/- `EvenDwTail`: the gradient of a weight, 1024 x 128 by a depth of 4096 in 4 pieces. The kernel's result array after its 4 grid points is the reference's
   product. -/
module

public import proofs.«01_k».proof.Defs
public import proofs.«01_k».proof.Proof.Gen.EvenDwTailIdeal.Value
public import proofs.«01_k».proof.Proof.Gen.EvenDwTailRefIdeal.Run
public import proofs.«01_k».proof.Proof.Gen.EvenDwTailRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.EvenDwTailIdeal.RefValue

open Cert.EvenDwTailIdeal Cert.EvenDwTailIdeal.Gen Cert.EvenDwTailIdeal.Value Cert.EvenDwTailRefIdeal.Read

variable (m : (ℓ : Loc nD τ sig) → Buf (Elt Ideal) ℓ) (c : Dev nD)

abbrev aA : Vec Ideal S4096x1024 .bf16 := m ((c : Thread nD τ).loc main_arg0)
abbrev aB : Vec Ideal S4096x128 .f32 := m ((c : Thread nD τ).loc main_arg1)

/-- Every window's block index at every point (decided). -/
theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

/-- The array's row, column and depth of a block's. -/
abbrev rowOf (t : Fin cfg0.N) (a : Fin 1024) : Fin 1024 :=
  ⟨(t.val / 4) * 1024 + a.val, by have := t.isLt; have hN : cfg0.N = 4 := N_0; omega⟩
abbrev colOf (t : Fin cfg0.N) (b : Fin 128) : Fin 128 :=
  ⟨(t.val / 4 % 1) * 128 + b.val, by have := t.isLt; have hN : cfg0.N = 4 := N_0; omega⟩
abbrev depOf (t : Fin cfg0.N) (k : Fin 1024) : Fin 4096 :=
  ⟨(t.val % 4) * 1024 + k.val, by have := t.isLt; have hN : cfg0.N = 4 := N_0; omega⟩

theorem a_at (t : Fin cfg0.N) (a : Fin 1024) (k : Fin 1024) : iblk m c 0 t (ix2 k a) = aA m c (ix2 (depOf t k) (rowOf t a)) := by
  blk_ext [iblk, V, idx t]
theorem b_at (t : Fin cfg0.N) (k : Fin 1024) (b : Fin 128) : iblk m c 1 t (ix2 k b) = aB m c (ix2 (depOf t k) (colOf t b)) := by
  blk_ext [iblk, V, idx t]

/-- The reference's result at an index. -/
theorem ref_at (A : Vec Ideal S4096x1024 .bf16) (B : Vec Ideal S4096x128 .f32) (r : Fin 1024) (q : Fin 128) :
    val_main_v4 (F := Ideal) A B (ix2 r q) = (∑ k : Fin 4096, A (ix2 k r) * B (ix2 k q)) := by
  pointwise [val_main_cst, val_main_v0, val_main_v1, val_main_v2, val_main_v3, val_main_v4]
  try simp only [mul_comm, add_comm]

/-- What point `t` adds to its block. -/
def piece (t : Fin cfg0.N) (a : Fin 1024) (b : Fin 128) : EReal :=
  ∑ k : Fin 1024, aA m c (ix2 (depOf t k) (rowOf t a)) * aB m c (ix2 (depOf t k) (colOf t b))

abbrev term (t : Fin cfg0.N) (j : S1024x128.Idx) : EReal := piece m c t (j 0) (j 1)

theorem first_at (t : Fin cfg0.N) (h : t.val % 4 = 0) (j : S1024x128.Idx) : k0_pay1 (iblk m c 0 t) (iblk m c 1 t) j = 0 + term m c t j := by
  obtain ⟨a, b, rfl⟩ : ∃ a b, j = ix2 a b := ⟨_, _, eq_ix2 j⟩
  pointwise [k0_pay1]
  simp only [a_at, b_at, term, piece]
  try rw [zero_add]
  try rw [add_comm]
  rfl

theorem next_at (t : Fin cfg0.N) (h : ¬t.val % 4 = 0) (acc : Vec Ideal S1024x128 .f32) (j : S1024x128.Idx) :
    k0_pay2 (iblk m c 0 t) (iblk m c 1 t) acc j = acc j + term m c t j := by
  obtain ⟨a, b, rfl⟩ : ∃ a b, j = ix2 a b := ⟨_, _, eq_ix2 j⟩
  pointwise [k0_pay1, k0_pay2]
  simp only [a_at, b_at, term, piece]
  rfl

theorem flush_at : ∀ t : Fin cfg0.N, (cfg0.win 2).flush t = true → t.val % 4 = 3 :=
  (by decide +kernel : ∀ t : Fin grid0.N, _)

/-- The pieces of one block's run add up to the whole depth. -/
theorem run_sum (t : Fin cfg0.N) (j : S1024x128.Idx) (h : ∀ s : Fin 4, 4 * (t.val / 4) + s.val < cfg0.N) :
    ∑ s : Fin 4, term m c ⟨4 * (t.val / 4) + s.val, h s⟩ j
      = val_main_v4 (F := Ideal) (aA m c) (aB m c) (ix2 (rowOf t (j 0)) (colOf t (j 1))) := by
  have hr : ∀ s a, rowOf ⟨4 * (t.val / 4) + s.val, h s⟩ a = rowOf t a := fun s a => Fin.ext (by
    show (4 * (t.val / 4) + s.val) / 4 * 1024 + a.val = t.val / 4 * 1024 + a.val; omega)
  have hc : ∀ s b, colOf ⟨4 * (t.val / 4) + s.val, h s⟩ b = colOf t b := fun s b => Fin.ext (by
    show (4 * (t.val / 4) + s.val) / 4 % 1 * 128 + b.val = t.val / 4 % 1 * 128 + b.val; omega)
  obtain ⟨a, b, rfl⟩ : ∃ a b, j = ix2 a b := ⟨_, _, eq_ix2 j⟩
  show ∑ s : Fin 4, piece m c _ a b = val_main_v4 (F := Ideal) (aA m c) (aB m c) (ix2 (rowOf t a) (colOf t b))
  rw [ref_at]
  simp only [piece]
  exact Fin.sum_mul_add_congr fun s k hl => by
    have hd : depOf ⟨4 * (t.val / 4) + s.val, h s⟩ k = ⟨s.val * 1024 + k.val, hl⟩ := Fin.ext (by
      show (4 * (t.val / 4) + s.val) % 4 * 1024 + k.val = s.val * 1024 + k.val; omega)
    rw [hr, hc, hd]

theorem final : (dats m 0 c).arrAt 2 cfg0.N = val_main_v4 (F := Ideal) (aA m c) (aB m c) := by
  refine (dats m 0 c).arrAt_eq_of_covers 2 _ (by decide +kernel) fun t hf y => ?_
  have hy : (win0_2.blk t).view.emb y = ix2 (rowOf t (y 0)) (colOf t (y 1)) := by blk_ext [idx t]
  rw [after0_2]
  have hs := Pipeline.eq_sum_fin_of_reset_step_apply_of_flush (fun n h => outsAt0 m c n h) 4 (fun _ => (0 : EReal)) (term m c)
    (fun t h j => by
      show outsAt0 m c t.val t.isLt j = _
      rw [outsAt0_A m c t h (by have := t.isLt; have hN : cfg0.N = 4 := N_0; omega)]; frame_out
      exact first_at m c t h j)
    (fun t h j => by
      show outsAt0 m c t.val t.isLt j = _
      rw [outsAt0_B m c t h (by have := t.isLt; have hN : cfg0.N = 4 := N_0; omega)]; frame_out
      exact next_at m c t h _ j) t (flush_at t hf) y
  refine hs.trans ((zero_add (M := EReal) _).trans ((run_sum m c t y _).trans (congrArg _ hy.symm)))

end Cert.EvenDwTailIdeal.RefValue

namespace Cert.Proof.EvenDwTail

/-- At `Ideal` the kernel's result array and the reference's agree. -/
theorem algebraic : Cert.algebraic_EvenDwTailIdeal_EvenDwTailRefIdeal := by
  pair_intro
  · run_from Cert.EvenDwTailIdeal.Value.run_blocks m g
  · run_from Cert.EvenDwTailRefIdeal.Value.run m' g'
    rw [Cert.EvenDwTailIdeal.RefValue.final m c]
    exact Cert.EvenDwTailRefIdeal.Read.val_main_v4_eq (F := Ideal) _ _

end Cert.Proof.EvenDwTail

end
-- ==== Proof.EvenDxFirstValue.lean ====
/- `EvenDxFirst`: the gradient of a projection's input, 4096 x 1024 by a depth of 4096 in 4 pieces. The kernel's result array after its 16 grid points is the reference's
   product with the scaled array added. -/
module

public import proofs.«01_k».proof.Defs
public import proofs.«01_k».proof.Proof.Gen.EvenDxFirstIdeal.Value
public import proofs.«01_k».proof.Proof.Gen.EvenDxFirstRefIdeal.Run
public import proofs.«01_k».proof.Proof.Gen.EvenDxFirstRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.EvenDxFirstIdeal.RefValue

open Cert.EvenDxFirstIdeal Cert.EvenDxFirstIdeal.Gen Cert.EvenDxFirstIdeal.Value Cert.EvenDxFirstRefIdeal.Read

variable (m : (ℓ : Loc nD τ sig) → Buf (Elt Ideal) ℓ) (c : Dev nD)

abbrev aA : Vec Ideal S4096x4096 .bf16 := m ((c : Thread nD τ).loc main_arg0)
abbrev aB : Vec Ideal S1024x4096 .bf16 := m ((c : Thread nD τ).loc main_arg1)
abbrev aD : Vec Ideal S4096x1024 .f32 := m ((c : Thread nD τ).loc main_arg2)

/-- Every window's block index at every point (decided). -/
theorem idx : ∀ t : Fin cfg0.N, win0_0.index t = ![t.val / 4, t.val % 4] ∧ win0_1.index t = ![t.val / 4 % 1, t.val % 4]
    ∧ win0_2.index t = ![t.val / 4, t.val / 4 % 1]
    ∧ win0_3.index t = ![t.val / 4, t.val / 4 % 1] :=
  (by decide +kernel : ∀ t : Fin grid0.N, _)

/-- The array's row, column and depth of a block's. -/
abbrev rowOf (t : Fin cfg0.N) (a : Fin 1024) : Fin 4096 :=
  ⟨(t.val / 4) * 1024 + a.val, by have := t.isLt; have hN : cfg0.N = 16 := N_0; omega⟩
abbrev colOf (t : Fin cfg0.N) (b : Fin 1024) : Fin 1024 :=
  ⟨(t.val / 4 % 1) * 1024 + b.val, by have := t.isLt; have hN : cfg0.N = 16 := N_0; omega⟩
abbrev depOf (t : Fin cfg0.N) (k : Fin 1024) : Fin 4096 :=
  ⟨(t.val % 4) * 1024 + k.val, by have := t.isLt; have hN : cfg0.N = 16 := N_0; omega⟩

theorem a_at (t : Fin cfg0.N) (a : Fin 1024) (k : Fin 1024) : iblk m c 0 t (ix2 a k) = aA m c (ix2 (rowOf t a) (depOf t k)) := by
  blk_ext [iblk, V, idx t]
theorem b_at (t : Fin cfg0.N) (k : Fin 1024) (b : Fin 1024) : iblk m c 1 t (ix2 b k) = aB m c (ix2 (colOf t b) (depOf t k)) := by
  blk_ext [iblk, V, idx t]
theorem d_at (t : Fin cfg0.N) (a : Fin 1024) (b : Fin 1024) : iblk m c 2 t (ix2 a b) = aD m c (ix2 (rowOf t a) (colOf t b)) := by
  blk_ext [iblk, V, idx t]

/-- The reference's result at an index. -/
theorem ref_at (A : Vec Ideal S4096x4096 .bf16) (B : Vec Ideal S1024x4096 .bf16) (D : Vec Ideal S4096x1024 .f32) (r : Fin 4096) (q : Fin 1024) :
    val_main_v9 (F := Ideal) A B D (ix2 r q) = (∑ k : Fin 4096, A (ix2 r k) * B (ix2 q k)) + Ideal.ofBits .f32 0x3FB504F3#32 * D (ix2 r q) := by
  pointwise [val_main_cst, val_main_v0, val_main_cst_0, val_main_v1, val_main_v2, val_main_v3, val_main_v4, val_main_v5, val_main_v6, val_main_cst_1, val_main_v7, val_main_v8, val_main_v9]
  try simp only [mul_comm, add_comm]

/-- What point `t` adds to its block. -/
def piece (t : Fin cfg0.N) (a : Fin 1024) (b : Fin 1024) : EReal :=
  (if t.val % 4 = 0 then Ideal.ofBits .f32 0x3FB504F3#32 * aD m c (ix2 (rowOf t a) (colOf t b)) else 0) + ∑ k : Fin 1024, aA m c (ix2 (rowOf t a) (depOf t k)) * aB m c (ix2 (colOf t b) (depOf t k))

abbrev term (t : Fin cfg0.N) (j : S1024x1024.Idx) : EReal := piece m c t (j 0) (j 1)

theorem first_at (t : Fin cfg0.N) (h : t.val % 4 = 0) (j : S1024x1024.Idx) : k0_pay2 (iblk m c 0 t) (iblk m c 1 t) (iblk m c 2 t) j = 0 + term m c t j := by
  obtain ⟨a, b, rfl⟩ : ∃ a b, j = ix2 a b := ⟨_, _, eq_ix2 j⟩
  pointwise [k0_pay1, k0_pay2]
  simp only [a_at, b_at, d_at, term, piece, h, if_true]
  try rw [zero_add]
  try rw [add_comm]
  rfl

theorem next_at (t : Fin cfg0.N) (h : ¬t.val % 4 = 0) (acc : Vec Ideal S1024x1024 .f32) (j : S1024x1024.Idx) :
    k0_pay3 (iblk m c 0 t) (iblk m c 1 t) acc j = acc j + term m c t j := by
  obtain ⟨a, b, rfl⟩ : ∃ a b, j = ix2 a b := ⟨_, _, eq_ix2 j⟩
  pointwise [k0_pay1, k0_pay3]
  simp only [a_at, b_at, term, piece, h, if_false, zero_add]
  rfl

theorem flush_at : ∀ t : Fin cfg0.N, (cfg0.win 3).flush t = true → t.val % 4 = 3 :=
  (by decide +kernel : ∀ t : Fin grid0.N, _)

/-- The pieces of one block's run add up to the whole depth. -/
theorem run_sum (t : Fin cfg0.N) (j : S1024x1024.Idx) (h : ∀ s : Fin 4, 4 * (t.val / 4) + s.val < cfg0.N) :
    ∑ s : Fin 4, term m c ⟨4 * (t.val / 4) + s.val, h s⟩ j
      = val_main_v9 (F := Ideal) (aA m c) (aB m c) (aD m c) (ix2 (rowOf t (j 0)) (colOf t (j 1))) := by
  have hr : ∀ s a, rowOf ⟨4 * (t.val / 4) + s.val, h s⟩ a = rowOf t a := fun s a => Fin.ext (by
    show (4 * (t.val / 4) + s.val) / 4 * 1024 + a.val = t.val / 4 * 1024 + a.val; omega)
  have hc : ∀ s b, colOf ⟨4 * (t.val / 4) + s.val, h s⟩ b = colOf t b := fun s b => Fin.ext (by
    show (4 * (t.val / 4) + s.val) / 4 % 1 * 1024 + b.val = t.val / 4 % 1 * 1024 + b.val; omega)
  obtain ⟨a, b, rfl⟩ : ∃ a b, j = ix2 a b := ⟨_, _, eq_ix2 j⟩
  show ∑ s : Fin 4, piece m c _ a b = val_main_v9 (F := Ideal) (aA m c) (aB m c) (aD m c) (ix2 (rowOf t a) (colOf t b))
  rw [ref_at]
  simp only [piece]
  rw [Finset.sum_add_distrib, add_comm]
  refine congrArg₂ (· + ·) ?_ ?_
  · exact Fin.sum_mul_add_congr fun s k hl => by
      have hd : depOf ⟨4 * (t.val / 4) + s.val, h s⟩ k = ⟨s.val * 1024 + k.val, hl⟩ := Fin.ext (by
        show (4 * (t.val / 4) + s.val) % 4 * 1024 + k.val = s.val * 1024 + k.val; omega)
      rw [hr, hc, hd]
  · rw [Finset.sum_eq_single (0 : Fin 4)]
    · rw [hr, hc]
      exact if_pos (by show (4 * (t.val / 4) + 0) % 4 = 0; omega)
    · intro s _ hs
      have : s.val ≠ 0 := fun e => hs (Fin.ext e)
      exact if_neg (by show ¬(4 * (t.val / 4) + s.val) % 4 = 0; omega)
    · exact fun e => absurd (Finset.mem_univ _) e

theorem final : (dats m 0 c).arrAt 3 cfg0.N = val_main_v9 (F := Ideal) (aA m c) (aB m c) (aD m c) := by
  refine (dats m 0 c).arrAt_eq_of_covers 3 _ (by decide +kernel) fun t hf y => ?_
  have hy : (win0_3.blk t).view.emb y = ix2 (rowOf t (y 0)) (colOf t (y 1)) := by blk_ext [idx t]
  rw [after0_3]
  have hs := Pipeline.eq_sum_fin_of_reset_step_apply_of_flush (fun n h => outsAt0 m c n h) 4 (fun _ => (0 : EReal)) (term m c)
    (fun t h j => by
      show outsAt0 m c t.val t.isLt j = _
      rw [outsAt0_A m c t h (by have := t.isLt; have hN : cfg0.N = 16 := N_0; omega)]; frame_out
      exact first_at m c t h j)
    (fun t h j => by
      show outsAt0 m c t.val t.isLt j = _
      rw [outsAt0_B m c t h (by have := t.isLt; have hN : cfg0.N = 16 := N_0; omega)]; frame_out
      exact next_at m c t h _ j) t (flush_at t hf) y
  refine hs.trans ((zero_add (M := EReal) _).trans ((run_sum m c t y _).trans (congrArg _ hy.symm)))

end Cert.EvenDxFirstIdeal.RefValue

namespace Cert.Proof.EvenDxFirst

/-- At `Ideal` the kernel's result array and the reference's agree. -/
theorem algebraic : Cert.algebraic_EvenDxFirstIdeal_EvenDxFirstRefIdeal := by
  pair_intro
  · run_from Cert.EvenDxFirstIdeal.Value.run_blocks m g
  · run_from Cert.EvenDxFirstRefIdeal.Value.run m' g'
    rw [Cert.EvenDxFirstIdeal.RefValue.final m c]
    exact Cert.EvenDxFirstRefIdeal.Read.val_main_v9_eq (F := Ideal) _ _ _

end Cert.Proof.EvenDxFirst

end
-- ==== Proof.EvenDxValue.lean ====
/- `EvenDx`: the gradient of a projection's input, 4096 x 1024 by a depth of 1024 in one piece. The kernel's result array after its 4 grid points is the reference's
   product with the scaled array added. -/
module

public import proofs.«01_k».proof.Defs
public import proofs.«01_k».proof.Proof.Gen.EvenDxIdeal.Value
public import proofs.«01_k».proof.Proof.Gen.EvenDxRefIdeal.Run
public import proofs.«01_k».proof.Proof.Gen.EvenDxRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.EvenDxIdeal.RefValue

open Cert.EvenDxIdeal Cert.EvenDxIdeal.Gen Cert.EvenDxIdeal.Value Cert.EvenDxRefIdeal.Read

variable (m : (ℓ : Loc nD τ sig) → Buf (Elt Ideal) ℓ) (c : Dev nD)

abbrev aA : Vec Ideal S4096x1024 .bf16 := m ((c : Thread nD τ).loc main_arg0)
abbrev aB : Vec Ideal S1024x1024 .bf16 := m ((c : Thread nD τ).loc main_arg1)
abbrev aD : Vec Ideal S4096x1024 .f32 := m ((c : Thread nD τ).loc main_arg2)

/-- Every window's block index at every point (decided). -/
theorem idx : ∀ t : Fin cfg0.N, win0_0.index t = ![t.val / 1, t.val % 1] ∧ win0_1.index t = ![t.val / 1 % 1, t.val % 1]
    ∧ win0_2.index t = ![t.val / 1, t.val / 1 % 1]
    ∧ win0_3.index t = ![t.val / 1, t.val / 1 % 1] :=
  (by decide +kernel : ∀ t : Fin grid0.N, _)

/-- The array's row, column and depth of a block's. -/
abbrev rowOf (t : Fin cfg0.N) (a : Fin 1024) : Fin 4096 :=
  ⟨(t.val / 1) * 1024 + a.val, by have := t.isLt; have hN : cfg0.N = 4 := N_0; omega⟩
abbrev colOf (t : Fin cfg0.N) (b : Fin 1024) : Fin 1024 :=
  ⟨(t.val / 1 % 1) * 1024 + b.val, by have := t.isLt; have hN : cfg0.N = 4 := N_0; omega⟩
abbrev depOf (t : Fin cfg0.N) (k : Fin 1024) : Fin 1024 :=
  ⟨(t.val % 1) * 1024 + k.val, by have := t.isLt; have hN : cfg0.N = 4 := N_0; omega⟩

theorem a_at (t : Fin cfg0.N) (a : Fin 1024) (k : Fin 1024) : iblk m c 0 t (ix2 a k) = aA m c (ix2 (rowOf t a) (depOf t k)) := by
  blk_ext [iblk, V, idx t]
theorem b_at (t : Fin cfg0.N) (k : Fin 1024) (b : Fin 1024) : iblk m c 1 t (ix2 b k) = aB m c (ix2 (colOf t b) (depOf t k)) := by
  blk_ext [iblk, V, idx t]
theorem d_at (t : Fin cfg0.N) (a : Fin 1024) (b : Fin 1024) : iblk m c 2 t (ix2 a b) = aD m c (ix2 (rowOf t a) (colOf t b)) := by
  blk_ext [iblk, V, idx t]

/-- The reference's result at an index. -/
theorem ref_at (A : Vec Ideal S4096x1024 .bf16) (B : Vec Ideal S1024x1024 .bf16) (D : Vec Ideal S4096x1024 .f32) (r : Fin 4096) (q : Fin 1024) :
    val_main_v9 (F := Ideal) A B D (ix2 r q) = (∑ k : Fin 1024, A (ix2 r k) * B (ix2 q k)) + D (ix2 r q) := by
  pointwise [val_main_cst, val_main_v0, val_main_cst_0, val_main_v1, val_main_v2, val_main_v3, val_main_v4, val_main_v5, val_main_v6, val_main_cst_1, val_main_v7, val_main_v8, val_main_v9]
  try simp only [mul_comm, add_comm]

theorem pay_at (t : Fin cfg0.N) (a : Fin 1024) (b : Fin 1024) :
    k0_pay1 (iblk m c 0 t) (iblk m c 1 t) (iblk m c 2 t) (ix2 a b) = val_main_v9 (F := Ideal) (aA m c) (aB m c) (aD m c) (ix2 (rowOf t a) (colOf t b)) := by
  rw [ref_at]
  pointwise [k0_pay1]
  simp only [a_at, b_at, d_at]
  have hd : ∀ k : Fin 1024, depOf t k = ⟨k.val, by omega⟩ := fun k => Fin.ext (by simp [depOf, Nat.mod_one])
  simp only [hd]

theorem final : (dats m 0 c).arrAt 3 cfg0.N = val_main_v9 (F := Ideal) (aA m c) (aB m c) (aD m c) := by
  refine (dats m 0 c).arrAt_eq_of_covers 3 _ (by decide +kernel) fun t hf y => ?_
  have hy : (win0_3.blk t).view.emb y = ix2 (rowOf t (y 0)) (colOf t (y 1)) := by blk_ext [idx t]
  have hp := pay_at m c t (y 0) (y 1)
  rw [after0_3]
  frame_out
  exact (congrArg _ (eq_ix2 y)).trans (hp.trans (congrArg _ hy.symm))

end Cert.EvenDxIdeal.RefValue

namespace Cert.Proof.EvenDx

/-- At `Ideal` the kernel's result array and the reference's agree. -/
theorem algebraic : Cert.algebraic_EvenDxIdeal_EvenDxRefIdeal := by
  pair_intro
  · run_from Cert.EvenDxIdeal.Value.run_blocks m g
  · run_from Cert.EvenDxRefIdeal.Value.run m' g'
    rw [Cert.EvenDxIdeal.RefValue.final m c]
    exact Cert.EvenDxRefIdeal.Read.val_main_v9_eq (F := Ideal) _ _ _

end Cert.Proof.EvenDx

end
-- ==== Proof.EvenDxTailValue.lean ====
/- `EvenDxTail`: the gradient of a projection's input, 4096 x 1024 by a depth of 128 in one piece. The kernel's result array after its 4 grid points is the reference's
   product with the scaled array added. -/
module

public import proofs.«01_k».proof.Defs
public import proofs.«01_k».proof.Proof.Gen.EvenDxTailIdeal.Value
public import proofs.«01_k».proof.Proof.Gen.EvenDxTailRefIdeal.Run
public import proofs.«01_k».proof.Proof.Gen.EvenDxTailRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.EvenDxTailIdeal.RefValue

open Cert.EvenDxTailIdeal Cert.EvenDxTailIdeal.Gen Cert.EvenDxTailIdeal.Value Cert.EvenDxTailRefIdeal.Read

variable (m : (ℓ : Loc nD τ sig) → Buf (Elt Ideal) ℓ) (c : Dev nD)

abbrev aA : Vec Ideal S4096x128 .f32 := m ((c : Thread nD τ).loc main_arg0)
abbrev aB : Vec Ideal S1024x128 .bf16 := m ((c : Thread nD τ).loc main_arg1)
abbrev aD : Vec Ideal S4096x1024 .f32 := m ((c : Thread nD τ).loc main_arg2)

/-- Every window's block index at every point (decided). -/
theorem idx : ∀ t : Fin cfg0.N, win0_0.index t = ![t.val / 1, t.val % 1] ∧ win0_1.index t = ![t.val / 1 % 1, t.val % 1]
    ∧ win0_2.index t = ![t.val / 1, t.val / 1 % 1]
    ∧ win0_3.index t = ![t.val / 1, t.val / 1 % 1] :=
  (by decide +kernel : ∀ t : Fin grid0.N, _)

/-- The array's row, column and depth of a block's. -/
abbrev rowOf (t : Fin cfg0.N) (a : Fin 1024) : Fin 4096 :=
  ⟨(t.val / 1) * 1024 + a.val, by have := t.isLt; have hN : cfg0.N = 4 := N_0; omega⟩
abbrev colOf (t : Fin cfg0.N) (b : Fin 1024) : Fin 1024 :=
  ⟨(t.val / 1 % 1) * 1024 + b.val, by have := t.isLt; have hN : cfg0.N = 4 := N_0; omega⟩
abbrev depOf (t : Fin cfg0.N) (k : Fin 128) : Fin 128 :=
  ⟨(t.val % 1) * 128 + k.val, by have := t.isLt; have hN : cfg0.N = 4 := N_0; omega⟩

theorem a_at (t : Fin cfg0.N) (a : Fin 1024) (k : Fin 128) : iblk m c 0 t (ix2 a k) = aA m c (ix2 (rowOf t a) (depOf t k)) := by
  blk_ext [iblk, V, idx t]
theorem b_at (t : Fin cfg0.N) (k : Fin 128) (b : Fin 1024) : iblk m c 1 t (ix2 b k) = aB m c (ix2 (colOf t b) (depOf t k)) := by
  blk_ext [iblk, V, idx t]
theorem d_at (t : Fin cfg0.N) (a : Fin 1024) (b : Fin 1024) : iblk m c 2 t (ix2 a b) = aD m c (ix2 (rowOf t a) (colOf t b)) := by
  blk_ext [iblk, V, idx t]

/-- The reference's result at an index. -/
theorem ref_at (A : Vec Ideal S4096x128 .f32) (B : Vec Ideal S1024x128 .bf16) (D : Vec Ideal S4096x1024 .f32) (r : Fin 4096) (q : Fin 1024) :
    val_main_v8 (F := Ideal) A B D (ix2 r q) = (∑ k : Fin 128, A (ix2 r k) * B (ix2 q k)) + D (ix2 r q) := by
  pointwise [val_main_cst, val_main_v0, val_main_cst_0, val_main_v1, val_main_v2, val_main_v3, val_main_v4, val_main_v5, val_main_cst_1, val_main_v6, val_main_v7, val_main_v8]
  try simp only [mul_comm, add_comm]

theorem pay_at (t : Fin cfg0.N) (a : Fin 1024) (b : Fin 1024) :
    k0_pay1 (iblk m c 0 t) (iblk m c 1 t) (iblk m c 2 t) (ix2 a b) = val_main_v8 (F := Ideal) (aA m c) (aB m c) (aD m c) (ix2 (rowOf t a) (colOf t b)) := by
  rw [ref_at]
  pointwise [k0_pay1]
  simp only [a_at, b_at, d_at]
  have hd : ∀ k : Fin 128, depOf t k = ⟨k.val, by omega⟩ := fun k => Fin.ext (by simp [depOf, Nat.mod_one])
  simp only [hd]

theorem final : (dats m 0 c).arrAt 3 cfg0.N = val_main_v8 (F := Ideal) (aA m c) (aB m c) (aD m c) := by
  refine (dats m 0 c).arrAt_eq_of_covers 3 _ (by decide +kernel) fun t hf y => ?_
  have hy : (win0_3.blk t).view.emb y = ix2 (rowOf t (y 0)) (colOf t (y 1)) := by blk_ext [idx t]
  have hp := pay_at m c t (y 0) (y 1)
  rw [after0_3]
  frame_out
  exact (congrArg _ (eq_ix2 y)).trans (hp.trans (congrArg _ hy.symm))

end Cert.EvenDxTailIdeal.RefValue

namespace Cert.Proof.EvenDxTail

/-- At `Ideal` the kernel's result array and the reference's agree. -/
theorem algebraic : Cert.algebraic_EvenDxTailIdeal_EvenDxTailRefIdeal := by
  pair_intro
  · run_from Cert.EvenDxTailIdeal.Value.run_blocks m g
  · run_from Cert.EvenDxTailRefIdeal.Value.run m' g'
    rw [Cert.EvenDxTailIdeal.RefValue.final m c]
    exact Cert.EvenDxTailRefIdeal.Read.val_main_v8_eq (F := Ideal) _ _ _

end Cert.Proof.EvenDxTail

end
-- ==== Proof.EvenOutDxValue.lean ====
/- `EvenOutDx`: the gradient of a projection's input, 4096 x 1024 by a depth of 1024 in one piece. The kernel's result array after its 4 grid points is the reference's
   product. -/
module

public import proofs.«01_k».proof.Defs
public import proofs.«01_k».proof.Proof.Gen.EvenOutDxIdeal.Value
public import proofs.«01_k».proof.Proof.Gen.EvenOutDxRefIdeal.Run
public import proofs.«01_k».proof.Proof.Gen.EvenOutDxRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.EvenOutDxIdeal.RefValue

open Cert.EvenOutDxIdeal Cert.EvenOutDxIdeal.Gen Cert.EvenOutDxIdeal.Value Cert.EvenOutDxRefIdeal.Read

variable (m : (ℓ : Loc nD τ sig) → Buf (Elt Ideal) ℓ) (c : Dev nD)

abbrev aA : Vec Ideal S4096x1024 .bf16 := m ((c : Thread nD τ).loc main_arg0)
abbrev aB : Vec Ideal S1024x1024 .bf16 := m ((c : Thread nD τ).loc main_arg1)

/-- Every window's block index at every point (decided). -/
theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

/-- The array's row, column and depth of a block's. -/
abbrev rowOf (t : Fin cfg0.N) (a : Fin 1024) : Fin 4096 :=
  ⟨(t.val / 1) * 1024 + a.val, by have := t.isLt; have hN : cfg0.N = 4 := N_0; omega⟩
abbrev colOf (t : Fin cfg0.N) (b : Fin 1024) : Fin 1024 :=
  ⟨(t.val / 1 % 1) * 1024 + b.val, by have := t.isLt; have hN : cfg0.N = 4 := N_0; omega⟩
abbrev depOf (t : Fin cfg0.N) (k : Fin 1024) : Fin 1024 :=
  ⟨(t.val % 1) * 1024 + k.val, by have := t.isLt; have hN : cfg0.N = 4 := N_0; omega⟩

theorem a_at (t : Fin cfg0.N) (a : Fin 1024) (k : Fin 1024) : iblk m c 0 t (ix2 a k) = aA m c (ix2 (rowOf t a) (depOf t k)) := by
  blk_ext [iblk, V, idx t]
theorem b_at (t : Fin cfg0.N) (k : Fin 1024) (b : Fin 1024) : iblk m c 1 t (ix2 b k) = aB m c (ix2 (colOf t b) (depOf t k)) := by
  blk_ext [iblk, V, idx t]

/-- The reference's result at an index. -/
theorem ref_at (A : Vec Ideal S4096x1024 .bf16) (B : Vec Ideal S1024x1024 .bf16) (r : Fin 4096) (q : Fin 1024) :
    val_main_v4 (F := Ideal) A B (ix2 r q) = (∑ k : Fin 1024, A (ix2 r k) * B (ix2 q k)) := by
  pointwise [val_main_cst, val_main_v0, val_main_v1, val_main_v2, val_main_v3, val_main_v4]
  try simp only [mul_comm, add_comm]

theorem pay_at (t : Fin cfg0.N) (a : Fin 1024) (b : Fin 1024) :
    k0_pay1 (iblk m c 0 t) (iblk m c 1 t) (ix2 a b) = val_main_v4 (F := Ideal) (aA m c) (aB m c) (ix2 (rowOf t a) (colOf t b)) := by
  rw [ref_at]
  pointwise [k0_pay1]
  simp only [a_at, b_at]
  have hd : ∀ k : Fin 1024, depOf t k = ⟨k.val, by omega⟩ := fun k => Fin.ext (by simp [depOf, Nat.mod_one])
  simp only [hd]

theorem final : (dats m 0 c).arrAt 2 cfg0.N = val_main_v4 (F := Ideal) (aA m c) (aB m c) := by
  refine (dats m 0 c).arrAt_eq_of_covers 2 _ (by decide +kernel) fun t hf y => ?_
  have hy : (win0_2.blk t).view.emb y = ix2 (rowOf t (y 0)) (colOf t (y 1)) := by blk_ext [idx t]
  have hp := pay_at m c t (y 0) (y 1)
  rw [after0_2]
  frame_out
  exact (congrArg _ (eq_ix2 y)).trans (hp.trans (congrArg _ hy.symm))

end Cert.EvenOutDxIdeal.RefValue

namespace Cert.Proof.EvenOutDx

/-- At `Ideal` the kernel's result array and the reference's agree. -/
theorem algebraic : Cert.algebraic_EvenOutDxIdeal_EvenOutDxRefIdeal := by
  pair_intro
  · run_from Cert.EvenOutDxIdeal.Value.run_blocks m g
  · run_from Cert.EvenOutDxRefIdeal.Value.run m' g'
    rw [Cert.EvenOutDxIdeal.RefValue.final m c]
    exact Cert.EvenOutDxRefIdeal.Read.val_main_v4_eq (F := Ideal) _ _

end Cert.Proof.EvenOutDx

end
-- ==== Proof.OddInValue.lean ====
/- `OddIn`: a projection, 4096 x 2048 by a depth of 1024 in one piece. The kernel's result array after its 4 grid points is the reference's
   product. -/
module

public import proofs.«01_k».proof.Defs
public import proofs.«01_k».proof.Proof.Gen.OddInIdeal.Value
public import proofs.«01_k».proof.Proof.Gen.OddInRefIdeal.Run
public import proofs.«01_k».proof.Proof.Gen.OddInRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.OddInIdeal.RefValue

open Cert.OddInIdeal Cert.OddInIdeal.Gen Cert.OddInIdeal.Value Cert.OddInRefIdeal.Read

variable (m : (ℓ : Loc nD τ sig) → Buf (Elt Ideal) ℓ) (c : Dev nD)

abbrev aA : Vec Ideal S4096x1024 .bf16 := m ((c : Thread nD τ).loc main_arg0)
abbrev aB : Vec Ideal S1024x2048 .bf16 := m ((c : Thread nD τ).loc main_arg1)

/-- Every window's block index at every point (decided). -/
theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

/-- The array's row, column and depth of a block's. -/
abbrev rowOf (t : Fin cfg0.N) (a : Fin 1024) : Fin 4096 :=
  ⟨(t.val / 1) * 1024 + a.val, by have := t.isLt; have hN : cfg0.N = 4 := N_0; omega⟩
abbrev colOf (t : Fin cfg0.N) (b : Fin 2048) : Fin 2048 :=
  ⟨(t.val / 1 % 1) * 2048 + b.val, by have := t.isLt; have hN : cfg0.N = 4 := N_0; omega⟩
abbrev depOf (t : Fin cfg0.N) (k : Fin 1024) : Fin 1024 :=
  ⟨(t.val % 1) * 1024 + k.val, by have := t.isLt; have hN : cfg0.N = 4 := N_0; omega⟩

theorem a_at (t : Fin cfg0.N) (a : Fin 1024) (k : Fin 1024) : iblk m c 0 t (ix2 a k) = aA m c (ix2 (rowOf t a) (depOf t k)) := by
  blk_ext [iblk, V, idx t]
theorem b_at (t : Fin cfg0.N) (k : Fin 1024) (b : Fin 2048) : iblk m c 1 t (ix2 k b) = aB m c (ix2 (depOf t k) (colOf t b)) := by
  blk_ext [iblk, V, idx t]

/-- The reference's result at an index. -/
theorem ref_at (A : Vec Ideal S4096x1024 .bf16) (B : Vec Ideal S1024x2048 .bf16) (r : Fin 4096) (q : Fin 2048) :
    val_main_v2 (F := Ideal) A B (ix2 r q) = (∑ k : Fin 1024, A (ix2 r k) * B (ix2 k q)) := by
  pointwise [val_main_v0, val_main_v1, val_main_v2]
  try simp only [mul_comm, add_comm]

theorem pay_at (t : Fin cfg0.N) (a : Fin 1024) (b : Fin 2048) :
    k0_pay1 (iblk m c 0 t) (iblk m c 1 t) (ix2 a b) = val_main_v2 (F := Ideal) (aA m c) (aB m c) (ix2 (rowOf t a) (colOf t b)) := by
  rw [ref_at]
  pointwise [k0_pay1]
  simp only [a_at, b_at]
  have hd : ∀ k : Fin 1024, depOf t k = ⟨k.val, by omega⟩ := fun k => Fin.ext (by simp [depOf, Nat.mod_one])
  simp only [hd]

theorem final : (dats m 0 c).arrAt 2 cfg0.N = val_main_v2 (F := Ideal) (aA m c) (aB m c) := by
  refine (dats m 0 c).arrAt_eq_of_covers 2 _ (by decide +kernel) fun t hf y => ?_
  have hy : (win0_2.blk t).view.emb y = ix2 (rowOf t (y 0)) (colOf t (y 1)) := by blk_ext [idx t]
  have hp := pay_at m c t (y 0) (y 1)
  rw [after0_2]
  frame_out
  exact (congrArg _ (eq_ix2 y)).trans (hp.trans (congrArg _ hy.symm))

end Cert.OddInIdeal.RefValue

namespace Cert.Proof.OddIn

/-- At `Ideal` the kernel's result array and the reference's agree. -/
theorem algebraic : Cert.algebraic_OddInIdeal_OddInRefIdeal := by
  pair_intro
  · run_from Cert.OddInIdeal.Value.run_blocks m g
  · run_from Cert.OddInRefIdeal.Value.run m' g'
    rw [Cert.OddInIdeal.RefValue.final m c]
    exact Cert.OddInRefIdeal.Read.val_main_v2_eq (F := Ideal) _ _

end Cert.Proof.OddIn

end
-- ==== Proof.OddOutValue.lean ====
/- `OddOut`: a projection, 4096 x 1024 by a depth of 2048 in 2 pieces. The kernel's result array after its 8 grid points is the reference's
   product. -/
module

public import proofs.«01_k».proof.Defs
public import proofs.«01_k».proof.Proof.Gen.OddOutIdeal.Value
public import proofs.«01_k».proof.Proof.Gen.OddOutRefIdeal.Run
public import proofs.«01_k».proof.Proof.Gen.OddOutRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.OddOutIdeal.RefValue

open Cert.OddOutIdeal Cert.OddOutIdeal.Gen Cert.OddOutIdeal.Value Cert.OddOutRefIdeal.Read

variable (m : (ℓ : Loc nD τ sig) → Buf (Elt Ideal) ℓ) (c : Dev nD)

abbrev aA : Vec Ideal S4096x2048 .bf16 := m ((c : Thread nD τ).loc main_arg0)
abbrev aB : Vec Ideal S2048x1024 .bf16 := m ((c : Thread nD τ).loc main_arg1)

/-- Every window's block index at every point (decided). -/
theorem idx : ∀ t : Fin cfg0.N, win0_0.index t = ![t.val / 2, t.val % 2] ∧ win0_1.index t = ![t.val % 2, t.val / 2 % 1]
    ∧ win0_2.index t = ![t.val / 2, t.val / 2 % 1] :=
  (by decide +kernel : ∀ t : Fin grid0.N, _)

/-- The array's row, column and depth of a block's. -/
abbrev rowOf (t : Fin cfg0.N) (a : Fin 1024) : Fin 4096 :=
  ⟨(t.val / 2) * 1024 + a.val, by have := t.isLt; have hN : cfg0.N = 8 := N_0; omega⟩
abbrev colOf (t : Fin cfg0.N) (b : Fin 1024) : Fin 1024 :=
  ⟨(t.val / 2 % 1) * 1024 + b.val, by have := t.isLt; have hN : cfg0.N = 8 := N_0; omega⟩
abbrev depOf (t : Fin cfg0.N) (k : Fin 1024) : Fin 2048 :=
  ⟨(t.val % 2) * 1024 + k.val, by have := t.isLt; have hN : cfg0.N = 8 := N_0; omega⟩

theorem a_at (t : Fin cfg0.N) (a : Fin 1024) (k : Fin 1024) : iblk m c 0 t (ix2 a k) = aA m c (ix2 (rowOf t a) (depOf t k)) := by
  blk_ext [iblk, V, idx t]
theorem b_at (t : Fin cfg0.N) (k : Fin 1024) (b : Fin 1024) : iblk m c 1 t (ix2 k b) = aB m c (ix2 (depOf t k) (colOf t b)) := by
  blk_ext [iblk, V, idx t]

/-- The reference's result at an index. -/
theorem ref_at (A : Vec Ideal S4096x2048 .bf16) (B : Vec Ideal S2048x1024 .bf16) (r : Fin 4096) (q : Fin 1024) :
    val_main_v2 (F := Ideal) A B (ix2 r q) = (∑ k : Fin 2048, A (ix2 r k) * B (ix2 k q)) := by
  pointwise [val_main_v0, val_main_v1, val_main_v2]
  try simp only [mul_comm, add_comm]

/-- What point `t` adds to its block. -/
def piece (t : Fin cfg0.N) (a : Fin 1024) (b : Fin 1024) : EReal :=
  ∑ k : Fin 1024, aA m c (ix2 (rowOf t a) (depOf t k)) * aB m c (ix2 (depOf t k) (colOf t b))

abbrev term (t : Fin cfg0.N) (j : S1024x1024.Idx) : EReal := piece m c t (j 0) (j 1)

theorem first_at (t : Fin cfg0.N) (h : t.val % 2 = 0) (j : S1024x1024.Idx) : k0_pay1 (iblk m c 0 t) (iblk m c 1 t) j = 0 + term m c t j := by
  obtain ⟨a, b, rfl⟩ : ∃ a b, j = ix2 a b := ⟨_, _, eq_ix2 j⟩
  pointwise [k0_pay1]
  simp only [a_at, b_at, term, piece]
  try rw [zero_add]
  try rw [add_comm]
  rfl

theorem next_at (t : Fin cfg0.N) (h : ¬t.val % 2 = 0) (acc : Vec Ideal S1024x1024 .f32) (j : S1024x1024.Idx) :
    k0_pay2 (iblk m c 0 t) (iblk m c 1 t) acc j = acc j + term m c t j := by
  obtain ⟨a, b, rfl⟩ : ∃ a b, j = ix2 a b := ⟨_, _, eq_ix2 j⟩
  pointwise [k0_pay1, k0_pay2]
  simp only [a_at, b_at, term, piece]
  rfl

theorem flush_at : ∀ t : Fin cfg0.N, (cfg0.win 2).flush t = true → t.val % 2 = 1 :=
  (by decide +kernel : ∀ t : Fin grid0.N, _)

/-- The pieces of one block's run add up to the whole depth. -/
theorem run_sum (t : Fin cfg0.N) (j : S1024x1024.Idx) (h : ∀ s : Fin 2, 2 * (t.val / 2) + s.val < cfg0.N) :
    ∑ s : Fin 2, term m c ⟨2 * (t.val / 2) + s.val, h s⟩ j
      = val_main_v2 (F := Ideal) (aA m c) (aB m c) (ix2 (rowOf t (j 0)) (colOf t (j 1))) := by
  have hr : ∀ s a, rowOf ⟨2 * (t.val / 2) + s.val, h s⟩ a = rowOf t a := fun s a => Fin.ext (by
    show (2 * (t.val / 2) + s.val) / 2 * 1024 + a.val = t.val / 2 * 1024 + a.val; omega)
  have hc : ∀ s b, colOf ⟨2 * (t.val / 2) + s.val, h s⟩ b = colOf t b := fun s b => Fin.ext (by
    show (2 * (t.val / 2) + s.val) / 2 % 1 * 1024 + b.val = t.val / 2 % 1 * 1024 + b.val; omega)
  obtain ⟨a, b, rfl⟩ : ∃ a b, j = ix2 a b := ⟨_, _, eq_ix2 j⟩
  show ∑ s : Fin 2, piece m c _ a b = val_main_v2 (F := Ideal) (aA m c) (aB m c) (ix2 (rowOf t a) (colOf t b))
  rw [ref_at]
  simp only [piece]
  exact Fin.sum_mul_add_congr fun s k hl => by
    have hd : depOf ⟨2 * (t.val / 2) + s.val, h s⟩ k = ⟨s.val * 1024 + k.val, hl⟩ := Fin.ext (by
      show (2 * (t.val / 2) + s.val) % 2 * 1024 + k.val = s.val * 1024 + k.val; omega)
    rw [hr, hc, hd]

theorem final : (dats m 0 c).arrAt 2 cfg0.N = val_main_v2 (F := Ideal) (aA m c) (aB m c) := by
  refine (dats m 0 c).arrAt_eq_of_covers 2 _ (by decide +kernel) fun t hf y => ?_
  have hy : (win0_2.blk t).view.emb y = ix2 (rowOf t (y 0)) (colOf t (y 1)) := by blk_ext [idx t]
  rw [after0_2]
  have hs := Pipeline.eq_sum_fin_of_reset_step_apply_of_flush (fun n h => outsAt0 m c n h) 2 (fun _ => (0 : EReal)) (term m c)
    (fun t h j => by
      show outsAt0 m c t.val t.isLt j = _
      rw [outsAt0_A m c t h (by have := t.isLt; have hN : cfg0.N = 8 := N_0; omega)]; frame_out
      exact first_at m c t h j)
    (fun t h j => by
      show outsAt0 m c t.val t.isLt j = _
      rw [outsAt0_B m c t h (by have := t.isLt; have hN : cfg0.N = 8 := N_0; omega)]; frame_out
      exact next_at m c t h _ j) t (flush_at t hf) y
  refine hs.trans ((zero_add (M := EReal) _).trans ((run_sum m c t y _).trans (congrArg _ hy.symm)))

end Cert.OddOutIdeal.RefValue

namespace Cert.Proof.OddOut

/-- At `Ideal` the kernel's result array and the reference's agree. -/
theorem algebraic : Cert.algebraic_OddOutIdeal_OddOutRefIdeal := by
  pair_intro
  · run_from Cert.OddOutIdeal.Value.run_blocks m g
  · run_from Cert.OddOutRefIdeal.Value.run m' g'
    rw [Cert.OddOutIdeal.RefValue.final m c]
    exact Cert.OddOutRefIdeal.Read.val_main_v2_eq (F := Ideal) _ _

end Cert.Proof.OddOut

end
-- ==== Proof.EvenInAValue.lean ====
/- `EvenInA`: a projection, 4096 x 4096 by a depth of 1024 in one piece. The kernel's result array after its 8 grid points is the reference's
   product. -/
module

public import proofs.«01_k».proof.Defs
public import proofs.«01_k».proof.Proof.Gen.EvenInAIdeal.Value
public import proofs.«01_k».proof.Proof.Gen.EvenInARefIdeal.Run
public import proofs.«01_k».proof.Proof.Gen.EvenInARefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.EvenInAIdeal.RefValue

open Cert.EvenInAIdeal Cert.EvenInAIdeal.Gen Cert.EvenInAIdeal.Value Cert.EvenInARefIdeal.Read

variable (m : (ℓ : Loc nD τ sig) → Buf (Elt Ideal) ℓ) (c : Dev nD)

abbrev aA : Vec Ideal S4096x1024 .bf16 := m ((c : Thread nD τ).loc main_arg0)
abbrev aB : Vec Ideal S1024x4096 .bf16 := m ((c : Thread nD τ).loc main_arg1)

/-- Every window's block index at every point (decided). -/
theorem idx : ∀ t : Fin cfg0.N, win0_0.index t = ![t.val / 2, t.val % 1] ∧ win0_1.index t = ![t.val % 1, t.val / 1 % 2]
    ∧ win0_2.index t = ![t.val / 2, t.val / 1 % 2] :=
  (by decide +kernel : ∀ t : Fin grid0.N, _)

/-- The array's row, column and depth of a block's. -/
abbrev rowOf (t : Fin cfg0.N) (a : Fin 1024) : Fin 4096 :=
  ⟨(t.val / 2) * 1024 + a.val, by have := t.isLt; have hN : cfg0.N = 8 := N_0; omega⟩
abbrev colOf (t : Fin cfg0.N) (b : Fin 2048) : Fin 4096 :=
  ⟨(t.val / 1 % 2) * 2048 + b.val, by have := t.isLt; have hN : cfg0.N = 8 := N_0; omega⟩
abbrev depOf (t : Fin cfg0.N) (k : Fin 1024) : Fin 1024 :=
  ⟨(t.val % 1) * 1024 + k.val, by have := t.isLt; have hN : cfg0.N = 8 := N_0; omega⟩

theorem a_at (t : Fin cfg0.N) (a : Fin 1024) (k : Fin 1024) : iblk m c 0 t (ix2 a k) = aA m c (ix2 (rowOf t a) (depOf t k)) := by
  blk_ext [iblk, V, idx t]
theorem b_at (t : Fin cfg0.N) (k : Fin 1024) (b : Fin 2048) : iblk m c 1 t (ix2 k b) = aB m c (ix2 (depOf t k) (colOf t b)) := by
  blk_ext [iblk, V, idx t]

/-- The reference's result at an index. -/
theorem ref_at (A : Vec Ideal S4096x1024 .bf16) (B : Vec Ideal S1024x4096 .bf16) (r : Fin 4096) (q : Fin 4096) :
    val_main_v2 (F := Ideal) A B (ix2 r q) = (∑ k : Fin 1024, A (ix2 r k) * B (ix2 k q)) := by
  pointwise [val_main_v0, val_main_v1, val_main_v2]
  try simp only [mul_comm, add_comm]

theorem pay_at (t : Fin cfg0.N) (a : Fin 1024) (b : Fin 2048) :
    k0_pay1 (iblk m c 0 t) (iblk m c 1 t) (ix2 a b) = val_main_v2 (F := Ideal) (aA m c) (aB m c) (ix2 (rowOf t a) (colOf t b)) := by
  rw [ref_at]
  pointwise [k0_pay1]
  simp only [a_at, b_at]
  have hd : ∀ k : Fin 1024, depOf t k = ⟨k.val, by omega⟩ := fun k => Fin.ext (by simp [depOf, Nat.mod_one])
  simp only [hd]

theorem final : (dats m 0 c).arrAt 2 cfg0.N = val_main_v2 (F := Ideal) (aA m c) (aB m c) := by
  refine (dats m 0 c).arrAt_eq_of_covers 2 _ (by decide +kernel) fun t hf y => ?_
  have hy : (win0_2.blk t).view.emb y = ix2 (rowOf t (y 0)) (colOf t (y 1)) := by blk_ext [idx t]
  have hp := pay_at m c t (y 0) (y 1)
  rw [after0_2]
  frame_out
  exact (congrArg _ (eq_ix2 y)).trans (hp.trans (congrArg _ hy.symm))

end Cert.EvenInAIdeal.RefValue

namespace Cert.Proof.EvenInA

/-- At `Ideal` the kernel's result array and the reference's agree. -/
theorem algebraic : Cert.algebraic_EvenInAIdeal_EvenInARefIdeal := by
  pair_intro
  · run_from Cert.EvenInAIdeal.Value.run_blocks m g
  · run_from Cert.EvenInARefIdeal.Value.run m' g'
    rw [Cert.EvenInAIdeal.RefValue.final m c]
    exact Cert.EvenInARefIdeal.Read.val_main_v2_eq (F := Ideal) _ _

end Cert.Proof.EvenInA

end
-- ==== Proof.EvenInQkvValue.lean ====
/- `EvenInQkv`: a projection, 4096 x 3072 by a depth of 1024 in one piece. The kernel's result array after its 12 grid points is the reference's
   product. -/
module

public import proofs.«01_k».proof.Defs
public import proofs.«01_k».proof.Proof.Gen.EvenInQkvIdeal.Value
public import proofs.«01_k».proof.Proof.Gen.EvenInQkvRefIdeal.Run
public import proofs.«01_k».proof.Proof.Gen.EvenInQkvRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.EvenInQkvIdeal.RefValue

open Cert.EvenInQkvIdeal Cert.EvenInQkvIdeal.Gen Cert.EvenInQkvIdeal.Value Cert.EvenInQkvRefIdeal.Read

variable (m : (ℓ : Loc nD τ sig) → Buf (Elt Ideal) ℓ) (c : Dev nD)

abbrev aA : Vec Ideal S4096x1024 .bf16 := m ((c : Thread nD τ).loc main_arg0)
abbrev aB : Vec Ideal S1024x3072 .bf16 := m ((c : Thread nD τ).loc main_arg1)

/-- Every window's block index at every point (decided). -/
theorem idx : ∀ t : Fin cfg0.N, win0_0.index t = ![t.val / 3, t.val % 1] ∧ win0_1.index t = ![t.val % 1, t.val / 1 % 3]
    ∧ win0_2.index t = ![t.val / 3, t.val / 1 % 3] :=
  (by decide +kernel : ∀ t : Fin grid0.N, _)

/-- The array's row, column and depth of a block's. -/
abbrev rowOf (t : Fin cfg0.N) (a : Fin 1024) : Fin 4096 :=
  ⟨(t.val / 3) * 1024 + a.val, by have := t.isLt; have hN : cfg0.N = 12 := N_0; omega⟩
abbrev colOf (t : Fin cfg0.N) (b : Fin 1024) : Fin 3072 :=
  ⟨(t.val / 1 % 3) * 1024 + b.val, by have := t.isLt; have hN : cfg0.N = 12 := N_0; omega⟩
abbrev depOf (t : Fin cfg0.N) (k : Fin 1024) : Fin 1024 :=
  ⟨(t.val % 1) * 1024 + k.val, by have := t.isLt; have hN : cfg0.N = 12 := N_0; omega⟩

theorem a_at (t : Fin cfg0.N) (a : Fin 1024) (k : Fin 1024) : iblk m c 0 t (ix2 a k) = aA m c (ix2 (rowOf t a) (depOf t k)) := by
  blk_ext [iblk, V, idx t]
theorem b_at (t : Fin cfg0.N) (k : Fin 1024) (b : Fin 1024) : iblk m c 1 t (ix2 k b) = aB m c (ix2 (depOf t k) (colOf t b)) := by
  blk_ext [iblk, V, idx t]

/-- The reference's result at an index. -/
theorem ref_at (A : Vec Ideal S4096x1024 .bf16) (B : Vec Ideal S1024x3072 .bf16) (r : Fin 4096) (q : Fin 3072) :
    val_main_v2 (F := Ideal) A B (ix2 r q) = (∑ k : Fin 1024, A (ix2 r k) * B (ix2 k q)) := by
  pointwise [val_main_v0, val_main_v1, val_main_v2]
  try simp only [mul_comm, add_comm]

theorem pay_at (t : Fin cfg0.N) (a : Fin 1024) (b : Fin 1024) :
    k0_pay1 (iblk m c 0 t) (iblk m c 1 t) (ix2 a b) = val_main_v2 (F := Ideal) (aA m c) (aB m c) (ix2 (rowOf t a) (colOf t b)) := by
  rw [ref_at]
  pointwise [k0_pay1]
  simp only [a_at, b_at]
  have hd : ∀ k : Fin 1024, depOf t k = ⟨k.val, by omega⟩ := fun k => Fin.ext (by simp [depOf, Nat.mod_one])
  simp only [hd]

theorem final : (dats m 0 c).arrAt 2 cfg0.N = val_main_v2 (F := Ideal) (aA m c) (aB m c) := by
  refine (dats m 0 c).arrAt_eq_of_covers 2 _ (by decide +kernel) fun t hf y => ?_
  have hy : (win0_2.blk t).view.emb y = ix2 (rowOf t (y 0)) (colOf t (y 1)) := by blk_ext [idx t]
  have hp := pay_at m c t (y 0) (y 1)
  rw [after0_2]
  frame_out
  exact (congrArg _ (eq_ix2 y)).trans (hp.trans (congrArg _ hy.symm))

end Cert.EvenInQkvIdeal.RefValue

namespace Cert.Proof.EvenInQkv

/-- At `Ideal` the kernel's result array and the reference's agree. -/
theorem algebraic : Cert.algebraic_EvenInQkvIdeal_EvenInQkvRefIdeal := by
  pair_intro
  · run_from Cert.EvenInQkvIdeal.Value.run_blocks m g
  · run_from Cert.EvenInQkvRefIdeal.Value.run m' g'
    rw [Cert.EvenInQkvIdeal.RefValue.final m c]
    exact Cert.EvenInQkvRefIdeal.Read.val_main_v2_eq (F := Ideal) _ _

end Cert.Proof.EvenInQkv

end
-- ==== Proof.EvenInValue.lean ====
/- `EvenIn`: a projection, 4096 x 1024 by a depth of 1024 in one piece. The kernel's result array after its 4 grid points is the reference's
   product. -/
module

public import proofs.«01_k».proof.Defs
public import proofs.«01_k».proof.Proof.Gen.EvenInIdeal.Value
public import proofs.«01_k».proof.Proof.Gen.EvenInRefIdeal.Run
public import proofs.«01_k».proof.Proof.Gen.EvenInRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.EvenInIdeal.RefValue

open Cert.EvenInIdeal Cert.EvenInIdeal.Gen Cert.EvenInIdeal.Value Cert.EvenInRefIdeal.Read

variable (m : (ℓ : Loc nD τ sig) → Buf (Elt Ideal) ℓ) (c : Dev nD)

abbrev aA : Vec Ideal S4096x1024 .bf16 := m ((c : Thread nD τ).loc main_arg0)
abbrev aB : Vec Ideal S1024x1024 .bf16 := m ((c : Thread nD τ).loc main_arg1)

/-- Every window's block index at every point (decided). -/
theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

/-- The array's row, column and depth of a block's. -/
abbrev rowOf (t : Fin cfg0.N) (a : Fin 1024) : Fin 4096 :=
  ⟨(t.val / 1) * 1024 + a.val, by have := t.isLt; have hN : cfg0.N = 4 := N_0; omega⟩
abbrev colOf (t : Fin cfg0.N) (b : Fin 1024) : Fin 1024 :=
  ⟨(t.val / 1 % 1) * 1024 + b.val, by have := t.isLt; have hN : cfg0.N = 4 := N_0; omega⟩
abbrev depOf (t : Fin cfg0.N) (k : Fin 1024) : Fin 1024 :=
  ⟨(t.val % 1) * 1024 + k.val, by have := t.isLt; have hN : cfg0.N = 4 := N_0; omega⟩

theorem a_at (t : Fin cfg0.N) (a : Fin 1024) (k : Fin 1024) : iblk m c 0 t (ix2 a k) = aA m c (ix2 (rowOf t a) (depOf t k)) := by
  blk_ext [iblk, V, idx t]
theorem b_at (t : Fin cfg0.N) (k : Fin 1024) (b : Fin 1024) : iblk m c 1 t (ix2 k b) = aB m c (ix2 (depOf t k) (colOf t b)) := by
  blk_ext [iblk, V, idx t]

/-- The reference's result at an index. -/
theorem ref_at (A : Vec Ideal S4096x1024 .bf16) (B : Vec Ideal S1024x1024 .bf16) (r : Fin 4096) (q : Fin 1024) :
    val_main_v2 (F := Ideal) A B (ix2 r q) = (∑ k : Fin 1024, A (ix2 r k) * B (ix2 k q)) := by
  pointwise [val_main_v0, val_main_v1, val_main_v2]
  try simp only [mul_comm, add_comm]

theorem pay_at (t : Fin cfg0.N) (a : Fin 1024) (b : Fin 1024) :
    k0_pay1 (iblk m c 0 t) (iblk m c 1 t) (ix2 a b) = val_main_v2 (F := Ideal) (aA m c) (aB m c) (ix2 (rowOf t a) (colOf t b)) := by
  rw [ref_at]
  pointwise [k0_pay1]
  simp only [a_at, b_at]
  have hd : ∀ k : Fin 1024, depOf t k = ⟨k.val, by omega⟩ := fun k => Fin.ext (by simp [depOf, Nat.mod_one])
  simp only [hd]

theorem final : (dats m 0 c).arrAt 2 cfg0.N = val_main_v2 (F := Ideal) (aA m c) (aB m c) := by
  refine (dats m 0 c).arrAt_eq_of_covers 2 _ (by decide +kernel) fun t hf y => ?_
  have hy : (win0_2.blk t).view.emb y = ix2 (rowOf t (y 0)) (colOf t (y 1)) := by blk_ext [idx t]
  have hp := pay_at m c t (y 0) (y 1)
  rw [after0_2]
  frame_out
  exact (congrArg _ (eq_ix2 y)).trans (hp.trans (congrArg _ hy.symm))

end Cert.EvenInIdeal.RefValue

namespace Cert.Proof.EvenIn

/-- At `Ideal` the kernel's result array and the reference's agree. -/
theorem algebraic : Cert.algebraic_EvenInIdeal_EvenInRefIdeal := by
  pair_intro
  · run_from Cert.EvenInIdeal.Value.run_blocks m g
  · run_from Cert.EvenInRefIdeal.Value.run m' g'
    rw [Cert.EvenInIdeal.RefValue.final m c]
    exact Cert.EvenInRefIdeal.Read.val_main_v2_eq (F := Ideal) _ _

end Cert.Proof.EvenIn

end
-- ==== Proof.EvenInTailValue.lean ====
/- `EvenInTail`: a projection, 4096 x 128 by a depth of 1024 in one piece. The kernel's result array after its 4 grid points is the reference's
   product. -/
module

public import proofs.«01_k».proof.Defs
public import proofs.«01_k».proof.Proof.Gen.EvenInTailIdeal.Value
public import proofs.«01_k».proof.Proof.Gen.EvenInTailRefIdeal.Run
public import proofs.«01_k».proof.Proof.Gen.EvenInTailRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.EvenInTailIdeal.RefValue

open Cert.EvenInTailIdeal Cert.EvenInTailIdeal.Gen Cert.EvenInTailIdeal.Value Cert.EvenInTailRefIdeal.Read

variable (m : (ℓ : Loc nD τ sig) → Buf (Elt Ideal) ℓ) (c : Dev nD)

abbrev aA : Vec Ideal S4096x1024 .bf16 := m ((c : Thread nD τ).loc main_arg0)
abbrev aB : Vec Ideal S1024x128 .bf16 := m ((c : Thread nD τ).loc main_arg1)

/-- Every window's block index at every point (decided). -/
theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

/-- The array's row, column and depth of a block's. -/
abbrev rowOf (t : Fin cfg0.N) (a : Fin 1024) : Fin 4096 :=
  ⟨(t.val / 1) * 1024 + a.val, by have := t.isLt; have hN : cfg0.N = 4 := N_0; omega⟩
abbrev colOf (t : Fin cfg0.N) (b : Fin 128) : Fin 128 :=
  ⟨(t.val / 1 % 1) * 128 + b.val, by have := t.isLt; have hN : cfg0.N = 4 := N_0; omega⟩
abbrev depOf (t : Fin cfg0.N) (k : Fin 1024) : Fin 1024 :=
  ⟨(t.val % 1) * 1024 + k.val, by have := t.isLt; have hN : cfg0.N = 4 := N_0; omega⟩

theorem a_at (t : Fin cfg0.N) (a : Fin 1024) (k : Fin 1024) : iblk m c 0 t (ix2 a k) = aA m c (ix2 (rowOf t a) (depOf t k)) := by
  blk_ext [iblk, V, idx t]
theorem b_at (t : Fin cfg0.N) (k : Fin 1024) (b : Fin 128) : iblk m c 1 t (ix2 k b) = aB m c (ix2 (depOf t k) (colOf t b)) := by
  blk_ext [iblk, V, idx t]

/-- The reference's result at an index. -/
theorem ref_at (A : Vec Ideal S4096x1024 .bf16) (B : Vec Ideal S1024x128 .bf16) (r : Fin 4096) (q : Fin 128) :
    val_main_v2 (F := Ideal) A B (ix2 r q) = (∑ k : Fin 1024, A (ix2 r k) * B (ix2 k q)) := by
  pointwise [val_main_v0, val_main_v1, val_main_v2]
  try simp only [mul_comm, add_comm]

theorem pay_at (t : Fin cfg0.N) (a : Fin 1024) (b : Fin 128) :
    k0_pay1 (iblk m c 0 t) (iblk m c 1 t) (ix2 a b) = val_main_v2 (F := Ideal) (aA m c) (aB m c) (ix2 (rowOf t a) (colOf t b)) := by
  rw [ref_at]
  pointwise [k0_pay1]
  simp only [a_at, b_at]
  have hd : ∀ k : Fin 1024, depOf t k = ⟨k.val, by omega⟩ := fun k => Fin.ext (by simp [depOf, Nat.mod_one])
  simp only [hd]

theorem final : (dats m 0 c).arrAt 2 cfg0.N = val_main_v2 (F := Ideal) (aA m c) (aB m c) := by
  refine (dats m 0 c).arrAt_eq_of_covers 2 _ (by decide +kernel) fun t hf y => ?_
  have hy : (win0_2.blk t).view.emb y = ix2 (rowOf t (y 0)) (colOf t (y 1)) := by blk_ext [idx t]
  have hp := pay_at m c t (y 0) (y 1)
  rw [after0_2]
  frame_out
  exact (congrArg _ (eq_ix2 y)).trans (hp.trans (congrArg _ hy.symm))

end Cert.EvenInTailIdeal.RefValue

namespace Cert.Proof.EvenInTail

/-- At `Ideal` the kernel's result array and the reference's agree. -/
theorem algebraic : Cert.algebraic_EvenInTailIdeal_EvenInTailRefIdeal := by
  pair_intro
  · run_from Cert.EvenInTailIdeal.Value.run_blocks m g
  · run_from Cert.EvenInTailRefIdeal.Value.run m' g'
    rw [Cert.EvenInTailIdeal.RefValue.final m c]
    exact Cert.EvenInTailRefIdeal.Read.val_main_v2_eq (F := Ideal) _ _

end Cert.Proof.EvenInTail

end
-- ==== Proof.EvenOutBValue.lean ====
/- `EvenOutB`: a projection, 4096 x 1024 by a depth of 1024 in one piece. The kernel's result array after its 4 grid points is the reference's
   product with the scaled array added. -/
module

public import proofs.«01_k».proof.Defs
public import proofs.«01_k».proof.Proof.Gen.EvenOutBIdeal.Value
public import proofs.«01_k».proof.Proof.Gen.EvenOutBRefIdeal.Run
public import proofs.«01_k».proof.Proof.Gen.EvenOutBRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.EvenOutBIdeal.RefValue

open Cert.EvenOutBIdeal Cert.EvenOutBIdeal.Gen Cert.EvenOutBIdeal.Value Cert.EvenOutBRefIdeal.Read

variable (m : (ℓ : Loc nD τ sig) → Buf (Elt Ideal) ℓ) (c : Dev nD)

abbrev aA : Vec Ideal S4096x1024 .bf16 := m ((c : Thread nD τ).loc main_arg0)
abbrev aB : Vec Ideal S1024x1024 .bf16 := m ((c : Thread nD τ).loc main_arg1)
abbrev aD : Vec Ideal S4096x1024 .f32 := m ((c : Thread nD τ).loc main_arg2)

/-- Every window's block index at every point (decided). -/
theorem idx : ∀ t : Fin cfg0.N, win0_0.index t = ![t.val / 1, t.val % 1] ∧ win0_1.index t = ![t.val % 1, t.val / 1 % 1]
    ∧ win0_2.index t = ![t.val / 1, t.val / 1 % 1]
    ∧ win0_3.index t = ![t.val / 1, t.val / 1 % 1] :=
  (by decide +kernel : ∀ t : Fin grid0.N, _)

/-- The array's row, column and depth of a block's. -/
abbrev rowOf (t : Fin cfg0.N) (a : Fin 1024) : Fin 4096 :=
  ⟨(t.val / 1) * 1024 + a.val, by have := t.isLt; have hN : cfg0.N = 4 := N_0; omega⟩
abbrev colOf (t : Fin cfg0.N) (b : Fin 1024) : Fin 1024 :=
  ⟨(t.val / 1 % 1) * 1024 + b.val, by have := t.isLt; have hN : cfg0.N = 4 := N_0; omega⟩
abbrev depOf (t : Fin cfg0.N) (k : Fin 1024) : Fin 1024 :=
  ⟨(t.val % 1) * 1024 + k.val, by have := t.isLt; have hN : cfg0.N = 4 := N_0; omega⟩

theorem a_at (t : Fin cfg0.N) (a : Fin 1024) (k : Fin 1024) : iblk m c 0 t (ix2 a k) = aA m c (ix2 (rowOf t a) (depOf t k)) := by
  blk_ext [iblk, V, idx t]
theorem b_at (t : Fin cfg0.N) (k : Fin 1024) (b : Fin 1024) : iblk m c 1 t (ix2 k b) = aB m c (ix2 (depOf t k) (colOf t b)) := by
  blk_ext [iblk, V, idx t]
theorem d_at (t : Fin cfg0.N) (a : Fin 1024) (b : Fin 1024) : iblk m c 2 t (ix2 a b) = aD m c (ix2 (rowOf t a) (colOf t b)) := by
  blk_ext [iblk, V, idx t]

/-- The reference's result at an index. -/
theorem ref_at (A : Vec Ideal S4096x1024 .bf16) (B : Vec Ideal S1024x1024 .bf16) (D : Vec Ideal S4096x1024 .f32) (r : Fin 4096) (q : Fin 1024) :
    val_main_v3 (F := Ideal) A B D (ix2 r q) = (∑ k : Fin 1024, A (ix2 r k) * B (ix2 k q)) + D (ix2 r q) := by
  pointwise [val_main_v0, val_main_v1, val_main_v2, val_main_v3]
  try simp only [mul_comm, add_comm]

theorem pay_at (t : Fin cfg0.N) (a : Fin 1024) (b : Fin 1024) :
    k0_pay1 (iblk m c 0 t) (iblk m c 1 t) (iblk m c 2 t) (ix2 a b) = val_main_v3 (F := Ideal) (aA m c) (aB m c) (aD m c) (ix2 (rowOf t a) (colOf t b)) := by
  rw [ref_at]
  pointwise [k0_pay1]
  simp only [a_at, b_at, d_at]
  have hd : ∀ k : Fin 1024, depOf t k = ⟨k.val, by omega⟩ := fun k => Fin.ext (by simp [depOf, Nat.mod_one])
  simp only [hd]

theorem final : (dats m 0 c).arrAt 3 cfg0.N = val_main_v3 (F := Ideal) (aA m c) (aB m c) (aD m c) := by
  refine (dats m 0 c).arrAt_eq_of_covers 3 _ (by decide +kernel) fun t hf y => ?_
  have hy : (win0_3.blk t).view.emb y = ix2 (rowOf t (y 0)) (colOf t (y 1)) := by blk_ext [idx t]
  have hp := pay_at m c t (y 0) (y 1)
  rw [after0_3]
  frame_out
  exact (congrArg _ (eq_ix2 y)).trans (hp.trans (congrArg _ hy.symm))

end Cert.EvenOutBIdeal.RefValue

namespace Cert.Proof.EvenOutB

/-- At `Ideal` the kernel's result array and the reference's agree. -/
theorem algebraic : Cert.algebraic_EvenOutBIdeal_EvenOutBRefIdeal := by
  pair_intro
  · run_from Cert.EvenOutBIdeal.Value.run_blocks m g
  · run_from Cert.EvenOutBRefIdeal.Value.run m' g'
    rw [Cert.EvenOutBIdeal.RefValue.final m c]
    exact Cert.EvenOutBRefIdeal.Read.val_main_v3_eq (F := Ideal) _ _ _

end Cert.Proof.EvenOutB

end
-- ==== Proof.AdamOutValue.lean ====
/- `AdamOut`: the Adam step of arrays of shape 1x512x1024. Each of the kernel's three result arrays is the reference's. -/
module

public import proofs.«01_k».proof.Defs
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamOutIdeal.RefValue

open Cert.AdamOutIdeal Cert.AdamOutIdeal.Gen Cert.AdamOutIdeal.Value Cert.AdamOutRefIdeal.Read

theorem delta_eq (w g mm v : Vec Ideal S1x512x1024 .f32) : G4 (F := Ideal) g mm v w = val_main_v23 (F := Ideal) w g mm v := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem mean_eq (g mm : Vec Ideal S1x512x1024 .f32) : G5 (F := Ideal) g mm = val_main_v4 (F := Ideal) g mm := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem square_eq (g v : Vec Ideal S1x512x1024 .f32) : G6 (F := Ideal) g v = val_main_v10 (F := Ideal) g v := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

end Cert.AdamOutIdeal.RefValue

namespace Cert.Proof.AdamOut

/-- At `Ideal` the kernel's three result arrays and the reference's agree. -/
theorem algebraic : Cert.algebraic_AdamOutIdeal_AdamOutRefIdeal := by
  pair_intro
  · run_from Cert.AdamOutIdeal.Value.run m g
  · run_from Cert.AdamOutRefIdeal.Value.run m' g'
    · exact (Cert.AdamOutRefIdeal.Read.val_main_v23_eq (F := Ideal) _ _ _ _).trans (Cert.AdamOutIdeal.RefValue.delta_eq _ _ _ _).symm
    · exact (Cert.AdamOutRefIdeal.Read.val_main_v4_eq (F := Ideal) _ _).trans (Cert.AdamOutIdeal.RefValue.mean_eq _ _).symm
    · exact (Cert.AdamOutRefIdeal.Read.val_main_v10_eq (F := Ideal) _ _).trans (Cert.AdamOutIdeal.RefValue.square_eq _ _).symm

end Cert.Proof.AdamOut

end
-- ==== Proof.AdamInOddValue.lean ====
/- `AdamInOdd`: the Adam step of arrays of shape 1x1024x2048. Each of the kernel's three result arrays is the reference's. -/
module

public import proofs.«01_k».proof.Defs
public import proofs.«01_k».proof.Proof.Gen.AdamInOddIdeal.Value
public import proofs.«01_k».proof.Proof.Gen.AdamInOddRefIdeal.Run
public import proofs.«01_k».proof.Proof.Gen.AdamInOddRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamInOddIdeal.RefValue

open Cert.AdamInOddIdeal Cert.AdamInOddIdeal.Gen Cert.AdamInOddIdeal.Value Cert.AdamInOddRefIdeal.Read

theorem delta_eq (w g mm v : Vec Ideal S1x1024x2048 .f32) : G4 (F := Ideal) g mm v w = val_main_v23 (F := Ideal) w g mm v := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem mean_eq (g mm : Vec Ideal S1x1024x2048 .f32) : G5 (F := Ideal) g mm = val_main_v4 (F := Ideal) g mm := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem square_eq (g v : Vec Ideal S1x1024x2048 .f32) : G6 (F := Ideal) g v = val_main_v10 (F := Ideal) g v := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

end Cert.AdamInOddIdeal.RefValue

namespace Cert.Proof.AdamInOdd

/-- At `Ideal` the kernel's three result arrays and the reference's agree. -/
theorem algebraic : Cert.algebraic_AdamInOddIdeal_AdamInOddRefIdeal := by
  pair_intro
  · run_from Cert.AdamInOddIdeal.Value.run m g
  · run_from Cert.AdamInOddRefIdeal.Value.run m' g'
    · exact (Cert.AdamInOddRefIdeal.Read.val_main_v23_eq (F := Ideal) _ _ _ _).trans (Cert.AdamInOddIdeal.RefValue.delta_eq _ _ _ _).symm
    · exact (Cert.AdamInOddRefIdeal.Read.val_main_v4_eq (F := Ideal) _ _).trans (Cert.AdamInOddIdeal.RefValue.mean_eq _ _).symm
    · exact (Cert.AdamInOddRefIdeal.Read.val_main_v10_eq (F := Ideal) _ _).trans (Cert.AdamInOddIdeal.RefValue.square_eq _ _).symm

end Cert.Proof.AdamInOdd

end
-- ==== Proof.AdamPlValue.lean ====
/- `AdamPl`: the Adam step of arrays of shape 2x256x256. Each of the kernel's three result arrays is the reference's. -/
module

public import proofs.«01_k».proof.Defs
public import proofs.«01_k».proof.Proof.Gen.AdamPlIdeal.Value
public import proofs.«01_k».proof.Proof.Gen.AdamPlRefIdeal.Run
public import proofs.«01_k».proof.Proof.Gen.AdamPlRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamPlIdeal.RefValue

open Cert.AdamPlIdeal Cert.AdamPlIdeal.Gen Cert.AdamPlIdeal.Value Cert.AdamPlRefIdeal.Read

theorem delta_eq (w g mm v : Vec Ideal S2x256x256 .f32) : G4 (F := Ideal) g mm v w = val_main_v23 (F := Ideal) w g mm v := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem mean_eq (g mm : Vec Ideal S2x256x256 .f32) : G5 (F := Ideal) g mm = val_main_v4 (F := Ideal) g mm := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem square_eq (g v : Vec Ideal S2x256x256 .f32) : G6 (F := Ideal) g v = val_main_v10 (F := Ideal) g v := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

end Cert.AdamPlIdeal.RefValue

namespace Cert.Proof.AdamPl

/-- At `Ideal` the kernel's three result arrays and the reference's agree. -/
theorem algebraic : Cert.algebraic_AdamPlIdeal_AdamPlRefIdeal := by
  pair_intro
  · run_from Cert.AdamPlIdeal.Value.run m g
  · run_from Cert.AdamPlRefIdeal.Value.run m' g'
    · exact (Cert.AdamPlRefIdeal.Read.val_main_v23_eq (F := Ideal) _ _ _ _).trans (Cert.AdamPlIdeal.RefValue.delta_eq _ _ _ _).symm
    · exact (Cert.AdamPlRefIdeal.Read.val_main_v4_eq (F := Ideal) _ _).trans (Cert.AdamPlIdeal.RefValue.mean_eq _ _).symm
    · exact (Cert.AdamPlRefIdeal.Read.val_main_v10_eq (F := Ideal) _ _).trans (Cert.AdamPlIdeal.RefValue.square_eq _ _).symm

end Cert.Proof.AdamPl

end
-- ==== Proof.AdamPlGateValue.lean ====
/- `AdamPlGate`: the Adam step of arrays of shape 2x256x1024. Each of the kernel's three result arrays is the reference's. -/
module

public import proofs.«01_k».proof.Defs
public import proofs.«01_k».proof.Proof.Gen.AdamPlGateIdeal.Value
public import proofs.«01_k».proof.Proof.Gen.AdamPlGateRefIdeal.Run
public import proofs.«01_k».proof.Proof.Gen.AdamPlGateRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamPlGateIdeal.RefValue

open Cert.AdamPlGateIdeal Cert.AdamPlGateIdeal.Gen Cert.AdamPlGateIdeal.Value Cert.AdamPlGateRefIdeal.Read

theorem delta_eq (w g mm v : Vec Ideal S2x256x1024 .f32) : G4 (F := Ideal) g mm v w = val_main_v23 (F := Ideal) w g mm v := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem mean_eq (g mm : Vec Ideal S2x256x1024 .f32) : G5 (F := Ideal) g mm = val_main_v4 (F := Ideal) g mm := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem square_eq (g v : Vec Ideal S2x256x1024 .f32) : G6 (F := Ideal) g v = val_main_v10 (F := Ideal) g v := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

end Cert.AdamPlGateIdeal.RefValue

namespace Cert.Proof.AdamPlGate

/-- At `Ideal` the kernel's three result arrays and the reference's agree. -/
theorem algebraic : Cert.algebraic_AdamPlGateIdeal_AdamPlGateRefIdeal := by
  pair_intro
  · run_from Cert.AdamPlGateIdeal.Value.run m g
  · run_from Cert.AdamPlGateRefIdeal.Value.run m' g'
    · exact (Cert.AdamPlGateRefIdeal.Read.val_main_v23_eq (F := Ideal) _ _ _ _).trans (Cert.AdamPlGateIdeal.RefValue.delta_eq _ _ _ _).symm
    · exact (Cert.AdamPlGateRefIdeal.Read.val_main_v4_eq (F := Ideal) _ _).trans (Cert.AdamPlGateIdeal.RefValue.mean_eq _ _).symm
    · exact (Cert.AdamPlGateRefIdeal.Read.val_main_v10_eq (F := Ideal) _ _).trans (Cert.AdamPlGateIdeal.RefValue.square_eq _ _).symm

end Cert.Proof.AdamPlGate

end
-- ==== Proof.AdamInEvenValue.lean ====
/- `AdamInEven`: the Adam step of arrays of shape 1x2052x1024. Each of the kernel's three result arrays is the reference's. -/
module

public import proofs.«01_k».proof.Defs
public import proofs.«01_k».proof.Proof.Gen.AdamInEvenIdeal.Value
public import proofs.«01_k».proof.Proof.Gen.AdamInEvenRefIdeal.Run
public import proofs.«01_k».proof.Proof.Gen.AdamInEvenRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamInEvenIdeal.RefValue

open Cert.AdamInEvenIdeal Cert.AdamInEvenIdeal.Gen Cert.AdamInEvenIdeal.Value Cert.AdamInEvenRefIdeal.Read

theorem delta_eq (w g mm v : Vec Ideal S1x2052x1024 .f32) : G4 (F := Ideal) g mm v w = val_main_v23 (F := Ideal) w g mm v := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem mean_eq (g mm : Vec Ideal S1x2052x1024 .f32) : G5 (F := Ideal) g mm = val_main_v4 (F := Ideal) g mm := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem square_eq (g v : Vec Ideal S1x2052x1024 .f32) : G6 (F := Ideal) g v = val_main_v10 (F := Ideal) g v := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

end Cert.AdamInEvenIdeal.RefValue

namespace Cert.Proof.AdamInEven

/-- At `Ideal` the kernel's three result arrays and the reference's agree. -/
theorem algebraic : Cert.algebraic_AdamInEvenIdeal_AdamInEvenRefIdeal := by
  pair_intro
  · run_from Cert.AdamInEvenIdeal.Value.run m g
  · run_from Cert.AdamInEvenRefIdeal.Value.run m' g'
    · exact (Cert.AdamInEvenRefIdeal.Read.val_main_v23_eq (F := Ideal) _ _ _ _).trans (Cert.AdamInEvenIdeal.RefValue.delta_eq _ _ _ _).symm
    · exact (Cert.AdamInEvenRefIdeal.Read.val_main_v4_eq (F := Ideal) _ _).trans (Cert.AdamInEvenIdeal.RefValue.mean_eq _ _).symm
    · exact (Cert.AdamInEvenRefIdeal.Read.val_main_v10_eq (F := Ideal) _ _).trans (Cert.AdamInEvenIdeal.RefValue.square_eq _ _).symm

end Cert.Proof.AdamInEven

end
-- ==== Proof.AdamSmallValue.lean ====
/- `AdamSmall`: the Adam step of arrays of shape 1x104x128. Each of the kernel's three result arrays is the reference's. -/
module

public import proofs.«01_k».proof.Defs
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamSmallIdeal.RefValue

open Cert.AdamSmallIdeal Cert.AdamSmallIdeal.Gen Cert.AdamSmallIdeal.Value Cert.AdamSmallRefIdeal.Read

theorem delta_eq (w g mm v : Vec Ideal S1x104x128 .f32) : G4 (F := Ideal) g mm v w = val_main_v23 (F := Ideal) w g mm v := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem mean_eq (g mm : Vec Ideal S1x104x128 .f32) : G5 (F := Ideal) g mm = val_main_v4 (F := Ideal) g mm := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem square_eq (g v : Vec Ideal S1x104x128 .f32) : G6 (F := Ideal) g v = val_main_v10 (F := Ideal) g v := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

end Cert.AdamSmallIdeal.RefValue

namespace Cert.Proof.AdamSmall

/-- At `Ideal` the kernel's three result arrays and the reference's agree. -/
theorem algebraic : Cert.algebraic_AdamSmallIdeal_AdamSmallRefIdeal := by
  pair_intro
  · run_from Cert.AdamSmallIdeal.Value.run m g
  · run_from Cert.AdamSmallRefIdeal.Value.run m' g'
    · exact (Cert.AdamSmallRefIdeal.Read.val_main_v23_eq (F := Ideal) _ _ _ _).trans (Cert.AdamSmallIdeal.RefValue.delta_eq _ _ _ _).symm
    · exact (Cert.AdamSmallRefIdeal.Read.val_main_v4_eq (F := Ideal) _ _).trans (Cert.AdamSmallIdeal.RefValue.mean_eq _ _).symm
    · exact (Cert.AdamSmallRefIdeal.Read.val_main_v10_eq (F := Ideal) _ _).trans (Cert.AdamSmallIdeal.RefValue.square_eq _ _).symm

end Cert.Proof.AdamSmall

end
-- ==== Proof.ConvBwdQValue.lean ====
/- The convolution of the third part of the columns called q, backwards: the kernel's two result arrays after its
   sixteen grid points, and the claim that they are the reference's. A block of 256 rows is read with the eight rows
   before it and the eight after it; the weights' gradient is a sum over the blocks. -/
module

public import proofs.«01_k».proof.Defs
public import proofs.«01_k».proof.Proof.Gen.ConvBwdQIdeal.Value
public import proofs.«01_k».proof.Proof.Gen.ConvBwdQRefIdeal.Run
public import proofs.«01_k».proof.Proof.Gen.ConvBwdQRefIdeal.Read
public import Idealize.ShloMosaic.Lib.Pipeline.ValueKit
public import Idealize.ShloMosaic.Lib.Claim
public import Idealize.ShloMosaic.Lib.WritesUnit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvBwdQIdeal.RefValue

open Cert.ConvBwdQIdeal Cert.ConvBwdQIdeal.Gen Cert.ConvBwdQIdeal.Value Cert.ConvBwdQRefIdeal.Read

section Stages

variable (X : Vec Ideal S4096x3072 .f32) (W : Vec Ideal S4x3072 .f32) (A : Vec Ideal S4096x1024 .f32)

/-- Column `l` of this third of the columns. -/
abbrev colOf (l : Fin 1024) : Fin 3072 := ⟨0 + l.val, by have := l.isLt; omega⟩

theorem col_eq (l : Fin 1024) (h : l.val < 3072) : (⟨l.val, h⟩ : Fin 3072) = colOf l := Fin.ext (by simp)

/-- The rows with three zero rows before them. -/
def Before (n : ℕ) (l : Fin 1024) : EReal := if h : n < 4099 then val_main_v3 (F := Ideal) X (ix2 ⟨n, h⟩ l) else 0

/-- The gradient of the convolution's result, zero past the last row. -/
def DConv (n : ℕ) (l : Fin 1024) : EReal := if h : n < 4096 then val_main_v38 (F := Ideal) X W A (ix2 ⟨n, h⟩ l) else 0

theorem before_row (n : ℕ) (l : Fin 1024) (hn : n < 4096) : Before X (n + 3) l = X (ix2 ⟨n, hn⟩ (colOf l)) := by
  rw [Before, dif_pos (by omega)]
  pointwise [val_main_v3, val_main_v0]
  rw [dif_neg (by omega)]
  exact congrArg X (by ext1; simp [colOf])

theorem before_zero (n : ℕ) (l : Fin 1024) (hn : n < 3) : Before X n l = 0 := by
  rw [Before, dif_pos (by omega)]
  pointwise [val_main_v3, val_main_v2, val_main_cst]
  rw [dif_pos hn]

theorem dconv_ref (R : Fin 4096) (l : Fin 1024) : DConv X W A R.val l = val_main_v38 (F := Ideal) X W A (ix2 R l) :=
  dif_pos R.isLt

theorem conv_ref (R : Fin 4096) (l : Fin 1024) : val_main_v25 (F := Ideal) X W (ix2 R l)
    = (W (ix2 0 (colOf l)) * Before X R.val l + W (ix2 1 (colOf l)) * Before X (R.val + 1) l
      + W (ix2 2 (colOf l)) * Before X (R.val + 2) l + W (ix2 3 (colOf l)) * Before X (R.val + 3) l : EReal) := by
  rw [Before, Before, Before, Before, dif_pos (by omega), dif_pos (by omega), dif_pos (by omega), dif_pos (by omega)]
  pointwise [val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v1, val_main_cst_1]
  simp only [add_comm (R.val), col_eq]

/-- A padded term of the rows' gradient. -/
theorem padded (w : EReal) (n k : ℕ) (l : Fin 1024) (p : Prop) [Decidable p] (hp : p ↔ k < 4096) (hn : p → n < 4096) (hk : p → n = k) :
    (if h : p then w * val_main_v38 (F := Ideal) X W A (ix2 ⟨n, hn h⟩ l) else (0 : EReal)) = w * DConv X W A k l := by
  by_cases h : p
  · rw [dif_pos h, DConv, dif_pos (hp.mp h)]
    exact congrArg (fun a => w * val_main_v38 (F := Ideal) X W A (ix2 a l)) (Fin.ext (hk h))
  · rw [dif_neg h, DConv, dif_neg (fun g => h (hp.mpr g))]
    exact (mul_zero (M₀ := EReal) _).symm

theorem add_rev (a b d e : EReal) : a + b + d + e = e + d + b + a := by ac_rfl

theorem du_ref (R : Fin 4096) (l : Fin 1024) : val_main_v75 (F := Ideal) X W A (ix2 R l)
    = (W (ix2 0 (colOf l)) * DConv X W A (R.val + 3) l + W (ix2 1 (colOf l)) * DConv X W A (R.val + 2) l
      + W (ix2 2 (colOf l)) * DConv X W A (R.val + 1) l + W (ix2 3 (colOf l)) * DConv X W A R.val l : EReal) := by
  have hR := R.isLt
  rw [dconv_ref]
  pointwise [val_main_v75, val_main_v74, val_main_v70, val_main_v69, val_main_v65, val_main_v64, val_main_v61, val_main_v60,
    val_main_v56, val_main_v55, val_main_v52, val_main_v51, val_main_v47, val_main_v46, val_main_v44, val_main_v40, val_main_v39,
    val_main_v21, val_main_v16, val_main_v11, val_main_v5, val_main_v1, val_main_cst_10, val_main_cst_13, val_main_cst_16]
  simp only [col_eq]
  refine (congrArg₂ (fun a b : EReal => a + b) (congrArg₂ (fun a b : EReal => a + b) (congrArg₂ (fun a b : EReal => a + b) rfl
    (padded X W A _ _ (R.val + 1) l _ ?_ ?_ ?_)) (padded X W A _ _ (R.val + 2) l _ ?_ ?_ ?_)) (padded X W A _ _ (R.val + 3) l _ ?_ ?_ ?_)).trans ?_
  any_goals omega
  exact add_rev _ _ _ _

theorem dw_ref0 (l : Fin 1024) : val_main_v76 (F := Ideal) X W A (ix2 0 l)
    = (∑ R : Fin 4096, DConv X W A R.val l * Before X (R.val + 0) l : EReal) := by
  pointwise [val_main_v76, val_main_v72, val_main_v71, val_main_v63, val_main_v62, val_main_v54, val_main_v53, val_main_v45,
    val_main_v68, val_main_v67, val_main_v66, val_main_v6, val_main_cst_8, val_main_cst_11,
    val_main_cst_14, val_main_cst_17, val_main_cst_7, val_main_cst_9, val_main_cst_12, val_main_cst_15, val_main_cst_6]
  refine Finset.sum_congr rfl fun R _ => ?_
  have hR := R.isLt
  rw [dconv_ref, Before, dif_pos (by omega)]
  try simp only [add_comm (R.val)]

theorem dw_ref1 (l : Fin 1024) : val_main_v76 (F := Ideal) X W A (ix2 1 l)
    = (∑ R : Fin 4096, DConv X W A R.val l * Before X (R.val + 1) l : EReal) := by
  pointwise [val_main_v76, val_main_v72, val_main_v71, val_main_v63, val_main_v62, val_main_v54, val_main_v53, val_main_v45,
    val_main_v59, val_main_v58, val_main_v57, val_main_v12, val_main_cst_8, val_main_cst_11,
    val_main_cst_14, val_main_cst_17, val_main_cst_7, val_main_cst_9, val_main_cst_12, val_main_cst_15, val_main_cst_6]
  refine Finset.sum_congr rfl fun R _ => ?_
  have hR := R.isLt
  rw [dconv_ref, Before, dif_pos (by omega)]
  try simp only [add_comm (R.val)]

theorem dw_ref2 (l : Fin 1024) : val_main_v76 (F := Ideal) X W A (ix2 2 l)
    = (∑ R : Fin 4096, DConv X W A R.val l * Before X (R.val + 2) l : EReal) := by
  pointwise [val_main_v76, val_main_v72, val_main_v71, val_main_v63, val_main_v62, val_main_v54, val_main_v53, val_main_v45,
    val_main_v50, val_main_v49, val_main_v48, val_main_v17, val_main_cst_8, val_main_cst_11,
    val_main_cst_14, val_main_cst_17, val_main_cst_7, val_main_cst_9, val_main_cst_12, val_main_cst_15, val_main_cst_6]
  refine Finset.sum_congr rfl fun R _ => ?_
  have hR := R.isLt
  rw [dconv_ref, Before, dif_pos (by omega)]
  try simp only [add_comm (R.val)]

theorem dw_ref3 (l : Fin 1024) : val_main_v76 (F := Ideal) X W A (ix2 3 l)
    = (∑ R : Fin 4096, DConv X W A R.val l * Before X (R.val + 3) l : EReal) := by
  pointwise [val_main_v76, val_main_v72, val_main_v71, val_main_v63, val_main_v62, val_main_v54, val_main_v53, val_main_v45,
    val_main_v43, val_main_v42, val_main_v41, val_main_v22, val_main_cst_8, val_main_cst_11,
    val_main_cst_14, val_main_cst_17, val_main_cst_7, val_main_cst_9, val_main_cst_12, val_main_cst_15, val_main_cst_6]
  refine Finset.sum_congr rfl fun R _ => ?_
  have hR := R.isLt
  rw [dconv_ref, Before, dif_pos (by omega)]
  try simp only [add_comm (R.val)]

theorem dw_ref4 (a : Fin 8) (h : ¬ a.val < 4) (l : Fin 1024) : val_main_v76 (F := Ideal) X W A (ix2 a l) = (0 : EReal) := by
  pointwise [val_main_v76, val_main_call0_v0, val_main_c]
  rw [dif_neg h]
  exact (congrArg (fun r : ℝ => (r : EReal)) (Int.cast_zero (R := ℝ))).trans EReal.coe_zero

/-- Block `t`'s rows and the eight rows before and after them, of the whole arrays. -/
structure Tile (t : ℕ) (i : grid0.Coords) (cur : Vec Ideal S256x1024 .f32) (prev nxt : Vec Ideal S8x1024 .f32) (w : Vec Ideal S4x1024 .f32)
    (da : Vec Ideal S256x1024 .f32) (dan : Vec Ideal S8x1024 .f32) : Prop where
  lt : t < 16
  hi : (i 0).val = t
  hcur : ∀ (r : Fin 256) (l : Fin 1024), cur (ix2 r l) = X (ix2 ⟨t * 256 + r.val, by have := r.isLt; omega⟩ (colOf l))
  hprev : ∀ (h : 0 < t) (r : Fin 8) (l : Fin 1024), prev (ix2 r l) = X (ix2 ⟨t * 256 - 8 + r.val, by have := r.isLt; omega⟩ (colOf l))
  hnxt : ∀ (h : t < 15) (r : Fin 8) (l : Fin 1024), nxt (ix2 r l) = X (ix2 ⟨t * 256 + 256 + r.val, by have := r.isLt; omega⟩ (colOf l))
  hw : ∀ (k : Fin 4) (l : Fin 1024), w (ix2 k l) = W (ix2 k (colOf l))
  hda : ∀ (r : Fin 256) (l : Fin 1024), da (ix2 r l) = A (ix2 ⟨t * 256 + r.val, by have := r.isLt; omega⟩ l)
  hdan : ∀ (h : t < 15) (r : Fin 8) (l : Fin 1024), dan (ix2 r l) = A (ix2 ⟨t * 256 + 256 + r.val, by have := r.isLt; omega⟩ l)

variable {X W A}
variable {t : ℕ} {i : grid0.Coords} {cur da : Vec Ideal S256x1024 .f32} {prev nxt dan : Vec Ideal S8x1024 .f32} {w : Vec Ideal S4x1024 .f32}

theorem sel_gt {α : Type} : ∀ (t : ℕ) (_ : t < 16) (a b : α), Scalar.select (Scalar.cmpi .sgt (BitVec.ofNat 32 t) 0#32) a b = if 0 < t then a else b := by
  intro t h a b
  interval_cases t <;> rfl

theorem sel_lt {α : Type} : ∀ (t : ℕ) (_ : t < 16) (a b : α), Scalar.select (Scalar.cmpi .slt (BitVec.ofNat 32 t) 15#32) a b = if t < 15 then a else b := by
  intro t h a b
  interval_cases t <;> rfl

theorem ext_at (T : Tile X W A t i cur prev nxt w da dan) (e : Fin 272) (l : Fin 1024) (h5 : 5 ≤ e.val) (hlt : t * 256 + e.val < 4104) :
    k0_pay2 (F := Ideal) i prev cur nxt (ix2 e l) = Before X (t * 256 + (e.val - 5)) l := by
  pointwise [k0_pay2]
  rw [T.hi]
  have he := e.isLt
  by_cases h : e.val < 8
  · rw [dif_pos h, sel_gt _ T.lt]
    by_cases h0 : 0 < t
    · rw [if_pos h0, T.hprev h0, show t * 256 + (e.val - 5) = (t * 256 - 8 + e.val) + 3 by omega, before_row _ _ _ (by have := T.lt; omega)]
    · rw [if_neg h0, before_zero _ _ _ (by omega)]
  · rw [dif_neg h]
    by_cases h2 : e.val - 8 < 256
    · rw [dif_pos h2, T.hcur, show t * 256 + (e.val - 5) = (t * 256 + (e.val - 8)) + 3 by omega, before_row]
    · rw [dif_neg h2, T.hnxt (by omega), show t * 256 + (e.val - 5) = (t * 256 + 256 + (e.val - 8 - 256)) + 3 by omega, before_row]

theorem tap0 (T : Tile X W A t i cur prev nxt w da dan) (r : Fin 264) (l : Fin 1024) (hlt : t * 256 + r.val < 4096) :
    k0_pay3 (F := Ideal) i prev cur nxt (ix2 r l) = Before X (t * 256 + r.val) l := by
  pointwise [k0_pay3]
  rw [ext_at T _ _ (by simp only; omega) (by simp only; omega)]
  exact congrArg (Before X · l) (by simp only; omega)

theorem tap1 (T : Tile X W A t i cur prev nxt w da dan) (r : Fin 264) (l : Fin 1024) (hlt : t * 256 + r.val < 4096) :
    k0_pay4 (F := Ideal) i prev cur nxt (ix2 r l) = Before X (t * 256 + r.val + 1) l := by
  pointwise [k0_pay4]
  rw [ext_at T _ _ (by simp only; omega) (by simp only; omega)]
  exact congrArg (Before X · l) (by simp only; omega)

theorem tap2 (T : Tile X W A t i cur prev nxt w da dan) (r : Fin 264) (l : Fin 1024) (hlt : t * 256 + r.val < 4096) :
    k0_pay5 (F := Ideal) i prev cur nxt (ix2 r l) = Before X (t * 256 + r.val + 2) l := by
  pointwise [k0_pay5]
  rw [ext_at T _ _ (by simp only; omega) (by simp only; omega)]
  exact congrArg (Before X · l) (by simp only; omega)

theorem tap3 (T : Tile X W A t i cur prev nxt w da dan) (r : Fin 264) (l : Fin 1024) (hlt : t * 256 + r.val < 4096) :
    k0_pay6 (F := Ideal) i prev cur nxt (ix2 r l) = Before X (t * 256 + r.val + 3) l := by
  pointwise [k0_pay6]
  rw [ext_at T _ _ (by simp only; omega) (by simp only; omega)]
  exact congrArg (Before X · l) (by simp only; omega)

theorem conv_at (T : Tile X W A t i cur prev nxt w da dan) (r : Fin 264) (l : Fin 1024) (hlt : t * 256 + r.val < 4096) :
    k0_pay7 (F := Ideal) i w prev cur nxt (ix2 r l) = val_main_v25 (F := Ideal) X W (ix2 ⟨t * 256 + r.val, hlt⟩ l) := by
  rw [conv_ref]
  pointwise [k0_pay7]
  rw [tap0 T _ _ hlt, tap1 T _ _ hlt, tap2 T _ _ hlt, tap3 T _ _ hlt, T.hw, T.hw, T.hw, T.hw]

theorem da_at (T : Tile X W A t i cur prev nxt w da dan) (r : Fin 264) (l : Fin 1024) :
    k0_pay8 (F := Ideal) i da dan (ix2 r l) = if h : t * 256 + r.val < 4096 then A (ix2 ⟨t * 256 + r.val, h⟩ l) else (0 : EReal) := by
  have hr := r.isLt
  pointwise [k0_pay8]
  rw [T.hi]
  by_cases h : r.val < 256
  · rw [dif_pos h, T.hda, dif_pos]
  · rw [dif_neg h, sel_lt _ T.lt]
    by_cases h2 : t < 15
    · rw [if_pos h2, T.hdan h2, dif_pos (by omega)]
      exact congrArg (fun n => A (ix2 n l)) (Fin.ext (by simp only; omega))
    · rw [if_neg h2, dif_neg (by omega)]

/-- The gradient of the convolution's result, in block `t` and the eight rows after it. -/
abbrev dk (i : grid0.Coords) (cur : Vec Ideal S256x1024 .f32) (prev nxt : Vec Ideal S8x1024 .f32) (w : Vec Ideal S4x1024 .f32)
    (da : Vec Ideal S256x1024 .f32) (dan : Vec Ideal S8x1024 .f32) : Vec Ideal S264x1024 .f32 :=
  k0_pay11 (k0_pay7 i w prev cur nxt) (k0_pay8 i da dan) (k0_pay9 i w prev cur nxt) (k0_pay10 i w prev cur nxt)

theorem dconv_at (T : Tile X W A t i cur prev nxt w da dan) (r : Fin 264) (l : Fin 1024) :
    dk i cur prev nxt w da dan (ix2 r l) = DConv X W A (t * 256 + r.val) l := by
  rw [DConv]
  by_cases h : t * 256 + r.val < 4096
  · rw [dif_pos h]
    pointwise [dk, k0_pay11, k0_pay9, k0_pay10, val_main_v38, val_main_v37, val_main_v36, val_main_v35, val_main_v34, val_main_v33,
      val_main_v32, val_main_v31, val_main_v30, val_main_v29, val_main_v28, val_main_v27, val_main_v26, val_main_cst_2, val_main_cst_3,
      val_main_cst_4, val_main_cst_5]
    rw [da_at T, conv_at T _ _ h, dif_pos h]
    rfl
  · rw [dif_neg h]
    pointwise [dk, k0_pay11]
    rw [da_at T, dif_neg h]
    exact zero_mul (M₀ := EReal) _

theorem du_at (T : Tile X W A t i cur prev nxt w da dan) (r : Fin 256) (l : Fin 1024) (R : Fin 4096) (hR : R.val = t * 256 + r.val) :
    k0_pay12 (F := Ideal) w (k0_pay7 i w prev cur nxt) (k0_pay8 i da dan) (k0_pay9 i w prev cur nxt) (k0_pay10 i w prev cur nxt) (ix2 r l)
      = val_main_v75 (F := Ideal) X W A (ix2 R l) := by
  rw [du_ref, hR]
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay12]
  rw [e, e, e, e, T.hw, T.hw, T.hw, T.hw]
  have hr := r.isLt
  have a1 : (r.val + 264 - 261) % 264 = r.val + 3 := by omega
  have a2 : (r.val + 264 - 262) % 264 = r.val + 2 := by omega
  have a3 : (r.val + 264 - 263) % 264 = r.val + 1 := by omega
  simp only [a1, a2, a3, ← add_assoc]

theorem row0 (T : Tile X W A t i cur prev nxt w da dan) (l : Fin 1024) :
    k0_pay15 (F := Ideal) (k0_pay3 i prev cur nxt) (k0_pay7 i w prev cur nxt) (k0_pay8 i da dan) (k0_pay9 i w prev cur nxt) (k0_pay10 i w prev cur nxt) (ix2 0 l)
      = (∑ r : Fin 256, DConv X W A (t * 256 + r.val) l * Before X (t * 256 + r.val + 0) l : EReal) := by
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay15, k0_pay14]
  refine Finset.sum_congr rfl fun r _ => ?_
  rw [e, tap0 T _ _ (by have := r.isLt; have := T.lt; simp only; omega)]

theorem row1 (T : Tile X W A t i cur prev nxt w da dan) (l : Fin 1024) :
    k0_pay16 (F := Ideal) (k0_pay4 i prev cur nxt) (k0_pay7 i w prev cur nxt) (k0_pay8 i da dan) (k0_pay9 i w prev cur nxt) (k0_pay10 i w prev cur nxt) (ix2 0 l)
      = (∑ r : Fin 256, DConv X W A (t * 256 + r.val) l * Before X (t * 256 + r.val + 1) l : EReal) := by
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay16, k0_pay14]
  refine Finset.sum_congr rfl fun r _ => ?_
  rw [e, tap1 T _ _ (by have := r.isLt; have := T.lt; simp only; omega)]

theorem row2 (T : Tile X W A t i cur prev nxt w da dan) (l : Fin 1024) :
    k0_pay17 (F := Ideal) (k0_pay5 i prev cur nxt) (k0_pay7 i w prev cur nxt) (k0_pay8 i da dan) (k0_pay9 i w prev cur nxt) (k0_pay10 i w prev cur nxt) (ix2 0 l)
      = (∑ r : Fin 256, DConv X W A (t * 256 + r.val) l * Before X (t * 256 + r.val + 2) l : EReal) := by
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay17, k0_pay14]
  refine Finset.sum_congr rfl fun r _ => ?_
  rw [e, tap2 T _ _ (by have := r.isLt; have := T.lt; simp only; omega)]

theorem row3 (T : Tile X W A t i cur prev nxt w da dan) (l : Fin 1024) :
    k0_pay18 (F := Ideal) (k0_pay6 i prev cur nxt) (k0_pay7 i w prev cur nxt) (k0_pay8 i da dan) (k0_pay9 i w prev cur nxt) (k0_pay10 i w prev cur nxt) (ix2 0 l)
      = (∑ r : Fin 256, DConv X W A (t * 256 + r.val) l * Before X (t * 256 + r.val + 3) l : EReal) := by
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay18, k0_pay14]
  refine Finset.sum_congr rfl fun r _ => ?_
  rw [e, tap3 T _ _ (by have := r.isLt; have := T.lt; simp only; omega)]

theorem pay1_at (a b d e : Vec Ideal S1x1024 .f32) (z : Vec Ideal S4x1024 .f32) (k : Fin 4) (l : Fin 1024) :
    k0_pay1 (F := Ideal) a b d e z (ix2 k l) = (z (ix2 k l) + ![a (ix2 0 l), b (ix2 0 l), d (ix2 0 l), e (ix2 0 l)] k : EReal) := by
  pointwise [k0_pay1]
  refine congrArg (fun y : EReal => z (ix2 k l) + y) ?_
  match k with
  | ⟨0, _⟩ => rfl
  | ⟨1, _⟩ => rfl
  | ⟨2, _⟩ => rfl
  | ⟨3, _⟩ => rfl

theorem dw_add (T : Tile X W A t i cur prev nxt w da dan) (z : Vec Ideal S4x1024 .f32) (k : Fin 4) (l : Fin 1024) :
    k0_pay1 (F := Ideal)
      (k0_pay15 (k0_pay3 i prev cur nxt) (k0_pay7 i w prev cur nxt) (k0_pay8 i da dan) (k0_pay9 i w prev cur nxt) (k0_pay10 i w prev cur nxt))
      (k0_pay16 (k0_pay4 i prev cur nxt) (k0_pay7 i w prev cur nxt) (k0_pay8 i da dan) (k0_pay9 i w prev cur nxt) (k0_pay10 i w prev cur nxt))
      (k0_pay17 (k0_pay5 i prev cur nxt) (k0_pay7 i w prev cur nxt) (k0_pay8 i da dan) (k0_pay9 i w prev cur nxt) (k0_pay10 i w prev cur nxt))
      (k0_pay18 (k0_pay6 i prev cur nxt) (k0_pay7 i w prev cur nxt) (k0_pay8 i da dan) (k0_pay9 i w prev cur nxt) (k0_pay10 i w prev cur nxt))
      z (ix2 k l)
    = (z (ix2 k l) + ∑ r : Fin 256, DConv X W A (t * 256 + r.val) l * Before X (t * 256 + r.val + k.val) l : EReal) := by
  rw [pay1_at]
  refine congrArg (fun y : EReal => z (ix2 k l) + y) ?_
  match k with
  | ⟨0, _⟩ => exact row0 T l
  | ⟨1, _⟩ => exact row1 T l
  | ⟨2, _⟩ => exact row2 T l
  | ⟨3, _⟩ => exact row3 T l

end Stages

variable (m : (ℓ : Loc nD τ sig) → Buf (Elt Ideal) ℓ) (ρ : Dev nD → PrngReg) (c : Dev nD)

abbrev aX : Vec Ideal S4096x3072 .f32 := m ((c : Thread nD τ).loc main_arg0)
abbrev aW : Vec Ideal S4x3072 .f32 := m ((c : Thread nD τ).loc main_arg1)
abbrev aA : Vec Ideal S4096x1024 .f32 := m ((c : Thread nD τ).loc main_arg2)

/-- Every window's block index at every point (decided). -/
theorem idx : ∀ t : Fin cfg0.N, win0_0.index t = ![t.val, 0] ∧ win0_1.index t = ![32 * t.val - 1, 0]
    ∧ win0_2.index t = ![min (32 * t.val + 32) 511, 0] ∧ win0_3.index t = ![0, 0] ∧ win0_4.index t = ![t.val, 0]
    ∧ win0_5.index t = ![min (32 * t.val + 32) 511, 0] ∧ win0_6.index t = ![t.val, 0] ∧ win0_7.index t = ![0, 0]
    ∧ (grid0.coords t 0).val = t.val :=
  (by decide +kernel : ∀ t : Fin grid0.N, _)

theorem tile (t : Fin cfg0.N) : Tile (aX m c) (aW m c) (aA m c) t.val (grid0.coords t) (iblk m c 0 t) (iblk m c 1 t) (iblk m c 2 t)
    (iblk m c 3 t) (iblk m c 4 t) (iblk m c 5 t) where
  lt := t.isLt
  hi := (idx t).2.2.2.2.2.2.2.2
  hcur r l := by blk_ext [iblk, V, idx t]
  hprev h r l := by blk_ext [iblk, V, idx t]
  hnxt h r l := by blk_ext [iblk, V, idx t]
  hw k l := by blk_ext [iblk, V, idx t]
  hda r l := by blk_ext [iblk, V, idx t]
  hdan h r l := by blk_ext [iblk, V, idx t]

/-- Row `r` of block `t`, as a row of the whole array. -/
abbrev rowOf (t : Fin cfg0.N) (r : Fin 256) : Fin 4096 :=
  ⟨t.val * 256 + r.val, by have := t.isLt; have hN : cfg0.N = 16 := N_0; omega⟩

theorem exists_ix2 {n k : ℕ} (j : (⟨2, ![n, k]⟩ : Shape).Idx) : ∃ a b, j = ix2 a b := ⟨_, _, eq_ix2 j⟩

theorem final6 : (dats m 0 c).arrAt 6 cfg0.N = val_main_v75 (F := Ideal) (aX m c) (aW m c) (aA m c) := by
  refine (dats m 0 c).arrAt_eq_of_covers 6 _ (by decide +kernel) fun t hf y => ?_
  have hy : (win0_6.blk t).view.emb y = ix2 (rowOf t (y 0)) (y 1) := by blk_ext [idx t]
  have hd := du_at (tile m c t) (y 0) (y 1) (rowOf t (y 0)) rfl
  rw [after0_6]
  by_cases h0 : t.val % 16 = 0
  · rw [outsAt0_A m c t h0]
    frame_out
    exact (congrArg _ (eq_ix2 y)).trans (hd.trans (congrArg _ hy.symm))
  · rw [outsAt0_B m c t h0]
    frame_out
    exact (congrArg _ (eq_ix2 y)).trans (hd.trans (congrArg _ hy.symm))

/-- The sixteen blocks' sums are one sum over the rows. -/
theorem sum_rows (f : Fin 4096 → EReal) : ∑ t : Fin cfg0.N, ∑ r : Fin 256, f (rowOf t r) = ∑ R : Fin 4096, f R :=
  Fin.sum_mul_add_congr fun _ _ _ => rfl

/-- A store of the first four rows over a store of all eight. -/
theorem canon_low (w : Vec Ideal S4x1024 .f32) (z : Vec Ideal S8x1024 .f32) (a : Fin 8) (l : Fin 1024) :
    View.canon (Val := Elt Ideal) (s := S8x1024) (e := .f32) [⟨Rect.unit ![0, 0] ![4, 1024] inb_S8x1024_S4x1024_0_0, w⟩,
      ⟨Rect.unit ![0, 0] ![8, 1024] inb_S8x1024_S8x1024_0_0, z⟩] (ix2 a l) = if h : a.val < 4 then w (ix2 ⟨a.val, h⟩ l) else z (ix2 a l) := by
  by_cases h : a.val < 4
  · rw [dif_pos h]
    have e : ix2 a l = (Rect.unit (s := S8x1024) ![0, 0] ![4, 1024] inb_S8x1024_S4x1024_0_0).emb (ix2 ⟨a.val, h⟩ l) := by
      funext b
      match b with
      | ⟨0, _⟩ => exact Fin.ext (by show a.val = 0 + 1 * a.val; omega)
      | ⟨1, _⟩ => exact Fin.ext (by show l.val = 0 + 1 * l.val; omega)
    rw [e]
    exact View.canon_cons_emb _ _ _ _
  · rw [dif_neg h, View.canon_cons_of_not_mem]
    · exact congrFun (View.canon_cons_unit_lit inb_S8x1024_S8x1024_0_0 z [] (by decide)) _
    · rw [Rect.mem_set_unit]
      intro g
      exact h (by have := (g 0).2; simpa using this)

theorem pay13_at (j : S8x1024.Idx) : k0_pay13 (F := Ideal) j = 0 := by
  obtain ⟨a, l, rfl⟩ := exists_ix2 j
  pointwise [k0_pay13]

/-- Block `t`'s part of the weights' gradient. -/
def part (t : ℕ) (a : Fin 8) (l : Fin 1024) : EReal :=
  if a.val < 4 then ∑ r : Fin 256, DConv (aX m c) (aW m c) (aA m c) (t * 256 + r.val) l * Before (aX m c) (t * 256 + r.val + a.val) l else 0

theorem dw_ref (a : Fin 8) (l : Fin 1024) : val_main_v76 (F := Ideal) (aX m c) (aW m c) (aA m c) (ix2 a l) = ∑ t : Fin cfg0.N, part m c t.val a l := by
  by_cases h : a.val < 4
  · simp only [part, if_pos h]
    refine Eq.trans ?_ (sum_rows fun R => DConv (aX m c) (aW m c) (aA m c) R.val l * Before (aX m c) (R.val + a.val) l).symm
    match a, h with
    | ⟨0, _⟩, _ => exact dw_ref0 _ _ _ l
    | ⟨1, _⟩, _ => exact dw_ref1 _ _ _ l
    | ⟨2, _⟩, _ => exact dw_ref2 _ _ _ l
    | ⟨3, _⟩, _ => exact dw_ref3 _ _ _ l
  · simp only [part, if_neg h]
    rw [dw_ref4 _ _ _ a h]
    exact (Finset.sum_const_zero (M := EReal)).symm

theorem final7 : (dats m 0 c).arrAt 7 cfg0.N = val_main_v76 (F := Ideal) (aX m c) (aW m c) (aA m c) := by
  refine (dats m 0 c).arrAt_eq_of_after_last 7 t0_15 (by decide +kernel) _ fun j => ?_
  blk_simp
  rw [after0_7]
  rw [Pipeline.eq_sum_fin_of_reset_step_apply_last (fun n h => (outsAt0 m c n h).2) 16 (fun _ => 0)
    (fun t j => part m c t (j 0) (j 1))
    (fun t h j => by
      rw [outsAt0_A m c t h]; frame_out
      obtain ⟨a, l, rfl⟩ := exists_ix2 j
      refine (canon_low _ _ a l).trans ?_
      show _ = (0 + part m c t.val a l : EReal)
      by_cases ha : a.val < 4
      · rw [dif_pos ha, part, if_pos ha]
        refine (dw_add (tile m c t) _ ⟨a.val, ha⟩ l).trans (congrArg (fun z : EReal => z + _) ?_)
        rw [View.readCov_eq_canon_ld _ _ _ (fun y => ⟨_, List.mem_cons_self, by
          rw [Rect.mem_set_unit]; intro b; have := (y b).isLt; fin_cases b <;> simpa using this⟩),
          View.canon_cons_unit_lit inb_S8x1024_S8x1024_0_0 _ [] (by decide)]
        show k0_pay13 (F := Ideal) _ = 0
        exact pay13_at _
      · rw [dif_neg ha, part, if_neg ha, pay13_at]
        exact (zero_add (M := EReal) _).symm)
    (fun t h j => by
      rw [outsAt0_B m c t h]; frame_out
      obtain ⟨a, l, rfl⟩ := exists_ix2 j
      show _ = ((outsAt0 m c (t.val - 1) _).2 (ix2 a l) + part m c t.val a l : EReal)
      by_cases ha : a.val < 4
      · rw [part, if_pos ha]
        refine (View.read_writes_cons_rows_of_mem _ _ _ _ [] (ix2 a l) (ix2 ⟨a.val, ha⟩ l) rfl (by simp) rfl).trans
          ((dw_add (tile m c t) _ ⟨a.val, ha⟩ l).trans (congrArg (fun z : EReal => z + _) ?_))
        refine congrArg (outsAt0 m c (t.val - 1) _).2 ?_
        funext b
        match b with
        | ⟨0, _⟩ => exact Fin.ext (by show 0 + 1 * a.val = a.val; omega)
        | ⟨1, _⟩ => exact Fin.ext (by show 0 + 1 * l.val = l.val; omega)
      · rw [part, if_neg ha]
        refine (View.read_writes_cons_rows_of_not_mem (o := 0) (W := 4) _ _ _ _ [] (ix2 a l) rfl rfl (by right; simp; omega)).trans ?_
        refine (congrFun (Memref.IsWhole.read_unread _ _) _).trans ?_
        exact (add_zero (M := EReal) _).symm) (le_of_eq N_0) t0_15 rfl j]
  refine (zero_add (M := EReal) _).trans (Eq.trans ?_ ((dw_ref m c (j 0) (j 1)).symm.trans (congrArg _ (eq_ix2 j).symm)))
  rfl

end Cert.ConvBwdQIdeal.RefValue

namespace Cert.Proof.ConvBwdQ

/-- At `Ideal` the kernel's two result arrays and the reference's agree. -/
theorem algebraic : Cert.algebraic_ConvBwdQIdeal_ConvBwdQRefIdeal := by
  pair_intro
  · run_from Cert.ConvBwdQIdeal.Value.run_blocks m g
  · run_from Cert.ConvBwdQRefIdeal.Value.run m' g'
    all_goals
      obtain ⟨h0, h1, h2⟩ := hagree c
    · rw [Cert.ConvBwdQIdeal.RefValue.final6 m c, Cert.ConvBwdQRefIdeal.Read.val_main_v75_eq m' c, h0, h1, h2]
    · rw [Cert.ConvBwdQIdeal.RefValue.final7 m c, Cert.ConvBwdQRefIdeal.Read.val_main_v76_eq m' c, h0, h1, h2]

end Cert.Proof.ConvBwdQ
end
-- ==== Proof.ConvBwdKValue.lean ====
/- The convolution of the third part of the columns called k, backwards: the kernel's two result arrays after its
   sixteen grid points, and the claim that they are the reference's. A block of 256 rows is read with the eight rows
   before it and the eight after it; the weights' gradient is a sum over the blocks. -/
module

public import proofs.«01_k».proof.Defs
public import proofs.«01_k».proof.Proof.Gen.ConvBwdKIdeal.Value
public import proofs.«01_k».proof.Proof.Gen.ConvBwdKRefIdeal.Run
public import proofs.«01_k».proof.Proof.Gen.ConvBwdKRefIdeal.Read
public import Idealize.ShloMosaic.Lib.Pipeline.ValueKit
public import Idealize.ShloMosaic.Lib.Claim
public import Idealize.ShloMosaic.Lib.WritesUnit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvBwdKIdeal.RefValue

open Cert.ConvBwdKIdeal Cert.ConvBwdKIdeal.Gen Cert.ConvBwdKIdeal.Value Cert.ConvBwdKRefIdeal.Read

section Stages

variable (X : Vec Ideal S4096x3072 .f32) (W : Vec Ideal S4x3072 .f32) (A : Vec Ideal S4096x1024 .f32)

/-- Column `l` of this third of the columns. -/
abbrev colOf (l : Fin 1024) : Fin 3072 := ⟨1024 + l.val, by have := l.isLt; omega⟩

/-- The rows with three zero rows before them. -/
def Before (n : ℕ) (l : Fin 1024) : EReal := if h : n < 4099 then val_main_v3 (F := Ideal) X (ix2 ⟨n, h⟩ l) else 0

/-- The gradient of the convolution's result, zero past the last row. -/
def DConv (n : ℕ) (l : Fin 1024) : EReal := if h : n < 4096 then val_main_v38 (F := Ideal) X W A (ix2 ⟨n, h⟩ l) else 0

theorem before_row (n : ℕ) (l : Fin 1024) (hn : n < 4096) : Before X (n + 3) l = X (ix2 ⟨n, hn⟩ (colOf l)) := by
  rw [Before, dif_pos (by omega)]
  pointwise [val_main_v3, val_main_v0]
  rw [dif_neg (by omega)]
  exact congrArg X (by ext1; simp [colOf])

theorem before_zero (n : ℕ) (l : Fin 1024) (hn : n < 3) : Before X n l = 0 := by
  rw [Before, dif_pos (by omega)]
  pointwise [val_main_v3, val_main_v2, val_main_cst]
  rw [dif_pos hn]

theorem dconv_ref (R : Fin 4096) (l : Fin 1024) : DConv X W A R.val l = val_main_v38 (F := Ideal) X W A (ix2 R l) :=
  dif_pos R.isLt

theorem conv_ref (R : Fin 4096) (l : Fin 1024) : val_main_v25 (F := Ideal) X W (ix2 R l)
    = (W (ix2 0 (colOf l)) * Before X R.val l + W (ix2 1 (colOf l)) * Before X (R.val + 1) l
      + W (ix2 2 (colOf l)) * Before X (R.val + 2) l + W (ix2 3 (colOf l)) * Before X (R.val + 3) l : EReal) := by
  rw [Before, Before, Before, Before, dif_pos (by omega), dif_pos (by omega), dif_pos (by omega), dif_pos (by omega)]
  pointwise [val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v1, val_main_cst_1]
  simp only [add_comm (R.val)]

/-- A padded term of the rows' gradient. -/
theorem padded (w : EReal) (n k : ℕ) (l : Fin 1024) (p : Prop) [Decidable p] (hp : p ↔ k < 4096) (hn : p → n < 4096) (hk : p → n = k) :
    (if h : p then w * val_main_v38 (F := Ideal) X W A (ix2 ⟨n, hn h⟩ l) else (0 : EReal)) = w * DConv X W A k l := by
  by_cases h : p
  · rw [dif_pos h, DConv, dif_pos (hp.mp h)]
    exact congrArg (fun a => w * val_main_v38 (F := Ideal) X W A (ix2 a l)) (Fin.ext (hk h))
  · rw [dif_neg h, DConv, dif_neg (fun g => h (hp.mpr g))]
    exact (mul_zero (M₀ := EReal) _).symm

theorem add_rev (a b d e : EReal) : a + b + d + e = e + d + b + a := by ac_rfl

theorem du_ref (R : Fin 4096) (l : Fin 1024) : val_main_v75 (F := Ideal) X W A (ix2 R l)
    = (W (ix2 0 (colOf l)) * DConv X W A (R.val + 3) l + W (ix2 1 (colOf l)) * DConv X W A (R.val + 2) l
      + W (ix2 2 (colOf l)) * DConv X W A (R.val + 1) l + W (ix2 3 (colOf l)) * DConv X W A R.val l : EReal) := by
  have hR := R.isLt
  rw [dconv_ref]
  pointwise [val_main_v75, val_main_v74, val_main_v70, val_main_v69, val_main_v65, val_main_v64, val_main_v61, val_main_v60,
    val_main_v56, val_main_v55, val_main_v52, val_main_v51, val_main_v47, val_main_v46, val_main_v44, val_main_v40, val_main_v39,
    val_main_v21, val_main_v16, val_main_v11, val_main_v5, val_main_v1, val_main_cst_10, val_main_cst_13, val_main_cst_16]
  refine (congrArg₂ (fun a b : EReal => a + b) (congrArg₂ (fun a b : EReal => a + b) (congrArg₂ (fun a b : EReal => a + b) rfl
    (padded X W A _ _ (R.val + 1) l _ ?_ ?_ ?_)) (padded X W A _ _ (R.val + 2) l _ ?_ ?_ ?_)) (padded X W A _ _ (R.val + 3) l _ ?_ ?_ ?_)).trans ?_
  any_goals omega
  exact add_rev _ _ _ _

theorem dw_ref0 (l : Fin 1024) : val_main_v76 (F := Ideal) X W A (ix2 0 l)
    = (∑ R : Fin 4096, DConv X W A R.val l * Before X (R.val + 0) l : EReal) := by
  pointwise [val_main_v76, val_main_v72, val_main_v71, val_main_v63, val_main_v62, val_main_v54, val_main_v53, val_main_v45,
    val_main_v68, val_main_v67, val_main_v66, val_main_v6, val_main_cst_8, val_main_cst_11,
    val_main_cst_14, val_main_cst_17, val_main_cst_7, val_main_cst_9, val_main_cst_12, val_main_cst_15, val_main_cst_6]
  refine Finset.sum_congr rfl fun R _ => ?_
  have hR := R.isLt
  rw [dconv_ref, Before, dif_pos (by omega)]
  try simp only [add_comm (R.val)]

theorem dw_ref1 (l : Fin 1024) : val_main_v76 (F := Ideal) X W A (ix2 1 l)
    = (∑ R : Fin 4096, DConv X W A R.val l * Before X (R.val + 1) l : EReal) := by
  pointwise [val_main_v76, val_main_v72, val_main_v71, val_main_v63, val_main_v62, val_main_v54, val_main_v53, val_main_v45,
    val_main_v59, val_main_v58, val_main_v57, val_main_v12, val_main_cst_8, val_main_cst_11,
    val_main_cst_14, val_main_cst_17, val_main_cst_7, val_main_cst_9, val_main_cst_12, val_main_cst_15, val_main_cst_6]
  refine Finset.sum_congr rfl fun R _ => ?_
  have hR := R.isLt
  rw [dconv_ref, Before, dif_pos (by omega)]
  try simp only [add_comm (R.val)]

theorem dw_ref2 (l : Fin 1024) : val_main_v76 (F := Ideal) X W A (ix2 2 l)
    = (∑ R : Fin 4096, DConv X W A R.val l * Before X (R.val + 2) l : EReal) := by
  pointwise [val_main_v76, val_main_v72, val_main_v71, val_main_v63, val_main_v62, val_main_v54, val_main_v53, val_main_v45,
    val_main_v50, val_main_v49, val_main_v48, val_main_v17, val_main_cst_8, val_main_cst_11,
    val_main_cst_14, val_main_cst_17, val_main_cst_7, val_main_cst_9, val_main_cst_12, val_main_cst_15, val_main_cst_6]
  refine Finset.sum_congr rfl fun R _ => ?_
  have hR := R.isLt
  rw [dconv_ref, Before, dif_pos (by omega)]
  try simp only [add_comm (R.val)]

theorem dw_ref3 (l : Fin 1024) : val_main_v76 (F := Ideal) X W A (ix2 3 l)
    = (∑ R : Fin 4096, DConv X W A R.val l * Before X (R.val + 3) l : EReal) := by
  pointwise [val_main_v76, val_main_v72, val_main_v71, val_main_v63, val_main_v62, val_main_v54, val_main_v53, val_main_v45,
    val_main_v43, val_main_v42, val_main_v41, val_main_v22, val_main_cst_8, val_main_cst_11,
    val_main_cst_14, val_main_cst_17, val_main_cst_7, val_main_cst_9, val_main_cst_12, val_main_cst_15, val_main_cst_6]
  refine Finset.sum_congr rfl fun R _ => ?_
  have hR := R.isLt
  rw [dconv_ref, Before, dif_pos (by omega)]
  try simp only [add_comm (R.val)]

theorem dw_ref4 (a : Fin 8) (h : ¬ a.val < 4) (l : Fin 1024) : val_main_v76 (F := Ideal) X W A (ix2 a l) = (0 : EReal) := by
  pointwise [val_main_v76, val_main_call0_v0, val_main_c]
  rw [dif_neg h]
  exact (congrArg (fun r : ℝ => (r : EReal)) (Int.cast_zero (R := ℝ))).trans EReal.coe_zero

/-- Block `t`'s rows and the eight rows before and after them, of the whole arrays. -/
structure Tile (t : ℕ) (i : grid0.Coords) (cur : Vec Ideal S256x1024 .f32) (prev nxt : Vec Ideal S8x1024 .f32) (w : Vec Ideal S4x1024 .f32)
    (da : Vec Ideal S256x1024 .f32) (dan : Vec Ideal S8x1024 .f32) : Prop where
  lt : t < 16
  hi : (i 0).val = t
  hcur : ∀ (r : Fin 256) (l : Fin 1024), cur (ix2 r l) = X (ix2 ⟨t * 256 + r.val, by have := r.isLt; omega⟩ (colOf l))
  hprev : ∀ (h : 0 < t) (r : Fin 8) (l : Fin 1024), prev (ix2 r l) = X (ix2 ⟨t * 256 - 8 + r.val, by have := r.isLt; omega⟩ (colOf l))
  hnxt : ∀ (h : t < 15) (r : Fin 8) (l : Fin 1024), nxt (ix2 r l) = X (ix2 ⟨t * 256 + 256 + r.val, by have := r.isLt; omega⟩ (colOf l))
  hw : ∀ (k : Fin 4) (l : Fin 1024), w (ix2 k l) = W (ix2 k (colOf l))
  hda : ∀ (r : Fin 256) (l : Fin 1024), da (ix2 r l) = A (ix2 ⟨t * 256 + r.val, by have := r.isLt; omega⟩ l)
  hdan : ∀ (h : t < 15) (r : Fin 8) (l : Fin 1024), dan (ix2 r l) = A (ix2 ⟨t * 256 + 256 + r.val, by have := r.isLt; omega⟩ l)

variable {X W A}
variable {t : ℕ} {i : grid0.Coords} {cur da : Vec Ideal S256x1024 .f32} {prev nxt dan : Vec Ideal S8x1024 .f32} {w : Vec Ideal S4x1024 .f32}

theorem sel_gt {α : Type} : ∀ (t : ℕ) (_ : t < 16) (a b : α), Scalar.select (Scalar.cmpi .sgt (BitVec.ofNat 32 t) 0#32) a b = if 0 < t then a else b := by
  intro t h a b
  interval_cases t <;> rfl

theorem sel_lt {α : Type} : ∀ (t : ℕ) (_ : t < 16) (a b : α), Scalar.select (Scalar.cmpi .slt (BitVec.ofNat 32 t) 15#32) a b = if t < 15 then a else b := by
  intro t h a b
  interval_cases t <;> rfl

theorem ext_at (T : Tile X W A t i cur prev nxt w da dan) (e : Fin 272) (l : Fin 1024) (h5 : 5 ≤ e.val) (hlt : t * 256 + e.val < 4104) :
    k0_pay2 (F := Ideal) i prev cur nxt (ix2 e l) = Before X (t * 256 + (e.val - 5)) l := by
  pointwise [k0_pay2]
  rw [T.hi]
  have he := e.isLt
  by_cases h : e.val < 8
  · rw [dif_pos h, sel_gt _ T.lt]
    by_cases h0 : 0 < t
    · rw [if_pos h0, T.hprev h0, show t * 256 + (e.val - 5) = (t * 256 - 8 + e.val) + 3 by omega, before_row _ _ _ (by have := T.lt; omega)]
    · rw [if_neg h0, before_zero _ _ _ (by omega)]
  · rw [dif_neg h]
    by_cases h2 : e.val - 8 < 256
    · rw [dif_pos h2, T.hcur, show t * 256 + (e.val - 5) = (t * 256 + (e.val - 8)) + 3 by omega, before_row]
    · rw [dif_neg h2, T.hnxt (by omega), show t * 256 + (e.val - 5) = (t * 256 + 256 + (e.val - 8 - 256)) + 3 by omega, before_row]

theorem tap0 (T : Tile X W A t i cur prev nxt w da dan) (r : Fin 264) (l : Fin 1024) (hlt : t * 256 + r.val < 4096) :
    k0_pay3 (F := Ideal) i prev cur nxt (ix2 r l) = Before X (t * 256 + r.val) l := by
  pointwise [k0_pay3]
  rw [ext_at T _ _ (by simp only; omega) (by simp only; omega)]
  exact congrArg (Before X · l) (by simp only; omega)

theorem tap1 (T : Tile X W A t i cur prev nxt w da dan) (r : Fin 264) (l : Fin 1024) (hlt : t * 256 + r.val < 4096) :
    k0_pay4 (F := Ideal) i prev cur nxt (ix2 r l) = Before X (t * 256 + r.val + 1) l := by
  pointwise [k0_pay4]
  rw [ext_at T _ _ (by simp only; omega) (by simp only; omega)]
  exact congrArg (Before X · l) (by simp only; omega)

theorem tap2 (T : Tile X W A t i cur prev nxt w da dan) (r : Fin 264) (l : Fin 1024) (hlt : t * 256 + r.val < 4096) :
    k0_pay5 (F := Ideal) i prev cur nxt (ix2 r l) = Before X (t * 256 + r.val + 2) l := by
  pointwise [k0_pay5]
  rw [ext_at T _ _ (by simp only; omega) (by simp only; omega)]
  exact congrArg (Before X · l) (by simp only; omega)

theorem tap3 (T : Tile X W A t i cur prev nxt w da dan) (r : Fin 264) (l : Fin 1024) (hlt : t * 256 + r.val < 4096) :
    k0_pay6 (F := Ideal) i prev cur nxt (ix2 r l) = Before X (t * 256 + r.val + 3) l := by
  pointwise [k0_pay6]
  rw [ext_at T _ _ (by simp only; omega) (by simp only; omega)]
  exact congrArg (Before X · l) (by simp only; omega)

theorem conv_at (T : Tile X W A t i cur prev nxt w da dan) (r : Fin 264) (l : Fin 1024) (hlt : t * 256 + r.val < 4096) :
    k0_pay7 (F := Ideal) i w prev cur nxt (ix2 r l) = val_main_v25 (F := Ideal) X W (ix2 ⟨t * 256 + r.val, hlt⟩ l) := by
  rw [conv_ref]
  pointwise [k0_pay7]
  rw [tap0 T _ _ hlt, tap1 T _ _ hlt, tap2 T _ _ hlt, tap3 T _ _ hlt, T.hw, T.hw, T.hw, T.hw]

theorem da_at (T : Tile X W A t i cur prev nxt w da dan) (r : Fin 264) (l : Fin 1024) :
    k0_pay8 (F := Ideal) i da dan (ix2 r l) = if h : t * 256 + r.val < 4096 then A (ix2 ⟨t * 256 + r.val, h⟩ l) else (0 : EReal) := by
  have hr := r.isLt
  pointwise [k0_pay8]
  rw [T.hi]
  by_cases h : r.val < 256
  · rw [dif_pos h, T.hda, dif_pos]
  · rw [dif_neg h, sel_lt _ T.lt]
    by_cases h2 : t < 15
    · rw [if_pos h2, T.hdan h2, dif_pos (by omega)]
      exact congrArg (fun n => A (ix2 n l)) (Fin.ext (by simp only; omega))
    · rw [if_neg h2, dif_neg (by omega)]

/-- The gradient of the convolution's result, in block `t` and the eight rows after it. -/
abbrev dk (i : grid0.Coords) (cur : Vec Ideal S256x1024 .f32) (prev nxt : Vec Ideal S8x1024 .f32) (w : Vec Ideal S4x1024 .f32)
    (da : Vec Ideal S256x1024 .f32) (dan : Vec Ideal S8x1024 .f32) : Vec Ideal S264x1024 .f32 :=
  k0_pay11 (k0_pay7 i w prev cur nxt) (k0_pay8 i da dan) (k0_pay9 i w prev cur nxt) (k0_pay10 i w prev cur nxt)

theorem dconv_at (T : Tile X W A t i cur prev nxt w da dan) (r : Fin 264) (l : Fin 1024) :
    dk i cur prev nxt w da dan (ix2 r l) = DConv X W A (t * 256 + r.val) l := by
  rw [DConv]
  by_cases h : t * 256 + r.val < 4096
  · rw [dif_pos h]
    pointwise [dk, k0_pay11, k0_pay9, k0_pay10, val_main_v38, val_main_v37, val_main_v36, val_main_v35, val_main_v34, val_main_v33,
      val_main_v32, val_main_v31, val_main_v30, val_main_v29, val_main_v28, val_main_v27, val_main_v26, val_main_cst_2, val_main_cst_3,
      val_main_cst_4, val_main_cst_5]
    rw [da_at T, conv_at T _ _ h, dif_pos h]
    rfl
  · rw [dif_neg h]
    pointwise [dk, k0_pay11]
    rw [da_at T, dif_neg h]
    exact zero_mul (M₀ := EReal) _

theorem du_at (T : Tile X W A t i cur prev nxt w da dan) (r : Fin 256) (l : Fin 1024) (R : Fin 4096) (hR : R.val = t * 256 + r.val) :
    k0_pay12 (F := Ideal) w (k0_pay7 i w prev cur nxt) (k0_pay8 i da dan) (k0_pay9 i w prev cur nxt) (k0_pay10 i w prev cur nxt) (ix2 r l)
      = val_main_v75 (F := Ideal) X W A (ix2 R l) := by
  rw [du_ref, hR]
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay12]
  rw [e, e, e, e, T.hw, T.hw, T.hw, T.hw]
  have hr := r.isLt
  have a1 : (r.val + 264 - 261) % 264 = r.val + 3 := by omega
  have a2 : (r.val + 264 - 262) % 264 = r.val + 2 := by omega
  have a3 : (r.val + 264 - 263) % 264 = r.val + 1 := by omega
  simp only [a1, a2, a3, ← add_assoc]

theorem row0 (T : Tile X W A t i cur prev nxt w da dan) (l : Fin 1024) :
    k0_pay15 (F := Ideal) (k0_pay3 i prev cur nxt) (k0_pay7 i w prev cur nxt) (k0_pay8 i da dan) (k0_pay9 i w prev cur nxt) (k0_pay10 i w prev cur nxt) (ix2 0 l)
      = (∑ r : Fin 256, DConv X W A (t * 256 + r.val) l * Before X (t * 256 + r.val + 0) l : EReal) := by
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay15, k0_pay14]
  refine Finset.sum_congr rfl fun r _ => ?_
  rw [e, tap0 T _ _ (by have := r.isLt; have := T.lt; simp only; omega)]

theorem row1 (T : Tile X W A t i cur prev nxt w da dan) (l : Fin 1024) :
    k0_pay16 (F := Ideal) (k0_pay4 i prev cur nxt) (k0_pay7 i w prev cur nxt) (k0_pay8 i da dan) (k0_pay9 i w prev cur nxt) (k0_pay10 i w prev cur nxt) (ix2 0 l)
      = (∑ r : Fin 256, DConv X W A (t * 256 + r.val) l * Before X (t * 256 + r.val + 1) l : EReal) := by
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay16, k0_pay14]
  refine Finset.sum_congr rfl fun r _ => ?_
  rw [e, tap1 T _ _ (by have := r.isLt; have := T.lt; simp only; omega)]

theorem row2 (T : Tile X W A t i cur prev nxt w da dan) (l : Fin 1024) :
    k0_pay17 (F := Ideal) (k0_pay5 i prev cur nxt) (k0_pay7 i w prev cur nxt) (k0_pay8 i da dan) (k0_pay9 i w prev cur nxt) (k0_pay10 i w prev cur nxt) (ix2 0 l)
      = (∑ r : Fin 256, DConv X W A (t * 256 + r.val) l * Before X (t * 256 + r.val + 2) l : EReal) := by
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay17, k0_pay14]
  refine Finset.sum_congr rfl fun r _ => ?_
  rw [e, tap2 T _ _ (by have := r.isLt; have := T.lt; simp only; omega)]

theorem row3 (T : Tile X W A t i cur prev nxt w da dan) (l : Fin 1024) :
    k0_pay18 (F := Ideal) (k0_pay6 i prev cur nxt) (k0_pay7 i w prev cur nxt) (k0_pay8 i da dan) (k0_pay9 i w prev cur nxt) (k0_pay10 i w prev cur nxt) (ix2 0 l)
      = (∑ r : Fin 256, DConv X W A (t * 256 + r.val) l * Before X (t * 256 + r.val + 3) l : EReal) := by
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay18, k0_pay14]
  refine Finset.sum_congr rfl fun r _ => ?_
  rw [e, tap3 T _ _ (by have := r.isLt; have := T.lt; simp only; omega)]

theorem pay1_at (a b d e : Vec Ideal S1x1024 .f32) (z : Vec Ideal S4x1024 .f32) (k : Fin 4) (l : Fin 1024) :
    k0_pay1 (F := Ideal) a b d e z (ix2 k l) = (z (ix2 k l) + ![a (ix2 0 l), b (ix2 0 l), d (ix2 0 l), e (ix2 0 l)] k : EReal) := by
  pointwise [k0_pay1]
  refine congrArg (fun y : EReal => z (ix2 k l) + y) ?_
  match k with
  | ⟨0, _⟩ => rfl
  | ⟨1, _⟩ => rfl
  | ⟨2, _⟩ => rfl
  | ⟨3, _⟩ => rfl

theorem dw_add (T : Tile X W A t i cur prev nxt w da dan) (z : Vec Ideal S4x1024 .f32) (k : Fin 4) (l : Fin 1024) :
    k0_pay1 (F := Ideal)
      (k0_pay15 (k0_pay3 i prev cur nxt) (k0_pay7 i w prev cur nxt) (k0_pay8 i da dan) (k0_pay9 i w prev cur nxt) (k0_pay10 i w prev cur nxt))
      (k0_pay16 (k0_pay4 i prev cur nxt) (k0_pay7 i w prev cur nxt) (k0_pay8 i da dan) (k0_pay9 i w prev cur nxt) (k0_pay10 i w prev cur nxt))
      (k0_pay17 (k0_pay5 i prev cur nxt) (k0_pay7 i w prev cur nxt) (k0_pay8 i da dan) (k0_pay9 i w prev cur nxt) (k0_pay10 i w prev cur nxt))
      (k0_pay18 (k0_pay6 i prev cur nxt) (k0_pay7 i w prev cur nxt) (k0_pay8 i da dan) (k0_pay9 i w prev cur nxt) (k0_pay10 i w prev cur nxt))
      z (ix2 k l)
    = (z (ix2 k l) + ∑ r : Fin 256, DConv X W A (t * 256 + r.val) l * Before X (t * 256 + r.val + k.val) l : EReal) := by
  rw [pay1_at]
  refine congrArg (fun y : EReal => z (ix2 k l) + y) ?_
  match k with
  | ⟨0, _⟩ => exact row0 T l
  | ⟨1, _⟩ => exact row1 T l
  | ⟨2, _⟩ => exact row2 T l
  | ⟨3, _⟩ => exact row3 T l

end Stages

variable (m : (ℓ : Loc nD τ sig) → Buf (Elt Ideal) ℓ) (ρ : Dev nD → PrngReg) (c : Dev nD)

abbrev aX : Vec Ideal S4096x3072 .f32 := m ((c : Thread nD τ).loc main_arg0)
abbrev aW : Vec Ideal S4x3072 .f32 := m ((c : Thread nD τ).loc main_arg1)
abbrev aA : Vec Ideal S4096x1024 .f32 := m ((c : Thread nD τ).loc main_arg2)

/-- Every window's block index at every point (decided). -/
theorem idx : ∀ t : Fin cfg0.N, win0_0.index t = ![t.val, 1] ∧ win0_1.index t = ![32 * t.val - 1, 1]
    ∧ win0_2.index t = ![min (32 * t.val + 32) 511, 1] ∧ win0_3.index t = ![0, 1] ∧ win0_4.index t = ![t.val, 0]
    ∧ win0_5.index t = ![min (32 * t.val + 32) 511, 0] ∧ win0_6.index t = ![t.val, 0] ∧ win0_7.index t = ![0, 0]
    ∧ (grid0.coords t 0).val = t.val :=
  (by decide +kernel : ∀ t : Fin grid0.N, _)

theorem tile (t : Fin cfg0.N) : Tile (aX m c) (aW m c) (aA m c) t.val (grid0.coords t) (iblk m c 0 t) (iblk m c 1 t) (iblk m c 2 t)
    (iblk m c 3 t) (iblk m c 4 t) (iblk m c 5 t) where
  lt := t.isLt
  hi := (idx t).2.2.2.2.2.2.2.2
  hcur r l := by blk_ext [iblk, V, idx t]
  hprev h r l := by blk_ext [iblk, V, idx t]
  hnxt h r l := by blk_ext [iblk, V, idx t]
  hw k l := by blk_ext [iblk, V, idx t]
  hda r l := by blk_ext [iblk, V, idx t]
  hdan h r l := by blk_ext [iblk, V, idx t]

/-- Row `r` of block `t`, as a row of the whole array. -/
abbrev rowOf (t : Fin cfg0.N) (r : Fin 256) : Fin 4096 :=
  ⟨t.val * 256 + r.val, by have := t.isLt; have hN : cfg0.N = 16 := N_0; omega⟩

theorem exists_ix2 {n k : ℕ} (j : (⟨2, ![n, k]⟩ : Shape).Idx) : ∃ a b, j = ix2 a b := ⟨_, _, eq_ix2 j⟩

theorem final6 : (dats m 0 c).arrAt 6 cfg0.N = val_main_v75 (F := Ideal) (aX m c) (aW m c) (aA m c) := by
  refine (dats m 0 c).arrAt_eq_of_covers 6 _ (by decide +kernel) fun t hf y => ?_
  have hy : (win0_6.blk t).view.emb y = ix2 (rowOf t (y 0)) (y 1) := by blk_ext [idx t]
  have hd := du_at (tile m c t) (y 0) (y 1) (rowOf t (y 0)) rfl
  rw [after0_6]
  by_cases h0 : t.val % 16 = 0
  · rw [outsAt0_A m c t h0]
    frame_out
    exact (congrArg _ (eq_ix2 y)).trans (hd.trans (congrArg _ hy.symm))
  · rw [outsAt0_B m c t h0]
    frame_out
    exact (congrArg _ (eq_ix2 y)).trans (hd.trans (congrArg _ hy.symm))

/-- The sixteen blocks' sums are one sum over the rows. -/
theorem sum_rows (f : Fin 4096 → EReal) : ∑ t : Fin cfg0.N, ∑ r : Fin 256, f (rowOf t r) = ∑ R : Fin 4096, f R :=
  Fin.sum_mul_add_congr fun _ _ _ => rfl

/-- A store of the first four rows over a store of all eight. -/
theorem canon_low (w : Vec Ideal S4x1024 .f32) (z : Vec Ideal S8x1024 .f32) (a : Fin 8) (l : Fin 1024) :
    View.canon (Val := Elt Ideal) (s := S8x1024) (e := .f32) [⟨Rect.unit ![0, 0] ![4, 1024] inb_S8x1024_S4x1024_0_0, w⟩,
      ⟨Rect.unit ![0, 0] ![8, 1024] inb_S8x1024_S8x1024_0_0, z⟩] (ix2 a l) = if h : a.val < 4 then w (ix2 ⟨a.val, h⟩ l) else z (ix2 a l) := by
  by_cases h : a.val < 4
  · rw [dif_pos h]
    have e : ix2 a l = (Rect.unit (s := S8x1024) ![0, 0] ![4, 1024] inb_S8x1024_S4x1024_0_0).emb (ix2 ⟨a.val, h⟩ l) := by
      funext b
      match b with
      | ⟨0, _⟩ => exact Fin.ext (by show a.val = 0 + 1 * a.val; omega)
      | ⟨1, _⟩ => exact Fin.ext (by show l.val = 0 + 1 * l.val; omega)
    rw [e]
    exact View.canon_cons_emb _ _ _ _
  · rw [dif_neg h, View.canon_cons_of_not_mem]
    · exact congrFun (View.canon_cons_unit_lit inb_S8x1024_S8x1024_0_0 z [] (by decide)) _
    · rw [Rect.mem_set_unit]
      intro g
      exact h (by have := (g 0).2; simpa using this)

theorem pay13_at (j : S8x1024.Idx) : k0_pay13 (F := Ideal) j = 0 := by
  obtain ⟨a, l, rfl⟩ := exists_ix2 j
  pointwise [k0_pay13]

/-- Block `t`'s part of the weights' gradient. -/
def part (t : ℕ) (a : Fin 8) (l : Fin 1024) : EReal :=
  if a.val < 4 then ∑ r : Fin 256, DConv (aX m c) (aW m c) (aA m c) (t * 256 + r.val) l * Before (aX m c) (t * 256 + r.val + a.val) l else 0

theorem dw_ref (a : Fin 8) (l : Fin 1024) : val_main_v76 (F := Ideal) (aX m c) (aW m c) (aA m c) (ix2 a l) = ∑ t : Fin cfg0.N, part m c t.val a l := by
  by_cases h : a.val < 4
  · simp only [part, if_pos h]
    refine Eq.trans ?_ (sum_rows fun R => DConv (aX m c) (aW m c) (aA m c) R.val l * Before (aX m c) (R.val + a.val) l).symm
    match a, h with
    | ⟨0, _⟩, _ => exact dw_ref0 _ _ _ l
    | ⟨1, _⟩, _ => exact dw_ref1 _ _ _ l
    | ⟨2, _⟩, _ => exact dw_ref2 _ _ _ l
    | ⟨3, _⟩, _ => exact dw_ref3 _ _ _ l
  · simp only [part, if_neg h]
    rw [dw_ref4 _ _ _ a h]
    exact (Finset.sum_const_zero (M := EReal)).symm

theorem final7 : (dats m 0 c).arrAt 7 cfg0.N = val_main_v76 (F := Ideal) (aX m c) (aW m c) (aA m c) := by
  refine (dats m 0 c).arrAt_eq_of_after_last 7 t0_15 (by decide +kernel) _ fun j => ?_
  blk_simp
  rw [after0_7]
  rw [Pipeline.eq_sum_fin_of_reset_step_apply_last (fun n h => (outsAt0 m c n h).2) 16 (fun _ => 0)
    (fun t j => part m c t (j 0) (j 1))
    (fun t h j => by
      rw [outsAt0_A m c t h]; frame_out
      obtain ⟨a, l, rfl⟩ := exists_ix2 j
      refine (canon_low _ _ a l).trans ?_
      show _ = (0 + part m c t.val a l : EReal)
      by_cases ha : a.val < 4
      · rw [dif_pos ha, part, if_pos ha]
        refine (dw_add (tile m c t) _ ⟨a.val, ha⟩ l).trans (congrArg (fun z : EReal => z + _) ?_)
        rw [View.readCov_eq_canon_ld _ _ _ (fun y => ⟨_, List.mem_cons_self, by
          rw [Rect.mem_set_unit]; intro b; have := (y b).isLt; fin_cases b <;> simpa using this⟩),
          View.canon_cons_unit_lit inb_S8x1024_S8x1024_0_0 _ [] (by decide)]
        show k0_pay13 (F := Ideal) _ = 0
        exact pay13_at _
      · rw [dif_neg ha, part, if_neg ha, pay13_at]
        exact (zero_add (M := EReal) _).symm)
    (fun t h j => by
      rw [outsAt0_B m c t h]; frame_out
      obtain ⟨a, l, rfl⟩ := exists_ix2 j
      show _ = ((outsAt0 m c (t.val - 1) _).2 (ix2 a l) + part m c t.val a l : EReal)
      by_cases ha : a.val < 4
      · rw [part, if_pos ha]
        refine (View.read_writes_cons_rows_of_mem _ _ _ _ [] (ix2 a l) (ix2 ⟨a.val, ha⟩ l) rfl (by simp) rfl).trans
          ((dw_add (tile m c t) _ ⟨a.val, ha⟩ l).trans (congrArg (fun z : EReal => z + _) ?_))
        refine congrArg (outsAt0 m c (t.val - 1) _).2 ?_
        funext b
        match b with
        | ⟨0, _⟩ => exact Fin.ext (by show 0 + 1 * a.val = a.val; omega)
        | ⟨1, _⟩ => exact Fin.ext (by show 0 + 1 * l.val = l.val; omega)
      · rw [part, if_neg ha]
        refine (View.read_writes_cons_rows_of_not_mem (o := 0) (W := 4) _ _ _ _ [] (ix2 a l) rfl rfl (by right; simp; omega)).trans ?_
        refine (congrFun (Memref.IsWhole.read_unread _ _) _).trans ?_
        exact (add_zero (M := EReal) _).symm) (le_of_eq N_0) t0_15 rfl j]
  refine (zero_add (M := EReal) _).trans (Eq.trans ?_ ((dw_ref m c (j 0) (j 1)).symm.trans (congrArg _ (eq_ix2 j).symm)))
  rfl

end Cert.ConvBwdKIdeal.RefValue

namespace Cert.Proof.ConvBwdK

/-- At `Ideal` the kernel's two result arrays and the reference's agree. -/
theorem algebraic : Cert.algebraic_ConvBwdKIdeal_ConvBwdKRefIdeal := by
  pair_intro
  · run_from Cert.ConvBwdKIdeal.Value.run_blocks m g
  · run_from Cert.ConvBwdKRefIdeal.Value.run m' g'
    all_goals
      obtain ⟨h0, h1, h2⟩ := hagree c
    · rw [Cert.ConvBwdKIdeal.RefValue.final6 m c, Cert.ConvBwdKRefIdeal.Read.val_main_v75_eq m' c, h0, h1, h2]
    · rw [Cert.ConvBwdKIdeal.RefValue.final7 m c, Cert.ConvBwdKRefIdeal.Read.val_main_v76_eq m' c, h0, h1, h2]

end Cert.Proof.ConvBwdK
end
-- ==== Proof.ConvBwdVValue.lean ====
/- The convolution of the third part of the columns called v, backwards: the kernel's two result arrays after its
   sixteen grid points, and the claim that they are the reference's. A block of 256 rows is read with the eight rows
   before it and the eight after it; the weights' gradient is a sum over the blocks. -/
module

public import proofs.«01_k».proof.Defs
public import proofs.«01_k».proof.Proof.Gen.ConvBwdVIdeal.Value
public import proofs.«01_k».proof.Proof.Gen.ConvBwdVRefIdeal.Run
public import proofs.«01_k».proof.Proof.Gen.ConvBwdVRefIdeal.Read
public import Idealize.ShloMosaic.Lib.Pipeline.ValueKit
public import Idealize.ShloMosaic.Lib.Claim
public import Idealize.ShloMosaic.Lib.WritesUnit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvBwdVIdeal.RefValue

open Cert.ConvBwdVIdeal Cert.ConvBwdVIdeal.Gen Cert.ConvBwdVIdeal.Value Cert.ConvBwdVRefIdeal.Read

section Stages

variable (X : Vec Ideal S4096x3072 .f32) (W : Vec Ideal S4x3072 .f32) (A : Vec Ideal S4096x1024 .f32)

/-- Column `l` of this third of the columns. -/
abbrev colOf (l : Fin 1024) : Fin 3072 := ⟨2048 + l.val, by have := l.isLt; omega⟩

/-- The rows with three zero rows before them. -/
def Before (n : ℕ) (l : Fin 1024) : EReal := if h : n < 4099 then val_main_v3 (F := Ideal) X (ix2 ⟨n, h⟩ l) else 0

/-- The gradient of the convolution's result, zero past the last row. -/
def DConv (n : ℕ) (l : Fin 1024) : EReal := if h : n < 4096 then val_main_v38 (F := Ideal) X W A (ix2 ⟨n, h⟩ l) else 0

theorem before_row (n : ℕ) (l : Fin 1024) (hn : n < 4096) : Before X (n + 3) l = X (ix2 ⟨n, hn⟩ (colOf l)) := by
  rw [Before, dif_pos (by omega)]
  pointwise [val_main_v3, val_main_v0]
  rw [dif_neg (by omega)]
  exact congrArg X (by ext1; simp [colOf])

theorem before_zero (n : ℕ) (l : Fin 1024) (hn : n < 3) : Before X n l = 0 := by
  rw [Before, dif_pos (by omega)]
  pointwise [val_main_v3, val_main_v2, val_main_cst]
  rw [dif_pos hn]

theorem dconv_ref (R : Fin 4096) (l : Fin 1024) : DConv X W A R.val l = val_main_v38 (F := Ideal) X W A (ix2 R l) :=
  dif_pos R.isLt

theorem conv_ref (R : Fin 4096) (l : Fin 1024) : val_main_v25 (F := Ideal) X W (ix2 R l)
    = (W (ix2 0 (colOf l)) * Before X R.val l + W (ix2 1 (colOf l)) * Before X (R.val + 1) l
      + W (ix2 2 (colOf l)) * Before X (R.val + 2) l + W (ix2 3 (colOf l)) * Before X (R.val + 3) l : EReal) := by
  rw [Before, Before, Before, Before, dif_pos (by omega), dif_pos (by omega), dif_pos (by omega), dif_pos (by omega)]
  pointwise [val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v1, val_main_cst_1]
  simp only [add_comm (R.val)]

/-- A padded term of the rows' gradient. -/
theorem padded (w : EReal) (n k : ℕ) (l : Fin 1024) (p : Prop) [Decidable p] (hp : p ↔ k < 4096) (hn : p → n < 4096) (hk : p → n = k) :
    (if h : p then w * val_main_v38 (F := Ideal) X W A (ix2 ⟨n, hn h⟩ l) else (0 : EReal)) = w * DConv X W A k l := by
  by_cases h : p
  · rw [dif_pos h, DConv, dif_pos (hp.mp h)]
    exact congrArg (fun a => w * val_main_v38 (F := Ideal) X W A (ix2 a l)) (Fin.ext (hk h))
  · rw [dif_neg h, DConv, dif_neg (fun g => h (hp.mpr g))]
    exact (mul_zero (M₀ := EReal) _).symm

theorem add_rev (a b d e : EReal) : a + b + d + e = e + d + b + a := by ac_rfl

theorem du_ref (R : Fin 4096) (l : Fin 1024) : val_main_v75 (F := Ideal) X W A (ix2 R l)
    = (W (ix2 0 (colOf l)) * DConv X W A (R.val + 3) l + W (ix2 1 (colOf l)) * DConv X W A (R.val + 2) l
      + W (ix2 2 (colOf l)) * DConv X W A (R.val + 1) l + W (ix2 3 (colOf l)) * DConv X W A R.val l : EReal) := by
  have hR := R.isLt
  rw [dconv_ref]
  pointwise [val_main_v75, val_main_v74, val_main_v70, val_main_v69, val_main_v65, val_main_v64, val_main_v61, val_main_v60,
    val_main_v56, val_main_v55, val_main_v52, val_main_v51, val_main_v47, val_main_v46, val_main_v44, val_main_v40, val_main_v39,
    val_main_v21, val_main_v16, val_main_v11, val_main_v5, val_main_v1, val_main_cst_10, val_main_cst_13, val_main_cst_16]
  refine (congrArg₂ (fun a b : EReal => a + b) (congrArg₂ (fun a b : EReal => a + b) (congrArg₂ (fun a b : EReal => a + b) rfl
    (padded X W A _ _ (R.val + 1) l _ ?_ ?_ ?_)) (padded X W A _ _ (R.val + 2) l _ ?_ ?_ ?_)) (padded X W A _ _ (R.val + 3) l _ ?_ ?_ ?_)).trans ?_
  any_goals omega
  exact add_rev _ _ _ _

theorem dw_ref0 (l : Fin 1024) : val_main_v76 (F := Ideal) X W A (ix2 0 l)
    = (∑ R : Fin 4096, DConv X W A R.val l * Before X (R.val + 0) l : EReal) := by
  pointwise [val_main_v76, val_main_v72, val_main_v71, val_main_v63, val_main_v62, val_main_v54, val_main_v53, val_main_v45,
    val_main_v68, val_main_v67, val_main_v66, val_main_v6, val_main_cst_8, val_main_cst_11,
    val_main_cst_14, val_main_cst_17, val_main_cst_7, val_main_cst_9, val_main_cst_12, val_main_cst_15, val_main_cst_6]
  refine Finset.sum_congr rfl fun R _ => ?_
  have hR := R.isLt
  rw [dconv_ref, Before, dif_pos (by omega)]
  try simp only [add_comm (R.val)]

theorem dw_ref1 (l : Fin 1024) : val_main_v76 (F := Ideal) X W A (ix2 1 l)
    = (∑ R : Fin 4096, DConv X W A R.val l * Before X (R.val + 1) l : EReal) := by
  pointwise [val_main_v76, val_main_v72, val_main_v71, val_main_v63, val_main_v62, val_main_v54, val_main_v53, val_main_v45,
    val_main_v59, val_main_v58, val_main_v57, val_main_v12, val_main_cst_8, val_main_cst_11,
    val_main_cst_14, val_main_cst_17, val_main_cst_7, val_main_cst_9, val_main_cst_12, val_main_cst_15, val_main_cst_6]
  refine Finset.sum_congr rfl fun R _ => ?_
  have hR := R.isLt
  rw [dconv_ref, Before, dif_pos (by omega)]
  try simp only [add_comm (R.val)]

theorem dw_ref2 (l : Fin 1024) : val_main_v76 (F := Ideal) X W A (ix2 2 l)
    = (∑ R : Fin 4096, DConv X W A R.val l * Before X (R.val + 2) l : EReal) := by
  pointwise [val_main_v76, val_main_v72, val_main_v71, val_main_v63, val_main_v62, val_main_v54, val_main_v53, val_main_v45,
    val_main_v50, val_main_v49, val_main_v48, val_main_v17, val_main_cst_8, val_main_cst_11,
    val_main_cst_14, val_main_cst_17, val_main_cst_7, val_main_cst_9, val_main_cst_12, val_main_cst_15, val_main_cst_6]
  refine Finset.sum_congr rfl fun R _ => ?_
  have hR := R.isLt
  rw [dconv_ref, Before, dif_pos (by omega)]
  try simp only [add_comm (R.val)]

theorem dw_ref3 (l : Fin 1024) : val_main_v76 (F := Ideal) X W A (ix2 3 l)
    = (∑ R : Fin 4096, DConv X W A R.val l * Before X (R.val + 3) l : EReal) := by
  pointwise [val_main_v76, val_main_v72, val_main_v71, val_main_v63, val_main_v62, val_main_v54, val_main_v53, val_main_v45,
    val_main_v43, val_main_v42, val_main_v41, val_main_v22, val_main_cst_8, val_main_cst_11,
    val_main_cst_14, val_main_cst_17, val_main_cst_7, val_main_cst_9, val_main_cst_12, val_main_cst_15, val_main_cst_6]
  refine Finset.sum_congr rfl fun R _ => ?_
  have hR := R.isLt
  rw [dconv_ref, Before, dif_pos (by omega)]
  try simp only [add_comm (R.val)]

theorem dw_ref4 (a : Fin 8) (h : ¬ a.val < 4) (l : Fin 1024) : val_main_v76 (F := Ideal) X W A (ix2 a l) = (0 : EReal) := by
  pointwise [val_main_v76, val_main_call0_v0, val_main_c]
  rw [dif_neg h]
  exact (congrArg (fun r : ℝ => (r : EReal)) (Int.cast_zero (R := ℝ))).trans EReal.coe_zero

/-- Block `t`'s rows and the eight rows before and after them, of the whole arrays. -/
structure Tile (t : ℕ) (i : grid0.Coords) (cur : Vec Ideal S256x1024 .f32) (prev nxt : Vec Ideal S8x1024 .f32) (w : Vec Ideal S4x1024 .f32)
    (da : Vec Ideal S256x1024 .f32) (dan : Vec Ideal S8x1024 .f32) : Prop where
  lt : t < 16
  hi : (i 0).val = t
  hcur : ∀ (r : Fin 256) (l : Fin 1024), cur (ix2 r l) = X (ix2 ⟨t * 256 + r.val, by have := r.isLt; omega⟩ (colOf l))
  hprev : ∀ (h : 0 < t) (r : Fin 8) (l : Fin 1024), prev (ix2 r l) = X (ix2 ⟨t * 256 - 8 + r.val, by have := r.isLt; omega⟩ (colOf l))
  hnxt : ∀ (h : t < 15) (r : Fin 8) (l : Fin 1024), nxt (ix2 r l) = X (ix2 ⟨t * 256 + 256 + r.val, by have := r.isLt; omega⟩ (colOf l))
  hw : ∀ (k : Fin 4) (l : Fin 1024), w (ix2 k l) = W (ix2 k (colOf l))
  hda : ∀ (r : Fin 256) (l : Fin 1024), da (ix2 r l) = A (ix2 ⟨t * 256 + r.val, by have := r.isLt; omega⟩ l)
  hdan : ∀ (h : t < 15) (r : Fin 8) (l : Fin 1024), dan (ix2 r l) = A (ix2 ⟨t * 256 + 256 + r.val, by have := r.isLt; omega⟩ l)

variable {X W A}
variable {t : ℕ} {i : grid0.Coords} {cur da : Vec Ideal S256x1024 .f32} {prev nxt dan : Vec Ideal S8x1024 .f32} {w : Vec Ideal S4x1024 .f32}

theorem sel_gt {α : Type} : ∀ (t : ℕ) (_ : t < 16) (a b : α), Scalar.select (Scalar.cmpi .sgt (BitVec.ofNat 32 t) 0#32) a b = if 0 < t then a else b := by
  intro t h a b
  interval_cases t <;> rfl

theorem sel_lt {α : Type} : ∀ (t : ℕ) (_ : t < 16) (a b : α), Scalar.select (Scalar.cmpi .slt (BitVec.ofNat 32 t) 15#32) a b = if t < 15 then a else b := by
  intro t h a b
  interval_cases t <;> rfl

theorem ext_at (T : Tile X W A t i cur prev nxt w da dan) (e : Fin 272) (l : Fin 1024) (h5 : 5 ≤ e.val) (hlt : t * 256 + e.val < 4104) :
    k0_pay2 (F := Ideal) i prev cur nxt (ix2 e l) = Before X (t * 256 + (e.val - 5)) l := by
  pointwise [k0_pay2]
  rw [T.hi]
  have he := e.isLt
  by_cases h : e.val < 8
  · rw [dif_pos h, sel_gt _ T.lt]
    by_cases h0 : 0 < t
    · rw [if_pos h0, T.hprev h0, show t * 256 + (e.val - 5) = (t * 256 - 8 + e.val) + 3 by omega, before_row _ _ _ (by have := T.lt; omega)]
    · rw [if_neg h0, before_zero _ _ _ (by omega)]
  · rw [dif_neg h]
    by_cases h2 : e.val - 8 < 256
    · rw [dif_pos h2, T.hcur, show t * 256 + (e.val - 5) = (t * 256 + (e.val - 8)) + 3 by omega, before_row]
    · rw [dif_neg h2, T.hnxt (by omega), show t * 256 + (e.val - 5) = (t * 256 + 256 + (e.val - 8 - 256)) + 3 by omega, before_row]

theorem tap0 (T : Tile X W A t i cur prev nxt w da dan) (r : Fin 264) (l : Fin 1024) (hlt : t * 256 + r.val < 4096) :
    k0_pay3 (F := Ideal) i prev cur nxt (ix2 r l) = Before X (t * 256 + r.val) l := by
  pointwise [k0_pay3]
  rw [ext_at T _ _ (by simp only; omega) (by simp only; omega)]
  exact congrArg (Before X · l) (by simp only; omega)

theorem tap1 (T : Tile X W A t i cur prev nxt w da dan) (r : Fin 264) (l : Fin 1024) (hlt : t * 256 + r.val < 4096) :
    k0_pay4 (F := Ideal) i prev cur nxt (ix2 r l) = Before X (t * 256 + r.val + 1) l := by
  pointwise [k0_pay4]
  rw [ext_at T _ _ (by simp only; omega) (by simp only; omega)]
  exact congrArg (Before X · l) (by simp only; omega)

theorem tap2 (T : Tile X W A t i cur prev nxt w da dan) (r : Fin 264) (l : Fin 1024) (hlt : t * 256 + r.val < 4096) :
    k0_pay5 (F := Ideal) i prev cur nxt (ix2 r l) = Before X (t * 256 + r.val + 2) l := by
  pointwise [k0_pay5]
  rw [ext_at T _ _ (by simp only; omega) (by simp only; omega)]
  exact congrArg (Before X · l) (by simp only; omega)

theorem tap3 (T : Tile X W A t i cur prev nxt w da dan) (r : Fin 264) (l : Fin 1024) (hlt : t * 256 + r.val < 4096) :
    k0_pay6 (F := Ideal) i prev cur nxt (ix2 r l) = Before X (t * 256 + r.val + 3) l := by
  pointwise [k0_pay6]
  rw [ext_at T _ _ (by simp only; omega) (by simp only; omega)]
  exact congrArg (Before X · l) (by simp only; omega)

theorem conv_at (T : Tile X W A t i cur prev nxt w da dan) (r : Fin 264) (l : Fin 1024) (hlt : t * 256 + r.val < 4096) :
    k0_pay7 (F := Ideal) i w prev cur nxt (ix2 r l) = val_main_v25 (F := Ideal) X W (ix2 ⟨t * 256 + r.val, hlt⟩ l) := by
  rw [conv_ref]
  pointwise [k0_pay7]
  rw [tap0 T _ _ hlt, tap1 T _ _ hlt, tap2 T _ _ hlt, tap3 T _ _ hlt, T.hw, T.hw, T.hw, T.hw]

theorem da_at (T : Tile X W A t i cur prev nxt w da dan) (r : Fin 264) (l : Fin 1024) :
    k0_pay8 (F := Ideal) i da dan (ix2 r l) = if h : t * 256 + r.val < 4096 then A (ix2 ⟨t * 256 + r.val, h⟩ l) else (0 : EReal) := by
  have hr := r.isLt
  pointwise [k0_pay8]
  rw [T.hi]
  by_cases h : r.val < 256
  · rw [dif_pos h, T.hda, dif_pos]
  · rw [dif_neg h, sel_lt _ T.lt]
    by_cases h2 : t < 15
    · rw [if_pos h2, T.hdan h2, dif_pos (by omega)]
      exact congrArg (fun n => A (ix2 n l)) (Fin.ext (by simp only; omega))
    · rw [if_neg h2, dif_neg (by omega)]

/-- The gradient of the convolution's result, in block `t` and the eight rows after it. -/
abbrev dk (i : grid0.Coords) (cur : Vec Ideal S256x1024 .f32) (prev nxt : Vec Ideal S8x1024 .f32) (w : Vec Ideal S4x1024 .f32)
    (da : Vec Ideal S256x1024 .f32) (dan : Vec Ideal S8x1024 .f32) : Vec Ideal S264x1024 .f32 :=
  k0_pay11 (k0_pay7 i w prev cur nxt) (k0_pay8 i da dan) (k0_pay9 i w prev cur nxt) (k0_pay10 i w prev cur nxt)

theorem dconv_at (T : Tile X W A t i cur prev nxt w da dan) (r : Fin 264) (l : Fin 1024) :
    dk i cur prev nxt w da dan (ix2 r l) = DConv X W A (t * 256 + r.val) l := by
  rw [DConv]
  by_cases h : t * 256 + r.val < 4096
  · rw [dif_pos h]
    pointwise [dk, k0_pay11, k0_pay9, k0_pay10, val_main_v38, val_main_v37, val_main_v36, val_main_v35, val_main_v34, val_main_v33,
      val_main_v32, val_main_v31, val_main_v30, val_main_v29, val_main_v28, val_main_v27, val_main_v26, val_main_cst_2, val_main_cst_3,
      val_main_cst_4, val_main_cst_5]
    rw [da_at T, conv_at T _ _ h, dif_pos h]
    rfl
  · rw [dif_neg h]
    pointwise [dk, k0_pay11]
    rw [da_at T, dif_neg h]
    exact zero_mul (M₀ := EReal) _

theorem du_at (T : Tile X W A t i cur prev nxt w da dan) (r : Fin 256) (l : Fin 1024) (R : Fin 4096) (hR : R.val = t * 256 + r.val) :
    k0_pay12 (F := Ideal) w (k0_pay7 i w prev cur nxt) (k0_pay8 i da dan) (k0_pay9 i w prev cur nxt) (k0_pay10 i w prev cur nxt) (ix2 r l)
      = val_main_v75 (F := Ideal) X W A (ix2 R l) := by
  rw [du_ref, hR]
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay12]
  rw [e, e, e, e, T.hw, T.hw, T.hw, T.hw]
  have hr := r.isLt
  have a1 : (r.val + 264 - 261) % 264 = r.val + 3 := by omega
  have a2 : (r.val + 264 - 262) % 264 = r.val + 2 := by omega
  have a3 : (r.val + 264 - 263) % 264 = r.val + 1 := by omega
  simp only [a1, a2, a3, ← add_assoc]

theorem row0 (T : Tile X W A t i cur prev nxt w da dan) (l : Fin 1024) :
    k0_pay15 (F := Ideal) (k0_pay3 i prev cur nxt) (k0_pay7 i w prev cur nxt) (k0_pay8 i da dan) (k0_pay9 i w prev cur nxt) (k0_pay10 i w prev cur nxt) (ix2 0 l)
      = (∑ r : Fin 256, DConv X W A (t * 256 + r.val) l * Before X (t * 256 + r.val + 0) l : EReal) := by
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay15, k0_pay14]
  refine Finset.sum_congr rfl fun r _ => ?_
  rw [e, tap0 T _ _ (by have := r.isLt; have := T.lt; simp only; omega)]

theorem row1 (T : Tile X W A t i cur prev nxt w da dan) (l : Fin 1024) :
    k0_pay16 (F := Ideal) (k0_pay4 i prev cur nxt) (k0_pay7 i w prev cur nxt) (k0_pay8 i da dan) (k0_pay9 i w prev cur nxt) (k0_pay10 i w prev cur nxt) (ix2 0 l)
      = (∑ r : Fin 256, DConv X W A (t * 256 + r.val) l * Before X (t * 256 + r.val + 1) l : EReal) := by
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay16, k0_pay14]
  refine Finset.sum_congr rfl fun r _ => ?_
  rw [e, tap1 T _ _ (by have := r.isLt; have := T.lt; simp only; omega)]

theorem row2 (T : Tile X W A t i cur prev nxt w da dan) (l : Fin 1024) :
    k0_pay17 (F := Ideal) (k0_pay5 i prev cur nxt) (k0_pay7 i w prev cur nxt) (k0_pay8 i da dan) (k0_pay9 i w prev cur nxt) (k0_pay10 i w prev cur nxt) (ix2 0 l)
      = (∑ r : Fin 256, DConv X W A (t * 256 + r.val) l * Before X (t * 256 + r.val + 2) l : EReal) := by
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay17, k0_pay14]
  refine Finset.sum_congr rfl fun r _ => ?_
  rw [e, tap2 T _ _ (by have := r.isLt; have := T.lt; simp only; omega)]

theorem row3 (T : Tile X W A t i cur prev nxt w da dan) (l : Fin 1024) :
    k0_pay18 (F := Ideal) (k0_pay6 i prev cur nxt) (k0_pay7 i w prev cur nxt) (k0_pay8 i da dan) (k0_pay9 i w prev cur nxt) (k0_pay10 i w prev cur nxt) (ix2 0 l)
      = (∑ r : Fin 256, DConv X W A (t * 256 + r.val) l * Before X (t * 256 + r.val + 3) l : EReal) := by
  have e : ∀ n : Fin 264, k0_pay11 (F := Ideal) (k0_pay7 i w prev cur nxt) (k0_pay8 i da dan) (k0_pay9 i w prev cur nxt) (k0_pay10 i w prev cur nxt) (ix2 n l)
    = DConv X W A (t * 256 + n.val) l := fun n => dconv_at T n l
  pointwise [k0_pay18, k0_pay14]
  refine Finset.sum_congr rfl fun r _ => ?_
  rw [e, tap3 T _ _ (by have := r.isLt; have := T.lt; simp only; omega)]

theorem pay1_at (a b d e : Vec Ideal S1x1024 .f32) (z : Vec Ideal S4x1024 .f32) (k : Fin 4) (l : Fin 1024) :
    k0_pay1 (F := Ideal) a b d e z (ix2 k l) = (z (ix2 k l) + ![a (ix2 0 l), b (ix2 0 l), d (ix2 0 l), e (ix2 0 l)] k : EReal) := by
  pointwise [k0_pay1]
  refine congrArg (fun y : EReal => z (ix2 k l) + y) ?_
  match k with
  | ⟨0, _⟩ => rfl
  | ⟨1, _⟩ => rfl
  | ⟨2, _⟩ => rfl
  | ⟨3, _⟩ => rfl

theorem dw_add (T : Tile X W A t i cur prev nxt w da dan) (z : Vec Ideal S4x1024 .f32) (k : Fin 4) (l : Fin 1024) :
    k0_pay1 (F := Ideal)
      (k0_pay15 (k0_pay3 i prev cur nxt) (k0_pay7 i w prev cur nxt) (k0_pay8 i da dan) (k0_pay9 i w prev cur nxt) (k0_pay10 i w prev cur nxt))
      (k0_pay16 (k0_pay4 i prev cur nxt) (k0_pay7 i w prev cur nxt) (k0_pay8 i da dan) (k0_pay9 i w prev cur nxt) (k0_pay10 i w prev cur nxt))
      (k0_pay17 (k0_pay5 i prev cur nxt) (k0_pay7 i w prev cur nxt) (k0_pay8 i da dan) (k0_pay9 i w prev cur nxt) (k0_pay10 i w prev cur nxt))
      (k0_pay18 (k0_pay6 i prev cur nxt) (k0_pay7 i w prev cur nxt) (k0_pay8 i da dan) (k0_pay9 i w prev cur nxt) (k0_pay10 i w prev cur nxt))
      z (ix2 k l)
    = (z (ix2 k l) + ∑ r : Fin 256, DConv X W A (t * 256 + r.val) l * Before X (t * 256 + r.val + k.val) l : EReal) := by
  rw [pay1_at]
  refine congrArg (fun y : EReal => z (ix2 k l) + y) ?_
  match k with
  | ⟨0, _⟩ => exact row0 T l
  | ⟨1, _⟩ => exact row1 T l
  | ⟨2, _⟩ => exact row2 T l
  | ⟨3, _⟩ => exact row3 T l

end Stages

variable (m : (ℓ : Loc nD τ sig) → Buf (Elt Ideal) ℓ) (ρ : Dev nD → PrngReg) (c : Dev nD)

abbrev aX : Vec Ideal S4096x3072 .f32 := m ((c : Thread nD τ).loc main_arg0)
abbrev aW : Vec Ideal S4x3072 .f32 := m ((c : Thread nD τ).loc main_arg1)
abbrev aA : Vec Ideal S4096x1024 .f32 := m ((c : Thread nD τ).loc main_arg2)

/-- Every window's block index at every point (decided). -/
theorem idx : ∀ t : Fin cfg0.N, win0_0.index t = ![t.val, 2] ∧ win0_1.index t = ![32 * t.val - 1, 2]
    ∧ win0_2.index t = ![min (32 * t.val + 32) 511, 2] ∧ win0_3.index t = ![0, 2] ∧ win0_4.index t = ![t.val, 0]
    ∧ win0_5.index t = ![min (32 * t.val + 32) 511, 0] ∧ win0_6.index t = ![t.val, 0] ∧ win0_7.index t = ![0, 0]
    ∧ (grid0.coords t 0).val = t.val :=
  (by decide +kernel : ∀ t : Fin grid0.N, _)

theorem tile (t : Fin cfg0.N) : Tile (aX m c) (aW m c) (aA m c) t.val (grid0.coords t) (iblk m c 0 t) (iblk m c 1 t) (iblk m c 2 t)
    (iblk m c 3 t) (iblk m c 4 t) (iblk m c 5 t) where
  lt := t.isLt
  hi := (idx t).2.2.2.2.2.2.2.2
  hcur r l := by blk_ext [iblk, V, idx t]
  hprev h r l := by blk_ext [iblk, V, idx t]
  hnxt h r l := by blk_ext [iblk, V, idx t]
  hw k l := by blk_ext [iblk, V, idx t]
  hda r l := by blk_ext [iblk, V, idx t]
  hdan h r l := by blk_ext [iblk, V, idx t]

/-- Row `r` of block `t`, as a row of the whole array. -/
abbrev rowOf (t : Fin cfg0.N) (r : Fin 256) : Fin 4096 :=
  ⟨t.val * 256 + r.val, by have := t.isLt; have hN : cfg0.N = 16 := N_0; omega⟩

theorem exists_ix2 {n k : ℕ} (j : (⟨2, ![n, k]⟩ : Shape).Idx) : ∃ a b, j = ix2 a b := ⟨_, _, eq_ix2 j⟩

theorem final6 : (dats m 0 c).arrAt 6 cfg0.N = val_main_v75 (F := Ideal) (aX m c) (aW m c) (aA m c) := by
  refine (dats m 0 c).arrAt_eq_of_covers 6 _ (by decide +kernel) fun t hf y => ?_
  have hy : (win0_6.blk t).view.emb y = ix2 (rowOf t (y 0)) (y 1) := by blk_ext [idx t]
  have hd := du_at (tile m c t) (y 0) (y 1) (rowOf t (y 0)) rfl
  rw [after0_6]
  by_cases h0 : t.val % 16 = 0
  · rw [outsAt0_A m c t h0]
    frame_out
    exact (congrArg _ (eq_ix2 y)).trans (hd.trans (congrArg _ hy.symm))
  · rw [outsAt0_B m c t h0]
    frame_out
    exact (congrArg _ (eq_ix2 y)).trans (hd.trans (congrArg _ hy.symm))

/-- The sixteen blocks' sums are one sum over the rows. -/
theorem sum_rows (f : Fin 4096 → EReal) : ∑ t : Fin cfg0.N, ∑ r : Fin 256, f (rowOf t r) = ∑ R : Fin 4096, f R :=
  Fin.sum_mul_add_congr fun _ _ _ => rfl

/-- A store of the first four rows over a store of all eight. -/
theorem canon_low (w : Vec Ideal S4x1024 .f32) (z : Vec Ideal S8x1024 .f32) (a : Fin 8) (l : Fin 1024) :
    View.canon (Val := Elt Ideal) (s := S8x1024) (e := .f32) [⟨Rect.unit ![0, 0] ![4, 1024] inb_S8x1024_S4x1024_0_0, w⟩,
      ⟨Rect.unit ![0, 0] ![8, 1024] inb_S8x1024_S8x1024_0_0, z⟩] (ix2 a l) = if h : a.val < 4 then w (ix2 ⟨a.val, h⟩ l) else z (ix2 a l) := by
  by_cases h : a.val < 4
  · rw [dif_pos h]
    have e : ix2 a l = (Rect.unit (s := S8x1024) ![0, 0] ![4, 1024] inb_S8x1024_S4x1024_0_0).emb (ix2 ⟨a.val, h⟩ l) := by
      funext b
      match b with
      | ⟨0, _⟩ => exact Fin.ext (by show a.val = 0 + 1 * a.val; omega)
      | ⟨1, _⟩ => exact Fin.ext (by show l.val = 0 + 1 * l.val; omega)
    rw [e]
    exact View.canon_cons_emb _ _ _ _
  · rw [dif_neg h, View.canon_cons_of_not_mem]
    · exact congrFun (View.canon_cons_unit_lit inb_S8x1024_S8x1024_0_0 z [] (by decide)) _
    · rw [Rect.mem_set_unit]
      intro g
      exact h (by have := (g 0).2; simpa using this)

theorem pay13_at (j : S8x1024.Idx) : k0_pay13 (F := Ideal) j = 0 := by
  obtain ⟨a, l, rfl⟩ := exists_ix2 j
  pointwise [k0_pay13]

/-- Block `t`'s part of the weights' gradient. -/
def part (t : ℕ) (a : Fin 8) (l : Fin 1024) : EReal :=
  if a.val < 4 then ∑ r : Fin 256, DConv (aX m c) (aW m c) (aA m c) (t * 256 + r.val) l * Before (aX m c) (t * 256 + r.val + a.val) l else 0

theorem dw_ref (a : Fin 8) (l : Fin 1024) : val_main_v76 (F := Ideal) (aX m c) (aW m c) (aA m c) (ix2 a l) = ∑ t : Fin cfg0.N, part m c t.val a l := by
  by_cases h : a.val < 4
  · simp only [part, if_pos h]
    refine Eq.trans ?_ (sum_rows fun R => DConv (aX m c) (aW m c) (aA m c) R.val l * Before (aX m c) (R.val + a.val) l).symm
    match a, h with
    | ⟨0, _⟩, _ => exact dw_ref0 _ _ _ l
    | ⟨1, _⟩, _ => exact dw_ref1 _ _ _ l
    | ⟨2, _⟩, _ => exact dw_ref2 _ _ _ l
    | ⟨3, _⟩, _ => exact dw_ref3 _ _ _ l
  · simp only [part, if_neg h]
    rw [dw_ref4 _ _ _ a h]
    exact (Finset.sum_const_zero (M := EReal)).symm

theorem final7 : (dats m 0 c).arrAt 7 cfg0.N = val_main_v76 (F := Ideal) (aX m c) (aW m c) (aA m c) := by
  refine (dats m 0 c).arrAt_eq_of_after_last 7 t0_15 (by decide +kernel) _ fun j => ?_
  blk_simp
  rw [after0_7]
  rw [Pipeline.eq_sum_fin_of_reset_step_apply_last (fun n h => (outsAt0 m c n h).2) 16 (fun _ => 0)
    (fun t j => part m c t (j 0) (j 1))
    (fun t h j => by
      rw [outsAt0_A m c t h]; frame_out
      obtain ⟨a, l, rfl⟩ := exists_ix2 j
      refine (canon_low _ _ a l).trans ?_
      show _ = (0 + part m c t.val a l : EReal)
      by_cases ha : a.val < 4
      · rw [dif_pos ha, part, if_pos ha]
        refine (dw_add (tile m c t) _ ⟨a.val, ha⟩ l).trans (congrArg (fun z : EReal => z + _) ?_)
        rw [View.readCov_eq_canon_ld _ _ _ (fun y => ⟨_, List.mem_cons_self, by
          rw [Rect.mem_set_unit]; intro b; have := (y b).isLt; fin_cases b <;> simpa using this⟩),
          View.canon_cons_unit_lit inb_S8x1024_S8x1024_0_0 _ [] (by decide)]
        show k0_pay13 (F := Ideal) _ = 0
        exact pay13_at _
      · rw [dif_neg ha, part, if_neg ha, pay13_at]
        exact (zero_add (M := EReal) _).symm)
    (fun t h j => by
      rw [outsAt0_B m c t h]; frame_out
      obtain ⟨a, l, rfl⟩ := exists_ix2 j
      show _ = ((outsAt0 m c (t.val - 1) _).2 (ix2 a l) + part m c t.val a l : EReal)
      by_cases ha : a.val < 4
      · rw [part, if_pos ha]
        refine (View.read_writes_cons_rows_of_mem _ _ _ _ [] (ix2 a l) (ix2 ⟨a.val, ha⟩ l) rfl (by simp) rfl).trans
          ((dw_add (tile m c t) _ ⟨a.val, ha⟩ l).trans (congrArg (fun z : EReal => z + _) ?_))
        refine congrArg (outsAt0 m c (t.val - 1) _).2 ?_
        funext b
        match b with
        | ⟨0, _⟩ => exact Fin.ext (by show 0 + 1 * a.val = a.val; omega)
        | ⟨1, _⟩ => exact Fin.ext (by show 0 + 1 * l.val = l.val; omega)
      · rw [part, if_neg ha]
        refine (View.read_writes_cons_rows_of_not_mem (o := 0) (W := 4) _ _ _ _ [] (ix2 a l) rfl rfl (by right; simp; omega)).trans ?_
        refine (congrFun (Memref.IsWhole.read_unread _ _) _).trans ?_
        exact (add_zero (M := EReal) _).symm) (le_of_eq N_0) t0_15 rfl j]
  refine (zero_add (M := EReal) _).trans (Eq.trans ?_ ((dw_ref m c (j 0) (j 1)).symm.trans (congrArg _ (eq_ix2 j).symm)))
  rfl

end Cert.ConvBwdVIdeal.RefValue

namespace Cert.Proof.ConvBwdV

/-- At `Ideal` the kernel's two result arrays and the reference's agree. -/
theorem algebraic : Cert.algebraic_ConvBwdVIdeal_ConvBwdVRefIdeal := by
  pair_intro
  · run_from Cert.ConvBwdVIdeal.Value.run_blocks m g
  · run_from Cert.ConvBwdVRefIdeal.Value.run m' g'
    all_goals
      obtain ⟨h0, h1, h2⟩ := hagree c
    · rw [Cert.ConvBwdVIdeal.RefValue.final6 m c, Cert.ConvBwdVRefIdeal.Read.val_main_v75_eq m' c, h0, h1, h2]
    · rw [Cert.ConvBwdVIdeal.RefValue.final7 m c, Cert.ConvBwdVRefIdeal.Read.val_main_v76_eq m' c, h0, h1, h2]

end Cert.Proof.ConvBwdV
end
-- ==== Proof.LnplFwdValue.lean ====
/- The first layer's norm and gated embedding, forwards: the kernel's two result arrays after its eight grid points, and
   the claim that they are the reference's. Each block is 512 rows. -/
module

public import proofs.«01_k».proof.Defs
public import proofs.«01_k».proof.Proof.Gen.LnplFwdIdeal.Value
public import proofs.«01_k».proof.Proof.Gen.LnplFwdRefIdeal.Run
public import proofs.«01_k».proof.Proof.Gen.LnplFwdRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LnplFwdIdeal.RefValue

open Cert.LnplFwdIdeal Cert.LnplFwdIdeal.Gen Cert.LnplFwdIdeal.Value Cert.LnplFwdRefIdeal.Read

section Stages

variable {x s : Vec Ideal S512x1024 .f32} {p : Vec Ideal S512x256 .f32}
variable {X S : Vec Ideal S4096x1024 .f32} {P : Vec Ideal S4096x256 .f32}
variable {Wg : Vec Ideal S1024x1024 .bf16} {Wp : Vec Ideal S256x1024 .bf16} {G B : Vec Ideal S1x1024 .f32}
variable {r : Fin 512} {R : Fin 4096}

/-- The input less its mean. -/
def devOf (v0 v3 : Vec Ideal S512x1024 .f32) : FVec Ideal S512x1024 .f32 :=
  have cst : Ideal .f32 := Scalar.ofBits .f32 0x3FB504F3#32
  have v1 : FVec Ideal S512x1024 .f32 := broadcast S512x1024 cst
  have v2 : FVec Ideal S512x1024 .f32 := mulf v1 v0
  have v4 : FVec Ideal S512x1024 .f32 := addf v2 v3
  have v7 : FVec Ideal S512 .f32 := multiReduction .add [1] S512 v4 0x00000000#32 reduces_S512x1024_S512 (.inl rfl) rfl
  have v8 : FVec Ideal S512x1 .f32 := shapeCast S512x1 v7 shapeCasts_S512_S512x1
  have cst_8 : Ideal .f32 := Scalar.ofBits .f32 0x44800000#32
  have v9 : FVec Ideal S512x1 .f32 := broadcast S512x1 cst_8
  have v10 : FVec Ideal S512x1 .f32 := divf v8 v9
  have v11 : FVec Ideal S512x1024 .f32 := broadcastTo S512x1024 v10 broadcasts_S512x1_S512x1024
  have v12 : FVec Ideal S512x1024 .f32 := subf v4 v11
  v12

/-- One over the square root of the variance. -/
def rsOf (v12 : FVec Ideal S512x1024 .f32) : FVec Ideal S512x1 .f32 :=
  have v13 : FVec Ideal S512x1024 .f32 := mulf v12 v12
  have v14 : FVec Ideal S512 .f32 := multiReduction .add [1] S512 v13 0x00000000#32 reduces_S512x1024_S512 (.inl rfl) rfl
  have v15 : FVec Ideal S512x1 .f32 := shapeCast S512x1 v14 shapeCasts_S512_S512x1
  have cst_10 : Ideal .f32 := Scalar.ofBits .f32 0x44800000#32
  have v16 : FVec Ideal S512x1 .f32 := broadcast S512x1 cst_10
  have v17 : FVec Ideal S512x1 .f32 := divf v15 v16
  have cst_11 : Ideal .f32 := Scalar.ofBits .f32 0x3727C5AC#32
  have v18 : FVec Ideal S512x1 .f32 := broadcast S512x1 cst_11
  have v19 : FVec Ideal S512x1 .f32 := addf v17 v18
  have v20 : FVec Ideal S512x1 .f32 := rsqrt v19
  v20

/-- The norm's result. -/
def xnOf (v12 : FVec Ideal S512x1024 .f32) (v20 : FVec Ideal S512x1 .f32) (v5 v6 : Vec Ideal S1x1024 .f32) : FVec Ideal S512x1024 .f32 :=
  have v21 : FVec Ideal S512x1024 .f32 := broadcastTo S512x1024 v20 broadcasts_S512x1_S512x1024
  have v22 : FVec Ideal S512x1024 .f32 := mulf v12 v21
  have v23 : FVec Ideal S512x1024 .f32 := broadcastTo S512x1024 v5 broadcasts_S1x1024_S512x1024
  have v24 : FVec Ideal S512x1024 .f32 := mulf v22 v23
  have v25 : FVec Ideal S512x1024 .f32 := broadcastTo S512x1024 v6 broadcasts_S1x1024_S512x1024
  have v26 : FVec Ideal S512x1024 .f32 := addf v24 v25
  v26

/-- The gate. -/
def gateOf (v26 : FVec Ideal S512x1024 .f32) (v27 : FVec Ideal S1024x1024 .bf16) : FVec Ideal S512x1024 .f32 :=
  have v28 : FVec Ideal S512x1024 .bf16 := truncf .bf16 v26 bitsLt_bf16_f32
  have cst_14 : FVec Ideal S512x1024 .f32 := constant S512x1024 .f32 0x00000000#32
  have v29 : FVec Ideal S512x1024 .f32 := matmul dot_S512x1024_S1024x1024_S512x1024_1_0_0_1_n_n none v28 v27 cst_14
  have v30 : FVec Ideal S512x1024 .f32 := logistic v29
  v30

/-- The embedding. -/
def embOf (v31 : Vec Ideal S512x256 .f32) (v32 : FVec Ideal S256x1024 .bf16) : FVec Ideal S512x1024 .f32 :=
  have v33 : FVec Ideal S512x256 .bf16 := truncf .bf16 v31 bitsLt_bf16_f32
  have cst_19 : FVec Ideal S512x1024 .f32 := constant S512x1024 .f32 0x00000000#32
  have v34 : FVec Ideal S512x1024 .f32 := matmul dot_S512x256_S256x1024_S512x1024_1_0_0_1_n_n none v33 v32 cst_19
  v34

theorem pay_eq (v0 v3 : Vec Ideal S512x1024 .f32) (v5 v6 : Vec Ideal S1x1024 .f32) (v27 : Vec Ideal S1024x1024 .bf16)
    (v31 : Vec Ideal S512x256 .f32) (v32 : Vec Ideal S256x1024 .bf16) :
    k0_pay2 (F := Ideal) v0 v3 v5 v6 v27 v31 v32 = addf (xnOf (devOf v0 v3) (rsOf (devOf v0 v3)) v5 v6)
      (mulf (embOf v31 v32) (gateOf (xnOf (devOf v0 v3) (rsOf (devOf v0 v3)) v5 v6) v27)) := rfl

/-- Row `r` of the blocks is row `R` of the arrays. -/
structure Row (x s : Vec Ideal S512x1024 .f32) (p : Vec Ideal S512x256 .f32) (X S : Vec Ideal S4096x1024 .f32)
    (P : Vec Ideal S4096x256 .f32) (r : Fin 512) (R : Fin 4096) : Prop where
  hx : ∀ l : Fin 1024, x (ix2 r l) = X (ix2 R l)
  hs : ∀ l : Fin 1024, s (ix2 r l) = S (ix2 R l)
  hp : ∀ l : Fin 256, p (ix2 r l) = P (ix2 R l)

theorem dev_at (h : Row x s p X S P r R) (l : Fin 1024) : devOf x s (ix2 r l) = val_main_v8 (F := Ideal) X S (ix2 R l) := by
  pointwise [devOf, val_main_v8, val_main_v7, val_main_v6, val_main_v5, val_main_v4, val_main_v3, val_main_v2, val_main_v1,
    val_main_v0, val_main_cst, val_main_cst_0, val_main_cst_1]
  simp only [h.hx, h.hs]

theorem rs_at (h : Row x s p X S P r R) : rsOf (devOf x s) (ix2 r 0) = val_main_v16 (F := Ideal) X S (ix2 R 0) := by
  pointwise [rsOf, val_main_v16, val_main_v15, val_main_v14, val_main_v13, val_main_v12, val_main_v11, val_main_v10, val_main_v9,
    val_main_cst_2, val_main_cst_3, val_main_cst_4]
  simp only [dev_at h]

theorem xn_at (h : Row x s p X S P r R) (l : Fin 1024) :
    xnOf (devOf x s) (rsOf (devOf x s)) G B (ix2 r l) = val_main_v22 (F := Ideal) X S G B (ix2 R l) := by
  pointwise [xnOf, val_main_v22, val_main_v21, val_main_v20, val_main_v19, val_main_v18, val_main_v17]
  simp only [dev_at h, rs_at h]

theorem gate_at (h : Row x s p X S P r R) (l : Fin 1024) :
    gateOf (xnOf (devOf x s) (rsOf (devOf x s)) G B) Wg (ix2 r l) = val_main_v29 (F := Ideal) X S Wg G B (ix2 R l) := by
  pointwise [gateOf, val_main_v29, val_main_v28, val_main_v27, val_main_v26, val_main_v25, val_main_v24, val_main_v23,
    val_main_cst_5, val_main_cst_6]
  simp only [xn_at h]
  rfl

theorem emb_at (h : Row x s p X S P r R) (l : Fin 1024) : embOf p Wp (ix2 r l) = val_main_v30 (F := Ideal) P Wp (ix2 R l) := by
  pointwise [embOf, val_main_v30]
  simp only [h.hp]

theorem out_at (h : Row x s p X S P r R) (l : Fin 1024) :
    k0_pay2 (F := Ideal) x s G B Wg p Wp (ix2 r l) = val_main_v32 (F := Ideal) X S P Wg Wp G B (ix2 R l) := by
  rw [pay_eq]
  pointwise [val_main_v32, val_main_v31]
  rw [xn_at h, gate_at h, emb_at h]

theorem copy_at (h : Row x s p X S P r R) (l : Fin 1024) :
    k0_pay1 (F := Ideal) (k0_pay2 x s G B Wg p Wp) (ix2 r l) = val_main_v33 (F := Ideal) X S P Wg Wp G B (ix2 R l) := by
  pointwise [k0_pay1, val_main_v33]
  exact out_at h l

end Stages

variable (m : (ℓ : Loc nD τ sig) → Buf (Elt Ideal) ℓ) (c : Dev nD)

abbrev a0 : Vec Ideal S4096x1024 .f32 := m ((c : Thread nD τ).loc main_arg0)
abbrev a1 : Vec Ideal S4096x1024 .f32 := m ((c : Thread nD τ).loc main_arg1)
abbrev a2 : Vec Ideal S4096x256 .f32 := m ((c : Thread nD τ).loc main_arg2)
abbrev a3 : Vec Ideal S1024x1024 .bf16 := m ((c : Thread nD τ).loc main_arg3)
abbrev a4 : Vec Ideal S256x1024 .bf16 := m ((c : Thread nD τ).loc main_arg4)
abbrev a5 : Vec Ideal S1x1024 .f32 := m ((c : Thread nD τ).loc main_arg5)
abbrev a6 : Vec Ideal S1x1024 .f32 := m ((c : Thread nD τ).loc main_arg6)

/-- Every window's block index at every point (decided). -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

/-- Row `r` of block `t`, as a row of the whole array. -/
abbrev rowOf (t : Fin cfg0.N) (r : Fin 512) : Fin 4096 :=
  ⟨t.val * 512 + r.val, by have := t.isLt; have hN : cfg0.N = 8 := N_0; omega⟩

theorem row (t : Fin cfg0.N) (r : Fin 512) :
    Row (iblk m c 0 t) (iblk m c 1 t) (iblk m c 2 t) (a0 m c) (a1 m c) (a2 m c) r (rowOf t r) where
  hx l := by blk_ext [iblk, V, idx t]
  hs l := by blk_ext [iblk, V, idx t]
  hp l := by blk_ext [iblk, V, idx t]

theorem exists_ix2 {n k : ℕ} (j : (⟨2, ![n, k]⟩ : Shape).Idx) : ∃ a b, j = ix2 a b := ⟨_, _, eq_ix2 j⟩

theorem whole3 (t : Fin cfg0.N) : iblk m c 3 t = a3 m c := by
  refine funext fun (j : S1024x1024.Idx) => ?_
  obtain ⟨k, l, rfl⟩ := exists_ix2 j
  blk_ext [iblk, V, idx t]
theorem whole4 (t : Fin cfg0.N) : iblk m c 4 t = a4 m c := by
  refine funext fun (j : S256x1024.Idx) => ?_
  obtain ⟨k, l, rfl⟩ := exists_ix2 j
  blk_ext [iblk, V, idx t]
theorem whole5 (t : Fin cfg0.N) : iblk m c 5 t = a5 m c := by
  refine funext fun (j : S1x1024.Idx) => ?_
  obtain ⟨k, l, rfl⟩ := exists_ix2 j
  blk_ext [iblk, V, idx t]
theorem whole6 (t : Fin cfg0.N) : iblk m c 6 t = a6 m c := by
  refine funext fun (j : S1x1024.Idx) => ?_
  obtain ⟨k, l, rfl⟩ := exists_ix2 j
  blk_ext [iblk, V, idx t]

theorem out_blk (t : Fin cfg0.N) (r : Fin 512) (l : Fin 1024) :
    k0_pay2 (F := Ideal) (iblk m c 0 t) (iblk m c 1 t) (iblk m c 5 t) (iblk m c 6 t) (iblk m c 3 t) (iblk m c 2 t) (iblk m c 4 t) (ix2 r l)
      = val_main_v32 (F := Ideal) (a0 m c) (a1 m c) (a2 m c) (a3 m c) (a4 m c) (a5 m c) (a6 m c) (ix2 (rowOf t r) l) := by
  rw [whole3, whole4, whole5, whole6]
  exact out_at (row m c t r) l

theorem copy_blk (t : Fin cfg0.N) (r : Fin 512) (l : Fin 1024) :
    k0_pay1 (F := Ideal) (k0_pay2 (iblk m c 0 t) (iblk m c 1 t) (iblk m c 5 t) (iblk m c 6 t) (iblk m c 3 t) (iblk m c 2 t) (iblk m c 4 t)) (ix2 r l)
      = val_main_v33 (F := Ideal) (a0 m c) (a1 m c) (a2 m c) (a3 m c) (a4 m c) (a5 m c) (a6 m c) (ix2 (rowOf t r) l) := by
  rw [whole3, whole4, whole5, whole6]
  exact copy_at (row m c t r) l

theorem final7 : (dats m 0 c).arrAt 7 cfg0.N
    = val_main_v32 (F := Ideal) (a0 m c) (a1 m c) (a2 m c) (a3 m c) (a4 m c) (a5 m c) (a6 m c) := by
  refine (dats m 0 c).arrAt_eq_of_covers 7 _ (by decide +kernel) fun t hf y => ?_
  have hy : (win0_7.blk t).view.emb y = ix2 (rowOf t (y 0)) (y 1) := by blk_ext [idx t]
  have hp := out_blk m c t (y 0) (y 1)
  rw [after0_7]
  unfold_out out0_7
  frame_out
  exact (congrArg _ (eq_ix2 y)).trans (hp.trans (congrArg _ hy.symm))

theorem final8 : (dats m 0 c).arrAt 8 cfg0.N
    = val_main_v33 (F := Ideal) (a0 m c) (a1 m c) (a2 m c) (a3 m c) (a4 m c) (a5 m c) (a6 m c) := by
  refine (dats m 0 c).arrAt_eq_of_covers 8 _ (by decide +kernel) fun t hf y => ?_
  have hy : (win0_8.blk t).view.emb y = ix2 (rowOf t (y 0)) (y 1) := by blk_ext [idx t]
  have hp := copy_blk m c t (y 0) (y 1)
  rw [after0_8]
  unfold_out out0_8
  frame_out
  exact (congrArg _ (eq_ix2 y)).trans (hp.trans (congrArg _ hy.symm))

end Cert.LnplFwdIdeal.RefValue

namespace Cert.Proof.LnplFwd

/-- At `Ideal` the kernel's two result arrays and the reference's agree. -/
theorem algebraic : Cert.algebraic_LnplFwdIdeal_LnplFwdRefIdeal := by
  pair_intro
  · run_from Cert.LnplFwdIdeal.Value.run_blocks m g
  · run_from Cert.LnplFwdRefIdeal.Value.run m' g'
    all_goals
      obtain ⟨h0, h1, h2, h3, h4, h5, h6⟩ := hagree c
    · rw [Cert.LnplFwdIdeal.RefValue.final7 m c, Cert.LnplFwdRefIdeal.Read.val_main_v32_eq m' c, h0, h1, h2, h3, h4, h5, h6]
    · rw [Cert.LnplFwdIdeal.RefValue.final8 m c, Cert.LnplFwdRefIdeal.Read.val_main_v33_eq m' c, h0, h1, h2, h3, h4, h5, h6]

end Cert.Proof.LnplFwd
end
-- ==== Proof.ConvAFwdValue.lean ====
/- The gated convolution of the first layer, forwards: the kernel's result array after its sixteen grid points, and the
   claim that it is the reference's. A block of 256 rows is read with the eight rows before it. -/
module

public import proofs.«01_k».proof.Defs
public import proofs.«01_k».proof.Proof.Gen.ConvAFwdIdeal.Value
public import proofs.«01_k».proof.Proof.Gen.ConvAFwdRefIdeal.Run
public import proofs.«01_k».proof.Proof.Gen.ConvAFwdRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvAFwdIdeal.RefValue

open Cert.ConvAFwdIdeal Cert.ConvAFwdIdeal.Gen Cert.ConvAFwdIdeal.Value Cert.ConvAFwdRefIdeal.Read

section Stages

variable (X : Vec Ideal S4096x4096 .f32) (W : Vec Ideal S3x1024 .f32)

/-- The products of the first two quarters of the columns, with two zero rows before them. -/
def Before (n : ℕ) (l : Fin 1024) : EReal := if h : n < 4098 then val_main_v6 (F := Ideal) X (ix2 ⟨n, h⟩ l) else 0

theorem before_row (n : ℕ) (l : Fin 1024) (hn : n < 4096) : Before X (n + 2) l = val_main_v4 (F := Ideal) X (ix2 ⟨n, hn⟩ l) := by
  rw [Before, dif_pos (by omega)]
  pointwise [val_main_v6]
  rw [dif_neg (by omega)]
  exact congrArg (val_main_v4 (F := Ideal) X) (by ext1; simp)

theorem before_zero (n : ℕ) (l : Fin 1024) (hn : n < 2) : Before X n l = 0 := by
  rw [Before, dif_pos (by omega)]
  pointwise [val_main_v6, val_main_v5, val_main_cst]
  rw [dif_pos hn]

theorem conv_ref (R : Fin 4096) (l : Fin 1024) : val_main_v22 (F := Ideal) X W (ix2 R l)
    = (W (ix2 0 l) * Before X R.val l + W (ix2 1 l) * Before X (R.val + 1) l + W (ix2 2 l) * Before X (R.val + 2) l : EReal) := by
  rw [Before, Before, Before, dif_pos (by omega), dif_pos (by omega), dif_pos (by omega)]
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_cst_0]
  try simp only [add_comm (R.val)]

/-- Block `t`'s products with those of the eight rows before it. -/
def ext (i : grid0.Coords) (v0 : Vec Ideal S256x4096 .f32) (v5 : Vec Ideal S8x4096 .f32) : FVec Ideal S264x1024 .f32 :=
  have arg0 : BitVec 32 := BitVec.ofNat 32 (i 0).val
  have v1 : FVec Ideal S256x1024 .f32 := extractStridedSlice S256x1024 ![0, 0] v0 slices_S256x4096_o0_0_S256x1024
  have v2 : FVec Ideal S256x1024 .f32 := extractStridedSlice S256x1024 ![0, 1024] v0 slices_S256x4096_o0_1024_S256x1024
  have v6 : BitVec 1 := Scalar.cmpi .sgt arg0 0#32
  have v7 : FVec Ideal S8x1024 .f32 := extractStridedSlice S8x1024 ![0, 1024] v5 slices_S8x4096_o0_1024_S8x1024
  have v8 : FVec Ideal S8x1024 .f32 := extractStridedSlice S8x1024 ![0, 0] v5 slices_S8x4096_o0_0_S8x1024
  have v9 : FVec Ideal S8x1024 .f32 := mulf v7 v8
  have cst : Ideal .f32 := Scalar.ofBits .f32 0x00000000#32
  have v10 : FVec Ideal S8x1024 .f32 := broadcast S8x1024 cst
  have v11 : FVec Ideal S8x1024 .f32 := Scalar.select v6 v9 v10
  have v12 : FVec Ideal S256x1024 .f32 := mulf v2 v1
  have v13 : FVec Ideal S264x1024 .f32 := concatenate S264x1024 0 [⟨S8x1024, v11⟩, ⟨S256x1024, v12⟩] concatenates_S8x1024_S256x1024_S264x1024_d0
  v13

/-- The three taps over those rows. -/
def convOf (v14 : Vec Ideal S3x1024 .f32) (v13 : FVec Ideal S264x1024 .f32) : FVec Ideal S256x1024 .f32 :=
  have v15 : FVec Ideal S1x1024 .f32 := extractStridedSlice S1x1024 ![0, 0] v14 slices_S3x1024_o0_0_S1x1024
  have v16 : FVec Ideal S264x1024 .f32 := dynamicRotate 0 2#32 none v13 rotates_S264x1024_d0
  have v17 : FVec Ideal S264x1024 .f32 := broadcastTo S264x1024 v15 broadcasts_S1x1024_S264x1024
  have v18 : FVec Ideal S264x1024 .f32 := mulf v17 v16
  have v19 : FVec Ideal S1x1024 .f32 := extractStridedSlice S1x1024 ![1, 0] v14 slices_S3x1024_o1_0_S1x1024
  have v20 : FVec Ideal S264x1024 .f32 := dynamicRotate 0 1#32 none v13 rotates_S264x1024_d0
  have v21 : FVec Ideal S264x1024 .f32 := broadcastTo S264x1024 v19 broadcasts_S1x1024_S264x1024
  have v22 : FVec Ideal S264x1024 .f32 := mulf v21 v20
  have v23 : FVec Ideal S264x1024 .f32 := addf v18 v22
  have v24 : FVec Ideal S1x1024 .f32 := extractStridedSlice S1x1024 ![2, 0] v14 slices_S3x1024_o2_0_S1x1024
  have v25 : FVec Ideal S264x1024 .f32 := broadcastTo S264x1024 v24 broadcasts_S1x1024_S264x1024
  have v26 : FVec Ideal S264x1024 .f32 := mulf v25 v13
  have v27 : FVec Ideal S264x1024 .f32 := addf v23 v26
  have v28 : FVec Ideal S256x1024 .f32 := extractStridedSlice S256x1024 ![8, 0] v27 slices_S264x1024_o8_0_S256x1024
  v28

/-- The taps times the third quarter of the columns and the gate of the fourth. -/
def gated (v0 : Vec Ideal S256x4096 .f32) (v28 : FVec Ideal S256x1024 .f32) : FVec Ideal S256x1024 .bf16 :=
  have v3 : FVec Ideal S256x1024 .f32 := extractStridedSlice S256x1024 ![0, 2048] v0 slices_S256x4096_o0_2048_S256x1024
  have v4 : FVec Ideal S256x1024 .f32 := extractStridedSlice S256x1024 ![0, 3072] v0 slices_S256x4096_o0_3072_S256x1024
  have v29 : FVec Ideal S256x1024 .f32 := mulf v3 v28
  have v30 : FVec Ideal S256x1024 .f32 := logistic v4
  have v31 : FVec Ideal S256x1024 .f32 := mulf v4 v30
  have v32 : FVec Ideal S256x1024 .f32 := mulf v29 v31
  have v33 : FVec Ideal S256x1024 .bf16 := truncf .bf16 v32 bitsLt_bf16_f32
  v33

theorem pay_eq (i : grid0.Coords) (v0 : Vec Ideal S256x4096 .f32) (v5 : Vec Ideal S8x4096 .f32) (v14 : Vec Ideal S3x1024 .f32) :
    k0_pay1 (F := Ideal) i v0 v5 v14 = gated v0 (convOf v14 (ext i v0 v5)) := rfl

/-- Block `t`'s rows and the eight rows before them, of the whole arrays. -/
structure Tile (t : ℕ) (i : grid0.Coords) (cur : Vec Ideal S256x4096 .f32) (prev : Vec Ideal S8x4096 .f32) (w : Vec Ideal S3x1024 .f32) : Prop where
  lt : t < 16
  hi : (i 0).val = t
  hcur : ∀ (r : Fin 256) (l : Fin 4096), cur (ix2 r l) = X (ix2 ⟨t * 256 + r.val, by have := r.isLt; omega⟩ l)
  hprev : ∀ (h : 0 < t) (r : Fin 8) (l : Fin 4096), prev (ix2 r l) = X (ix2 ⟨t * 256 - 8 + r.val, by have := r.isLt; omega⟩ l)
  hw : ∀ (k : Fin 3) (l : Fin 1024), w (ix2 k l) = W (ix2 k l)

variable {X W}
variable {t : ℕ} {i : grid0.Coords} {cur : Vec Ideal S256x4096 .f32} {prev : Vec Ideal S8x4096 .f32} {w : Vec Ideal S3x1024 .f32}

theorem sel_gt {α : Type} : ∀ (t : ℕ) (_ : t < 16) (a b : α), Scalar.select (Scalar.cmpi .sgt (BitVec.ofNat 32 t) 0#32) a b = if 0 < t then a else b := by
  intro t h a b
  interval_cases t <;> rfl

theorem ext_at (T : Tile X W t i cur prev w) (e : Fin 264) (l : Fin 1024) (h6 : 6 ≤ e.val) :
    ext i cur prev (ix2 e l) = Before X (t * 256 + (e.val - 6)) l := by
  have hlt := T.lt
  have he := e.isLt
  pointwise [ext]
  rw [T.hi]
  by_cases h : e.val < 8
  · rw [dif_pos h, sel_gt _ T.lt]
    by_cases h0 : 0 < t
    · rw [if_pos h0, show t * 256 + (e.val - 6) = (t * 256 - 8 + e.val) + 2 by omega, before_row _ _ _ (by omega)]
      pointwise [val_main_v4, val_main_v1, val_main_v0]
      rw [T.hprev h0, T.hprev h0]
    · rw [if_neg h0, before_zero _ _ _ (by omega)]
      try pointwise []
  · rw [dif_neg h, show t * 256 + (e.val - 6) = (t * 256 + (e.val - 8)) + 2 by omega, before_row _ _ _ (by omega)]
    pointwise [val_main_v4, val_main_v1, val_main_v0]
    rw [T.hcur, T.hcur]

theorem conv_at (T : Tile X W t i cur prev w) (r : Fin 256) (l : Fin 1024) (R : Fin 4096) (hR : R.val = t * 256 + r.val) :
    convOf w (ext i cur prev) (ix2 r l) = val_main_v22 (F := Ideal) X W (ix2 R l) := by
  have hr := r.isLt
  rw [conv_ref, hR]
  pointwise [convOf]
  rw [ext_at T _ _ (by simp only; omega), ext_at T _ _ (by simp only; omega), ext_at T _ _ (by simp only; omega), T.hw, T.hw, T.hw]
  have a0 : (8 + r.val + 264 - 2) % 264 - 6 = r.val := by omega
  have a1 : (8 + r.val + 264 - 1) % 264 - 6 = r.val + 1 := by omega
  have a2 : 8 + r.val - 6 = r.val + 2 := by omega
  simp only [a0, a1, a2, ← add_assoc]

theorem out_at (T : Tile X W t i cur prev w) (r : Fin 256) (l : Fin 1024) (R : Fin 4096) (hR : R.val = t * 256 + r.val) :
    k0_pay1 (F := Ideal) i cur prev w (ix2 r l) = val_main_v26 (F := Ideal) X W (ix2 R l) := by
  have hl : t * 256 + r.val < 4096 := hR ▸ R.isLt
  obtain rfl : R = ⟨t * 256 + r.val, hl⟩ := Fin.ext hR
  rw [pay_eq]
  pointwise [gated, val_main_v26, val_main_v25, val_main_v24, val_main_v23, val_main_v3, val_main_v2, val_main_call0_v5,
    val_main_call0_v4, val_main_call0_v3, val_main_call0_v2, val_main_call0_v1, val_main_call0_v0, val_main_call0_cst,
    val_main_call0_cst_0]
  rw [conv_at T r l ⟨t * 256 + r.val, hl⟩ rfl, T.hcur, T.hcur]
  rfl

end Stages

variable (m : (ℓ : Loc nD τ sig) → Buf (Elt Ideal) ℓ) (c : Dev nD)

abbrev aX : Vec Ideal S4096x4096 .f32 := m ((c : Thread nD τ).loc main_arg0)
abbrev aW : Vec Ideal S3x1024 .f32 := m ((c : Thread nD τ).loc main_arg1)

/-- Every window's block index at every point (decided). -/
theorem idx : ∀ t : Fin cfg0.N, win0_0.index t = ![t.val, 0] ∧ win0_1.index t = ![32 * t.val - 1, 0]
    ∧ win0_2.index t = ![0, 0] ∧ win0_3.index t = ![t.val, 0] ∧ (grid0.coords t 0).val = t.val :=
  (by decide +kernel : ∀ t : Fin grid0.N, _)

theorem tile (t : Fin cfg0.N) : Tile (aX m c) (aW m c) t.val (grid0.coords t) (iblk m c 0 t) (iblk m c 1 t) (iblk m c 2 t) where
  lt := t.isLt
  hi := (idx t).2.2.2.2
  hcur r l := by blk_ext [iblk, V, idx t]
  hprev h r l := by blk_ext [iblk, V, idx t]
  hw k l := by blk_ext [iblk, V, idx t]

/-- Row `r` of block `t`, as a row of the whole array. -/
abbrev rowOf (t : Fin cfg0.N) (r : Fin 256) : Fin 4096 :=
  ⟨t.val * 256 + r.val, by have := t.isLt; have hN : cfg0.N = 16 := N_0; omega⟩

theorem final : (dats m 0 c).arrAt 3 cfg0.N = val_main_v26 (F := Ideal) (aX m c) (aW m c) := by
  refine (dats m 0 c).arrAt_eq_of_covers 3 _ (by decide +kernel) fun t hf y => ?_
  have hy : (win0_3.blk t).view.emb y = ix2 (rowOf t (y 0)) (y 1) := by blk_ext [idx t]
  have hp := out_at (tile m c t) (y 0) (y 1) (rowOf t (y 0)) rfl
  rw [after0_3]
  frame_out
  exact (congrArg _ (eq_ix2 y)).trans (hp.trans (congrArg _ hy.symm))

end Cert.ConvAFwdIdeal.RefValue

namespace Cert.Proof.ConvAFwd

/-- At `Ideal` the kernel's result array and the reference's agree. -/
theorem algebraic : Cert.algebraic_ConvAFwdIdeal_ConvAFwdRefIdeal := by
  pair_intro
  · run_from Cert.ConvAFwdIdeal.Value.run_blocks m g
  · run_from Cert.ConvAFwdRefIdeal.Value.run m' g'
    rw [Cert.ConvAFwdIdeal.RefValue.final m c]
    exact Cert.ConvAFwdRefIdeal.Read.val_main_v26_eq (F := Ideal) _ _

end Cert.Proof.ConvAFwd
end
-- ==== Proof.ConvBFwdValue.lean ====
/- The convolution of the second layer's projection, forwards: the kernel's result array after its forty-eight grid points,
   and the claim that it is the reference's. A block of 256 rows and 1024 columns is read with the eight rows before it. -/
module

public import proofs.«01_k».proof.Defs
public import proofs.«01_k».proof.Proof.Gen.ConvBFwdIdeal.Value
public import proofs.«01_k».proof.Proof.Gen.ConvBFwdRefIdeal.Run
public import proofs.«01_k».proof.Proof.Gen.ConvBFwdRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvBFwdIdeal.RefValue

open Cert.ConvBFwdIdeal Cert.ConvBFwdIdeal.Gen Cert.ConvBFwdIdeal.Value Cert.ConvBFwdRefIdeal.Read

section Stages

variable (X : Vec Ideal S4096x3072 .f32) (W : Vec Ideal S4x3072 .f32)

/-- The rows with three zero rows before them. -/
def Before (n : ℕ) (q : Fin 3072) : EReal := if h : n < 4099 then val_main_v1 (F := Ideal) X (ix2 ⟨n, h⟩ q) else 0

theorem before_row (n : ℕ) (q : Fin 3072) (hn : n < 4096) : Before X (n + 3) q = X (ix2 ⟨n, hn⟩ q) := by
  rw [Before, dif_pos (by omega)]
  pointwise [val_main_v1]
  rw [dif_neg (by omega)]
  exact congrArg X (by ext1; simp)

theorem before_zero (n : ℕ) (q : Fin 3072) (hn : n < 3) : Before X n q = 0 := by
  rw [Before, dif_pos (by omega)]
  pointwise [val_main_v1, val_main_v0, val_main_cst]
  rw [dif_pos hn]

theorem conv_ref (R : Fin 4096) (q : Fin 3072) : val_main_v22 (F := Ideal) X W (ix2 R q)
    = (W (ix2 0 q) * Before X R.val q + W (ix2 1 q) * Before X (R.val + 1) q
      + W (ix2 2 q) * Before X (R.val + 2) q + W (ix2 3 q) * Before X (R.val + 3) q : EReal) := by
  rw [Before, Before, Before, Before, dif_pos (by omega), dif_pos (by omega), dif_pos (by omega), dif_pos (by omega)]
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_cst_0]
  try simp only [add_comm (R.val)]

/-- Block `t`'s rows with the eight rows before them. -/
def ext (i : grid0.Coords) (v1 : Vec Ideal S8x1024 .f32) (v4 : Vec Ideal S256x1024 .f32) : FVec Ideal S264x1024 .f32 :=
  have arg1 : BitVec 32 := BitVec.ofNat 32 (i 1).val
  have v0 : BitVec 1 := Scalar.cmpi .sgt arg1 0#32
  have cst : Ideal .f32 := Scalar.ofBits .f32 0x00000000#32
  have v2 : FVec Ideal S8x1024 .f32 := broadcast S8x1024 cst
  have v3 : Vec Ideal S8x1024 .f32 := Scalar.select v0 v1 v2
  have v5 : FVec Ideal S264x1024 .f32 := concatenate S264x1024 0 [⟨S8x1024, v3⟩, ⟨S256x1024, v4⟩] concatenates_S8x1024_S256x1024_S264x1024_d0
  v5

/-- The four taps over those rows. -/
def convOf (v6 : Vec Ideal S4x1024 .f32) (v5 : FVec Ideal S264x1024 .f32) : FVec Ideal S256x1024 .f32 :=
  have v7 : FVec Ideal S1x1024 .f32 := extractStridedSlice S1x1024 ![0, 0] v6 slices_S4x1024_o0_0_S1x1024
  have v8 : FVec Ideal S264x1024 .f32 := dynamicRotate 0 3#32 none v5 rotates_S264x1024_d0
  have v9 : FVec Ideal S264x1024 .f32 := broadcastTo S264x1024 v7 broadcasts_S1x1024_S264x1024
  have v10 : FVec Ideal S264x1024 .f32 := mulf v9 v8
  have v11 : FVec Ideal S1x1024 .f32 := extractStridedSlice S1x1024 ![1, 0] v6 slices_S4x1024_o1_0_S1x1024
  have v12 : FVec Ideal S264x1024 .f32 := dynamicRotate 0 2#32 none v5 rotates_S264x1024_d0
  have v13 : FVec Ideal S264x1024 .f32 := broadcastTo S264x1024 v11 broadcasts_S1x1024_S264x1024
  have v14 : FVec Ideal S264x1024 .f32 := mulf v13 v12
  have v15 : FVec Ideal S264x1024 .f32 := addf v10 v14
  have v16 : FVec Ideal S1x1024 .f32 := extractStridedSlice S1x1024 ![2, 0] v6 slices_S4x1024_o2_0_S1x1024
  have v17 : FVec Ideal S264x1024 .f32 := dynamicRotate 0 1#32 none v5 rotates_S264x1024_d0
  have v18 : FVec Ideal S264x1024 .f32 := broadcastTo S264x1024 v16 broadcasts_S1x1024_S264x1024
  have v19 : FVec Ideal S264x1024 .f32 := mulf v18 v17
  have v20 : FVec Ideal S264x1024 .f32 := addf v15 v19
  have v21 : FVec Ideal S1x1024 .f32 := extractStridedSlice S1x1024 ![3, 0] v6 slices_S4x1024_o3_0_S1x1024
  have v22 : FVec Ideal S264x1024 .f32 := broadcastTo S264x1024 v21 broadcasts_S1x1024_S264x1024
  have v23 : FVec Ideal S264x1024 .f32 := mulf v22 v5
  have v24 : FVec Ideal S264x1024 .f32 := addf v20 v23
  have v25 : FVec Ideal S256x1024 .f32 := extractStridedSlice S256x1024 ![8, 0] v24 slices_S264x1024_o8_0_S256x1024
  v25

theorem pay_eq (i : grid0.Coords) (v1 : Vec Ideal S8x1024 .f32) (v4 : Vec Ideal S256x1024 .f32) (v6 : Vec Ideal S4x1024 .f32) :
    k0_pay1 (F := Ideal) i v1 v4 v6 = mulf (convOf v6 (ext i v1 v4)) (logistic (convOf v6 (ext i v1 v4))) := rfl

/-- Row block `b` and column block `j` of the whole arrays, with the eight rows before it. -/
structure Tile (b j : ℕ) (i : grid0.Coords) (cur : Vec Ideal S256x1024 .f32) (prev : Vec Ideal S8x1024 .f32) (w : Vec Ideal S4x1024 .f32) : Prop where
  lt : b < 16
  ltj : j < 3
  hi : (i 1).val = b
  hcur : ∀ (r : Fin 256) (l : Fin 1024), cur (ix2 r l) = X (ix2 ⟨b * 256 + r.val, by have := r.isLt; omega⟩ ⟨j * 1024 + l.val, by have := l.isLt; omega⟩)
  hprev : ∀ (h : 0 < b) (r : Fin 8) (l : Fin 1024), prev (ix2 r l) = X (ix2 ⟨b * 256 - 8 + r.val, by have := r.isLt; omega⟩ ⟨j * 1024 + l.val, by have := l.isLt; omega⟩)
  hw : ∀ (k : Fin 4) (l : Fin 1024), w (ix2 k l) = W (ix2 k ⟨j * 1024 + l.val, by have := l.isLt; omega⟩)

variable {X W}
variable {b j : ℕ} {i : grid0.Coords} {cur : Vec Ideal S256x1024 .f32} {prev : Vec Ideal S8x1024 .f32} {w : Vec Ideal S4x1024 .f32}

theorem sel_gt {α : Type} : ∀ (t : ℕ) (_ : t < 16) (a b : α), Scalar.select (Scalar.cmpi .sgt (BitVec.ofNat 32 t) 0#32) a b = if 0 < t then a else b := by
  intro t h a b
  interval_cases t <;> rfl

theorem ext_at (T : Tile X W b j i cur prev w) (e : Fin 264) (l : Fin 1024) (q : Fin 3072) (hq : q.val = j * 1024 + l.val) (h5 : 5 ≤ e.val) :
    ext i prev cur (ix2 e l) = Before X (b * 256 + (e.val - 5)) q := by
  have hlt := T.lt
  have hl : j * 1024 + l.val < 3072 := hq ▸ q.isLt
  obtain rfl : q = ⟨j * 1024 + l.val, hl⟩ := Fin.ext hq
  pointwise [ext]
  rw [T.hi]
  have he := e.isLt
  by_cases h : e.val < 8
  · rw [dif_pos h, sel_gt _ T.lt]
    by_cases h0 : 0 < b
    · rw [if_pos h0, T.hprev h0, show b * 256 + (e.val - 5) = (b * 256 - 8 + e.val) + 3 by omega, before_row _ _ _ (by omega)]
    · rw [if_neg h0, before_zero _ _ _ (by omega)]
  · rw [dif_neg h, T.hcur, show b * 256 + (e.val - 5) = (b * 256 + (e.val - 8)) + 3 by omega, before_row]

theorem conv_at (T : Tile X W b j i cur prev w) (r : Fin 256) (l : Fin 1024) (R : Fin 4096) (hR : R.val = b * 256 + r.val)
    (q : Fin 3072) (hq : q.val = j * 1024 + l.val) :
    convOf w (ext i prev cur) (ix2 r l) = val_main_v22 (F := Ideal) X W (ix2 R q) := by
  have hr := r.isLt
  have hw : ∀ k : Fin 4, w (ix2 k l) = W (ix2 k q) := fun k => (T.hw k l).trans (congrArg (fun z => W (ix2 k z)) (Fin.ext hq.symm))
  rw [conv_ref, hR]
  pointwise [convOf]
  rw [ext_at T _ _ q hq (by simp only; omega), ext_at T _ _ q hq (by simp only; omega), ext_at T _ _ q hq (by simp only; omega),
    ext_at T _ _ q hq (by simp only; omega), hw, hw, hw, hw]
  have a0 : (8 + r.val + 264 - 3) % 264 - 5 = r.val := by omega
  have a1 : (8 + r.val + 264 - 2) % 264 - 5 = r.val + 1 := by omega
  have a2 : (8 + r.val + 264 - 1) % 264 - 5 = r.val + 2 := by omega
  have a3 : 8 + r.val - 5 = r.val + 3 := by omega
  simp only [a0, a1, a2, a3, ← add_assoc]

theorem out_at (T : Tile X W b j i cur prev w) (r : Fin 256) (l : Fin 1024) (R : Fin 4096) (hR : R.val = b * 256 + r.val)
    (q : Fin 3072) (hq : q.val = j * 1024 + l.val) :
    k0_pay1 (F := Ideal) i prev cur w (ix2 r l) = val_main_v23 (F := Ideal) X W (ix2 R q) := by
  rw [pay_eq]
  pointwise [val_main_v23, val_main_call0_v5, val_main_call0_v4, val_main_call0_v3, val_main_call0_v2, val_main_call0_v1,
    val_main_call0_v0, val_main_call0_cst, val_main_call0_cst_0]
  rw [conv_at T r l R hR q hq]
  rfl

end Stages

variable (m : (ℓ : Loc nD τ sig) → Buf (Elt Ideal) ℓ) (c : Dev nD)

abbrev aX : Vec Ideal S4096x3072 .f32 := m ((c : Thread nD τ).loc main_arg0)
abbrev aW : Vec Ideal S4x3072 .f32 := m ((c : Thread nD τ).loc main_arg1)

/-- Every window's block index at every point (decided). -/
theorem idx : ∀ t : Fin cfg0.N, win0_0.index t = ![t.val % 16, t.val / 16] ∧ win0_1.index t = ![32 * (t.val % 16) - 1, t.val / 16]
    ∧ win0_2.index t = ![0, t.val / 16] ∧ win0_3.index t = ![t.val % 16, t.val / 16] ∧ (grid0.coords t 1).val = t.val % 16 :=
  (by decide +kernel : ∀ t : Fin grid0.N, _)

theorem tile (t : Fin cfg0.N) : Tile (aX m c) (aW m c) (t.val % 16) (t.val / 16) (grid0.coords t) (iblk m c 0 t) (iblk m c 1 t) (iblk m c 2 t) where
  lt := Nat.mod_lt _ (by decide)
  ltj := by have := t.isLt; have hN : cfg0.N = 48 := N_0; omega
  hi := (idx t).2.2.2.2
  hcur r l := by blk_ext [iblk, V, idx t]
  hprev h r l := by blk_ext [iblk, V, idx t]
  hw k l := by blk_ext [iblk, V, idx t]

/-- Row `r` and column `l` of block `t`, in the whole array. -/
abbrev rowOf (t : Fin cfg0.N) (r : Fin 256) : Fin 4096 := ⟨t.val % 16 * 256 + r.val, by have := r.isLt; omega⟩
abbrev colOf (t : Fin cfg0.N) (l : Fin 1024) : Fin 3072 :=
  ⟨t.val / 16 * 1024 + l.val, by have := t.isLt; have hN : cfg0.N = 48 := N_0; omega⟩

theorem final : (dats m 0 c).arrAt 3 cfg0.N = val_main_v23 (F := Ideal) (aX m c) (aW m c) := by
  refine (dats m 0 c).arrAt_eq_of_covers 3 _ (by decide +kernel) fun t hf y => ?_
  have hy : (win0_3.blk t).view.emb y = ix2 (rowOf t (y 0)) (colOf t (y 1)) := by blk_ext [idx t]
  have hp := out_at (tile m c t) (y 0) (y 1) (rowOf t (y 0)) rfl (colOf t (y 1)) rfl
  rw [after0_3]
  frame_out
  exact (congrArg _ (eq_ix2 y)).trans (hp.trans (congrArg _ hy.symm))

end Cert.ConvBFwdIdeal.RefValue

namespace Cert.Proof.ConvBFwd

/-- At `Ideal` the kernel's result array and the reference's agree. -/
theorem algebraic : Cert.algebraic_ConvBFwdIdeal_ConvBFwdRefIdeal := by
  pair_intro
  · run_from Cert.ConvBFwdIdeal.Value.run_blocks m g
  · run_from Cert.ConvBFwdRefIdeal.Value.run m' g'
    obtain ⟨h0, h1⟩ := hagree c
    rw [Cert.ConvBFwdIdeal.RefValue.final m c, Cert.ConvBFwdRefIdeal.Read.val_main_v23_eq m' c, h0, h1]

end Cert.Proof.ConvBFwd
end
-- ==== Proof.ConvABwdFloatFrame.lean ====
/- The frame of the gated convolution's backward kernel as the step runs it: it ends without a fault and leaves its argument
   arrays as they were. Nothing is stated of the two results here; each of the two cases of the body (the first grid step and
   the others) is run once. -/
module

public import proofs.«01_k».proof.Proof.Gen.ConvABwd.Skeleton
public import proofs.«01_k».proof.Proof.Gen.ConvABwd.Frame
public import Idealize.ShloMosaic.Lib.Claim

@[expose] public section

-- membership in a rectangle of production extents (`View.cover_of_tiled`): the elaborator's structural look
-- recurses once per coordinate of the long axes
set_option maxRecDepth 16384

noncomputable section

namespace Cert.ConvABwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- A run whose end states nothing of the two results leaves the argument arrays as they were. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 2 rfl).trans ((hA c 2).trans (V_main_arg0 m c)),
      (Pipeline.RDat.FramePost.arr_in h c 3 rfl).trans ((hA c 3).trans (V_main_arg1 m c)),
      (Pipeline.RDat.FramePost.arr_in h c 5 rfl).trans ((hA c 5).trans (V_main_arg2 m c))⟩) h

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1024 .f32 := win0_7.stage (cfg0.slots t 7)
abbrev hs0_7 (t : Fin cfg0.N) : (ms0_7 t).IsWhole := hstage0_7 ((cfg0.slots t 7).cast nbuf0_7)

-- (the run's proof term is large: checking it walks past the default budget)
set_option maxHeartbeats 1000000 in
/-- The body's triple IN CASE A (`scf.if` 0 taken: points 0): on whole staging memrefs — the inputs' at their contents,
    the FORGOTTEN outputs' (6, 7) at anything, handed back at some contents nothing names —
    the body runs to the continuation holding the inputs' as they were: the printed functions are their skeletons (`Gen.*_eq_skeleton`),
    which `sl_exec` runs — each `scf.if` decided by the case's hypotheses `hc·`. -/
theorem kernelRun0_A (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S3x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S256x4096 .bf16) (harg7 : arg7.IsWhole) (arg8 : Memref sig .tc .vmem S8x1024 .f32) (harg8 : arg8.IsWhole) (hc0 : cond0_0 i)
    (x0 : Vec F S256x4096 .f32) (x1 : Vec F S8x4096 .f32) (x2 : Vec F S8x4096 .f32) (x3 : Vec F S3x1024 .f32) (x4 : Vec F S256x1024 .f32) (x5 : Vec F S8x1024 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)) -∗ K ⟨⟩))
          ⊢ wp frame (wpE (defs₀ (F := F)) Variants.none c none) E (cc0_conv_a_bwd i arg1 harg1 arg2 harg2 arg3 harg3 arg4 harg4 arg5 harg5 arg6 harg6 arg7 harg7 arg8 harg8) K := by
    intro E K
    simp only [cc0_conv_a_bwd_eq_skeleton]; unfold cc0_conv_a_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    iexists _, _; isplitr; swap; · iexact H7
    ipureintro; rfl

-- (the run's proof term is large: checking it walks past the default budget)
set_option maxHeartbeats 1000000 in
/-- The body's triple IN CASE B (`scf.if` 0 not taken: points 1, 2, … 15: 15 of 16): on whole staging memrefs — the inputs' at their contents,
    the FORGOTTEN outputs' (6, 7) at anything, handed back at some contents nothing names —
    the body runs to the continuation holding the inputs' as they were: the printed functions are their skeletons (`Gen.*_eq_skeleton`),
    which `sl_exec` runs — each `scf.if` decided by the case's hypotheses `hc·`. -/
theorem kernelRun0_B (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S3x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S256x4096 .bf16) (harg7 : arg7.IsWhole) (arg8 : Memref sig .tc .vmem S8x1024 .f32) (harg8 : arg8.IsWhole) (hc0 : ¬cond0_0 i)
    (x0 : Vec F S256x4096 .f32) (x1 : Vec F S8x4096 .f32) (x2 : Vec F S8x4096 .f32) (x3 : Vec F S3x1024 .f32) (x4 : Vec F S256x1024 .f32) (x5 : Vec F S8x1024 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)) -∗ K ⟨⟩))
          ⊢ wp frame (wpE (defs₀ (F := F)) Variants.none c none) E (cc0_conv_a_bwd i arg1 harg1 arg2 harg2 arg3 harg3 arg4 harg4 arg5 harg5 arg6 harg6 arg7 harg7 arg8 harg8) K := by
    intro E K
    simp only [cc0_conv_a_bwd_eq_skeleton]; unfold cc0_conv_a_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    iexists _, _; isplitr; swap; · iexact H7
    ipureintro; rfl

/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 16 := lt_of_lt_of_eq t.isLt (show cfg0.N = 16 from N_0)
  by_cases h0 : t.val % 16 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_forget m ρ (fun c => (dats m 0 c).toRForget forgets0) (A_eq m) (run_main m ρ)

/-- THE FRAME: `Cert.quiescent_ConvABwd`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.ConvABwd.Gen

end
-- ==== Proof.ConvABwdFrame.lean ====
/- The frame of the gated convolution's backward kernel over the extended reals. The second result's block, eight rows, stays
   in its buffer from one grid step to the next: the first step fills it with zeros, and every step adds the sums of its own
   rows to the first three. So what a step leaves there is its store over what the step before left. Each of the two cases of
   the body (the first step and the others) is run once, and the two results' contents follow step by step. -/
module

public import proofs.«01_k».proof.Proof.Gen.ConvABwdIdeal.Skeleton
public import proofs.«01_k».proof.Proof.Gen.ConvABwdIdeal.Frame
public import Idealize.ShloMosaic.Lib.Claim

@[expose] public section

-- membership in a rectangle of production extents (`View.cover_of_tiled`): the elaborator's structural look
-- recurses once per coordinate of the long axes
set_option maxRecDepth 16384

noncomputable section

namespace Cert.ConvABwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 6, through which its contents are stated (`View.read_writes_of_cover`: the
    choice does not matter). -/
abbrev VO0_6 : View sig .tc .vmem S256x4096 .bf16 := (Memref.whole cc0_stg6_0 : Memref sig .tc .vmem S256x4096 .bf16).view
/-- One staging buffer of output window 7, through which its contents are stated (`View.read_writes_of_cover`: the
    choice does not matter). -/
abbrev VO0_7 : View sig .tc .vmem S8x1024 .f32 := (Memref.whole cc0_stg7_0 : Memref sig .tc .vmem S8x1024 .f32).view
/-- Each window's current staging memref at point `t`, spelled as the pipeline passes it (`bodyAt0`), and its wholeness. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1024 .f32 := win0_7.stage (cfg0.slots t 7)
abbrev hs0_7 (t : Fin cfg0.N) : (ms0_7 t).IsWhole := hstage0_7 ((cfg0.slots t 7).cast nbuf0_7)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S3x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S256x4096 .bf16) (harg7 : arg7.IsWhole) (arg8 : Memref sig .tc .vmem S8x1024 .f32) (harg8 : arg8.IsWhole) (hc0 : cond0_0 i)
    (x0 : Vec F S256x4096 .f32) (x1 : Vec F S8x4096 .f32) (x2 : Vec F S8x4096 .f32) (x3 : Vec F S3x1024 .f32) (x4 : Vec F S256x1024 .f32) (x5 : Vec F S8x1024 .f32) :
    Σ' (L6 : List (View.Piece (Elt F) S256x4096 .bf16)), { L7 : List (View.Piece (Elt F) S8x1024 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_conv_a_bwd i arg1 harg1 arg2 harg2 arg3 harg3 arg4 harg4 arg5 harg5 arg6 harg6 arg7 harg7 arg8 harg8) K } := by
  refine ⟨?_, ?_, fun E K => ?run⟩
  case run =>
    simp only [cc0_conv_a_bwd_eq_skeleton]; unfold cc0_conv_a_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

-- (the run's proof term is large: the definition's epilogue — `abstractNestedProofs` — walks it past the default budget)
set_option maxHeartbeats 1000000 in
/-- What the body's stores leave in each output's staging memref, as pieces (last first) IN CASE B (`scf.if` 0 not taken: points 1, 2, … 15: 15 of 16), WITH the
    proof that on whole staging memrefs — the inputs' at their contents, the outputs it reads before covering (7) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S3x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S256x4096 .bf16) (harg7 : arg7.IsWhole) (arg8 : Memref sig .tc .vmem S8x1024 .f32) (harg8 : arg8.IsWhole) (hc0 : ¬cond0_0 i)
    (x0 : Vec F S256x4096 .f32) (x1 : Vec F S8x4096 .f32) (x2 : Vec F S8x4096 .f32) (x3 : Vec F S3x1024 .f32) (x4 : Vec F S256x1024 .f32) (x5 : Vec F S8x1024 .f32) (xo7 : Vec F S8x1024 .f32) :
    Σ' (L6 : List (View.Piece (Elt F) S256x4096 .bf16)), { L7 : List (View.Piece (Elt F) S8x1024 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (arg8.view.loc (c : Thread nD τ) ↦[arg8.view.set]{fullShare} arg8.view.writes (Elt F) (harg8.unread xo7) L7)) -∗ K ⟨⟩))
          ⊢ wp frame (wpE (defs₀ (F := F)) Variants.none c none) E (cc0_conv_a_bwd i arg1 harg1 arg2 harg2 arg3 harg3 arg4 harg4 arg5 harg5 arg6 harg6 arg7 harg7 arg8 harg8) K } := by
  refine ⟨?_, ?_, fun E K => ?run⟩
  case run =>
    simp only [cc0_conv_a_bwd_eq_skeleton]; unfold cc0_conv_a_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexact H7

/-- Case A's pieces for output 6 tile its block (1 store of `S256x4096`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S3x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S256x4096 .bf16) (harg7 : arg7.IsWhole) (arg8 : Memref sig .tc .vmem S8x1024 .f32) (harg8 : arg8.IsWhole) (hc0 : cond0_0 i)
    (x0 : Vec F S256x4096 .f32) (x1 : Vec F S8x4096 .f32) (x2 : Vec F S8x4096 .f32) (x3 : Vec F S3x1024 .f32) (x4 : Vec F S256x1024 .f32) (x5 : Vec F S8x1024 .f32) (y : S256x4096.Idx) :
    ∃ pc ∈ (kernelRun0_A c i arg1 harg1 arg2 harg2 arg3 harg3 arg4 harg4 arg5 harg5 arg6 harg6 arg7 harg7 arg8 harg8 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 hc0 x0 x1 x2 x3 x4 x5).1 S256x4096.size (by sl_kernel_rfl) y

/-- What case A leaves in output 6's staging buffer: its pieces read back over junk. -/
def out0_A_6 (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S3x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S256x4096 .bf16) (harg7 : arg7.IsWhole) (arg8 : Memref sig .tc .vmem S8x1024 .f32) (harg8 : arg8.IsWhole) (hc0 : cond0_0 i)
    (x0 : Vec F S256x4096 .f32) (x1 : Vec F S8x4096 .f32) (x2 : Vec F S8x4096 .f32) (x3 : Vec F S3x1024 .f32) (x4 : Vec F S256x1024 .f32) (x5 : Vec F S8x1024 .f32) : Vec F S256x4096 .bf16 :=
  VO0_6.read (Elt F) (VO0_6.writes (Elt F) VO0_6.junk (kernelRun0_A c i arg1 harg1 arg2 harg2 arg3 harg3 arg4 harg4 arg5 harg5 arg6 harg6 arg7 harg7 arg8 harg8 hc0 x0 x1 x2 x3 x4 x5).1)

/-- Case A's pieces for output 7 are of SEVERAL sizes (2 stores of `S3x1024`, `S8x1024`): cut into blocks of `![1, 1024]` they tile its block (checked by the kernel's evaluation: Lib/Ring.lean `Piece.tiledBy`), so they cover it. -/
theorem cover0_A_7 (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S3x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S256x4096 .bf16) (harg7 : arg7.IsWhole) (arg8 : Memref sig .tc .vmem S8x1024 .f32) (harg8 : arg8.IsWhole) (hc0 : cond0_0 i)
    (x0 : Vec F S256x4096 .f32) (x1 : Vec F S8x4096 .f32) (x2 : Vec F S8x4096 .f32) (x3 : Vec F S3x1024 .f32) (x4 : Vec F S256x1024 .f32) (x5 : Vec F S8x1024 .f32) (y : S8x1024.Idx) :
    ∃ pc ∈ (kernelRun0_A c i arg1 harg1 arg2 harg2 arg3 harg3 arg4 harg4 arg5 harg5 arg6 harg6 arg7 harg7 arg8 harg8 hc0 x0 x1 x2 x3 x4 x5).2.1, y ∈ pc.1.set :=
  View.cover_of_tiledBy (kernelRun0_A c i arg1 harg1 arg2 harg2 arg3 harg3 arg4 harg4 arg5 harg5 arg6 harg6 arg7 harg7 arg8 harg8 hc0 x0 x1 x2 x3 x4 x5).2.1 ![1, 1024] (by sl_kernel_rfl) y

/-- What case A leaves in output 7's staging buffer: its pieces read back over junk. -/
def out0_A_7 (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S3x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S256x4096 .bf16) (harg7 : arg7.IsWhole) (arg8 : Memref sig .tc .vmem S8x1024 .f32) (harg8 : arg8.IsWhole) (hc0 : cond0_0 i)
    (x0 : Vec F S256x4096 .f32) (x1 : Vec F S8x4096 .f32) (x2 : Vec F S8x4096 .f32) (x3 : Vec F S3x1024 .f32) (x4 : Vec F S256x1024 .f32) (x5 : Vec F S8x1024 .f32) : Vec F S8x1024 .f32 :=
  VO0_7.read (Elt F) (VO0_7.writes (Elt F) VO0_7.junk (kernelRun0_A c i arg1 harg1 arg2 harg2 arg3 harg3 arg4 harg4 arg5 harg5 arg6 harg6 arg7 harg7 arg8 harg8 hc0 x0 x1 x2 x3 x4 x5).2.1)

/-- Case B's pieces for output 6 tile its block (1 store of `S256x4096`, checked by the kernel's evaluation: Lib/Ring.lean `Piece.tiledL`, linear in the pieces, through a loop's `@[irreducible]` trip theorem too), so they cover it. -/
theorem cover0_B_6 (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S3x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S256x4096 .bf16) (harg7 : arg7.IsWhole) (arg8 : Memref sig .tc .vmem S8x1024 .f32) (harg8 : arg8.IsWhole) (hc0 : ¬cond0_0 i)
    (x0 : Vec F S256x4096 .f32) (x1 : Vec F S8x4096 .f32) (x2 : Vec F S8x4096 .f32) (x3 : Vec F S3x1024 .f32) (x4 : Vec F S256x1024 .f32) (x5 : Vec F S8x1024 .f32) (xo7 : Vec F S8x1024 .f32) (y : S256x4096.Idx) :
    ∃ pc ∈ (kernelRun0_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun0_B c i arg1 harg1 arg2 harg2 arg3 harg3 arg4 harg4 arg5 harg5 arg6 harg6 arg7 harg7 arg8 harg8 hc0 x0 x1 x2 x3 x4 x5 xo7).1 S256x4096.size (by sl_kernel_rfl) y

/-- What case B leaves in output 6's staging buffer: its pieces read back over junk. -/
def out0_B_6 (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S3x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S256x4096 .bf16) (harg7 : arg7.IsWhole) (arg8 : Memref sig .tc .vmem S8x1024 .f32) (harg8 : arg8.IsWhole) (hc0 : ¬cond0_0 i)
    (x0 : Vec F S256x4096 .f32) (x1 : Vec F S8x4096 .f32) (x2 : Vec F S8x4096 .f32) (x3 : Vec F S3x1024 .f32) (x4 : Vec F S256x1024 .f32) (x5 : Vec F S8x1024 .f32) (xo7 : Vec F S8x1024 .f32) : Vec F S256x4096 .bf16 :=
  VO0_6.read (Elt F) (VO0_6.writes (Elt F) VO0_6.junk (kernelRun0_B c i arg1 harg1 arg2 harg2 arg3 harg3 arg4 harg4 arg5 harg5 arg6 harg6 arg7 harg7 arg8 harg8 hc0 x0 x1 x2 x3 x4 x5 xo7).1)

/-- What case B leaves in output 7's staging buffer: its stores read back over what the point before left there (they do not cover the block). -/
def out0_B_7 (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S3x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S256x4096 .bf16) (harg7 : arg7.IsWhole) (arg8 : Memref sig .tc .vmem S8x1024 .f32) (harg8 : arg8.IsWhole) (hc0 : ¬cond0_0 i)
    (x0 : Vec F S256x4096 .f32) (x1 : Vec F S8x4096 .f32) (x2 : Vec F S8x4096 .f32) (x3 : Vec F S3x1024 .f32) (x4 : Vec F S256x1024 .f32) (x5 : Vec F S8x1024 .f32) (xo7 : Vec F S8x1024 .f32) : Vec F S8x1024 .f32 :=
  arg8.view.read (Elt F) (arg8.view.writes (Elt F) (harg8.unread xo7) (kernelRun0_B c i arg1 harg1 arg2 harg2 arg3 harg3 arg4 harg4 arg5 harg5 arg6 harg6 arg7 harg7 arg8 harg8 hc0 x0 x1 x2 x3 x4 x5 xo7).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x4096 .bf16 × Vec F S8x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

/-- `outsAt0` at a point of case A: that case's contents. -/
theorem outsAt0_A (c : Dev nD) (t : Fin cfg0.N) (h0 : t.val % 16 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 16 = 0) (d) :
    (dats m 0 c).before 7 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  have hN : t.val < 16 := lt_of_lt_of_eq t.isLt (show cfg0.N = 16 from N_0)
  by_cases h0 : t.val % 16 = 0
  · rw [outsAt0_A m c t h0]
    unfold out0_A_6 out0_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _ _)
  · rw [outsAt0_B m c t h0]
    simp only [before0_7_B m c t h0]
    unfold out0_B_6 out0_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _)
    unfold owns; iexists _; isplitr
    swap; · iexact H7
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_ConvABwdIdeal`'s statement (Defs.lean) at any `F` — Proof.lean cites it at `Bits`:
    `theorem Cert.Proof.claim : Cert.Claim := ⟨Cert.ConvABwdIdeal.Gen.facts, fun m ρ _ => Cert.ConvABwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.ConvABwdIdeal.Gen

end
-- ==== Proof.ConvABwdRun.lean ====
/- What the two result arrays hold at the end of the gated convolution's backward kernel over the extended reals: the blocks
   that the grid's steps write back, and the argument arrays as they were. -/
module

public import proofs.«01_k».proof.Proof.ConvABwdFrame
public import Idealize.ShloMosaic.Lib.Pipeline.Value

@[expose] public section

noncomputable section

namespace Cert.ConvABwdIdeal.Value

open Cert.ConvABwdIdeal Cert.ConvABwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 16 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 16 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  simp only [flushed6, outsAt0_B m c t h0]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4096x4096.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 1), read through the window's block. -/
theorem flushed7 (c : Dev nD) (t : Fin cfg0.N) :
    (dats m 0 c).flushed 7 t = (cfg0.win 7).cut (grid0.coords t) ((outsAt0 m c t.val t.isLt).2) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 16 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 16 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  simp only [flushed7, outsAt0_B m c t h0]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S8x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: input window 5 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 5).trans (((dats m 0 c).arrAt_in 5 rfl _).trans ((A_eq m c 5).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post6 m r h c,
      post7 m r h c,
      kept_main_arg0 m r h c,
      kept_main_arg1 m r h c,
      kept_main_arg2 m r h c⟩)
    (run_main m ρ)

end Cert.ConvABwdIdeal.Value

end
-- ==== Proof.ConvABwdValue.lean ====
/- The even layer's gated convolution, backwards: the kernel's two result arrays after its sixteen grid points, and the claim
   that they are the reference's. A block of 256 rows is read with the eight rows before it and the eight after it; the
   weights' gradient is a sum over the blocks. -/
module

public import proofs.«01_k».proof.Defs
public import proofs.«01_k».proof.Proof.ConvABwdRun
public import proofs.«01_k».proof.Proof.Gen.ConvABwdRefIdeal.Run
public import proofs.«01_k».proof.Proof.Gen.ConvABwdRefIdeal.Read
public import Idealize.ShloMosaic.Lib.Pipeline.ValueKit
public import Idealize.ShloMosaic.Lib.Claim
public import Idealize.ShloMosaic.Lib.WritesUnit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvABwdIdeal.RefValue

open Cert.ConvABwdIdeal Cert.ConvABwdIdeal.Gen Cert.ConvABwdIdeal.Value Cert.ConvABwdRefIdeal.Read

section Stages

variable (X : Vec Ideal S4096x4096 .f32) (W : Vec Ideal S3x1024 .f32) (A : Vec Ideal S4096x1024 .f32)

/-- The products of the first two quarters of the columns, with two zero rows before them. -/
def Before (n : ℕ) (l : Fin 1024) : EReal := if h : n < 4098 then val_main_v13 (F := Ideal) X (ix2 ⟨n, h⟩ l) else 0

/-- The gradient of the convolution's result, zero past the last row. -/
def DConv (n : ℕ) (l : Fin 1024) : EReal := if h : n < 4096 then val_main_v35 (F := Ideal) X A (ix2 ⟨n, h⟩ l) else 0

theorem before_row (n : ℕ) (l : Fin 1024) (hn : n < 4096) : Before X (n + 2) l = val_main_v11 (F := Ideal) X (ix2 ⟨n, hn⟩ l) := by
  rw [Before, dif_pos (by omega)]
  pointwise [val_main_v13]
  rw [dif_neg (by omega)]
  exact congrArg (val_main_v11 (F := Ideal) X) (by ext1; simp)

theorem before_zero (n : ℕ) (l : Fin 1024) (hn : n < 2) : Before X n l = 0 := by
  rw [Before, dif_pos (by omega)]
  pointwise [val_main_v13, val_main_v12, val_main_cst_1]
  rw [dif_pos hn]

theorem dconv_ref (R : Fin 4096) (l : Fin 1024) : DConv X A R.val l = val_main_v35 (F := Ideal) X A (ix2 R l) :=
  dif_pos R.isLt

theorem conv_ref (R : Fin 4096) (l : Fin 1024) : val_main_v30 (F := Ideal) X W (ix2 R l)
    = (W (ix2 0 l) * Before X R.val l + W (ix2 1 l) * Before X (R.val + 1) l + W (ix2 2 l) * Before X (R.val + 2) l : EReal) := by
  rw [Before, Before, Before, dif_pos (by omega), dif_pos (by omega), dif_pos (by omega)]
  pointwise [val_main_v30, val_main_v29, val_main_v28, val_main_v27, val_main_v26, val_main_v25, val_main_v24, val_main_v23,
    val_main_v22, val_main_v21, val_main_v20, val_main_v19, val_main_v18, val_main_v17, val_main_v16, val_main_v15, val_main_cst_3]
  try simp only [add_comm (R.val)]

/-- A padded term of the rows' gradient. -/
theorem padded (w : EReal) (n k : ℕ) (l : Fin 1024) (p : Prop) [Decidable p] (hp : p ↔ k < 4096) (hn : p → n < 4096) (hk : p → n = k) :
    (if h : p then w * val_main_v35 (F := Ideal) X A (ix2 ⟨n, hn h⟩ l) else (0 : EReal)) = w * DConv X A k l := by
  by_cases h : p
  · rw [dif_pos h, DConv, dif_pos (hp.mp h)]
    exact congrArg (fun a => w * val_main_v35 (F := Ideal) X A (ix2 a l)) (Fin.ext (hk h))
  · rw [dif_neg h, DConv, dif_neg (fun g => h (hp.mpr g))]
    exact (mul_zero (M₀ := EReal) _).symm

theorem add_rev (a b d : EReal) : a + b + d = d + b + a := by ac_rfl

theorem du_ref (R : Fin 4096) (l : Fin 1024) : val_main_v63 (F := Ideal) X W A (ix2 R l)
    = (W (ix2 0 l) * DConv X A (R.val + 2) l + W (ix2 1 l) * DConv X A (R.val + 1) l + W (ix2 2 l) * DConv X A R.val l : EReal) := by
  have hR := R.isLt
  rw [dconv_ref]
  pointwise [val_main_v63, val_main_v59, val_main_v58, val_main_v54, val_main_v53, val_main_v50, val_main_v49, val_main_v45,
    val_main_v44, val_main_v42, val_main_v38, val_main_v37, val_main_v26, val_main_v21, val_main_v15, val_main_cst_5,
    val_main_cst_8, val_main_cst_11]
  refine (congrArg₂ (fun a b : EReal => a + b) (congrArg₂ (fun a b : EReal => a + b) rfl
    (padded X A _ _ (R.val + 1) l _ ?_ ?_ ?_)) (padded X A _ _ (R.val + 2) l _ ?_ ?_ ?_)).trans ?_
  any_goals omega
  exact add_rev _ _ _

theorem dw_ref0 (l : Fin 1024) : val_main_v75 (F := Ideal) X A (ix2 0 l)
    = (∑ R : Fin 4096, DConv X A R.val l * Before X (R.val + 0) l : EReal) := by
  pointwise [val_main_v75, val_main_v61, val_main_v60, val_main_v52, val_main_v51, val_main_v43,
    val_main_v57, val_main_v56, val_main_v55, val_main_v16, val_main_cst_6, val_main_cst_9, val_main_cst_12, val_main_cst_10]
  refine Finset.sum_congr rfl fun R _ => ?_
  have hR := R.isLt
  rw [dconv_ref, Before, dif_pos (by omega)]
  try simp only [add_comm (R.val)]

theorem dw_ref1 (l : Fin 1024) : val_main_v75 (F := Ideal) X A (ix2 1 l)
    = (∑ R : Fin 4096, DConv X A R.val l * Before X (R.val + 1) l : EReal) := by
  pointwise [val_main_v75, val_main_v61, val_main_v60, val_main_v52, val_main_v51, val_main_v43,
    val_main_v48, val_main_v47, val_main_v46, val_main_v22, val_main_cst_6, val_main_cst_9, val_main_cst_12, val_main_cst_7]
  refine Finset.sum_congr rfl fun R _ => ?_
  have hR := R.isLt
  rw [dconv_ref, Before, dif_pos (by omega)]
  try simp only [add_comm (R.val)]

theorem dw_ref2 (l : Fin 1024) : val_main_v75 (F := Ideal) X A (ix2 2 l)
    = (∑ R : Fin 4096, DConv X A R.val l * Before X (R.val + 2) l : EReal) := by
  pointwise [val_main_v75, val_main_v61, val_main_v60, val_main_v52, val_main_v51, val_main_v43,
    val_main_v41, val_main_v40, val_main_v39, val_main_v27, val_main_cst_6, val_main_cst_9, val_main_cst_12, val_main_cst_4]
  refine Finset.sum_congr rfl fun R _ => ?_
  have hR := R.isLt
  rw [dconv_ref, Before, dif_pos (by omega)]
  try simp only [add_comm (R.val)]

theorem dw_ref3 (a : Fin 8) (h : ¬ a.val < 3) (l : Fin 1024) : val_main_v75 (F := Ideal) X A (ix2 a l) = (0 : EReal) := by
  pointwise [val_main_v75, val_main_call0_v0, val_main_c]
  rw [dif_neg h]
  exact (congrArg (fun r : ℝ => (r : EReal)) (Int.cast_zero (R := ℝ))).trans EReal.coe_zero

/-- Block `t`'s rows and the eight rows before and after them, of the whole arrays. -/
structure Tile (t : ℕ) (i : grid0.Coords) (cur : Vec Ideal S256x4096 .f32) (prev nxt : Vec Ideal S8x4096 .f32) (w : Vec Ideal S3x1024 .f32)
    (da : Vec Ideal S256x1024 .f32) (dan : Vec Ideal S8x1024 .f32) : Prop where
  lt : t < 16
  hi : (i 0).val = t
  hcur : ∀ (r : Fin 256) (l : Fin 4096), cur (ix2 r l) = X (ix2 ⟨t * 256 + r.val, by have := r.isLt; omega⟩ l)
  hprev : ∀ (h : 0 < t) (r : Fin 8) (l : Fin 4096), prev (ix2 r l) = X (ix2 ⟨t * 256 - 8 + r.val, by have := r.isLt; omega⟩ l)
  hnxt : ∀ (h : t < 15) (r : Fin 8) (l : Fin 4096), nxt (ix2 r l) = X (ix2 ⟨t * 256 + 256 + r.val, by have := r.isLt; omega⟩ l)
  hw : ∀ (k : Fin 3) (l : Fin 1024), w (ix2 k l) = W (ix2 k l)
  hda : ∀ (r : Fin 256) (l : Fin 1024), da (ix2 r l) = A (ix2 ⟨t * 256 + r.val, by have := r.isLt; omega⟩ l)
  hdan : ∀ (h : t < 15) (r : Fin 8) (l : Fin 1024), dan (ix2 r l) = A (ix2 ⟨t * 256 + 256 + r.val, by have := r.isLt; omega⟩ l)

variable {X W A}
variable {t : ℕ} {i : grid0.Coords} {cur : Vec Ideal S256x4096 .f32} {da : Vec Ideal S256x1024 .f32} {prev nxt : Vec Ideal S8x4096 .f32}
  {dan : Vec Ideal S8x1024 .f32} {w : Vec Ideal S3x1024 .f32}

theorem sel_gt {α : Type} : ∀ (t : ℕ) (_ : t < 16) (a b : α), Scalar.select (Scalar.cmpi .sgt (BitVec.ofNat 32 t) 0#32) a b = if 0 < t then a else b := by
  intro t h a b
  interval_cases t <;> rfl

theorem sel_lt {α : Type} : ∀ (t : ℕ) (_ : t < 16) (a b : α), Scalar.select (Scalar.cmpi .slt (BitVec.ofNat 32 t) 15#32) a b = if t < 15 then a else b := by
  intro t h a b
  interval_cases t <;> rfl

theorem ext_at (T : Tile X W A t i cur prev nxt w da dan) (e : Fin 272) (l : Fin 1024) (h6 : 6 ≤ e.val) (hlt : t * 256 + e.val < 4104) :
    k0_pay4 (F := Ideal) i cur prev nxt (ix2 e l) = Before X (t * 256 + (e.val - 6)) l := by
  have he := e.isLt
  have ht := T.lt
  pointwise [k0_pay4, k0_pay3, k0_pay2]
  rw [T.hi]
  by_cases h : e.val < 8
  · rw [dif_pos h, sel_gt _ T.lt]
    by_cases h0 : 0 < t
    · rw [if_pos h0, show t * 256 + (e.val - 6) = (t * 256 - 8 + e.val) + 2 by omega, before_row _ _ _ (by omega)]
      pointwise [val_main_v11, val_main_v1, val_main_v0]
      rw [T.hprev h0, T.hprev h0]
    · rw [if_neg h0, before_zero _ _ _ (by omega)]
      try pointwise []
  · rw [dif_neg h]
    by_cases h2 : e.val - 8 < 256
    · rw [dif_pos h2, show t * 256 + (e.val - 6) = (t * 256 + (e.val - 8)) + 2 by omega, before_row _ _ _ (by omega)]
      pointwise [val_main_v11, val_main_v1, val_main_v0]
      rw [T.hcur, T.hcur]
    · rw [dif_neg h2, show t * 256 + (e.val - 6) = (t * 256 + 256 + (e.val - 8 - 256)) + 2 by omega, before_row _ _ _ (by omega)]
      pointwise [val_main_v11, val_main_v1, val_main_v0]
      rw [T.hnxt (by omega), T.hnxt (by omega)]

theorem tap0 (T : Tile X W A t i cur prev nxt w da dan) (r : Fin 264) (l : Fin 1024) (hlt : t * 256 + r.val < 4096) :
    k0_pay5 (F := Ideal) i cur prev nxt (ix2 r l) = Before X (t * 256 + r.val) l := by
  pointwise [k0_pay5]
  rw [ext_at T _ _ (by simp only; omega) (by simp only; omega)]
  exact congrArg (Before X · l) (by simp only; omega)

theorem tap1 (T : Tile X W A t i cur prev nxt w da dan) (r : Fin 264) (l : Fin 1024) (hlt : t * 256 + r.val < 4096) :
    k0_pay6 (F := Ideal) i cur prev nxt (ix2 r l) = Before X (t * 256 + r.val + 1) l := by
  pointwise [k0_pay6]
  rw [ext_at T _ _ (by simp only; omega) (by simp only; omega)]
  exact congrArg (Before X · l) (by simp only; omega)

theorem tap2 (T : Tile X W A t i cur prev nxt w da dan) (r : Fin 264) (l : Fin 1024) (hlt : t * 256 + r.val < 4096) :
    k0_pay7 (F := Ideal) i cur prev nxt (ix2 r l) = Before X (t * 256 + r.val + 2) l := by
  pointwise [k0_pay7]
  rw [ext_at T _ _ (by simp only; omega) (by simp only; omega)]
  exact congrArg (Before X · l) (by simp only; omega)

theorem conv_at (T : Tile X W A t i cur prev nxt w da dan) (r : Fin 264) (l : Fin 1024) (hlt : t * 256 + r.val < 4096) :
    k0_pay8 (F := Ideal) i w cur prev nxt (ix2 r l) = val_main_v30 (F := Ideal) X W (ix2 ⟨t * 256 + r.val, hlt⟩ l) := by
  rw [conv_ref]
  pointwise [k0_pay8]
  rw [tap0 T _ _ hlt, tap1 T _ _ hlt, tap2 T _ _ hlt, T.hw, T.hw, T.hw]

theorem b_at (T : Tile X W A t i cur prev nxt w da dan) (r : Fin 264) (l : Fin 1024) (hlt : t * 256 + r.val < 4096) :
    k0_pay9 (F := Ideal) cur nxt (ix2 r l) = val_main_v2 (F := Ideal) X (ix2 ⟨t * 256 + r.val, hlt⟩ l) := by
  have hr := r.isLt
  pointwise [k0_pay9, val_main_v2]
  by_cases h : r.val < 256
  · rw [dif_pos h, T.hcur]
  · rw [dif_neg h, T.hnxt (by omega)]
    exact congrArg (fun n => X (ix2 n _)) (Fin.ext (by simp only; omega))

theorem z_at (T : Tile X W A t i cur prev nxt w da dan) (r : Fin 264) (l : Fin 1024) (hlt : t * 256 + r.val < 4096) :
    k0_pay10 (F := Ideal) cur nxt (ix2 r l) = val_main_v3 (F := Ideal) X (ix2 ⟨t * 256 + r.val, hlt⟩ l) := by
  have hr := r.isLt
  pointwise [k0_pay10, val_main_v3]
  by_cases h : r.val < 256
  · rw [dif_pos h, T.hcur]
  · rw [dif_neg h, T.hnxt (by omega)]
    exact congrArg (fun n => X (ix2 n _)) (Fin.ext (by simp only; omega))

/-- Whether block `t` is not the last. -/
abbrev more (i : grid0.Coords) : BitVec 1 := Scalar.cmpi .slt (BitVec.ofNat 32 (i 0).val) 15#32

theorem da_at (T : Tile X W A t i cur prev nxt w da dan) (r : Fin 264) (l : Fin 1024) :
    k0_pay11 (F := Ideal) da (more i) dan (ix2 r l) = if h : t * 256 + r.val < 4096 then A (ix2 ⟨t * 256 + r.val, h⟩ l) else (0 : EReal) := by
  have hr := r.isLt
  pointwise [k0_pay11]
  rw [more, T.hi]
  by_cases h : r.val < 256
  · rw [dif_pos h, T.hda, dif_pos]
  · rw [dif_neg h, sel_lt _ T.lt]
    by_cases h2 : t < 15
    · rw [if_pos h2, T.hdan h2, dif_pos (by omega)]
      exact congrArg (fun n => A (ix2 n l)) (Fin.ext (by simp only; omega))
    · rw [if_neg h2, dif_neg (by omega)]

theorem sg_at (T : Tile X W A t i cur prev nxt w da dan) (r : Fin 264) (l : Fin 1024) (hlt : t * 256 + r.val < 4096) :
    k0_pay12 (F := Ideal) (k0_pay10 cur nxt) (ix2 r l) = val_main_v9 (F := Ideal) X (ix2 ⟨t * 256 + r.val, hlt⟩ l) := by
  pointwise [k0_pay12, val_main_v9, val_main_v8, val_main_v7, val_main_v6, val_main_v5, val_main_v4, val_main_cst, val_main_cst_0]
  rw [z_at T _ _ hlt]
  rfl

theorem silu_at (T : Tile X W A t i cur prev nxt w da dan) (r : Fin 264) (l : Fin 1024) (hlt : t * 256 + r.val < 4096) :
    k0_pay13 (F := Ideal) (k0_pay10 cur nxt) (ix2 r l) = val_main_v10 (F := Ideal) X (ix2 ⟨t * 256 + r.val, hlt⟩ l) := by
  pointwise [k0_pay13, val_main_v10]
  rw [z_at T _ _ hlt, sg_at T _ _ hlt]

/-- The gradient of the convolution's result, in block `t` and the eight rows after it. -/
abbrev dk (i : grid0.Coords) (cur : Vec Ideal S256x4096 .f32) (nxt : Vec Ideal S8x4096 .f32)
    (da : Vec Ideal S256x1024 .f32) (dan : Vec Ideal S8x1024 .f32) : Vec Ideal S264x1024 .f32 :=
  k0_pay14 (k0_pay9 cur nxt) (k0_pay10 cur nxt) da (more i) dan

theorem dconv_at (T : Tile X W A t i cur prev nxt w da dan) (r : Fin 264) (l : Fin 1024) :
    dk i cur nxt da dan (ix2 r l) = DConv X A (t * 256 + r.val) l := by
  rw [DConv]
  by_cases h : t * 256 + r.val < 4096
  · rw [dif_pos h]
    pointwise [dk, k0_pay14, val_main_v35, val_main_v34]
    rw [da_at T, dif_pos h, b_at T _ _ h, silu_at T _ _ h]
    exact (congrArg (fun a : EReal => a * _) (mul_comm (G := EReal) _ _)).trans (mul_assoc (G := EReal) _ _ _)
  · rw [dif_neg h]
    pointwise [dk, k0_pay14]
    rw [da_at T, dif_neg h]
    exact (congrArg (fun a : EReal => a * _) (zero_mul (M₀ := EReal) _)).trans (zero_mul (M₀ := EReal) _)

/-- The gradient of the convolution's rows, from that of its result. -/
def duOf (v0 : Vec Ideal S3x1024 .f32) (d : FVec Ideal S264x1024 .f32) : FVec Ideal S256x1024 .f32 :=
  have v62 : FVec Ideal S1x1024 .f32 := extractStridedSlice S1x1024 ![0, 0] v0 slices_S3x1024_o0_0_S1x1024
  have v63 : FVec Ideal S264x1024 .f32 := dynamicRotate 0 262#32 none d rotates_S264x1024_d0
  have v64 : FVec Ideal S264x1024 .f32 := broadcastTo S264x1024 v62 broadcasts_S1x1024_S264x1024
  have v65 : FVec Ideal S264x1024 .f32 := mulf v64 v63
  have v66 : FVec Ideal S1x1024 .f32 := extractStridedSlice S1x1024 ![1, 0] v0 slices_S3x1024_o1_0_S1x1024
  have v67 : FVec Ideal S264x1024 .f32 := dynamicRotate 0 263#32 none d rotates_S264x1024_d0
  have v68 : FVec Ideal S264x1024 .f32 := broadcastTo S264x1024 v66 broadcasts_S1x1024_S264x1024
  have v69 : FVec Ideal S264x1024 .f32 := mulf v68 v67
  have v70 : FVec Ideal S264x1024 .f32 := addf v65 v69
  have v71 : FVec Ideal S1x1024 .f32 := extractStridedSlice S1x1024 ![2, 0] v0 slices_S3x1024_o2_0_S1x1024
  have v72 : FVec Ideal S264x1024 .f32 := broadcastTo S264x1024 v71 broadcasts_S1x1024_S264x1024
  have v73 : FVec Ideal S264x1024 .f32 := mulf v72 d
  have v74 : FVec Ideal S264x1024 .f32 := addf v70 v73
  extractStridedSlice S256x1024 ![0, 0] v74 slices_S264x1024_o0_0_S256x1024

/-- The gradient of the third quarter of the columns. -/
def dbOf (dy conv silu : FVec Ideal S264x1024 .f32) : FVec Ideal S256x1024 .f32 :=
  extractStridedSlice S256x1024 ![0, 0] (mulf (mulf dy conv) silu) slices_S264x1024_o0_0_S256x1024

/-- The gradient of the gate's argument. -/
def dzOf (dy b conv z s : FVec Ideal S264x1024 .f32) : FVec Ideal S256x1024 .f32 :=
  have one : Ideal .f32 := Scalar.ofBits .f32 0x3F800000#32
  have v55 : FVec Ideal S264x1024 .f32 := subf (broadcast S264x1024 one) s
  have v56 : FVec Ideal S264x1024 .f32 := mulf z v55
  have v58 : FVec Ideal S264x1024 .f32 := addf (broadcast S264x1024 one) v56
  have v59 : FVec Ideal S264x1024 .f32 := mulf s v58
  have v60 : FVec Ideal S264x1024 .f32 := mulf (mulf (mulf dy b) conv) v59
  extractStridedSlice S256x1024 ![0, 0] v60 slices_S264x1024_o0_0_S256x1024

/-- The four quarters side by side. -/
def joined (a b d e : FVec Ideal S256x1024 .f32) : FVec Ideal S256x4096 .bf16 :=
  truncf .bf16 (concatenate S256x4096 1 [⟨S256x1024, a⟩, ⟨S256x1024, b⟩, ⟨S256x1024, d⟩, ⟨S256x1024, e⟩] concatenates_S256x1024_S256x1024_S256x1024_S256x1024_S256x4096_d1) bitsLt_bf16_f32

theorem pay15_eq (v0 : Vec Ideal S3x1024 .f32) (h c : FVec Ideal S256x1024 .f32) (conv b z : FVec Ideal S264x1024 .f32)
    (dy : Vec Ideal S256x1024 .f32) (n : BitVec 1) (dyn : Vec Ideal S8x1024 .f32) :
    k0_pay15 (F := Ideal) v0 h c conv b z dy n dyn
      = joined (mulf (duOf v0 (k0_pay14 b z dy n dyn)) c) (mulf (duOf v0 (k0_pay14 b z dy n dyn)) h)
          (dbOf (k0_pay11 dy n dyn) conv (k0_pay13 z)) (dzOf (k0_pay11 dy n dyn) b conv z (k0_pay12 z)) := rfl

theorem du_at (T : Tile X W A t i cur prev nxt w da dan) (r : Fin 256) (l : Fin 1024) (R : Fin 4096) (hR : R.val = t * 256 + r.val) :
    duOf w (dk i cur nxt da dan) (ix2 r l) = val_main_v63 (F := Ideal) X W A (ix2 R l) := by
  rw [du_ref, hR]
  pointwise [duOf]
  rw [dconv_at T, dconv_at T, dconv_at T, T.hw, T.hw, T.hw]
  have hr := r.isLt
  have a2 : (r.val + 264 - 262) % 264 = r.val + 2 := by omega
  have a1 : (r.val + 264 - 263) % 264 = r.val + 1 := by omega
  simp only [a1, a2, ← add_assoc]

theorem db_at (T : Tile X W A t i cur prev nxt w da dan) (r : Fin 256) (l : Fin 1024) (hR : t * 256 + r.val < 4096) :
    dbOf (k0_pay11 da (more i) dan) (k0_pay8 i w cur prev nxt) (k0_pay13 (k0_pay10 cur nxt)) (ix2 r l)
      = val_main_v36 (F := Ideal) X W A (ix2 ⟨t * 256 + r.val, hR⟩ l) := by
  pointwise [dbOf, val_main_v36, val_main_v34]
  rw [da_at T, dif_pos hR, conv_at T _ _ hR, silu_at T _ _ hR]
  exact mul_right_comm (G := EReal) _ _ _

theorem mul_rev (a b d e : EReal) : a * b * d * e = b * d * a * e := by ac_rfl

theorem dz_at (T : Tile X W A t i cur prev nxt w da dan) (r : Fin 256) (l : Fin 1024) (hR : t * 256 + r.val < 4096) :
    dzOf (k0_pay11 da (more i) dan) (k0_pay9 cur nxt) (k0_pay8 i w cur prev nxt) (k0_pay10 cur nxt) (k0_pay12 (k0_pay10 cur nxt)) (ix2 r l)
      = val_main_v72 (F := Ideal) X W A (ix2 ⟨t * 256 + r.val, hR⟩ l) := by
  pointwise [dzOf, val_main_v72, val_main_v71, val_main_v70, val_main_v69, val_main_v68, val_main_v67, val_main_v66, val_main_v33,
    val_main_v31, val_main_cst_13, val_main_cst_14]
  rw [da_at T, dif_pos hR, conv_at T _ _ hR, b_at T _ _ hR, z_at T _ _ hR, sg_at T _ _ hR]
  exact mul_rev _ _ _ _

theorem dh_at (T : Tile X W A t i cur prev nxt w da dan) (r : Fin 256) (l : Fin 1024) (hR : t * 256 + r.val < 4096) :
    mulf (duOf w (dk i cur nxt da dan)) (k0_pay3 cur) (ix2 r l) = val_main_v64 (F := Ideal) X W A (ix2 ⟨t * 256 + r.val, hR⟩ l) := by
  pointwise [k0_pay3, val_main_v64, val_main_v1]
  rw [du_at T r l ⟨t * 256 + r.val, hR⟩ rfl, T.hcur]
  exact mul_comm (G := EReal) _ _

theorem dc_at (T : Tile X W A t i cur prev nxt w da dan) (r : Fin 256) (l : Fin 1024) (hR : t * 256 + r.val < 4096) :
    mulf (duOf w (dk i cur nxt da dan)) (k0_pay2 cur) (ix2 r l) = val_main_v65 (F := Ideal) X W A (ix2 ⟨t * 256 + r.val, hR⟩ l) := by
  pointwise [k0_pay2, val_main_v65, val_main_v0]
  rw [du_at T r l ⟨t * 256 + r.val, hR⟩ rfl, T.hcur]

theorem out_at (T : Tile X W A t i cur prev nxt w da dan) (r : Fin 256) (l : Fin 4096) (R : Fin 4096) (hR : R.val = t * 256 + r.val) :
    k0_pay15 (F := Ideal) w (k0_pay2 cur) (k0_pay3 cur) (k0_pay8 i w cur prev nxt) (k0_pay9 cur nxt) (k0_pay10 cur nxt) da (more i) dan (ix2 r l)
      = val_main_v74 (F := Ideal) X W A (ix2 R l) := by
  have hl : t * 256 + r.val < 4096 := hR ▸ R.isLt
  obtain rfl : R = ⟨t * 256 + r.val, hl⟩ := Fin.ext hR
  rw [pay15_eq]
  have e1 := fun l => dh_at T r l hl
  have e2 := fun l => dc_at T r l hl
  have e3 := fun l => db_at T r l hl
  have e4 := fun l => dz_at T r l hl
  generalize mulf (duOf w (dk i cur nxt da dan)) (k0_pay3 cur) = p1 at *
  generalize mulf (duOf w (dk i cur nxt da dan)) (k0_pay2 cur) = p2 at *
  generalize dbOf (k0_pay11 da (more i) dan) (k0_pay8 i w cur prev nxt) (k0_pay13 (k0_pay10 cur nxt)) = p3 at *
  generalize dzOf (k0_pay11 da (more i) dan) (k0_pay9 cur nxt) (k0_pay8 i w cur prev nxt) (k0_pay10 cur nxt) (k0_pay12 (k0_pay10 cur nxt)) = p4 at *
  pointwise [joined, val_main_v74, val_main_v73]
  simp only [e1, e2, e3, e4]

theorem row0 (T : Tile X W A t i cur prev nxt w da dan) (l : Fin 1024) :
    k0_pay18 (F := Ideal) (k0_pay5 i cur prev nxt) (k0_pay9 cur nxt) (k0_pay10 cur nxt) da (more i) dan (ix2 0 l)
      = (∑ r : Fin 256, DConv X A (t * 256 + r.val) l * Before X (t * 256 + r.val + 0) l : EReal) := by
  have e : ∀ n : Fin 264, k0_pay14 (F := Ideal) (k0_pay9 cur nxt) (k0_pay10 cur nxt) da (more i) dan (ix2 n l)
    = DConv X A (t * 256 + n.val) l := fun n => dconv_at T n l
  pointwise [k0_pay18, k0_pay17]
  refine Finset.sum_congr rfl fun r _ => ?_
  rw [e, tap0 T _ _ (by have := r.isLt; have := T.lt; simp only; omega)]

theorem row1 (T : Tile X W A t i cur prev nxt w da dan) (l : Fin 1024) (r : Fin 256) :
    (k0_pay17 (F := Ideal) (k0_pay9 cur nxt) (k0_pay10 cur nxt) da (more i) dan (ix2 r l) * k0_pay19 (F := Ideal) (k0_pay6 i cur prev nxt) (ix2 r l) : EReal)
      = DConv X A (t * 256 + r.val) l * Before X (t * 256 + r.val + 1) l := by
  have e : ∀ n : Fin 264, k0_pay14 (F := Ideal) (k0_pay9 cur nxt) (k0_pay10 cur nxt) da (more i) dan (ix2 n l)
    = DConv X A (t * 256 + n.val) l := fun n => dconv_at T n l
  pointwise [k0_pay17, k0_pay19]
  rw [e, tap1 T _ _ (by have := r.isLt; have := T.lt; simp only; omega)]

theorem row2 (T : Tile X W A t i cur prev nxt w da dan) (l : Fin 1024) (r : Fin 256) (h : r.val < 264) :
    (k0_pay17 (F := Ideal) (k0_pay9 cur nxt) (k0_pay10 cur nxt) da (more i) dan (ix2 r l) * k0_pay7 (F := Ideal) i cur prev nxt (ix2 ⟨r.val, h⟩ l) : EReal)
      = DConv X A (t * 256 + r.val) l * Before X (t * 256 + r.val + 2) l := by
  have e : ∀ n : Fin 264, k0_pay14 (F := Ideal) (k0_pay9 cur nxt) (k0_pay10 cur nxt) da (more i) dan (ix2 n l)
    = DConv X A (t * 256 + n.val) l := fun n => dconv_at T n l
  pointwise [k0_pay17]
  rw [e, tap2 T _ _ (by have := r.isLt; have := T.lt; simp only; omega)]

theorem pay1_at (v25 : FVec Ideal S264x1024 .f32) (v84 : FVec Ideal S256x1024 .f32) (v88 : FVec Ideal S1x1024 .f32)
    (v89 : FVec Ideal S256x1024 .f32) (z : Vec Ideal S3x1024 .f32) (k : Fin 3) (l : Fin 1024) :
    k0_pay1 (F := Ideal) v25 v84 v88 v89 z (ix2 k l) = (z (ix2 k l) + ![v88 (ix2 0 l), ∑ r : Fin 256, (v84 (ix2 r l) * v89 (ix2 r l) : EReal),
      ∑ r : Fin 256, (v84 (ix2 r l) * v25 (ix2 ⟨r.val, by omega⟩ l) : EReal)] k : EReal) := by
  pointwise [k0_pay1]
  refine congrArg (fun y : EReal => z (ix2 k l) + y) ?_
  match k with
  | ⟨0, _⟩ => rfl
  | ⟨1, _⟩ => rfl
  | ⟨2, _⟩ => rfl

theorem dw_add (T : Tile X W A t i cur prev nxt w da dan) (z : Vec Ideal S3x1024 .f32) (k : Fin 3) (l : Fin 1024) :
    k0_pay1 (F := Ideal) (k0_pay7 i cur prev nxt) (k0_pay17 (k0_pay9 cur nxt) (k0_pay10 cur nxt) da (more i) dan)
      (k0_pay18 (k0_pay5 i cur prev nxt) (k0_pay9 cur nxt) (k0_pay10 cur nxt) da (more i) dan) (k0_pay19 (k0_pay6 i cur prev nxt)) z (ix2 k l)
    = (z (ix2 k l) + ∑ r : Fin 256, DConv X A (t * 256 + r.val) l * Before X (t * 256 + r.val + k.val) l : EReal) := by
  rw [pay1_at]
  refine congrArg (fun y : EReal => z (ix2 k l) + y) ?_
  match k with
  | ⟨0, _⟩ => exact row0 T l
  | ⟨1, _⟩ => exact (Finset.sum_congr rfl fun r _ => row1 T l r : (∑ r : Fin 256, (_ : EReal)) = ∑ r : Fin 256, _)
  | ⟨2, _⟩ => exact (Finset.sum_congr rfl fun r _ => row2 T l r (by omega) : (∑ r : Fin 256, (_ : EReal)) = ∑ r : Fin 256, _)

end Stages

variable (m : (ℓ : Loc nD τ sig) → Buf (Elt Ideal) ℓ) (ρ : Dev nD → PrngReg) (c : Dev nD)

abbrev aX : Vec Ideal S4096x4096 .f32 := m ((c : Thread nD τ).loc main_arg0)
abbrev aW : Vec Ideal S3x1024 .f32 := m ((c : Thread nD τ).loc main_arg1)
abbrev aA : Vec Ideal S4096x1024 .f32 := m ((c : Thread nD τ).loc main_arg2)

/-- Every window's block index at every point (decided). -/
theorem idx : ∀ t : Fin cfg0.N, win0_0.index t = ![t.val, 0] ∧ win0_1.index t = ![32 * t.val - 1, 0]
    ∧ win0_2.index t = ![min (32 * t.val + 32) 511, 0] ∧ win0_3.index t = ![0, 0] ∧ win0_4.index t = ![t.val, 0]
    ∧ win0_5.index t = ![min (32 * t.val + 32) 511, 0] ∧ win0_6.index t = ![t.val, 0] ∧ win0_7.index t = ![0, 0]
    ∧ (grid0.coords t 0).val = t.val :=
  (by decide +kernel : ∀ t : Fin grid0.N, _)

theorem tile (t : Fin cfg0.N) : Tile (aX m c) (aW m c) (aA m c) t.val (grid0.coords t) (iblk m c 0 t) (iblk m c 1 t) (iblk m c 2 t)
    (iblk m c 3 t) (iblk m c 4 t) (iblk m c 5 t) where
  lt := t.isLt
  hi := (idx t).2.2.2.2.2.2.2.2
  hcur r l := by blk_ext [iblk, V, idx t]
  hprev h r l := by blk_ext [iblk, V, idx t]
  hnxt h r l := by blk_ext [iblk, V, idx t]
  hw k l := by blk_ext [iblk, V, idx t]
  hda r l := by blk_ext [iblk, V, idx t]
  hdan h r l := by blk_ext [iblk, V, idx t]

/-- Row `r` of block `t`, as a row of the whole array. -/
abbrev rowOf (t : Fin cfg0.N) (r : Fin 256) : Fin 4096 :=
  ⟨t.val * 256 + r.val, by have := t.isLt; have hN : cfg0.N = 16 := N_0; omega⟩

theorem exists_ix2 {n k : ℕ} (j : (⟨2, ![n, k]⟩ : Shape).Idx) : ∃ a b, j = ix2 a b := ⟨_, _, eq_ix2 j⟩

theorem final6 : (dats m 0 c).arrAt 6 cfg0.N = val_main_v74 (F := Ideal) (aX m c) (aW m c) (aA m c) := by
  refine (dats m 0 c).arrAt_eq_of_covers 6 _ (by decide +kernel) fun t hf y => ?_
  have hy : (win0_6.blk t).view.emb y = ix2 (rowOf t (y 0)) (y 1) := by blk_ext [idx t]
  have hd := out_at (tile m c t) (y 0) (y 1) (rowOf t (y 0)) rfl
  rw [after0_6]
  by_cases h0 : t.val % 16 = 0
  · rw [outsAt0_A m c t h0]
    frame_out
    exact (congrArg _ (eq_ix2 y)).trans (hd.trans (congrArg _ hy.symm))
  · rw [outsAt0_B m c t h0]
    frame_out
    exact (congrArg _ (eq_ix2 y)).trans (hd.trans (congrArg _ hy.symm))

/-- The sixteen blocks' sums are one sum over the rows. -/
theorem sum_rows (f : Fin 4096 → EReal) : ∑ t : Fin cfg0.N, ∑ r : Fin 256, f (rowOf t r) = ∑ R : Fin 4096, f R :=
  Fin.sum_mul_add_congr fun _ _ _ => rfl

/-- A store of the first four rows over a store of all eight. -/
theorem canon_low (w : Vec Ideal S3x1024 .f32) (z : Vec Ideal S8x1024 .f32) (a : Fin 8) (l : Fin 1024) :
    View.canon (Val := Elt Ideal) (s := S8x1024) (e := .f32) [⟨Rect.unit ![0, 0] ![3, 1024] inb_S8x1024_S3x1024_0_0, w⟩,
      ⟨Rect.unit ![0, 0] ![8, 1024] inb_S8x1024_S8x1024_0_0, z⟩] (ix2 a l) = if h : a.val < 3 then w (ix2 ⟨a.val, h⟩ l) else z (ix2 a l) := by
  by_cases h : a.val < 3
  · rw [dif_pos h]
    have e : ix2 a l = (Rect.unit (s := S8x1024) ![0, 0] ![3, 1024] inb_S8x1024_S3x1024_0_0).emb (ix2 ⟨a.val, h⟩ l) := by
      funext b
      match b with
      | ⟨0, _⟩ => exact Fin.ext (by show a.val = 0 + 1 * a.val; omega)
      | ⟨1, _⟩ => exact Fin.ext (by show l.val = 0 + 1 * l.val; omega)
    rw [e]
    exact View.canon_cons_emb _ _ _ _
  · rw [dif_neg h, View.canon_cons_of_not_mem]
    · exact congrFun (View.canon_cons_unit_lit inb_S8x1024_S8x1024_0_0 z [] (by decide)) _
    · rw [Rect.mem_set_unit]
      intro g
      exact h (by have := (g 0).2; simpa using this)

theorem pay16_at (j : S8x1024.Idx) : k0_pay16 (F := Ideal) j = 0 := by
  obtain ⟨a, l, rfl⟩ := exists_ix2 j
  pointwise [k0_pay16]

/-- Block `t`'s part of the weights' gradient. -/
def part (t : ℕ) (a : Fin 8) (l : Fin 1024) : EReal :=
  if a.val < 3 then ∑ r : Fin 256, DConv (aX m c) (aA m c) (t * 256 + r.val) l * Before (aX m c) (t * 256 + r.val + a.val) l else 0

theorem dw_ref (a : Fin 8) (l : Fin 1024) : val_main_v75 (F := Ideal) (aX m c) (aA m c) (ix2 a l) = ∑ t : Fin cfg0.N, part m c t.val a l := by
  by_cases h : a.val < 3
  · simp only [part, if_pos h]
    refine Eq.trans ?_ (sum_rows fun R => DConv (aX m c) (aA m c) R.val l * Before (aX m c) (R.val + a.val) l).symm
    match a, h with
    | ⟨0, _⟩, _ => exact dw_ref0 _ _ l
    | ⟨1, _⟩, _ => exact dw_ref1 _ _ l
    | ⟨2, _⟩, _ => exact dw_ref2 _ _ l
  · simp only [part, if_neg h]
    rw [dw_ref3 _ _ a h]
    exact (Finset.sum_const_zero (M := EReal)).symm

theorem final7 : (dats m 0 c).arrAt 7 cfg0.N = val_main_v75 (F := Ideal) (aX m c) (aA m c) := by
  refine (dats m 0 c).arrAt_eq_of_after_last 7 t0_15 (by decide +kernel) _ fun j => ?_
  blk_simp
  rw [after0_7]
  rw [Pipeline.eq_sum_fin_of_reset_step_apply_last (fun n h => (outsAt0 m c n h).2) 16 (fun _ => 0)
    (fun t j => part m c t (j 0) (j 1))
    (fun t h j => by
      rw [outsAt0_A m c t h]; frame_out
      obtain ⟨a, l, rfl⟩ := exists_ix2 j
      refine (canon_low _ _ a l).trans ?_
      show _ = (0 + part m c t.val a l : EReal)
      by_cases ha : a.val < 3
      · rw [dif_pos ha, part, if_pos ha]
        refine (dw_add (tile m c t) _ ⟨a.val, ha⟩ l).trans (congrArg (fun z : EReal => z + _) ?_)
        rw [View.readCov_eq_canon_ld _ _ _ (fun y => ⟨_, List.mem_cons_self, by
          rw [Rect.mem_set_unit]; intro b; have := (y b).isLt; fin_cases b <;> simpa using this⟩),
          View.canon_cons_unit_lit inb_S8x1024_S8x1024_0_0 _ [] (by decide)]
        show k0_pay16 (F := Ideal) _ = 0
        exact pay16_at _
      · rw [dif_neg ha, part, if_neg ha, pay16_at]
        exact (zero_add (M := EReal) _).symm)
    (fun t h j => by
      rw [outsAt0_B m c t h]; frame_out
      obtain ⟨a, l, rfl⟩ := exists_ix2 j
      show _ = ((outsAt0 m c (t.val - 1) _).2 (ix2 a l) + part m c t.val a l : EReal)
      by_cases ha : a.val < 3
      · rw [part, if_pos ha]
        refine (View.read_writes_cons_rows_of_mem _ _ _ _ [] (ix2 a l) (ix2 ⟨a.val, ha⟩ l) rfl (by simp) rfl).trans
          ((dw_add (tile m c t) _ ⟨a.val, ha⟩ l).trans (congrArg (fun z : EReal => z + _) ?_))
        refine congrArg (outsAt0 m c (t.val - 1) _).2 ?_
        funext b
        match b with
        | ⟨0, _⟩ => exact Fin.ext (by show 0 + 1 * a.val = a.val; omega)
        | ⟨1, _⟩ => exact Fin.ext (by show 0 + 1 * l.val = l.val; omega)
      · rw [part, if_neg ha]
        refine (View.read_writes_cons_rows_of_not_mem (o := 0) (W := 3) _ _ _ _ [] (ix2 a l) rfl rfl (by right; simp; omega)).trans ?_
        refine (congrFun (Memref.IsWhole.read_unread _ _) _).trans ?_
        exact (add_zero (M := EReal) _).symm) (le_of_eq N_0) t0_15 rfl j]
  refine (zero_add (M := EReal) _).trans (Eq.trans ?_ ((dw_ref m c (j 0) (j 1)).symm.trans (congrArg _ (eq_ix2 j).symm)))
  rfl

end Cert.ConvABwdIdeal.RefValue

namespace Cert.Proof.ConvABwd

/-- At `Ideal` the kernel's two result arrays and the reference's agree. -/
theorem algebraic : Cert.algebraic_ConvABwdIdeal_ConvABwdRefIdeal := by
  pair_intro
  · run_from Cert.ConvABwdIdeal.Value.run_blocks m g
  · run_from Cert.ConvABwdRefIdeal.Value.run m' g'
    all_goals
      obtain ⟨h0, h1, h2⟩ := hagree c
    · rw [Cert.ConvABwdIdeal.RefValue.final6 m c, Cert.ConvABwdRefIdeal.Read.val_main_v74_eq m' c, h0, h1, h2]
    · rw [Cert.ConvABwdIdeal.RefValue.final7 m c, Cert.ConvABwdRefIdeal.Read.val_main_v75_eq m' c, h0, h2]

end Cert.Proof.ConvABwd
end
-- ==== Proof.EvenLnplFloatFrame.lean ====
/- The frame of the first layer's norm and gated embedding, backwards, as the step runs it: it runs to its end and leaves the
   argument arrays as they were. The first grid step clears the summed results' blocks and the others add to them; each of
   the two cases is run once, and nothing is stated here of the results. -/
module

public import proofs.«01_k».proof.Proof.Gen.EvenLnpl.Skeleton
public import proofs.«01_k».proof.Proof.Gen.EvenLnpl.Frame
public import Idealize.ShloMosaic.Lib.Claim

@[expose] public section

-- membership in a rectangle of production extents (`View.cover_of_tiled`): the elaborator's structural look
-- recurses once per coordinate of the long axes
set_option maxRecDepth 16384

noncomputable section

namespace Cert.EvenLnpl.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- A run whose end states nothing of the results leaves the argument arrays as they were. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1024 .bf16 := win0_14.stage (cfg0.slots t 14)
abbrev hs0_14 (t : Fin cfg0.N) : (ms0_14 t).IsWhole := hstage0_14 ((cfg0.slots t 14).cast nbuf0_14)

-- (the run's proof term is large: checking it walks past the default budget)
set_option maxHeartbeats 1000000 in
/-- The body's triple IN CASE A (`scf.if` 0 taken: points 0): on whole staging memrefs — the inputs' at their contents,
    the FORGOTTEN outputs' (8, 9, 10, 11, 12, 13, 14) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_lnpl_bwd_even i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_lnpl_bwd_even_eq_skeleton]; unfold cc0_lnpl_bwd_even_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

-- (the run's proof term is large: checking it walks past the default budget)
set_option maxHeartbeats 1000000 in
/-- The body's triple IN CASE B (`scf.if` 0 not taken: points 1, 2, … 7: 7 of 8): on whole staging memrefs — the inputs' at their contents,
    the FORGOTTEN outputs' (8, 9, 10, 11, 12, 13, 14) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_lnpl_bwd_even i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_lnpl_bwd_even_eq_skeleton]; unfold cc0_lnpl_bwd_even_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

/-! ## The pipeline's proof data -/

/-- The output windows this certificate FORGETS (8, 9, 10, 11, 12, 13, 14): nothing reads what the kernel leaves in them, so nothing
    of it is named (Lib/Pipeline/Dat.lean `Dat.toRForget`). -/
def forgets0 : Fin 15 → Bool := fun w => w.val == 8 || w.val == 9 || w.val == 10 || w.val == 11 || w.val == 12 || w.val == 13 || w.val == 14

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  have hN : t.val < 8 := lt_of_lt_of_eq t.isLt (show cfg0.N = 8 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9, 10, 11, 12, 13, 14) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_forget m ρ (fun c => (dats m 0 c).toRForget forgets0) (A_eq m) (run_main m ρ)

/-- THE FRAME: `Cert.quiescent_EvenLnpl`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.EvenLnpl.Gen

end
-- ==== Proof.EvenLnplCases.lean ====
/- The two cases of the body of the first layer's norm and gated embedding, backwards, over the extended reals: the first grid
   step, which clears the five summed results' blocks, and the others, which add to them. Each is run once. The loss's block is
   cleared by the first step and never written again; the step drops it, and nothing is stated of it. -/
module

public import proofs.«01_k».proof.Proof.Gen.EvenLnplIdeal.Skeleton
public import proofs.«01_k».proof.Proof.Gen.EvenLnplIdeal.Frame
public import Idealize.ShloMosaic.Lib.Claim

@[expose] public section

-- membership in a rectangle of production extents (`View.cover_of_tiled`): the elaborator's structural look
-- recurses once per coordinate of the long axes
set_option maxRecDepth 16384

noncomputable section

namespace Cert.EvenLnplIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- A run whose end states nothing of the dropped result leaves the argument arrays as they were. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-- Window 10 is never idle (an output stored at every point, under no condition). -/
theorem liveAt0_10 : ∀ t : Fin cfg0.N, cfg0.idle 10 (grid0.coords t) = false := fun _ => rfl
/-- Window 11 is never idle (an output stored at every point, under no condition). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- Window 14 is never idle (an output stored at every point, under no condition). -/
theorem liveAt0_14 : ∀ t : Fin cfg0.N, cfg0.idle 14 (grid0.coords t) = false := fun _ => rfl
/-! ## The kernel body on any staging memrefs: a subtype the run finds -/

/-- One staging buffer of output window 8, through which its contents are stated (`View.read_writes_of_cover`: the
    choice does not matter). -/
abbrev VO0_8 : View sig .tc .vmem S512x1024 .f32 := (Memref.whole cc0_stg8_0 : Memref sig .tc .vmem S512x1024 .f32).view
/-- One staging buffer of output window 9, through which its contents are stated (`View.read_writes_of_cover`: the
    choice does not matter). -/
abbrev VO0_9 : View sig .tc .vmem S1024x1024 .f32 := (Memref.whole cc0_stg9_0 : Memref sig .tc .vmem S1024x1024 .f32).view
/-- One staging buffer of output window 10, through which its contents are stated (`View.read_writes_of_cover`: the
    choice does not matter). -/
abbrev VO0_10 : View sig .tc .vmem S256x1024 .f32 := (Memref.whole cc0_stg10_0 : Memref sig .tc .vmem S256x1024 .f32).view
/-- One staging buffer of output window 11, through which its contents are stated (`View.read_writes_of_cover`: the
    choice does not matter). -/
abbrev VO0_11 : View sig .tc .vmem S1x1024 .f32 := (Memref.whole cc0_stg11_0 : Memref sig .tc .vmem S1x1024 .f32).view
/-- One staging buffer of output window 12, through which its contents are stated (`View.read_writes_of_cover`: the
    choice does not matter). -/
abbrev VO0_12 : View sig .tc .vmem S1x1024 .f32 := (Memref.whole cc0_stg12_0 : Memref sig .tc .vmem S1x1024 .f32).view
/-- One staging buffer of output window 14, through which its contents are stated (`View.read_writes_of_cover`: the
    choice does not matter). -/
abbrev VO0_14 : View sig .tc .vmem S512x1024 .bf16 := (Memref.whole cc0_stg14_0 : Memref sig .tc .vmem S512x1024 .bf16).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1024 .bf16 := win0_14.stage (cfg0.slots t 14)
abbrev hs0_14 (t : Fin cfg0.N) : (ms0_14 t).IsWhole := hstage0_14 ((cfg0.slots t 14).cast nbuf0_14)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (13) at anything, handed back at some contents nothing names. -/
noncomputable def kernelRun0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) :
    Σ' (L8 : List (View.Piece (Elt F) S512x1024 .f32)), Σ' (L9 : List (View.Piece (Elt F) S1024x1024 .f32)), Σ' (L10 : List (View.Piece (Elt F) S256x1024 .f32)), Σ' (L11 : List (View.Piece (Elt F) S1x1024 .f32)), Σ' (L12 : List (View.Piece (Elt F) S1x1024 .f32)), { L14 : List (View.Piece (Elt F) S512x1024 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ d, owns (c : Thread nD τ) arg14 fullShare d) ∗ (∃ f, arg15.view.loc (c : Thread nD τ) ↦[arg15.view.set]{fullShare} arg15.view.writes (Elt F) f L14)) -∗ K ⟨⟩))
          ⊢ wp frame (wpE (defs₀ (F := F)) Variants.none c none) E (cc0_lnpl_bwd_even i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_lnpl_bwd_even_eq_skeleton]; unfold cc0_lnpl_bwd_even_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]
    · iexists _, _; isplitr; swap; · iexact H13
      ipureintro; rfl
    iexists _; iexact H14

-- (the run's proof term is large: the definition's epilogue — `abstractNestedProofs` — walks it past the default budget)
set_option maxHeartbeats 1000000 in
/-- What the body's stores leave in each output's staging memref, as pieces (last first) IN CASE B (`scf.if` 0 not taken: points 1, 2, … 7: 7 of 8), WITH the
    proof that on whole staging memrefs — the inputs' at their contents, the outputs it reads before covering (9, 10, 11, 12) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (13) at anything, handed back at some contents nothing names. -/
noncomputable def kernelRun0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (xo9 : Vec F S1024x1024 .f32) (xo10 : Vec F S256x1024 .f32) (xo11 : Vec F S1x1024 .f32) (xo12 : Vec F S1x1024 .f32) :
    Σ' (L8 : List (View.Piece (Elt F) S512x1024 .f32)), Σ' (L9 : List (View.Piece (Elt F) S1024x1024 .f32)), Σ' (L10 : List (View.Piece (Elt F) S256x1024 .f32)), Σ' (L11 : List (View.Piece (Elt F) S1x1024 .f32)), Σ' (L12 : List (View.Piece (Elt F) S1x1024 .f32)), { L14 : List (View.Piece (Elt F) S512x1024 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9 ∗ owns (c : Thread nD τ) arg11 fullShare xo10 ∗ owns (c : Thread nD τ) arg12 fullShare xo11 ∗ owns (c : Thread nD τ) arg13 fullShare xo12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ d, owns (c : Thread nD τ) arg14 fullShare d) ∗ (∃ f, arg15.view.loc (c : Thread nD τ) ↦[arg15.view.set]{fullShare} arg15.view.writes (Elt F) f L14)) -∗ K ⟨⟩))
          ⊢ wp frame (wpE (defs₀ (F := F)) Variants.none c none) E (cc0_lnpl_bwd_even i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_lnpl_bwd_even_eq_skeleton]; unfold cc0_lnpl_bwd_even_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]
    · iexists _, _; isplitr; swap; · iexact H13
      ipureintro; rfl
    iexists _; iexact H14

end Cert.EvenLnplIdeal.Gen

end
-- ==== Proof.EvenLnplFrame.lean ====
/- The frame of the first layer's norm and gated embedding, backwards, over the extended reals: what each result's block holds
   after each grid step (but for the dropped loss), and that the argument arrays end as they were. -/
module

public import proofs.«01_k».proof.Proof.EvenLnplCases

@[expose] public section

-- membership in a rectangle of production extents (`View.cover_of_tiled`): the elaborator's structural look
-- recurses once per coordinate of the long axes
set_option maxRecDepth 16384

noncomputable section

namespace Cert.EvenLnplIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- Case A's pieces for output 8 tile its block (1 store of `S512x1024`, checked by the kernel's evaluation: Lib/Ring.lean `Piece.tiledL`, linear in the pieces, through a loop's `@[irreducible]` trip theorem too), so they cover it. -/
theorem cover0_A_8 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 S512x1024.size (by sl_kernel_rfl) y

/-- What case A leaves in output 8's staging buffer: its pieces read back over junk. -/
def out0_A_8 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) : Vec F S512x1024 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)

/-- Case A's pieces for output 9 tile its block (2 stores of `S1024x1024`, checked by the kernel's evaluation: Lib/Ring.lean `Piece.tiledL`, linear in the pieces, through a loop's `@[irreducible]` trip theorem too), so they cover it. -/
theorem cover0_A_9 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 S1024x1024.size (by sl_kernel_rfl) y

/-- What case A leaves in output 9's staging buffer: its pieces read back over junk. -/
def out0_A_9 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) : Vec F S1024x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)

/-- Case A's pieces for output 10 tile its block (2 stores of `S256x1024`, checked by the kernel's evaluation: Lib/Ring.lean `Piece.tiledL`, linear in the pieces, through a loop's `@[irreducible]` trip theorem too), so they cover it. -/
theorem cover0_A_10 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 S256x1024.size (by sl_kernel_rfl) y

/-- What case A leaves in output 10's staging buffer: its pieces read back over junk. -/
def out0_A_10 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) : Vec F S256x1024 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1)

/-- Case A's pieces for output 11 tile its block (2 stores of `S1x1024`, checked by the kernel's evaluation: Lib/Ring.lean `Piece.tiledL`, linear in the pieces, through a loop's `@[irreducible]` trip theorem too), so they cover it. -/
theorem cover0_A_11 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 S1x1024.size (by sl_kernel_rfl) y

/-- What case A leaves in output 11's staging buffer: its pieces read back over junk. -/
def out0_A_11 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) : Vec F S1x1024 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1)

/-- Case A's pieces for output 12 tile its block (2 stores of `S1x1024`, checked by the kernel's evaluation: Lib/Ring.lean `Piece.tiledL`, linear in the pieces, through a loop's `@[irreducible]` trip theorem too), so they cover it. -/
theorem cover0_A_12 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 S1x1024.size (by sl_kernel_rfl) y

/-- What case A leaves in output 12's staging buffer: its pieces read back over junk. -/
def out0_A_12 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) : Vec F S1x1024 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1)

/-- Case A's pieces for output 14 tile its block (1 store of `S512x1024`, checked by the kernel's evaluation: Lib/Ring.lean `Piece.tiledL`, linear in the pieces, through a loop's `@[irreducible]` trip theorem too), so they cover it. -/
theorem cover0_A_14 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1 S512x1024.size (by sl_kernel_rfl) y

/-- What case A leaves in output 14's staging buffer: its pieces read back over junk. -/
def out0_A_14 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) : Vec F S512x1024 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1)

/-- Case B's pieces for output 8 tile its block (1 store of `S512x1024`, checked by the kernel's evaluation: Lib/Ring.lean `Piece.tiledL`, linear in the pieces, through a loop's `@[irreducible]` trip theorem too), so they cover it. -/
theorem cover0_B_8 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (xo9 : Vec F S1024x1024 .f32) (xo10 : Vec F S256x1024 .f32) (xo11 : Vec F S1x1024 .f32) (xo12 : Vec F S1x1024 .f32) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).1 S512x1024.size (by sl_kernel_rfl) y

/-- What case B leaves in output 8's staging buffer: its pieces read back over junk. -/
def out0_B_8 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (xo9 : Vec F S1024x1024 .f32) (xo10 : Vec F S256x1024 .f32) (xo11 : Vec F S1x1024 .f32) (xo12 : Vec F S1x1024 .f32) : Vec F S512x1024 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).1)

/-- Case B's pieces for output 9 tile its block (1 store of `S1024x1024`, checked by the kernel's evaluation: Lib/Ring.lean `Piece.tiledL`, linear in the pieces, through a loop's `@[irreducible]` trip theorem too), so they cover it. -/
theorem cover0_B_9 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (xo9 : Vec F S1024x1024 .f32) (xo10 : Vec F S256x1024 .f32) (xo11 : Vec F S1x1024 .f32) (xo12 : Vec F S1x1024 .f32) (y : S1024x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.1 S1024x1024.size (by sl_kernel_rfl) y

/-- What case B leaves in output 9's staging buffer: its pieces read back over junk. -/
def out0_B_9 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (xo9 : Vec F S1024x1024 .f32) (xo10 : Vec F S256x1024 .f32) (xo11 : Vec F S1x1024 .f32) (xo12 : Vec F S1x1024 .f32) : Vec F S1024x1024 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.1)

/-- Case B's pieces for output 10 tile its block (1 store of `S256x1024`, checked by the kernel's evaluation: Lib/Ring.lean `Piece.tiledL`, linear in the pieces, through a loop's `@[irreducible]` trip theorem too), so they cover it. -/
theorem cover0_B_10 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (xo9 : Vec F S1024x1024 .f32) (xo10 : Vec F S256x1024 .f32) (xo11 : Vec F S1x1024 .f32) (xo12 : Vec F S1x1024 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.2.1 S256x1024.size (by sl_kernel_rfl) y

/-- What case B leaves in output 10's staging buffer: its pieces read back over junk. -/
def out0_B_10 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (xo9 : Vec F S1024x1024 .f32) (xo10 : Vec F S256x1024 .f32) (xo11 : Vec F S1x1024 .f32) (xo12 : Vec F S1x1024 .f32) : Vec F S256x1024 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.2.1)

/-- Case B's pieces for output 11 tile its block (1 store of `S1x1024`, checked by the kernel's evaluation: Lib/Ring.lean `Piece.tiledL`, linear in the pieces, through a loop's `@[irreducible]` trip theorem too), so they cover it. -/
theorem cover0_B_11 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (xo9 : Vec F S1024x1024 .f32) (xo10 : Vec F S256x1024 .f32) (xo11 : Vec F S1x1024 .f32) (xo12 : Vec F S1x1024 .f32) (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.2.2.1 S1x1024.size (by sl_kernel_rfl) y

/-- What case B leaves in output 11's staging buffer: its pieces read back over junk. -/
def out0_B_11 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (xo9 : Vec F S1024x1024 .f32) (xo10 : Vec F S256x1024 .f32) (xo11 : Vec F S1x1024 .f32) (xo12 : Vec F S1x1024 .f32) : Vec F S1x1024 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.2.2.1)

/-- Case B's pieces for output 12 tile its block (1 store of `S1x1024`, checked by the kernel's evaluation: Lib/Ring.lean `Piece.tiledL`, linear in the pieces, through a loop's `@[irreducible]` trip theorem too), so they cover it. -/
theorem cover0_B_12 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (xo9 : Vec F S1024x1024 .f32) (xo10 : Vec F S256x1024 .f32) (xo11 : Vec F S1x1024 .f32) (xo12 : Vec F S1x1024 .f32) (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.2.2.2.1 S1x1024.size (by sl_kernel_rfl) y

/-- What case B leaves in output 12's staging buffer: its pieces read back over junk. -/
def out0_B_12 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (xo9 : Vec F S1024x1024 .f32) (xo10 : Vec F S256x1024 .f32) (xo11 : Vec F S1x1024 .f32) (xo12 : Vec F S1x1024 .f32) : Vec F S1x1024 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.2.2.2.1)

/-- Case B's pieces for output 14 tile its block (1 store of `S512x1024`, checked by the kernel's evaluation: Lib/Ring.lean `Piece.tiledL`, linear in the pieces, through a loop's `@[irreducible]` trip theorem too), so they cover it. -/
theorem cover0_B_14 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (xo9 : Vec F S1024x1024 .f32) (xo10 : Vec F S256x1024 .f32) (xo11 : Vec F S1x1024 .f32) (xo12 : Vec F S1x1024 .f32) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.2.2.2.2.1 S512x1024.size (by sl_kernel_rfl) y

/-- What case B leaves in output 14's staging buffer: its pieces read back over junk. -/
def out0_B_14 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole) (arg15 : Memref sig .tc .vmem S512x1024 .bf16) (harg15 : arg15.IsWhole) (hc0 : ¬cond0_0 i)
    (x0 : Vec F S512x1024 .f32) (x1 : Vec F S512x1024 .f32) (x2 : Vec F S512x256 .f32) (x3 : Vec F S1024x1024 .bf16) (x4 : Vec F S256x1024 .bf16) (x5 : Vec F S1x1024 .f32) (x6 : Vec F S1x1024 .f32) (x7 : Vec F S512x1024 .f32) (xo9 : Vec F S1024x1024 .f32) (xo10 : Vec F S256x1024 .f32) (xo11 : Vec F S1x1024 .f32) (xo12 : Vec F S1x1024 .f32) : Vec F S512x1024 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11 xo12).2.2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S1024x1024 .f32 × Vec F S256x1024 .f32 × Vec F S1x1024 .f32 × Vec F S1x1024 .f32 × Vec F S512x1024 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1)

/-- `outsAt0` at a point of case A: that case's contents. -/
theorem outsAt0_A (c : Dev nD) (t : Fin cfg0.N) (h0 : t.val % 8 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1) := by
  obtain ⟨n, hn⟩ := t
  cases n with
  | zero => exact (by exfalso; (try dsimp only at h0); exact absurd (Nat.zero_mod _) h0)
  | succ n => exact (dif_neg h0).trans rfl

/-! ## The pipeline's proof data -/

/-- The output windows this certificate FORGETS (13): nothing reads what the kernel leaves in them, so nothing
    of it is named (Lib/Pipeline/Dat.lean `Dat.toRForget`). -/
def forgets0 : Fin 15 → Bool := fun w => w.val == 13
theorem forgets0_8 : forgets0 (8 : Fin 15) = false := by decide
theorem forgets0_9 : forgets0 (9 : Fin 15) = false := by decide
theorem forgets0_10 : forgets0 (10 : Fin 15) = false := by decide
theorem forgets0_11 : forgets0 (11 : Fin 15) = false := by decide
theorem forgets0_12 : forgets0 (12 : Fin 15) = false := by decide
theorem forgets0_14 : forgets0 (14 : Fin 15) = false := by decide

/-- The proof data of the one pipeline on core `c`: the arrays as the region finds them (`V`); after the body at
    point `t` each input's buffer at its block and the NAMED outputs' at `outsAt0` (the forgotten at `Dat.unnamed`); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, h⟩ => Pipeline.Dat.unnamed (cfg := cfg0) ⟨13, h⟩ t
    | ⟨14, _⟩ => (outsAt0 m c t.val t.isLt).2.2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_14 (c : Dev nD) (t : Fin cfg0.N) : (dats m 0 c).after 14 t = (outsAt0 m c t.val t.isLt).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 8 = 0) (d) :
    (dats m 0 c).before 9 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 8 = 0) (d) :
    (dats m 0 c).before 10 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case B output 11's current staging buffer holds what the body left at the point before: the point is
    not the first, the buffer was not written back between (`flush0_11`), the window is live and uncut (Lib/Pipeline/Frame.lean
    `Dat.before_out_kept`). -/
theorem before0_11_B (c : Dev nD) (t : Fin cfg0.N) (h0 : ¬t.val % 8 = 0) (d) :
    (dats m 0 c).before 11 t d = (outsAt0 m c (t.val - 1) (Nat.lt_of_le_of_lt (Nat.sub_le _ _) t.isLt)).2.2.2.1 := by
  have hN : t.val < 8 := lt_of_lt_of_eq t.isLt (show cfg0.N = 8 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case B output 12's current staging buffer holds what the body left at the point before: the point is
    not the first, the buffer was not written back between (`flush0_12`), the window is live and uncut (Lib/Pipeline/Frame.lean
    `Dat.before_out_kept`). -/
theorem before0_12_B (c : Dev nD) (t : Fin cfg0.N) (h0 : ¬t.val % 8 = 0) (d) :
    (dats m 0 c).before 12 t d = (outsAt0 m c (t.val - 1) (Nat.lt_of_le_of_lt (Nat.sub_le _ _) t.isLt)).2.2.2.2.1 := by
  have hN : t.val < 8 := lt_of_lt_of_eq t.isLt (show cfg0.N = 8 from N_0)
  rw [Dat.before_out_kept _ 12 rfl t (by omega) (Bool.eq_false_iff.mpr fun h => by have := (flush0_12 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare ((dats m 0 c).before 14 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ d, owns (c : Thread nD τ) (ms0_13 t) fullShare d)
    ∗ (dats m 0 c).leavesExact 14 t)

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  have hN : t.val < 8 := lt_of_lt_of_eq t.isLt (show cfg0.N = 8 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 14 t = owns (c : Thread nD τ) (ms0_14 t) fullShare ((dats m 0 c).after 14 t) from by
      unfold Dat.leavesExact; rw [liveAt0_14 t], after0_14]
    rw [outsAt0_A m c t h0]
    unfold out0_A_8 out0_A_9 out0_A_10 out0_A_11 out0_A_12 out0_A_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, ⟨%e8, H8⟩, ⟨%e9, H9⟩, ⟨%e10, H10⟩, ⟨%e11, H11⟩, ⟨%e12, H12⟩, H13, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _)
    isplitl [H13]; · iexact H13
    unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 14 t = owns (c : Thread nD τ) (ms0_14 t) fullShare ((dats m 0 c).after 14 t) from by
      unfold Dat.leavesExact; rw [liveAt0_14 t], after0_14]
    rw [outsAt0_B m c t h0]
    simp only [before0_9_B m c t h0, before0_10_B m c t h0, before0_11_B m c t h0, before0_12_B m c t h0]
    unfold out0_B_8 out0_B_9 out0_B_10 out0_B_11 out0_B_12 out0_B_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [H12]; · iexact H12
    isplitl [H13]; · iexists _; iexact H13
    isplitl [H14]; · iexists _; iexact H14
    iintro ⟨H0, H1, H2, H3, H4, H5, H6, H7, ⟨%e8, H8⟩, ⟨%e9, H9⟩, ⟨%e10, H10⟩, ⟨%e11, H11⟩, ⟨%e12, H12⟩, H13, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _)
    isplitl [H13]; · iexact H13
    unfold owns; iexists _; isplitr
    swap; · iexact H14
    ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 13) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_forget m ρ (fun c => (dats m 0 c).toRForget forgets0) (A_eq m) (run_main m ρ)

/-- THE FRAME: `Cert.quiescent_EvenLnplIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.EvenLnplIdeal.Gen

end
-- ==== Proof.EvenLnplRun.lean ====
/- What the six result arrays hold at the end of the first layer's norm and gated embedding, backwards, over the extended
   reals: the blocks that the grid's steps write back, and the argument arrays as they were. -/
module

public import proofs.«01_k».proof.Proof.EvenLnplFrame
public import Idealize.ShloMosaic.Lib.Pipeline.Value

@[expose] public section

noncomputable section

namespace Cert.EvenLnplIdeal.Value

open Cert.EvenLnplIdeal Cert.EvenLnplIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 8 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 8 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1) := by
  simp only [flushed8, outsAt0_B m c t h0]

/-- The index map sends distinct grid points to distinct block indices (decided over the 8 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4096x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 8 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 8 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1) := by
  simp only [flushed9, outsAt0_B m c t h0]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S1024x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 2), read through the window's block. -/
theorem flushed10 (c : Dev nD) (t : Fin cfg0.N) :
    (dats m 0 c).flushed 10 t = (cfg0.win 10).cut (grid0.coords t) ((outsAt0 m c t.val t.isLt).2.2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 8 = 0) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t)) := by
  simp only [flushed10, outsAt0_A m c t h0]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 8 = 0) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1) := by
  simp only [flushed10, outsAt0_B m c t h0]

-- no `blocks10`: window 10's index map revisits a block index, or its points could not be enumerated here;
-- the final array is still the frame's `arrAt`, to read with Lib/Pipeline/Value.lean's lemmas by hand

/-- An index that no flushing point's block covers keeps output window 10's array contents at region entry. -/
theorem entry10 (c : Dev nD) (i : S256x1024.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 3), read through the window's block. -/
theorem flushed11 (c : Dev nD) (t : Fin cfg0.N) :
    (dats m 0 c).flushed 11 t = (cfg0.win 11).cut (grid0.coords t) ((outsAt0 m c t.val t.isLt).2.2.2.1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 8 = 0) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t)) := by
  simp only [flushed11, outsAt0_A m c t h0]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 8 = 0) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1) := by
  simp only [flushed11, outsAt0_B m c t h0]

-- no `blocks11`: window 11's index map revisits a block index, or its points could not be enumerated here;
-- the final array is still the frame's `arrAt`, to read with Lib/Pipeline/Value.lean's lemmas by hand

/-- An index that no flushing point's block covers keeps output window 11's array contents at region entry. -/
theorem entry11 (c : Dev nD) (i : S1x1024.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the run's contents for that window after the body (`Gen.outsAt0`: its component 4), read through the window's block. -/
theorem flushed12 (c : Dev nD) (t : Fin cfg0.N) :
    (dats m 0 c).flushed 12 t = (cfg0.win 12).cut (grid0.coords t) ((outsAt0 m c t.val t.isLt).2.2.2.2.1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — by the frame's rewriting lemma for the case. -/
theorem flushed12_A (c : Dev nD) (t : Fin cfg0.N) (h0 : t.val % 8 = 0) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t)) := by
  simp only [flushed12, outsAt0_A m c t h0]

/-- … so at a point where case B runs, what its write-back would write is that case's NAMED TERM for the window (`Gen.out0_B_12`: the pieces
    its run found, read back) at the point's memrefs and input blocks, and for an output the case reads back what the point before left (`Gen.outsAt0` at `t - 1`) — by the frame's rewriting lemma for the case. -/
theorem flushed12_B (c : Dev nD) (t : Fin cfg0.N) (h0 : ¬t.val % 8 = 0) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1) := by
  simp only [flushed12, outsAt0_B m c t h0]

-- no `blocks12`: window 12's index map revisits a block index, or its points could not be enumerated here;
-- the final array is still the frame's `arrAt`, to read with Lib/Pipeline/Value.lean's lemmas by hand

/-- An index that no flushing point's block covers keeps output window 12's array contents at region entry. -/
theorem entry12 (c : Dev nD) (i : S1x1024.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 14's array: the run's contents for that window after the body (`Gen.outsAt0`: its component 5), read through the window's block. -/
theorem flushed14 (c : Dev nD) (t : Fin cfg0.N) :
    (dats m 0 c).flushed 14 t = (cfg0.win 14).cut (grid0.coords t) ((outsAt0 m c t.val t.isLt).2.2.2.2.2) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — by the frame's rewriting lemma for the case. -/
theorem flushed14_A (c : Dev nD) (t : Fin cfg0.N) (h0 : t.val % 8 = 0) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t)) := by
  simp only [flushed14, outsAt0_A m c t h0]

/-- … so at a point where case B runs, what its write-back would write is that case's NAMED TERM for the window (`Gen.out0_B_14`: the pieces
    its run found, read back) at the point's memrefs and input blocks, and for an output the case reads back what the point before left (`Gen.outsAt0` at `t - 1`) — by the frame's rewriting lemma for the case. -/
theorem flushed14_B (c : Dev nD) (t : Fin cfg0.N) (h0 : ¬t.val % 8 = 0) :
    (dats m 0 c).flushed 14 t = (cfg0.win 14).cut (grid0.coords t) (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1) := by
  simp only [flushed14, outsAt0_B m c t h0]

/-- The index map sends distinct grid points to distinct block indices (decided over the 8 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S4096x1024.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 15) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 8's array is `(dats m 0 c).arrAt 8 N`. -/
theorem post8 (r : PUnit × MemSt nD τ sig (Elt F)) (h : Pipeline.RDat.FramePost (cfgs 0) (fun c => (dats m 0 c).toRForget forgets0) (V m) r) (c : Dev nD) :
    r.2.mem ((c : Thread nD τ).loc main_v0_0) = (dats m 0 c).arrAt 8 cfg0.N :=
  finalR_out0 m r h c 8 forgets0_8

/-- After the frame run, output window 9's array is `(dats m 0 c).arrAt 9 N`. -/
theorem post9 (r : PUnit × MemSt nD τ sig (Elt F)) (h : Pipeline.RDat.FramePost (cfgs 0) (fun c => (dats m 0 c).toRForget forgets0) (V m) r) (c : Dev nD) :
    r.2.mem ((c : Thread nD τ).loc main_v0_1) = (dats m 0 c).arrAt 9 cfg0.N :=
  finalR_out0 m r h c 9 forgets0_9

/-- After the frame run, output window 10's array is `(dats m 0 c).arrAt 10 N`. -/
theorem post10 (r : PUnit × MemSt nD τ sig (Elt F)) (h : Pipeline.RDat.FramePost (cfgs 0) (fun c => (dats m 0 c).toRForget forgets0) (V m) r) (c : Dev nD) :
    r.2.mem ((c : Thread nD τ).loc main_v0_2) = (dats m 0 c).arrAt 10 cfg0.N :=
  finalR_out0 m r h c 10 forgets0_10

/-- After the frame run, output window 11's array is `(dats m 0 c).arrAt 11 N`. -/
theorem post11 (r : PUnit × MemSt nD τ sig (Elt F)) (h : Pipeline.RDat.FramePost (cfgs 0) (fun c => (dats m 0 c).toRForget forgets0) (V m) r) (c : Dev nD) :
    r.2.mem ((c : Thread nD τ).loc main_v0_3) = (dats m 0 c).arrAt 11 cfg0.N :=
  finalR_out0 m r h c 11 forgets0_11

/-- After the frame run, output window 12's array is `(dats m 0 c).arrAt 12 N`. -/
theorem post12 (r : PUnit × MemSt nD τ sig (Elt F)) (h : Pipeline.RDat.FramePost (cfgs 0) (fun c => (dats m 0 c).toRForget forgets0) (V m) r) (c : Dev nD) :
    r.2.mem ((c : Thread nD τ).loc main_v0_4) = (dats m 0 c).arrAt 12 cfg0.N :=
  finalR_out0 m r h c 12 forgets0_12

/-- After the frame run, output window 14's array is `(dats m 0 c).arrAt 14 N`. -/
theorem post14 (r : PUnit × MemSt nD τ sig (Elt F)) (h : Pipeline.RDat.FramePost (cfgs 0) (fun c => (dats m 0 c).toRForget forgets0) (V m) r) (c : Dev nD) :
    r.2.mem ((c : Thread nD τ).loc main_v0_6) = (dats m 0 c).arrAt 14 cfg0.N :=
  finalR_out0 m r h c 14 forgets0_14

/-- After the frame run, argument `main_arg0` is as launched: input window 0 stages it and never writes it back. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- After the frame run, argument `main_arg1` is as launched: input window 1 stages it and never writes it back. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

/-- After the frame run, argument `main_arg2` is as launched: input window 2 stages it and never writes it back. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 2 rfl).trans ((A_eq m c 2).trans (V_main_arg2 m c))

/-- After the frame run, argument `main_arg3` is as launched: input window 3 stages it and never writes it back. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  (Pipeline.RDat.FramePost.arr_in h c 3 rfl).trans ((A_eq m c 3).trans (V_main_arg3 m c))

/-- After the frame run, argument `main_arg4` is as launched: input window 4 stages it and never writes it back. -/
theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  (Pipeline.RDat.FramePost.arr_in h c 4 rfl).trans ((A_eq m c 4).trans (V_main_arg4 m c))

/-- After the frame run, argument `main_arg5` is as launched: input window 5 stages it and never writes it back. -/
theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  (Pipeline.RDat.FramePost.arr_in h c 5 rfl).trans ((A_eq m c 5).trans (V_main_arg5 m c))

/-- After the frame run, argument `main_arg6` is as launched: input window 6 stages it and never writes it back. -/
theorem kept_main_arg6 (r : PUnit × MemSt nD τ sig (Elt F)) (h : Pipeline.RDat.FramePost (cfgs 0) (fun c => (dats m 0 c).toRForget forgets0) (V m) r) (c : Dev nD) :
    r.2.mem ((c : Thread nD τ).loc main_arg6) = m ((c : Thread nD τ).loc main_arg6) :=
  (Pipeline.RDat.FramePost.arr_in h c 6 rfl).trans ((A_eq m c 6).trans (V_main_arg6 m c))

/-- After the frame run, argument `main_arg7` is as launched: input window 7 stages it and never writes it back. -/
theorem kept_main_arg7 (r : PUnit × MemSt nD τ sig (Elt F)) (h : Pipeline.RDat.FramePost (cfgs 0) (fun c => (dats m 0 c).toRForget forgets0) (V m) r) (c : Dev nD) :
    r.2.mem ((c : Thread nD τ).loc main_arg7) = m ((c : Thread nD τ).loc main_arg7) :=
  (Pipeline.RDat.FramePost.arr_in h c 7 rfl).trans ((A_eq m c 7).trans (V_main_arg7 m c))

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 8 cfg0.N
      ∧ r.2.mem ((c : Thread nD τ).loc main_v0_1) = (dats m 0 c).arrAt 9 cfg0.N
      ∧ r.2.mem ((c : Thread nD τ).loc main_v0_2) = (dats m 0 c).arrAt 10 cfg0.N
      ∧ r.2.mem ((c : Thread nD τ).loc main_v0_3) = (dats m 0 c).arrAt 11 cfg0.N
      ∧ r.2.mem ((c : Thread nD τ).loc main_v0_4) = (dats m 0 c).arrAt 12 cfg0.N
      ∧ r.2.mem ((c : Thread nD τ).loc main_v0_6) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      post10 m r h c,
      post11 m r h c,
      post12 m r h c,
      post14 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.EvenLnplIdeal.Value

end
-- ==== Proof.EvenLnplValue.lean ====
/- The first layer's norm and gated embedding, backwards: one block of 512 rows of the kernel against the reference's whole
   arrays, then the kernel's six result arrays after its eight grid points, and the claim that they are the reference's.
   `Row` says that row `r` of each input block is row `R` of the whole array; under it every intermediate value of the
   kernel's body at `(r, l)` is the reference's value of the same name at `(R, l)`. The gradients of the weights and of the
   norm's scale and shift are sums over the eight blocks, re-indexed to the reference's sums over 4096 rows. -/
module

public import proofs.«01_k».proof.Defs
public import proofs.«01_k».proof.Proof.EvenLnplRun
public import proofs.«01_k».proof.Proof.LnplStages
public import proofs.«01_k».proof.Proof.Gen.EvenLnplRefIdeal.Run
public import proofs.«01_k».proof.Proof.Gen.EvenLnplRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenLnplIdeal.RefValue

open Cert.EvenLnplIdeal Cert.EvenLnplIdeal.Gen Cert.EvenLnplIdeal.Value Cert.EvenLnplRefIdeal.Read
open Cert.KernelIdeal.RefValue (two_split)

variable {x s u : Vec Ideal S512x1024 .f32} {p : Vec Ideal S512x256 .f32}
variable {X S U : Vec Ideal S4096x1024 .f32} {P : Vec Ideal S4096x256 .f32}
variable {Wg : Vec Ideal S1024x1024 .bf16} {Wp : Vec Ideal S256x1024 .bf16} {G B : Vec Ideal S1x1024 .f32}
variable {r : Fin 512} {R : Fin 4096}

/-- Row `r` of the blocks is row `R` of the arrays. -/
structure Row (x s u : Vec Ideal S512x1024 .f32) (p : Vec Ideal S512x256 .f32) (X S U : Vec Ideal S4096x1024 .f32)
    (P : Vec Ideal S4096x256 .f32) (r : Fin 512) (R : Fin 4096) : Prop where
  hx : ∀ l : Fin 1024, x (ix2 r l) = X (ix2 R l)
  hs : ∀ l : Fin 1024, s (ix2 r l) = S (ix2 R l)
  hu : ∀ l : Fin 1024, u (ix2 r l) = U (ix2 R l)
  hp : ∀ l : Fin 256, p (ix2 r l) = P (ix2 R l)

theorem dev_at (h : Row x s u p X S U P r R) (l : Fin 1024) :
    k0_pay6 x s (ix2 r l) = val_main_v10 (F := Ideal) X S (ix2 R l) := by
  pointwise [k0_pay6, val_main_v10, val_main_v9, val_main_v8, val_main_v7, val_main_v6, val_main_v5, val_main_v4,
    val_main_v3, val_main_v2, val_main_cst, val_main_cst_0, val_main_cst_1]
  simp only [h.hx, h.hs]

theorem var_at (h : Row x s u p X S U P r R) :
    k0_pay7 x s (ix2 r 0) = val_main_v19 (F := Ideal) X S (ix2 R 0) := by
  pointwise [k0_pay7, val_main_v19, val_main_v18, val_main_v17, val_main_v16, val_main_v15, val_main_v14, val_main_v11,
    val_main_cst_3, val_main_cst_4, val_main_cst_5]
  simp only [dev_at h]

theorem rs_at (h : Row x s u p X S U P r R) :
    k0_pay8 x s (ix2 r 0) = val_main_v20 (F := Ideal) X S (ix2 R 0) := by
  pointwise [k0_pay8, val_main_v20]
  simp only [var_at h]

theorem slope_at (h : Row x s u p X S U P r R) (z z' : Fin 1) :
    k0_pay9 x s (ix2 r z) = val_main_v23 (F := Ideal) X S (ix2 R z') := by
  obtain rfl : z = 0 := Subsingleton.elim _ _
  obtain rfl : z' = 0 := Subsingleton.elim _ _
  pointwise [k0_pay9, val_main_v23, val_main_v22, val_main_v21, val_main_cst_6]
  simp only [var_at h, rs_at h]

theorem unit_at (h : Row x s u p X S U P r R) (l : Fin 1024) :
    k0_pay10 x s (ix2 r l) = val_main_v25 (F := Ideal) X S (ix2 R l) := by
  pointwise [k0_pay10, val_main_v25, val_main_v24]
  simp only [dev_at h, rs_at h]

theorem xn_at (h : Row x s u p X S U P r R) (l : Fin 1024) :
    k0_pay11 x s G B (ix2 r l) = val_main_v29 (F := Ideal) X S G B (ix2 R l) := by
  pointwise [k0_pay11, val_main_v29, val_main_v28, val_main_v27, val_main_v26]
  simp only [unit_at h]

theorem gate_at (h : Row x s u p X S U P r R) (l : Fin 1024) :
    k0_pay12 x s G B Wg (ix2 r l) = val_main_v36 (F := Ideal) X S Wg G B (ix2 R l) := by
  pointwise [k0_pay12, val_main_v36, val_main_v35, val_main_v34, val_main_v33, val_main_v32, val_main_v31, val_main_v30,
    val_main_v0, val_main_cst_7, val_main_cst_8]
  simp only [xn_at h]
  rfl

/-- The gradient at the gate's argument. -/
theorem dlog_at (h : Row x s u p X S U P r R) (l : Fin 1024) :
    k0_pay13 (k0_pay12 x s G B Wg) p Wp u (ix2 r l) = val_main_v49 (F := Ideal) X S P Wg Wp G B U (ix2 R l) := by
  pointwise [k0_pay13, val_main_v49, val_main_v45, val_main_v44, val_main_v40, val_main_v39, val_main_v38, val_main_v37,
    val_main_v1, val_main_cst_9]
  simp only [h.hu, h.hp, gate_at h, mul_assoc, mul_comm, mul_left_comm]

/-- The gradient at the norm's result. -/
theorem dxn_at (h : Row x s u p X S U P r R) (l : Fin 1024) :
    k0_pay16 (k0_pay12 x s G B Wg) p Wp u Wg (ix2 r l) = val_main_v53 (F := Ideal) X S P Wg Wp G B U (ix2 R l) := by
  pointwise [k0_pay16, val_main_v53, val_main_v52, val_main_v43, val_main_v0]
  simp only [h.hu, dlog_at h]

/-- The norm's backward at its input, but for the mean's share: of the row's scaled gradients, the part through the
    deviation and the part through the variance. -/
def dq (v8 : Vec Ideal S1x1024 .f32) (v15 : FVec Ideal S512x1024 .f32) (v23 v26 : FVec Ideal S512x1 .f32)
    (v66 : FVec Ideal S512x1024 .f32) : FVec Ideal S512x1024 .f32 :=
  let v73 := mulf v66 (broadcastTo S512x1024 v8 broadcasts_S1x1024_S512x1024)
  let v74 := mulf v15 v73
  let v75 : FVec Ideal S512 .f32 := multiReduction .add [1] S512 v74 0x00000000#32 reduces_S512x1024_S512 (.inl rfl) rfl
  let v76 : FVec Ideal S512x1 .f32 := shapeCast S512x1 v75 shapeCasts_S512_S512x1
  let v78 := mulf v73 (broadcastTo S512x1024 v23 broadcasts_S512x1_S512x1024)
  let v81 := divf (mulf v76 v26) (broadcast S512x1 (Scalar.ofBits .f32 0x44800000#32))
  let v82 : FVec Ideal S512 .f32 := multiReduction .add [1] S512 v81 0x00000000#32 reduces_S512x1_S512 (.inl rfl) rfl
  let v83 : FVec Ideal S512x1 .f32 := shapeCast S512x1 v82 shapeCasts_S512_S512x1
  let v84 := broadcastTo S512x1024 v83 broadcasts_S512x1_S512x1024
  addf (addf v78 (mulf v15 v84)) (mulf v84 v15)

/-- The mean's share of a row. -/
def dmean (v88 : FVec Ideal S512x1024 .f32) : FVec Ideal S512x1 .f32 :=
  let v90 := subf (broadcast S512x1024 (Scalar.ofBits .f32 0x00000000#32)) v88
  let v91 : FVec Ideal S512 .f32 := multiReduction .add [1] S512 v90 0x00000000#32 reduces_S512x1024_S512 (.inl rfl) rfl
  let v92 : FVec Ideal S512x1 .f32 := shapeCast S512x1 v91 shapeCasts_S512_S512x1
  let v94 := divf v92 (broadcast S512x1 (Scalar.ofBits .f32 0x44800000#32))
  let v95 : FVec Ideal S512 .f32 := multiReduction .add [1] S512 v94 0x00000000#32 reduces_S512x1_S512 (.inl rfl) rfl
  shapeCast S512x1 v95 shapeCasts_S512_S512x1

theorem pay19_eq (v8 : Vec Ideal S1x1024 .f32) (v15 : FVec Ideal S512x1024 .f32) (v23 v26 : FVec Ideal S512x1 .f32)
    (v66 : FVec Ideal S512x1024 .f32) : k0_pay19 v8 v15 v23 v26 v66
      = addf (dq v8 v15 v23 v26 v66) (broadcastTo S512x1024 (dmean (dq v8 v15 v23 v26 v66)) broadcasts_S512x1_S512x1024) := rfl

theorem dq_at (h : Row x s u p X S U P r R) (l : Fin 1024) :
    dq G (k0_pay6 x s) (k0_pay8 x s) (k0_pay9 x s) (k0_pay16 (k0_pay12 x s G B Wg) p Wp u Wg) (ix2 r l) = val_main_v72 (F := Ideal) X S P Wg Wp G B U (ix2 R l) := by
  pointwise [dq, val_main_v72, val_main_v71, val_main_v70, val_main_v69, val_main_v68, val_main_v67, val_main_v66,
    val_main_v65, val_main_v64, val_main_v63, val_main_v62, val_main_v61, val_main_v60, val_main_v59, val_main_v13,
    val_main_v12, val_main_cst_2, val_main_cst_12, val_main_cst_13, val_main_cst_14]
  simp only [dxn_at h, dev_at h, rs_at h, slope_at h _ 0]
  rw [two_split]
  simp only [Subsingleton.elim _ (0 : Fin 1)]

theorem dmean_at (h : Row x s u p X S U P r R) :
    dmean (dq G (k0_pay6 x s) (k0_pay8 x s) (k0_pay9 x s) (k0_pay16 (k0_pay12 x s G B Wg) p Wp u Wg)) (ix2 r 0)
      = val_main_v78 (F := Ideal) X S P Wg Wp G B U (ix1 R) := by
  pointwise [dmean, val_main_v78, val_main_v77, val_main_v76, val_main_v75, val_main_v74, val_main_v73,
    val_main_cst_15, val_main_cst_16, val_main_cst_17]
  simp only [dq_at h, zero_sub]

/-- The gradient of the block's input. -/
theorem dpre_at (h : Row x s u p X S U P r R) (l : Fin 1024) :
    k0_pay19 G (k0_pay6 x s) (k0_pay8 x s) (k0_pay9 x s) (k0_pay16 (k0_pay12 x s G B Wg) p Wp u Wg) (ix2 r l)
      = val_main_v80 (F := Ideal) X S P Wg Wp G B U (ix2 R l) := by
  rw [pay19_eq]
  pointwise [val_main_v80, val_main_v79]
  simp only [dq_at h, dmean_at h]

/-! ## What one block adds to the accumulated results -/

variable {ro : Fin 512 → Fin 4096}

theorem dwg_add (h : ∀ r, Row x s u p X S U P r (ro r)) (acc : Vec Ideal S1024x1024 .f32) (k n : Fin 1024) :
    k0_pay14 (k0_pay11 x s G B) (k0_pay12 x s G B Wg) p Wp u acc (ix2 k n)
      = acc (ix2 k n) + ∑ r : Fin 512, val_main_v29 (F := Ideal) X S G B (ix2 (ro r) k) * val_main_v49 (F := Ideal) X S P Wg Wp G B U (ix2 (ro r) n) := by
  pointwise [k0_pay14]
  simp only [xn_at (h _), dlog_at (h _)]

theorem dwpl_add (h : ∀ r, Row x s u p X S U P r (ro r)) (acc : Vec Ideal S256x1024 .f32) (k : Fin 256) (n : Fin 1024) :
    k0_pay15 (k0_pay12 x s G B Wg) u acc p (ix2 k n)
      = acc (ix2 k n) + ∑ r : Fin 512, P (ix2 (ro r) k) * val_main_v46 (F := Ideal) X S Wg G B U (ix2 (ro r) n) := by
  pointwise [k0_pay15, val_main_v46, val_main_v44]
  simp only [(h _).hp, (h _).hu, gate_at (h _)]

theorem db_add (h : ∀ r, Row x s u p X S U P r (ro r)) (acc : Vec Ideal S1x1024 .f32) (z : Fin 1) (n : Fin 1024) :
    k0_pay22 (k0_pay17 (k0_pay12 x s G B Wg) p Wp u Wg) acc (ix2 z n)
      = acc (ix2 z n) + ∑ r : Fin 512, val_main_v53 (F := Ideal) X S P Wg Wp G B U (ix2 (ro r) n) := by
  pointwise [k0_pay22, k0_pay17]
  simp only [dxn_at (h _)]

theorem dg_add (h : ∀ r, Row x s u p X S U P r (ro r)) (acc : Vec Ideal S1x1024 .f32) (z : Fin 1) (n : Fin 1024) :
    k0_pay21 (k0_pay18 (k0_pay10 x s) (k0_pay12 x s G B Wg) p Wp u Wg) acc (ix2 z n)
      = acc (ix2 z n) + ∑ r : Fin 512, val_main_v25 (F := Ideal) X S (ix2 (ro r) n) * val_main_v53 (F := Ideal) X S P Wg Wp G B U (ix2 (ro r) n) := by
  pointwise [k0_pay21, k0_pay18]
  simp only [dxn_at (h _), unit_at (h _)]

/-! ## The reference's accumulated results -/

theorem dwg_ref (k n : Fin 1024) :
    val_main_v51 (F := Ideal) X S P Wg Wp G B U (ix2 k n)
      = ∑ R : Fin 4096, val_main_v29 (F := Ideal) X S G B (ix2 R k) * val_main_v49 (F := Ideal) X S P Wg Wp G B U (ix2 R n) := by
  pointwise [val_main_v51, val_main_v50]
  simp only [mul_comm]

theorem dwpl_ref (k : Fin 256) (n : Fin 1024) :
    val_main_v48 (F := Ideal) X S P Wg G B U (ix2 k n)
      = ∑ R : Fin 4096, P (ix2 R k) * val_main_v46 (F := Ideal) X S Wg G B U (ix2 R n) := by
  pointwise [val_main_v48, val_main_v47]
  simp only [mul_comm]

theorem db_ref (z : Fin 1) (n : Fin 1024) :
    val_main_v55 (F := Ideal) X S P Wg Wp G B U (ix2 z n) = ∑ R : Fin 4096, val_main_v53 (F := Ideal) X S P Wg Wp G B U (ix2 R n) := by
  pointwise [val_main_v55, val_main_v54, val_main_cst_10]

theorem dg_ref (z : Fin 1) (n : Fin 1024) :
    val_main_v58 (F := Ideal) X S P Wg Wp G B U (ix2 z n)
      = ∑ R : Fin 4096, val_main_v25 (F := Ideal) X S (ix2 R n) * val_main_v53 (F := Ideal) X S P Wg Wp G B U (ix2 R n) := by
  pointwise [val_main_v58, val_main_v57, val_main_v56, val_main_cst_11]

/-! ## The whole arrays -/

variable (m : (ℓ : Loc nD τ sig) → Buf (Elt Ideal) ℓ) (ρ : Dev nD → PrngReg) (c : Dev nD)

abbrev aX : Vec Ideal S4096x1024 .f32 := m ((c : Thread nD τ).loc main_arg0)
abbrev aS : Vec Ideal S4096x1024 .f32 := m ((c : Thread nD τ).loc main_arg1)
abbrev aP : Vec Ideal S4096x256 .f32 := m ((c : Thread nD τ).loc main_arg2)
abbrev aWg : Vec Ideal S1024x1024 .bf16 := m ((c : Thread nD τ).loc main_arg3)
abbrev aWp : Vec Ideal S256x1024 .bf16 := m ((c : Thread nD τ).loc main_arg4)
abbrev aG : Vec Ideal S1x1024 .f32 := m ((c : Thread nD τ).loc main_arg5)
abbrev aB : Vec Ideal S1x1024 .f32 := m ((c : Thread nD τ).loc main_arg6)
abbrev aU : Vec Ideal S4096x1024 .f32 := m ((c : Thread nD τ).loc main_arg7)

/-- Every input window's block index at every point (decided). -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_14.index t = ![t.val, 0] :=
  (by decide +kernel : ∀ t : Fin grid0.N, _)

/-- Row `r` of block `t`, as a row of the whole array. -/
abbrev rowOf (t : Fin cfg0.N) (r : Fin 512) : Fin 4096 :=
  ⟨t.val * 512 + r.val, by have := t.isLt; have hN : cfg0.N = 8 := N_0; omega⟩

theorem row_at (t : Fin cfg0.N) (r : Fin 512) :
    Row (iblk m c 0 t) (iblk m c 1 t) (iblk m c 7 t) (iblk m c 2 t) (aX m c) (aS m c) (aU m c) (aP m c) r (rowOf t r) where
  hx l := by blk_ext [iblk, V, idx t]
  hs l := by blk_ext [iblk, V, idx t]
  hu l := by blk_ext [iblk, V, idx t]
  hp l := by blk_ext [iblk, V, idx t]

theorem blk3 (t : Fin cfg0.N) : iblk m c 3 t = aWg m c := by blk_ext! [iblk, V, idx t]
theorem blk4 (t : Fin cfg0.N) : iblk m c 4 t = aWp m c := by blk_ext! [iblk, V, idx t]
theorem blk5 (t : Fin cfg0.N) : iblk m c 5 t = aG m c := by blk_ext! [iblk, V, idx t]
theorem blk6 (t : Fin cfg0.N) : iblk m c 6 t = aB m c := by blk_ext! [iblk, V, idx t]

theorem exists_ix2 {n k : ℕ} (j : (⟨2, ![n, k]⟩ : Shape).Idx) : ∃ a b, j = ix2 a b := ⟨_, _, eq_ix2 j⟩

theorem final8 : (dats m 0 c).arrAt 8 cfg0.N
    = val_main_v80 (F := Ideal) (aX m c) (aS m c) (aP m c) (aWg m c) (aWp m c) (aG m c) (aB m c) (aU m c) := by
  refine (dats m 0 c).arrAt_eq_of_covers 8 _ (by decide +kernel) fun t hf y => ?_
  have hy : (win0_8.blk t).view.emb y = ix2 (rowOf t (y 0)) (y 1) := by blk_ext [idx t]
  have hd := dpre_at (Wg := aWg m c) (Wp := aWp m c) (G := aG m c) (B := aB m c) (row_at m c t (y 0)) (y 1)
  rw [after0_8]
  by_cases h0 : t.val % 8 = 0
  · rw [outsAt0_A m c t h0]
    frame_out
    rw [blk3, blk4, blk5, blk6]
    exact (congrArg _ (eq_ix2 y)).trans (hd.trans (congrArg _ hy.symm))
  · rw [outsAt0_B m c t h0]
    frame_out
    rw [blk3, blk4, blk5, blk6]
    exact (congrArg _ (eq_ix2 y)).trans (hd.trans (congrArg _ hy.symm))

theorem final14 : (dats m 0 c).arrAt 14 cfg0.N
    = val_main_v81 (F := Ideal) (aX m c) (aS m c) (aP m c) (aWg m c) (aWp m c) (aG m c) (aB m c) (aU m c) := by
  refine (dats m 0 c).arrAt_eq_of_covers 14 _ (by decide +kernel) fun t hf y => ?_
  have hy : (win0_14.blk t).view.emb y = ix2 (rowOf t (y 0)) (y 1) := by blk_ext [idx t]
  have hd := dpre_at (Wg := aWg m c) (Wp := aWp m c) (G := aG m c) (B := aB m c) (row_at m c t (y 0)) (y 1)
  rw [after0_14]
  by_cases h0 : t.val % 8 = 0
  · rw [outsAt0_A m c t h0]
    frame_out
    rw [blk3, blk4, blk5, blk6]
    exact (congrArg _ (eq_ix2 y)).trans (hd.trans (congrArg _ hy.symm))
  · rw [outsAt0_B m c t h0]
    frame_out
    rw [blk3, blk4, blk5, blk6]
    exact (congrArg _ (eq_ix2 y)).trans (hd.trans (congrArg _ hy.symm))

/-- The eight blocks' sums are one sum over the rows. -/
theorem sum_rows (f : Fin 4096 → EReal) : ∑ t : Fin cfg0.N, ∑ r : Fin 512, f (rowOf t r) = ∑ R : Fin 4096, f R :=
  Fin.sum_mul_add_congr fun _ _ _ => rfl

theorem final9 : (dats m 0 c).arrAt 9 cfg0.N
    = val_main_v51 (F := Ideal) (aX m c) (aS m c) (aP m c) (aWg m c) (aWp m c) (aG m c) (aB m c) (aU m c) := by
  refine (dats m 0 c).arrAt_eq_of_after_last 9 t0_7 (by decide +kernel) _ fun j => ?_
  blk_simp
  rw [after0_9]
  rw [Pipeline.eq_sum_fin_of_reset_step_apply_last (fun n h => (outsAt0 m c n h).2.1) 8 (fun _ => 0)
    (fun t j => ∑ r : Fin 512, val_main_v29 (F := Ideal) (aX m c) (aS m c) (aG m c) (aB m c) (ix2 (rowOf t r) (j 0))
      * val_main_v49 (F := Ideal) (aX m c) (aS m c) (aP m c) (aWg m c) (aWp m c) (aG m c) (aB m c) (aU m c) (ix2 (rowOf t r) (j 1)))
    (fun t h j => by
      rw [outsAt0_A m c t h]; frame_out; rw [blk3, blk4, blk5, blk6]
      obtain ⟨a, b, rfl⟩ := exists_ix2 j
      refine (dwg_add (row_at m c t) _ a b).trans (congrArg (fun z : EReal => z + _) ?_)
      pointwise [k0_pay1])
    (fun t h j => by
      rw [outsAt0_B m c t h]; frame_out; rw [blk3, blk4, blk5, blk6]
      obtain ⟨a, b, rfl⟩ := exists_ix2 j
      exact dwg_add (row_at m c t) _ a b) (le_of_eq N_0) t0_7 rfl j]
  refine (zero_add (M := EReal) _).trans (Eq.trans ?_ ((dwg_ref (j 0) (j 1)).symm.trans (congrArg _ (eq_ix2 j).symm)))
  exact sum_rows fun R => val_main_v29 (F := Ideal) (aX m c) (aS m c) (aG m c) (aB m c) (ix2 R (j 0))
    * val_main_v49 (F := Ideal) (aX m c) (aS m c) (aP m c) (aWg m c) (aWp m c) (aG m c) (aB m c) (aU m c) (ix2 R (j 1))

theorem final10 : (dats m 0 c).arrAt 10 cfg0.N
    = val_main_v48 (F := Ideal) (aX m c) (aS m c) (aP m c) (aWg m c) (aG m c) (aB m c) (aU m c) := by
  refine (dats m 0 c).arrAt_eq_of_after_last 10 t0_7 (by decide +kernel) _ fun j => ?_
  blk_simp
  rw [after0_10]
  rw [Pipeline.eq_sum_fin_of_reset_step_apply_last (fun n h => (outsAt0 m c n h).2.2.1) 8 (fun _ => 0)
    (fun t j => ∑ r : Fin 512, aP m c (ix2 (rowOf t r) (j 0))
      * val_main_v46 (F := Ideal) (aX m c) (aS m c) (aWg m c) (aG m c) (aB m c) (aU m c) (ix2 (rowOf t r) (j 1)))
    (fun t h j => by
      rw [outsAt0_A m c t h]; frame_out; rw [blk3, blk5, blk6]
      obtain ⟨a, b, rfl⟩ := exists_ix2 j
      refine (dwpl_add (row_at m c t) _ a b).trans (congrArg (fun z : EReal => z + _) ?_)
      pointwise [k0_pay2])
    (fun t h j => by
      rw [outsAt0_B m c t h]; frame_out; rw [blk3, blk5, blk6]
      obtain ⟨a, b, rfl⟩ := exists_ix2 j
      exact dwpl_add (row_at m c t) _ a b) (le_of_eq N_0) t0_7 rfl j]
  refine (zero_add (M := EReal) _).trans (Eq.trans ?_ ((dwpl_ref (j 0) (j 1)).symm.trans (congrArg _ (eq_ix2 j).symm)))
  exact sum_rows fun R => aP m c (ix2 R (j 0))
    * val_main_v46 (F := Ideal) (aX m c) (aS m c) (aWg m c) (aG m c) (aB m c) (aU m c) (ix2 R (j 1))

theorem final11 : (dats m 0 c).arrAt 11 cfg0.N
    = val_main_v58 (F := Ideal) (aX m c) (aS m c) (aP m c) (aWg m c) (aWp m c) (aG m c) (aB m c) (aU m c) := by
  refine (dats m 0 c).arrAt_eq_of_after_last 11 t0_7 (by decide +kernel) _ fun j => ?_
  blk_simp
  rw [after0_11]
  rw [Pipeline.eq_sum_fin_of_reset_step_apply_last (fun n h => (outsAt0 m c n h).2.2.2.1) 8 (fun _ => 0)
    (fun t j => ∑ r : Fin 512, val_main_v25 (F := Ideal) (aX m c) (aS m c) (ix2 (rowOf t r) (j 1))
      * val_main_v53 (F := Ideal) (aX m c) (aS m c) (aP m c) (aWg m c) (aWp m c) (aG m c) (aB m c) (aU m c) (ix2 (rowOf t r) (j 1)))
    (fun t h j => by
      rw [outsAt0_A m c t h]; frame_out; rw [blk3, blk4, blk5, blk6]
      obtain ⟨a, b, rfl⟩ := exists_ix2 j
      refine (dg_add (row_at m c t) _ a b).trans (congrArg (fun z : EReal => z + _) ?_)
      pointwise [k0_pay3])
    (fun t h j => by
      rw [outsAt0_B m c t h]; frame_out; rw [blk3, blk4, blk5, blk6]
      obtain ⟨a, b, rfl⟩ := exists_ix2 j
      exact dg_add (row_at m c t) _ a b) (le_of_eq N_0) t0_7 rfl j]
  refine (zero_add (M := EReal) _).trans (Eq.trans ?_ ((dg_ref (j 0) (j 1)).symm.trans (congrArg _ (eq_ix2 j).symm)))
  exact sum_rows fun R => val_main_v25 (F := Ideal) (aX m c) (aS m c) (ix2 R (j 1))
    * val_main_v53 (F := Ideal) (aX m c) (aS m c) (aP m c) (aWg m c) (aWp m c) (aG m c) (aB m c) (aU m c) (ix2 R (j 1))

theorem final12 : (dats m 0 c).arrAt 12 cfg0.N
    = val_main_v55 (F := Ideal) (aX m c) (aS m c) (aP m c) (aWg m c) (aWp m c) (aG m c) (aB m c) (aU m c) := by
  refine (dats m 0 c).arrAt_eq_of_after_last 12 t0_7 (by decide +kernel) _ fun j => ?_
  blk_simp
  rw [after0_12]
  rw [Pipeline.eq_sum_fin_of_reset_step_apply_last (fun n h => (outsAt0 m c n h).2.2.2.2.1) 8 (fun _ => 0)
    (fun t j => ∑ r : Fin 512, val_main_v53 (F := Ideal) (aX m c) (aS m c) (aP m c) (aWg m c) (aWp m c) (aG m c) (aB m c) (aU m c) (ix2 (rowOf t r) (j 1)))
    (fun t h j => by
      rw [outsAt0_A m c t h]; frame_out; rw [blk3, blk4, blk5, blk6]
      obtain ⟨a, b, rfl⟩ := exists_ix2 j
      refine (db_add (row_at m c t) _ a b).trans (congrArg (fun z : EReal => z + _) ?_)
      pointwise [k0_pay4])
    (fun t h j => by
      rw [outsAt0_B m c t h]; frame_out; rw [blk3, blk4, blk5, blk6]
      obtain ⟨a, b, rfl⟩ := exists_ix2 j
      exact db_add (row_at m c t) _ a b) (le_of_eq N_0) t0_7 rfl j]
  refine (zero_add (M := EReal) _).trans (Eq.trans ?_ ((db_ref (j 0) (j 1)).symm.trans (congrArg _ (eq_ix2 j).symm)))
  exact sum_rows fun R => val_main_v53 (F := Ideal) (aX m c) (aS m c) (aP m c) (aWg m c) (aWp m c) (aG m c) (aB m c) (aU m c) (ix2 R (j 1))

end Cert.EvenLnplIdeal.RefValue

namespace Cert.Proof.EvenLnpl

set_option maxHeartbeats 1000000 in
/-- At `Ideal` the kernel's six result arrays and the reference's agree. -/
theorem algebraic : Cert.algebraic_EvenLnplIdeal_EvenLnplRefIdeal := by
  pair_intro
  · run_from Cert.EvenLnplIdeal.Value.run_blocks m g
  · run_from Cert.EvenLnplRefIdeal.Value.run m' g'
    all_goals
      obtain ⟨h0, h1, h2, h3, h4, h5, h6, h7⟩ := hagree c
    · rw [Cert.EvenLnplIdeal.RefValue.final8 m c, Cert.EvenLnplRefIdeal.Read.val_main_v80_eq m' c, h0, h1, h2, h3, h4, h5, h6, h7]
    · rw [Cert.EvenLnplIdeal.RefValue.final9 m c, Cert.EvenLnplRefIdeal.Read.val_main_v51_eq m' c, h0, h1, h2, h3, h4, h5, h6, h7]
    · refine (Cert.EvenLnplRefIdeal.Read.val_main_v48_eq _ _ _ _ _ _ _).trans ?_
      rw [Cert.EvenLnplIdeal.RefValue.final10 m c]
    · rw [Cert.EvenLnplIdeal.RefValue.final11 m c, Cert.EvenLnplRefIdeal.Read.val_main_v58_eq m' c, h0, h1, h2, h3, h4, h5, h6, h7]
    · rw [Cert.EvenLnplIdeal.RefValue.final12 m c, Cert.EvenLnplRefIdeal.Read.val_main_v55_eq m' c, h0, h1, h2, h3, h4, h5, h6, h7]
    · rw [Cert.EvenLnplIdeal.RefValue.final14 m c, Cert.EvenLnplRefIdeal.Read.val_main_v81_eq m' c, h0, h1, h2, h3, h4, h5, h6, h7]

end Cert.Proof.EvenLnpl
end
-- ==== Proof.lean ====
module

public import proofs.«01_k».proof.Proof.Gen.ReferenceIdeal.Read
public import proofs.«01_k».proof.Proof.Gen.ReferenceIdeal.Run
public import proofs.«01_k».proof.Proof.Gen.KernelIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.LnplFinal
public import proofs.«01_k».proof.Proof.Gen.OddDw
public import proofs.«01_k».proof.Proof.Gen.OddDw.Skeleton
public import proofs.«01_k».proof.Proof.Gen.OddDw.Launch
public import proofs.«01_k».proof.Proof.Gen.OddDw.Points
public import proofs.«01_k».proof.Proof.Gen.OddDw.Frame
public import proofs.«01_k».proof.Proof.Gen.OddDwIdeal
public import proofs.«01_k».proof.Proof.Gen.OddDwIdeal.Skeleton
public import proofs.«01_k».proof.Proof.Gen.OddDwIdeal.Launch
public import proofs.«01_k».proof.Proof.Gen.OddDwIdeal.Points
public import proofs.«01_k».proof.Proof.Gen.OddDwIdeal.Frame
public import proofs.«01_k».proof.Proof.Gen.OddDwIdeal.Value
public import proofs.«01_k».proof.Proof.Gen.OddDwRefIdeal
public import proofs.«01_k».proof.Proof.Gen.OddDwRefIdeal.Run
public import proofs.«01_k».proof.Proof.Gen.OddDwRefIdeal.Read
public import proofs.«01_k».proof.Proof.Gen.OddDxFirst
public import proofs.«01_k».proof.Proof.Gen.OddDxFirst.Skeleton
public import proofs.«01_k».proof.Proof.Gen.OddDxFirst.Launch
public import proofs.«01_k».proof.Proof.Gen.OddDxFirst.Points
public import proofs.«01_k».proof.Proof.Gen.OddDxFirst.Frame
public import proofs.«01_k».proof.Proof.Gen.OddDxFirstIdeal
public import proofs.«01_k».proof.Proof.Gen.OddDxFirstIdeal.Skeleton
public import proofs.«01_k».proof.Proof.Gen.OddDxFirstIdeal.Launch
public import proofs.«01_k».proof.Proof.Gen.OddDxFirstIdeal.Points
public import proofs.«01_k».proof.Proof.Gen.OddDxFirstIdeal.Frame
public import proofs.«01_k».proof.Proof.Gen.OddDxFirstIdeal.Value
public import proofs.«01_k».proof.Proof.Gen.OddDxFirstRefIdeal
public import proofs.«01_k».proof.Proof.Gen.OddDxFirstRefIdeal.Run
public import proofs.«01_k».proof.Proof.Gen.OddDxFirstRefIdeal.Read
public import proofs.«01_k».proof.Proof.Gen.OddDx
public import proofs.«01_k».proof.Proof.Gen.OddDx.Skeleton
public import proofs.«01_k».proof.Proof.Gen.OddDx.Launch
public import proofs.«01_k».proof.Proof.Gen.OddDx.Points
public import proofs.«01_k».proof.Proof.Gen.OddDx.Frame
public import proofs.«01_k».proof.Proof.Gen.OddDxIdeal
public import proofs.«01_k».proof.Proof.Gen.OddDxIdeal.Skeleton
public import proofs.«01_k».proof.Proof.Gen.OddDxIdeal.Launch
public import proofs.«01_k».proof.Proof.Gen.OddDxIdeal.Points
public import proofs.«01_k».proof.Proof.Gen.OddDxIdeal.Frame
public import proofs.«01_k».proof.Proof.Gen.OddDxIdeal.Value
public import proofs.«01_k».proof.Proof.Gen.OddDxRefIdeal
public import proofs.«01_k».proof.Proof.Gen.OddDxRefIdeal.Run
public import proofs.«01_k».proof.Proof.Gen.OddDxRefIdeal.Read
public import proofs.«01_k».proof.Proof.Gen.OddOutDx
public import proofs.«01_k».proof.Proof.Gen.OddOutDx.Skeleton
public import proofs.«01_k».proof.Proof.Gen.OddOutDx.Launch
public import proofs.«01_k».proof.Proof.Gen.OddOutDx.Points
public import proofs.«01_k».proof.Proof.Gen.OddOutDx.Frame
public import proofs.«01_k».proof.Proof.Gen.OddOutDxIdeal
public import proofs.«01_k».proof.Proof.Gen.OddOutDxIdeal.Skeleton
public import proofs.«01_k».proof.Proof.Gen.OddOutDxIdeal.Launch
public import proofs.«01_k».proof.Proof.Gen.OddOutDxIdeal.Points
public import proofs.«01_k».proof.Proof.Gen.OddOutDxIdeal.Frame
public import proofs.«01_k».proof.Proof.Gen.OddOutDxIdeal.Value
public import proofs.«01_k».proof.Proof.Gen.OddOutDxRefIdeal
public import proofs.«01_k».proof.Proof.Gen.OddOutDxRefIdeal.Run
public import proofs.«01_k».proof.Proof.Gen.OddOutDxRefIdeal.Read
public import proofs.«01_k».proof.Proof.Gen.OddOutDw
public import proofs.«01_k».proof.Proof.Gen.OddOutDw.Skeleton
public import proofs.«01_k».proof.Proof.Gen.OddOutDw.Launch
public import proofs.«01_k».proof.Proof.Gen.OddOutDw.Points
public import proofs.«01_k».proof.Proof.Gen.OddOutDw.Frame
public import proofs.«01_k».proof.Proof.Gen.OddOutDwIdeal
public import proofs.«01_k».proof.Proof.Gen.OddOutDwIdeal.Skeleton
public import proofs.«01_k».proof.Proof.Gen.OddOutDwIdeal.Launch
public import proofs.«01_k».proof.Proof.Gen.OddOutDwIdeal.Points
public import proofs.«01_k».proof.Proof.Gen.OddOutDwIdeal.Frame
public import proofs.«01_k».proof.Proof.Gen.OddOutDwIdeal.Value
public import proofs.«01_k».proof.Proof.Gen.OddOutDwRefIdeal
public import proofs.«01_k».proof.Proof.Gen.OddOutDwRefIdeal.Run
public import proofs.«01_k».proof.Proof.Gen.OddOutDwRefIdeal.Read
public import proofs.«01_k».proof.Proof.Gen.EvenDwA
public import proofs.«01_k».proof.Proof.Gen.EvenDwA.Skeleton
public import proofs.«01_k».proof.Proof.Gen.EvenDwA.Launch
public import proofs.«01_k».proof.Proof.Gen.EvenDwA.Points
public import proofs.«01_k».proof.Proof.Gen.EvenDwA.Frame
public import proofs.«01_k».proof.Proof.Gen.EvenDwAIdeal
public import proofs.«01_k».proof.Proof.Gen.EvenDwAIdeal.Skeleton
public import proofs.«01_k».proof.Proof.Gen.EvenDwAIdeal.Launch
public import proofs.«01_k».proof.Proof.Gen.EvenDwAIdeal.Points
public import proofs.«01_k».proof.Proof.Gen.EvenDwAIdeal.Frame
public import proofs.«01_k».proof.Proof.Gen.EvenDwAIdeal.Value
public import proofs.«01_k».proof.Proof.Gen.EvenDwARefIdeal
public import proofs.«01_k».proof.Proof.Gen.EvenDwARefIdeal.Run
public import proofs.«01_k».proof.Proof.Gen.EvenDwARefIdeal.Read
public import proofs.«01_k».proof.Proof.Gen.EvenDw
public import proofs.«01_k».proof.Proof.Gen.EvenDw.Skeleton
public import proofs.«01_k».proof.Proof.Gen.EvenDw.Launch
public import proofs.«01_k».proof.Proof.Gen.EvenDw.Points
public import proofs.«01_k».proof.Proof.Gen.EvenDw.Frame
public import proofs.«01_k».proof.Proof.Gen.EvenDwIdeal
public import proofs.«01_k».proof.Proof.Gen.EvenDwIdeal.Skeleton
public import proofs.«01_k».proof.Proof.Gen.EvenDwIdeal.Launch
public import proofs.«01_k».proof.Proof.Gen.EvenDwIdeal.Points
public import proofs.«01_k».proof.Proof.Gen.EvenDwIdeal.Frame
public import proofs.«01_k».proof.Proof.Gen.EvenDwIdeal.Value
public import proofs.«01_k».proof.Proof.Gen.EvenDwRefIdeal
public import proofs.«01_k».proof.Proof.Gen.EvenDwRefIdeal.Run
public import proofs.«01_k».proof.Proof.Gen.EvenDwRefIdeal.Read
public import proofs.«01_k».proof.Proof.Gen.EvenDwTail
public import proofs.«01_k».proof.Proof.Gen.EvenDwTail.Skeleton
public import proofs.«01_k».proof.Proof.Gen.EvenDwTail.Launch
public import proofs.«01_k».proof.Proof.Gen.EvenDwTail.Points
public import proofs.«01_k».proof.Proof.Gen.EvenDwTail.Frame
public import proofs.«01_k».proof.Proof.Gen.EvenDwTailIdeal
public import proofs.«01_k».proof.Proof.Gen.EvenDwTailIdeal.Skeleton
public import proofs.«01_k».proof.Proof.Gen.EvenDwTailIdeal.Launch
public import proofs.«01_k».proof.Proof.Gen.EvenDwTailIdeal.Points
public import proofs.«01_k».proof.Proof.Gen.EvenDwTailIdeal.Frame
public import proofs.«01_k».proof.Proof.Gen.EvenDwTailIdeal.Value
public import proofs.«01_k».proof.Proof.Gen.EvenDwTailRefIdeal
public import proofs.«01_k».proof.Proof.Gen.EvenDwTailRefIdeal.Run
public import proofs.«01_k».proof.Proof.Gen.EvenDwTailRefIdeal.Read
public import proofs.«01_k».proof.Proof.Gen.EvenDxFirst
public import proofs.«01_k».proof.Proof.Gen.EvenDxFirst.Skeleton
public import proofs.«01_k».proof.Proof.Gen.EvenDxFirst.Launch
public import proofs.«01_k».proof.Proof.Gen.EvenDxFirst.Points
public import proofs.«01_k».proof.Proof.Gen.EvenDxFirst.Frame
public import proofs.«01_k».proof.Proof.Gen.EvenDxFirstIdeal
public import proofs.«01_k».proof.Proof.Gen.EvenDxFirstIdeal.Skeleton
public import proofs.«01_k».proof.Proof.Gen.EvenDxFirstIdeal.Launch
public import proofs.«01_k».proof.Proof.Gen.EvenDxFirstIdeal.Points
public import proofs.«01_k».proof.Proof.Gen.EvenDxFirstIdeal.Frame
public import proofs.«01_k».proof.Proof.Gen.EvenDxFirstIdeal.Value
public import proofs.«01_k».proof.Proof.Gen.EvenDxFirstRefIdeal
public import proofs.«01_k».proof.Proof.Gen.EvenDxFirstRefIdeal.Run
public import proofs.«01_k».proof.Proof.Gen.EvenDxFirstRefIdeal.Read
public import proofs.«01_k».proof.Proof.Gen.EvenDx
public import proofs.«01_k».proof.Proof.Gen.EvenDx.Skeleton
public import proofs.«01_k».proof.Proof.Gen.EvenDx.Launch
public import proofs.«01_k».proof.Proof.Gen.EvenDx.Points
public import proofs.«01_k».proof.Proof.Gen.EvenDx.Frame
public import proofs.«01_k».proof.Proof.Gen.EvenDxIdeal
public import proofs.«01_k».proof.Proof.Gen.EvenDxIdeal.Skeleton
public import proofs.«01_k».proof.Proof.Gen.EvenDxIdeal.Launch
public import proofs.«01_k».proof.Proof.Gen.EvenDxIdeal.Points
public import proofs.«01_k».proof.Proof.Gen.EvenDxIdeal.Frame
public import proofs.«01_k».proof.Proof.Gen.EvenDxIdeal.Value
public import proofs.«01_k».proof.Proof.Gen.EvenDxRefIdeal
public import proofs.«01_k».proof.Proof.Gen.EvenDxRefIdeal.Run
public import proofs.«01_k».proof.Proof.Gen.EvenDxRefIdeal.Read
public import proofs.«01_k».proof.Proof.Gen.EvenDxTail
public import proofs.«01_k».proof.Proof.Gen.EvenDxTail.Skeleton
public import proofs.«01_k».proof.Proof.Gen.EvenDxTail.Launch
public import proofs.«01_k».proof.Proof.Gen.EvenDxTail.Points
public import proofs.«01_k».proof.Proof.Gen.EvenDxTail.Frame
public import proofs.«01_k».proof.Proof.Gen.EvenDxTailIdeal
public import proofs.«01_k».proof.Proof.Gen.EvenDxTailIdeal.Skeleton
public import proofs.«01_k».proof.Proof.Gen.EvenDxTailIdeal.Launch
public import proofs.«01_k».proof.Proof.Gen.EvenDxTailIdeal.Points
public import proofs.«01_k».proof.Proof.Gen.EvenDxTailIdeal.Frame
public import proofs.«01_k».proof.Proof.Gen.EvenDxTailIdeal.Value
public import proofs.«01_k».proof.Proof.Gen.EvenDxTailRefIdeal
public import proofs.«01_k».proof.Proof.Gen.EvenDxTailRefIdeal.Run
public import proofs.«01_k».proof.Proof.Gen.EvenDxTailRefIdeal.Read
public import proofs.«01_k».proof.Proof.Gen.EvenOutDx
public import proofs.«01_k».proof.Proof.Gen.EvenOutDx.Skeleton
public import proofs.«01_k».proof.Proof.Gen.EvenOutDx.Launch
public import proofs.«01_k».proof.Proof.Gen.EvenOutDx.Points
public import proofs.«01_k».proof.Proof.Gen.EvenOutDx.Frame
public import proofs.«01_k».proof.Proof.Gen.EvenOutDxIdeal
public import proofs.«01_k».proof.Proof.Gen.EvenOutDxIdeal.Skeleton
public import proofs.«01_k».proof.Proof.Gen.EvenOutDxIdeal.Launch
public import proofs.«01_k».proof.Proof.Gen.EvenOutDxIdeal.Points
public import proofs.«01_k».proof.Proof.Gen.EvenOutDxIdeal.Frame
public import proofs.«01_k».proof.Proof.Gen.EvenOutDxIdeal.Value
public import proofs.«01_k».proof.Proof.Gen.EvenOutDxRefIdeal
public import proofs.«01_k».proof.Proof.Gen.EvenOutDxRefIdeal.Run
public import proofs.«01_k».proof.Proof.Gen.EvenOutDxRefIdeal.Read
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInIdeal.Value
public import proofs.«01_k».proof.Proof.Gen.OddInRefIdeal
public import proofs.«01_k».proof.Proof.Gen.OddInRefIdeal.Run
public import proofs.«01_k».proof.Proof.Gen.OddInRefIdeal.Read
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutIdeal.Value
public import proofs.«01_k».proof.Proof.Gen.OddOutRefIdeal
public import proofs.«01_k».proof.Proof.Gen.OddOutRefIdeal.Run
public import proofs.«01_k».proof.Proof.Gen.OddOutRefIdeal.Read
public import proofs.«01_k».proof.Proof.Gen.EvenInA
public import proofs.«01_k».proof.Proof.Gen.EvenInA.Skeleton
public import proofs.«01_k».proof.Proof.Gen.EvenInA.Launch
public import proofs.«01_k».proof.Proof.Gen.EvenInA.Points
public import proofs.«01_k».proof.Proof.Gen.EvenInA.Frame
public import proofs.«01_k».proof.Proof.Gen.EvenInAIdeal
public import proofs.«01_k».proof.Proof.Gen.EvenInAIdeal.Skeleton
public import proofs.«01_k».proof.Proof.Gen.EvenInAIdeal.Launch
public import proofs.«01_k».proof.Proof.Gen.EvenInAIdeal.Points
public import proofs.«01_k».proof.Proof.Gen.EvenInAIdeal.Frame
public import proofs.«01_k».proof.Proof.Gen.EvenInAIdeal.Value
public import proofs.«01_k».proof.Proof.Gen.EvenInARefIdeal
public import proofs.«01_k».proof.Proof.Gen.EvenInARefIdeal.Run
public import proofs.«01_k».proof.Proof.Gen.EvenInARefIdeal.Read
public import proofs.«01_k».proof.Proof.Gen.EvenInQkv
public import proofs.«01_k».proof.Proof.Gen.EvenInQkv.Skeleton
public import proofs.«01_k».proof.Proof.Gen.EvenInQkv.Launch
public import proofs.«01_k».proof.Proof.Gen.EvenInQkv.Points
public import proofs.«01_k».proof.Proof.Gen.EvenInQkv.Frame
public import proofs.«01_k».proof.Proof.Gen.EvenInQkvIdeal
public import proofs.«01_k».proof.Proof.Gen.EvenInQkvIdeal.Skeleton
public import proofs.«01_k».proof.Proof.Gen.EvenInQkvIdeal.Launch
public import proofs.«01_k».proof.Proof.Gen.EvenInQkvIdeal.Points
public import proofs.«01_k».proof.Proof.Gen.EvenInQkvIdeal.Frame
public import proofs.«01_k».proof.Proof.Gen.EvenInQkvIdeal.Value
public import proofs.«01_k».proof.Proof.Gen.EvenInQkvRefIdeal
public import proofs.«01_k».proof.Proof.Gen.EvenInQkvRefIdeal.Run
public import proofs.«01_k».proof.Proof.Gen.EvenInQkvRefIdeal.Read
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInIdeal.Value
public import proofs.«01_k».proof.Proof.Gen.EvenInRefIdeal
public import proofs.«01_k».proof.Proof.Gen.EvenInRefIdeal.Run
public import proofs.«01_k».proof.Proof.Gen.EvenInRefIdeal.Read
public import proofs.«01_k».proof.Proof.Gen.EvenInTail
public import proofs.«01_k».proof.Proof.Gen.EvenInTail.Skeleton
public import proofs.«01_k».proof.Proof.Gen.EvenInTail.Launch
public import proofs.«01_k».proof.Proof.Gen.EvenInTail.Points
public import proofs.«01_k».proof.Proof.Gen.EvenInTail.Frame
public import proofs.«01_k».proof.Proof.Gen.EvenInTailIdeal
public import proofs.«01_k».proof.Proof.Gen.EvenInTailIdeal.Skeleton
public import proofs.«01_k».proof.Proof.Gen.EvenInTailIdeal.Launch
public import proofs.«01_k».proof.Proof.Gen.EvenInTailIdeal.Points
public import proofs.«01_k».proof.Proof.Gen.EvenInTailIdeal.Frame
public import proofs.«01_k».proof.Proof.Gen.EvenInTailIdeal.Value
public import proofs.«01_k».proof.Proof.Gen.EvenInTailRefIdeal
public import proofs.«01_k».proof.Proof.Gen.EvenInTailRefIdeal.Run
public import proofs.«01_k».proof.Proof.Gen.EvenInTailRefIdeal.Read
public import proofs.«01_k».proof.Proof.Gen.EvenOutB
public import proofs.«01_k».proof.Proof.Gen.EvenOutB.Skeleton
public import proofs.«01_k».proof.Proof.Gen.EvenOutB.Launch
public import proofs.«01_k».proof.Proof.Gen.EvenOutB.Points
public import proofs.«01_k».proof.Proof.Gen.EvenOutB.Frame
public import proofs.«01_k».proof.Proof.Gen.EvenOutBIdeal
public import proofs.«01_k».proof.Proof.Gen.EvenOutBIdeal.Skeleton
public import proofs.«01_k».proof.Proof.Gen.EvenOutBIdeal.Launch
public import proofs.«01_k».proof.Proof.Gen.EvenOutBIdeal.Points
public import proofs.«01_k».proof.Proof.Gen.EvenOutBIdeal.Frame
public import proofs.«01_k».proof.Proof.Gen.EvenOutBIdeal.Value
public import proofs.«01_k».proof.Proof.Gen.EvenOutBRefIdeal
public import proofs.«01_k».proof.Proof.Gen.EvenOutBRefIdeal.Run
public import proofs.«01_k».proof.Proof.Gen.EvenOutBRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamInOdd
public import proofs.«01_k».proof.Proof.Gen.AdamInOdd.Skeleton
public import proofs.«01_k».proof.Proof.Gen.AdamInOdd.Launch
public import proofs.«01_k».proof.Proof.Gen.AdamInOdd.Points
public import proofs.«01_k».proof.Proof.Gen.AdamInOdd.Frame
public import proofs.«01_k».proof.Proof.Gen.AdamInOddIdeal
public import proofs.«01_k».proof.Proof.Gen.AdamInOddIdeal.Skeleton
public import proofs.«01_k».proof.Proof.Gen.AdamInOddIdeal.Launch
public import proofs.«01_k».proof.Proof.Gen.AdamInOddIdeal.Points
public import proofs.«01_k».proof.Proof.Gen.AdamInOddIdeal.Frame
public import proofs.«01_k».proof.Proof.Gen.AdamInOddIdeal.Value
public import proofs.«01_k».proof.Proof.Gen.AdamInOddRefIdeal
public import proofs.«01_k».proof.Proof.Gen.AdamInOddRefIdeal.Run
public import proofs.«01_k».proof.Proof.Gen.AdamInOddRefIdeal.Read
public import proofs.«01_k».proof.Proof.Gen.AdamPl
public import proofs.«01_k».proof.Proof.Gen.AdamPl.Skeleton
public import proofs.«01_k».proof.Proof.Gen.AdamPl.Launch
public import proofs.«01_k».proof.Proof.Gen.AdamPl.Points
public import proofs.«01_k».proof.Proof.Gen.AdamPl.Frame
public import proofs.«01_k».proof.Proof.Gen.AdamPlIdeal
public import proofs.«01_k».proof.Proof.Gen.AdamPlIdeal.Skeleton
public import proofs.«01_k».proof.Proof.Gen.AdamPlIdeal.Launch
public import proofs.«01_k».proof.Proof.Gen.AdamPlIdeal.Points
public import proofs.«01_k».proof.Proof.Gen.AdamPlIdeal.Frame
public import proofs.«01_k».proof.Proof.Gen.AdamPlIdeal.Value
public import proofs.«01_k».proof.Proof.Gen.AdamPlRefIdeal
public import proofs.«01_k».proof.Proof.Gen.AdamPlRefIdeal.Run
public import proofs.«01_k».proof.Proof.Gen.AdamPlRefIdeal.Read
public import proofs.«01_k».proof.Proof.Gen.AdamPlGate
public import proofs.«01_k».proof.Proof.Gen.AdamPlGate.Skeleton
public import proofs.«01_k».proof.Proof.Gen.AdamPlGate.Launch
public import proofs.«01_k».proof.Proof.Gen.AdamPlGate.Points
public import proofs.«01_k».proof.Proof.Gen.AdamPlGate.Frame
public import proofs.«01_k».proof.Proof.Gen.AdamPlGateIdeal
public import proofs.«01_k».proof.Proof.Gen.AdamPlGateIdeal.Skeleton
public import proofs.«01_k».proof.Proof.Gen.AdamPlGateIdeal.Launch
public import proofs.«01_k».proof.Proof.Gen.AdamPlGateIdeal.Points
public import proofs.«01_k».proof.Proof.Gen.AdamPlGateIdeal.Frame
public import proofs.«01_k».proof.Proof.Gen.AdamPlGateIdeal.Value
public import proofs.«01_k».proof.Proof.Gen.AdamPlGateRefIdeal
public import proofs.«01_k».proof.Proof.Gen.AdamPlGateRefIdeal.Run
public import proofs.«01_k».proof.Proof.Gen.AdamPlGateRefIdeal.Read
public import proofs.«01_k».proof.Proof.Gen.AdamInEven
public import proofs.«01_k».proof.Proof.Gen.AdamInEven.Skeleton
public import proofs.«01_k».proof.Proof.Gen.AdamInEven.Launch
public import proofs.«01_k».proof.Proof.Gen.AdamInEven.Points
public import proofs.«01_k».proof.Proof.Gen.AdamInEven.Frame
public import proofs.«01_k».proof.Proof.Gen.AdamInEvenIdeal
public import proofs.«01_k».proof.Proof.Gen.AdamInEvenIdeal.Skeleton
public import proofs.«01_k».proof.Proof.Gen.AdamInEvenIdeal.Launch
public import proofs.«01_k».proof.Proof.Gen.AdamInEvenIdeal.Points
public import proofs.«01_k».proof.Proof.Gen.AdamInEvenIdeal.Frame
public import proofs.«01_k».proof.Proof.Gen.AdamInEvenIdeal.Value
public import proofs.«01_k».proof.Proof.Gen.AdamInEvenRefIdeal
public import proofs.«01_k».proof.Proof.Gen.AdamInEvenRefIdeal.Run
public import proofs.«01_k».proof.Proof.Gen.AdamInEvenRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.ConvBwdQ
public import proofs.«01_k».proof.Proof.Gen.ConvBwdQ.Skeleton
public import proofs.«01_k».proof.Proof.Gen.ConvBwdQ.Launch
public import proofs.«01_k».proof.Proof.Gen.ConvBwdQ.Points
public import proofs.«01_k».proof.Proof.Gen.ConvBwdQ.Frame
public import proofs.«01_k».proof.Proof.Gen.ConvBwdQIdeal
public import proofs.«01_k».proof.Proof.Gen.ConvBwdQIdeal.Skeleton
public import proofs.«01_k».proof.Proof.Gen.ConvBwdQIdeal.Launch
public import proofs.«01_k».proof.Proof.Gen.ConvBwdQIdeal.Points
public import proofs.«01_k».proof.Proof.Gen.ConvBwdQIdeal.Frame
public import proofs.«01_k».proof.Proof.Gen.ConvBwdQIdeal.Value
public import proofs.«01_k».proof.Proof.Gen.ConvBwdQRefIdeal
public import proofs.«01_k».proof.Proof.Gen.ConvBwdQRefIdeal.Run
public import proofs.«01_k».proof.Proof.Gen.ConvBwdQRefIdeal.Read
public import proofs.«01_k».proof.Proof.Gen.ConvBwdK
public import proofs.«01_k».proof.Proof.Gen.ConvBwdK.Skeleton
public import proofs.«01_k».proof.Proof.Gen.ConvBwdK.Launch
public import proofs.«01_k».proof.Proof.Gen.ConvBwdK.Points
public import proofs.«01_k».proof.Proof.Gen.ConvBwdK.Frame
public import proofs.«01_k».proof.Proof.Gen.ConvBwdKIdeal
public import proofs.«01_k».proof.Proof.Gen.ConvBwdKIdeal.Skeleton
public import proofs.«01_k».proof.Proof.Gen.ConvBwdKIdeal.Launch
public import proofs.«01_k».proof.Proof.Gen.ConvBwdKIdeal.Points
public import proofs.«01_k».proof.Proof.Gen.ConvBwdKIdeal.Frame
public import proofs.«01_k».proof.Proof.Gen.ConvBwdKIdeal.Value
public import proofs.«01_k».proof.Proof.Gen.ConvBwdKRefIdeal
public import proofs.«01_k».proof.Proof.Gen.ConvBwdKRefIdeal.Run
public import proofs.«01_k».proof.Proof.Gen.ConvBwdKRefIdeal.Read
public import proofs.«01_k».proof.Proof.Gen.ConvBwdV
public import proofs.«01_k».proof.Proof.Gen.ConvBwdV.Skeleton
public import proofs.«01_k».proof.Proof.Gen.ConvBwdV.Launch
public import proofs.«01_k».proof.Proof.Gen.ConvBwdV.Points
public import proofs.«01_k».proof.Proof.Gen.ConvBwdV.Frame
public import proofs.«01_k».proof.Proof.Gen.ConvBwdVIdeal
public import proofs.«01_k».proof.Proof.Gen.ConvBwdVIdeal.Skeleton
public import proofs.«01_k».proof.Proof.Gen.ConvBwdVIdeal.Launch
public import proofs.«01_k».proof.Proof.Gen.ConvBwdVIdeal.Points
public import proofs.«01_k».proof.Proof.Gen.ConvBwdVIdeal.Frame
public import proofs.«01_k».proof.Proof.Gen.ConvBwdVIdeal.Value
public import proofs.«01_k».proof.Proof.Gen.ConvBwdVRefIdeal
public import proofs.«01_k».proof.Proof.Gen.ConvBwdVRefIdeal.Run
public import proofs.«01_k».proof.Proof.Gen.ConvBwdVRefIdeal.Read
public import proofs.«01_k».proof.Proof.Gen.LnplFwd
public import proofs.«01_k».proof.Proof.Gen.LnplFwd.Skeleton
public import proofs.«01_k».proof.Proof.Gen.LnplFwd.Launch
public import proofs.«01_k».proof.Proof.Gen.LnplFwd.Points
public import proofs.«01_k».proof.Proof.Gen.LnplFwd.Frame
public import proofs.«01_k».proof.Proof.Gen.LnplFwdIdeal
public import proofs.«01_k».proof.Proof.Gen.LnplFwdIdeal.Skeleton
public import proofs.«01_k».proof.Proof.Gen.LnplFwdIdeal.Launch
public import proofs.«01_k».proof.Proof.Gen.LnplFwdIdeal.Points
public import proofs.«01_k».proof.Proof.Gen.LnplFwdIdeal.Frame
public import proofs.«01_k».proof.Proof.Gen.LnplFwdIdeal.Value
public import proofs.«01_k».proof.Proof.Gen.LnplFwdRefIdeal
public import proofs.«01_k».proof.Proof.Gen.LnplFwdRefIdeal.Run
public import proofs.«01_k».proof.Proof.Gen.LnplFwdRefIdeal.Read
public import proofs.«01_k».proof.Proof.Gen.ConvAFwd
public import proofs.«01_k».proof.Proof.Gen.ConvAFwd.Skeleton
public import proofs.«01_k».proof.Proof.Gen.ConvAFwd.Launch
public import proofs.«01_k».proof.Proof.Gen.ConvAFwd.Points
public import proofs.«01_k».proof.Proof.Gen.ConvAFwd.Frame
public import proofs.«01_k».proof.Proof.Gen.ConvAFwdIdeal
public import proofs.«01_k».proof.Proof.Gen.ConvAFwdIdeal.Skeleton
public import proofs.«01_k».proof.Proof.Gen.ConvAFwdIdeal.Launch
public import proofs.«01_k».proof.Proof.Gen.ConvAFwdIdeal.Points
public import proofs.«01_k».proof.Proof.Gen.ConvAFwdIdeal.Frame
public import proofs.«01_k».proof.Proof.Gen.ConvAFwdIdeal.Value
public import proofs.«01_k».proof.Proof.Gen.ConvAFwdRefIdeal
public import proofs.«01_k».proof.Proof.Gen.ConvAFwdRefIdeal.Run
public import proofs.«01_k».proof.Proof.Gen.ConvAFwdRefIdeal.Read
public import proofs.«01_k».proof.Proof.Gen.ConvBFwd
public import proofs.«01_k».proof.Proof.Gen.ConvBFwd.Skeleton
public import proofs.«01_k».proof.Proof.Gen.ConvBFwd.Launch
public import proofs.«01_k».proof.Proof.Gen.ConvBFwd.Points
public import proofs.«01_k».proof.Proof.Gen.ConvBFwd.Frame
public import proofs.«01_k».proof.Proof.Gen.ConvBFwdIdeal
public import proofs.«01_k».proof.Proof.Gen.ConvBFwdIdeal.Skeleton
public import proofs.«01_k».proof.Proof.Gen.ConvBFwdIdeal.Launch
public import proofs.«01_k».proof.Proof.Gen.ConvBFwdIdeal.Points
public import proofs.«01_k».proof.Proof.Gen.ConvBFwdIdeal.Frame
public import proofs.«01_k».proof.Proof.Gen.ConvBFwdIdeal.Value
public import proofs.«01_k».proof.Proof.Gen.ConvBFwdRefIdeal
public import proofs.«01_k».proof.Proof.Gen.ConvBFwdRefIdeal.Run
public import proofs.«01_k».proof.Proof.Gen.ConvBFwdRefIdeal.Read
public import proofs.«01_k».proof.Proof.Gen.ConvABwd
public import proofs.«01_k».proof.Proof.Gen.ConvABwd.Skeleton
public import proofs.«01_k».proof.Proof.Gen.ConvABwd.Launch
public import proofs.«01_k».proof.Proof.Gen.ConvABwd.Points
public import proofs.«01_k».proof.Proof.Gen.ConvABwd.Frame
public import proofs.«01_k».proof.Proof.Gen.ConvABwdIdeal
public import proofs.«01_k».proof.Proof.Gen.ConvABwdIdeal.Skeleton
public import proofs.«01_k».proof.Proof.Gen.ConvABwdIdeal.Launch
public import proofs.«01_k».proof.Proof.Gen.ConvABwdIdeal.Points
public import proofs.«01_k».proof.Proof.Gen.ConvABwdIdeal.Frame
public import proofs.«01_k».proof.Proof.Gen.ConvABwdRefIdeal
public import proofs.«01_k».proof.Proof.Gen.ConvABwdRefIdeal.Run
public import proofs.«01_k».proof.Proof.Gen.ConvABwdRefIdeal.Read
public import proofs.«01_k».proof.Proof.Gen.EvenLnpl
public import proofs.«01_k».proof.Proof.Gen.EvenLnpl.Skeleton
public import proofs.«01_k».proof.Proof.Gen.EvenLnpl.Launch
public import proofs.«01_k».proof.Proof.Gen.EvenLnpl.Points
public import proofs.«01_k».proof.Proof.Gen.EvenLnpl.Frame
public import proofs.«01_k».proof.Proof.Gen.EvenLnplIdeal
public import proofs.«01_k».proof.Proof.Gen.EvenLnplIdeal.Skeleton
public import proofs.«01_k».proof.Proof.Gen.EvenLnplIdeal.Launch
public import proofs.«01_k».proof.Proof.Gen.EvenLnplIdeal.Points
public import proofs.«01_k».proof.Proof.Gen.EvenLnplIdeal.Frame
public import proofs.«01_k».proof.Proof.Gen.EvenLnplRefIdeal
public import proofs.«01_k».proof.Proof.Gen.EvenLnplRefIdeal.Run
public import proofs.«01_k».proof.Proof.Gen.EvenLnplRefIdeal.Read
public import proofs.«01_k».proof.Proof.OddDwValue
public import proofs.«01_k».proof.Proof.OddDxFirstValue
public import proofs.«01_k».proof.Proof.OddDxValue
public import proofs.«01_k».proof.Proof.OddOutDxValue
public import proofs.«01_k».proof.Proof.OddOutDwValue
public import proofs.«01_k».proof.Proof.EvenDwAValue
public import proofs.«01_k».proof.Proof.EvenDwValue
public import proofs.«01_k».proof.Proof.EvenDwTailValue
public import proofs.«01_k».proof.Proof.EvenDxFirstValue
public import proofs.«01_k».proof.Proof.EvenDxValue
public import proofs.«01_k».proof.Proof.EvenDxTailValue
public import proofs.«01_k».proof.Proof.EvenOutDxValue
public import proofs.«01_k».proof.Proof.OddInValue
public import proofs.«01_k».proof.Proof.OddOutValue
public import proofs.«01_k».proof.Proof.EvenInAValue
public import proofs.«01_k».proof.Proof.EvenInQkvValue
public import proofs.«01_k».proof.Proof.EvenInValue
public import proofs.«01_k».proof.Proof.EvenInTailValue
public import proofs.«01_k».proof.Proof.EvenOutBValue
public import proofs.«01_k».proof.Proof.AdamOutValue
public import proofs.«01_k».proof.Proof.AdamInOddValue
public import proofs.«01_k».proof.Proof.AdamPlValue
public import proofs.«01_k».proof.Proof.AdamPlGateValue
public import proofs.«01_k».proof.Proof.AdamInEvenValue
public import proofs.«01_k».proof.Proof.AdamSmallValue
public import proofs.«01_k».proof.Proof.ConvBwdQValue
public import proofs.«01_k».proof.Proof.ConvBwdKValue
public import proofs.«01_k».proof.Proof.ConvBwdVValue
public import proofs.«01_k».proof.Proof.LnplFwdValue
public import proofs.«01_k».proof.Proof.ConvAFwdValue
public import proofs.«01_k».proof.Proof.ConvBFwdValue
public import proofs.«01_k».proof.Proof.ConvABwdFloatFrame
public import proofs.«01_k».proof.Proof.ConvABwdValue
public import proofs.«01_k».proof.Proof.EvenLnplFloatFrame
public import proofs.«01_k».proof.Proof.EvenLnplValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.OddDw.Gen.facts, Cert.OddDwIdeal.Gen.facts, Cert.OddDwRefIdeal.Gen.facts,
  Cert.OddDxFirst.Gen.facts, Cert.OddDxFirstIdeal.Gen.facts, Cert.OddDxFirstRefIdeal.Gen.facts,
  Cert.OddDx.Gen.facts, Cert.OddDxIdeal.Gen.facts, Cert.OddDxRefIdeal.Gen.facts,
  Cert.OddOutDx.Gen.facts, Cert.OddOutDxIdeal.Gen.facts, Cert.OddOutDxRefIdeal.Gen.facts,
  Cert.OddOutDw.Gen.facts, Cert.OddOutDwIdeal.Gen.facts, Cert.OddOutDwRefIdeal.Gen.facts,
  Cert.EvenDwA.Gen.facts, Cert.EvenDwAIdeal.Gen.facts, Cert.EvenDwARefIdeal.Gen.facts,
  Cert.EvenDw.Gen.facts, Cert.EvenDwIdeal.Gen.facts, Cert.EvenDwRefIdeal.Gen.facts,
  Cert.EvenDwTail.Gen.facts, Cert.EvenDwTailIdeal.Gen.facts, Cert.EvenDwTailRefIdeal.Gen.facts,
  Cert.EvenDxFirst.Gen.facts, Cert.EvenDxFirstIdeal.Gen.facts, Cert.EvenDxFirstRefIdeal.Gen.facts,
  Cert.EvenDx.Gen.facts, Cert.EvenDxIdeal.Gen.facts, Cert.EvenDxRefIdeal.Gen.facts,
  Cert.EvenDxTail.Gen.facts, Cert.EvenDxTailIdeal.Gen.facts, Cert.EvenDxTailRefIdeal.Gen.facts,
  Cert.EvenOutDx.Gen.facts, Cert.EvenOutDxIdeal.Gen.facts, Cert.EvenOutDxRefIdeal.Gen.facts,
  Cert.OddIn.Gen.facts, Cert.OddInIdeal.Gen.facts, Cert.OddInRefIdeal.Gen.facts,
  Cert.OddOut.Gen.facts, Cert.OddOutIdeal.Gen.facts, Cert.OddOutRefIdeal.Gen.facts,
  Cert.EvenInA.Gen.facts, Cert.EvenInAIdeal.Gen.facts, Cert.EvenInARefIdeal.Gen.facts,
  Cert.EvenInQkv.Gen.facts, Cert.EvenInQkvIdeal.Gen.facts, Cert.EvenInQkvRefIdeal.Gen.facts,
  Cert.EvenIn.Gen.facts, Cert.EvenInIdeal.Gen.facts, Cert.EvenInRefIdeal.Gen.facts,
  Cert.EvenInTail.Gen.facts, Cert.EvenInTailIdeal.Gen.facts, Cert.EvenInTailRefIdeal.Gen.facts,
  Cert.EvenOutB.Gen.facts, Cert.EvenOutBIdeal.Gen.facts, Cert.EvenOutBRefIdeal.Gen.facts,
  Cert.AdamOut.Gen.facts, Cert.AdamOutIdeal.Gen.facts, Cert.AdamOutRefIdeal.Gen.facts,
  Cert.AdamInOdd.Gen.facts, Cert.AdamInOddIdeal.Gen.facts, Cert.AdamInOddRefIdeal.Gen.facts,
  Cert.AdamPl.Gen.facts, Cert.AdamPlIdeal.Gen.facts, Cert.AdamPlRefIdeal.Gen.facts,
  Cert.AdamPlGate.Gen.facts, Cert.AdamPlGateIdeal.Gen.facts, Cert.AdamPlGateRefIdeal.Gen.facts,
  Cert.AdamInEven.Gen.facts, Cert.AdamInEvenIdeal.Gen.facts, Cert.AdamInEvenRefIdeal.Gen.facts,
  Cert.AdamSmall.Gen.facts, Cert.AdamSmallIdeal.Gen.facts, Cert.AdamSmallRefIdeal.Gen.facts,
  Cert.ConvBwdQ.Gen.facts, Cert.ConvBwdQIdeal.Gen.facts, Cert.ConvBwdQRefIdeal.Gen.facts,
  Cert.ConvBwdK.Gen.facts, Cert.ConvBwdKIdeal.Gen.facts, Cert.ConvBwdKRefIdeal.Gen.facts,
  Cert.ConvBwdV.Gen.facts, Cert.ConvBwdVIdeal.Gen.facts, Cert.ConvBwdVRefIdeal.Gen.facts,
  Cert.LnplFwd.Gen.facts, Cert.LnplFwdIdeal.Gen.facts, Cert.LnplFwdRefIdeal.Gen.facts,
  Cert.ConvAFwd.Gen.facts, Cert.ConvAFwdIdeal.Gen.facts, Cert.ConvAFwdRefIdeal.Gen.facts,
  Cert.ConvBFwd.Gen.facts, Cert.ConvBFwdIdeal.Gen.facts, Cert.ConvBFwdRefIdeal.Gen.facts,
  Cert.ConvABwd.Gen.facts, Cert.ConvABwdIdeal.Gen.facts, Cert.ConvABwdRefIdeal.Gen.facts,
  Cert.EvenLnpl.Gen.facts, Cert.EvenLnplIdeal.Gen.facts, Cert.EvenLnplRefIdeal.Gen.facts,
  fun m ρ _ => Cert.Kernel.Gen.frame m ρ, fun m ρ _ => Cert.KernelIdeal.Gen.frame m ρ,
  fun m ρ _ => (θ_run Cert.ReferenceIdeal.defs _ _).mono
      (fun r h => ⟨fun c => (h c).2.2.2.2.2.2.2, Idealize.ShloMosaic.sem_eq_zero_of_no_sems (by decide) r.2⟩)
      (Cert.ReferenceIdeal.Value.run m ρ),
  fun m ρ _ => Cert.OddDw.Gen.frame m ρ, fun m ρ _ => Cert.OddDwIdeal.Gen.frame m ρ,
  fun m ρ _ => (θ_run Cert.OddDwRefIdeal.defs _ _).mono
      (fun r h => ⟨fun c => (h c).2, Idealize.ShloMosaic.sem_eq_zero_of_no_sems (by decide) r.2⟩)
      (Cert.OddDwRefIdeal.Value.run m ρ),
  fun m ρ _ => Cert.OddDxFirst.Gen.frame m ρ, fun m ρ _ => Cert.OddDxFirstIdeal.Gen.frame m ρ,
  fun m ρ _ => (θ_run Cert.OddDxFirstRefIdeal.defs _ _).mono
      (fun r h => ⟨fun c => (h c).2, Idealize.ShloMosaic.sem_eq_zero_of_no_sems (by decide) r.2⟩)
      (Cert.OddDxFirstRefIdeal.Value.run m ρ),
  fun m ρ _ => Cert.OddDx.Gen.frame m ρ, fun m ρ _ => Cert.OddDxIdeal.Gen.frame m ρ,
  fun m ρ _ => (θ_run Cert.OddDxRefIdeal.defs _ _).mono
      (fun r h => ⟨fun c => (h c).2, Idealize.ShloMosaic.sem_eq_zero_of_no_sems (by decide) r.2⟩)
      (Cert.OddDxRefIdeal.Value.run m ρ),
  fun m ρ _ => Cert.OddOutDx.Gen.frame m ρ, fun m ρ _ => Cert.OddOutDxIdeal.Gen.frame m ρ,
  fun m ρ _ => (θ_run Cert.OddOutDxRefIdeal.defs _ _).mono
      (fun r h => ⟨fun c => (h c).2, Idealize.ShloMosaic.sem_eq_zero_of_no_sems (by decide) r.2⟩)
      (Cert.OddOutDxRefIdeal.Value.run m ρ),
  fun m ρ _ => Cert.OddOutDw.Gen.frame m ρ, fun m ρ _ => Cert.OddOutDwIdeal.Gen.frame m ρ,
  fun m ρ _ => (θ_run Cert.OddOutDwRefIdeal.defs _ _).mono
      (fun r h => ⟨fun c => (h c).2, Idealize.ShloMosaic.sem_eq_zero_of_no_sems (by decide) r.2⟩)
      (Cert.OddOutDwRefIdeal.Value.run m ρ),
  fun m ρ _ => Cert.EvenDwA.Gen.frame m ρ, fun m ρ _ => Cert.EvenDwAIdeal.Gen.frame m ρ,
  fun m ρ _ => (θ_run Cert.EvenDwARefIdeal.defs _ _).mono
      (fun r h => ⟨fun c => (h c).2, Idealize.ShloMosaic.sem_eq_zero_of_no_sems (by decide) r.2⟩)
      (Cert.EvenDwARefIdeal.Value.run m ρ),
  fun m ρ _ => Cert.EvenDw.Gen.frame m ρ, fun m ρ _ => Cert.EvenDwIdeal.Gen.frame m ρ,
  fun m ρ _ => (θ_run Cert.EvenDwRefIdeal.defs _ _).mono
      (fun r h => ⟨fun c => (h c).2, Idealize.ShloMosaic.sem_eq_zero_of_no_sems (by decide) r.2⟩)
      (Cert.EvenDwRefIdeal.Value.run m ρ),
  fun m ρ _ => Cert.EvenDwTail.Gen.frame m ρ, fun m ρ _ => Cert.EvenDwTailIdeal.Gen.frame m ρ,
  fun m ρ _ => (θ_run Cert.EvenDwTailRefIdeal.defs _ _).mono
      (fun r h => ⟨fun c => (h c).2, Idealize.ShloMosaic.sem_eq_zero_of_no_sems (by decide) r.2⟩)
      (Cert.EvenDwTailRefIdeal.Value.run m ρ),
  fun m ρ _ => Cert.EvenDxFirst.Gen.frame m ρ, fun m ρ _ => Cert.EvenDxFirstIdeal.Gen.frame m ρ,
  fun m ρ _ => (θ_run Cert.EvenDxFirstRefIdeal.defs _ _).mono
      (fun r h => ⟨fun c => (h c).2, Idealize.ShloMosaic.sem_eq_zero_of_no_sems (by decide) r.2⟩)
      (Cert.EvenDxFirstRefIdeal.Value.run m ρ),
  fun m ρ _ => Cert.EvenDx.Gen.frame m ρ, fun m ρ _ => Cert.EvenDxIdeal.Gen.frame m ρ,
  fun m ρ _ => (θ_run Cert.EvenDxRefIdeal.defs _ _).mono
      (fun r h => ⟨fun c => (h c).2, Idealize.ShloMosaic.sem_eq_zero_of_no_sems (by decide) r.2⟩)
      (Cert.EvenDxRefIdeal.Value.run m ρ),
  fun m ρ _ => Cert.EvenDxTail.Gen.frame m ρ, fun m ρ _ => Cert.EvenDxTailIdeal.Gen.frame m ρ,
  fun m ρ _ => (θ_run Cert.EvenDxTailRefIdeal.defs _ _).mono
      (fun r h => ⟨fun c => (h c).2, Idealize.ShloMosaic.sem_eq_zero_of_no_sems (by decide) r.2⟩)
      (Cert.EvenDxTailRefIdeal.Value.run m ρ),
  fun m ρ _ => Cert.EvenOutDx.Gen.frame m ρ, fun m ρ _ => Cert.EvenOutDxIdeal.Gen.frame m ρ,
  fun m ρ _ => (θ_run Cert.EvenOutDxRefIdeal.defs _ _).mono
      (fun r h => ⟨fun c => (h c).2, Idealize.ShloMosaic.sem_eq_zero_of_no_sems (by decide) r.2⟩)
      (Cert.EvenOutDxRefIdeal.Value.run m ρ),
  fun m ρ _ => Cert.OddIn.Gen.frame m ρ, fun m ρ _ => Cert.OddInIdeal.Gen.frame m ρ,
  fun m ρ _ => (θ_run Cert.OddInRefIdeal.defs _ _).mono
      (fun r h => ⟨fun c => (h c).2, Idealize.ShloMosaic.sem_eq_zero_of_no_sems (by decide) r.2⟩)
      (Cert.OddInRefIdeal.Value.run m ρ),
  fun m ρ _ => Cert.OddOut.Gen.frame m ρ, fun m ρ _ => Cert.OddOutIdeal.Gen.frame m ρ,
  fun m ρ _ => (θ_run Cert.OddOutRefIdeal.defs _ _).mono
      (fun r h => ⟨fun c => (h c).2, Idealize.ShloMosaic.sem_eq_zero_of_no_sems (by decide) r.2⟩)
      (Cert.OddOutRefIdeal.Value.run m ρ),
  fun m ρ _ => Cert.EvenInA.Gen.frame m ρ, fun m ρ _ => Cert.EvenInAIdeal.Gen.frame m ρ,
  fun m ρ _ => (θ_run Cert.EvenInARefIdeal.defs _ _).mono
      (fun r h => ⟨fun c => (h c).2, Idealize.ShloMosaic.sem_eq_zero_of_no_sems (by decide) r.2⟩)
      (Cert.EvenInARefIdeal.Value.run m ρ),
  fun m ρ _ => Cert.EvenInQkv.Gen.frame m ρ, fun m ρ _ => Cert.EvenInQkvIdeal.Gen.frame m ρ,
  fun m ρ _ => (θ_run Cert.EvenInQkvRefIdeal.defs _ _).mono
      (fun r h => ⟨fun c => (h c).2, Idealize.ShloMosaic.sem_eq_zero_of_no_sems (by decide) r.2⟩)
      (Cert.EvenInQkvRefIdeal.Value.run m ρ),
  fun m ρ _ => Cert.EvenIn.Gen.frame m ρ, fun m ρ _ => Cert.EvenInIdeal.Gen.frame m ρ,
  fun m ρ _ => (θ_run Cert.EvenInRefIdeal.defs _ _).mono
      (fun r h => ⟨fun c => (h c).2, Idealize.ShloMosaic.sem_eq_zero_of_no_sems (by decide) r.2⟩)
      (Cert.EvenInRefIdeal.Value.run m ρ),
  fun m ρ _ => Cert.EvenInTail.Gen.frame m ρ, fun m ρ _ => Cert.EvenInTailIdeal.Gen.frame m ρ,
  fun m ρ _ => (θ_run Cert.EvenInTailRefIdeal.defs _ _).mono
      (fun r h => ⟨fun c => (h c).2, Idealize.ShloMosaic.sem_eq_zero_of_no_sems (by decide) r.2⟩)
      (Cert.EvenInTailRefIdeal.Value.run m ρ),
  fun m ρ _ => Cert.EvenOutB.Gen.frame m ρ, fun m ρ _ => Cert.EvenOutBIdeal.Gen.frame m ρ,
  fun m ρ _ => (θ_run Cert.EvenOutBRefIdeal.defs _ _).mono
      (fun r h => ⟨fun c => (h c).2, Idealize.ShloMosaic.sem_eq_zero_of_no_sems (by decide) r.2⟩)
      (Cert.EvenOutBRefIdeal.Value.run m ρ),
  fun m ρ _ => Cert.AdamOut.Gen.frame m ρ, fun m ρ _ => Cert.AdamOutIdeal.Gen.frame m ρ,
  fun m ρ _ => (θ_run Cert.AdamOutRefIdeal.defs _ _).mono
      (fun r h => ⟨fun c => (h c).2.2.2, Idealize.ShloMosaic.sem_eq_zero_of_no_sems (by decide) r.2⟩)
      (Cert.AdamOutRefIdeal.Value.run m ρ),
  fun m ρ _ => Cert.AdamInOdd.Gen.frame m ρ, fun m ρ _ => Cert.AdamInOddIdeal.Gen.frame m ρ,
  fun m ρ _ => (θ_run Cert.AdamInOddRefIdeal.defs _ _).mono
      (fun r h => ⟨fun c => (h c).2.2.2, Idealize.ShloMosaic.sem_eq_zero_of_no_sems (by decide) r.2⟩)
      (Cert.AdamInOddRefIdeal.Value.run m ρ),
  fun m ρ _ => Cert.AdamPl.Gen.frame m ρ, fun m ρ _ => Cert.AdamPlIdeal.Gen.frame m ρ,
  fun m ρ _ => (θ_run Cert.AdamPlRefIdeal.defs _ _).mono
      (fun r h => ⟨fun c => (h c).2.2.2, Idealize.ShloMosaic.sem_eq_zero_of_no_sems (by decide) r.2⟩)
      (Cert.AdamPlRefIdeal.Value.run m ρ),
  fun m ρ _ => Cert.AdamPlGate.Gen.frame m ρ, fun m ρ _ => Cert.AdamPlGateIdeal.Gen.frame m ρ,
  fun m ρ _ => (θ_run Cert.AdamPlGateRefIdeal.defs _ _).mono
      (fun r h => ⟨fun c => (h c).2.2.2, Idealize.ShloMosaic.sem_eq_zero_of_no_sems (by decide) r.2⟩)
      (Cert.AdamPlGateRefIdeal.Value.run m ρ),
  fun m ρ _ => Cert.AdamInEven.Gen.frame m ρ, fun m ρ _ => Cert.AdamInEvenIdeal.Gen.frame m ρ,
  fun m ρ _ => (θ_run Cert.AdamInEvenRefIdeal.defs _ _).mono
      (fun r h => ⟨fun c => (h c).2.2.2, Idealize.ShloMosaic.sem_eq_zero_of_no_sems (by decide) r.2⟩)
      (Cert.AdamInEvenRefIdeal.Value.run m ρ),
  fun m ρ _ => Cert.AdamSmall.Gen.frame m ρ, fun m ρ _ => Cert.AdamSmallIdeal.Gen.frame m ρ,
  fun m ρ _ => (θ_run Cert.AdamSmallRefIdeal.defs _ _).mono
      (fun r h => ⟨fun c => (h c).2.2.2, Idealize.ShloMosaic.sem_eq_zero_of_no_sems (by decide) r.2⟩)
      (Cert.AdamSmallRefIdeal.Value.run m ρ),
  fun m ρ _ => Cert.ConvBwdQ.Gen.frame m ρ, fun m ρ _ => Cert.ConvBwdQIdeal.Gen.frame m ρ,
  fun m ρ _ => (θ_run Cert.ConvBwdQRefIdeal.defs _ _).mono
      (fun r h => ⟨fun c => (h c).2.2, Idealize.ShloMosaic.sem_eq_zero_of_no_sems (by decide) r.2⟩)
      (Cert.ConvBwdQRefIdeal.Value.run m ρ),
  fun m ρ _ => Cert.ConvBwdK.Gen.frame m ρ, fun m ρ _ => Cert.ConvBwdKIdeal.Gen.frame m ρ,
  fun m ρ _ => (θ_run Cert.ConvBwdKRefIdeal.defs _ _).mono
      (fun r h => ⟨fun c => (h c).2.2, Idealize.ShloMosaic.sem_eq_zero_of_no_sems (by decide) r.2⟩)
      (Cert.ConvBwdKRefIdeal.Value.run m ρ),
  fun m ρ _ => Cert.ConvBwdV.Gen.frame m ρ, fun m ρ _ => Cert.ConvBwdVIdeal.Gen.frame m ρ,
  fun m ρ _ => (θ_run Cert.ConvBwdVRefIdeal.defs _ _).mono
      (fun r h => ⟨fun c => (h c).2.2, Idealize.ShloMosaic.sem_eq_zero_of_no_sems (by decide) r.2⟩)
      (Cert.ConvBwdVRefIdeal.Value.run m ρ),
  fun m ρ _ => Cert.LnplFwd.Gen.frame m ρ, fun m ρ _ => Cert.LnplFwdIdeal.Gen.frame m ρ,
  fun m ρ _ => (θ_run Cert.LnplFwdRefIdeal.defs _ _).mono
      (fun r h => ⟨fun c => (h c).2.2, Idealize.ShloMosaic.sem_eq_zero_of_no_sems (by decide) r.2⟩)
      (Cert.LnplFwdRefIdeal.Value.run m ρ),
  fun m ρ _ => Cert.ConvAFwd.Gen.frame m ρ, fun m ρ _ => Cert.ConvAFwdIdeal.Gen.frame m ρ,
  fun m ρ _ => (θ_run Cert.ConvAFwdRefIdeal.defs _ _).mono
      (fun r h => ⟨fun c => (h c).2, Idealize.ShloMosaic.sem_eq_zero_of_no_sems (by decide) r.2⟩)
      (Cert.ConvAFwdRefIdeal.Value.run m ρ),
  fun m ρ _ => Cert.ConvBFwd.Gen.frame m ρ, fun m ρ _ => Cert.ConvBFwdIdeal.Gen.frame m ρ,
  fun m ρ _ => (θ_run Cert.ConvBFwdRefIdeal.defs _ _).mono
      (fun r h => ⟨fun c => (h c).2, Idealize.ShloMosaic.sem_eq_zero_of_no_sems (by decide) r.2⟩)
      (Cert.ConvBFwdRefIdeal.Value.run m ρ),
  fun m ρ _ => Cert.ConvABwd.Gen.frame m ρ, fun m ρ _ => Cert.ConvABwdIdeal.Gen.frame m ρ,
  fun m ρ _ => (θ_run Cert.ConvABwdRefIdeal.defs _ _).mono
      (fun r h => ⟨fun c => (h c).2.2, Idealize.ShloMosaic.sem_eq_zero_of_no_sems (by decide) r.2⟩)
      (Cert.ConvABwdRefIdeal.Value.run m ρ),
  fun m ρ _ => Cert.EvenLnpl.Gen.frame m ρ, fun m ρ _ => Cert.EvenLnplIdeal.Gen.frame m ρ,
  fun m ρ _ => (θ_run Cert.EvenLnplRefIdeal.defs _ _).mono
      (fun r h => ⟨fun c => (h c).2.2.2.2.2.2, Idealize.ShloMosaic.sem_eq_zero_of_no_sems (by decide) r.2⟩)
      (Cert.EvenLnplRefIdeal.Value.run m ρ),
  trivial,
  algebraic,
  trivial,
  Cert.Proof.OddDw.algebraic,
  trivial,
  Cert.Proof.OddDxFirst.algebraic,
  trivial,
  Cert.Proof.OddDx.algebraic,
  trivial,
  Cert.Proof.OddOutDx.algebraic,
  trivial,
  Cert.Proof.OddOutDw.algebraic,
  trivial,
  Cert.Proof.EvenDwA.algebraic,
  trivial,
  Cert.Proof.EvenDw.algebraic,
  trivial,
  Cert.Proof.EvenDwTail.algebraic,
  trivial,
  Cert.Proof.EvenDxFirst.algebraic,
  trivial,
  Cert.Proof.EvenDx.algebraic,
  trivial,
  Cert.Proof.EvenDxTail.algebraic,
  trivial,
  Cert.Proof.EvenOutDx.algebraic,
  trivial,
  Cert.Proof.OddIn.algebraic,
  trivial,
  Cert.Proof.OddOut.algebraic,
  trivial,
  Cert.Proof.EvenInA.algebraic,
  trivial,
  Cert.Proof.EvenInQkv.algebraic,
  trivial,
  Cert.Proof.EvenIn.algebraic,
  trivial,
  Cert.Proof.EvenInTail.algebraic,
  trivial,
  Cert.Proof.EvenOutB.algebraic,
  trivial,
  Cert.Proof.AdamOut.algebraic,
  trivial,
  Cert.Proof.AdamInOdd.algebraic,
  trivial,
  Cert.Proof.AdamPl.algebraic,
  trivial,
  Cert.Proof.AdamPlGate.algebraic,
  trivial,
  Cert.Proof.AdamInEven.algebraic,
  trivial,
  Cert.Proof.AdamSmall.algebraic,
  trivial,
  Cert.Proof.ConvBwdQ.algebraic,
  trivial,
  Cert.Proof.ConvBwdK.algebraic,
  trivial,
  Cert.Proof.ConvBwdV.algebraic,
  trivial,
  Cert.Proof.LnplFwd.algebraic,
  trivial,
  Cert.Proof.ConvAFwd.algebraic,
  trivial,
  Cert.Proof.ConvBFwd.algebraic,
  trivial,
  Cert.Proof.ConvABwd.algebraic,
  trivial,
  Cert.Proof.EvenLnpl.algebraic⟩

end Cert.Proof

end
